-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg_inf" .f32 0xFE967699#32 ⊥
  ∧ IdealRules.named_const.Statement Cert.KernelIdeal.κ "exp2_scale" .f32 0x3E0293EE#32 (((Real.sqrt 128)⁻¹ * (Real.log 2)⁻¹ : ℝ) : EReal)

def algebraic_KernelIdeal_ReferenceIdeal_on_attention_output_pre_scales_in_range [hKernelIdeal : Cert.KernelIdeal.Facts] [hReferenceIdeal : Cert.ReferenceIdeal.Facts] [hPre_scales_in_range : Cert.Pre_scales_in_range.Facts] [hOn_attention_output : Cert.On_attention_output.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 1024, 3840]⟩ : Shape).Idx, (Cert.On_attention_output.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v6_0) i = v0 c i)
          ∧ (∀ i : (⟨3, ![2, 1024, 3840]⟩ : Shape).Idx, (Cert.On_attention_output.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v6_1) i = v1 c i)
          ∧ (∀ i : (⟨3, ![2, 1024, 120]⟩ : Shape).Idx, (Cert.On_attention_output.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.KernelIdeal.nD Cert.KernelIdeal.τ).loc Cert.KernelIdeal.main_v7) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 1024, 3840]⟩ : Shape).Idx, (Cert.On_attention_output.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v135) i = v0 c i)
          ∧ (∀ i : (⟨3, ![2, 1024, 3840]⟩ : Shape).Idx, (Cert.On_attention_output.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v136) i = v1 c i)
          ∧ (∀ i : (⟨3, ![2, 1024, 120]⟩ : Shape).Idx, (Cert.On_attention_output.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.ReferenceIdeal.nD Cert.ReferenceIdeal.τ).loc Cert.ReferenceIdeal.main_v134) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_in_range : Cert.Pre_scales_in_range.Facts) (hOn_attention_output : Cert.On_attention_output.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_on_attention_output_pre_scales_in_range (hKernelIdeal := hKernelIdeal) (hReferenceIdeal := hReferenceIdeal) (hPre_scales_in_range := hPre_scales_in_range) (hOn_attention_output := hOn_attention_output)
-- ==== On_attention_output.lean ====
abbrev S2x1024x30x128 : Shape := ⟨4, ![2, 1024, 30, 128]⟩
abbrev S2x1024x30x4 : Shape := ⟨4, ![2, 1024, 30, 4]⟩
abbrev S2x1024x6x128 : Shape := ⟨4, ![2, 1024, 6, 128]⟩
abbrev S2x1024x6x4 : Shape := ⟨4, ![2, 1024, 6, 4]⟩
abbrev S2x32x6x128 : Shape := ⟨4, ![2, 32, 6, 128]⟩
abbrev S_ : Shape := ⟨0, ![]⟩
abbrev S2x1024x3840 : Shape := ⟨3, ![2, 1024, 3840]⟩
abbrev S2x1024x120 : Shape := ⟨3, ![2, 1024, 120]⟩

class Facts : Prop where
  bcast_S_S2x1024x3840 : S_.BroadcastsInDim S2x1024x3840 (![] : Fin 0 → Fin S2x1024x3840.rank)
  bcast_S_S2x1024x120 : S_.BroadcastsInDim S2x1024x120 (![] : Fin 0 → Fin S2x1024x120.rank)

variable [Facts]

def fn {F : FTy → Type} [FloatOps F] (main_arg0 : FVec F S2x1024x30x128 .fp8e4m3) (main_arg1 : IVec S2x1024x30x4 8) (main_arg2 : FVec F S2x1024x6x128 .fp8e4m3) (main_arg3 : IVec S2x1024x6x4 8) (main_arg4 : FVec F S2x1024x6x128 .fp8e4m3) (main_arg5 : IVec S2x32x6x128 8) : IVec S2x1024x3840 1 × IVec S2x1024x3840 1 × IVec S2x1024x120 1 :=
  let main_c : IVec S_ 1 := constantI S_ 1 1#1
  let main_v0 : IVec S2x1024x3840 1 := broadcastInDim S2x1024x3840 ![] bcast_S_S2x1024x3840 main_c
  let main_c_0 : IVec S_ 1 := constantI S_ 1 0#1
  let main_v1 : IVec S2x1024x3840 1 := broadcastInDim S2x1024x3840 ![] bcast_S_S2x1024x3840 main_c_0
  let main_c_1 : IVec S_ 1 := constantI S_ 1 0#1
  let main_v2 : IVec S2x1024x120 1 := broadcastInDim S2x1024x120 ![] bcast_S_S2x1024x120 main_c_1
  (main_v0, main_v1, main_v2)
-- ==== Pre_scales_in_range.lean ====
abbrev S2x1024x30x128 : Shape := ⟨4, ![2, 1024, 30, 128]⟩
abbrev S2x1024x30x4 : Shape := ⟨4, ![2, 1024, 30, 4]⟩
abbrev S2x1024x6x128 : Shape := ⟨4, ![2, 1024, 6, 128]⟩
abbrev S2x1024x6x4 : Shape := ⟨4, ![2, 1024, 6, 4]⟩
abbrev S2x32x6x128 : Shape := ⟨4, ![2, 32, 6, 128]⟩
abbrev S_ : Shape := ⟨0, ![]⟩

class Facts : Prop where
  natLt_8_32 : 8 < 32
  bcast_S_S2x1024x30x4 : S_.BroadcastsInDim S2x1024x30x4 (![] : Fin 0 → Fin S2x1024x30x4.rank)
  reducesTo_S2x1024x30x4_S_d0_1_2_3 : S2x1024x30x4.ReducesTo [0, 1, 2, 3] S_
  h_S_ : 0 < S_.numel
  bcast_S_S2x1024x6x4 : S_.BroadcastsInDim S2x1024x6x4 (![] : Fin 0 → Fin S2x1024x6x4.rank)
  reducesTo_S2x1024x6x4_S_d0_1_2_3 : S2x1024x6x4.ReducesTo [0, 1, 2, 3] S_
  bcast_S_S2x32x6x128 : S_.BroadcastsInDim S2x32x6x128 (![] : Fin 0 → Fin S2x32x6x128.rank)
  reducesTo_S2x32x6x128_S_d0_1_2_3 : S2x32x6x128.ReducesTo [0, 1, 2, 3] S_

variable [Facts]

def fn_part1 {F : FTy → Type} [FloatOps F] (main_v14 : IVec S_ 1) (main_v15 : IVec S2x32x6x128 32) (main_v16 : IVec S2x32x6x128 32) : IVec S_ 1 :=
  let main_v17 : IVec S2x32x6x128 1 := cmpi .sge main_v15 main_v16
  let main_c_6 : IVec S_ 32 := constantI S_ 32 254#32
  let main_v18 : IVec S2x32x6x128 32 := broadcastInDim S2x32x6x128 ![] bcast_S_S2x32x6x128 main_c_6
  let main_v19 : IVec S2x32x6x128 1 := cmpi .sle main_v15 main_v18
  let main_v20 : IVec S2x32x6x128 1 := andi main_v17 main_v19
  let main_c_7 : IVec S_ 1 := constantI S_ 1 1#1
  let main_v21 : IVec S_ 1 := (fun x v => Host.reduce IntOp.andi x v reducesTo_S2x32x6x128_S_d0_1_2_3 h_S_) main_v20 main_c_7
  let main_v22 : IVec S_ 1 := andi main_v14 main_v21
  main_v22

def fn {F : FTy → Type} [FloatOps F] (main_arg0 : FVec F S2x1024x30x128 .fp8e4m3) (main_arg1 : IVec S2x1024x30x4 8) (main_arg2 : FVec F S2x1024x6x128 .fp8e4m3) (main_arg3 : IVec S2x1024x6x4 8) (main_arg4 : FVec F S2x1024x6x128 .fp8e4m3) (main_arg5 : IVec S2x32x6x128 8) : IVec S_ 1 :=
  let main_v0 : IVec S2x1024x30x4 32 := (extui 32 · natLt_8_32) main_arg1
  let main_c : IVec S_ 32 := constantI S_ 32 1#32
  let main_v1 : IVec S2x1024x30x4 32 := broadcastInDim S2x1024x30x4 ![] bcast_S_S2x1024x30x4 main_c
  let main_v2 : IVec S2x1024x30x4 1 := cmpi .sge main_v0 main_v1
  let main_c_0 : IVec S_ 32 := constantI S_ 32 254#32
  let main_v3 : IVec S2x1024x30x4 32 := broadcastInDim S2x1024x30x4 ![] bcast_S_S2x1024x30x4 main_c_0
  let main_v4 : IVec S2x1024x30x4 1 := cmpi .sle main_v0 main_v3
  let main_v5 : IVec S2x1024x30x4 1 := andi main_v2 main_v4
  let main_c_1 : IVec S_ 1 := constantI S_ 1 1#1
  let main_v6 : IVec S_ 1 := (fun x v => Host.reduce IntOp.andi x v reducesTo_S2x1024x30x4_S_d0_1_2_3 h_S_) main_v5 main_c_1
  let main_v7 : IVec S2x1024x6x4 32 := (extui 32 · natLt_8_32) main_arg3
  let main_c_2 : IVec S_ 32 := constantI S_ 32 1#32
  let main_v8 : IVec S2x1024x6x4 32 := broadcastInDim S2x1024x6x4 ![] bcast_S_S2x1024x6x4 main_c_2
  let main_v9 : IVec S2x1024x6x4 1 := cmpi .sge main_v7 main_v8
  let main_c_3 : IVec S_ 32 := constantI S_ 32 254#32
  let main_v10 : IVec S2x1024x6x4 32 := broadcastInDim S2x1024x6x4 ![] bcast_S_S2x1024x6x4 main_c_3
  let main_v11 : IVec S2x1024x6x4 1 := cmpi .sle main_v7 main_v10
  let main_v12 : IVec S2x1024x6x4 1 := andi main_v9 main_v11
  let main_c_4 : IVec S_ 1 := constantI S_ 1 1#1
  let main_v13 : IVec S_ 1 := (fun x v => Host.reduce IntOp.andi x v reducesTo_S2x1024x6x4_S_d0_1_2_3 h_S_) main_v12 main_c_4
  let main_v14 : IVec S_ 1 := andi main_v6 main_v13
  let main_v15 : IVec S2x32x6x128 32 := (extui 32 · natLt_8_32) main_arg5
  let main_c_5 : IVec S_ 32 := constantI S_ 32 1#32
  let main_v16 : IVec S2x32x6x128 32 := broadcastInDim S2x32x6x128 ![] bcast_S_S2x32x6x128 main_c_5
  fn_part1 (F := F) main_v14 main_v15 main_v16
-- ==== Kernel.lean ====
abbrev S2x1024x30x128 : Shape := ⟨4, ![2, 1024, 30, 128]⟩
abbrev S2x1024x30x4 : Shape := ⟨4, ![2, 1024, 30, 4]⟩
abbrev S2x1024x6x128 : Shape := ⟨4, ![2, 1024, 6, 128]⟩
abbrev S2x1024x6x4 : Shape := ⟨4, ![2, 1024, 6, 4]⟩
abbrev S2x32x6x128 : Shape := ⟨4, ![2, 32, 6, 128]⟩
abbrev S2x30x1024x128 : Shape := ⟨4, ![2, 30, 1024, 128]⟩
abbrev S2x6x1024x128 : Shape := ⟨4, ![2, 6, 1024, 128]⟩
abbrev S2x30x4x1024 : Shape := ⟨4, ![2, 30, 4, 1024]⟩
abbrev S2x6x4x1024 : Shape := ⟨4, ![2, 6, 4, 1024]⟩
abbrev S2x6x32x128 : Shape := ⟨4, ![2, 6, 32, 128]⟩
abbrev S2x1024x3840 : Shape := ⟨3, ![2, 1024, 3840]⟩
abbrev S2x120x1024 : Shape := ⟨3, ![2, 120, 1024]⟩
abbrev S1x5x1024x128 : Shape := ⟨4, ![1, 5, 1024, 128]⟩
abbrev S1x5x4x1024 : Shape := ⟨4, ![1, 5, 4, 1024]⟩
abbrev S1x1x1024x128 : Shape := ⟨4, ![1, 1, 1024, 128]⟩
abbrev S1x1x4x1024 : Shape := ⟨4, ![1, 1, 4, 1024]⟩
abbrev S1x1x32x128 : Shape := ⟨4, ![1, 1, 32, 128]⟩
abbrev S1x1024x640 : Shape := ⟨3, ![1, 1024, 640]⟩
abbrev S1x120x1024 : Shape := ⟨3, ![1, 120, 1024]⟩
abbrev S8x256x640 : Shape := ⟨3, ![8, 256, 640]⟩
abbrev S4x256x256 : Shape := ⟨3, ![4, 256, 256]⟩
abbrev S4x128x256 : Shape := ⟨3, ![4, 128, 256]⟩
abbrev S4x128x128 : Shape := ⟨3, ![4, 128, 128]⟩
abbrev S4x32x8x256 : Shape := ⟨4, ![4, 32, 8, 256]⟩
abbrev S6x8x1024 : Shape := ⟨3, ![6, 8, 1024]⟩
abbrev S256x256 : Shape := ⟨2, ![256, 256]⟩
abbrev S128x128 : Shape := ⟨2, ![128, 128]⟩
abbrev S256x128 : Shape := ⟨2, ![256, 128]⟩
abbrev S1x1x256x128 : Shape := ⟨4, ![1, 1, 256, 128]⟩
abbrev S128x256 : Shape := ⟨2, ![128, 256]⟩
abbrev S1x1x4x256 : Shape := ⟨4, ![1, 1, 4, 256]⟩
abbrev S4x256 : Shape := ⟨2, ![4, 256]⟩
abbrev S4x1x256 : Shape := ⟨3, ![4, 1, 256]⟩
abbrev S4x32x256 : Shape := ⟨3, ![4, 32, 256]⟩
abbrev S1x1x8x128 : Shape := ⟨4, ![1, 1, 8, 128]⟩
abbrev S8x128 : Shape := ⟨2, ![8, 128]⟩
abbrev S8x1x128 : Shape := ⟨3, ![8, 1, 128]⟩
abbrev S8x32x128 : Shape := ⟨3, ![8, 32, 128]⟩
abbrev S1x256x128 : Shape := ⟨3, ![1, 256, 128]⟩
abbrev S1x128x128 : Shape := ⟨3, ![1, 128, 128]⟩
abbrev S1x128x256 : Shape := ⟨3, ![1, 128, 256]⟩
abbrev S1x1x128x128 : Shape := ⟨4, ![1, 1, 128, 128]⟩
abbrev S1x1x4x128 : Shape := ⟨4, ![1, 1, 4, 128]⟩
abbrev S4x128 : Shape := ⟨2, ![4, 128]⟩
abbrev S4x1x128 : Shape := ⟨3, ![4, 1, 128]⟩
abbrev S4x32x128 : Shape := ⟨3, ![4, 32, 128]⟩
abbrev S1x256x256 : Shape := ⟨3, ![1, 256, 256]⟩
abbrev S16x8x256 : Shape := ⟨3, ![16, 8, 256]⟩
abbrev S1x8x256 : Shape := ⟨3, ![1, 8, 256]⟩
abbrev S8x256 : Shape := ⟨2, ![8, 256]⟩
abbrev S1x16x8x256 : Shape := ⟨4, ![1, 16, 8, 256]⟩
abbrev S16x256 : Shape := ⟨2, ![16, 256]⟩
abbrev S8x16x256 : Shape := ⟨3, ![8, 16, 256]⟩
abbrev S1x16x256 : Shape := ⟨3, ![1, 16, 256]⟩
abbrev S4x4x8x128 : Shape := ⟨4, ![4, 4, 8, 128]⟩
abbrev S1x4x8x128 : Shape := ⟨4, ![1, 4, 8, 128]⟩
abbrev S4x8x128 : Shape := ⟨3, ![4, 8, 128]⟩
abbrev S1x8x128 : Shape := ⟨3, ![1, 8, 128]⟩
abbrev S1x128 : Shape := ⟨2, ![1, 128]⟩
abbrev S1x1x128 : Shape := ⟨3, ![1, 1, 128]⟩
abbrev S16x8x128 : Shape := ⟨3, ![16, 8, 128]⟩
abbrev S1x16x8x128 : Shape := ⟨4, ![1, 16, 8, 128]⟩
abbrev S16x128 : Shape := ⟨2, ![16, 128]⟩
abbrev S8x16x128 : Shape := ⟨3, ![8, 16, 128]⟩
abbrev S1x16x128 : Shape := ⟨3, ![1, 16, 128]⟩
abbrev S32x8x256 : Shape := ⟨3, ![32, 8, 256]⟩
abbrev S1x32x8x256 : Shape := ⟨4, ![1, 32, 8, 256]⟩
abbrev S16x16x256 : Shape := ⟨3, ![16, 16, 256]⟩
abbrev S32x8x128 : Shape := ⟨3, ![32, 8, 128]⟩
abbrev S1x32x8x128 : Shape := ⟨4, ![1, 32, 8, 128]⟩
abbrev S16x16x128 : Shape := ⟨3, ![16, 16, 128]⟩
abbrev S1x5x1024 : Shape := ⟨3, ![1, 5, 1024]⟩
abbrev S5x1024 : Shape := ⟨2, ![5, 1024]⟩
abbrev S2x1024 : Shape := ⟨2, ![2, 1024]⟩
abbrev S32x1024 : Shape := ⟨2, ![32, 1024]⟩
abbrev S128x1024 : Shape := ⟨2, ![128, 1024]⟩
abbrev S120x1024 : Shape := ⟨2, ![120, 1024]⟩
abbrev S2x1024x120 : Shape := ⟨3, ![2, 1024, 120]⟩

abbrev nBuf : Space → Nat
  | .hbm => 16
  | .vmem => 25
  | .smem => 0
  | _ => 0

abbrev bufTy : (tb : Table) → Fin (tcTables nBuf tb) → BufTy
  | .hbm, ⟨0, _⟩ => ⟨S2x1024x30x128, .fp8e4m3⟩
  | .hbm, ⟨1, _⟩ => ⟨S2x1024x30x4, .i8⟩
  | .hbm, ⟨2, _⟩ => ⟨S2x1024x6x128, .fp8e4m3⟩
  | .hbm, ⟨3, _⟩ => ⟨S2x1024x6x4, .i8⟩
  | .hbm, ⟨4, _⟩ => ⟨S2x1024x6x128, .fp8e4m3⟩
  | .hbm, ⟨5, _⟩ => ⟨S2x32x6x128, .i8⟩
  | .hbm, ⟨6, _⟩ => ⟨S2x30x1024x128, .fp8e4m3⟩
  | .hbm, ⟨7, _⟩ => ⟨S2x6x1024x128, .fp8e4m3⟩
  | .hbm, ⟨8, _⟩ => ⟨S2x6x1024x128, .fp8e4m3⟩
  | .hbm, ⟨9, _⟩ => ⟨S2x30x4x1024, .i8⟩
  | .hbm, ⟨10, _⟩ => ⟨S2x6x4x1024, .i8⟩
  | .hbm, ⟨11, _⟩ => ⟨S2x6x32x128, .i8⟩
  | .hbm, ⟨12, _⟩ => ⟨S2x1024x3840, .bf16⟩
  | .hbm, ⟨13, _⟩ => ⟨S2x1024x3840, .fp8e4m3⟩
  | .hbm, ⟨14, _⟩ => ⟨S2x120x1024, .i8⟩
  | .hbm, ⟨15, _⟩ => ⟨S2x1024x120, .i8⟩
  | .local _ .vmem, ⟨0, _⟩ => ⟨S1x5x1024x128, .fp8e4m3⟩
  | .local _ .vmem, ⟨1, _⟩ => ⟨S1x5x1024x128, .fp8e4m3⟩
  | .local _ .vmem, ⟨2, _⟩ => ⟨S1x5x4x1024, .i8⟩
  | .local _ .vmem, ⟨3, _⟩ => ⟨S1x5x4x1024, .i8⟩
  | .local _ .vmem, ⟨4, _⟩ => ⟨S1x1x1024x128, .fp8e4m3⟩
  | .local _ .vmem, ⟨5, _⟩ => ⟨S1x1x1024x128, .fp8e4m3⟩
  | .local _ .vmem, ⟨6, _⟩ => ⟨S1x1x4x1024, .i8⟩
  | .local _ .vmem, ⟨7, _⟩ => ⟨S1x1x4x1024, .i8⟩
  | .local _ .vmem, ⟨8, _⟩ => ⟨S1x1x1024x128, .fp8e4m3⟩
  | .local _ .vmem, ⟨9, _⟩ => ⟨S1x1x1024x128, .fp8e4m3⟩
  | .local _ .vmem, ⟨10, _⟩ => ⟨S1x1x32x128, .i8⟩
  | .local _ .vmem, ⟨11, _⟩ => ⟨S1x1x32x128, .i8⟩
  | .local _ .vmem, ⟨12, _⟩ => ⟨S1x1024x640, .bf16⟩
  | .local _ .vmem, ⟨13, _⟩ => ⟨S1x1024x640, .bf16⟩
  | .local _ .vmem, ⟨14, _⟩ => ⟨S1x1024x640, .fp8e4m3⟩
  | .local _ .vmem, ⟨15, _⟩ => ⟨S1x1024x640, .fp8e4m3⟩
  | .local _ .vmem, ⟨16, _⟩ => ⟨S1x120x1024, .i8⟩
  | .local _ .vmem, ⟨17, _⟩ => ⟨S1x120x1024, .i8⟩
  | .local _ .vmem, ⟨18, _⟩ => ⟨S8x256x640, .bf16⟩
  | .local _ .vmem, ⟨19, _⟩ => ⟨S4x256x256, .bf16⟩
  | .local _ .vmem, ⟨20, _⟩ => ⟨S4x128x256, .bf16⟩
  | .local _ .vmem, ⟨21, _⟩ => ⟨S4x128x256, .bf16⟩
  | .local _ .vmem, ⟨22, _⟩ => ⟨S4x128x128, .bf16⟩
  | .local _ .vmem, ⟨23, _⟩ => ⟨S4x32x8x256, .f32⟩
  | .local _ .vmem, ⟨24, _⟩ => ⟨S6x8x1024, .i32⟩
  | _, _ => ⟨S2x1024x30x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 6], ![false, false]⟩

def k0_off1 (i : grid0.Coords) : Fin 3 → Nat :=
  let arg1 : BitVec 32 := BitVec.ofNat 32 (i 1).val
  let v2241 : Index := Scalar.indexCast arg1
  let c0_1068 : Index := 0#32
  let c0_1069 : Index := 0#32
  ![v2241.toNat, 0, 0]
def k0_off2 (i : grid0.Coords) : Fin 3 → Nat :=
  let arg1 : BitVec 32 := BitVec.ofNat 32 (i 1).val
  let v2740 : Index := Scalar.indexCast arg1
  let c1_1224 : Index := 1#32
  let c0_1225 : Index := 0#32
  ![v2740.toNat, 1, 0]
def k0_off3 (i : grid0.Coords) : Fin 3 → Nat :=
  let arg1 : BitVec 32 := BitVec.ofNat 32 (i 1).val
  let v3482 : Index := Scalar.indexCast arg1
  let c2_1442 : Index := 2#32
  let c0_1443 : Index := 0#32
  ![v3482.toNat, 2, 0]
def k0_off4 (i : grid0.Coords) : Fin 3 → Nat :=
  let arg1 : BitVec 32 := BitVec.ofNat 32 (i 1).val
  let v3981 : Index := Scalar.indexCast arg1
  let c3_1598 : Index := 3#32
  let c0_1599 : Index := 0#32
  ![v3981.toNat, 3, 0]
def k0_off5 (i : grid0.Coords) : Fin 3 → Nat :=
  let arg1 : BitVec 32 := BitVec.ofNat 32 (i 1).val
  let v4722 : Index := Scalar.indexCast arg1
  let c4_1816 : Index := 4#32
  let c0_1817 : Index := 0#32
  ![v4722.toNat, 4, 0]
def k0_off6 (i : grid0.Coords) : Fin 3 → Nat :=
  let arg1 : BitVec 32 := BitVec.ofNat 32 (i 1).val
  let v5560 : Index := Scalar.indexCast arg1
  let c0_2034 : Index := 0#32
  let c128_2035 : Index := 128#32
  ![v5560.toNat, 0, 128]
def k0_off7 (i : grid0.Coords) : Fin 3 → Nat :=
  let arg1 : BitVec 32 := BitVec.ofNat 32 (i 1).val
  let v6059 : Index := Scalar.indexCast arg1
  let c1_2190 : Index := 1#32
  let c128_2191 : Index := 128#32
  ![v6059.toNat, 1, 128]
def k0_off8 (i : grid0.Coords) : Fin 3 → Nat :=
  let arg1 : BitVec 32 := BitVec.ofNat 32 (i 1).val
  let v6897 : Index := Scalar.indexCast arg1
  let c2_2408 : Index := 2#32
  let c128_2409 : Index := 128#32
  ![v6897.toNat, 2, 128]
def k0_off9 (i : grid0.Coords) : Fin 3 → Nat :=
  let arg1 : BitVec 32 := BitVec.ofNat 32 (i 1).val
  let v7396 : Index := Scalar.indexCast arg1
  let c3_2564 : Index := 3#32
  let c128_2565 : Index := 128#32
  ![v7396.toNat, 3, 128]
def k0_off10 (i : grid0.Coords) : Fin 3 → Nat :=
  let arg1 : BitVec 32 := BitVec.ofNat 32 (i 1).val
  let v8233 : Index := Scalar.indexCast arg1
  let c4_2782 : Index := 4#32
  let c128_2783 : Index := 128#32
  ![v8233.toNat, 4, 128]
def k0_off11 (i : grid0.Coords) : Fin 3 → Nat :=
  let arg1 : BitVec 32 := BitVec.ofNat 32 (i 1).val
  let v9314 : Index := Scalar.indexCast arg1
  let c0_3059 : Index := 0#32
  let c256_3060 : Index := 256#32
  ![v9314.toNat, 0, 256]
def k0_off12 (i : grid0.Coords) : Fin 3 → Nat :=
  let arg1 : BitVec 32 := BitVec.ofNat 32 (i 1).val
  let v9813 : Index := Scalar.indexCast arg1
  let c1_3215 : Index := 1#32
  let c256_3216 : Index := 256#32
  ![v9813.toNat, 1, 256]
def k0_off13 (i : grid0.Coords) : Fin 3 → Nat :=
  let arg1 : BitVec 32 := BitVec.ofNat 32 (i 1).val
  let v10894 : Index := Scalar.indexCast arg1
  let c2_3492 : Index := 2#32
  let c256_3493 : Index := 256#32
  ![v10894.toNat, 2, 256]
def k0_off14 (i : grid0.Coords) : Fin 3 → Nat :=
  let arg1 : BitVec 32 := BitVec.ofNat 32 (i 1).val
  let v11393 : Index := Scalar.indexCast arg1
  let c3_3648 : Index := 3#32
  let c256_3649 : Index := 256#32
  ![v11393.toNat, 3, 256]
def k0_off15 (i : grid0.Coords) : Fin 3 → Nat :=
  let arg1 : BitVec 32 := BitVec.ofNat 32 (i 1).val
  let v12473 : Index := Scalar.indexCast arg1
  let c4_3925 : Index := 4#32
  let c256_3926 : Index := 256#32
  ![v12473.toNat, 4, 256]
def k0_off16 (i : grid0.Coords) : Fin 3 → Nat :=
  let arg1 : BitVec 32 := BitVec.ofNat 32 (i 1).val
  let v13650 : Index := Scalar.indexCast arg1
  let c0_4202 : Index := 0#32
  let c384_4203 : Index := 384#32
  ![v13650.toNat, 0, 384]
def k0_off17 (i : grid0.Coords) : Fin 3 → Nat :=
  let arg1 : BitVec 32 := BitVec.ofNat 32 (i 1).val
  let v14149 : Index := Scalar.indexCast arg1
  let c1_4358 : Index := 1#32
  let c384_4359 : Index := 384#32
  ![v14149.toNat, 1, 384]
def k0_off18 (i : grid0.Coords) : Fin 3 → Nat :=
  let arg1 : BitVec 32 := BitVec.ofNat 32 (i 1).val
  let v15326 : Index := Scalar.indexCast arg1
  let c2_4635 : Index := 2#32
  let c384_4636 : Index := 384#32
  ![v15326.toNat, 2, 384]
def k0_off19 (i : grid0.Coords) : Fin 3 → Nat :=
  let arg1 : BitVec 32 := BitVec.ofNat 32 (i 1).val
  let v15825 : Index := Scalar.indexCast arg1
  let c3_4791 : Index := 3#32
  let c384_4792 : Index := 384#32
  ![v15825.toNat, 3, 384]
def k0_off20 (i : grid0.Coords) : Fin 3 → Nat :=
  let arg1 : BitVec 32 := BitVec.ofNat 32 (i 1).val
  let v17001 : Index := Scalar.indexCast arg1
  let c4_5068 : Index := 4#32
  let c384_5069 : Index := 384#32
  ![v17001.toNat, 4, 384]
def k0_off21 (i : grid0.Coords) : Fin 3 → Nat :=
  let arg1 : BitVec 32 := BitVec.ofNat 32 (i 1).val
  let v18419 : Index := Scalar.indexCast arg1
  let c0_5401 : Index := 0#32
  let c512_5402 : Index := 512#32
  ![v18419.toNat, 0, 512]
def k0_off22 (i : grid0.Coords) : Fin 3 → Nat :=
  let arg1 : BitVec 32 := BitVec.ofNat 32 (i 1).val
  let v18918 : Index := Scalar.indexCast arg1
  let c1_5557 : Index := 1#32
  let c512_5558 : Index := 512#32
  ![v18918.toNat, 1, 512]
def k0_off23 (i : grid0.Coords) : Fin 3 → Nat :=
  let arg1 : BitVec 32 := BitVec.ofNat 32 (i 1).val
  let v20336 : Index := Scalar.indexCast arg1
  let c2_5890 : Index := 2#32
  let c512_5891 : Index := 512#32
  ![v20336.toNat, 2, 512]
def k0_off24 (i : grid0.Coords) : Fin 3 → Nat :=
  let arg1 : BitVec 32 := BitVec.ofNat 32 (i 1).val
  let v20835 : Index := Scalar.indexCast arg1
  let c3_6046 : Index := 3#32
  let c512_6047 : Index := 512#32
  ![v20835.toNat, 3, 512]
def k0_off25 (i : grid0.Coords) : Fin 3 → Nat :=
  let arg1 : BitVec 32 := BitVec.ofNat 32 (i 1).val
  let v22252 : Index := Scalar.indexCast arg1
  let c4_6379 : Index := 4#32
  let c512_6380 : Index := 512#32
  ![v22252.toNat, 4, 512]
def k0_off26 (i : grid0.Coords) : Fin 3 → Nat :=
  let arg1 : BitVec 32 := BitVec.ofNat 32 (i 1).val
  let v23766 : Index := Scalar.indexCast arg1
  let c0_6712 : Index := 0#32
  let c640_6713 : Index := 640#32
  ![v23766.toNat, 0, 640]
def k0_off27 (i : grid0.Coords) : Fin 3 → Nat :=
  let arg1 : BitVec 32 := BitVec.ofNat 32 (i 1).val
  let v24265 : Index := Scalar.indexCast arg1
  let c1_6868 : Index := 1#32
  let c640_6869 : Index := 640#32
  ![v24265.toNat, 1, 640]
def k0_off28 (i : grid0.Coords) : Fin 3 → Nat :=
  let arg1 : BitVec 32 := BitVec.ofNat 32 (i 1).val
  let v25779 : Index := Scalar.indexCast arg1
  let c2_7201 : Index := 2#32
  let c640_7202 : Index := 640#32
  ![v25779.toNat, 2, 640]
def k0_off29 (i : grid0.Coords) : Fin 3 → Nat :=
  let arg1 : BitVec 32 := BitVec.ofNat 32 (i 1).val
  let v26278 : Index := Scalar.indexCast arg1
  let c3_7357 : Index := 3#32
  let c640_7358 : Index := 640#32
  ![v26278.toNat, 3, 640]
def k0_off30 (i : grid0.Coords) : Fin 3 → Nat :=
  let arg1 : BitVec 32 := BitVec.ofNat 32 (i 1).val
  let v27791 : Index := Scalar.indexCast arg1
  let c4_7690 : Index := 4#32
  let c640_7691 : Index := 640#32
  ![v27791.toNat, 4, 640]
def k0_off31 (i : grid0.Coords) : Fin 3 → Nat :=
  let arg1 : BitVec 32 := BitVec.ofNat 32 (i 1).val
  let v29546 : Index := Scalar.indexCast arg1
  let c0_8079 : Index := 0#32
  let c768_8080 : Index := 768#32
  ![v29546.toNat, 0, 768]
def k0_off32 (i : grid0.Coords) : Fin 3 → Nat :=
  let arg1 : BitVec 32 := BitVec.ofNat 32 (i 1).val
  let v30045 : Index := Scalar.indexCast arg1
  let c1_8235 : Index := 1#32
  let c768_8236 : Index := 768#32
  ![v30045.toNat, 1, 768]
def k0_off33 (i : grid0.Coords) : Fin 3 → Nat :=
  let arg1 : BitVec 32 := BitVec.ofNat 32 (i 1).val
  let v31800 : Index := Scalar.indexCast arg1
  let c2_8624 : Index := 2#32
  let c768_8625 : Index := 768#32
  ![v31800.toNat, 2, 768]
def k0_off34 (i : grid0.Coords) : Fin 3 → Nat :=
  let arg1 : BitVec 32 := BitVec.ofNat 32 (i 1).val
  let v32299 : Index := Scalar.indexCast arg1
  let c3_8780 : Index := 3#32
  let c768_8781 : Index := 768#32
  ![v32299.toNat, 3, 768]
def k0_off35 (i : grid0.Coords) : Fin 3 → Nat :=
  let arg1 : BitVec 32 := BitVec.ofNat 32 (i 1).val
  let v34053 : Index := Scalar.indexCast arg1
  let c4_9169 : Index := 4#32
  let c768_9170 : Index := 768#32
  ![v34053.toNat, 4, 768]
def k0_off36 (i : grid0.Coords) : Fin 3 → Nat :=
  let arg1 : BitVec 32 := BitVec.ofNat 32 (i 1).val
  let v35904 : Index := Scalar.indexCast arg1
  let c0_9558 : Index := 0#32
  let c896_9559 : Index := 896#32
  ![v35904.toNat, 0, 896]
def k0_off37 (i : grid0.Coords) : Fin 3 → Nat :=
  let arg1 : BitVec 32 := BitVec.ofNat 32 (i 1).val
  let v36403 : Index := Scalar.indexCast arg1
  let c1_9714 : Index := 1#32
  let c896_9715 : Index := 896#32
  ![v36403.toNat, 1, 896]
def k0_off38 (i : grid0.Coords) : Fin 3 → Nat :=
  let arg1 : BitVec 32 := BitVec.ofNat 32 (i 1).val
  let v38254 : Index := Scalar.indexCast arg1
  let c2_10103 : Index := 2#32
  let c896_10104 : Index := 896#32
  ![v38254.toNat, 2, 896]
def k0_off39 (i : grid0.Coords) : Fin 3 → Nat :=
  let arg1 : BitVec 32 := BitVec.ofNat 32 (i 1).val
  let v38753 : Index := Scalar.indexCast arg1
  let c3_10259 : Index := 3#32
  let c896_10260 : Index := 896#32
  ![v38753.toNat, 3, 896]
def k0_off40 (i : grid0.Coords) : Fin 3 → Nat :=
  let arg1 : BitVec 32 := BitVec.ofNat 32 (i 1).val
  let v40603 : Index := Scalar.indexCast arg1
  let c4_10648 : Index := 4#32
  let c896_10649 : Index := 896#32
  ![v40603.toNat, 4, 896]
def k0_cond1 (i : grid0.Coords) : BitVec 1 :=
  let arg1 : BitVec 32 := BitVec.ofNat 32 (i 1).val
  let c5_i32 : BitVec 32 := 5#32
  let v40607 : BitVec 1 := Scalar.cmpi .eq arg1 c5_i32
  let v40608 : BitVec 32 := Scalar.extui v40607
  let c0_i32_10650 : BitVec 32 := 0#32
  let v40609 : BitVec 1 := Scalar.cmpi .ne v40608 c0_i32_10650
  v40609

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x4x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x640 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x120x1024 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "exp2_scale" => some (((Real.sqrt 128)⁻¹ * (Real.log 2)⁻¹ : ℝ) : EReal)
  | "neg_inf" => some ⊥
  | _ => none
-- ==== ReferenceIdeal.lean ====
abbrev S2x1024x30x128 : Shape := ⟨4, ![2, 1024, 30, 128]⟩
abbrev S2x1024x30x4 : Shape := ⟨4, ![2, 1024, 30, 4]⟩
abbrev S2x1024x6x128 : Shape := ⟨4, ![2, 1024, 6, 128]⟩
abbrev S2x1024x6x4 : Shape := ⟨4, ![2, 1024, 6, 4]⟩
abbrev S2x32x6x128 : Shape := ⟨4, ![2, 32, 6, 128]⟩
abbrev S2x1024x30x4x32 : Shape := ⟨5, ![2, 1024, 30, 4, 32]⟩
abbrev S_ : Shape := ⟨0, ![]⟩
abbrev S2x1024x30x4x1 : Shape := ⟨5, ![2, 1024, 30, 4, 1]⟩
abbrev S2x1024x6x5x128 : Shape := ⟨5, ![2, 1024, 6, 5, 128]⟩
abbrev S2x6x5x1024x128 : Shape := ⟨5, ![2, 6, 5, 1024, 128]⟩
abbrev S2x1024x6x4x32 : Shape := ⟨5, ![2, 1024, 6, 4, 32]⟩
abbrev S2x1024x6x4x1 : Shape := ⟨5, ![2, 1024, 6, 4, 1]⟩
abbrev S2x6x1024x128 : Shape := ⟨4, ![2, 6, 1024, 128]⟩
abbrev S2x32x32x6x128 : Shape := ⟨5, ![2, 32, 32, 6, 128]⟩
abbrev S2x32x1x6x128 : Shape := ⟨5, ![2, 32, 1, 6, 128]⟩
abbrev S2x6x5x1024x1024 : Shape := ⟨5, ![2, 6, 5, 1024, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S2x6x5x1024 : Shape := ⟨4, ![2, 6, 5, 1024]⟩
abbrev S2x6x5x1024x1 : Shape := ⟨5, ![2, 6, 5, 1024, 1]⟩
abbrev S2x6x5x1024x32x32 : Shape := ⟨6, ![2, 6, 5, 1024, 32, 32]⟩
abbrev S2x6x5x1024x32 : Shape := ⟨5, ![2, 6, 5, 1024, 32]⟩
abbrev S2x6x5x1024x32x1 : Shape := ⟨6, ![2, 6, 5, 1024, 32, 1]⟩
abbrev S2x6x128x5x1024 : Shape := ⟨5, ![2, 6, 128, 5, 1024]⟩
abbrev S2x1024x3840 : Shape := ⟨3, ![2, 1024, 3840]⟩
abbrev S2x1024x120x32 : Shape := ⟨4, ![2, 1024, 120, 32]⟩
abbrev S2x1024x120 : Shape := ⟨3, ![2, 1024, 120]⟩
abbrev S2x1024x120x1 : Shape := ⟨4, ![2, 1024, 120, 1]⟩

abbrev nBuf : Space → Nat
  | .hbm => 193
  | .vmem => 6
  | .smem => 0
  | _ => 0

abbrev hbmTy0_0 (i : Nat) : BufTy := match i % 128 with
  | 0 => ⟨S2x1024x30x128, .fp8e4m3⟩
  | 1 => ⟨S2x1024x30x4, .i8⟩
  | 2 => ⟨S2x1024x6x128, .fp8e4m3⟩
  | 3 => ⟨S2x1024x6x4, .i8⟩
  | 4 => ⟨S2x1024x6x128, .fp8e4m3⟩
  | 5 => ⟨S2x32x6x128, .i8⟩
  | 6 => ⟨S2x1024x30x128, .bf16⟩
  | 7 => ⟨S2x1024x6x128, .bf16⟩
  | 8 => ⟨S2x1024x6x128, .bf16⟩
  | 9 => ⟨S2x1024x30x4x32, .bf16⟩
  | 10 => ⟨S2x1024x30x4, .i32⟩
  | 11 => ⟨S_, .i32⟩
  | 12 => ⟨S2x1024x30x4, .i32⟩
  | 13 => ⟨S2x1024x30x4, .i32⟩
  | 14 => ⟨S2x1024x30x4, .f32⟩
  | 15 => ⟨S_, .f32⟩
  | 16 => ⟨S_, .f32⟩
  | 17 => ⟨S2x1024x30x4, .f32⟩
  | 18 => ⟨S2x1024x30x4, .f32⟩
  | 19 => ⟨S2x1024x30x4, .f32⟩
  | 20 => ⟨S2x1024x30x4, .bf16⟩
  | 21 => ⟨S2x1024x30x4x1, .bf16⟩
  | 22 => ⟨S2x1024x30x4x32, .bf16⟩
  | 23 => ⟨S2x1024x30x4x32, .bf16⟩
  | 24 => ⟨S2x1024x6x5x128, .bf16⟩
  | 25 => ⟨S2x6x5x1024x128, .bf16⟩
  | 26 => ⟨S2x1024x6x4x32, .bf16⟩
  | 27 => ⟨S2x1024x6x4, .i32⟩
  | 28 => ⟨S_, .i32⟩
  | 29 => ⟨S2x1024x6x4, .i32⟩
  | 30 => ⟨S2x1024x6x4, .i32⟩
  | 31 => ⟨S2x1024x6x4, .f32⟩
  | 32 => ⟨S_, .f32⟩
  | 33 => ⟨S_, .f32⟩
  | 34 => ⟨S2x1024x6x4, .f32⟩
  | 35 => ⟨S2x1024x6x4, .f32⟩
  | 36 => ⟨S2x1024x6x4, .f32⟩
  | 37 => ⟨S2x1024x6x4, .bf16⟩
  | 38 => ⟨S2x1024x6x4x1, .bf16⟩
  | 39 => ⟨S2x1024x6x4x32, .bf16⟩
  | 40 => ⟨S2x1024x6x4x32, .bf16⟩
  | 41 => ⟨S2x1024x6x128, .bf16⟩
  | 42 => ⟨S2x6x1024x128, .bf16⟩
  | 43 => ⟨S2x32x32x6x128, .bf16⟩
  | 44 => ⟨S2x32x6x128, .i32⟩
  | 45 => ⟨S_, .i32⟩
  | 46 => ⟨S2x32x6x128, .i32⟩
  | 47 => ⟨S2x32x6x128, .i32⟩
  | 48 => ⟨S2x32x6x128, .f32⟩
  | 49 => ⟨S_, .f32⟩
  | 50 => ⟨S_, .f32⟩
  | 51 => ⟨S2x32x6x128, .f32⟩
  | 52 => ⟨S2x32x6x128, .f32⟩
  | 53 => ⟨S2x32x6x128, .f32⟩
  | 54 => ⟨S2x32x6x128, .bf16⟩
  | 55 => ⟨S2x32x1x6x128, .bf16⟩
  | 56 => ⟨S2x32x32x6x128, .bf16⟩
  | 57 => ⟨S2x32x32x6x128, .bf16⟩
  | 58 => ⟨S2x1024x6x128, .bf16⟩
  | 59 => ⟨S2x6x1024x128, .bf16⟩
  | 60 => ⟨S2x6x5x1024x1024, .f32⟩
  | 61 => ⟨S_, .f32⟩
  | 62 => ⟨S_, .f32⟩
  | 63 => ⟨S2x6x5x1024x1024, .f32⟩
  | 64 => ⟨S2x6x5x1024x1024, .f32⟩
  | 65 => ⟨S1024, .i32⟩
  | 66 => ⟨S1x1024, .i32⟩
  | 67 => ⟨S1024, .i32⟩
  | 68 => ⟨S1024x1, .i32⟩
  | 69 => ⟨S1024x1024, .i32⟩
  | 70 => ⟨S1024x1024, .i32⟩
  | 71 => ⟨S1024x1024, .i1⟩
  | 72 => ⟨S_, .f32⟩
  | 73 => ⟨S_, .f32⟩
  | 74 => ⟨S2x6x5x1024x1024, .i1⟩
  | 75 => ⟨S2x6x5x1024x1024, .f32⟩
  | 76 => ⟨S2x6x5x1024x1024, .f32⟩
  | 77 => ⟨S_, .f32⟩
  | 78 => ⟨S2x6x5x1024, .f32⟩
  | 79 => ⟨S2x6x5x1024x1, .f32⟩
  | 80 => ⟨S2x6x5x1024x1024, .f32⟩
  | 81 => ⟨S2x6x5x1024x1024, .f32⟩
  | 82 => ⟨S2x6x5x1024x1024, .f32⟩
  | 83 => ⟨S_, .f32⟩
  | 84 => ⟨S2x6x5x1024, .f32⟩
  | 85 => ⟨S2x6x5x1024x1, .f32⟩
  | 86 => ⟨S_, .f32⟩
  | 87 => ⟨S2x6x5x1024x1, .f32⟩
  | 88 => ⟨S2x6x5x1024x1, .f32⟩
  | 89 => ⟨S2x6x5x1024x1024, .f32⟩
  | 90 => ⟨S2x6x5x1024x1024, .f32⟩
  | 91 => ⟨S2x6x5x1024x32x32, .f32⟩
  | 92 => ⟨S_, .f32⟩
  | 93 => ⟨S2x6x5x1024x32, .f32⟩
  | 94 => ⟨S_, .f32⟩
  | 95 => ⟨S2x6x5x1024x32, .f32⟩
  | 96 => ⟨S2x6x5x1024x32, .f32⟩
  | 97 => ⟨S_, .f32⟩
  | 98 => ⟨S2x6x5x1024x32, .f32⟩
  | 99 => ⟨S2x6x5x1024x32, .i1⟩
  | 100 => ⟨S2x6x5x1024x32, .f32⟩
  | 101 => ⟨S_, .f32⟩
  | 102 => ⟨S_, .f32⟩
  | 103 => ⟨S2x6x5x1024x32, .f32⟩
  | 104 => ⟨S2x6x5x1024x32, .f32⟩
  | 105 => ⟨S2x6x5x1024x32, .f32⟩
  | 106 => ⟨S_, .f32⟩
  | 107 => ⟨S2x6x5x1024x32, .f32⟩
  | 108 => ⟨S2x6x5x1024x32, .f32⟩
  | 109 => ⟨S_, .f32⟩
  | 110 => ⟨S_, .f32⟩
  | 111 => ⟨S2x6x5x1024x32, .f32⟩
  | 112 => ⟨S2x6x5x1024x32, .f32⟩
  | 113 => ⟨S2x6x5x1024x32, .f32⟩
  | 114 => ⟨S_, .f32⟩
  | 115 => ⟨S_, .f32⟩
  | 116 => ⟨S2x6x5x1024x32, .f32⟩
  | 117 => ⟨S2x6x5x1024x32, .f32⟩
  | 118 => ⟨S2x6x5x1024x32, .f32⟩
  | 119 => ⟨S2x6x5x1024x32x1, .f32⟩
  | 120 => ⟨S2x6x5x1024x32x32, .f32⟩
  | 121 => ⟨S2x6x5x1024x32x32, .f32⟩
  | 122 => ⟨S_, .f32⟩
  | 123 => ⟨S_, .f32⟩
  | 124 => ⟨S_, .f32⟩
  | 125 => ⟨S2x6x5x1024x32x32, .f32⟩
  | 126 => ⟨S2x6x5x1024x32x32, .f32⟩
  | 127 => ⟨S_, .f32⟩
  | _ => ⟨S2x1024x30x128, .fp8e4m3⟩

abbrev hbmTy0_1 (i : Nat) : BufTy := match i % 128 with
  | 0 => ⟨S2x6x5x1024x32x32, .f32⟩
  | 1 => ⟨S2x6x5x1024x32x32, .f32⟩
  | 2 => ⟨S2x6x5x1024x32x32, .bf16⟩
  | 3 => ⟨S_, .f32⟩
  | 4 => ⟨S_, .f32⟩
  | 5 => ⟨S2x6x5x1024x32, .f32⟩
  | 6 => ⟨S2x6x5x1024x32, .f32⟩
  | 7 => ⟨S2x6x5x1024x32, .f32⟩
  | 8 => ⟨S2x6x5x1024x32, .bf16⟩
  | 9 => ⟨S2x6x5x1024x32x1, .bf16⟩
  | 10 => ⟨S2x6x5x1024x32x32, .bf16⟩
  | 11 => ⟨S2x6x5x1024x32x32, .bf16⟩
  | 12 => ⟨S2x6x5x1024x1024, .bf16⟩
  | 13 => ⟨S2x6x128x5x1024, .f32⟩
  | 14 => ⟨S2x1024x6x5x128, .f32⟩
  | 15 => ⟨S2x1024x3840, .f32⟩
  | 16 => ⟨S2x1024x120x32, .f32⟩
  | 17 => ⟨S2x1024x120x32, .f32⟩
  | 18 => ⟨S_, .f32⟩
  | 19 => ⟨S2x1024x120, .f32⟩
  | 20 => ⟨S2x1024x120x1, .f32⟩
  | 21 => ⟨S_, .f32⟩
  | 22 => ⟨S2x1024x120x1, .f32⟩
  | 23 => ⟨S2x1024x120x1, .f32⟩
  | 24 => ⟨S_, .f32⟩
  | 25 => ⟨S2x1024x120x1, .f32⟩
  | 26 => ⟨S2x1024x120x1, .i1⟩
  | 27 => ⟨S2x1024x120x1, .f32⟩
  | 28 => ⟨S_, .f32⟩
  | 29 => ⟨S_, .f32⟩
  | 30 => ⟨S2x1024x120x1, .f32⟩
  | 31 => ⟨S2x1024x120x1, .f32⟩
  | 32 => ⟨S2x1024x120x1, .f32⟩
  | 33 => ⟨S_, .f32⟩
  | 34 => ⟨S2x1024x120x1, .f32⟩
  | 35 => ⟨S2x1024x120x1, .f32⟩
  | 36 => ⟨S_, .f32⟩
  | 37 => ⟨S_, .f32⟩
  | 38 => ⟨S2x1024x120x1, .f32⟩
  | 39 => ⟨S2x1024x120x1, .f32⟩
  | 40 => ⟨S2x1024x120x1, .f32⟩
  | 41 => ⟨S_, .f32⟩
  | 42 => ⟨S_, .f32⟩
  | 43 => ⟨S2x1024x120x1, .f32⟩
  | 44 => ⟨S2x1024x120x1, .f32⟩
  | 45 => ⟨S2x1024x120x1, .f32⟩
  | 46 => ⟨S2x1024x120x32, .f32⟩
  | 47 => ⟨S2x1024x120x32, .f32⟩
  | 48 => ⟨S_, .f32⟩
  | 49 => ⟨S_, .f32⟩
  | 50 => ⟨S_, .f32⟩
  | 51 => ⟨S2x1024x120x32, .f32⟩
  | 52 => ⟨S2x1024x120x32, .f32⟩
  | 53 => ⟨S_, .f32⟩
  | 54 => ⟨S2x1024x120x32, .f32⟩
  | 55 => ⟨S2x1024x120x32, .f32⟩
  | 56 => ⟨S2x1024x120x32, .fp8e4m3⟩
  | 57 => ⟨S2x1024x120, .f32⟩
  | 58 => ⟨S2x1024x120, .i32⟩
  | 59 => ⟨S_, .i32⟩
  | 60 => ⟨S2x1024x120, .i32⟩
  | 61 => ⟨S2x1024x120, .i32⟩
  | 62 => ⟨S2x1024x120, .i8⟩
  | 63 => ⟨S2x1024x3840, .bf16⟩
  | 64 => ⟨S2x1024x3840, .fp8e4m3⟩
  | _ => ⟨S2x1024x30x128, .fp8e4m3⟩

abbrev hbmTy (i : Nat) : BufTy := match i / 128 with
  | 0 => hbmTy0_0 i
  | 1 => hbmTy0_1 i
  | _ => ⟨S2x1024x30x128, .fp8e4m3⟩

abbrev bufTy : (tb : Table) → Fin (tcTables nBuf tb) → BufTy
  | .hbm, ⟨i, _⟩ => hbmTy i
  | .local _ .vmem, ⟨0, _⟩ => ⟨S2x1024x30x128, .fp8e4m3⟩
  | .local _ .vmem, ⟨1, _⟩ => ⟨S2x1024x6x128, .fp8e4m3⟩
  | .local _ .vmem, ⟨2, _⟩ => ⟨S2x1024x6x128, .fp8e4m3⟩
  | .local _ .vmem, ⟨3, _⟩ => ⟨S2x1024x30x128, .bf16⟩
  | .local _ .vmem, ⟨4, _⟩ => ⟨S2x1024x6x128, .bf16⟩
  | .local _ .vmem, ⟨5, _⟩ => ⟨S2x1024x6x128, .bf16⟩
  | _, _ => ⟨S2x1024x30x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_cst_10 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_12 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_call1_v0 : Ref sig .tc := ⟨.hbm, 110, rfl⟩
abbrev main_call1_v1 : Ref sig .tc := ⟨.hbm, 111, rfl⟩
abbrev main_v82 : Ref sig .tc := ⟨.hbm, 112, rfl⟩
abbrev main_v83 : Ref sig .tc := ⟨.hbm, 113, rfl⟩
abbrev main_cst_15 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_cst_17 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_v91 : Ref sig .tc := ⟨.hbm, 129, rfl⟩
abbrev main_v92 : Ref sig .tc := ⟨.hbm, 130, rfl⟩
abbrev main_cst_18 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_19 : Ref sig .tc := ⟨.hbm, 146, rfl⟩
abbrev main_v107 : Ref sig .tc := ⟨.hbm, 147, rfl⟩
abbrev main_v108 : Ref sig .tc := ⟨.hbm, 148, rfl⟩
abbrev main_cst_20 : Ref sig .tc := ⟨.hbm, 149, rfl⟩
abbrev main_v109 : Ref sig .tc := ⟨.hbm, 150, rfl⟩
abbrev main_v110 : Ref sig .tc := ⟨.hbm, 151, rfl⟩
abbrev main_cst_21 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_22 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_23 : Ref sig .tc := ⟨.hbm, 161, rfl⟩
abbrev main_v118 : Ref sig .tc := ⟨.hbm, 162, rfl⟩
abbrev main_v119 : Ref sig .tc := ⟨.hbm, 163, rfl⟩
abbrev main_cst_24 : Ref sig .tc := ⟨.hbm, 164, rfl⟩
abbrev main_call3_v0 : Ref sig .tc := ⟨.hbm, 165, rfl⟩
abbrev main_call3_v1 : Ref sig .tc := ⟨.hbm, 166, rfl⟩
abbrev main_v120 : Ref sig .tc := ⟨.hbm, 167, rfl⟩
abbrev main_v121 : Ref sig .tc := ⟨.hbm, 168, rfl⟩
abbrev main_cst_25 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_26 : Ref sig .tc := ⟨.hbm, 176, rfl⟩
abbrev main_cst_27 : Ref sig .tc := ⟨.hbm, 177, rfl⟩
abbrev main_call4_v0 : Ref sig .tc := ⟨.hbm, 178, rfl⟩
abbrev main_call4_v1 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_c_28 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x1024x30x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x6x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x6x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x30x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x6x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x6x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Run.lean ====
/- What the two runs of the kernel's body are stated over: the body's one branch condition in closed form, the staging
   and scratch memrefs by name, and the frame claim read off a run that says nothing of windows 7 and 8. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v7}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 5 (mod 6) — by arithmetic of the point. -/
theorem hcond0_0 : ∀ t : Fin cfg0.N, cond0_0 (grid0.coords t) ↔ t.val % 6 = 5 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 5)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle: every point stores all of its block. -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x5x1024x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x4x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x32x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x640 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x640 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x120x1024 .i8 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S8x256x640 .bf16 := Memref.whole cc0_scratch0
abbrev scM0_1 : Memref sig .tc .vmem S4x256x256 .bf16 := Memref.whole cc0_scratch1
abbrev scM0_2 : Memref sig .tc .vmem S4x128x256 .bf16 := Memref.whole cc0_scratch2
abbrev scM0_3 : Memref sig .tc .vmem S4x128x256 .bf16 := Memref.whole cc0_scratch3
abbrev scM0_4 : Memref sig .tc .vmem S4x128x128 .bf16 := Memref.whole cc0_scratch4
abbrev scM0_5 : Memref sig .tc .vmem S4x32x8x256 .f32 := Memref.whole cc0_scratch5
abbrev scM0_6 : Memref sig .tc .vmem S6x8x1024 .i32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The view window 6's contents are read back through. -/
abbrev VO0_6 : View sig .tc .vmem S1x1024x640 .bf16 := (Memref.whole cc0_stg6_0 : Memref sig .tc .vmem S1x1024x640 .bf16).view

end Cert.KernelIdeal.Run

end
-- ==== Proof.Tile.lean ====
/- The kernel body's values, named: the permutation and mask constants, what the preparation stores into
   the scratch buffers, and per query tile and head pair the online-softmax steps. Each definition repeats
   the printed operations in their order. -/
module

public import proofs.«01_k».proof.Proof.Run

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F] [Named F]

/-- The key that a row of a wide tile holds. -/
def keyA : IVec S256x256 32 :=
  let v0 : IVec S256x256 32 := iota .tc S256x256 32 [0] iota_S256x256_d0_w32
  let v2 : BitVec 1 := Scalar.cmpi .eq (8#32) (0#32)
  let v3 : BitVec 32 := Scalar.select v2 (1#32) (8#32)
  let v4 : IVec S256x256 32 := broadcast S256x256 v3
  let v5 : IVec S256x256 32 := remsi v0 v4
  let v6 : IVec S256x256 32 := broadcast S256x256 (0#32)
  let v7 : IVec S256x256 1 := cmpi .ne v5 v6
  let v8 : IVec S256x256 32 := broadcast S256x256 (0#32)
  let v9 : IVec S256x256 1 := cmpi .slt v5 v8
  let v10 : BitVec 1 := Scalar.cmpi .slt v3 (0#32)
  let v11 : IVec S256x256 1 := broadcast S256x256 v10
  let v12 : IVec S256x256 1 := broadcastTo S256x256 v11 broadcasts_S256x256_S256x256
  let v13 : IVec S256x256 1 := xori v9 v12
  let v14 : IVec S256x256 1 := andi v13 v7
  let v15 : IVec S256x256 32 := broadcast S256x256 v3
  let v16 : IVec S256x256 32 := addi v5 v15
  let v17 : IVec S256x256 32 := select v14 v16 v5
  let v18 : BitVec 1 := Scalar.cmpi .eq (8#32) (0#32)
  let v19 : BitVec 32 := Scalar.select v18 (1#32) (8#32)
  let v20 : IVec S256x256 32 := broadcast S256x256 v19
  let v21 : IVec S256x256 32 := remsi v17 v20
  let v22 : IVec S256x256 32 := broadcast S256x256 (0#32)
  let v23 : IVec S256x256 1 := cmpi .ne v21 v22
  let v24 : IVec S256x256 32 := broadcast S256x256 (0#32)
  let v25 : IVec S256x256 1 := cmpi .slt v21 v24
  let v26 : BitVec 1 := Scalar.cmpi .slt v19 (0#32)
  let v27 : IVec S256x256 1 := broadcast S256x256 v26
  let v28 : IVec S256x256 1 := broadcastTo S256x256 v27 broadcasts_S256x256_S256x256
  let v29 : IVec S256x256 1 := xori v25 v28
  let v30 : IVec S256x256 1 := andi v29 v23
  let v31 : IVec S256x256 32 := broadcast S256x256 v19
  let v32 : IVec S256x256 32 := addi v21 v31
  let v33 : IVec S256x256 32 := select v30 v32 v21
  let v34 : IVec S256x256 32 := broadcast S256x256 (32#32)
  let v35 : IVec S256x256 32 := muli v34 v33
  let v36 : IVec S256x256 32 := broadcast S256x256 (8#32)
  let v37 : IVec S256x256 32 := divsi v0 v36
  let v38 : IVec S256x256 32 := broadcast S256x256 (0#32)
  let v39 : IVec S256x256 1 := cmpi .sgt v0 v38
  let v40 : IVec S256x256 32 := extui 32 v39 natLt_1_32
  let v41 : IVec S256x256 32 := broadcast S256x256 (0#32)
  let v42 : IVec S256x256 1 := cmpi .slt v0 v41
  let v43 : IVec S256x256 32 := extui 32 v42 natLt_1_32
  let v44 : IVec S256x256 32 := subi v40 v43
  let v45 : BitVec 1 := Scalar.cmpi .sgt (8#32) (0#32)
  let v46 : BitVec 32 := Scalar.extui v45
  let v47 : BitVec 1 := Scalar.cmpi .slt (8#32) (0#32)
  let v48 : BitVec 32 := Scalar.extui v47
  let v49 : BitVec 32 := Scalar.subi v46 v48
  let v50 : IVec S256x256 32 := broadcast S256x256 v49
  let v51 : IVec S256x256 1 := cmpi .ne v44 v50
  let v52 : IVec S256x256 32 := broadcast S256x256 (8#32)
  let v53 : IVec S256x256 32 := remsi v0 v52
  let v54 : IVec S256x256 32 := broadcast S256x256 (0#32)
  let v55 : IVec S256x256 1 := cmpi .ne v53 v54
  let v56 : IVec S256x256 1 := andi v51 v55
  let v57 : IVec S256x256 32 := broadcast S256x256 (1#32)
  let v58 : IVec S256x256 32 := subi v37 v57
  let v59 : IVec S256x256 32 := select v56 v58 v37
  let v60 : IVec S256x256 32 := broadcast S256x256 (1#32)
  let v61 : IVec S256x256 32 := muli v60 v59
  let v62 : IVec S256x256 32 := addi v35 v61
  let v63 : IVec S256x256 32 := broadcast S256x256 (8#32)
  let v64 : IVec S256x256 32 := divsi v17 v63
  let v65 : IVec S256x256 32 := broadcast S256x256 (0#32)
  let v66 : IVec S256x256 1 := cmpi .sgt v17 v65
  let v67 : IVec S256x256 32 := extui 32 v66 natLt_1_32
  let v68 : IVec S256x256 32 := broadcast S256x256 (0#32)
  let v69 : IVec S256x256 1 := cmpi .slt v17 v68
  let v70 : IVec S256x256 32 := extui 32 v69 natLt_1_32
  let v71 : IVec S256x256 32 := subi v67 v70
  let v72 : BitVec 1 := Scalar.cmpi .sgt (8#32) (0#32)
  let v73 : BitVec 32 := Scalar.extui v72
  let v74 : BitVec 1 := Scalar.cmpi .slt (8#32) (0#32)
  let v75 : BitVec 32 := Scalar.extui v74
  let v76 : BitVec 32 := Scalar.subi v73 v75
  let v77 : IVec S256x256 32 := broadcast S256x256 v76
  let v78 : IVec S256x256 1 := cmpi .ne v71 v77
  let v79 : IVec S256x256 32 := broadcast S256x256 (8#32)
  let v80 : IVec S256x256 32 := remsi v17 v79
  let v81 : IVec S256x256 32 := broadcast S256x256 (0#32)
  let v82 : IVec S256x256 1 := cmpi .ne v80 v81
  let v83 : IVec S256x256 1 := andi v78 v82
  let v84 : IVec S256x256 32 := broadcast S256x256 (1#32)
  let v85 : IVec S256x256 32 := subi v64 v84
  let v86 : IVec S256x256 32 := select v83 v85 v64
  addi v62 v86

/-- One-hot rows: row to key, wide tile. -/
def permA : FVec F S256x256 .bf16 :=
  let v1 : IVec S256x256 32 := iota .tc S256x256 32 [1] iota_S256x256_d1_w32
  let v88 : IVec S256x256 1 := cmpi .eq keyA v1
  let v89 : FVec F S256x256 .f32 := broadcast S256x256 (Scalar.ofBits .f32 0x3F800000#32)
  let v90 : FVec F S256x256 .f32 := broadcast S256x256 (Scalar.ofBits .f32 0x00000000#32)
  let v91 : FVec F S256x256 .f32 := select v88 v89 v90
  truncf .bf16 v91 bitsLt_bf16_f32

/-- The key that a row of a narrow tile holds. -/
def keyB : IVec S128x128 32 :=
  let v93 : IVec S128x128 32 := iota .tc S128x128 32 [0] iota_S128x128_d0_w32
  let v95 : BitVec 1 := Scalar.cmpi .eq (8#32) (0#32)
  let v96 : BitVec 32 := Scalar.select v95 (1#32) (8#32)
  let v97 : IVec S128x128 32 := broadcast S128x128 v96
  let v98 : IVec S128x128 32 := remsi v93 v97
  let v99 : IVec S128x128 32 := broadcast S128x128 (0#32)
  let v100 : IVec S128x128 1 := cmpi .ne v98 v99
  let v101 : IVec S128x128 32 := broadcast S128x128 (0#32)
  let v102 : IVec S128x128 1 := cmpi .slt v98 v101
  let v103 : BitVec 1 := Scalar.cmpi .slt v96 (0#32)
  let v104 : IVec S128x128 1 := broadcast S128x128 v103
  let v105 : IVec S128x128 1 := broadcastTo S128x128 v104 broadcasts_S128x128_S128x128
  let v106 : IVec S128x128 1 := xori v102 v105
  let v107 : IVec S128x128 1 := andi v106 v100
  let v108 : IVec S128x128 32 := broadcast S128x128 v96
  let v109 : IVec S128x128 32 := addi v98 v108
  let v110 : IVec S128x128 32 := select v107 v109 v98
  let v111 : BitVec 1 := Scalar.cmpi .eq (4#32) (0#32)
  let v112 : BitVec 32 := Scalar.select v111 (1#32) (4#32)
  let v113 : IVec S128x128 32 := broadcast S128x128 v112
  let v114 : IVec S128x128 32 := remsi v110 v113
  let v115 : IVec S128x128 32 := broadcast S128x128 (0#32)
  let v116 : IVec S128x128 1 := cmpi .ne v114 v115
  let v117 : IVec S128x128 32 := broadcast S128x128 (0#32)
  let v118 : IVec S128x128 1 := cmpi .slt v114 v117
  let v119 : BitVec 1 := Scalar.cmpi .slt v112 (0#32)
  let v120 : IVec S128x128 1 := broadcast S128x128 v119
  let v121 : IVec S128x128 1 := broadcastTo S128x128 v120 broadcasts_S128x128_S128x128
  let v122 : IVec S128x128 1 := xori v118 v121
  let v123 : IVec S128x128 1 := andi v122 v116
  let v124 : IVec S128x128 32 := broadcast S128x128 v112
  let v125 : IVec S128x128 32 := addi v114 v124
  let v126 : IVec S128x128 32 := select v123 v125 v114
  let v127 : IVec S128x128 32 := broadcast S128x128 (32#32)
  let v128 : IVec S128x128 32 := muli v127 v126
  let v129 : IVec S128x128 32 := broadcast S128x128 (8#32)
  let v130 : IVec S128x128 32 := divsi v93 v129
  let v131 : IVec S128x128 32 := broadcast S128x128 (0#32)
  let v132 : IVec S128x128 1 := cmpi .sgt v93 v131
  let v133 : IVec S128x128 32 := extui 32 v132 natLt_1_32
  let v134 : IVec S128x128 32 := broadcast S128x128 (0#32)
  let v135 : IVec S128x128 1 := cmpi .slt v93 v134
  let v136 : IVec S128x128 32 := extui 32 v135 natLt_1_32
  let v137 : IVec S128x128 32 := subi v133 v136
  let v138 : BitVec 1 := Scalar.cmpi .sgt (8#32) (0#32)
  let v139 : BitVec 32 := Scalar.extui v138
  let v140 : BitVec 1 := Scalar.cmpi .slt (8#32) (0#32)
  let v141 : BitVec 32 := Scalar.extui v140
  let v142 : BitVec 32 := Scalar.subi v139 v141
  let v143 : IVec S128x128 32 := broadcast S128x128 v142
  let v144 : IVec S128x128 1 := cmpi .ne v137 v143
  let v145 : IVec S128x128 32 := broadcast S128x128 (8#32)
  let v146 : IVec S128x128 32 := remsi v93 v145
  let v147 : IVec S128x128 32 := broadcast S128x128 (0#32)
  let v148 : IVec S128x128 1 := cmpi .ne v146 v147
  let v149 : IVec S128x128 1 := andi v144 v148
  let v150 : IVec S128x128 32 := broadcast S128x128 (1#32)
  let v151 : IVec S128x128 32 := subi v130 v150
  let v152 : IVec S128x128 32 := select v149 v151 v130
  let v153 : IVec S128x128 32 := broadcast S128x128 (2#32)
  let v154 : IVec S128x128 32 := muli v153 v152
  let v155 : IVec S128x128 32 := addi v128 v154
  let v156 : IVec S128x128 32 := broadcast S128x128 (4#32)
  let v157 : IVec S128x128 32 := divsi v110 v156
  let v158 : IVec S128x128 32 := broadcast S128x128 (0#32)
  let v159 : IVec S128x128 1 := cmpi .sgt v110 v158
  let v160 : IVec S128x128 32 := extui 32 v159 natLt_1_32
  let v161 : IVec S128x128 32 := broadcast S128x128 (0#32)
  let v162 : IVec S128x128 1 := cmpi .slt v110 v161
  let v163 : IVec S128x128 32 := extui 32 v162 natLt_1_32
  let v164 : IVec S128x128 32 := subi v160 v163
  let v165 : BitVec 1 := Scalar.cmpi .sgt (4#32) (0#32)
  let v166 : BitVec 32 := Scalar.extui v165
  let v167 : BitVec 1 := Scalar.cmpi .slt (4#32) (0#32)
  let v168 : BitVec 32 := Scalar.extui v167
  let v169 : BitVec 32 := Scalar.subi v166 v168
  let v170 : IVec S128x128 32 := broadcast S128x128 v169
  let v171 : IVec S128x128 1 := cmpi .ne v164 v170
  let v172 : IVec S128x128 32 := broadcast S128x128 (4#32)
  let v173 : IVec S128x128 32 := remsi v110 v172
  let v174 : IVec S128x128 32 := broadcast S128x128 (0#32)
  let v175 : IVec S128x128 1 := cmpi .ne v173 v174
  let v176 : IVec S128x128 1 := andi v171 v175
  let v177 : IVec S128x128 32 := broadcast S128x128 (1#32)
  let v178 : IVec S128x128 32 := subi v157 v177
  let v179 : IVec S128x128 32 := select v176 v178 v157
  addi v155 v179

/-- One-hot rows: row to key, narrow tile. -/
def permB : FVec F S128x128 .bf16 :=
  let v94 : IVec S128x128 32 := iota .tc S128x128 32 [1] iota_S128x128_d1_w32
  let v181 : IVec S128x128 1 := cmpi .eq keyB v94
  let v182 : FVec F S128x128 .f32 := broadcast S128x128 (Scalar.ofBits .f32 0x3F800000#32)
  let v183 : FVec F S128x128 .f32 := broadcast S128x128 (Scalar.ofBits .f32 0x00000000#32)
  let v184 : FVec F S128x128 .f32 := select v181 v182 v183
  truncf .bf16 v184 bitsLt_bf16_f32

/-- The key that a row of a wide mask holds. -/
def keyMA : IVec S256x128 32 :=
  let v186 : IVec S256x128 32 := iota .tc S256x128 32 [0] iota_S256x128_d0_w32
  let v187 : BitVec 1 := Scalar.cmpi .eq (8#32) (0#32)
  let v188 : BitVec 32 := Scalar.select v187 (1#32) (8#32)
  let v189 : IVec S256x128 32 := broadcast S256x128 v188
  let v190 : IVec S256x128 32 := remsi v186 v189
  let v191 : IVec S256x128 32 := broadcast S256x128 (0#32)
  let v192 : IVec S256x128 1 := cmpi .ne v190 v191
  let v193 : IVec S256x128 32 := broadcast S256x128 (0#32)
  let v194 : IVec S256x128 1 := cmpi .slt v190 v193
  let v195 : BitVec 1 := Scalar.cmpi .slt v188 (0#32)
  let v196 : IVec S256x128 1 := broadcast S256x128 v195
  let v197 : IVec S256x128 1 := broadcastTo S256x128 v196 broadcasts_S256x128_S256x128
  let v198 : IVec S256x128 1 := xori v194 v197
  let v199 : IVec S256x128 1 := andi v198 v192
  let v200 : IVec S256x128 32 := broadcast S256x128 v188
  let v201 : IVec S256x128 32 := addi v190 v200
  let v202 : IVec S256x128 32 := select v199 v201 v190
  let v203 : BitVec 1 := Scalar.cmpi .eq (8#32) (0#32)
  let v204 : BitVec 32 := Scalar.select v203 (1#32) (8#32)
  let v205 : IVec S256x128 32 := broadcast S256x128 v204
  let v206 : IVec S256x128 32 := remsi v202 v205
  let v207 : IVec S256x128 32 := broadcast S256x128 (0#32)
  let v208 : IVec S256x128 1 := cmpi .ne v206 v207
  let v209 : IVec S256x128 32 := broadcast S256x128 (0#32)
  let v210 : IVec S256x128 1 := cmpi .slt v206 v209
  let v211 : BitVec 1 := Scalar.cmpi .slt v204 (0#32)
  let v212 : IVec S256x128 1 := broadcast S256x128 v211
  let v213 : IVec S256x128 1 := broadcastTo S256x128 v212 broadcasts_S256x128_S256x128
  let v214 : IVec S256x128 1 := xori v210 v213
  let v215 : IVec S256x128 1 := andi v214 v208
  let v216 : IVec S256x128 32 := broadcast S256x128 v204
  let v217 : IVec S256x128 32 := addi v206 v216
  let v218 : IVec S256x128 32 := select v215 v217 v206
  let v219 : IVec S256x128 32 := broadcast S256x128 (32#32)
  let v220 : IVec S256x128 32 := muli v219 v218
  let v221 : IVec S256x128 32 := broadcast S256x128 (8#32)
  let v222 : IVec S256x128 32 := divsi v186 v221
  let v223 : IVec S256x128 32 := broadcast S256x128 (0#32)
  let v224 : IVec S256x128 1 := cmpi .sgt v186 v223
  let v225 : IVec S256x128 32 := extui 32 v224 natLt_1_32
  let v226 : IVec S256x128 32 := broadcast S256x128 (0#32)
  let v227 : IVec S256x128 1 := cmpi .slt v186 v226
  let v228 : IVec S256x128 32 := extui 32 v227 natLt_1_32
  let v229 : IVec S256x128 32 := subi v225 v228
  let v230 : BitVec 1 := Scalar.cmpi .sgt (8#32) (0#32)
  let v231 : BitVec 32 := Scalar.extui v230
  let v232 : BitVec 1 := Scalar.cmpi .slt (8#32) (0#32)
  let v233 : BitVec 32 := Scalar.extui v232
  let v234 : BitVec 32 := Scalar.subi v231 v233
  let v235 : IVec S256x128 32 := broadcast S256x128 v234
  let v236 : IVec S256x128 1 := cmpi .ne v229 v235
  let v237 : IVec S256x128 32 := broadcast S256x128 (8#32)
  let v238 : IVec S256x128 32 := remsi v186 v237
  let v239 : IVec S256x128 32 := broadcast S256x128 (0#32)
  let v240 : IVec S256x128 1 := cmpi .ne v238 v239
  let v241 : IVec S256x128 1 := andi v236 v240
  let v242 : IVec S256x128 32 := broadcast S256x128 (1#32)
  let v243 : IVec S256x128 32 := subi v222 v242
  let v244 : IVec S256x128 32 := select v241 v243 v222
  let v245 : IVec S256x128 32 := broadcast S256x128 (1#32)
  let v246 : IVec S256x128 32 := muli v245 v244
  let v247 : IVec S256x128 32 := addi v220 v246
  let v248 : IVec S256x128 32 := broadcast S256x128 (8#32)
  let v249 : IVec S256x128 32 := divsi v202 v248
  let v250 : IVec S256x128 32 := broadcast S256x128 (0#32)
  let v251 : IVec S256x128 1 := cmpi .sgt v202 v250
  let v252 : IVec S256x128 32 := extui 32 v251 natLt_1_32
  let v253 : IVec S256x128 32 := broadcast S256x128 (0#32)
  let v254 : IVec S256x128 1 := cmpi .slt v202 v253
  let v255 : IVec S256x128 32 := extui 32 v254 natLt_1_32
  let v256 : IVec S256x128 32 := subi v252 v255
  let v257 : BitVec 1 := Scalar.cmpi .sgt (8#32) (0#32)
  let v258 : BitVec 32 := Scalar.extui v257
  let v259 : BitVec 1 := Scalar.cmpi .slt (8#32) (0#32)
  let v260 : BitVec 32 := Scalar.extui v259
  let v261 : BitVec 32 := Scalar.subi v258 v260
  let v262 : IVec S256x128 32 := broadcast S256x128 v261
  let v263 : IVec S256x128 1 := cmpi .ne v256 v262
  let v264 : IVec S256x128 32 := broadcast S256x128 (8#32)
  let v265 : IVec S256x128 32 := remsi v202 v264
  let v266 : IVec S256x128 32 := broadcast S256x128 (0#32)
  let v267 : IVec S256x128 1 := cmpi .ne v265 v266
  let v268 : IVec S256x128 1 := andi v263 v267
  let v269 : IVec S256x128 32 := broadcast S256x128 (1#32)
  let v270 : IVec S256x128 32 := subi v249 v269
  let v271 : IVec S256x128 32 := select v268 v270 v249
  addi v247 v271

/-- The causal mask of a wide diagonal tile. -/
def maskA : FVec F S256x128 .bf16 :=
  let v273 : IVec S256x128 32 := iota .tc S256x128 32 [1] iota_S256x128_d1_w32
  let v274 : IVec S256x128 32 := broadcast S256x128 (128#32)
  let v275 : IVec S256x128 32 := addi v273 v274
  let v276 : IVec S256x128 1 := cmpi .sgt keyMA v275
  let v277 : FVec F S256x128 .f32 := broadcast S256x128 (Named.named κ "neg_inf" 0xFE967699#32)
  let v278 : FVec F S256x128 .f32 := broadcast S256x128 (Scalar.ofBits .f32 0x00000000#32)
  let v279 : FVec F S256x128 .f32 := select v276 v277 v278
  truncf .bf16 v279 bitsLt_bf16_f32

/-- The key that a row of a narrow mask holds. -/
def keyMB : IVec S128x128 32 :=
  let v281 : IVec S128x128 32 := iota .tc S128x128 32 [0] iota_S128x128_d0_w32
  let v282 : BitVec 1 := Scalar.cmpi .eq (8#32) (0#32)
  let v283 : BitVec 32 := Scalar.select v282 (1#32) (8#32)
  let v284 : IVec S128x128 32 := broadcast S128x128 v283
  let v285 : IVec S128x128 32 := remsi v281 v284
  let v286 : IVec S128x128 32 := broadcast S128x128 (0#32)
  let v287 : IVec S128x128 1 := cmpi .ne v285 v286
  let v288 : IVec S128x128 32 := broadcast S128x128 (0#32)
  let v289 : IVec S128x128 1 := cmpi .slt v285 v288
  let v290 : BitVec 1 := Scalar.cmpi .slt v283 (0#32)
  let v291 : IVec S128x128 1 := broadcast S128x128 v290
  let v292 : IVec S128x128 1 := broadcastTo S128x128 v291 broadcasts_S128x128_S128x128
  let v293 : IVec S128x128 1 := xori v289 v292
  let v294 : IVec S128x128 1 := andi v293 v287
  let v295 : IVec S128x128 32 := broadcast S128x128 v283
  let v296 : IVec S128x128 32 := addi v285 v295
  let v297 : IVec S128x128 32 := select v294 v296 v285
  let v298 : BitVec 1 := Scalar.cmpi .eq (4#32) (0#32)
  let v299 : BitVec 32 := Scalar.select v298 (1#32) (4#32)
  let v300 : IVec S128x128 32 := broadcast S128x128 v299
  let v301 : IVec S128x128 32 := remsi v297 v300
  let v302 : IVec S128x128 32 := broadcast S128x128 (0#32)
  let v303 : IVec S128x128 1 := cmpi .ne v301 v302
  let v304 : IVec S128x128 32 := broadcast S128x128 (0#32)
  let v305 : IVec S128x128 1 := cmpi .slt v301 v304
  let v306 : BitVec 1 := Scalar.cmpi .slt v299 (0#32)
  let v307 : IVec S128x128 1 := broadcast S128x128 v306
  let v308 : IVec S128x128 1 := broadcastTo S128x128 v307 broadcasts_S128x128_S128x128
  let v309 : IVec S128x128 1 := xori v305 v308
  let v310 : IVec S128x128 1 := andi v309 v303
  let v311 : IVec S128x128 32 := broadcast S128x128 v299
  let v312 : IVec S128x128 32 := addi v301 v311
  let v313 : IVec S128x128 32 := select v310 v312 v301
  let v314 : IVec S128x128 32 := broadcast S128x128 (32#32)
  let v315 : IVec S128x128 32 := muli v314 v313
  let v316 : IVec S128x128 32 := broadcast S128x128 (8#32)
  let v317 : IVec S128x128 32 := divsi v281 v316
  let v318 : IVec S128x128 32 := broadcast S128x128 (0#32)
  let v319 : IVec S128x128 1 := cmpi .sgt v281 v318
  let v320 : IVec S128x128 32 := extui 32 v319 natLt_1_32
  let v321 : IVec S128x128 32 := broadcast S128x128 (0#32)
  let v322 : IVec S128x128 1 := cmpi .slt v281 v321
  let v323 : IVec S128x128 32 := extui 32 v322 natLt_1_32
  let v324 : IVec S128x128 32 := subi v320 v323
  let v325 : BitVec 1 := Scalar.cmpi .sgt (8#32) (0#32)
  let v326 : BitVec 32 := Scalar.extui v325
  let v327 : BitVec 1 := Scalar.cmpi .slt (8#32) (0#32)
  let v328 : BitVec 32 := Scalar.extui v327
  let v329 : BitVec 32 := Scalar.subi v326 v328
  let v330 : IVec S128x128 32 := broadcast S128x128 v329
  let v331 : IVec S128x128 1 := cmpi .ne v324 v330
  let v332 : IVec S128x128 32 := broadcast S128x128 (8#32)
  let v333 : IVec S128x128 32 := remsi v281 v332
  let v334 : IVec S128x128 32 := broadcast S128x128 (0#32)
  let v335 : IVec S128x128 1 := cmpi .ne v333 v334
  let v336 : IVec S128x128 1 := andi v331 v335
  let v337 : IVec S128x128 32 := broadcast S128x128 (1#32)
  let v338 : IVec S128x128 32 := subi v317 v337
  let v339 : IVec S128x128 32 := select v336 v338 v317
  let v340 : IVec S128x128 32 := broadcast S128x128 (2#32)
  let v341 : IVec S128x128 32 := muli v340 v339
  let v342 : IVec S128x128 32 := addi v315 v341
  let v343 : IVec S128x128 32 := broadcast S128x128 (4#32)
  let v344 : IVec S128x128 32 := divsi v297 v343
  let v345 : IVec S128x128 32 := broadcast S128x128 (0#32)
  let v346 : IVec S128x128 1 := cmpi .sgt v297 v345
  let v347 : IVec S128x128 32 := extui 32 v346 natLt_1_32
  let v348 : IVec S128x128 32 := broadcast S128x128 (0#32)
  let v349 : IVec S128x128 1 := cmpi .slt v297 v348
  let v350 : IVec S128x128 32 := extui 32 v349 natLt_1_32
  let v351 : IVec S128x128 32 := subi v347 v350
  let v352 : BitVec 1 := Scalar.cmpi .sgt (4#32) (0#32)
  let v353 : BitVec 32 := Scalar.extui v352
  let v354 : BitVec 1 := Scalar.cmpi .slt (4#32) (0#32)
  let v355 : BitVec 32 := Scalar.extui v354
  let v356 : BitVec 32 := Scalar.subi v353 v355
  let v357 : IVec S128x128 32 := broadcast S128x128 v356
  let v358 : IVec S128x128 1 := cmpi .ne v351 v357
  let v359 : IVec S128x128 32 := broadcast S128x128 (4#32)
  let v360 : IVec S128x128 32 := remsi v297 v359
  let v361 : IVec S128x128 32 := broadcast S128x128 (0#32)
  let v362 : IVec S128x128 1 := cmpi .ne v360 v361
  let v363 : IVec S128x128 1 := andi v358 v362
  let v364 : IVec S128x128 32 := broadcast S128x128 (1#32)
  let v365 : IVec S128x128 32 := subi v344 v364
  let v366 : IVec S128x128 32 := select v363 v365 v344
  addi v342 v366

/-- The causal mask of a narrow diagonal tile. -/
def maskB : FVec F S128x128 .bf16 :=
  let v368 : IVec S128x128 32 := iota .tc S128x128 32 [1] iota_S128x128_d1_w32
  let v369 : IVec S128x128 32 := broadcast S128x128 (0#32)
  let v370 : IVec S128x128 32 := addi v368 v369
  let v371 : IVec S128x128 1 := cmpi .sgt keyMB v370
  let v372 : FVec F S128x128 .f32 := broadcast S128x128 (Named.named κ "neg_inf" 0xFE967699#32)
  let v373 : FVec F S128x128 .f32 := broadcast S128x128 (Scalar.ofBits .f32 0x00000000#32)
  let v374 : FVec F S128x128 .f32 := select v371 v372 v373
  truncf .bf16 v374 bitsLt_bf16_f32

/-- The identity matrix under each query tile. -/
def eyeM : FVec F S128x128 .bf16 :=
  let v616 : IVec S128x128 32 := iota .tc S128x128 32 [0] iota_S128x128_d0_w32
  let v617 : IVec S128x128 32 := iota .tc S128x128 32 [1] iota_S128x128_d1_w32
  let v618 : IVec S128x128 1 := cmpi .eq v616 v617
  let v619 : FVec F S128x128 .f32 := broadcast S128x128 (Scalar.ofBits .f32 0x3F800000#32)
  let v620 : FVec F S128x128 .f32 := broadcast S128x128 (Scalar.ofBits .f32 0x00000000#32)
  let v621 : FVec F S128x128 .f32 := select v618 v619 v620
  truncf .bf16 v621 bitsLt_bf16_f32

/-- The power of two a scale byte denotes: the byte placed in the exponent field. -/
def pow2 (s : Shape) (b : IVec s 32) : FVec F s .f32 :=
  bitcastToFloat .f32 (shli b (broadcast s 23#32))

/-- A zero accumulator. -/
def zeroS (s : Shape) : FVec F s .f32 := constant s FTy.f32 0#32

/-- The key tile, transposed and scaled. -/
def kT (k : Vec F S1x1x256x128 .fp8e4m3) (ks : Vec F S1x1x4x256 .i8) : FVec F S128x256 .bf16 :=
  mulf (transpose S128x256 [1, 0] (extf .bf16 (shapeCast S256x128 k shapeCasts_S1x1x256x128_S256x128) bitsLt_fp8e4m3_bf16) transposes_S256x128_p1_0_S128x256)
    (truncf .bf16 (shapeCast S128x256 (broadcastTo S4x32x256 (shapeCast S4x1x256 (shapeCast S4x1x256
      (pow2 S4x256 (extui 32 (shapeCast S4x256 ks shapeCasts_S1x1x4x256_S4x256) natLt_8_32)) shapeCasts_S4x256_S4x1x256) shapeCasts_S4x1x256_S4x1x256)
      broadcasts_S4x1x256_S4x32x256) shapeCasts_S4x32x256_S128x256) bitsLt_bf16_f32)

/-- The value tile, scaled and transposed. -/
def vT (v : Vec F S1x1x256x128 .fp8e4m3) (vs : Vec F S1x1x8x128 .i8) : FVec F S128x256 .bf16 :=
  transpose S128x256 [1, 0]
    (mulf (extf .bf16 (shapeCast S256x128 v shapeCasts_S1x1x256x128_S256x128) bitsLt_fp8e4m3_bf16)
      (truncf .bf16 (shapeCast S256x128 (broadcastTo S8x32x128 (shapeCast S8x1x128 (shapeCast S8x1x128
        (pow2 S8x128 (extui 32 (shapeCast S8x128 vs shapeCasts_S1x1x8x128_S8x128) natLt_8_32)) shapeCasts_S8x128_S8x1x128) shapeCasts_S8x1x128_S8x1x128)
        broadcasts_S8x1x128_S8x32x128) shapeCasts_S8x32x128_S256x128) bitsLt_bf16_f32)) transposes_S256x128_p1_0_S128x256

/-- The query tile, transposed and scaled. -/
def qT (q : Vec F S1x1x128x128 .fp8e4m3) (qs : Vec F S1x1x4x128 .i8) : FVec F S128x128 .bf16 :=
  mulf (transpose S128x128 [1, 0] (extf .bf16 (shapeCast S128x128 q shapeCasts_S1x1x128x128_S128x128) bitsLt_fp8e4m3_bf16) transposes_S128x128_p1_0_S128x128)
    (truncf .bf16 (shapeCast S128x128 (broadcastTo S4x32x128 (shapeCast S4x1x128 (shapeCast S4x1x128
      (pow2 S4x128 (extui 32 (shapeCast S4x128 qs shapeCasts_S1x1x4x128_S4x128) natLt_8_32)) shapeCasts_S4x128_S4x1x128) shapeCasts_S4x1x128_S4x1x128)
      broadcasts_S4x1x128_S4x32x128) shapeCasts_S4x32x128_S128x128) bitsLt_bf16_f32)

/-- Stored key rows of a wide tile. -/
def kaP (k : FVec F S128x256 .bf16) : FVec F S1x256x128 .bf16 :=
  shapeCast S1x256x128 (truncf .bf16 (matmul dot_S256x256_S128x256_S256x128_1_1_0_0_n_n none permA k (zeroS S256x128)) bitsLt_bf16_f32) shapeCasts_S256x128_S1x256x128

/-- Stored mask columns of a wide tile. -/
def kaM : FVec F S1x256x128 .bf16 := shapeCast S1x256x128 maskA shapeCasts_S256x128_S1x256x128

/-- Stored key rows of a narrow tile. -/
def kbP (k : FVec F S128x256 .bf16) : FVec F S1x128x128 .bf16 :=
  shapeCast S1x128x128 (truncf .bf16 (matmul dot_S128x128_S128x128_S128x128_1_1_0_0_n_n none permB
    (extractStridedSlice S128x128 ![0, 0] k slices_S128x256_o0_0_S128x128) (zeroS S128x128)) bitsLt_bf16_f32) shapeCasts_S128x128_S1x128x128

/-- Stored mask columns of a narrow tile. -/
def kbM : FVec F S1x128x128 .bf16 := shapeCast S1x128x128 maskB shapeCasts_S128x128_S1x128x128

/-- Stored value columns of a wide tile. -/
def vaP (v : FVec F S128x256 .bf16) : FVec F S1x128x256 .bf16 :=
  shapeCast S1x128x256 (truncf .bf16 (matmul dot_S128x256_S256x256_S128x256_1_1_0_0_n_n none v permA (zeroS S128x256)) bitsLt_bf16_f32) shapeCasts_S128x256_S1x128x256

/-- Stored value columns of a narrow tile. -/
def vbP (v : FVec F S128x256 .bf16) : FVec F S1x128x128 .bf16 :=
  shapeCast S1x128x128 (truncf .bf16 (matmul dot_S128x128_S128x128_S128x128_1_1_0_0_n_n none
    (extractStridedSlice S128x128 ![0, 0] v slices_S128x256_o0_0_S128x128) permB (zeroS S128x128)) bitsLt_bf16_f32) shapeCasts_S128x128_S1x128x128

/-- Stored query columns. -/
def qP (q : FVec F S128x128 .bf16) : FVec F S1x128x128 .bf16 := shapeCast S1x128x128 q shapeCasts_S128x128_S1x128x128

/-- One step of the search for the exponent byte. -/
def bitStep (s : Shape) (x : FVec F s .f32) (bit : BitVec 32) (eb : IVec s 32) : IVec s 32 :=
  select (cmpf .oge x (pow2 s (addi eb (broadcast s bit)))) (addi eb (broadcast s bit)) eb

/-- The exponent byte of a non-negative vector, found bit by bit from above. -/
def expByte (s : Shape) (x : FVec F s .f32) : IVec s 32 :=
  bitStep s x 1#32 (bitStep s x 2#32 (bitStep s x 4#32 (bitStep s x 8#32 (bitStep s x 16#32
    (bitStep s x 32#32 (bitStep s x 64#32 (bitStep s x 128#32 (broadcast s 0#32))))))))

/-- The scale byte of a block whose largest entry is `a`. -/
def byteOf (s : Shape) (a : FVec F s .f32) : IVec s 32 :=
  select (cmpi .eq (expByte s (mulf a (broadcast s (Scalar.ofBits .f32 0x3B124925#32)))) (broadcast s 0#32)) (broadcast s 127#32)
    (addi (expByte s (mulf a (broadcast s (Scalar.ofBits .f32 0x3B124925#32)))) (broadcast s 1#32))

/-- The inverse of the scale a byte denotes. -/
def invOf (s : Shape) (b : IVec s 32) : FVec F s .f32 := pow2 s (subi (broadcast s 254#32) b)

/-- The factor the scores meet before the power of two. -/
def scl : F .f32 := Named.named κ "exp2_scale" 0x3E0293EE#32

/-- `exp2 ((a - b) * scale)`, entry by entry. -/
def wgt (s : Shape) (a b : FVec F s .f32) : FVec F s .f32 := exp2 (mulf (subf a b) (broadcast s scl))

/-- The lane maximum over all eight sublanes. -/
def rollMax256 (k : BitVec 32) (x : FVec F S8x256 .f32) : FVec F S8x256 .f32 := maximumf x (dynamicRotate 0 k none x rotates_S8x256_d0)

/-- One roll and add. -/
def rollAdd256 (k : BitVec 32) (x : FVec F S8x256 .f32) : FVec F S8x256 .f32 := addf x (dynamicRotate 0 k none x rotates_S8x256_d0)

/-- The sum over all eight sublanes, in each of them. -/
def allAdd256 (x : FVec F S8x256 .f32) : FVec F S8x256 .f32 := rollAdd256 1#32 (rollAdd256 2#32 (rollAdd256 4#32 x))

/-- The fold of the 32 sublane rows by `op`, four ways. -/
def fold32_256 (op : FVec F S8x256 .f32 → FVec F S8x256 .f32 → FVec F S8x256 .f32) (x : FVec F S32x8x256 .f32) : FVec F S8x256 .f32 :=
  op (op (op (op (op (op (op (op (op (shapeCast S8x256 (extractStridedSlice S1x8x256 ![0, 0, 0] x slices_S32x8x256_o0_0_0_S1x8x256) shapeCasts_S1x8x256_S8x256)
      (shapeCast S8x256 (extractStridedSlice S1x8x256 ![4, 0, 0] x slices_S32x8x256_o4_0_0_S1x8x256) shapeCasts_S1x8x256_S8x256))
      (shapeCast S8x256 (extractStridedSlice S1x8x256 ![8, 0, 0] x slices_S32x8x256_o8_0_0_S1x8x256) shapeCasts_S1x8x256_S8x256))
      (shapeCast S8x256 (extractStridedSlice S1x8x256 ![12, 0, 0] x slices_S32x8x256_o12_0_0_S1x8x256) shapeCasts_S1x8x256_S8x256))
      (shapeCast S8x256 (extractStridedSlice S1x8x256 ![16, 0, 0] x slices_S32x8x256_o16_0_0_S1x8x256) shapeCasts_S1x8x256_S8x256))
      (shapeCast S8x256 (extractStridedSlice S1x8x256 ![20, 0, 0] x slices_S32x8x256_o20_0_0_S1x8x256) shapeCasts_S1x8x256_S8x256))
      (shapeCast S8x256 (extractStridedSlice S1x8x256 ![24, 0, 0] x slices_S32x8x256_o24_0_0_S1x8x256) shapeCasts_S1x8x256_S8x256))
      (shapeCast S8x256 (extractStridedSlice S1x8x256 ![28, 0, 0] x slices_S32x8x256_o28_0_0_S1x8x256) shapeCasts_S1x8x256_S8x256))
    (op (op (op (op (op (op (op (shapeCast S8x256 (extractStridedSlice S1x8x256 ![1, 0, 0] x slices_S32x8x256_o1_0_0_S1x8x256) shapeCasts_S1x8x256_S8x256)
      (shapeCast S8x256 (extractStridedSlice S1x8x256 ![5, 0, 0] x slices_S32x8x256_o5_0_0_S1x8x256) shapeCasts_S1x8x256_S8x256))
      (shapeCast S8x256 (extractStridedSlice S1x8x256 ![9, 0, 0] x slices_S32x8x256_o9_0_0_S1x8x256) shapeCasts_S1x8x256_S8x256))
      (shapeCast S8x256 (extractStridedSlice S1x8x256 ![13, 0, 0] x slices_S32x8x256_o13_0_0_S1x8x256) shapeCasts_S1x8x256_S8x256))
      (shapeCast S8x256 (extractStridedSlice S1x8x256 ![17, 0, 0] x slices_S32x8x256_o17_0_0_S1x8x256) shapeCasts_S1x8x256_S8x256))
      (shapeCast S8x256 (extractStridedSlice S1x8x256 ![21, 0, 0] x slices_S32x8x256_o21_0_0_S1x8x256) shapeCasts_S1x8x256_S8x256))
      (shapeCast S8x256 (extractStridedSlice S1x8x256 ![25, 0, 0] x slices_S32x8x256_o25_0_0_S1x8x256) shapeCasts_S1x8x256_S8x256))
      (shapeCast S8x256 (extractStridedSlice S1x8x256 ![29, 0, 0] x slices_S32x8x256_o29_0_0_S1x8x256) shapeCasts_S1x8x256_S8x256)))
   (op (op (op (op (op (op (op (op (shapeCast S8x256 (extractStridedSlice S1x8x256 ![2, 0, 0] x slices_S32x8x256_o2_0_0_S1x8x256) shapeCasts_S1x8x256_S8x256)
      (shapeCast S8x256 (extractStridedSlice S1x8x256 ![6, 0, 0] x slices_S32x8x256_o6_0_0_S1x8x256) shapeCasts_S1x8x256_S8x256))
      (shapeCast S8x256 (extractStridedSlice S1x8x256 ![10, 0, 0] x slices_S32x8x256_o10_0_0_S1x8x256) shapeCasts_S1x8x256_S8x256))
      (shapeCast S8x256 (extractStridedSlice S1x8x256 ![14, 0, 0] x slices_S32x8x256_o14_0_0_S1x8x256) shapeCasts_S1x8x256_S8x256))
      (shapeCast S8x256 (extractStridedSlice S1x8x256 ![18, 0, 0] x slices_S32x8x256_o18_0_0_S1x8x256) shapeCasts_S1x8x256_S8x256))
      (shapeCast S8x256 (extractStridedSlice S1x8x256 ![22, 0, 0] x slices_S32x8x256_o22_0_0_S1x8x256) shapeCasts_S1x8x256_S8x256))
      (shapeCast S8x256 (extractStridedSlice S1x8x256 ![26, 0, 0] x slices_S32x8x256_o26_0_0_S1x8x256) shapeCasts_S1x8x256_S8x256))
      (shapeCast S8x256 (extractStridedSlice S1x8x256 ![30, 0, 0] x slices_S32x8x256_o30_0_0_S1x8x256) shapeCasts_S1x8x256_S8x256))
    (op (op (op (op (op (op (op (shapeCast S8x256 (extractStridedSlice S1x8x256 ![3, 0, 0] x slices_S32x8x256_o3_0_0_S1x8x256) shapeCasts_S1x8x256_S8x256)
      (shapeCast S8x256 (extractStridedSlice S1x8x256 ![7, 0, 0] x slices_S32x8x256_o7_0_0_S1x8x256) shapeCasts_S1x8x256_S8x256))
      (shapeCast S8x256 (extractStridedSlice S1x8x256 ![11, 0, 0] x slices_S32x8x256_o11_0_0_S1x8x256) shapeCasts_S1x8x256_S8x256))
      (shapeCast S8x256 (extractStridedSlice S1x8x256 ![15, 0, 0] x slices_S32x8x256_o15_0_0_S1x8x256) shapeCasts_S1x8x256_S8x256))
      (shapeCast S8x256 (extractStridedSlice S1x8x256 ![19, 0, 0] x slices_S32x8x256_o19_0_0_S1x8x256) shapeCasts_S1x8x256_S8x256))
      (shapeCast S8x256 (extractStridedSlice S1x8x256 ![23, 0, 0] x slices_S32x8x256_o23_0_0_S1x8x256) shapeCasts_S1x8x256_S8x256))
      (shapeCast S8x256 (extractStridedSlice S1x8x256 ![27, 0, 0] x slices_S32x8x256_o27_0_0_S1x8x256) shapeCasts_S1x8x256_S8x256))
      (shapeCast S8x256 (extractStridedSlice S1x8x256 ![31, 0, 0] x slices_S32x8x256_o31_0_0_S1x8x256) shapeCasts_S1x8x256_S8x256)))

/-- The block maxima of a wide tile. -/
def bm32_256 (s : FVec F S32x8x256 .f32) : FVec F S8x256 .f32 := fold32_256 maximumf s

/-- The tile maximum of a wide tile, in every sublane. -/
def tm32_256 (s : FVec F S32x8x256 .f32) : FVec F S8x256 .f32 := rollMax256 1#32 (rollMax256 2#32 (rollMax256 4#32 (bm32_256 s)))

/-- The exponentials of a tile against the running maximum. -/
def ex32_256 (s : FVec F S32x8x256 .f32) (m : FVec F S8x256 .f32) : FVec F S32x8x256 .f32 :=
  wgt S32x8x256 s (broadcastTo S32x8x256 (shapeCast S1x8x256 m shapeCasts_S8x256_S1x8x256) broadcasts_S1x8x256_S32x8x256)

/-- What the exponentials are stored as. -/
def exP32_256 (s : FVec F S32x8x256 .f32) (m : FVec F S8x256 .f32) : FVec F S1x32x8x256 .f32 :=
  shapeCast S1x32x8x256 (ex32_256 s m) shapeCasts_S32x8x256_S1x32x8x256

/-- The row sums of the exponentials, per sublane. -/
def ls32_256 (s : FVec F S32x8x256 .f32) (m : FVec F S8x256 .f32) : FVec F S8x256 .f32 := fold32_256 addf (ex32_256 s m)

/-- The product of a tile's values with its quantised weights: `e` the stored exponentials, `bm` the block
    maxima, `mj` the maximum they were taken against, `m` the last one, `rl` the reciprocal of the sum. -/
def pv32_256 (e : Vec F S1x32x8x256 .f32) (bm mj m rl : FVec F S8x256 .f32) (vv : FVec F S128x256 .bf16) : FVec F S128x256 .f32 :=
  let f := mulf (wgt S8x256 mj m) rl
  let byte := byteOf S8x256 (mulf (wgt S8x256 bm mj) f)
  let f2 := mulf f (invOf S8x256 byte)
  let x := minimumf (mulf (shapeCast S32x8x256 e shapeCasts_S1x32x8x256_S32x8x256) (broadcastTo S32x8x256 (shapeCast S1x8x256 f2 shapeCasts_S8x256_S1x8x256) broadcasts_S1x8x256_S32x8x256))
    (broadcast S32x8x256 (Scalar.ofBits .f32 0x43E00000#32))
  let p := extf .bf16 (truncf .fp8e4m3 (shapeCast S256x256 x shapeCasts_S32x8x256_S256x256) bitsLt_fp8e4m3_f32) bitsLt_fp8e4m3_bf16
  let ps := pow2 S8x256 byte
  let pp := truncf .bf16 (concatenate S16x256 0 [⟨S8x256, ps⟩, ⟨S8x256, ps⟩] concatenates_S8x256_S8x256_S16x256_d0) bitsLt_bf16_f32
  let p2 := mulf (shapeCast S16x16x256 p shapeCasts_S256x256_S16x16x256)
    (broadcastTo S16x16x256 (shapeCast S1x16x256 pp shapeCasts_S16x256_S1x16x256) broadcasts_S1x16x256_S16x16x256)
  matmul dot_S128x256_S256x256_S128x256_1_0_0_1_n_n none vv (shapeCast S256x256 p2 shapeCasts_S16x16x256_S256x256) (zeroS S128x256)

/-- The scores of a tile, 128 columns contracted. -/
def sc32_256_128 (kk : FVec F S256x128 .bf16) (qq : FVec F S128x256 .bf16) : FVec F S32x8x256 .f32 :=
  shapeCast S32x8x256 (matmul dot_S256x128_S128x256_S256x256_1_0_0_1_n_n none kk qq (zeroS S256x256)) shapeCasts_S256x256_S32x8x256

/-- The scores of a tile, 256 columns contracted. -/
def sc32_256_256 (kk : FVec F S256x256 .bf16) (qq : FVec F S256x256 .bf16) : FVec F S32x8x256 .f32 :=
  shapeCast S32x8x256 (matmul dot_S256x256_S256x256_S256x256_1_0_0_1_n_n none kk qq (zeroS S256x256)) shapeCasts_S256x256_S32x8x256

/-- The output of a query tile over 0 wide tiles and a wide diagonal one, the weights' exponentials read back. -/
def out32_256_0 (s0 : FVec F S32x8x256 .f32) (e0 : Vec F S1x32x8x256 .f32) (v0 : FVec F S128x256 .bf16) : FVec F S128x256 .f32 :=
  let m0 := tm32_256 s0
  let l0 := ls32_256 s0 m0
  let rl := divf (broadcast S8x256 (Scalar.ofBits .f32 0x3F800000#32)) (allAdd256 l0)
  pv32_256 e0 (bm32_256 s0) m0 m0 rl v0

/-- The running maximum after all 1 tiles. -/
def mx32_256_0 (s0 : FVec F S32x8x256 .f32) : FVec F S8x256 .f32 :=
  let m0 := tm32_256 s0
  m0

/-- The output of a query tile over 1 wide tiles and a wide diagonal one, the weights' exponentials read back. -/
def out32_256_1 (s0 : FVec F S32x8x256 .f32) (s1 : FVec F S32x8x256 .f32) (e0 : Vec F S1x32x8x256 .f32) (e1 : Vec F S1x32x8x256 .f32) (v0 : FVec F S128x256 .bf16) (v1 : FVec F S128x256 .bf16) : FVec F S128x256 .f32 :=
  let m0 := tm32_256 s0
  let m1 := maximumf m0 (tm32_256 s1)
  let l0 := ls32_256 s0 m0
  let l1 := addf (mulf l0 (wgt S8x256 m0 m1)) (ls32_256 s1 m1)
  let rl := divf (broadcast S8x256 (Scalar.ofBits .f32 0x3F800000#32)) (allAdd256 l1)
  addf (pv32_256 e0 (bm32_256 s0) m0 m1 rl v0)
    (pv32_256 e1 (bm32_256 s1) m1 m1 rl v1)

/-- The running maximum after all 2 tiles. -/
def mx32_256_1 (s0 : FVec F S32x8x256 .f32) (s1 : FVec F S32x8x256 .f32) : FVec F S8x256 .f32 :=
  let m0 := tm32_256 s0
  let m1 := maximumf m0 (tm32_256 s1)
  m1

/-- The output of a query tile over 2 wide tiles and a wide diagonal one, the weights' exponentials read back. -/
def out32_256_2 (s0 : FVec F S32x8x256 .f32) (s1 : FVec F S32x8x256 .f32) (s2 : FVec F S32x8x256 .f32) (e0 : Vec F S1x32x8x256 .f32) (e1 : Vec F S1x32x8x256 .f32) (e2 : Vec F S1x32x8x256 .f32) (v0 : FVec F S128x256 .bf16) (v1 : FVec F S128x256 .bf16) (v2 : FVec F S128x256 .bf16) : FVec F S128x256 .f32 :=
  let m0 := tm32_256 s0
  let m1 := maximumf m0 (tm32_256 s1)
  let m2 := maximumf m1 (tm32_256 s2)
  let l0 := ls32_256 s0 m0
  let l1 := addf (mulf l0 (wgt S8x256 m0 m1)) (ls32_256 s1 m1)
  let l2 := addf (mulf l1 (wgt S8x256 m1 m2)) (ls32_256 s2 m2)
  let rl := divf (broadcast S8x256 (Scalar.ofBits .f32 0x3F800000#32)) (allAdd256 l2)
  addf (addf (pv32_256 e0 (bm32_256 s0) m0 m2 rl v0)
    (pv32_256 e1 (bm32_256 s1) m1 m2 rl v1))
    (pv32_256 e2 (bm32_256 s2) m2 m2 rl v2)

/-- The running maximum after all 3 tiles. -/
def mx32_256_2 (s0 : FVec F S32x8x256 .f32) (s1 : FVec F S32x8x256 .f32) (s2 : FVec F S32x8x256 .f32) : FVec F S8x256 .f32 :=
  let m0 := tm32_256 s0
  let m1 := maximumf m0 (tm32_256 s1)
  let m2 := maximumf m1 (tm32_256 s2)
  m2

/-- The output of a query tile over 3 wide tiles and a wide diagonal one, the weights' exponentials read back. -/
def out32_256_3 (s0 : FVec F S32x8x256 .f32) (s1 : FVec F S32x8x256 .f32) (s2 : FVec F S32x8x256 .f32) (s3 : FVec F S32x8x256 .f32) (e0 : Vec F S1x32x8x256 .f32) (e1 : Vec F S1x32x8x256 .f32) (e2 : Vec F S1x32x8x256 .f32) (e3 : Vec F S1x32x8x256 .f32) (v0 : FVec F S128x256 .bf16) (v1 : FVec F S128x256 .bf16) (v2 : FVec F S128x256 .bf16) (v3 : FVec F S128x256 .bf16) : FVec F S128x256 .f32 :=
  let m0 := tm32_256 s0
  let m1 := maximumf m0 (tm32_256 s1)
  let m2 := maximumf m1 (tm32_256 s2)
  let m3 := maximumf m2 (tm32_256 s3)
  let l0 := ls32_256 s0 m0
  let l1 := addf (mulf l0 (wgt S8x256 m0 m1)) (ls32_256 s1 m1)
  let l2 := addf (mulf l1 (wgt S8x256 m1 m2)) (ls32_256 s2 m2)
  let l3 := addf (mulf l2 (wgt S8x256 m2 m3)) (ls32_256 s3 m3)
  let rl := divf (broadcast S8x256 (Scalar.ofBits .f32 0x3F800000#32)) (allAdd256 l3)
  addf (addf (addf (pv32_256 e0 (bm32_256 s0) m0 m3 rl v0)
    (pv32_256 e1 (bm32_256 s1) m1 m3 rl v1))
    (pv32_256 e2 (bm32_256 s2) m2 m3 rl v2))
    (pv32_256 e3 (bm32_256 s3) m3 m3 rl v3)

/-- The running maximum after all 4 tiles. -/
def mx32_256_3 (s0 : FVec F S32x8x256 .f32) (s1 : FVec F S32x8x256 .f32) (s2 : FVec F S32x8x256 .f32) (s3 : FVec F S32x8x256 .f32) : FVec F S8x256 .f32 :=
  let m0 := tm32_256 s0
  let m1 := maximumf m0 (tm32_256 s1)
  let m2 := maximumf m1 (tm32_256 s2)
  let m3 := maximumf m2 (tm32_256 s3)
  m3

/-- The fold of the 16 sublane rows by `op`, four ways. -/
def fold16_256 (op : FVec F S8x256 .f32 → FVec F S8x256 .f32 → FVec F S8x256 .f32) (x : FVec F S16x8x256 .f32) : FVec F S8x256 .f32 :=
  op (op (op (op (op (shapeCast S8x256 (extractStridedSlice S1x8x256 ![0, 0, 0] x slices_S16x8x256_o0_0_0_S1x8x256) shapeCasts_S1x8x256_S8x256)
      (shapeCast S8x256 (extractStridedSlice S1x8x256 ![4, 0, 0] x slices_S16x8x256_o4_0_0_S1x8x256) shapeCasts_S1x8x256_S8x256))
      (shapeCast S8x256 (extractStridedSlice S1x8x256 ![8, 0, 0] x slices_S16x8x256_o8_0_0_S1x8x256) shapeCasts_S1x8x256_S8x256))
      (shapeCast S8x256 (extractStridedSlice S1x8x256 ![12, 0, 0] x slices_S16x8x256_o12_0_0_S1x8x256) shapeCasts_S1x8x256_S8x256))
    (op (op (op (shapeCast S8x256 (extractStridedSlice S1x8x256 ![1, 0, 0] x slices_S16x8x256_o1_0_0_S1x8x256) shapeCasts_S1x8x256_S8x256)
      (shapeCast S8x256 (extractStridedSlice S1x8x256 ![5, 0, 0] x slices_S16x8x256_o5_0_0_S1x8x256) shapeCasts_S1x8x256_S8x256))
      (shapeCast S8x256 (extractStridedSlice S1x8x256 ![9, 0, 0] x slices_S16x8x256_o9_0_0_S1x8x256) shapeCasts_S1x8x256_S8x256))
      (shapeCast S8x256 (extractStridedSlice S1x8x256 ![13, 0, 0] x slices_S16x8x256_o13_0_0_S1x8x256) shapeCasts_S1x8x256_S8x256)))
   (op (op (op (op (shapeCast S8x256 (extractStridedSlice S1x8x256 ![2, 0, 0] x slices_S16x8x256_o2_0_0_S1x8x256) shapeCasts_S1x8x256_S8x256)
      (shapeCast S8x256 (extractStridedSlice S1x8x256 ![6, 0, 0] x slices_S16x8x256_o6_0_0_S1x8x256) shapeCasts_S1x8x256_S8x256))
      (shapeCast S8x256 (extractStridedSlice S1x8x256 ![10, 0, 0] x slices_S16x8x256_o10_0_0_S1x8x256) shapeCasts_S1x8x256_S8x256))
      (shapeCast S8x256 (extractStridedSlice S1x8x256 ![14, 0, 0] x slices_S16x8x256_o14_0_0_S1x8x256) shapeCasts_S1x8x256_S8x256))
    (op (op (op (shapeCast S8x256 (extractStridedSlice S1x8x256 ![3, 0, 0] x slices_S16x8x256_o3_0_0_S1x8x256) shapeCasts_S1x8x256_S8x256)
      (shapeCast S8x256 (extractStridedSlice S1x8x256 ![7, 0, 0] x slices_S16x8x256_o7_0_0_S1x8x256) shapeCasts_S1x8x256_S8x256))
      (shapeCast S8x256 (extractStridedSlice S1x8x256 ![11, 0, 0] x slices_S16x8x256_o11_0_0_S1x8x256) shapeCasts_S1x8x256_S8x256))
      (shapeCast S8x256 (extractStridedSlice S1x8x256 ![15, 0, 0] x slices_S16x8x256_o15_0_0_S1x8x256) shapeCasts_S1x8x256_S8x256)))

/-- The block maxima of a narrow tile. -/
def bm16_256 (s : FVec F S16x8x256 .f32) : FVec F S8x256 .f32 := rollMax256 4#32 (fold16_256 maximumf s)

/-- The tile maximum of a narrow tile, in every sublane. -/
def tm16_256 (s : FVec F S16x8x256 .f32) : FVec F S8x256 .f32 := rollMax256 1#32 (rollMax256 2#32 (bm16_256 s))

/-- The exponentials of a tile against the running maximum. -/
def ex16_256 (s : FVec F S16x8x256 .f32) (m : FVec F S8x256 .f32) : FVec F S16x8x256 .f32 :=
  wgt S16x8x256 s (broadcastTo S16x8x256 (shapeCast S1x8x256 m shapeCasts_S8x256_S1x8x256) broadcasts_S1x8x256_S16x8x256)

/-- What the exponentials are stored as. -/
def exP16_256 (s : FVec F S16x8x256 .f32) (m : FVec F S8x256 .f32) : FVec F S1x16x8x256 .f32 :=
  shapeCast S1x16x8x256 (ex16_256 s m) shapeCasts_S16x8x256_S1x16x8x256

/-- The row sums of the exponentials, per sublane. -/
def ls16_256 (s : FVec F S16x8x256 .f32) (m : FVec F S8x256 .f32) : FVec F S8x256 .f32 := fold16_256 addf (ex16_256 s m)

/-- The product of a tile's values with its quantised weights: `e` the stored exponentials, `bm` the block
    maxima, `mj` the maximum they were taken against, `m` the last one, `rl` the reciprocal of the sum. -/
def pv16_256 (e : Vec F S1x16x8x256 .f32) (bm mj m rl : FVec F S8x256 .f32) (vv : FVec F S128x128 .bf16) : FVec F S128x256 .f32 :=
  let f := mulf (wgt S8x256 mj m) rl
  let byte := byteOf S8x256 (mulf (wgt S8x256 bm mj) f)
  let f2 := mulf f (invOf S8x256 byte)
  let x := minimumf (mulf (shapeCast S16x8x256 e shapeCasts_S1x16x8x256_S16x8x256) (broadcastTo S16x8x256 (shapeCast S1x8x256 f2 shapeCasts_S8x256_S1x8x256) broadcasts_S1x8x256_S16x8x256))
    (broadcast S16x8x256 (Scalar.ofBits .f32 0x43E00000#32))
  let p := extf .bf16 (truncf .fp8e4m3 (shapeCast S128x256 x shapeCasts_S16x8x256_S128x256) bitsLt_fp8e4m3_f32) bitsLt_fp8e4m3_bf16
  let ps := pow2 S8x256 byte
  let pp := truncf .bf16 (concatenate S16x256 0 [⟨S8x256, ps⟩, ⟨S8x256, ps⟩] concatenates_S8x256_S8x256_S16x256_d0) bitsLt_bf16_f32
  let p2 := mulf (shapeCast S8x16x256 p shapeCasts_S128x256_S8x16x256)
    (broadcastTo S8x16x256 (shapeCast S1x16x256 pp shapeCasts_S16x256_S1x16x256) broadcasts_S1x16x256_S8x16x256)
  matmul dot_S128x128_S128x256_S128x256_1_0_0_1_n_n none vv (shapeCast S128x256 p2 shapeCasts_S8x16x256_S128x256) (zeroS S128x256)

/-- The scores of a tile, 256 columns contracted. -/
def sc16_256_256 (kk : FVec F S128x256 .bf16) (qq : FVec F S256x256 .bf16) : FVec F S16x8x256 .f32 :=
  shapeCast S16x8x256 (matmul dot_S128x256_S256x256_S128x256_1_0_0_1_n_n none kk qq (zeroS S128x256)) shapeCasts_S128x256_S16x8x256

/-- The output of a query tile over 0 wide tiles and a narrow diagonal one, the weights' exponentials read back. -/
def out16_256_0 (s0 : FVec F S16x8x256 .f32) (e0 : Vec F S1x16x8x256 .f32) (v0 : FVec F S128x128 .bf16) : FVec F S128x256 .f32 :=
  let m0 := tm16_256 s0
  let l0 := ls16_256 s0 m0
  let rl := divf (broadcast S8x256 (Scalar.ofBits .f32 0x3F800000#32)) (allAdd256 l0)
  pv16_256 e0 (bm16_256 s0) m0 m0 rl v0

/-- The running maximum after all 1 tiles. -/
def mx16_256_0 (s0 : FVec F S16x8x256 .f32) : FVec F S8x256 .f32 :=
  let m0 := tm16_256 s0
  m0

/-- The output of a query tile over 1 wide tiles and a narrow diagonal one, the weights' exponentials read back. -/
def out16_256_1 (s0 : FVec F S32x8x256 .f32) (s1 : FVec F S16x8x256 .f32) (e0 : Vec F S1x32x8x256 .f32) (e1 : Vec F S1x16x8x256 .f32) (v0 : FVec F S128x256 .bf16) (v1 : FVec F S128x128 .bf16) : FVec F S128x256 .f32 :=
  let m0 := tm32_256 s0
  let m1 := maximumf m0 (tm16_256 s1)
  let l0 := ls32_256 s0 m0
  let l1 := addf (mulf l0 (wgt S8x256 m0 m1)) (ls16_256 s1 m1)
  let rl := divf (broadcast S8x256 (Scalar.ofBits .f32 0x3F800000#32)) (allAdd256 l1)
  addf (pv32_256 e0 (bm32_256 s0) m0 m1 rl v0)
    (pv16_256 e1 (bm16_256 s1) m1 m1 rl v1)

/-- The running maximum after all 2 tiles. -/
def mx16_256_1 (s0 : FVec F S32x8x256 .f32) (s1 : FVec F S16x8x256 .f32) : FVec F S8x256 .f32 :=
  let m0 := tm32_256 s0
  let m1 := maximumf m0 (tm16_256 s1)
  m1

/-- The output of a query tile over 2 wide tiles and a narrow diagonal one, the weights' exponentials read back. -/
def out16_256_2 (s0 : FVec F S32x8x256 .f32) (s1 : FVec F S32x8x256 .f32) (s2 : FVec F S16x8x256 .f32) (e0 : Vec F S1x32x8x256 .f32) (e1 : Vec F S1x32x8x256 .f32) (e2 : Vec F S1x16x8x256 .f32) (v0 : FVec F S128x256 .bf16) (v1 : FVec F S128x256 .bf16) (v2 : FVec F S128x128 .bf16) : FVec F S128x256 .f32 :=
  let m0 := tm32_256 s0
  let m1 := maximumf m0 (tm32_256 s1)
  let m2 := maximumf m1 (tm16_256 s2)
  let l0 := ls32_256 s0 m0
  let l1 := addf (mulf l0 (wgt S8x256 m0 m1)) (ls32_256 s1 m1)
  let l2 := addf (mulf l1 (wgt S8x256 m1 m2)) (ls16_256 s2 m2)
  let rl := divf (broadcast S8x256 (Scalar.ofBits .f32 0x3F800000#32)) (allAdd256 l2)
  addf (addf (pv32_256 e0 (bm32_256 s0) m0 m2 rl v0)
    (pv32_256 e1 (bm32_256 s1) m1 m2 rl v1))
    (pv16_256 e2 (bm16_256 s2) m2 m2 rl v2)

/-- The running maximum after all 3 tiles. -/
def mx16_256_2 (s0 : FVec F S32x8x256 .f32) (s1 : FVec F S32x8x256 .f32) (s2 : FVec F S16x8x256 .f32) : FVec F S8x256 .f32 :=
  let m0 := tm32_256 s0
  let m1 := maximumf m0 (tm32_256 s1)
  let m2 := maximumf m1 (tm16_256 s2)
  m2

/-- The output of a query tile over 3 wide tiles and a narrow diagonal one, the weights' exponentials read back. -/
def out16_256_3 (s0 : FVec F S32x8x256 .f32) (s1 : FVec F S32x8x256 .f32) (s2 : FVec F S32x8x256 .f32) (s3 : FVec F S16x8x256 .f32) (e0 : Vec F S1x32x8x256 .f32) (e1 : Vec F S1x32x8x256 .f32) (e2 : Vec F S1x32x8x256 .f32) (e3 : Vec F S1x16x8x256 .f32) (v0 : FVec F S128x256 .bf16) (v1 : FVec F S128x256 .bf16) (v2 : FVec F S128x256 .bf16) (v3 : FVec F S128x128 .bf16) : FVec F S128x256 .f32 :=
  let m0 := tm32_256 s0
  let m1 := maximumf m0 (tm32_256 s1)
  let m2 := maximumf m1 (tm32_256 s2)
  let m3 := maximumf m2 (tm16_256 s3)
  let l0 := ls32_256 s0 m0
  let l1 := addf (mulf l0 (wgt S8x256 m0 m1)) (ls32_256 s1 m1)
  let l2 := addf (mulf l1 (wgt S8x256 m1 m2)) (ls32_256 s2 m2)
  let l3 := addf (mulf l2 (wgt S8x256 m2 m3)) (ls16_256 s3 m3)
  let rl := divf (broadcast S8x256 (Scalar.ofBits .f32 0x3F800000#32)) (allAdd256 l3)
  addf (addf (addf (pv32_256 e0 (bm32_256 s0) m0 m3 rl v0)
    (pv32_256 e1 (bm32_256 s1) m1 m3 rl v1))
    (pv32_256 e2 (bm32_256 s2) m2 m3 rl v2))
    (pv16_256 e3 (bm16_256 s3) m3 m3 rl v3)

/-- The running maximum after all 4 tiles. -/
def mx16_256_3 (s0 : FVec F S32x8x256 .f32) (s1 : FVec F S32x8x256 .f32) (s2 : FVec F S32x8x256 .f32) (s3 : FVec F S16x8x256 .f32) : FVec F S8x256 .f32 :=
  let m0 := tm32_256 s0
  let m1 := maximumf m0 (tm32_256 s1)
  let m2 := maximumf m1 (tm32_256 s2)
  let m3 := maximumf m2 (tm16_256 s3)
  m3

/-- The lane maximum over all eight sublanes. -/
def rollMax128 (k : BitVec 32) (x : FVec F S8x128 .f32) : FVec F S8x128 .f32 := maximumf x (dynamicRotate 0 k none x rotates_S8x128_d0)

/-- One roll and add. -/
def rollAdd128 (k : BitVec 32) (x : FVec F S8x128 .f32) : FVec F S8x128 .f32 := addf x (dynamicRotate 0 k none x rotates_S8x128_d0)

/-- The sum over all eight sublanes, in each of them. -/
def allAdd128 (x : FVec F S8x128 .f32) : FVec F S8x128 .f32 := rollAdd128 1#32 (rollAdd128 2#32 (rollAdd128 4#32 x))

/-- The fold of the 32 sublane rows by `op`, four ways. -/
def fold32_128 (op : FVec F S8x128 .f32 → FVec F S8x128 .f32 → FVec F S8x128 .f32) (x : FVec F S32x8x128 .f32) : FVec F S8x128 .f32 :=
  op (op (op (op (op (op (op (op (op (shapeCast S8x128 (extractStridedSlice S1x8x128 ![0, 0, 0] x slices_S32x8x128_o0_0_0_S1x8x128) shapeCasts_S1x8x128_S8x128)
      (shapeCast S8x128 (extractStridedSlice S1x8x128 ![4, 0, 0] x slices_S32x8x128_o4_0_0_S1x8x128) shapeCasts_S1x8x128_S8x128))
      (shapeCast S8x128 (extractStridedSlice S1x8x128 ![8, 0, 0] x slices_S32x8x128_o8_0_0_S1x8x128) shapeCasts_S1x8x128_S8x128))
      (shapeCast S8x128 (extractStridedSlice S1x8x128 ![12, 0, 0] x slices_S32x8x128_o12_0_0_S1x8x128) shapeCasts_S1x8x128_S8x128))
      (shapeCast S8x128 (extractStridedSlice S1x8x128 ![16, 0, 0] x slices_S32x8x128_o16_0_0_S1x8x128) shapeCasts_S1x8x128_S8x128))
      (shapeCast S8x128 (extractStridedSlice S1x8x128 ![20, 0, 0] x slices_S32x8x128_o20_0_0_S1x8x128) shapeCasts_S1x8x128_S8x128))
      (shapeCast S8x128 (extractStridedSlice S1x8x128 ![24, 0, 0] x slices_S32x8x128_o24_0_0_S1x8x128) shapeCasts_S1x8x128_S8x128))
      (shapeCast S8x128 (extractStridedSlice S1x8x128 ![28, 0, 0] x slices_S32x8x128_o28_0_0_S1x8x128) shapeCasts_S1x8x128_S8x128))
    (op (op (op (op (op (op (op (shapeCast S8x128 (extractStridedSlice S1x8x128 ![1, 0, 0] x slices_S32x8x128_o1_0_0_S1x8x128) shapeCasts_S1x8x128_S8x128)
      (shapeCast S8x128 (extractStridedSlice S1x8x128 ![5, 0, 0] x slices_S32x8x128_o5_0_0_S1x8x128) shapeCasts_S1x8x128_S8x128))
      (shapeCast S8x128 (extractStridedSlice S1x8x128 ![9, 0, 0] x slices_S32x8x128_o9_0_0_S1x8x128) shapeCasts_S1x8x128_S8x128))
      (shapeCast S8x128 (extractStridedSlice S1x8x128 ![13, 0, 0] x slices_S32x8x128_o13_0_0_S1x8x128) shapeCasts_S1x8x128_S8x128))
      (shapeCast S8x128 (extractStridedSlice S1x8x128 ![17, 0, 0] x slices_S32x8x128_o17_0_0_S1x8x128) shapeCasts_S1x8x128_S8x128))
      (shapeCast S8x128 (extractStridedSlice S1x8x128 ![21, 0, 0] x slices_S32x8x128_o21_0_0_S1x8x128) shapeCasts_S1x8x128_S8x128))
      (shapeCast S8x128 (extractStridedSlice S1x8x128 ![25, 0, 0] x slices_S32x8x128_o25_0_0_S1x8x128) shapeCasts_S1x8x128_S8x128))
      (shapeCast S8x128 (extractStridedSlice S1x8x128 ![29, 0, 0] x slices_S32x8x128_o29_0_0_S1x8x128) shapeCasts_S1x8x128_S8x128)))
   (op (op (op (op (op (op (op (op (shapeCast S8x128 (extractStridedSlice S1x8x128 ![2, 0, 0] x slices_S32x8x128_o2_0_0_S1x8x128) shapeCasts_S1x8x128_S8x128)
      (shapeCast S8x128 (extractStridedSlice S1x8x128 ![6, 0, 0] x slices_S32x8x128_o6_0_0_S1x8x128) shapeCasts_S1x8x128_S8x128))
      (shapeCast S8x128 (extractStridedSlice S1x8x128 ![10, 0, 0] x slices_S32x8x128_o10_0_0_S1x8x128) shapeCasts_S1x8x128_S8x128))
      (shapeCast S8x128 (extractStridedSlice S1x8x128 ![14, 0, 0] x slices_S32x8x128_o14_0_0_S1x8x128) shapeCasts_S1x8x128_S8x128))
      (shapeCast S8x128 (extractStridedSlice S1x8x128 ![18, 0, 0] x slices_S32x8x128_o18_0_0_S1x8x128) shapeCasts_S1x8x128_S8x128))
      (shapeCast S8x128 (extractStridedSlice S1x8x128 ![22, 0, 0] x slices_S32x8x128_o22_0_0_S1x8x128) shapeCasts_S1x8x128_S8x128))
      (shapeCast S8x128 (extractStridedSlice S1x8x128 ![26, 0, 0] x slices_S32x8x128_o26_0_0_S1x8x128) shapeCasts_S1x8x128_S8x128))
      (shapeCast S8x128 (extractStridedSlice S1x8x128 ![30, 0, 0] x slices_S32x8x128_o30_0_0_S1x8x128) shapeCasts_S1x8x128_S8x128))
    (op (op (op (op (op (op (op (shapeCast S8x128 (extractStridedSlice S1x8x128 ![3, 0, 0] x slices_S32x8x128_o3_0_0_S1x8x128) shapeCasts_S1x8x128_S8x128)
      (shapeCast S8x128 (extractStridedSlice S1x8x128 ![7, 0, 0] x slices_S32x8x128_o7_0_0_S1x8x128) shapeCasts_S1x8x128_S8x128))
      (shapeCast S8x128 (extractStridedSlice S1x8x128 ![11, 0, 0] x slices_S32x8x128_o11_0_0_S1x8x128) shapeCasts_S1x8x128_S8x128))
      (shapeCast S8x128 (extractStridedSlice S1x8x128 ![15, 0, 0] x slices_S32x8x128_o15_0_0_S1x8x128) shapeCasts_S1x8x128_S8x128))
      (shapeCast S8x128 (extractStridedSlice S1x8x128 ![19, 0, 0] x slices_S32x8x128_o19_0_0_S1x8x128) shapeCasts_S1x8x128_S8x128))
      (shapeCast S8x128 (extractStridedSlice S1x8x128 ![23, 0, 0] x slices_S32x8x128_o23_0_0_S1x8x128) shapeCasts_S1x8x128_S8x128))
      (shapeCast S8x128 (extractStridedSlice S1x8x128 ![27, 0, 0] x slices_S32x8x128_o27_0_0_S1x8x128) shapeCasts_S1x8x128_S8x128))
      (shapeCast S8x128 (extractStridedSlice S1x8x128 ![31, 0, 0] x slices_S32x8x128_o31_0_0_S1x8x128) shapeCasts_S1x8x128_S8x128)))

/-- The block maxima of a wide tile. -/
def bm32_128 (s : FVec F S32x8x128 .f32) : FVec F S8x128 .f32 := fold32_128 maximumf s

/-- The tile maximum of a wide tile, in every sublane. -/
def tm32_128 (s : FVec F S32x8x128 .f32) : FVec F S8x128 .f32 := rollMax128 1#32 (rollMax128 2#32 (rollMax128 4#32 (bm32_128 s)))

/-- The exponentials of a tile against the running maximum. -/
def ex32_128 (s : FVec F S32x8x128 .f32) (m : FVec F S8x128 .f32) : FVec F S32x8x128 .f32 :=
  wgt S32x8x128 s (broadcastTo S32x8x128 (shapeCast S1x8x128 m shapeCasts_S8x128_S1x8x128) broadcasts_S1x8x128_S32x8x128)

/-- What the exponentials are stored as. -/
def exP32_128 (s : FVec F S32x8x128 .f32) (m : FVec F S8x128 .f32) : FVec F S1x32x8x128 .f32 :=
  shapeCast S1x32x8x128 (ex32_128 s m) shapeCasts_S32x8x128_S1x32x8x128

/-- The row sums of the exponentials, per sublane. -/
def ls32_128 (s : FVec F S32x8x128 .f32) (m : FVec F S8x128 .f32) : FVec F S8x128 .f32 := fold32_128 addf (ex32_128 s m)

/-- The product of a tile's values with its quantised weights: `e` the stored exponentials, `bm` the block
    maxima, `mj` the maximum they were taken against, `m` the last one, `rl` the reciprocal of the sum. -/
def pv32_128 (e : Vec F S1x32x8x128 .f32) (bm mj m rl : FVec F S8x128 .f32) (vv : FVec F S128x256 .bf16) : FVec F S128x128 .f32 :=
  let f := mulf (wgt S8x128 mj m) rl
  let byte := byteOf S8x128 (mulf (wgt S8x128 bm mj) f)
  let f2 := mulf f (invOf S8x128 byte)
  let x := minimumf (mulf (shapeCast S32x8x128 e shapeCasts_S1x32x8x128_S32x8x128) (broadcastTo S32x8x128 (shapeCast S1x8x128 f2 shapeCasts_S8x128_S1x8x128) broadcasts_S1x8x128_S32x8x128))
    (broadcast S32x8x128 (Scalar.ofBits .f32 0x43E00000#32))
  let p := extf .bf16 (truncf .fp8e4m3 (shapeCast S256x128 x shapeCasts_S32x8x128_S256x128) bitsLt_fp8e4m3_f32) bitsLt_fp8e4m3_bf16
  let ps := pow2 S8x128 byte
  let pp := truncf .bf16 (concatenate S16x128 0 [⟨S8x128, ps⟩, ⟨S8x128, ps⟩] concatenates_S8x128_S8x128_S16x128_d0) bitsLt_bf16_f32
  let p2 := mulf (shapeCast S16x16x128 p shapeCasts_S256x128_S16x16x128)
    (broadcastTo S16x16x128 (shapeCast S1x16x128 pp shapeCasts_S16x128_S1x16x128) broadcasts_S1x16x128_S16x16x128)
  matmul dot_S128x256_S256x128_S128x128_1_0_0_1_n_n none vv (shapeCast S256x128 p2 shapeCasts_S16x16x128_S256x128) (zeroS S128x128)

/-- The scores of a tile, 128 columns contracted. -/
def sc32_128_128 (kk : FVec F S256x128 .bf16) (qq : FVec F S128x128 .bf16) : FVec F S32x8x128 .f32 :=
  shapeCast S32x8x128 (matmul dot_S256x128_S128x128_S256x128_1_0_0_1_n_n none kk qq (zeroS S256x128)) shapeCasts_S256x128_S32x8x128

/-- The scores of a tile, 256 columns contracted. -/
def sc32_128_256 (kk : FVec F S256x256 .bf16) (qq : FVec F S256x128 .bf16) : FVec F S32x8x128 .f32 :=
  shapeCast S32x8x128 (matmul dot_S256x256_S256x128_S256x128_1_0_0_1_n_n none kk qq (zeroS S256x128)) shapeCasts_S256x128_S32x8x128

/-- The output of a query tile over 0 wide tiles and a wide diagonal one, the weights' exponentials read back. -/
def out32_128_0 (s0 : FVec F S32x8x128 .f32) (e0 : Vec F S1x32x8x128 .f32) (v0 : FVec F S128x256 .bf16) : FVec F S128x128 .f32 :=
  let m0 := tm32_128 s0
  let l0 := ls32_128 s0 m0
  let rl := divf (broadcast S8x128 (Scalar.ofBits .f32 0x3F800000#32)) (allAdd128 l0)
  pv32_128 e0 (bm32_128 s0) m0 m0 rl v0

/-- The running maximum after all 1 tiles. -/
def mx32_128_0 (s0 : FVec F S32x8x128 .f32) : FVec F S8x128 .f32 :=
  let m0 := tm32_128 s0
  m0

/-- The output of a query tile over 1 wide tiles and a wide diagonal one, the weights' exponentials read back. -/
def out32_128_1 (s0 : FVec F S32x8x128 .f32) (s1 : FVec F S32x8x128 .f32) (e0 : Vec F S1x32x8x128 .f32) (e1 : Vec F S1x32x8x128 .f32) (v0 : FVec F S128x256 .bf16) (v1 : FVec F S128x256 .bf16) : FVec F S128x128 .f32 :=
  let m0 := tm32_128 s0
  let m1 := maximumf m0 (tm32_128 s1)
  let l0 := ls32_128 s0 m0
  let l1 := addf (mulf l0 (wgt S8x128 m0 m1)) (ls32_128 s1 m1)
  let rl := divf (broadcast S8x128 (Scalar.ofBits .f32 0x3F800000#32)) (allAdd128 l1)
  addf (pv32_128 e0 (bm32_128 s0) m0 m1 rl v0)
    (pv32_128 e1 (bm32_128 s1) m1 m1 rl v1)

/-- The running maximum after all 2 tiles. -/
def mx32_128_1 (s0 : FVec F S32x8x128 .f32) (s1 : FVec F S32x8x128 .f32) : FVec F S8x128 .f32 :=
  let m0 := tm32_128 s0
  let m1 := maximumf m0 (tm32_128 s1)
  m1

/-- The output of a query tile over 2 wide tiles and a wide diagonal one, the weights' exponentials read back. -/
def out32_128_2 (s0 : FVec F S32x8x128 .f32) (s1 : FVec F S32x8x128 .f32) (s2 : FVec F S32x8x128 .f32) (e0 : Vec F S1x32x8x128 .f32) (e1 : Vec F S1x32x8x128 .f32) (e2 : Vec F S1x32x8x128 .f32) (v0 : FVec F S128x256 .bf16) (v1 : FVec F S128x256 .bf16) (v2 : FVec F S128x256 .bf16) : FVec F S128x128 .f32 :=
  let m0 := tm32_128 s0
  let m1 := maximumf m0 (tm32_128 s1)
  let m2 := maximumf m1 (tm32_128 s2)
  let l0 := ls32_128 s0 m0
  let l1 := addf (mulf l0 (wgt S8x128 m0 m1)) (ls32_128 s1 m1)
  let l2 := addf (mulf l1 (wgt S8x128 m1 m2)) (ls32_128 s2 m2)
  let rl := divf (broadcast S8x128 (Scalar.ofBits .f32 0x3F800000#32)) (allAdd128 l2)
  addf (addf (pv32_128 e0 (bm32_128 s0) m0 m2 rl v0)
    (pv32_128 e1 (bm32_128 s1) m1 m2 rl v1))
    (pv32_128 e2 (bm32_128 s2) m2 m2 rl v2)

/-- The running maximum after all 3 tiles. -/
def mx32_128_2 (s0 : FVec F S32x8x128 .f32) (s1 : FVec F S32x8x128 .f32) (s2 : FVec F S32x8x128 .f32) : FVec F S8x128 .f32 :=
  let m0 := tm32_128 s0
  let m1 := maximumf m0 (tm32_128 s1)
  let m2 := maximumf m1 (tm32_128 s2)
  m2

/-- The output of a query tile over 3 wide tiles and a wide diagonal one, the weights' exponentials read back. -/
def out32_128_3 (s0 : FVec F S32x8x128 .f32) (s1 : FVec F S32x8x128 .f32) (s2 : FVec F S32x8x128 .f32) (s3 : FVec F S32x8x128 .f32) (e0 : Vec F S1x32x8x128 .f32) (e1 : Vec F S1x32x8x128 .f32) (e2 : Vec F S1x32x8x128 .f32) (e3 : Vec F S1x32x8x128 .f32) (v0 : FVec F S128x256 .bf16) (v1 : FVec F S128x256 .bf16) (v2 : FVec F S128x256 .bf16) (v3 : FVec F S128x256 .bf16) : FVec F S128x128 .f32 :=
  let m0 := tm32_128 s0
  let m1 := maximumf m0 (tm32_128 s1)
  let m2 := maximumf m1 (tm32_128 s2)
  let m3 := maximumf m2 (tm32_128 s3)
  let l0 := ls32_128 s0 m0
  let l1 := addf (mulf l0 (wgt S8x128 m0 m1)) (ls32_128 s1 m1)
  let l2 := addf (mulf l1 (wgt S8x128 m1 m2)) (ls32_128 s2 m2)
  let l3 := addf (mulf l2 (wgt S8x128 m2 m3)) (ls32_128 s3 m3)
  let rl := divf (broadcast S8x128 (Scalar.ofBits .f32 0x3F800000#32)) (allAdd128 l3)
  addf (addf (addf (pv32_128 e0 (bm32_128 s0) m0 m3 rl v0)
    (pv32_128 e1 (bm32_128 s1) m1 m3 rl v1))
    (pv32_128 e2 (bm32_128 s2) m2 m3 rl v2))
    (pv32_128 e3 (bm32_128 s3) m3 m3 rl v3)

/-- The running maximum after all 4 tiles. -/
def mx32_128_3 (s0 : FVec F S32x8x128 .f32) (s1 : FVec F S32x8x128 .f32) (s2 : FVec F S32x8x128 .f32) (s3 : FVec F S32x8x128 .f32) : FVec F S8x128 .f32 :=
  let m0 := tm32_128 s0
  let m1 := maximumf m0 (tm32_128 s1)
  let m2 := maximumf m1 (tm32_128 s2)
  let m3 := maximumf m2 (tm32_128 s3)
  m3

/-- The fold of the 16 sublane rows by `op`, four ways. -/
def fold16_128 (op : FVec F S8x128 .f32 → FVec F S8x128 .f32 → FVec F S8x128 .f32) (x : FVec F S16x8x128 .f32) : FVec F S8x128 .f32 :=
  op (op (op (op (op (shapeCast S8x128 (extractStridedSlice S1x8x128 ![0, 0, 0] x slices_S16x8x128_o0_0_0_S1x8x128) shapeCasts_S1x8x128_S8x128)
      (shapeCast S8x128 (extractStridedSlice S1x8x128 ![4, 0, 0] x slices_S16x8x128_o4_0_0_S1x8x128) shapeCasts_S1x8x128_S8x128))
      (shapeCast S8x128 (extractStridedSlice S1x8x128 ![8, 0, 0] x slices_S16x8x128_o8_0_0_S1x8x128) shapeCasts_S1x8x128_S8x128))
      (shapeCast S8x128 (extractStridedSlice S1x8x128 ![12, 0, 0] x slices_S16x8x128_o12_0_0_S1x8x128) shapeCasts_S1x8x128_S8x128))
    (op (op (op (shapeCast S8x128 (extractStridedSlice S1x8x128 ![1, 0, 0] x slices_S16x8x128_o1_0_0_S1x8x128) shapeCasts_S1x8x128_S8x128)
      (shapeCast S8x128 (extractStridedSlice S1x8x128 ![5, 0, 0] x slices_S16x8x128_o5_0_0_S1x8x128) shapeCasts_S1x8x128_S8x128))
      (shapeCast S8x128 (extractStridedSlice S1x8x128 ![9, 0, 0] x slices_S16x8x128_o9_0_0_S1x8x128) shapeCasts_S1x8x128_S8x128))
      (shapeCast S8x128 (extractStridedSlice S1x8x128 ![13, 0, 0] x slices_S16x8x128_o13_0_0_S1x8x128) shapeCasts_S1x8x128_S8x128)))
   (op (op (op (op (shapeCast S8x128 (extractStridedSlice S1x8x128 ![2, 0, 0] x slices_S16x8x128_o2_0_0_S1x8x128) shapeCasts_S1x8x128_S8x128)
      (shapeCast S8x128 (extractStridedSlice S1x8x128 ![6, 0, 0] x slices_S16x8x128_o6_0_0_S1x8x128) shapeCasts_S1x8x128_S8x128))
      (shapeCast S8x128 (extractStridedSlice S1x8x128 ![10, 0, 0] x slices_S16x8x128_o10_0_0_S1x8x128) shapeCasts_S1x8x128_S8x128))
      (shapeCast S8x128 (extractStridedSlice S1x8x128 ![14, 0, 0] x slices_S16x8x128_o14_0_0_S1x8x128) shapeCasts_S1x8x128_S8x128))
    (op (op (op (shapeCast S8x128 (extractStridedSlice S1x8x128 ![3, 0, 0] x slices_S16x8x128_o3_0_0_S1x8x128) shapeCasts_S1x8x128_S8x128)
      (shapeCast S8x128 (extractStridedSlice S1x8x128 ![7, 0, 0] x slices_S16x8x128_o7_0_0_S1x8x128) shapeCasts_S1x8x128_S8x128))
      (shapeCast S8x128 (extractStridedSlice S1x8x128 ![11, 0, 0] x slices_S16x8x128_o11_0_0_S1x8x128) shapeCasts_S1x8x128_S8x128))
      (shapeCast S8x128 (extractStridedSlice S1x8x128 ![15, 0, 0] x slices_S16x8x128_o15_0_0_S1x8x128) shapeCasts_S1x8x128_S8x128)))

/-- The block maxima of a narrow tile. -/
def bm16_128 (s : FVec F S16x8x128 .f32) : FVec F S8x128 .f32 := rollMax128 4#32 (fold16_128 maximumf s)

/-- The tile maximum of a narrow tile, in every sublane. -/
def tm16_128 (s : FVec F S16x8x128 .f32) : FVec F S8x128 .f32 := rollMax128 1#32 (rollMax128 2#32 (bm16_128 s))

/-- The exponentials of a tile against the running maximum. -/
def ex16_128 (s : FVec F S16x8x128 .f32) (m : FVec F S8x128 .f32) : FVec F S16x8x128 .f32 :=
  wgt S16x8x128 s (broadcastTo S16x8x128 (shapeCast S1x8x128 m shapeCasts_S8x128_S1x8x128) broadcasts_S1x8x128_S16x8x128)

/-- What the exponentials are stored as. -/
def exP16_128 (s : FVec F S16x8x128 .f32) (m : FVec F S8x128 .f32) : FVec F S1x16x8x128 .f32 :=
  shapeCast S1x16x8x128 (ex16_128 s m) shapeCasts_S16x8x128_S1x16x8x128

/-- The row sums of the exponentials, per sublane. -/
def ls16_128 (s : FVec F S16x8x128 .f32) (m : FVec F S8x128 .f32) : FVec F S8x128 .f32 := fold16_128 addf (ex16_128 s m)

/-- The product of a tile's values with its quantised weights: `e` the stored exponentials, `bm` the block
    maxima, `mj` the maximum they were taken against, `m` the last one, `rl` the reciprocal of the sum. -/
def pv16_128 (e : Vec F S1x16x8x128 .f32) (bm mj m rl : FVec F S8x128 .f32) (vv : FVec F S128x128 .bf16) : FVec F S128x128 .f32 :=
  let f := mulf (wgt S8x128 mj m) rl
  let byte := byteOf S8x128 (mulf (wgt S8x128 bm mj) f)
  let f2 := mulf f (invOf S8x128 byte)
  let x := minimumf (mulf (shapeCast S16x8x128 e shapeCasts_S1x16x8x128_S16x8x128) (broadcastTo S16x8x128 (shapeCast S1x8x128 f2 shapeCasts_S8x128_S1x8x128) broadcasts_S1x8x128_S16x8x128))
    (broadcast S16x8x128 (Scalar.ofBits .f32 0x43E00000#32))
  let p := extf .bf16 (truncf .fp8e4m3 (shapeCast S128x128 x shapeCasts_S16x8x128_S128x128) bitsLt_fp8e4m3_f32) bitsLt_fp8e4m3_bf16
  let ps := pow2 S8x128 byte
  let pp := truncf .bf16 (concatenate S16x128 0 [⟨S8x128, ps⟩, ⟨S8x128, ps⟩] concatenates_S8x128_S8x128_S16x128_d0) bitsLt_bf16_f32
  let p2 := mulf (shapeCast S8x16x128 p shapeCasts_S128x128_S8x16x128)
    (broadcastTo S8x16x128 (shapeCast S1x16x128 pp shapeCasts_S16x128_S1x16x128) broadcasts_S1x16x128_S8x16x128)
  matmul dot_S128x128_S128x128_S128x128_1_0_0_1_n_n none vv (shapeCast S128x128 p2 shapeCasts_S8x16x128_S128x128) (zeroS S128x128)

/-- The scores of a tile, 256 columns contracted. -/
def sc16_128_256 (kk : FVec F S128x256 .bf16) (qq : FVec F S256x128 .bf16) : FVec F S16x8x128 .f32 :=
  shapeCast S16x8x128 (matmul dot_S128x256_S256x128_S128x128_1_0_0_1_n_n none kk qq (zeroS S128x128)) shapeCasts_S128x128_S16x8x128

/-- The output of a query tile over 0 wide tiles and a narrow diagonal one, the weights' exponentials read back. -/
def out16_128_0 (s0 : FVec F S16x8x128 .f32) (e0 : Vec F S1x16x8x128 .f32) (v0 : FVec F S128x128 .bf16) : FVec F S128x128 .f32 :=
  let m0 := tm16_128 s0
  let l0 := ls16_128 s0 m0
  let rl := divf (broadcast S8x128 (Scalar.ofBits .f32 0x3F800000#32)) (allAdd128 l0)
  pv16_128 e0 (bm16_128 s0) m0 m0 rl v0

/-- The running maximum after all 1 tiles. -/
def mx16_128_0 (s0 : FVec F S16x8x128 .f32) : FVec F S8x128 .f32 :=
  let m0 := tm16_128 s0
  m0

/-- The output of a query tile over 1 wide tiles and a narrow diagonal one, the weights' exponentials read back. -/
def out16_128_1 (s0 : FVec F S32x8x128 .f32) (s1 : FVec F S16x8x128 .f32) (e0 : Vec F S1x32x8x128 .f32) (e1 : Vec F S1x16x8x128 .f32) (v0 : FVec F S128x256 .bf16) (v1 : FVec F S128x128 .bf16) : FVec F S128x128 .f32 :=
  let m0 := tm32_128 s0
  let m1 := maximumf m0 (tm16_128 s1)
  let l0 := ls32_128 s0 m0
  let l1 := addf (mulf l0 (wgt S8x128 m0 m1)) (ls16_128 s1 m1)
  let rl := divf (broadcast S8x128 (Scalar.ofBits .f32 0x3F800000#32)) (allAdd128 l1)
  addf (pv32_128 e0 (bm32_128 s0) m0 m1 rl v0)
    (pv16_128 e1 (bm16_128 s1) m1 m1 rl v1)

/-- The running maximum after all 2 tiles. -/
def mx16_128_1 (s0 : FVec F S32x8x128 .f32) (s1 : FVec F S16x8x128 .f32) : FVec F S8x128 .f32 :=
  let m0 := tm32_128 s0
  let m1 := maximumf m0 (tm16_128 s1)
  m1

/-- The output of a query tile over 2 wide tiles and a narrow diagonal one, the weights' exponentials read back. -/
def out16_128_2 (s0 : FVec F S32x8x128 .f32) (s1 : FVec F S32x8x128 .f32) (s2 : FVec F S16x8x128 .f32) (e0 : Vec F S1x32x8x128 .f32) (e1 : Vec F S1x32x8x128 .f32) (e2 : Vec F S1x16x8x128 .f32) (v0 : FVec F S128x256 .bf16) (v1 : FVec F S128x256 .bf16) (v2 : FVec F S128x128 .bf16) : FVec F S128x128 .f32 :=
  let m0 := tm32_128 s0
  let m1 := maximumf m0 (tm32_128 s1)
  let m2 := maximumf m1 (tm16_128 s2)
  let l0 := ls32_128 s0 m0
  let l1 := addf (mulf l0 (wgt S8x128 m0 m1)) (ls32_128 s1 m1)
  let l2 := addf (mulf l1 (wgt S8x128 m1 m2)) (ls16_128 s2 m2)
  let rl := divf (broadcast S8x128 (Scalar.ofBits .f32 0x3F800000#32)) (allAdd128 l2)
  addf (addf (pv32_128 e0 (bm32_128 s0) m0 m2 rl v0)
    (pv32_128 e1 (bm32_128 s1) m1 m2 rl v1))
    (pv16_128 e2 (bm16_128 s2) m2 m2 rl v2)

/-- The running maximum after all 3 tiles. -/
def mx16_128_2 (s0 : FVec F S32x8x128 .f32) (s1 : FVec F S32x8x128 .f32) (s2 : FVec F S16x8x128 .f32) : FVec F S8x128 .f32 :=
  let m0 := tm32_128 s0
  let m1 := maximumf m0 (tm32_128 s1)
  let m2 := maximumf m1 (tm16_128 s2)
  m2

/-- The output of a query tile over 3 wide tiles and a narrow diagonal one, the weights' exponentials read back. -/
def out16_128_3 (s0 : FVec F S32x8x128 .f32) (s1 : FVec F S32x8x128 .f32) (s2 : FVec F S32x8x128 .f32) (s3 : FVec F S16x8x128 .f32) (e0 : Vec F S1x32x8x128 .f32) (e1 : Vec F S1x32x8x128 .f32) (e2 : Vec F S1x32x8x128 .f32) (e3 : Vec F S1x16x8x128 .f32) (v0 : FVec F S128x256 .bf16) (v1 : FVec F S128x256 .bf16) (v2 : FVec F S128x256 .bf16) (v3 : FVec F S128x128 .bf16) : FVec F S128x128 .f32 :=
  let m0 := tm32_128 s0
  let m1 := maximumf m0 (tm32_128 s1)
  let m2 := maximumf m1 (tm32_128 s2)
  let m3 := maximumf m2 (tm16_128 s3)
  let l0 := ls32_128 s0 m0
  let l1 := addf (mulf l0 (wgt S8x128 m0 m1)) (ls32_128 s1 m1)
  let l2 := addf (mulf l1 (wgt S8x128 m1 m2)) (ls32_128 s2 m2)
  let l3 := addf (mulf l2 (wgt S8x128 m2 m3)) (ls16_128 s3 m3)
  let rl := divf (broadcast S8x128 (Scalar.ofBits .f32 0x3F800000#32)) (allAdd128 l3)
  addf (addf (addf (pv32_128 e0 (bm32_128 s0) m0 m3 rl v0)
    (pv32_128 e1 (bm32_128 s1) m1 m3 rl v1))
    (pv32_128 e2 (bm32_128 s2) m2 m3 rl v2))
    (pv16_128 e3 (bm16_128 s3) m3 m3 rl v3)

/-- The running maximum after all 4 tiles. -/
def mx16_128_3 (s0 : FVec F S32x8x128 .f32) (s1 : FVec F S32x8x128 .f32) (s2 : FVec F S32x8x128 .f32) (s3 : FVec F S16x8x128 .f32) : FVec F S8x128 .f32 :=
  let m0 := tm32_128 s0
  let m1 := maximumf m0 (tm32_128 s1)
  let m2 := maximumf m1 (tm32_128 s2)
  let m3 := maximumf m2 (tm16_128 s3)
  m3

end Cert.KernelIdeal.Run
-- ==== Proof.Math.lean ====
/- The arithmetic of softmax weights over the extended reals: exponentials against a running maximum, their
   products along a chain of maxima, and the power-of-two scaling that leaves a weight as it was. -/
module

public import Idealize.ShloMosaic.PureOps.Ideal
public import Mathlib.Data.EReal.Inv
public import Mathlib.Analysis.SpecialFunctions.Pow.Real
public import Mathlib.Tactic.Linarith
public import Mathlib.Tactic.FieldSimp
public import Mathlib.Tactic.Ring
public import Mathlib.Tactic.Positivity

@[expose] public section

noncomputable section

namespace Cert.Att

open Idealize.ShloMosaic

/-- The factor of the exponent in base two: one over the root of 128, over the natural logarithm of two. -/
def cE : ℝ := (Real.sqrt 128)⁻¹ * (Real.log 2)⁻¹

/-- One over the root of the head dimension. -/
def aE : ℝ := (Real.sqrt 128)⁻¹

theorem aE_pos : 0 < aE := by unfold aE; positivity

theorem cE_pos : 0 < cE := by
  have : 0 < Real.log 2 := Real.log_pos (by norm_num)
  unfold cE; positivity

/-- The exponential of a score against a maximum. -/
def ew (s m : EReal) : EReal := Ideal.exp2 ((s - m) * ((cE : ℝ) : EReal))

/-- The same, as a real. -/
def wt (s m : EReal) : ℝ := (ew s m).toReal

theorem ew_bot_left (m : EReal) : ew ⊥ m = 0 := by
  unfold ew
  rw [EReal.bot_sub, EReal.bot_mul_coe_of_pos cE_pos]; rfl

theorem ew_top_right (s : EReal) : ew s ⊤ = 0 := by
  unfold ew
  have : s - ⊤ = ⊥ := by
    rw [sub_eq_add_neg, EReal.neg_top, EReal.add_bot]
  rw [this, EReal.bot_mul_coe_of_pos cE_pos]; rfl

theorem ew_coe (x y : ℝ) : ew (x : EReal) (y : EReal) = (((2 : ℝ) ^ ((x - y) * cE : ℝ) : ℝ) : EReal) := by
  unfold ew
  rw [← EReal.coe_sub, ← EReal.coe_mul]; rfl

/-- At or below the maximum the exponential is real. -/
theorem ew_eq {s m : EReal} (h : s ≤ m) : ew s m = ((wt s m : ℝ) : EReal) := by
  unfold wt
  induction s with
  | bot => rw [ew_bot_left]; rfl
  | top =>
    have : m = ⊤ := top_le_iff.mp h
    subst this; rw [ew_top_right]; rfl
  | coe x =>
    induction m with
    | bot => exact absurd h (by simp)
    | top => rw [ew_top_right]; rfl
    | coe y => rw [ew_coe]; rfl

theorem wt_bot_left (m : EReal) : wt ⊥ m = 0 := by unfold wt; rw [ew_bot_left]; rfl
theorem wt_top_right (s : EReal) : wt s ⊤ = 0 := by unfold wt; rw [ew_top_right]; rfl
theorem wt_coe (x y : ℝ) : wt (x : EReal) (y : EReal) = (2 : ℝ) ^ ((x - y) * cE : ℝ) := by
  unfold wt; rw [ew_coe]; rfl

theorem wt_nonneg {s m : EReal} (h : s ≤ m) : 0 ≤ wt s m := by
  induction s with
  | bot => rw [wt_bot_left]
  | top =>
    have : m = ⊤ := top_le_iff.mp h
    subst this; rw [wt_top_right]
  | coe x =>
    induction m with
    | bot => exact absurd h (by simp)
    | top => rw [wt_top_right]
    | coe y => rw [wt_coe]; exact Real.rpow_nonneg (by norm_num) _

/-- Along a chain of maxima the weights multiply. -/
theorem wt_mul {s m n : EReal} (h : s ≤ m) (h' : m ≤ n) : wt s m * wt m n = wt s n := by
  induction s with
  | bot => rw [wt_bot_left, wt_bot_left, zero_mul]
  | top =>
    have : m = ⊤ := top_le_iff.mp h
    subst this
    have : n = ⊤ := top_le_iff.mp h'
    subst this; rw [wt_top_right, zero_mul]
  | coe x =>
    induction m with
    | bot => exact absurd h (by simp)
    | top =>
      have : n = ⊤ := top_le_iff.mp h'
      subst this; simp only [wt_top_right, zero_mul]
    | coe y =>
      induction n with
      | bot => exact absurd h' (by simp)
      | top => simp only [wt_top_right, mul_zero]
      | coe z =>
        rw [wt_coe, wt_coe, wt_coe]
        rw [← Real.rpow_add (by norm_num)]; congr 1; ring

theorem wt_le_one {s m : EReal} (h : s ≤ m) : wt s m ≤ 1 := by
  induction s with
  | bot => rw [wt_bot_left]; norm_num
  | top =>
    have : m = ⊤ := top_le_iff.mp h
    subst this; rw [wt_top_right]; norm_num
  | coe x =>
    induction m with
    | bot => exact absurd h (by simp)
    | top => rw [wt_top_right]; norm_num
    | coe y =>
      rw [wt_coe]
      have hxy : x ≤ y := EReal.coe_le_coe_iff.mp h
      exact Real.rpow_le_one_of_one_le_of_nonpos (by norm_num)
        (mul_nonpos_of_nonpos_of_nonneg (by linarith) cE_pos.le)

theorem wt_mono {s b m : EReal} (h : s ≤ b) (h' : b ≤ m) : wt s m ≤ wt b m := by
  rw [← wt_mul h h']
  exact mul_le_of_le_one_left (wt_nonneg h') (wt_le_one h)

theorem wt_self_coe (x : ℝ) : wt (x : EReal) (x : EReal) = 1 := by
  rw [wt_coe]; simp

/-- Against a maximum of minus infinity nothing has weight. -/
theorem wt_bot_right {s : EReal} (h : s ≤ ⊥) : wt s ⊥ = 0 := by
  rw [le_bot_iff.mp h, wt_bot_left]

/-- The exponential in base two at the scaled difference is the natural one of the difference of the scaled. -/
theorem exp_eq (s m : EReal) : Ideal.exp (s * ((aE : ℝ) : EReal) - m * ((aE : ℝ) : EReal)) = ew s m := by
  induction s with
  | bot =>
    rw [ew_bot_left, EReal.bot_mul_coe_of_pos aE_pos, EReal.bot_sub]; rfl
  | top =>
    induction m with
    | bot =>
      unfold ew
      rw [EReal.top_mul_coe_of_pos aE_pos, EReal.bot_mul_coe_of_pos aE_pos, EReal.top_sub_bot,
        EReal.top_mul_coe_of_pos cE_pos]; rfl
    | top =>
      rw [ew_top_right, EReal.top_mul_coe_of_pos aE_pos, sub_eq_add_neg, EReal.neg_top, EReal.add_bot]; rfl
    | coe y =>
      unfold ew
      rw [EReal.top_mul_coe_of_pos aE_pos, ← EReal.coe_mul, EReal.top_sub_coe, EReal.top_sub_coe,
        EReal.top_mul_coe_of_pos cE_pos]; rfl
  | coe x =>
    induction m with
    | bot =>
      unfold ew
      rw [EReal.bot_mul_coe_of_pos aE_pos, ← EReal.coe_mul, EReal.coe_sub_bot, EReal.coe_sub_bot,
        EReal.top_mul_coe_of_pos cE_pos]; rfl
    | top =>
      rw [ew_top_right, EReal.top_mul_coe_of_pos aE_pos, sub_eq_add_neg, EReal.neg_top, EReal.add_bot]; rfl
    | coe y =>
      rw [ew_coe, ← EReal.coe_mul, ← EReal.coe_mul, ← EReal.coe_sub]
      show ((Real.exp _ : ℝ) : EReal) = _
      congr 1
      rw [Real.rpow_def_of_pos (by norm_num)]
      congr 1
      have hl : Real.log 2 ≠ 0 := (Real.log_pos (by norm_num)).ne'
      unfold cE aE; field_simp

/-- A finite sum of reals, as extended reals. -/
theorem coe_sum {ι : Type*} (s : Finset ι) (f : ι → ℝ) : (((∑ i ∈ s, f i : ℝ)) : EReal) = ∑ i ∈ s, ((f i : ℝ) : EReal) := by
  classical
  induction s using Finset.induction_on with
  | empty => simp
  | insert a s ha ih => rw [Finset.sum_insert ha, Finset.sum_insert ha, EReal.coe_add, ih]

/-- A weight times the reciprocal of the sum, when the sum is zero only if the weight is. -/
theorem mul_div_one {w l : ℝ} (h : l = 0 → w = 0) :
    ((w : ℝ) : EReal) * Ideal.div 1 ((l : ℝ) : EReal) = ((w * l⁻¹ : ℝ) : EReal) := by
  unfold Ideal.div
  by_cases hl : l = 0
  · rw [h hl, hl]; simp
  · have : ((l : ℝ) : EReal) ≠ 0 := by exact_mod_cast hl
    rw [if_neg this, one_mul, ← EReal.coe_inv, ← EReal.coe_mul]

/-- The scaling by a power of two and back, with the clip at 448 between, leaves a weight as it was: the block's
    largest entry `A` is below 448 times the power. -/
theorem quant_id {w g y A cc : ℝ} (k : ℤ) (hy : w * g = y) (hyA : y ≤ A) (hA0 : 0 ≤ A)
    (hc : (448 : ℝ)⁻¹ ≤ cc) (hA : A * cc < (2 : ℝ) ^ k) :
    min (((w : ℝ) : EReal) * (((g : ℝ) : EReal) * (((2 : ℝ) ^ (-k) : ℝ) : EReal))) (((448 : ℝ) : ℝ) : EReal)
      * (((2 : ℝ) ^ k : ℝ) : EReal) = ((y : ℝ) : EReal) := by
  have hp : (0 : ℝ) < (2 : ℝ) ^ k := by positivity
  have hAk : A < 448 * (2 : ℝ) ^ k := by
    have h1 : A * (448 : ℝ)⁻¹ ≤ A * cc := mul_le_mul_of_nonneg_left hc hA0
    have h2 : A * (448 : ℝ)⁻¹ < (2 : ℝ) ^ k := lt_of_le_of_lt h1 hA
    have h3 : A = (A * (448 : ℝ)⁻¹) * 448 := by field_simp
    rw [h3]; linarith
  have hle : w * (g * (2 : ℝ) ^ (-k)) ≤ 448 := by
    rw [← mul_assoc, hy, zpow_neg]
    rw [← div_eq_mul_inv, div_le_iff₀ hp]; linarith
  rw [← EReal.coe_mul, ← EReal.coe_mul, ← EReal.coe_strictMono.monotone.map_min, min_eq_left hle, ← EReal.coe_mul]
  congr 1
  rw [← mul_assoc, hy, zpow_neg]
  field_simp

end Cert.Att

end
-- ==== Proof.Byte.lean ====
/- The scale byte of a block: the bits that denote a power of two, and the search for the exponent. -/
module

public import proofs.«01_k».proof.Proof.Tile
public import proofs.«01_k».proof.Proof.Math
public import Idealize.ShloMosaic.PureOps.IdealRules

@[expose] public section

set_option maxRecDepth 16384

noncomputable section

namespace Cert.KernelIdeal.Run

open Cert.KernelIdeal Cert.KernelIdeal.Gen
open Idealize.ShloMosaic Idealize.ShloMosaic.TcCoe

/-- The value of the word with `k` in the exponent field. -/
def pw (k : ℕ) : EReal := Ideal.ieee 8 23 ((BitVec.ofNat 32 k) <<< 23)

theorem pw_bits : ∀ k : Fin 255, (((BitVec.ofNat 32 k.val) <<< 23).extractLsb' 31 1 == 1#1) = false ∧
    (((BitVec.ofNat 32 k.val) <<< 23).extractLsb' 23 8).toNat = k.val ∧ (((BitVec.ofNat 32 k.val) <<< 23).extractLsb' 0 23).toNat = 0 := by
  decide +kernel

theorem ieee_normal {b : BitVec 32} {k : ℕ} (hs : (b.extractLsb' 31 1 == 1#1) = false) (he : (b.extractLsb' 23 8).toNat = k)
    (hf : (b.extractLsb' 0 23).toNat = 0) (h1 : k ≠ 0) (h2 : k ≠ 255) : Ideal.ieee 8 23 b = (((2 : ℝ) ^ ((k : ℤ) - 127) : ℝ) : EReal) := by
  have hs' : (b.extractLsb' (8 + 23) 1 == 1#1) = false := hs
  have hr : (1 : ℝ) * ((2 ^ 23 + 0 : ℕ) : ℝ) * (2 : ℝ) ^ ((k : ℤ) - (2 ^ (8 - 1) - 1) - (23 : ℕ)) = (2 : ℝ) ^ ((k : ℤ) - 127) := by
    rw [one_mul, Nat.add_zero, Nat.cast_pow, ← zpow_natCast, Nat.cast_ofNat, ← zpow_add₀ (by norm_num : (2 : ℝ) ≠ 0)]
    congr 1
    norm_num
  have e1 : ¬ (k = 2 ^ 8 - 1) := by norm_num; exact h2
  unfold Ideal.ieee
  dsimp only
  rw [he, hf, hs', if_neg e1, if_neg h1, if_neg (by decide), hr]

theorem pw_eq {k : ℕ} (h1 : 1 ≤ k) (h2 : k ≤ 254) : pw k = (((2 : ℝ) ^ ((k : ℤ) - 127) : ℝ) : EReal) := by
  obtain ⟨a, b, c⟩ := pw_bits ⟨k, by omega⟩
  exact ieee_normal a b c (by omega) (by omega)

theorem pow2_apply (s : Shape) (b : IVec s 32) (i : s.Idx) (k : ℕ) (h : b i = BitVec.ofNat 32 k) :
    pow2 (F := Ideal) s b i = pw k := by
  unfold pow2
  show Ideal.ieee 8 23 (IntOp.shli _ (b i) 23#32) = _
  unfold pw IntOp.shli
  rw [h, if_pos (by decide)]
  rfl

theorem pow2_real (s : Shape) (b : IVec s 32) (i : s.Idx) (k : ℕ) (h : b i = BitVec.ofNat 32 k) (h1 : 1 ≤ k) (h2 : k ≤ 254) :
    pow2 (F := Ideal) s b i = (((2 : ℝ) ^ ((k : ℤ) - 127) : ℝ) : EReal) := by
  rw [pow2_apply s b i k h, pw_eq h1 h2]

theorem bitStep_apply (s : Shape) (x : FVec Ideal s .f32) (bit : ℕ) (eb : IVec s 32) (i : s.Idx) (n : ℕ) (r : ℝ)
    (hx : x i = (r : EReal)) (h : eb i = BitVec.ofNat 32 n) (h1 : 1 ≤ bit) (h2 : n + bit ≤ 254) :
    ((bitStep s x (BitVec.ofNat 32 bit) eb i = BitVec.ofNat 32 (n + bit)) ∧ (2 : ℝ) ^ (((n + bit : ℕ) : ℤ) - 127) ≤ r) ∨
    ((bitStep s x (BitVec.ofNat 32 bit) eb i = BitVec.ofNat 32 n) ∧ r < (2 : ℝ) ^ (((n + bit : ℕ) : ℤ) - 127)) := by
  have hs : (addi eb (broadcast s (BitVec.ofNat 32 bit))) i = BitVec.ofNat 32 (n + bit) := by
    show eb i + BitVec.ofNat 32 bit = _
    rw [h, ← BitVec.ofNat_add]
  have hp := pow2_real s _ i (n + bit) hs (by omega) h2
  have hc : (cmpf .oge x (pow2 s (addi eb (broadcast s (BitVec.ofNat 32 bit)))) : IVec s 1) i
      = BitVec.ofBool (decide ((((2 : ℝ) ^ (((n + bit : ℕ) : ℤ) - 127) : ℝ) : EReal) ≤ (r : EReal))) := by
    rw [← hp, ← hx]; rfl
  have hb : bitStep s x (BitVec.ofNat 32 bit) eb i
      = if (cmpf .oge x (pow2 s (addi eb (broadcast s (BitVec.ofNat 32 bit)))) : IVec s 1) i = 1 then
        (addi eb (broadcast s (BitVec.ofNat 32 bit))) i else eb i := rfl
  rw [hb, hc, hs, h]
  by_cases hle : (2 : ℝ) ^ (((n + bit : ℕ) : ℤ) - 127) ≤ r
  · left
    refine ⟨?_, hle⟩
    rw [decide_eq_true (by exact_mod_cast hle)]; rfl
  · right
    refine ⟨?_, not_le.mp hle⟩
    rw [decide_eq_false (by rw [EReal.coe_le_coe_iff]; exact hle)]; rfl

theorem bitStep_lt (s : Shape) (x : FVec Ideal s .f32) (bit : ℕ) (eb : IVec s 32) (i : s.Idx) (r : ℝ) (hx : x i = (r : EReal)) (h1 : 1 ≤ bit)
    (B : ℕ) (hB : B + bit ≤ 254)
    (h : ∃ n, n ≤ B ∧ eb i = BitVec.ofNat 32 n ∧ r < (2 : ℝ) ^ (((n + 2 * bit : ℕ) : ℤ) - 127)) :
    ∃ n, n ≤ B + bit ∧ bitStep s x (BitVec.ofNat 32 bit) eb i = BitVec.ofNat 32 n ∧ r < (2 : ℝ) ^ (((n + bit : ℕ) : ℤ) - 127) := by
  obtain ⟨n, hn, he, hr⟩ := h
  rcases bitStep_apply s x bit eb i n r hx he h1 (by omega) with ⟨h, hh⟩ | ⟨h, hh⟩
  · exact ⟨n + bit, by omega, h, by rw [show n + bit + bit = n + 2 * bit by omega]; exact hr⟩
  · exact ⟨n, by omega, h, hh⟩

theorem expByte_lt (s : Shape) (x : FVec Ideal s .f32) (i : s.Idx) (r : ℝ) (hx : x i = (r : EReal)) (hr : r < 2) :
    ∃ n, n ≤ 127 ∧ expByte s x i = BitVec.ofNat 32 n ∧ r < (2 : ℝ) ^ (((n + 1 : ℕ) : ℤ) - 127) := by
  have h0 : ∃ n, n ≤ 0 ∧ bitStep s x 128#32 (broadcast s 0#32) i = BitVec.ofNat 32 n ∧ r < (2 : ℝ) ^ (((n + 128 : ℕ) : ℤ) - 127) := by
    rcases bitStep_apply s x 128 (broadcast s 0#32) i 0 r hx rfl (by norm_num) (by norm_num) with ⟨h, hh⟩ | ⟨h, hh⟩
    · exfalso; norm_num at hh; linarith
    · exact ⟨0, le_rfl, h, hh⟩
  have h1 := bitStep_lt s x 64 _ i r hx (by norm_num) 0 (by norm_num) h0
  have h2 := bitStep_lt s x 32 _ i r hx (by norm_num) _ (by norm_num) h1
  have h3 := bitStep_lt s x 16 _ i r hx (by norm_num) _ (by norm_num) h2
  have h4 := bitStep_lt s x 8 _ i r hx (by norm_num) _ (by norm_num) h3
  have h5 := bitStep_lt s x 4 _ i r hx (by norm_num) _ (by norm_num) h4
  have h6 := bitStep_lt s x 2 _ i r hx (by norm_num) _ (by norm_num) h5
  exact bitStep_lt s x 1 _ i r hx (by norm_num) _ (by norm_num) h6

/-- The constant the block maximum meets: the float next above one over 448. -/
def cc : ℝ := 9586981 * (2 : ℝ) ^ (-32 : ℤ)

theorem cc_eq : Ideal.ieee 8 23 0x3B124925#32 = ((cc : ℝ) : EReal) := by
  unfold Ideal.ieee cc
  have a : ((0x3B124925#32).extractLsb' (8 + 23) 1 == 1#1) = false := by decide
  have b : ((0x3B124925#32).extractLsb' 23 8).toNat = 118 := by decide
  have c : ((0x3B124925#32).extractLsb' 0 23).toNat = 1198373 := by decide
  simp only [a, b, c]
  norm_num

theorem cc_ge : (448 : ℝ)⁻¹ ≤ cc := by unfold cc; norm_num

theorem byteOf_spec (s : Shape) (a : FVec Ideal s .f32) (i : s.Idx) (r : ℝ) (ha : a i = (r : EReal)) (hr : r ≤ 1) :
    ∃ k : ℕ, 1 ≤ k ∧ k ≤ 253 ∧ byteOf s a i = BitVec.ofNat 32 k ∧ r * cc < (2 : ℝ) ^ ((k : ℤ) - 127) := by
  have hx : (mulf a (broadcast s (Scalar.ofBits .f32 0x3B124925#32)) : FVec Ideal s .f32) i = ((r * cc : ℝ) : EReal) := by
    show a i * Ideal.ieee 8 23 0x3B124925#32 = _
    rw [ha, cc_eq, ← EReal.coe_mul]
  have hlt : r * cc < 2 := by
    have : (0:ℝ) ≤ cc := le_trans (by norm_num) cc_ge
    have h2 : cc < 2 := by unfold cc; norm_num
    nlinarith
  obtain ⟨n, hn, he, hr'⟩ := expByte_lt s _ i _ hx hlt
  have hb : byteOf s a i = if BitVec.ofBool (expByte s (mulf a (broadcast s (Scalar.ofBits .f32 0x3B124925#32))) i == 0#32) = 1 then 127#32
      else expByte s (mulf a (broadcast s (Scalar.ofBits .f32 0x3B124925#32))) i + 1#32 := rfl
  rw [hb, he]
  by_cases h0 : n = 0
  · subst h0
    refine ⟨127, by norm_num, by norm_num, rfl, ?_⟩
    refine hr'.trans ?_
    norm_num
  · refine ⟨n + 1, by omega, by omega, ?_, hr'⟩
    have hne : (BitVec.ofNat 32 n == 0#32) = false := by
      rw [beq_eq_false_iff_ne]
      intro h
      have := congrArg BitVec.toNat h
      rw [BitVec.toNat_ofNat] at this
      simp at this
      omega
    rw [hne]
    show BitVec.ofNat 32 n + 1#32 = _
    rw [BitVec.ofNat_add]

theorem invOf_real (s : Shape) (b : IVec s 32) (i : s.Idx) (k : ℕ) (h : b i = BitVec.ofNat 32 k) (h1 : 1 ≤ k) (h2 : k ≤ 253) :
    invOf (F := Ideal) s b i = (((2 : ℝ) ^ (-((k : ℤ) - 127)) : ℝ) : EReal) := by
  unfold invOf
  rw [pow2_real s _ i (254 - k) ?_ (by omega) (by omega)]
  · congr 2
    omega
  · show 254#32 - b i = _
    rw [h]
    apply BitVec.eq_of_toNat_eq
    rw [BitVec.toNat_sub]
    simp only [BitVec.toNat_ofNat]
    omega

/-- The factor of the exponent, idealised. -/
theorem scl_eq : scl (F := Ideal) = ((Att.cE : ℝ) : EReal) := by
  unfold scl
  exact IdealRules.named_const.ideal_named_scalar _ _ _ _ rfl

theorem wgt_apply (s : Shape) (a b : FVec Ideal s .f32) (i : s.Idx) : wgt s a b i = Att.ew (a i) (b i) := by
  show Ideal.exp2 ((a i - b i) * scl (F := Ideal)) = _
  rw [scl_eq]
  rfl

/-- One weight through the block scale: what is multiplied back is the weight over the sum. -/
theorem quant_scalar {s mj M b : EReal} {l : ℝ} (k : ℤ) (h1 : s ≤ b) (h2 : b ≤ mj) (h3 : mj ≤ M) (hl0 : 0 ≤ l) (hl : l = 0 → Att.wt mj M = 0)
    (hA : Att.wt b M * l⁻¹ * cc < (2 : ℝ) ^ k) :
    min (Att.ew s mj * (Att.ew mj M * Ideal.div 1 (l : EReal) * (((2 : ℝ) ^ (-k) : ℝ) : EReal))) ((448 : ℝ) : EReal) * (((2 : ℝ) ^ k : ℝ) : EReal)
      = ((Att.wt s M * l⁻¹ : ℝ) : EReal) := by
  rw [Att.ew_eq (h1.trans h2), Att.ew_eq h3, Att.mul_div_one hl]
  refine Att.quant_id (A := Att.wt b M * l⁻¹) (cc := cc) k ?_ ?_ ?_ cc_ge hA
  · rw [← Att.wt_mul (h1.trans h2) h3, mul_assoc]
  · exact mul_le_mul_of_nonneg_right (Att.wt_mono h1 (h2.trans h3)) (inv_nonneg.mpr hl0)
  · exact mul_nonneg (Att.wt_nonneg (h2.trans h3)) (inv_nonneg.mpr hl0)

end Cert.KernelIdeal.Run

end
-- ==== Proof.Fold.lean ====
/- Maxima and sums over the eight sublanes and over the sublane rows. -/
module

public import proofs.«01_k».proof.Proof.Byte
public import Idealize.ShloMosaic.Lib.Pointwise
public import Idealize.ShloMosaic.Lib.KernelVsHost.SublaneAllReduce
public import Mathlib.Tactic.Abel
public import Mathlib.Tactic.FinCases

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx Idealize.ShloMosaic.SublaneAllReduce

/-- Thirty-two values combined four ways. -/
def comb32 {α : Type*} (op : α → α → α) (g : Fin 32 → α) : α :=
  op (op (op (op (op (op (op (op (op (g 0) (g 4)) (g 8)) (g 12)) (g 16)) (g 20)) (g 24)) (g 28))
      (op (op (op (op (op (op (op (g 1) (g 5)) (g 9)) (g 13)) (g 17)) (g 21)) (g 25)) (g 29)))
    (op (op (op (op (op (op (op (op (g 2) (g 6)) (g 10)) (g 14)) (g 18)) (g 22)) (g 26)) (g 30))
      (op (op (op (op (op (op (op (g 3) (g 7)) (g 11)) (g 15)) (g 19)) (g 23)) (g 27)) (g 31)))

/-- Sixteen values combined four ways. -/
def comb16 {α : Type*} (op : α → α → α) (g : Fin 16 → α) : α :=
  op (op (op (op (op (g 0) (g 4)) (g 8)) (g 12)) (op (op (op (g 1) (g 5)) (g 9)) (g 13)))
    (op (op (op (op (g 2) (g 6)) (g 10)) (g 14)) (op (op (op (g 3) (g 7)) (g 11)) (g 15)))

theorem sup_succ {n : ℕ} (g : Fin (n + 1) → EReal) : Finset.univ.sup g = max (g 0) (Finset.univ.sup fun i : Fin n => g i.succ) := by
  rw [Fin.univ_succ, Finset.sup_cons, Finset.sup_map]; rfl

theorem comb32_add (g : Fin 32 → EReal) : comb32 (· + ·) g = ∑ a, g a := by
  have h : ∑ a, g a = (g 0 + (g 1 + (g 2 + (g 3 + (g 4 + (g 5 + (g 6 + (g 7 + (g 8 + (g 9 + (g 10 + (g 11 + (g 12 + (g 13 + (g 14 + (g 15 + (g 16 + (g 17 + (g 18 + (g 19 + (g 20 + (g 21 + (g 22 + (g 23 + (g 24 + (g 25 + (g 26 + (g 27 + (g 28 + (g 29 + (g 30 + (g 31)))))))))))))))))))))))))))))))) := by
    simp only [Fin.sum_univ_succ, Finset.univ_eq_empty, Finset.sum_empty, add_zero]
    rfl
  rw [h]
  unfold comb32
  ac_rfl

theorem comb32_max (g : Fin 32 → EReal) : comb32 max g = Finset.univ.sup g := by
  have h : Finset.univ.sup g = (max (g 0) (max (g 1) (max (g 2) (max (g 3) (max (g 4) (max (g 5) (max (g 6) (max (g 7) (max (g 8) (max (g 9) (max (g 10) (max (g 11) (max (g 12) (max (g 13) (max (g 14) (max (g 15) (max (g 16) (max (g 17) (max (g 18) (max (g 19) (max (g 20) (max (g 21) (max (g 22) (max (g 23) (max (g 24) (max (g 25) (max (g 26) (max (g 27) (max (g 28) (max (g 29) (max (g 30) (g 31)))))))))))))))))))))))))))))))) := by
    simp only [sup_succ, Finset.univ_eq_empty, Finset.sup_empty, max_bot_right]
    rfl
  rw [h]
  unfold comb32
  ac_rfl

theorem comb16_add (g : Fin 16 → EReal) : comb16 (· + ·) g = ∑ a, g a := by
  have h : ∑ a, g a = (g 0 + (g 1 + (g 2 + (g 3 + (g 4 + (g 5 + (g 6 + (g 7 + (g 8 + (g 9 + (g 10 + (g 11 + (g 12 + (g 13 + (g 14 + (g 15)))))))))))))))) := by
    simp only [Fin.sum_univ_succ, Finset.univ_eq_empty, Finset.sum_empty, add_zero]
    rfl
  rw [h]
  unfold comb16
  ac_rfl

theorem comb16_max (g : Fin 16 → EReal) : comb16 max g = Finset.univ.sup g := by
  have h : Finset.univ.sup g = (max (g 0) (max (g 1) (max (g 2) (max (g 3) (max (g 4) (max (g 5) (max (g 6) (max (g 7) (max (g 8) (max (g 9) (max (g 10) (max (g 11) (max (g 12) (max (g 13) (max (g 14) (g 15)))))))))))))))) := by
    simp only [sup_succ, Finset.univ_eq_empty, Finset.sup_empty, max_bot_right]
    rfl
  rw [h]
  unfold comb16
  ac_rfl

theorem combine8_add (g : Fin 8 → EReal) : combine8 (· + ·) g = ∑ a, g a := by
  have h : ∑ a, g a = (g 0 + (g 1 + (g 2 + (g 3 + (g 4 + (g 5 + (g 6 + (g 7)))))))) := by
    simp only [Fin.sum_univ_succ, Finset.univ_eq_empty, Finset.sum_empty, add_zero]
    rfl
  rw [h]
  unfold combine8
  ac_rfl

theorem combine8_max (g : Fin 8 → EReal) : combine8 max g = Finset.univ.sup g := by
  have h : Finset.univ.sup g = (max (g 0) (max (g 1) (max (g 2) (max (g 3) (max (g 4) (max (g 5) (max (g 6) (g 7)))))))) := by
    simp only [sup_succ, Finset.univ_eq_empty, Finset.sup_empty, max_bot_right]
    rfl
  rw [h]
  unfold combine8
  ac_rfl

end Cert.KernelIdeal.Run

end
-- ==== Proof.Soft.lean ====
/- The online softmax, column by column: the running maximum and the running sum over the tiles seen so far, and the
   product with the values at the end. -/
module

public import proofs.«01_k».proof.Proof.Fold

@[expose] public section

set_option maxRecDepth 16384

noncomputable section

namespace Cert.KernelIdeal.Run

open Cert.KernelIdeal Cert.KernelIdeal.Gen
open Idealize.ShloMosaic Idealize.ShloMosaic.TcCoe Idealize.ShloMosaic.SublaneAllReduce
open Att

/-- The key in row `x` of wide tile `j`. -/
def keyw (j : Fin 4) (x : Fin 256) : Fin 1024 := ⟨256 * j.val + 32 * (x.val % 8) + x.val / 8, by omega⟩

/-- The key in row `x` of narrow tile `j`. -/
def keyn (j : Fin 4) (x : Fin 128) : Fin 1024 := ⟨256 * j.val + 32 * ((x.val % 8) % 4) + 2 * (x.val / 8) + (x.val % 8) / 4, by omega⟩

theorem keyw_inj (j : Fin 4) : Function.Injective (keyw j) := by
  intro x y h
  have := congrArg Fin.val h
  simp only [keyw] at this
  ext; omega

theorem keyn_inj (j : Fin 4) : Function.Injective (keyn j) := by
  intro x y h
  have := congrArg Fin.val h
  simp only [keyn] at this
  ext; omega

/-- The keys of a wide tile. -/
def Kw (j : Fin 4) : Finset (Fin 1024) := Finset.univ.image (keyw j)

/-- The keys of a narrow tile. -/
def Kn (j : Fin 4) : Finset (Fin 1024) := Finset.univ.image (keyn j)

theorem mem_Kw {j : Fin 4} {k : Fin 1024} : k ∈ Kw j ↔ 256 * j.val ≤ k.val ∧ k.val < 256 * j.val + 256 := by
  unfold Kw
  simp only [Finset.mem_image, Finset.mem_univ, true_and]
  constructor
  · rintro ⟨x, rfl⟩
    simp only [keyw]
    omega
  · intro h
    refine ⟨⟨8 * ((k.val - 256 * j.val) % 32) + (k.val - 256 * j.val) / 32, by omega⟩, ?_⟩
    ext
    simp only [keyw]
    omega

theorem mem_Kn {j : Fin 4} {k : Fin 1024} : k ∈ Kn j ↔ 256 * j.val ≤ k.val ∧ k.val < 256 * j.val + 128 := by
  unfold Kn
  simp only [Finset.mem_image, Finset.mem_univ, true_and]
  constructor
  · rintro ⟨x, rfl⟩
    simp only [keyn]
    omega
  · intro h
    refine ⟨⟨8 * (((k.val - 256 * j.val) % 32) / 2) + (k.val - 256 * j.val) / 32 + 4 * ((k.val - 256 * j.val) % 2), by omega⟩, ?_⟩
    have hd : ∀ y : Fin 128, 32 * (((8 * ((y.val % 32) / 2) + y.val / 32 + 4 * (y.val % 2)) % 8) % 4)
        + 2 * ((8 * ((y.val % 32) / 2) + y.val / 32 + 4 * (y.val % 2)) / 8)
        + ((8 * ((y.val % 32) / 2) + y.val / 32 + 4 * (y.val % 2)) % 8) / 4 = y.val := by decide +kernel
    have := hd ⟨k.val - 256 * j.val, by omega⟩
    ext
    simp only [keyn] at this ⊢
    omega

theorem sum_Kw {M : Type*} [AddCommMonoid M] (j : Fin 4) (f : Fin 1024 → M) : ∑ k ∈ Kw j, f k = ∑ x, f (keyw j x) :=
  Finset.sum_image fun x _ y _ h => keyw_inj j h

theorem sum_Kn {M : Type*} [AddCommMonoid M] (j : Fin 4) (f : Fin 1024 → M) : ∑ k ∈ Kn j, f k = ∑ x, f (keyn j x) :=
  Finset.sum_image fun x _ y _ h => keyn_inj j h

/-- What is known of the running maximum and sum of one column after the keys of `K`: `T M i` is the sum of
    sublane `i`'s weights against `M`. -/
structure St (σ : Fin 1024 → EReal) (K : Finset (Fin 1024)) (T : EReal → Fin 8 → ℝ) (mv lv : Fin 8 → EReal) : Prop where
  hm : ∀ i, mv i = K.sup σ
  hl : ∀ i, lv i = ((T (K.sup σ) i : ℝ) : EReal)
  sc : ∀ m M, K.sup σ ≤ m → m ≤ M → ∀ i, T m i * wt m M = T M i
  tot : ∀ M, ∑ i, T M i = ∑ k ∈ K, wt (σ k) M

/-- The same of one tile, the sum being taken against any maximum above the tile's. -/
structure Tl (σ : Fin 1024 → EReal) (K : Finset (Fin 1024)) (T : EReal → Fin 8 → ℝ) (tm : Fin 8 → EReal) : Prop where
  hm : ∀ i, tm i = K.sup σ
  sc : ∀ m M, K.sup σ ≤ m → m ≤ M → ∀ i, T m i * wt m M = T M i
  tot : ∀ M, ∑ i, T M i = ∑ k ∈ K, wt (σ k) M

theorem Tl.first {σ : Fin 1024 → EReal} {K : Finset (Fin 1024)} {T : EReal → Fin 8 → ℝ} {tm lv : Fin 8 → EReal} (h : Tl σ K T tm)
    (hl : ∀ i, lv i = ((T (K.sup σ) i : ℝ) : EReal)) : St σ K T tm lv := ⟨h.hm, hl, h.sc, h.tot⟩

theorem St.step {σ : Fin 1024 → EReal} {K K' : Finset (Fin 1024)} {T T' : EReal → Fin 8 → ℝ} {mv lv tm ls mv' lv' : Fin 8 → EReal}
    (h : St σ K T mv lv) (h' : Tl σ K' T' tm) (hd : Disjoint K K') (hmv : ∀ i, mv' i = max (mv i) (tm i))
    (hls : ∀ i, ls i = ((T' ((K ∪ K').sup σ) i : ℝ) : EReal))
    (hlv : ∀ i, lv' i = lv i * ew (mv i) (mv' i) + ls i) :
    St σ (K ∪ K') (fun M i => T M i + T' M i) mv' lv' := by
  have e1 : ∀ i, mv' i = (K ∪ K').sup σ := fun i => by rw [hmv, h.hm, h'.hm, Finset.sup_union]
  have l1 : K.sup σ ≤ (K ∪ K').sup σ := by rw [Finset.sup_union]; exact le_max_left _ _
  have l2 : K'.sup σ ≤ (K ∪ K').sup σ := by rw [Finset.sup_union]; exact le_max_right _ _
  refine ⟨e1, ?_, ?_, ?_⟩
  · intro i
    rw [hlv, hls, e1, h.hm, h.hl, ew_eq l1, ← EReal.coe_mul, ← EReal.coe_add, h.sc _ _ le_rfl l1]
  · intro m M hm hM i
    rw [add_mul, h.sc m M (l1.trans hm) hM, h'.sc m M (l2.trans hm) hM]
  · intro M
    rw [Finset.sum_add_distrib, h.tot, h'.tot, Finset.sum_union hd]

/-- The maximum of a column is real or nothing has weight against it. -/
theorem sup_wt {σ : Fin 1024 → EReal} (K : Finset (Fin 1024)) :
    (∀ s, s ≤ K.sup σ → wt s (K.sup σ) = 0) ∨ 1 ≤ ∑ k ∈ K, wt (σ k) (K.sup σ) := by
  rcases K.eq_empty_or_nonempty with rfl | hK
  · left; intro s hs; rw [Finset.sup_empty] at *; exact wt_bot_right hs
  · obtain ⟨k, hk, e⟩ := Finset.exists_mem_eq_sup K hK σ
    generalize hM : K.sup σ = M at *
    induction M with
    | bot => left; intro s hs; exact wt_bot_right hs
    | top => left; intro s hs; exact wt_top_right s
    | coe x =>
      right
      have hpos : ∀ k' ∈ K, 0 ≤ wt (σ k') (x : EReal) := fun k' hk' => wt_nonneg (by rw [← hM]; exact Finset.le_sup hk')
      refine le_trans ?_ (Finset.single_le_sum hpos hk)
      rw [← e, wt_self_coe]

/-- Softmax over the keys of `K`, times the values. -/
def softK (σ ν : Fin 1024 → EReal) (K K' : Finset (Fin 1024)) : EReal :=
  ∑ k ∈ K', ν k * ((wt (σ k) (K.sup σ) * (∑ k ∈ K, wt (σ k) (K.sup σ))⁻¹ : ℝ) : EReal)

/-- Softmax over all keys, times the values. -/
def soft (σ ν : Fin 1024 → EReal) : EReal :=
  ∑ k, ν k * ((wt (σ k) (Finset.univ.sup σ) * (∑ k, wt (σ k) (Finset.univ.sup σ))⁻¹ : ℝ) : EReal)

theorem softK_union (σ ν : Fin 1024 → EReal) (K A B : Finset (Fin 1024)) (h : Disjoint A B) :
    softK σ ν K (A ∪ B) = softK σ ν K A + softK σ ν K B := Finset.sum_union h

theorem softK_eq (σ ν : Fin 1024 → EReal) (K : Finset (Fin 1024)) (h : ∀ k, k ∉ K → σ k = ⊥) : softK σ ν K K = soft σ ν := by
  have hs : K.sup σ = Finset.univ.sup σ := by
    apply le_antisymm (Finset.sup_mono (Finset.subset_univ K))
    apply Finset.sup_le
    intro k _
    by_cases hk : k ∈ K
    · exact Finset.le_sup hk
    · rw [h k hk]; exact bot_le
  unfold softK soft
  rw [hs]
  have hl : ∑ k ∈ K, wt (σ k) (Finset.univ.sup σ) = ∑ k, wt (σ k) (Finset.univ.sup σ) := by
    apply Finset.sum_subset (Finset.subset_univ K)
    intro k _ hk
    rw [h k hk, wt_bot_left]
  rw [hl]
  apply Finset.sum_subset (Finset.subset_univ K)
  intro k _ hk
  rw [h k hk, wt_bot_left, zero_mul]
  simp

theorem f448 : Ideal.ieee 8 23 (1138753536#32) = ((448 : ℝ) : EReal) := by
  unfold Ideal.ieee
  have a : ((1138753536#32).extractLsb' (8 + 23) 1 == 1#1) = false := by decide
  have b : ((1138753536#32).extractLsb' 23 8).toNat = 135 := by decide
  have c : ((1138753536#32).extractLsb' 0 23).toNat = 6291456 := by decide
  simp only [a, b, c]
  norm_num

theorem sum_rows {M : Type*} [AddCommMonoid M] {A R : ℕ} (hR : R = A * 8) (f : Fin R → M) :
    ∑ x, f x = ∑ i : Fin 8, ∑ a : Fin A, f ⟨8 * a.val + i.val, by subst hR; omega⟩ := by
  subst hR
  rw [← Equiv.sum_comp finProdFinEquiv, Fintype.sum_prod_type, Finset.sum_comm]
  refine Finset.sum_congr rfl fun i _ => Finset.sum_congr rfl fun a _ => ?_
  congr 1
  ext
  simp [finProdFinEquiv]
  omega

/-- Row `x` of column `c`. -/
def row32_256 (s : FVec Ideal S32x8x256 .f32) (c : Fin 256) (x : Fin 256) : EReal := s (ix3 ⟨x.val / 8, by omega⟩ ⟨x.val % 8, by omega⟩ c)

theorem ex32_256_apply (s : FVec Ideal S32x8x256 .f32) (m : FVec Ideal S8x256 .f32) (a : Fin 32) (i : Fin 8) (c : Fin 256) :
    ex32_256 s m (ix3 a i c) = ew (s (ix3 a i c)) (m (ix2 i c)) := by
  unfold ex32_256
  rw [wgt_apply]
  pointwise []

theorem exP32_256_apply (s : FVec Ideal S32x8x256 .f32) (m : FVec Ideal S8x256 .f32) (a : Fin 32) (i : Fin 8) (c : Fin 256) :
    exP32_256 s m (ix4 0 a i c) = ew (s (ix3 a i c)) (m (ix2 i c)) := by
  rw [← ex32_256_apply]
  pointwise [exP32_256]

theorem ls32_256_apply (s : FVec Ideal S32x8x256 .f32) (m : FVec Ideal S8x256 .f32) (i : Fin 8) (c : Fin 256) :
    ls32_256 s m (ix2 i c) = ∑ a : Fin 32, ew (s (ix3 a i c)) (m (ix2 i c)) := by
  have h : ls32_256 s m (ix2 i c) = comb32 (· + ·) fun a => ex32_256 s m (ix3 a i c) := by
    unfold comb32
    pointwise [ls32_256, fold32_256]
  rw [h, comb32_add]
  exact Finset.sum_congr rfl fun a _ => ex32_256_apply s m a i c

theorem fm32_256_apply (s : FVec Ideal S32x8x256 .f32) (i : Fin 8) (c : Fin 256) :
    fold32_256 maximumf s (ix2 i c) = Finset.univ.sup fun a : Fin 32 => s (ix3 a i c) := by
  rw [← comb32_max]
  unfold comb32
  pointwise [fold32_256]

theorem allAdd256_apply (x : FVec Ideal S8x256 .f32) (i : Fin 8) (c : Fin 256) : allAdd256 x (ix2 i c) = ∑ i' : Fin 8, x (ix2 i' c) := by
  rw [← combine8_add]
  have hb := sublaneAllReduce_apply (α := EReal) (· + ·) rotates_S8x256_d0 x i c
  simp only at hb
  unfold allAdd256 rollAdd256 addf
  exact hb

theorem rollMax256_ge (k : BitVec 32) (x : FVec Ideal S8x256 .f32) (j : S8x256.Idx) : x j ≤ rollMax256 k x j := le_max_left _ _

theorem allMax256_apply (x : FVec Ideal S8x256 .f32) (i : Fin 8) (c : Fin 256) :
    rollMax256 1#32 (rollMax256 2#32 (rollMax256 4#32 x)) (ix2 i c) = Finset.univ.sup fun i' : Fin 8 => x (ix2 i' c) := by
  rw [← combine8_max]
  have hb := sublaneAllReduce_apply (α := EReal) max rotates_S8x256_d0 x i c
  simp only at hb
  unfold rollMax256 maximumf
  exact hb

theorem tm32_256_apply (s : FVec Ideal S32x8x256 .f32) (i : Fin 8) (c : Fin 256) :
    tm32_256 s (ix2 i c) = Finset.univ.sup fun i' : Fin 8 => Finset.univ.sup fun a : Fin 32 => s (ix3 a i' c) := by
  unfold tm32_256 bm32_256
  rw [allMax256_apply]
  simp only [fm32_256_apply]

theorem le_bm32_256 (s : FVec Ideal S32x8x256 .f32) (a : Fin 32) (i : Fin 8) (c : Fin 256) : s (ix3 a i c) ≤ bm32_256 s (ix2 i c) := by
  unfold bm32_256
  rw [fm32_256_apply]
  exact Finset.le_sup (f := fun a : Fin 32 => s (ix3 a i c)) (Finset.mem_univ a)

theorem bm32_256_le (s : FVec Ideal S32x8x256 .f32) (i : Fin 8) (c : Fin 256) : bm32_256 s (ix2 i c) ≤ tm32_256 s (ix2 i c) := by
  unfold tm32_256
  refine le_trans ?_ ((rollMax256_ge 4#32 _ _).trans ((rollMax256_ge 2#32 _ _).trans (rollMax256_ge 1#32 _ _)))
  exact le_rfl

theorem tile32_256 (σ : Fin 1024 → EReal) (j : Fin 4) (s : FVec Ideal S32x8x256 .f32) (c : Fin 256) (h : ∀ x, row32_256 s c x = σ (keyw j x)) :
    Tl σ (Kw j) (fun M i => ∑ a : Fin 32, wt (s (ix3 a i c)) M) (fun i => tm32_256 s (ix2 i c)) := by
  have hr : ∀ (a : Fin 32) (i : Fin 8), s (ix3 a i c) = σ (keyw j ⟨8 * a.val + i.val, by omega⟩) := by
    intro a i
    rw [← h]
    unfold row32_256
    congr 2 <;> (ext; simp only; omega)
  have hle : ∀ (a : Fin 32) (i : Fin 8), s (ix3 a i c) ≤ (Kw j).sup σ := by
    intro a i
    rw [hr]
    exact Finset.le_sup (Finset.mem_image_of_mem _ (Finset.mem_univ _))
  refine ⟨?_, ?_, ?_⟩
  · intro i
    rw [tm32_256_apply]
    apply le_antisymm
    · exact Finset.sup_le fun i' _ => Finset.sup_le fun a _ => hle a i'
    · apply Finset.sup_le
      intro k hk
      obtain ⟨x, _, rfl⟩ := Finset.mem_image.mp hk
      rw [← h]
      exact le_trans (Finset.le_sup (f := fun a : Fin 32 => s (ix3 a ⟨x.val % 8, by omega⟩ c)) (Finset.mem_univ (⟨x.val / 8, by omega⟩ : Fin 32)))
        (Finset.le_sup (f := fun i' : Fin 8 => Finset.univ.sup fun a : Fin 32 => s (ix3 a i' c)) (Finset.mem_univ (⟨x.val % 8, by omega⟩ : Fin 8)))
  · intro m M hm hM i
    rw [Finset.sum_mul]
    exact Finset.sum_congr rfl fun a _ => wt_mul ((hle a i).trans hm) hM
  · intro M
    rw [sum_Kw, sum_rows (A := 32) rfl]
    simp only [hr]

theorem lsT32_256 (σ : Fin 1024 → EReal) (j : Fin 4) (s : FVec Ideal S32x8x256 .f32) (m : FVec Ideal S8x256 .f32) (c : Fin 256) (h : ∀ x, row32_256 s c x = σ (keyw j x))
    (K : Finset (Fin 1024)) (hK : Kw j ⊆ K) (hm : ∀ i, m (ix2 i c) = K.sup σ) (i : Fin 8) :
    ls32_256 s m (ix2 i c) = ((∑ a : Fin 32, wt (s (ix3 a i c)) (K.sup σ) : ℝ) : EReal) := by
  rw [ls32_256_apply, coe_sum]
  refine Finset.sum_congr rfl fun a _ => ?_
  rw [hm]
  refine ew_eq ?_
  have : s (ix3 a i c) = σ (keyw j ⟨8 * a.val + i.val, by omega⟩) := by
    rw [← h]
    unfold row32_256
    congr 2 <;> (ext; simp only; omega)
  rw [this]
  exact Finset.le_sup (hK (Finset.mem_image_of_mem _ (Finset.mem_univ _)))

/-- A quantised weight, multiplied back by its scale. -/
def pvTerm32_256 (e : Vec Ideal S1x32x8x256 .f32) (bm mj m rl : FVec Ideal S8x256 .f32) (c : Fin 256) (x : Fin 256) : EReal :=
  (min (e (ix4 0 ⟨x.val / 8, by omega⟩ ⟨x.val % 8, by omega⟩ c) *
      (wgt S8x256 mj m (ix2 ⟨x.val % 8, by omega⟩ c) * rl (ix2 ⟨x.val % 8, by omega⟩ c) *
        invOf (F := Ideal) S8x256 (byteOf S8x256 (mulf (wgt S8x256 bm mj) (mulf (wgt S8x256 mj m) rl))) (ix2 ⟨x.val % 8, by omega⟩ c)))
      (Ideal.ofBits FTy.f32 1138753536#32) *
    if h : x.val % 16 < 8 then
      pow2 (F := Ideal) S8x256 (byteOf S8x256 (mulf (wgt S8x256 bm mj) (mulf (wgt S8x256 mj m) rl))) (ix2 ⟨x.val % 16, by omega⟩ c)
    else pow2 (F := Ideal) S8x256 (byteOf S8x256 (mulf (wgt S8x256 bm mj) (mulf (wgt S8x256 mj m) rl))) (ix2 ⟨x.val % 16 - 8, by omega⟩ c) : EReal)

theorem pv32_256_apply (σ ν : Fin 1024 → EReal) (j : Fin 4) (s : FVec Ideal S32x8x256 .f32) (e : Vec Ideal S1x32x8x256 .f32)
    (mj m rl : FVec Ideal S8x256 .f32) (vv : FVec Ideal S128x256 .bf16)
    (d : Fin 128) (c : Fin 256) (h : ∀ x, row32_256 s c x = σ (keyw j x)) (hv : ∀ x, vv (ix2 d x) = ν (keyw j x)) (he : e = exP32_256 s mj)
    (K Kj : Finset (Fin 1024)) (hj : Kw j ⊆ Kj) (hK : Kj ⊆ K) (hmj : ∀ i, mj (ix2 i c) = Kj.sup σ) (hm : ∀ i, m (ix2 i c) = K.sup σ)
    (hrl : ∀ i, rl (ix2 i c) = Ideal.div 1 ((∑ k ∈ K, wt (σ k) (K.sup σ) : ℝ) : EReal)) :
    pv32_256 e (bm32_256 s) mj m rl vv (ix2 d c) = softK σ ν K (Kw j) := by
  have hl0 : 0 ≤ ∑ k ∈ K, wt (σ k) (K.sup σ) := Finset.sum_nonneg fun k hk => wt_nonneg (Finset.le_sup hk)
  generalize hL : (∑ k ∈ K, wt (σ k) (K.sup σ)) = l at *
  have hz : l = 0 → ∀ s, s ≤ K.sup σ → wt s (K.sup σ) = 0 := by
    intro h0
    rcases sup_wt (σ := σ) K with hh | hh
    · exact hh
    · rw [hL, h0] at hh; norm_num at hh
  have h1 : ∀ s, s ≤ K.sup σ → wt s (K.sup σ) * l⁻¹ ≤ 1 := by
    intro s hs
    rcases sup_wt (σ := σ) K with hh | hh
    · rw [hh s hs, zero_mul]; norm_num
    · rw [hL] at hh
      rw [← div_eq_mul_inv, div_le_one (by linarith)]
      exact (wt_le_one hs).trans hh
  have hjle : Kj.sup σ ≤ K.sup σ := Finset.sup_mono hK
  have htl := tile32_256 σ j s c h
  have hb2 : ∀ i, bm32_256 s (ix2 i c) ≤ Kj.sup σ := fun i => (bm32_256_le s i c).trans (by rw [htl.hm i]; exact Finset.sup_mono hj)
  have hf : ∀ i : Fin 8, (mulf (wgt S8x256 mj m) rl) (ix2 i c) = ((wt (Kj.sup σ) (K.sup σ) * l⁻¹ : ℝ) : EReal) := by
    intro i
    show wgt S8x256 mj m (ix2 i c) * rl (ix2 i c) = _
    rw [wgt_apply, hmj, hm, hrl, ew_eq hjle, mul_div_one fun h0 => hz h0 _ hjle]
  have ha : ∀ i : Fin 8, (mulf (wgt S8x256 (bm32_256 s) mj) (mulf (wgt S8x256 mj m) rl)) (ix2 i c)
      = ((wt (bm32_256 s (ix2 i c)) (K.sup σ) * l⁻¹ : ℝ) : EReal) := by
    intro i
    show wgt S8x256 (bm32_256 s) mj (ix2 i c) * (mulf (wgt S8x256 mj m) rl) (ix2 i c) = _
    rw [hf, wgt_apply, hmj, ew_eq (hb2 i), ← EReal.coe_mul, ← mul_assoc, wt_mul (hb2 i) hjle]
  have hq : ∀ x : Fin 256, pvTerm32_256 e (bm32_256 s) mj m rl c x = ((wt (σ (keyw j x)) (K.sup σ) * l⁻¹ : ℝ) : EReal) := by
    intro x
    have hx8 : x.val % 8 < 8 := by omega
    obtain ⟨k, k1, k2, hk, hkl⟩ := byteOf_spec S8x256 _ _ _ (ha ⟨x.val % 8, hx8⟩) (h1 _ ((hb2 _).trans hjle))
    have hs := quant_scalar (s := row32_256 s c x) (mj := Kj.sup σ) (M := K.sup σ) (b := bm32_256 s (ix2 ⟨x.val % 8, hx8⟩ c)) (l := l) ((k : ℤ) - 127)
      (le_bm32_256 s _ _ c) (hb2 _) hjle hl0 (fun h0 => hz h0 _ hjle) hkl
    rw [← h, ← hs]
    unfold pvTerm32_256
    rw [he, exP32_256_apply, hmj, invOf_real S8x256 _ _ k hk k1 k2, wgt_apply, hmj, hm, hrl]
    rw [show (Ideal.ofBits FTy.f32 1138753536#32 : EReal) = ((448 : ℝ) : EReal) from f448]
    congr 1
    split
    · next hlt =>
      refine pow2_real S8x256 _ _ k ?_ k1 (by omega)
      rw [← hk]
      congr 2
      ext; simp only; omega
    · next hlt =>
      refine pow2_real S8x256 _ _ k ?_ k1 (by omega)
      rw [← hk]
      congr 2
      ext; simp only; omega
  have hpv : pv32_256 e (bm32_256 s) mj m rl vv (ix2 d c) = ∑ x : Fin 256, vv (ix2 d x) * pvTerm32_256 e (bm32_256 s) mj m rl c x := by
    unfold pvTerm32_256
    pointwise [pv32_256, zeroS]
  rw [hpv]
  unfold softK
  rw [sum_Kw, hL]
  refine Finset.sum_congr rfl fun x _ => ?_
  rw [hq, hv]

/-- Row `x` of column `c`. -/
def row16_256 (s : FVec Ideal S16x8x256 .f32) (c : Fin 256) (x : Fin 128) : EReal := s (ix3 ⟨x.val / 8, by omega⟩ ⟨x.val % 8, by omega⟩ c)

theorem ex16_256_apply (s : FVec Ideal S16x8x256 .f32) (m : FVec Ideal S8x256 .f32) (a : Fin 16) (i : Fin 8) (c : Fin 256) :
    ex16_256 s m (ix3 a i c) = ew (s (ix3 a i c)) (m (ix2 i c)) := by
  unfold ex16_256
  rw [wgt_apply]
  pointwise []

theorem exP16_256_apply (s : FVec Ideal S16x8x256 .f32) (m : FVec Ideal S8x256 .f32) (a : Fin 16) (i : Fin 8) (c : Fin 256) :
    exP16_256 s m (ix4 0 a i c) = ew (s (ix3 a i c)) (m (ix2 i c)) := by
  rw [← ex16_256_apply]
  pointwise [exP16_256]

theorem ls16_256_apply (s : FVec Ideal S16x8x256 .f32) (m : FVec Ideal S8x256 .f32) (i : Fin 8) (c : Fin 256) :
    ls16_256 s m (ix2 i c) = ∑ a : Fin 16, ew (s (ix3 a i c)) (m (ix2 i c)) := by
  have h : ls16_256 s m (ix2 i c) = comb16 (· + ·) fun a => ex16_256 s m (ix3 a i c) := by
    unfold comb16
    pointwise [ls16_256, fold16_256]
  rw [h, comb16_add]
  exact Finset.sum_congr rfl fun a _ => ex16_256_apply s m a i c

theorem fm16_256_apply (s : FVec Ideal S16x8x256 .f32) (i : Fin 8) (c : Fin 256) :
    fold16_256 maximumf s (ix2 i c) = Finset.univ.sup fun a : Fin 16 => s (ix3 a i c) := by
  rw [← comb16_max]
  unfold comb16
  pointwise [fold16_256]

theorem tm16_256_apply (s : FVec Ideal S16x8x256 .f32) (i : Fin 8) (c : Fin 256) :
    tm16_256 s (ix2 i c) = Finset.univ.sup fun i' : Fin 8 => Finset.univ.sup fun a : Fin 16 => s (ix3 a i' c) := by
  unfold tm16_256 bm16_256
  rw [allMax256_apply]
  simp only [fm16_256_apply]

theorem le_bm16_256 (s : FVec Ideal S16x8x256 .f32) (a : Fin 16) (i : Fin 8) (c : Fin 256) : s (ix3 a i c) ≤ bm16_256 s (ix2 i c) := by
  unfold bm16_256
  refine le_trans ?_ (rollMax256_ge _ _ _)
  rw [fm16_256_apply]
  exact Finset.le_sup (f := fun a : Fin 16 => s (ix3 a i c)) (Finset.mem_univ a)

theorem bm16_256_le (s : FVec Ideal S16x8x256 .f32) (i : Fin 8) (c : Fin 256) : bm16_256 s (ix2 i c) ≤ tm16_256 s (ix2 i c) := by
  unfold tm16_256
  exact (rollMax256_ge 2#32 _ _).trans (rollMax256_ge 1#32 _ _)

theorem tile16_256 (σ : Fin 1024 → EReal) (j : Fin 4) (s : FVec Ideal S16x8x256 .f32) (c : Fin 256) (h : ∀ x, row16_256 s c x = σ (keyn j x)) :
    Tl σ (Kn j) (fun M i => ∑ a : Fin 16, wt (s (ix3 a i c)) M) (fun i => tm16_256 s (ix2 i c)) := by
  have hr : ∀ (a : Fin 16) (i : Fin 8), s (ix3 a i c) = σ (keyn j ⟨8 * a.val + i.val, by omega⟩) := by
    intro a i
    rw [← h]
    unfold row16_256
    congr 2 <;> (ext; simp only; omega)
  have hle : ∀ (a : Fin 16) (i : Fin 8), s (ix3 a i c) ≤ (Kn j).sup σ := by
    intro a i
    rw [hr]
    exact Finset.le_sup (Finset.mem_image_of_mem _ (Finset.mem_univ _))
  refine ⟨?_, ?_, ?_⟩
  · intro i
    rw [tm16_256_apply]
    apply le_antisymm
    · exact Finset.sup_le fun i' _ => Finset.sup_le fun a _ => hle a i'
    · apply Finset.sup_le
      intro k hk
      obtain ⟨x, _, rfl⟩ := Finset.mem_image.mp hk
      rw [← h]
      exact le_trans (Finset.le_sup (f := fun a : Fin 16 => s (ix3 a ⟨x.val % 8, by omega⟩ c)) (Finset.mem_univ (⟨x.val / 8, by omega⟩ : Fin 16)))
        (Finset.le_sup (f := fun i' : Fin 8 => Finset.univ.sup fun a : Fin 16 => s (ix3 a i' c)) (Finset.mem_univ (⟨x.val % 8, by omega⟩ : Fin 8)))
  · intro m M hm hM i
    rw [Finset.sum_mul]
    exact Finset.sum_congr rfl fun a _ => wt_mul ((hle a i).trans hm) hM
  · intro M
    rw [sum_Kn, sum_rows (A := 16) rfl]
    simp only [hr]

theorem lsT16_256 (σ : Fin 1024 → EReal) (j : Fin 4) (s : FVec Ideal S16x8x256 .f32) (m : FVec Ideal S8x256 .f32) (c : Fin 256) (h : ∀ x, row16_256 s c x = σ (keyn j x))
    (K : Finset (Fin 1024)) (hK : Kn j ⊆ K) (hm : ∀ i, m (ix2 i c) = K.sup σ) (i : Fin 8) :
    ls16_256 s m (ix2 i c) = ((∑ a : Fin 16, wt (s (ix3 a i c)) (K.sup σ) : ℝ) : EReal) := by
  rw [ls16_256_apply, coe_sum]
  refine Finset.sum_congr rfl fun a _ => ?_
  rw [hm]
  refine ew_eq ?_
  have : s (ix3 a i c) = σ (keyn j ⟨8 * a.val + i.val, by omega⟩) := by
    rw [← h]
    unfold row16_256
    congr 2 <;> (ext; simp only; omega)
  rw [this]
  exact Finset.le_sup (hK (Finset.mem_image_of_mem _ (Finset.mem_univ _)))

/-- A quantised weight, multiplied back by its scale. -/
def pvTerm16_256 (e : Vec Ideal S1x16x8x256 .f32) (bm mj m rl : FVec Ideal S8x256 .f32) (c : Fin 256) (x : Fin 128) : EReal :=
  (min (e (ix4 0 ⟨x.val / 8, by omega⟩ ⟨x.val % 8, by omega⟩ c) *
      (wgt S8x256 mj m (ix2 ⟨x.val % 8, by omega⟩ c) * rl (ix2 ⟨x.val % 8, by omega⟩ c) *
        invOf (F := Ideal) S8x256 (byteOf S8x256 (mulf (wgt S8x256 bm mj) (mulf (wgt S8x256 mj m) rl))) (ix2 ⟨x.val % 8, by omega⟩ c)))
      (Ideal.ofBits FTy.f32 1138753536#32) *
    if h : x.val % 16 < 8 then
      pow2 (F := Ideal) S8x256 (byteOf S8x256 (mulf (wgt S8x256 bm mj) (mulf (wgt S8x256 mj m) rl))) (ix2 ⟨x.val % 16, by omega⟩ c)
    else pow2 (F := Ideal) S8x256 (byteOf S8x256 (mulf (wgt S8x256 bm mj) (mulf (wgt S8x256 mj m) rl))) (ix2 ⟨x.val % 16 - 8, by omega⟩ c) : EReal)

theorem pv16_256_apply (σ ν : Fin 1024 → EReal) (j : Fin 4) (s : FVec Ideal S16x8x256 .f32) (e : Vec Ideal S1x16x8x256 .f32)
    (mj m rl : FVec Ideal S8x256 .f32) (vv : FVec Ideal S128x128 .bf16)
    (d : Fin 128) (c : Fin 256) (h : ∀ x, row16_256 s c x = σ (keyn j x)) (hv : ∀ x, vv (ix2 d x) = ν (keyn j x)) (he : e = exP16_256 s mj)
    (K Kj : Finset (Fin 1024)) (hj : Kn j ⊆ Kj) (hK : Kj ⊆ K) (hmj : ∀ i, mj (ix2 i c) = Kj.sup σ) (hm : ∀ i, m (ix2 i c) = K.sup σ)
    (hrl : ∀ i, rl (ix2 i c) = Ideal.div 1 ((∑ k ∈ K, wt (σ k) (K.sup σ) : ℝ) : EReal)) :
    pv16_256 e (bm16_256 s) mj m rl vv (ix2 d c) = softK σ ν K (Kn j) := by
  have hl0 : 0 ≤ ∑ k ∈ K, wt (σ k) (K.sup σ) := Finset.sum_nonneg fun k hk => wt_nonneg (Finset.le_sup hk)
  generalize hL : (∑ k ∈ K, wt (σ k) (K.sup σ)) = l at *
  have hz : l = 0 → ∀ s, s ≤ K.sup σ → wt s (K.sup σ) = 0 := by
    intro h0
    rcases sup_wt (σ := σ) K with hh | hh
    · exact hh
    · rw [hL, h0] at hh; norm_num at hh
  have h1 : ∀ s, s ≤ K.sup σ → wt s (K.sup σ) * l⁻¹ ≤ 1 := by
    intro s hs
    rcases sup_wt (σ := σ) K with hh | hh
    · rw [hh s hs, zero_mul]; norm_num
    · rw [hL] at hh
      rw [← div_eq_mul_inv, div_le_one (by linarith)]
      exact (wt_le_one hs).trans hh
  have hjle : Kj.sup σ ≤ K.sup σ := Finset.sup_mono hK
  have htl := tile16_256 σ j s c h
  have hb2 : ∀ i, bm16_256 s (ix2 i c) ≤ Kj.sup σ := fun i => (bm16_256_le s i c).trans (by rw [htl.hm i]; exact Finset.sup_mono hj)
  have hf : ∀ i : Fin 8, (mulf (wgt S8x256 mj m) rl) (ix2 i c) = ((wt (Kj.sup σ) (K.sup σ) * l⁻¹ : ℝ) : EReal) := by
    intro i
    show wgt S8x256 mj m (ix2 i c) * rl (ix2 i c) = _
    rw [wgt_apply, hmj, hm, hrl, ew_eq hjle, mul_div_one fun h0 => hz h0 _ hjle]
  have ha : ∀ i : Fin 8, (mulf (wgt S8x256 (bm16_256 s) mj) (mulf (wgt S8x256 mj m) rl)) (ix2 i c)
      = ((wt (bm16_256 s (ix2 i c)) (K.sup σ) * l⁻¹ : ℝ) : EReal) := by
    intro i
    show wgt S8x256 (bm16_256 s) mj (ix2 i c) * (mulf (wgt S8x256 mj m) rl) (ix2 i c) = _
    rw [hf, wgt_apply, hmj, ew_eq (hb2 i), ← EReal.coe_mul, ← mul_assoc, wt_mul (hb2 i) hjle]
  have hq : ∀ x : Fin 128, pvTerm16_256 e (bm16_256 s) mj m rl c x = ((wt (σ (keyn j x)) (K.sup σ) * l⁻¹ : ℝ) : EReal) := by
    intro x
    have hx8 : x.val % 8 < 8 := by omega
    obtain ⟨k, k1, k2, hk, hkl⟩ := byteOf_spec S8x256 _ _ _ (ha ⟨x.val % 8, hx8⟩) (h1 _ ((hb2 _).trans hjle))
    have hs := quant_scalar (s := row16_256 s c x) (mj := Kj.sup σ) (M := K.sup σ) (b := bm16_256 s (ix2 ⟨x.val % 8, hx8⟩ c)) (l := l) ((k : ℤ) - 127)
      (le_bm16_256 s _ _ c) (hb2 _) hjle hl0 (fun h0 => hz h0 _ hjle) hkl
    rw [← h, ← hs]
    unfold pvTerm16_256
    rw [he, exP16_256_apply, hmj, invOf_real S8x256 _ _ k hk k1 k2, wgt_apply, hmj, hm, hrl]
    rw [show (Ideal.ofBits FTy.f32 1138753536#32 : EReal) = ((448 : ℝ) : EReal) from f448]
    congr 1
    split
    · next hlt =>
      refine pow2_real S8x256 _ _ k ?_ k1 (by omega)
      rw [← hk]
      congr 2
      ext; simp only; omega
    · next hlt =>
      refine pow2_real S8x256 _ _ k ?_ k1 (by omega)
      rw [← hk]
      congr 2
      ext; simp only; omega
  have hpv : pv16_256 e (bm16_256 s) mj m rl vv (ix2 d c) = ∑ x : Fin 128, vv (ix2 d x) * pvTerm16_256 e (bm16_256 s) mj m rl c x := by
    unfold pvTerm16_256
    pointwise [pv16_256, zeroS]
  rw [hpv]
  unfold softK
  rw [sum_Kn, hL]
  refine Finset.sum_congr rfl fun x _ => ?_
  rw [hq, hv]

/-- Row `x` of column `c`. -/
def row32_128 (s : FVec Ideal S32x8x128 .f32) (c : Fin 128) (x : Fin 256) : EReal := s (ix3 ⟨x.val / 8, by omega⟩ ⟨x.val % 8, by omega⟩ c)

theorem ex32_128_apply (s : FVec Ideal S32x8x128 .f32) (m : FVec Ideal S8x128 .f32) (a : Fin 32) (i : Fin 8) (c : Fin 128) :
    ex32_128 s m (ix3 a i c) = ew (s (ix3 a i c)) (m (ix2 i c)) := by
  unfold ex32_128
  rw [wgt_apply]
  pointwise []

theorem exP32_128_apply (s : FVec Ideal S32x8x128 .f32) (m : FVec Ideal S8x128 .f32) (a : Fin 32) (i : Fin 8) (c : Fin 128) :
    exP32_128 s m (ix4 0 a i c) = ew (s (ix3 a i c)) (m (ix2 i c)) := by
  rw [← ex32_128_apply]
  pointwise [exP32_128]

theorem ls32_128_apply (s : FVec Ideal S32x8x128 .f32) (m : FVec Ideal S8x128 .f32) (i : Fin 8) (c : Fin 128) :
    ls32_128 s m (ix2 i c) = ∑ a : Fin 32, ew (s (ix3 a i c)) (m (ix2 i c)) := by
  have h : ls32_128 s m (ix2 i c) = comb32 (· + ·) fun a => ex32_128 s m (ix3 a i c) := by
    unfold comb32
    pointwise [ls32_128, fold32_128]
  rw [h, comb32_add]
  exact Finset.sum_congr rfl fun a _ => ex32_128_apply s m a i c

theorem fm32_128_apply (s : FVec Ideal S32x8x128 .f32) (i : Fin 8) (c : Fin 128) :
    fold32_128 maximumf s (ix2 i c) = Finset.univ.sup fun a : Fin 32 => s (ix3 a i c) := by
  rw [← comb32_max]
  unfold comb32
  pointwise [fold32_128]

theorem allAdd128_apply (x : FVec Ideal S8x128 .f32) (i : Fin 8) (c : Fin 128) : allAdd128 x (ix2 i c) = ∑ i' : Fin 8, x (ix2 i' c) := by
  rw [← combine8_add]
  have hb := sublaneAllReduce_apply (α := EReal) (· + ·) rotates_S8x128_d0 x i c
  simp only at hb
  unfold allAdd128 rollAdd128 addf
  exact hb

theorem rollMax128_ge (k : BitVec 32) (x : FVec Ideal S8x128 .f32) (j : S8x128.Idx) : x j ≤ rollMax128 k x j := le_max_left _ _

theorem allMax128_apply (x : FVec Ideal S8x128 .f32) (i : Fin 8) (c : Fin 128) :
    rollMax128 1#32 (rollMax128 2#32 (rollMax128 4#32 x)) (ix2 i c) = Finset.univ.sup fun i' : Fin 8 => x (ix2 i' c) := by
  rw [← combine8_max]
  have hb := sublaneAllReduce_apply (α := EReal) max rotates_S8x128_d0 x i c
  simp only at hb
  unfold rollMax128 maximumf
  exact hb

theorem tm32_128_apply (s : FVec Ideal S32x8x128 .f32) (i : Fin 8) (c : Fin 128) :
    tm32_128 s (ix2 i c) = Finset.univ.sup fun i' : Fin 8 => Finset.univ.sup fun a : Fin 32 => s (ix3 a i' c) := by
  unfold tm32_128 bm32_128
  rw [allMax128_apply]
  simp only [fm32_128_apply]

theorem le_bm32_128 (s : FVec Ideal S32x8x128 .f32) (a : Fin 32) (i : Fin 8) (c : Fin 128) : s (ix3 a i c) ≤ bm32_128 s (ix2 i c) := by
  unfold bm32_128
  rw [fm32_128_apply]
  exact Finset.le_sup (f := fun a : Fin 32 => s (ix3 a i c)) (Finset.mem_univ a)

theorem bm32_128_le (s : FVec Ideal S32x8x128 .f32) (i : Fin 8) (c : Fin 128) : bm32_128 s (ix2 i c) ≤ tm32_128 s (ix2 i c) := by
  unfold tm32_128
  refine le_trans ?_ ((rollMax128_ge 4#32 _ _).trans ((rollMax128_ge 2#32 _ _).trans (rollMax128_ge 1#32 _ _)))
  exact le_rfl

theorem tile32_128 (σ : Fin 1024 → EReal) (j : Fin 4) (s : FVec Ideal S32x8x128 .f32) (c : Fin 128) (h : ∀ x, row32_128 s c x = σ (keyw j x)) :
    Tl σ (Kw j) (fun M i => ∑ a : Fin 32, wt (s (ix3 a i c)) M) (fun i => tm32_128 s (ix2 i c)) := by
  have hr : ∀ (a : Fin 32) (i : Fin 8), s (ix3 a i c) = σ (keyw j ⟨8 * a.val + i.val, by omega⟩) := by
    intro a i
    rw [← h]
    unfold row32_128
    congr 2 <;> (ext; simp only; omega)
  have hle : ∀ (a : Fin 32) (i : Fin 8), s (ix3 a i c) ≤ (Kw j).sup σ := by
    intro a i
    rw [hr]
    exact Finset.le_sup (Finset.mem_image_of_mem _ (Finset.mem_univ _))
  refine ⟨?_, ?_, ?_⟩
  · intro i
    rw [tm32_128_apply]
    apply le_antisymm
    · exact Finset.sup_le fun i' _ => Finset.sup_le fun a _ => hle a i'
    · apply Finset.sup_le
      intro k hk
      obtain ⟨x, _, rfl⟩ := Finset.mem_image.mp hk
      rw [← h]
      exact le_trans (Finset.le_sup (f := fun a : Fin 32 => s (ix3 a ⟨x.val % 8, by omega⟩ c)) (Finset.mem_univ (⟨x.val / 8, by omega⟩ : Fin 32)))
        (Finset.le_sup (f := fun i' : Fin 8 => Finset.univ.sup fun a : Fin 32 => s (ix3 a i' c)) (Finset.mem_univ (⟨x.val % 8, by omega⟩ : Fin 8)))
  · intro m M hm hM i
    rw [Finset.sum_mul]
    exact Finset.sum_congr rfl fun a _ => wt_mul ((hle a i).trans hm) hM
  · intro M
    rw [sum_Kw, sum_rows (A := 32) rfl]
    simp only [hr]

theorem lsT32_128 (σ : Fin 1024 → EReal) (j : Fin 4) (s : FVec Ideal S32x8x128 .f32) (m : FVec Ideal S8x128 .f32) (c : Fin 128) (h : ∀ x, row32_128 s c x = σ (keyw j x))
    (K : Finset (Fin 1024)) (hK : Kw j ⊆ K) (hm : ∀ i, m (ix2 i c) = K.sup σ) (i : Fin 8) :
    ls32_128 s m (ix2 i c) = ((∑ a : Fin 32, wt (s (ix3 a i c)) (K.sup σ) : ℝ) : EReal) := by
  rw [ls32_128_apply, coe_sum]
  refine Finset.sum_congr rfl fun a _ => ?_
  rw [hm]
  refine ew_eq ?_
  have : s (ix3 a i c) = σ (keyw j ⟨8 * a.val + i.val, by omega⟩) := by
    rw [← h]
    unfold row32_128
    congr 2 <;> (ext; simp only; omega)
  rw [this]
  exact Finset.le_sup (hK (Finset.mem_image_of_mem _ (Finset.mem_univ _)))

/-- A quantised weight, multiplied back by its scale. -/
def pvTerm32_128 (e : Vec Ideal S1x32x8x128 .f32) (bm mj m rl : FVec Ideal S8x128 .f32) (c : Fin 128) (x : Fin 256) : EReal :=
  (min (e (ix4 0 ⟨x.val / 8, by omega⟩ ⟨x.val % 8, by omega⟩ c) *
      (wgt S8x128 mj m (ix2 ⟨x.val % 8, by omega⟩ c) * rl (ix2 ⟨x.val % 8, by omega⟩ c) *
        invOf (F := Ideal) S8x128 (byteOf S8x128 (mulf (wgt S8x128 bm mj) (mulf (wgt S8x128 mj m) rl))) (ix2 ⟨x.val % 8, by omega⟩ c)))
      (Ideal.ofBits FTy.f32 1138753536#32) *
    if h : x.val % 16 < 8 then
      pow2 (F := Ideal) S8x128 (byteOf S8x128 (mulf (wgt S8x128 bm mj) (mulf (wgt S8x128 mj m) rl))) (ix2 ⟨x.val % 16, by omega⟩ c)
    else pow2 (F := Ideal) S8x128 (byteOf S8x128 (mulf (wgt S8x128 bm mj) (mulf (wgt S8x128 mj m) rl))) (ix2 ⟨x.val % 16 - 8, by omega⟩ c) : EReal)

theorem pv32_128_apply (σ ν : Fin 1024 → EReal) (j : Fin 4) (s : FVec Ideal S32x8x128 .f32) (e : Vec Ideal S1x32x8x128 .f32)
    (mj m rl : FVec Ideal S8x128 .f32) (vv : FVec Ideal S128x256 .bf16)
    (d : Fin 128) (c : Fin 128) (h : ∀ x, row32_128 s c x = σ (keyw j x)) (hv : ∀ x, vv (ix2 d x) = ν (keyw j x)) (he : e = exP32_128 s mj)
    (K Kj : Finset (Fin 1024)) (hj : Kw j ⊆ Kj) (hK : Kj ⊆ K) (hmj : ∀ i, mj (ix2 i c) = Kj.sup σ) (hm : ∀ i, m (ix2 i c) = K.sup σ)
    (hrl : ∀ i, rl (ix2 i c) = Ideal.div 1 ((∑ k ∈ K, wt (σ k) (K.sup σ) : ℝ) : EReal)) :
    pv32_128 e (bm32_128 s) mj m rl vv (ix2 d c) = softK σ ν K (Kw j) := by
  have hl0 : 0 ≤ ∑ k ∈ K, wt (σ k) (K.sup σ) := Finset.sum_nonneg fun k hk => wt_nonneg (Finset.le_sup hk)
  generalize hL : (∑ k ∈ K, wt (σ k) (K.sup σ)) = l at *
  have hz : l = 0 → ∀ s, s ≤ K.sup σ → wt s (K.sup σ) = 0 := by
    intro h0
    rcases sup_wt (σ := σ) K with hh | hh
    · exact hh
    · rw [hL, h0] at hh; norm_num at hh
  have h1 : ∀ s, s ≤ K.sup σ → wt s (K.sup σ) * l⁻¹ ≤ 1 := by
    intro s hs
    rcases sup_wt (σ := σ) K with hh | hh
    · rw [hh s hs, zero_mul]; norm_num
    · rw [hL] at hh
      rw [← div_eq_mul_inv, div_le_one (by linarith)]
      exact (wt_le_one hs).trans hh
  have hjle : Kj.sup σ ≤ K.sup σ := Finset.sup_mono hK
  have htl := tile32_128 σ j s c h
  have hb2 : ∀ i, bm32_128 s (ix2 i c) ≤ Kj.sup σ := fun i => (bm32_128_le s i c).trans (by rw [htl.hm i]; exact Finset.sup_mono hj)
  have hf : ∀ i : Fin 8, (mulf (wgt S8x128 mj m) rl) (ix2 i c) = ((wt (Kj.sup σ) (K.sup σ) * l⁻¹ : ℝ) : EReal) := by
    intro i
    show wgt S8x128 mj m (ix2 i c) * rl (ix2 i c) = _
    rw [wgt_apply, hmj, hm, hrl, ew_eq hjle, mul_div_one fun h0 => hz h0 _ hjle]
  have ha : ∀ i : Fin 8, (mulf (wgt S8x128 (bm32_128 s) mj) (mulf (wgt S8x128 mj m) rl)) (ix2 i c)
      = ((wt (bm32_128 s (ix2 i c)) (K.sup σ) * l⁻¹ : ℝ) : EReal) := by
    intro i
    show wgt S8x128 (bm32_128 s) mj (ix2 i c) * (mulf (wgt S8x128 mj m) rl) (ix2 i c) = _
    rw [hf, wgt_apply, hmj, ew_eq (hb2 i), ← EReal.coe_mul, ← mul_assoc, wt_mul (hb2 i) hjle]
  have hq : ∀ x : Fin 256, pvTerm32_128 e (bm32_128 s) mj m rl c x = ((wt (σ (keyw j x)) (K.sup σ) * l⁻¹ : ℝ) : EReal) := by
    intro x
    have hx8 : x.val % 8 < 8 := by omega
    obtain ⟨k, k1, k2, hk, hkl⟩ := byteOf_spec S8x128 _ _ _ (ha ⟨x.val % 8, hx8⟩) (h1 _ ((hb2 _).trans hjle))
    have hs := quant_scalar (s := row32_128 s c x) (mj := Kj.sup σ) (M := K.sup σ) (b := bm32_128 s (ix2 ⟨x.val % 8, hx8⟩ c)) (l := l) ((k : ℤ) - 127)
      (le_bm32_128 s _ _ c) (hb2 _) hjle hl0 (fun h0 => hz h0 _ hjle) hkl
    rw [← h, ← hs]
    unfold pvTerm32_128
    rw [he, exP32_128_apply, hmj, invOf_real S8x128 _ _ k hk k1 k2, wgt_apply, hmj, hm, hrl]
    rw [show (Ideal.ofBits FTy.f32 1138753536#32 : EReal) = ((448 : ℝ) : EReal) from f448]
    congr 1
    split
    · next hlt =>
      refine pow2_real S8x128 _ _ k ?_ k1 (by omega)
      rw [← hk]
      congr 2
      ext; simp only; omega
    · next hlt =>
      refine pow2_real S8x128 _ _ k ?_ k1 (by omega)
      rw [← hk]
      congr 2
      ext; simp only; omega
  have hpv : pv32_128 e (bm32_128 s) mj m rl vv (ix2 d c) = ∑ x : Fin 256, vv (ix2 d x) * pvTerm32_128 e (bm32_128 s) mj m rl c x := by
    unfold pvTerm32_128
    pointwise [pv32_128, zeroS]
  rw [hpv]
  unfold softK
  rw [sum_Kw, hL]
  refine Finset.sum_congr rfl fun x _ => ?_
  rw [hq, hv]

/-- Row `x` of column `c`. -/
def row16_128 (s : FVec Ideal S16x8x128 .f32) (c : Fin 128) (x : Fin 128) : EReal := s (ix3 ⟨x.val / 8, by omega⟩ ⟨x.val % 8, by omega⟩ c)

theorem ex16_128_apply (s : FVec Ideal S16x8x128 .f32) (m : FVec Ideal S8x128 .f32) (a : Fin 16) (i : Fin 8) (c : Fin 128) :
    ex16_128 s m (ix3 a i c) = ew (s (ix3 a i c)) (m (ix2 i c)) := by
  unfold ex16_128
  rw [wgt_apply]
  pointwise []

theorem exP16_128_apply (s : FVec Ideal S16x8x128 .f32) (m : FVec Ideal S8x128 .f32) (a : Fin 16) (i : Fin 8) (c : Fin 128) :
    exP16_128 s m (ix4 0 a i c) = ew (s (ix3 a i c)) (m (ix2 i c)) := by
  rw [← ex16_128_apply]
  pointwise [exP16_128]

theorem ls16_128_apply (s : FVec Ideal S16x8x128 .f32) (m : FVec Ideal S8x128 .f32) (i : Fin 8) (c : Fin 128) :
    ls16_128 s m (ix2 i c) = ∑ a : Fin 16, ew (s (ix3 a i c)) (m (ix2 i c)) := by
  have h : ls16_128 s m (ix2 i c) = comb16 (· + ·) fun a => ex16_128 s m (ix3 a i c) := by
    unfold comb16
    pointwise [ls16_128, fold16_128]
  rw [h, comb16_add]
  exact Finset.sum_congr rfl fun a _ => ex16_128_apply s m a i c

theorem fm16_128_apply (s : FVec Ideal S16x8x128 .f32) (i : Fin 8) (c : Fin 128) :
    fold16_128 maximumf s (ix2 i c) = Finset.univ.sup fun a : Fin 16 => s (ix3 a i c) := by
  rw [← comb16_max]
  unfold comb16
  pointwise [fold16_128]

theorem tm16_128_apply (s : FVec Ideal S16x8x128 .f32) (i : Fin 8) (c : Fin 128) :
    tm16_128 s (ix2 i c) = Finset.univ.sup fun i' : Fin 8 => Finset.univ.sup fun a : Fin 16 => s (ix3 a i' c) := by
  unfold tm16_128 bm16_128
  rw [allMax128_apply]
  simp only [fm16_128_apply]

theorem le_bm16_128 (s : FVec Ideal S16x8x128 .f32) (a : Fin 16) (i : Fin 8) (c : Fin 128) : s (ix3 a i c) ≤ bm16_128 s (ix2 i c) := by
  unfold bm16_128
  refine le_trans ?_ (rollMax128_ge _ _ _)
  rw [fm16_128_apply]
  exact Finset.le_sup (f := fun a : Fin 16 => s (ix3 a i c)) (Finset.mem_univ a)

theorem bm16_128_le (s : FVec Ideal S16x8x128 .f32) (i : Fin 8) (c : Fin 128) : bm16_128 s (ix2 i c) ≤ tm16_128 s (ix2 i c) := by
  unfold tm16_128
  exact (rollMax128_ge 2#32 _ _).trans (rollMax128_ge 1#32 _ _)

theorem tile16_128 (σ : Fin 1024 → EReal) (j : Fin 4) (s : FVec Ideal S16x8x128 .f32) (c : Fin 128) (h : ∀ x, row16_128 s c x = σ (keyn j x)) :
    Tl σ (Kn j) (fun M i => ∑ a : Fin 16, wt (s (ix3 a i c)) M) (fun i => tm16_128 s (ix2 i c)) := by
  have hr : ∀ (a : Fin 16) (i : Fin 8), s (ix3 a i c) = σ (keyn j ⟨8 * a.val + i.val, by omega⟩) := by
    intro a i
    rw [← h]
    unfold row16_128
    congr 2 <;> (ext; simp only; omega)
  have hle : ∀ (a : Fin 16) (i : Fin 8), s (ix3 a i c) ≤ (Kn j).sup σ := by
    intro a i
    rw [hr]
    exact Finset.le_sup (Finset.mem_image_of_mem _ (Finset.mem_univ _))
  refine ⟨?_, ?_, ?_⟩
  · intro i
    rw [tm16_128_apply]
    apply le_antisymm
    · exact Finset.sup_le fun i' _ => Finset.sup_le fun a _ => hle a i'
    · apply Finset.sup_le
      intro k hk
      obtain ⟨x, _, rfl⟩ := Finset.mem_image.mp hk
      rw [← h]
      exact le_trans (Finset.le_sup (f := fun a : Fin 16 => s (ix3 a ⟨x.val % 8, by omega⟩ c)) (Finset.mem_univ (⟨x.val / 8, by omega⟩ : Fin 16)))
        (Finset.le_sup (f := fun i' : Fin 8 => Finset.univ.sup fun a : Fin 16 => s (ix3 a i' c)) (Finset.mem_univ (⟨x.val % 8, by omega⟩ : Fin 8)))
  · intro m M hm hM i
    rw [Finset.sum_mul]
    exact Finset.sum_congr rfl fun a _ => wt_mul ((hle a i).trans hm) hM
  · intro M
    rw [sum_Kn, sum_rows (A := 16) rfl]
    simp only [hr]

theorem lsT16_128 (σ : Fin 1024 → EReal) (j : Fin 4) (s : FVec Ideal S16x8x128 .f32) (m : FVec Ideal S8x128 .f32) (c : Fin 128) (h : ∀ x, row16_128 s c x = σ (keyn j x))
    (K : Finset (Fin 1024)) (hK : Kn j ⊆ K) (hm : ∀ i, m (ix2 i c) = K.sup σ) (i : Fin 8) :
    ls16_128 s m (ix2 i c) = ((∑ a : Fin 16, wt (s (ix3 a i c)) (K.sup σ) : ℝ) : EReal) := by
  rw [ls16_128_apply, coe_sum]
  refine Finset.sum_congr rfl fun a _ => ?_
  rw [hm]
  refine ew_eq ?_
  have : s (ix3 a i c) = σ (keyn j ⟨8 * a.val + i.val, by omega⟩) := by
    rw [← h]
    unfold row16_128
    congr 2 <;> (ext; simp only; omega)
  rw [this]
  exact Finset.le_sup (hK (Finset.mem_image_of_mem _ (Finset.mem_univ _)))

/-- A quantised weight, multiplied back by its scale. -/
def pvTerm16_128 (e : Vec Ideal S1x16x8x128 .f32) (bm mj m rl : FVec Ideal S8x128 .f32) (c : Fin 128) (x : Fin 128) : EReal :=
  (min (e (ix4 0 ⟨x.val / 8, by omega⟩ ⟨x.val % 8, by omega⟩ c) *
      (wgt S8x128 mj m (ix2 ⟨x.val % 8, by omega⟩ c) * rl (ix2 ⟨x.val % 8, by omega⟩ c) *
        invOf (F := Ideal) S8x128 (byteOf S8x128 (mulf (wgt S8x128 bm mj) (mulf (wgt S8x128 mj m) rl))) (ix2 ⟨x.val % 8, by omega⟩ c)))
      (Ideal.ofBits FTy.f32 1138753536#32) *
    if h : x.val % 16 < 8 then
      pow2 (F := Ideal) S8x128 (byteOf S8x128 (mulf (wgt S8x128 bm mj) (mulf (wgt S8x128 mj m) rl))) (ix2 ⟨x.val % 16, by omega⟩ c)
    else pow2 (F := Ideal) S8x128 (byteOf S8x128 (mulf (wgt S8x128 bm mj) (mulf (wgt S8x128 mj m) rl))) (ix2 ⟨x.val % 16 - 8, by omega⟩ c) : EReal)

theorem pv16_128_apply (σ ν : Fin 1024 → EReal) (j : Fin 4) (s : FVec Ideal S16x8x128 .f32) (e : Vec Ideal S1x16x8x128 .f32)
    (mj m rl : FVec Ideal S8x128 .f32) (vv : FVec Ideal S128x128 .bf16)
    (d : Fin 128) (c : Fin 128) (h : ∀ x, row16_128 s c x = σ (keyn j x)) (hv : ∀ x, vv (ix2 d x) = ν (keyn j x)) (he : e = exP16_128 s mj)
    (K Kj : Finset (Fin 1024)) (hj : Kn j ⊆ Kj) (hK : Kj ⊆ K) (hmj : ∀ i, mj (ix2 i c) = Kj.sup σ) (hm : ∀ i, m (ix2 i c) = K.sup σ)
    (hrl : ∀ i, rl (ix2 i c) = Ideal.div 1 ((∑ k ∈ K, wt (σ k) (K.sup σ) : ℝ) : EReal)) :
    pv16_128 e (bm16_128 s) mj m rl vv (ix2 d c) = softK σ ν K (Kn j) := by
  have hl0 : 0 ≤ ∑ k ∈ K, wt (σ k) (K.sup σ) := Finset.sum_nonneg fun k hk => wt_nonneg (Finset.le_sup hk)
  generalize hL : (∑ k ∈ K, wt (σ k) (K.sup σ)) = l at *
  have hz : l = 0 → ∀ s, s ≤ K.sup σ → wt s (K.sup σ) = 0 := by
    intro h0
    rcases sup_wt (σ := σ) K with hh | hh
    · exact hh
    · rw [hL, h0] at hh; norm_num at hh
  have h1 : ∀ s, s ≤ K.sup σ → wt s (K.sup σ) * l⁻¹ ≤ 1 := by
    intro s hs
    rcases sup_wt (σ := σ) K with hh | hh
    · rw [hh s hs, zero_mul]; norm_num
    · rw [hL] at hh
      rw [← div_eq_mul_inv, div_le_one (by linarith)]
      exact (wt_le_one hs).trans hh
  have hjle : Kj.sup σ ≤ K.sup σ := Finset.sup_mono hK
  have htl := tile16_128 σ j s c h
  have hb2 : ∀ i, bm16_128 s (ix2 i c) ≤ Kj.sup σ := fun i => (bm16_128_le s i c).trans (by rw [htl.hm i]; exact Finset.sup_mono hj)
  have hf : ∀ i : Fin 8, (mulf (wgt S8x128 mj m) rl) (ix2 i c) = ((wt (Kj.sup σ) (K.sup σ) * l⁻¹ : ℝ) : EReal) := by
    intro i
    show wgt S8x128 mj m (ix2 i c) * rl (ix2 i c) = _
    rw [wgt_apply, hmj, hm, hrl, ew_eq hjle, mul_div_one fun h0 => hz h0 _ hjle]
  have ha : ∀ i : Fin 8, (mulf (wgt S8x128 (bm16_128 s) mj) (mulf (wgt S8x128 mj m) rl)) (ix2 i c)
      = ((wt (bm16_128 s (ix2 i c)) (K.sup σ) * l⁻¹ : ℝ) : EReal) := by
    intro i
    show wgt S8x128 (bm16_128 s) mj (ix2 i c) * (mulf (wgt S8x128 mj m) rl) (ix2 i c) = _
    rw [hf, wgt_apply, hmj, ew_eq (hb2 i), ← EReal.coe_mul, ← mul_assoc, wt_mul (hb2 i) hjle]
  have hq : ∀ x : Fin 128, pvTerm16_128 e (bm16_128 s) mj m rl c x = ((wt (σ (keyn j x)) (K.sup σ) * l⁻¹ : ℝ) : EReal) := by
    intro x
    have hx8 : x.val % 8 < 8 := by omega
    obtain ⟨k, k1, k2, hk, hkl⟩ := byteOf_spec S8x128 _ _ _ (ha ⟨x.val % 8, hx8⟩) (h1 _ ((hb2 _).trans hjle))
    have hs := quant_scalar (s := row16_128 s c x) (mj := Kj.sup σ) (M := K.sup σ) (b := bm16_128 s (ix2 ⟨x.val % 8, hx8⟩ c)) (l := l) ((k : ℤ) - 127)
      (le_bm16_128 s _ _ c) (hb2 _) hjle hl0 (fun h0 => hz h0 _ hjle) hkl
    rw [← h, ← hs]
    unfold pvTerm16_128
    rw [he, exP16_128_apply, hmj, invOf_real S8x128 _ _ k hk k1 k2, wgt_apply, hmj, hm, hrl]
    rw [show (Ideal.ofBits FTy.f32 1138753536#32 : EReal) = ((448 : ℝ) : EReal) from f448]
    congr 1
    split
    · next hlt =>
      refine pow2_real S8x128 _ _ k ?_ k1 (by omega)
      rw [← hk]
      congr 2
      ext; simp only; omega
    · next hlt =>
      refine pow2_real S8x128 _ _ k ?_ k1 (by omega)
      rw [← hk]
      congr 2
      ext; simp only; omega
  have hpv : pv16_128 e (bm16_128 s) mj m rl vv (ix2 d c) = ∑ x : Fin 128, vv (ix2 d x) * pvTerm16_128 e (bm16_128 s) mj m rl c x := by
    unfold pvTerm16_128
    pointwise [pv16_128, zeroS]
  rw [hpv]
  unfold softK
  rw [sum_Kn, hL]
  refine Finset.sum_congr rfl fun x _ => ?_
  rw [hq, hv]

end Cert.KernelIdeal.Run

end
-- ==== Proof.Out.lean ====
/- The output of a query tile: softmax over the keys of its tiles, times the values. -/
module

public import proofs.«01_k».proof.Proof.Soft

@[expose] public section

set_option maxRecDepth 16384

noncomputable section

namespace Cert.KernelIdeal.Run

open Cert.KernelIdeal Cert.KernelIdeal.Gen
open Idealize.ShloMosaic Idealize.ShloMosaic.TcCoe
open Att

theorem f1 : Ideal.ieee 8 23 (0x3F800000#32) = 1 := by
  unfold Ideal.ieee
  have a : ((0x3F800000#32).extractLsb' (8 + 23) 1 == 1#1) = false := by decide
  have b : ((0x3F800000#32).extractLsb' 23 8).toNat = 127 := by decide
  have c : ((0x3F800000#32).extractLsb' 0 23).toNat = 0 := by decide
  simp only [a, b, c]
  norm_num

/-- The first `n` wide tiles' keys and no others, as the unions below are built. -/
theorem disj_w {j : Fin 4} {K K' : Finset (Fin 1024)} (h : ∀ k ∈ K, k.val < 256 * j.val) (h' : ∀ k ∈ K', 256 * j.val ≤ k.val) : Disjoint K K' := by
  rw [Finset.disjoint_left]
  intro k hk hk'
  have := h k hk
  have := h' k hk'
  omega

theorem out32_256_0_apply (σ ν : Fin 1024 → EReal) (s0 : FVec Ideal S32x8x256 .f32) (e0 : Vec Ideal S1x32x8x256 .f32) (v0 : FVec Ideal S128x256 .bf16) (d : Fin 128) (c : Fin 256)
    (h0 : ∀ x, row32_256 s0 c x = σ (keyw 0 x))
    (hv0 : ∀ x, v0 (ix2 d x) = ν (keyw 0 x))
    (he0 : e0 = exP32_256 s0 (mx32_256_0 s0)) :
    out32_256_0 s0 e0 v0 (ix2 d c) = softK σ ν (Kw 0) (Kw 0) := by
  unfold out32_256_0
  unfold mx32_256_0 at he0
  dsimp only at he0 ⊢
  have t0 := tile32_256 σ 0 s0 c h0
  generalize hm0 : tm32_256 s0 = m0 at *
  generalize hl0 : ls32_256 s0 m0 = l0 at *
  have M0 : ∀ i, m0 (ix2 i c) = (Kw 0).sup σ := fun i => t0.hm i
  have S0 := t0.first (lv := fun i => l0 (ix2 i c)) (fun i => by rw [← hl0]; exact lsT32_256 σ 0 s0 m0 c h0 _ (Finset.Subset.refl _) M0 i)
  generalize hrl : divf (broadcast S8x256 (Scalar.ofBits .f32 0x3F800000#32)) (allAdd256 l0) = rl
  have R : ∀ i, rl (ix2 i c) = Ideal.div 1 ((∑ k ∈ (Kw 0), wt (σ k) ((Kw 0).sup σ) : ℝ) : EReal) := fun i => by
    rw [← hrl]
    show Ideal.div (Ideal.ieee 8 23 (0x3F800000#32)) (allAdd256 l0 (ix2 i c)) = _
    rw [f1, allAdd256_apply, ← S0.tot, coe_sum]
    congr 1
    exact Finset.sum_congr rfl fun i _ => S0.hl i
  have P0 := pv32_256_apply σ ν 0 s0 e0 m0 m0 rl v0 d c h0 hv0 he0 (Kw 0) (Kw 0) (Finset.Subset.refl _) (Finset.Subset.refl _) M0 M0 R
  exact P0

theorem out32_256_1_apply (σ ν : Fin 1024 → EReal) (s0 : FVec Ideal S32x8x256 .f32) (s1 : FVec Ideal S32x8x256 .f32) (e0 : Vec Ideal S1x32x8x256 .f32) (e1 : Vec Ideal S1x32x8x256 .f32) (v0 : FVec Ideal S128x256 .bf16) (v1 : FVec Ideal S128x256 .bf16) (d : Fin 128) (c : Fin 256)
    (h0 : ∀ x, row32_256 s0 c x = σ (keyw 0 x)) (h1 : ∀ x, row32_256 s1 c x = σ (keyw 1 x))
    (hv0 : ∀ x, v0 (ix2 d x) = ν (keyw 0 x)) (hv1 : ∀ x, v1 (ix2 d x) = ν (keyw 1 x))
    (he0 : e0 = exP32_256 s0 (mx32_256_0 s0)) (he1 : e1 = exP32_256 s1 (mx32_256_1 s0 s1)) :
    out32_256_1 s0 s1 e0 e1 v0 v1 (ix2 d c) = softK σ ν (Kw 0 ∪ Kw 1) (Kw 0 ∪ Kw 1) := by
  unfold out32_256_1
  unfold mx32_256_0 at he0
  unfold mx32_256_1 at he1
  dsimp only at he0 he1 ⊢
  have t0 := tile32_256 σ 0 s0 c h0
  generalize hm0 : tm32_256 s0 = m0 at *
  generalize hl0 : ls32_256 s0 m0 = l0 at *
  have M0 : ∀ i, m0 (ix2 i c) = (Kw 0).sup σ := fun i => t0.hm i
  have S0 := t0.first (lv := fun i => l0 (ix2 i c)) (fun i => by rw [← hl0]; exact lsT32_256 σ 0 s0 m0 c h0 _ (Finset.Subset.refl _) M0 i)
  have t1 := tile32_256 σ 1 s1 c h1
  generalize hm1 : maximumf m0 (tm32_256 s1) = m1 at *
  generalize hl1 : addf (mulf l0 (wgt S8x256 m0 m1)) (ls32_256 s1 m1) = l1 at *
  have M1 : ∀ i, m1 (ix2 i c) = (Kw 0 ∪ Kw 1).sup σ := fun i => by
    rw [← hm1, Finset.sup_union]
    show max (m0 (ix2 i c)) (tm32_256 s1 (ix2 i c)) = _
    rw [M0, t1.hm]
  have D1 : Disjoint (Kw 0) (Kw 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls32_256 s1 m1 (ix2 i c)) t1 D1 (fun i => by rw [← hm1]; rfl)
    (lsT32_256 σ 1 s1 m1 c h1 _ Finset.subset_union_right M1)
    (fun i => by
      rw [← hl1]
      show l0 (ix2 i c) * wgt S8x256 m0 m1 (ix2 i c) + _ = _
      rw [wgt_apply])
  generalize hrl : divf (broadcast S8x256 (Scalar.ofBits .f32 0x3F800000#32)) (allAdd256 l1) = rl
  have R : ∀ i, rl (ix2 i c) = Ideal.div 1 ((∑ k ∈ (Kw 0 ∪ Kw 1), wt (σ k) ((Kw 0 ∪ Kw 1).sup σ) : ℝ) : EReal) := fun i => by
    rw [← hrl]
    show Ideal.div (Ideal.ieee 8 23 (0x3F800000#32)) (allAdd256 l1 (ix2 i c)) = _
    rw [f1, allAdd256_apply, ← S1.tot, coe_sum]
    congr 1
    exact Finset.sum_congr rfl fun i _ => S1.hl i
  have P0 := pv32_256_apply σ ν 0 s0 e0 m0 m1 rl v0 d c h0 hv0 he0 (Kw 0 ∪ Kw 1) (Kw 0) (Finset.Subset.refl _) (Finset.subset_union_left) M0 M1 R
  have P1 := pv32_256_apply σ ν 1 s1 e1 m1 m1 rl v1 d c h1 hv1 he1 (Kw 0 ∪ Kw 1) (Kw 0 ∪ Kw 1) Finset.subset_union_right (Finset.Subset.refl _) M1 M1 R
  rw [softK_union _ _ _ _ _ D1, ← P0, ← P1]
  rfl

theorem out32_256_2_apply (σ ν : Fin 1024 → EReal) (s0 : FVec Ideal S32x8x256 .f32) (s1 : FVec Ideal S32x8x256 .f32) (s2 : FVec Ideal S32x8x256 .f32) (e0 : Vec Ideal S1x32x8x256 .f32) (e1 : Vec Ideal S1x32x8x256 .f32) (e2 : Vec Ideal S1x32x8x256 .f32) (v0 : FVec Ideal S128x256 .bf16) (v1 : FVec Ideal S128x256 .bf16) (v2 : FVec Ideal S128x256 .bf16) (d : Fin 128) (c : Fin 256)
    (h0 : ∀ x, row32_256 s0 c x = σ (keyw 0 x)) (h1 : ∀ x, row32_256 s1 c x = σ (keyw 1 x)) (h2 : ∀ x, row32_256 s2 c x = σ (keyw 2 x))
    (hv0 : ∀ x, v0 (ix2 d x) = ν (keyw 0 x)) (hv1 : ∀ x, v1 (ix2 d x) = ν (keyw 1 x)) (hv2 : ∀ x, v2 (ix2 d x) = ν (keyw 2 x))
    (he0 : e0 = exP32_256 s0 (mx32_256_0 s0)) (he1 : e1 = exP32_256 s1 (mx32_256_1 s0 s1)) (he2 : e2 = exP32_256 s2 (mx32_256_2 s0 s1 s2)) :
    out32_256_2 s0 s1 s2 e0 e1 e2 v0 v1 v2 (ix2 d c) = softK σ ν ((Kw 0 ∪ Kw 1) ∪ Kw 2) ((Kw 0 ∪ Kw 1) ∪ Kw 2) := by
  unfold out32_256_2
  unfold mx32_256_0 at he0
  unfold mx32_256_1 at he1
  unfold mx32_256_2 at he2
  dsimp only at he0 he1 he2 ⊢
  have t0 := tile32_256 σ 0 s0 c h0
  generalize hm0 : tm32_256 s0 = m0 at *
  generalize hl0 : ls32_256 s0 m0 = l0 at *
  have M0 : ∀ i, m0 (ix2 i c) = (Kw 0).sup σ := fun i => t0.hm i
  have S0 := t0.first (lv := fun i => l0 (ix2 i c)) (fun i => by rw [← hl0]; exact lsT32_256 σ 0 s0 m0 c h0 _ (Finset.Subset.refl _) M0 i)
  have t1 := tile32_256 σ 1 s1 c h1
  generalize hm1 : maximumf m0 (tm32_256 s1) = m1 at *
  generalize hl1 : addf (mulf l0 (wgt S8x256 m0 m1)) (ls32_256 s1 m1) = l1 at *
  have M1 : ∀ i, m1 (ix2 i c) = (Kw 0 ∪ Kw 1).sup σ := fun i => by
    rw [← hm1, Finset.sup_union]
    show max (m0 (ix2 i c)) (tm32_256 s1 (ix2 i c)) = _
    rw [M0, t1.hm]
  have D1 : Disjoint (Kw 0) (Kw 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls32_256 s1 m1 (ix2 i c)) t1 D1 (fun i => by rw [← hm1]; rfl)
    (lsT32_256 σ 1 s1 m1 c h1 _ Finset.subset_union_right M1)
    (fun i => by
      rw [← hl1]
      show l0 (ix2 i c) * wgt S8x256 m0 m1 (ix2 i c) + _ = _
      rw [wgt_apply])
  have t2 := tile32_256 σ 2 s2 c h2
  generalize hm2 : maximumf m1 (tm32_256 s2) = m2 at *
  generalize hl2 : addf (mulf l1 (wgt S8x256 m1 m2)) (ls32_256 s2 m2) = l2 at *
  have M2 : ∀ i, m2 (ix2 i c) = ((Kw 0 ∪ Kw 1) ∪ Kw 2).sup σ := fun i => by
    rw [← hm2, Finset.sup_union]
    show max (m1 (ix2 i c)) (tm32_256 s2 (ix2 i c)) = _
    rw [M1, t2.hm]
  have D2 : Disjoint (Kw 0 ∪ Kw 1) (Kw 2) := by
    refine disj_w (j := 2) (fun k hk => ?_) (fun k hk => ?_)
    · simp only [Finset.mem_union, mem_Kw, mem_Kn] at hk
      simp at hk ⊢
      omega
    · simp only [Finset.mem_union, mem_Kw, mem_Kn] at hk
      exact hk.1
  have S2 := S1.step (mv' := fun i => m2 (ix2 i c)) (lv' := fun i => l2 (ix2 i c)) (ls := fun i => ls32_256 s2 m2 (ix2 i c)) t2 D2 (fun i => by rw [← hm2]; rfl)
    (lsT32_256 σ 2 s2 m2 c h2 _ Finset.subset_union_right M2)
    (fun i => by
      rw [← hl2]
      show l1 (ix2 i c) * wgt S8x256 m1 m2 (ix2 i c) + _ = _
      rw [wgt_apply])
  generalize hrl : divf (broadcast S8x256 (Scalar.ofBits .f32 0x3F800000#32)) (allAdd256 l2) = rl
  have R : ∀ i, rl (ix2 i c) = Ideal.div 1 ((∑ k ∈ ((Kw 0 ∪ Kw 1) ∪ Kw 2), wt (σ k) (((Kw 0 ∪ Kw 1) ∪ Kw 2).sup σ) : ℝ) : EReal) := fun i => by
    rw [← hrl]
    show Ideal.div (Ideal.ieee 8 23 (0x3F800000#32)) (allAdd256 l2 (ix2 i c)) = _
    rw [f1, allAdd256_apply, ← S2.tot, coe_sum]
    congr 1
    exact Finset.sum_congr rfl fun i _ => S2.hl i
  have P0 := pv32_256_apply σ ν 0 s0 e0 m0 m2 rl v0 d c h0 hv0 he0 ((Kw 0 ∪ Kw 1) ∪ Kw 2) (Kw 0) (Finset.Subset.refl _) ((Finset.subset_union_left.trans Finset.subset_union_left)) M0 M2 R
  have P1 := pv32_256_apply σ ν 1 s1 e1 m1 m2 rl v1 d c h1 hv1 he1 ((Kw 0 ∪ Kw 1) ∪ Kw 2) (Kw 0 ∪ Kw 1) Finset.subset_union_right (Finset.subset_union_left) M1 M2 R
  have P2 := pv32_256_apply σ ν 2 s2 e2 m2 m2 rl v2 d c h2 hv2 he2 ((Kw 0 ∪ Kw 1) ∪ Kw 2) ((Kw 0 ∪ Kw 1) ∪ Kw 2) Finset.subset_union_right (Finset.Subset.refl _) M2 M2 R
  rw [softK_union _ _ _ _ _ D2, softK_union _ _ _ _ _ D1, ← P0, ← P1, ← P2]
  rfl

theorem out32_256_3_apply (σ ν : Fin 1024 → EReal) (s0 : FVec Ideal S32x8x256 .f32) (s1 : FVec Ideal S32x8x256 .f32) (s2 : FVec Ideal S32x8x256 .f32) (s3 : FVec Ideal S32x8x256 .f32) (e0 : Vec Ideal S1x32x8x256 .f32) (e1 : Vec Ideal S1x32x8x256 .f32) (e2 : Vec Ideal S1x32x8x256 .f32) (e3 : Vec Ideal S1x32x8x256 .f32) (v0 : FVec Ideal S128x256 .bf16) (v1 : FVec Ideal S128x256 .bf16) (v2 : FVec Ideal S128x256 .bf16) (v3 : FVec Ideal S128x256 .bf16) (d : Fin 128) (c : Fin 256)
    (h0 : ∀ x, row32_256 s0 c x = σ (keyw 0 x)) (h1 : ∀ x, row32_256 s1 c x = σ (keyw 1 x)) (h2 : ∀ x, row32_256 s2 c x = σ (keyw 2 x)) (h3 : ∀ x, row32_256 s3 c x = σ (keyw 3 x))
    (hv0 : ∀ x, v0 (ix2 d x) = ν (keyw 0 x)) (hv1 : ∀ x, v1 (ix2 d x) = ν (keyw 1 x)) (hv2 : ∀ x, v2 (ix2 d x) = ν (keyw 2 x)) (hv3 : ∀ x, v3 (ix2 d x) = ν (keyw 3 x))
    (he0 : e0 = exP32_256 s0 (mx32_256_0 s0)) (he1 : e1 = exP32_256 s1 (mx32_256_1 s0 s1)) (he2 : e2 = exP32_256 s2 (mx32_256_2 s0 s1 s2)) (he3 : e3 = exP32_256 s3 (mx32_256_3 s0 s1 s2 s3)) :
    out32_256_3 s0 s1 s2 s3 e0 e1 e2 e3 v0 v1 v2 v3 (ix2 d c) = softK σ ν (((Kw 0 ∪ Kw 1) ∪ Kw 2) ∪ Kw 3) (((Kw 0 ∪ Kw 1) ∪ Kw 2) ∪ Kw 3) := by
  unfold out32_256_3
  unfold mx32_256_0 at he0
  unfold mx32_256_1 at he1
  unfold mx32_256_2 at he2
  unfold mx32_256_3 at he3
  dsimp only at he0 he1 he2 he3 ⊢
  have t0 := tile32_256 σ 0 s0 c h0
  generalize hm0 : tm32_256 s0 = m0 at *
  generalize hl0 : ls32_256 s0 m0 = l0 at *
  have M0 : ∀ i, m0 (ix2 i c) = (Kw 0).sup σ := fun i => t0.hm i
  have S0 := t0.first (lv := fun i => l0 (ix2 i c)) (fun i => by rw [← hl0]; exact lsT32_256 σ 0 s0 m0 c h0 _ (Finset.Subset.refl _) M0 i)
  have t1 := tile32_256 σ 1 s1 c h1
  generalize hm1 : maximumf m0 (tm32_256 s1) = m1 at *
  generalize hl1 : addf (mulf l0 (wgt S8x256 m0 m1)) (ls32_256 s1 m1) = l1 at *
  have M1 : ∀ i, m1 (ix2 i c) = (Kw 0 ∪ Kw 1).sup σ := fun i => by
    rw [← hm1, Finset.sup_union]
    show max (m0 (ix2 i c)) (tm32_256 s1 (ix2 i c)) = _
    rw [M0, t1.hm]
  have D1 : Disjoint (Kw 0) (Kw 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls32_256 s1 m1 (ix2 i c)) t1 D1 (fun i => by rw [← hm1]; rfl)
    (lsT32_256 σ 1 s1 m1 c h1 _ Finset.subset_union_right M1)
    (fun i => by
      rw [← hl1]
      show l0 (ix2 i c) * wgt S8x256 m0 m1 (ix2 i c) + _ = _
      rw [wgt_apply])
  have t2 := tile32_256 σ 2 s2 c h2
  generalize hm2 : maximumf m1 (tm32_256 s2) = m2 at *
  generalize hl2 : addf (mulf l1 (wgt S8x256 m1 m2)) (ls32_256 s2 m2) = l2 at *
  have M2 : ∀ i, m2 (ix2 i c) = ((Kw 0 ∪ Kw 1) ∪ Kw 2).sup σ := fun i => by
    rw [← hm2, Finset.sup_union]
    show max (m1 (ix2 i c)) (tm32_256 s2 (ix2 i c)) = _
    rw [M1, t2.hm]
  have D2 : Disjoint (Kw 0 ∪ Kw 1) (Kw 2) := by
    refine disj_w (j := 2) (fun k hk => ?_) (fun k hk => ?_)
    · simp only [Finset.mem_union, mem_Kw, mem_Kn] at hk
      simp at hk ⊢
      omega
    · simp only [Finset.mem_union, mem_Kw, mem_Kn] at hk
      exact hk.1
  have S2 := S1.step (mv' := fun i => m2 (ix2 i c)) (lv' := fun i => l2 (ix2 i c)) (ls := fun i => ls32_256 s2 m2 (ix2 i c)) t2 D2 (fun i => by rw [← hm2]; rfl)
    (lsT32_256 σ 2 s2 m2 c h2 _ Finset.subset_union_right M2)
    (fun i => by
      rw [← hl2]
      show l1 (ix2 i c) * wgt S8x256 m1 m2 (ix2 i c) + _ = _
      rw [wgt_apply])
  have t3 := tile32_256 σ 3 s3 c h3
  generalize hm3 : maximumf m2 (tm32_256 s3) = m3 at *
  generalize hl3 : addf (mulf l2 (wgt S8x256 m2 m3)) (ls32_256 s3 m3) = l3 at *
  have M3 : ∀ i, m3 (ix2 i c) = (((Kw 0 ∪ Kw 1) ∪ Kw 2) ∪ Kw 3).sup σ := fun i => by
    rw [← hm3, Finset.sup_union]
    show max (m2 (ix2 i c)) (tm32_256 s3 (ix2 i c)) = _
    rw [M2, t3.hm]
  have D3 : Disjoint ((Kw 0 ∪ Kw 1) ∪ Kw 2) (Kw 3) := by
    refine disj_w (j := 3) (fun k hk => ?_) (fun k hk => ?_)
    · simp only [Finset.mem_union, mem_Kw, mem_Kn] at hk
      simp at hk ⊢
      omega
    · simp only [Finset.mem_union, mem_Kw, mem_Kn] at hk
      exact hk.1
  have S3 := S2.step (mv' := fun i => m3 (ix2 i c)) (lv' := fun i => l3 (ix2 i c)) (ls := fun i => ls32_256 s3 m3 (ix2 i c)) t3 D3 (fun i => by rw [← hm3]; rfl)
    (lsT32_256 σ 3 s3 m3 c h3 _ Finset.subset_union_right M3)
    (fun i => by
      rw [← hl3]
      show l2 (ix2 i c) * wgt S8x256 m2 m3 (ix2 i c) + _ = _
      rw [wgt_apply])
  generalize hrl : divf (broadcast S8x256 (Scalar.ofBits .f32 0x3F800000#32)) (allAdd256 l3) = rl
  have R : ∀ i, rl (ix2 i c) = Ideal.div 1 ((∑ k ∈ (((Kw 0 ∪ Kw 1) ∪ Kw 2) ∪ Kw 3), wt (σ k) ((((Kw 0 ∪ Kw 1) ∪ Kw 2) ∪ Kw 3).sup σ) : ℝ) : EReal) := fun i => by
    rw [← hrl]
    show Ideal.div (Ideal.ieee 8 23 (0x3F800000#32)) (allAdd256 l3 (ix2 i c)) = _
    rw [f1, allAdd256_apply, ← S3.tot, coe_sum]
    congr 1
    exact Finset.sum_congr rfl fun i _ => S3.hl i
  have P0 := pv32_256_apply σ ν 0 s0 e0 m0 m3 rl v0 d c h0 hv0 he0 (((Kw 0 ∪ Kw 1) ∪ Kw 2) ∪ Kw 3) (Kw 0) (Finset.Subset.refl _) (((Finset.subset_union_left.trans Finset.subset_union_left).trans Finset.subset_union_left)) M0 M3 R
  have P1 := pv32_256_apply σ ν 1 s1 e1 m1 m3 rl v1 d c h1 hv1 he1 (((Kw 0 ∪ Kw 1) ∪ Kw 2) ∪ Kw 3) (Kw 0 ∪ Kw 1) Finset.subset_union_right ((Finset.subset_union_left.trans Finset.subset_union_left)) M1 M3 R
  have P2 := pv32_256_apply σ ν 2 s2 e2 m2 m3 rl v2 d c h2 hv2 he2 (((Kw 0 ∪ Kw 1) ∪ Kw 2) ∪ Kw 3) ((Kw 0 ∪ Kw 1) ∪ Kw 2) Finset.subset_union_right (Finset.subset_union_left) M2 M3 R
  have P3 := pv32_256_apply σ ν 3 s3 e3 m3 m3 rl v3 d c h3 hv3 he3 (((Kw 0 ∪ Kw 1) ∪ Kw 2) ∪ Kw 3) (((Kw 0 ∪ Kw 1) ∪ Kw 2) ∪ Kw 3) Finset.subset_union_right (Finset.Subset.refl _) M3 M3 R
  rw [softK_union _ _ _ _ _ D3, softK_union _ _ _ _ _ D2, softK_union _ _ _ _ _ D1, ← P0, ← P1, ← P2, ← P3]
  rfl

theorem out16_256_0_apply (σ ν : Fin 1024 → EReal) (s0 : FVec Ideal S16x8x256 .f32) (e0 : Vec Ideal S1x16x8x256 .f32) (v0 : FVec Ideal S128x128 .bf16) (d : Fin 128) (c : Fin 256)
    (h0 : ∀ x, row16_256 s0 c x = σ (keyn 0 x))
    (hv0 : ∀ x, v0 (ix2 d x) = ν (keyn 0 x))
    (he0 : e0 = exP16_256 s0 (mx16_256_0 s0)) :
    out16_256_0 s0 e0 v0 (ix2 d c) = softK σ ν (Kn 0) (Kn 0) := by
  unfold out16_256_0
  unfold mx16_256_0 at he0
  dsimp only at he0 ⊢
  have t0 := tile16_256 σ 0 s0 c h0
  generalize hm0 : tm16_256 s0 = m0 at *
  generalize hl0 : ls16_256 s0 m0 = l0 at *
  have M0 : ∀ i, m0 (ix2 i c) = (Kn 0).sup σ := fun i => t0.hm i
  have S0 := t0.first (lv := fun i => l0 (ix2 i c)) (fun i => by rw [← hl0]; exact lsT16_256 σ 0 s0 m0 c h0 _ (Finset.Subset.refl _) M0 i)
  generalize hrl : divf (broadcast S8x256 (Scalar.ofBits .f32 0x3F800000#32)) (allAdd256 l0) = rl
  have R : ∀ i, rl (ix2 i c) = Ideal.div 1 ((∑ k ∈ (Kn 0), wt (σ k) ((Kn 0).sup σ) : ℝ) : EReal) := fun i => by
    rw [← hrl]
    show Ideal.div (Ideal.ieee 8 23 (0x3F800000#32)) (allAdd256 l0 (ix2 i c)) = _
    rw [f1, allAdd256_apply, ← S0.tot, coe_sum]
    congr 1
    exact Finset.sum_congr rfl fun i _ => S0.hl i
  have P0 := pv16_256_apply σ ν 0 s0 e0 m0 m0 rl v0 d c h0 hv0 he0 (Kn 0) (Kn 0) (Finset.Subset.refl _) (Finset.Subset.refl _) M0 M0 R
  exact P0

theorem out16_256_1_apply (σ ν : Fin 1024 → EReal) (s0 : FVec Ideal S32x8x256 .f32) (s1 : FVec Ideal S16x8x256 .f32) (e0 : Vec Ideal S1x32x8x256 .f32) (e1 : Vec Ideal S1x16x8x256 .f32) (v0 : FVec Ideal S128x256 .bf16) (v1 : FVec Ideal S128x128 .bf16) (d : Fin 128) (c : Fin 256)
    (h0 : ∀ x, row32_256 s0 c x = σ (keyw 0 x)) (h1 : ∀ x, row16_256 s1 c x = σ (keyn 1 x))
    (hv0 : ∀ x, v0 (ix2 d x) = ν (keyw 0 x)) (hv1 : ∀ x, v1 (ix2 d x) = ν (keyn 1 x))
    (he0 : e0 = exP32_256 s0 (mx32_256_0 s0)) (he1 : e1 = exP16_256 s1 (mx16_256_1 s0 s1)) :
    out16_256_1 s0 s1 e0 e1 v0 v1 (ix2 d c) = softK σ ν (Kw 0 ∪ Kn 1) (Kw 0 ∪ Kn 1) := by
  unfold out16_256_1
  unfold mx32_256_0 at he0
  unfold mx16_256_1 at he1
  dsimp only at he0 he1 ⊢
  have t0 := tile32_256 σ 0 s0 c h0
  generalize hm0 : tm32_256 s0 = m0 at *
  generalize hl0 : ls32_256 s0 m0 = l0 at *
  have M0 : ∀ i, m0 (ix2 i c) = (Kw 0).sup σ := fun i => t0.hm i
  have S0 := t0.first (lv := fun i => l0 (ix2 i c)) (fun i => by rw [← hl0]; exact lsT32_256 σ 0 s0 m0 c h0 _ (Finset.Subset.refl _) M0 i)
  have t1 := tile16_256 σ 1 s1 c h1
  generalize hm1 : maximumf m0 (tm16_256 s1) = m1 at *
  generalize hl1 : addf (mulf l0 (wgt S8x256 m0 m1)) (ls16_256 s1 m1) = l1 at *
  have M1 : ∀ i, m1 (ix2 i c) = (Kw 0 ∪ Kn 1).sup σ := fun i => by
    rw [← hm1, Finset.sup_union]
    show max (m0 (ix2 i c)) (tm16_256 s1 (ix2 i c)) = _
    rw [M0, t1.hm]
  have D1 : Disjoint (Kw 0) (Kn 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls16_256 s1 m1 (ix2 i c)) t1 D1 (fun i => by rw [← hm1]; rfl)
    (lsT16_256 σ 1 s1 m1 c h1 _ Finset.subset_union_right M1)
    (fun i => by
      rw [← hl1]
      show l0 (ix2 i c) * wgt S8x256 m0 m1 (ix2 i c) + _ = _
      rw [wgt_apply])
  generalize hrl : divf (broadcast S8x256 (Scalar.ofBits .f32 0x3F800000#32)) (allAdd256 l1) = rl
  have R : ∀ i, rl (ix2 i c) = Ideal.div 1 ((∑ k ∈ (Kw 0 ∪ Kn 1), wt (σ k) ((Kw 0 ∪ Kn 1).sup σ) : ℝ) : EReal) := fun i => by
    rw [← hrl]
    show Ideal.div (Ideal.ieee 8 23 (0x3F800000#32)) (allAdd256 l1 (ix2 i c)) = _
    rw [f1, allAdd256_apply, ← S1.tot, coe_sum]
    congr 1
    exact Finset.sum_congr rfl fun i _ => S1.hl i
  have P0 := pv32_256_apply σ ν 0 s0 e0 m0 m1 rl v0 d c h0 hv0 he0 (Kw 0 ∪ Kn 1) (Kw 0) (Finset.Subset.refl _) (Finset.subset_union_left) M0 M1 R
  have P1 := pv16_256_apply σ ν 1 s1 e1 m1 m1 rl v1 d c h1 hv1 he1 (Kw 0 ∪ Kn 1) (Kw 0 ∪ Kn 1) Finset.subset_union_right (Finset.Subset.refl _) M1 M1 R
  rw [softK_union _ _ _ _ _ D1, ← P0, ← P1]
  rfl

theorem out16_256_2_apply (σ ν : Fin 1024 → EReal) (s0 : FVec Ideal S32x8x256 .f32) (s1 : FVec Ideal S32x8x256 .f32) (s2 : FVec Ideal S16x8x256 .f32) (e0 : Vec Ideal S1x32x8x256 .f32) (e1 : Vec Ideal S1x32x8x256 .f32) (e2 : Vec Ideal S1x16x8x256 .f32) (v0 : FVec Ideal S128x256 .bf16) (v1 : FVec Ideal S128x256 .bf16) (v2 : FVec Ideal S128x128 .bf16) (d : Fin 128) (c : Fin 256)
    (h0 : ∀ x, row32_256 s0 c x = σ (keyw 0 x)) (h1 : ∀ x, row32_256 s1 c x = σ (keyw 1 x)) (h2 : ∀ x, row16_256 s2 c x = σ (keyn 2 x))
    (hv0 : ∀ x, v0 (ix2 d x) = ν (keyw 0 x)) (hv1 : ∀ x, v1 (ix2 d x) = ν (keyw 1 x)) (hv2 : ∀ x, v2 (ix2 d x) = ν (keyn 2 x))
    (he0 : e0 = exP32_256 s0 (mx32_256_0 s0)) (he1 : e1 = exP32_256 s1 (mx32_256_1 s0 s1)) (he2 : e2 = exP16_256 s2 (mx16_256_2 s0 s1 s2)) :
    out16_256_2 s0 s1 s2 e0 e1 e2 v0 v1 v2 (ix2 d c) = softK σ ν ((Kw 0 ∪ Kw 1) ∪ Kn 2) ((Kw 0 ∪ Kw 1) ∪ Kn 2) := by
  unfold out16_256_2
  unfold mx32_256_0 at he0
  unfold mx32_256_1 at he1
  unfold mx16_256_2 at he2
  dsimp only at he0 he1 he2 ⊢
  have t0 := tile32_256 σ 0 s0 c h0
  generalize hm0 : tm32_256 s0 = m0 at *
  generalize hl0 : ls32_256 s0 m0 = l0 at *
  have M0 : ∀ i, m0 (ix2 i c) = (Kw 0).sup σ := fun i => t0.hm i
  have S0 := t0.first (lv := fun i => l0 (ix2 i c)) (fun i => by rw [← hl0]; exact lsT32_256 σ 0 s0 m0 c h0 _ (Finset.Subset.refl _) M0 i)
  have t1 := tile32_256 σ 1 s1 c h1
  generalize hm1 : maximumf m0 (tm32_256 s1) = m1 at *
  generalize hl1 : addf (mulf l0 (wgt S8x256 m0 m1)) (ls32_256 s1 m1) = l1 at *
  have M1 : ∀ i, m1 (ix2 i c) = (Kw 0 ∪ Kw 1).sup σ := fun i => by
    rw [← hm1, Finset.sup_union]
    show max (m0 (ix2 i c)) (tm32_256 s1 (ix2 i c)) = _
    rw [M0, t1.hm]
  have D1 : Disjoint (Kw 0) (Kw 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls32_256 s1 m1 (ix2 i c)) t1 D1 (fun i => by rw [← hm1]; rfl)
    (lsT32_256 σ 1 s1 m1 c h1 _ Finset.subset_union_right M1)
    (fun i => by
      rw [← hl1]
      show l0 (ix2 i c) * wgt S8x256 m0 m1 (ix2 i c) + _ = _
      rw [wgt_apply])
  have t2 := tile16_256 σ 2 s2 c h2
  generalize hm2 : maximumf m1 (tm16_256 s2) = m2 at *
  generalize hl2 : addf (mulf l1 (wgt S8x256 m1 m2)) (ls16_256 s2 m2) = l2 at *
  have M2 : ∀ i, m2 (ix2 i c) = ((Kw 0 ∪ Kw 1) ∪ Kn 2).sup σ := fun i => by
    rw [← hm2, Finset.sup_union]
    show max (m1 (ix2 i c)) (tm16_256 s2 (ix2 i c)) = _
    rw [M1, t2.hm]
  have D2 : Disjoint (Kw 0 ∪ Kw 1) (Kn 2) := by
    refine disj_w (j := 2) (fun k hk => ?_) (fun k hk => ?_)
    · simp only [Finset.mem_union, mem_Kw, mem_Kn] at hk
      simp at hk ⊢
      omega
    · simp only [Finset.mem_union, mem_Kw, mem_Kn] at hk
      exact hk.1
  have S2 := S1.step (mv' := fun i => m2 (ix2 i c)) (lv' := fun i => l2 (ix2 i c)) (ls := fun i => ls16_256 s2 m2 (ix2 i c)) t2 D2 (fun i => by rw [← hm2]; rfl)
    (lsT16_256 σ 2 s2 m2 c h2 _ Finset.subset_union_right M2)
    (fun i => by
      rw [← hl2]
      show l1 (ix2 i c) * wgt S8x256 m1 m2 (ix2 i c) + _ = _
      rw [wgt_apply])
  generalize hrl : divf (broadcast S8x256 (Scalar.ofBits .f32 0x3F800000#32)) (allAdd256 l2) = rl
  have R : ∀ i, rl (ix2 i c) = Ideal.div 1 ((∑ k ∈ ((Kw 0 ∪ Kw 1) ∪ Kn 2), wt (σ k) (((Kw 0 ∪ Kw 1) ∪ Kn 2).sup σ) : ℝ) : EReal) := fun i => by
    rw [← hrl]
    show Ideal.div (Ideal.ieee 8 23 (0x3F800000#32)) (allAdd256 l2 (ix2 i c)) = _
    rw [f1, allAdd256_apply, ← S2.tot, coe_sum]
    congr 1
    exact Finset.sum_congr rfl fun i _ => S2.hl i
  have P0 := pv32_256_apply σ ν 0 s0 e0 m0 m2 rl v0 d c h0 hv0 he0 ((Kw 0 ∪ Kw 1) ∪ Kn 2) (Kw 0) (Finset.Subset.refl _) ((Finset.subset_union_left.trans Finset.subset_union_left)) M0 M2 R
  have P1 := pv32_256_apply σ ν 1 s1 e1 m1 m2 rl v1 d c h1 hv1 he1 ((Kw 0 ∪ Kw 1) ∪ Kn 2) (Kw 0 ∪ Kw 1) Finset.subset_union_right (Finset.subset_union_left) M1 M2 R
  have P2 := pv16_256_apply σ ν 2 s2 e2 m2 m2 rl v2 d c h2 hv2 he2 ((Kw 0 ∪ Kw 1) ∪ Kn 2) ((Kw 0 ∪ Kw 1) ∪ Kn 2) Finset.subset_union_right (Finset.Subset.refl _) M2 M2 R
  rw [softK_union _ _ _ _ _ D2, softK_union _ _ _ _ _ D1, ← P0, ← P1, ← P2]
  rfl

theorem out16_256_3_apply (σ ν : Fin 1024 → EReal) (s0 : FVec Ideal S32x8x256 .f32) (s1 : FVec Ideal S32x8x256 .f32) (s2 : FVec Ideal S32x8x256 .f32) (s3 : FVec Ideal S16x8x256 .f32) (e0 : Vec Ideal S1x32x8x256 .f32) (e1 : Vec Ideal S1x32x8x256 .f32) (e2 : Vec Ideal S1x32x8x256 .f32) (e3 : Vec Ideal S1x16x8x256 .f32) (v0 : FVec Ideal S128x256 .bf16) (v1 : FVec Ideal S128x256 .bf16) (v2 : FVec Ideal S128x256 .bf16) (v3 : FVec Ideal S128x128 .bf16) (d : Fin 128) (c : Fin 256)
    (h0 : ∀ x, row32_256 s0 c x = σ (keyw 0 x)) (h1 : ∀ x, row32_256 s1 c x = σ (keyw 1 x)) (h2 : ∀ x, row32_256 s2 c x = σ (keyw 2 x)) (h3 : ∀ x, row16_256 s3 c x = σ (keyn 3 x))
    (hv0 : ∀ x, v0 (ix2 d x) = ν (keyw 0 x)) (hv1 : ∀ x, v1 (ix2 d x) = ν (keyw 1 x)) (hv2 : ∀ x, v2 (ix2 d x) = ν (keyw 2 x)) (hv3 : ∀ x, v3 (ix2 d x) = ν (keyn 3 x))
    (he0 : e0 = exP32_256 s0 (mx32_256_0 s0)) (he1 : e1 = exP32_256 s1 (mx32_256_1 s0 s1)) (he2 : e2 = exP32_256 s2 (mx32_256_2 s0 s1 s2)) (he3 : e3 = exP16_256 s3 (mx16_256_3 s0 s1 s2 s3)) :
    out16_256_3 s0 s1 s2 s3 e0 e1 e2 e3 v0 v1 v2 v3 (ix2 d c) = softK σ ν (((Kw 0 ∪ Kw 1) ∪ Kw 2) ∪ Kn 3) (((Kw 0 ∪ Kw 1) ∪ Kw 2) ∪ Kn 3) := by
  unfold out16_256_3
  unfold mx32_256_0 at he0
  unfold mx32_256_1 at he1
  unfold mx32_256_2 at he2
  unfold mx16_256_3 at he3
  dsimp only at he0 he1 he2 he3 ⊢
  have t0 := tile32_256 σ 0 s0 c h0
  generalize hm0 : tm32_256 s0 = m0 at *
  generalize hl0 : ls32_256 s0 m0 = l0 at *
  have M0 : ∀ i, m0 (ix2 i c) = (Kw 0).sup σ := fun i => t0.hm i
  have S0 := t0.first (lv := fun i => l0 (ix2 i c)) (fun i => by rw [← hl0]; exact lsT32_256 σ 0 s0 m0 c h0 _ (Finset.Subset.refl _) M0 i)
  have t1 := tile32_256 σ 1 s1 c h1
  generalize hm1 : maximumf m0 (tm32_256 s1) = m1 at *
  generalize hl1 : addf (mulf l0 (wgt S8x256 m0 m1)) (ls32_256 s1 m1) = l1 at *
  have M1 : ∀ i, m1 (ix2 i c) = (Kw 0 ∪ Kw 1).sup σ := fun i => by
    rw [← hm1, Finset.sup_union]
    show max (m0 (ix2 i c)) (tm32_256 s1 (ix2 i c)) = _
    rw [M0, t1.hm]
  have D1 : Disjoint (Kw 0) (Kw 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls32_256 s1 m1 (ix2 i c)) t1 D1 (fun i => by rw [← hm1]; rfl)
    (lsT32_256 σ 1 s1 m1 c h1 _ Finset.subset_union_right M1)
    (fun i => by
      rw [← hl1]
      show l0 (ix2 i c) * wgt S8x256 m0 m1 (ix2 i c) + _ = _
      rw [wgt_apply])
  have t2 := tile32_256 σ 2 s2 c h2
  generalize hm2 : maximumf m1 (tm32_256 s2) = m2 at *
  generalize hl2 : addf (mulf l1 (wgt S8x256 m1 m2)) (ls32_256 s2 m2) = l2 at *
  have M2 : ∀ i, m2 (ix2 i c) = ((Kw 0 ∪ Kw 1) ∪ Kw 2).sup σ := fun i => by
    rw [← hm2, Finset.sup_union]
    show max (m1 (ix2 i c)) (tm32_256 s2 (ix2 i c)) = _
    rw [M1, t2.hm]
  have D2 : Disjoint (Kw 0 ∪ Kw 1) (Kw 2) := by
    refine disj_w (j := 2) (fun k hk => ?_) (fun k hk => ?_)
    · simp only [Finset.mem_union, mem_Kw, mem_Kn] at hk
      simp at hk ⊢
      omega
    · simp only [Finset.mem_union, mem_Kw, mem_Kn] at hk
      exact hk.1
  have S2 := S1.step (mv' := fun i => m2 (ix2 i c)) (lv' := fun i => l2 (ix2 i c)) (ls := fun i => ls32_256 s2 m2 (ix2 i c)) t2 D2 (fun i => by rw [← hm2]; rfl)
    (lsT32_256 σ 2 s2 m2 c h2 _ Finset.subset_union_right M2)
    (fun i => by
      rw [← hl2]
      show l1 (ix2 i c) * wgt S8x256 m1 m2 (ix2 i c) + _ = _
      rw [wgt_apply])
  have t3 := tile16_256 σ 3 s3 c h3
  generalize hm3 : maximumf m2 (tm16_256 s3) = m3 at *
  generalize hl3 : addf (mulf l2 (wgt S8x256 m2 m3)) (ls16_256 s3 m3) = l3 at *
  have M3 : ∀ i, m3 (ix2 i c) = (((Kw 0 ∪ Kw 1) ∪ Kw 2) ∪ Kn 3).sup σ := fun i => by
    rw [← hm3, Finset.sup_union]
    show max (m2 (ix2 i c)) (tm16_256 s3 (ix2 i c)) = _
    rw [M2, t3.hm]
  have D3 : Disjoint ((Kw 0 ∪ Kw 1) ∪ Kw 2) (Kn 3) := by
    refine disj_w (j := 3) (fun k hk => ?_) (fun k hk => ?_)
    · simp only [Finset.mem_union, mem_Kw, mem_Kn] at hk
      simp at hk ⊢
      omega
    · simp only [Finset.mem_union, mem_Kw, mem_Kn] at hk
      exact hk.1
  have S3 := S2.step (mv' := fun i => m3 (ix2 i c)) (lv' := fun i => l3 (ix2 i c)) (ls := fun i => ls16_256 s3 m3 (ix2 i c)) t3 D3 (fun i => by rw [← hm3]; rfl)
    (lsT16_256 σ 3 s3 m3 c h3 _ Finset.subset_union_right M3)
    (fun i => by
      rw [← hl3]
      show l2 (ix2 i c) * wgt S8x256 m2 m3 (ix2 i c) + _ = _
      rw [wgt_apply])
  generalize hrl : divf (broadcast S8x256 (Scalar.ofBits .f32 0x3F800000#32)) (allAdd256 l3) = rl
  have R : ∀ i, rl (ix2 i c) = Ideal.div 1 ((∑ k ∈ (((Kw 0 ∪ Kw 1) ∪ Kw 2) ∪ Kn 3), wt (σ k) ((((Kw 0 ∪ Kw 1) ∪ Kw 2) ∪ Kn 3).sup σ) : ℝ) : EReal) := fun i => by
    rw [← hrl]
    show Ideal.div (Ideal.ieee 8 23 (0x3F800000#32)) (allAdd256 l3 (ix2 i c)) = _
    rw [f1, allAdd256_apply, ← S3.tot, coe_sum]
    congr 1
    exact Finset.sum_congr rfl fun i _ => S3.hl i
  have P0 := pv32_256_apply σ ν 0 s0 e0 m0 m3 rl v0 d c h0 hv0 he0 (((Kw 0 ∪ Kw 1) ∪ Kw 2) ∪ Kn 3) (Kw 0) (Finset.Subset.refl _) (((Finset.subset_union_left.trans Finset.subset_union_left).trans Finset.subset_union_left)) M0 M3 R
  have P1 := pv32_256_apply σ ν 1 s1 e1 m1 m3 rl v1 d c h1 hv1 he1 (((Kw 0 ∪ Kw 1) ∪ Kw 2) ∪ Kn 3) (Kw 0 ∪ Kw 1) Finset.subset_union_right ((Finset.subset_union_left.trans Finset.subset_union_left)) M1 M3 R
  have P2 := pv32_256_apply σ ν 2 s2 e2 m2 m3 rl v2 d c h2 hv2 he2 (((Kw 0 ∪ Kw 1) ∪ Kw 2) ∪ Kn 3) ((Kw 0 ∪ Kw 1) ∪ Kw 2) Finset.subset_union_right (Finset.subset_union_left) M2 M3 R
  have P3 := pv16_256_apply σ ν 3 s3 e3 m3 m3 rl v3 d c h3 hv3 he3 (((Kw 0 ∪ Kw 1) ∪ Kw 2) ∪ Kn 3) (((Kw 0 ∪ Kw 1) ∪ Kw 2) ∪ Kn 3) Finset.subset_union_right (Finset.Subset.refl _) M3 M3 R
  rw [softK_union _ _ _ _ _ D3, softK_union _ _ _ _ _ D2, softK_union _ _ _ _ _ D1, ← P0, ← P1, ← P2, ← P3]
  rfl

theorem out32_128_0_apply (σ ν : Fin 1024 → EReal) (s0 : FVec Ideal S32x8x128 .f32) (e0 : Vec Ideal S1x32x8x128 .f32) (v0 : FVec Ideal S128x256 .bf16) (d : Fin 128) (c : Fin 128)
    (h0 : ∀ x, row32_128 s0 c x = σ (keyw 0 x))
    (hv0 : ∀ x, v0 (ix2 d x) = ν (keyw 0 x))
    (he0 : e0 = exP32_128 s0 (mx32_128_0 s0)) :
    out32_128_0 s0 e0 v0 (ix2 d c) = softK σ ν (Kw 0) (Kw 0) := by
  unfold out32_128_0
  unfold mx32_128_0 at he0
  dsimp only at he0 ⊢
  have t0 := tile32_128 σ 0 s0 c h0
  generalize hm0 : tm32_128 s0 = m0 at *
  generalize hl0 : ls32_128 s0 m0 = l0 at *
  have M0 : ∀ i, m0 (ix2 i c) = (Kw 0).sup σ := fun i => t0.hm i
  have S0 := t0.first (lv := fun i => l0 (ix2 i c)) (fun i => by rw [← hl0]; exact lsT32_128 σ 0 s0 m0 c h0 _ (Finset.Subset.refl _) M0 i)
  generalize hrl : divf (broadcast S8x128 (Scalar.ofBits .f32 0x3F800000#32)) (allAdd128 l0) = rl
  have R : ∀ i, rl (ix2 i c) = Ideal.div 1 ((∑ k ∈ (Kw 0), wt (σ k) ((Kw 0).sup σ) : ℝ) : EReal) := fun i => by
    rw [← hrl]
    show Ideal.div (Ideal.ieee 8 23 (0x3F800000#32)) (allAdd128 l0 (ix2 i c)) = _
    rw [f1, allAdd128_apply, ← S0.tot, coe_sum]
    congr 1
    exact Finset.sum_congr rfl fun i _ => S0.hl i
  have P0 := pv32_128_apply σ ν 0 s0 e0 m0 m0 rl v0 d c h0 hv0 he0 (Kw 0) (Kw 0) (Finset.Subset.refl _) (Finset.Subset.refl _) M0 M0 R
  exact P0

theorem out32_128_1_apply (σ ν : Fin 1024 → EReal) (s0 : FVec Ideal S32x8x128 .f32) (s1 : FVec Ideal S32x8x128 .f32) (e0 : Vec Ideal S1x32x8x128 .f32) (e1 : Vec Ideal S1x32x8x128 .f32) (v0 : FVec Ideal S128x256 .bf16) (v1 : FVec Ideal S128x256 .bf16) (d : Fin 128) (c : Fin 128)
    (h0 : ∀ x, row32_128 s0 c x = σ (keyw 0 x)) (h1 : ∀ x, row32_128 s1 c x = σ (keyw 1 x))
    (hv0 : ∀ x, v0 (ix2 d x) = ν (keyw 0 x)) (hv1 : ∀ x, v1 (ix2 d x) = ν (keyw 1 x))
    (he0 : e0 = exP32_128 s0 (mx32_128_0 s0)) (he1 : e1 = exP32_128 s1 (mx32_128_1 s0 s1)) :
    out32_128_1 s0 s1 e0 e1 v0 v1 (ix2 d c) = softK σ ν (Kw 0 ∪ Kw 1) (Kw 0 ∪ Kw 1) := by
  unfold out32_128_1
  unfold mx32_128_0 at he0
  unfold mx32_128_1 at he1
  dsimp only at he0 he1 ⊢
  have t0 := tile32_128 σ 0 s0 c h0
  generalize hm0 : tm32_128 s0 = m0 at *
  generalize hl0 : ls32_128 s0 m0 = l0 at *
  have M0 : ∀ i, m0 (ix2 i c) = (Kw 0).sup σ := fun i => t0.hm i
  have S0 := t0.first (lv := fun i => l0 (ix2 i c)) (fun i => by rw [← hl0]; exact lsT32_128 σ 0 s0 m0 c h0 _ (Finset.Subset.refl _) M0 i)
  have t1 := tile32_128 σ 1 s1 c h1
  generalize hm1 : maximumf m0 (tm32_128 s1) = m1 at *
  generalize hl1 : addf (mulf l0 (wgt S8x128 m0 m1)) (ls32_128 s1 m1) = l1 at *
  have M1 : ∀ i, m1 (ix2 i c) = (Kw 0 ∪ Kw 1).sup σ := fun i => by
    rw [← hm1, Finset.sup_union]
    show max (m0 (ix2 i c)) (tm32_128 s1 (ix2 i c)) = _
    rw [M0, t1.hm]
  have D1 : Disjoint (Kw 0) (Kw 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls32_128 s1 m1 (ix2 i c)) t1 D1 (fun i => by rw [← hm1]; rfl)
    (lsT32_128 σ 1 s1 m1 c h1 _ Finset.subset_union_right M1)
    (fun i => by
      rw [← hl1]
      show l0 (ix2 i c) * wgt S8x128 m0 m1 (ix2 i c) + _ = _
      rw [wgt_apply])
  generalize hrl : divf (broadcast S8x128 (Scalar.ofBits .f32 0x3F800000#32)) (allAdd128 l1) = rl
  have R : ∀ i, rl (ix2 i c) = Ideal.div 1 ((∑ k ∈ (Kw 0 ∪ Kw 1), wt (σ k) ((Kw 0 ∪ Kw 1).sup σ) : ℝ) : EReal) := fun i => by
    rw [← hrl]
    show Ideal.div (Ideal.ieee 8 23 (0x3F800000#32)) (allAdd128 l1 (ix2 i c)) = _
    rw [f1, allAdd128_apply, ← S1.tot, coe_sum]
    congr 1
    exact Finset.sum_congr rfl fun i _ => S1.hl i
  have P0 := pv32_128_apply σ ν 0 s0 e0 m0 m1 rl v0 d c h0 hv0 he0 (Kw 0 ∪ Kw 1) (Kw 0) (Finset.Subset.refl _) (Finset.subset_union_left) M0 M1 R
  have P1 := pv32_128_apply σ ν 1 s1 e1 m1 m1 rl v1 d c h1 hv1 he1 (Kw 0 ∪ Kw 1) (Kw 0 ∪ Kw 1) Finset.subset_union_right (Finset.Subset.refl _) M1 M1 R
  rw [softK_union _ _ _ _ _ D1, ← P0, ← P1]
  rfl

theorem out32_128_2_apply (σ ν : Fin 1024 → EReal) (s0 : FVec Ideal S32x8x128 .f32) (s1 : FVec Ideal S32x8x128 .f32) (s2 : FVec Ideal S32x8x128 .f32) (e0 : Vec Ideal S1x32x8x128 .f32) (e1 : Vec Ideal S1x32x8x128 .f32) (e2 : Vec Ideal S1x32x8x128 .f32) (v0 : FVec Ideal S128x256 .bf16) (v1 : FVec Ideal S128x256 .bf16) (v2 : FVec Ideal S128x256 .bf16) (d : Fin 128) (c : Fin 128)
    (h0 : ∀ x, row32_128 s0 c x = σ (keyw 0 x)) (h1 : ∀ x, row32_128 s1 c x = σ (keyw 1 x)) (h2 : ∀ x, row32_128 s2 c x = σ (keyw 2 x))
    (hv0 : ∀ x, v0 (ix2 d x) = ν (keyw 0 x)) (hv1 : ∀ x, v1 (ix2 d x) = ν (keyw 1 x)) (hv2 : ∀ x, v2 (ix2 d x) = ν (keyw 2 x))
    (he0 : e0 = exP32_128 s0 (mx32_128_0 s0)) (he1 : e1 = exP32_128 s1 (mx32_128_1 s0 s1)) (he2 : e2 = exP32_128 s2 (mx32_128_2 s0 s1 s2)) :
    out32_128_2 s0 s1 s2 e0 e1 e2 v0 v1 v2 (ix2 d c) = softK σ ν ((Kw 0 ∪ Kw 1) ∪ Kw 2) ((Kw 0 ∪ Kw 1) ∪ Kw 2) := by
  unfold out32_128_2
  unfold mx32_128_0 at he0
  unfold mx32_128_1 at he1
  unfold mx32_128_2 at he2
  dsimp only at he0 he1 he2 ⊢
  have t0 := tile32_128 σ 0 s0 c h0
  generalize hm0 : tm32_128 s0 = m0 at *
  generalize hl0 : ls32_128 s0 m0 = l0 at *
  have M0 : ∀ i, m0 (ix2 i c) = (Kw 0).sup σ := fun i => t0.hm i
  have S0 := t0.first (lv := fun i => l0 (ix2 i c)) (fun i => by rw [← hl0]; exact lsT32_128 σ 0 s0 m0 c h0 _ (Finset.Subset.refl _) M0 i)
  have t1 := tile32_128 σ 1 s1 c h1
  generalize hm1 : maximumf m0 (tm32_128 s1) = m1 at *
  generalize hl1 : addf (mulf l0 (wgt S8x128 m0 m1)) (ls32_128 s1 m1) = l1 at *
  have M1 : ∀ i, m1 (ix2 i c) = (Kw 0 ∪ Kw 1).sup σ := fun i => by
    rw [← hm1, Finset.sup_union]
    show max (m0 (ix2 i c)) (tm32_128 s1 (ix2 i c)) = _
    rw [M0, t1.hm]
  have D1 : Disjoint (Kw 0) (Kw 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls32_128 s1 m1 (ix2 i c)) t1 D1 (fun i => by rw [← hm1]; rfl)
    (lsT32_128 σ 1 s1 m1 c h1 _ Finset.subset_union_right M1)
    (fun i => by
      rw [← hl1]
      show l0 (ix2 i c) * wgt S8x128 m0 m1 (ix2 i c) + _ = _
      rw [wgt_apply])
  have t2 := tile32_128 σ 2 s2 c h2
  generalize hm2 : maximumf m1 (tm32_128 s2) = m2 at *
  generalize hl2 : addf (mulf l1 (wgt S8x128 m1 m2)) (ls32_128 s2 m2) = l2 at *
  have M2 : ∀ i, m2 (ix2 i c) = ((Kw 0 ∪ Kw 1) ∪ Kw 2).sup σ := fun i => by
    rw [← hm2, Finset.sup_union]
    show max (m1 (ix2 i c)) (tm32_128 s2 (ix2 i c)) = _
    rw [M1, t2.hm]
  have D2 : Disjoint (Kw 0 ∪ Kw 1) (Kw 2) := by
    refine disj_w (j := 2) (fun k hk => ?_) (fun k hk => ?_)
    · simp only [Finset.mem_union, mem_Kw, mem_Kn] at hk
      simp at hk ⊢
      omega
    · simp only [Finset.mem_union, mem_Kw, mem_Kn] at hk
      exact hk.1
  have S2 := S1.step (mv' := fun i => m2 (ix2 i c)) (lv' := fun i => l2 (ix2 i c)) (ls := fun i => ls32_128 s2 m2 (ix2 i c)) t2 D2 (fun i => by rw [← hm2]; rfl)
    (lsT32_128 σ 2 s2 m2 c h2 _ Finset.subset_union_right M2)
    (fun i => by
      rw [← hl2]
      show l1 (ix2 i c) * wgt S8x128 m1 m2 (ix2 i c) + _ = _
      rw [wgt_apply])
  generalize hrl : divf (broadcast S8x128 (Scalar.ofBits .f32 0x3F800000#32)) (allAdd128 l2) = rl
  have R : ∀ i, rl (ix2 i c) = Ideal.div 1 ((∑ k ∈ ((Kw 0 ∪ Kw 1) ∪ Kw 2), wt (σ k) (((Kw 0 ∪ Kw 1) ∪ Kw 2).sup σ) : ℝ) : EReal) := fun i => by
    rw [← hrl]
    show Ideal.div (Ideal.ieee 8 23 (0x3F800000#32)) (allAdd128 l2 (ix2 i c)) = _
    rw [f1, allAdd128_apply, ← S2.tot, coe_sum]
    congr 1
    exact Finset.sum_congr rfl fun i _ => S2.hl i
  have P0 := pv32_128_apply σ ν 0 s0 e0 m0 m2 rl v0 d c h0 hv0 he0 ((Kw 0 ∪ Kw 1) ∪ Kw 2) (Kw 0) (Finset.Subset.refl _) ((Finset.subset_union_left.trans Finset.subset_union_left)) M0 M2 R
  have P1 := pv32_128_apply σ ν 1 s1 e1 m1 m2 rl v1 d c h1 hv1 he1 ((Kw 0 ∪ Kw 1) ∪ Kw 2) (Kw 0 ∪ Kw 1) Finset.subset_union_right (Finset.subset_union_left) M1 M2 R
  have P2 := pv32_128_apply σ ν 2 s2 e2 m2 m2 rl v2 d c h2 hv2 he2 ((Kw 0 ∪ Kw 1) ∪ Kw 2) ((Kw 0 ∪ Kw 1) ∪ Kw 2) Finset.subset_union_right (Finset.Subset.refl _) M2 M2 R
  rw [softK_union _ _ _ _ _ D2, softK_union _ _ _ _ _ D1, ← P0, ← P1, ← P2]
  rfl

theorem out32_128_3_apply (σ ν : Fin 1024 → EReal) (s0 : FVec Ideal S32x8x128 .f32) (s1 : FVec Ideal S32x8x128 .f32) (s2 : FVec Ideal S32x8x128 .f32) (s3 : FVec Ideal S32x8x128 .f32) (e0 : Vec Ideal S1x32x8x128 .f32) (e1 : Vec Ideal S1x32x8x128 .f32) (e2 : Vec Ideal S1x32x8x128 .f32) (e3 : Vec Ideal S1x32x8x128 .f32) (v0 : FVec Ideal S128x256 .bf16) (v1 : FVec Ideal S128x256 .bf16) (v2 : FVec Ideal S128x256 .bf16) (v3 : FVec Ideal S128x256 .bf16) (d : Fin 128) (c : Fin 128)
    (h0 : ∀ x, row32_128 s0 c x = σ (keyw 0 x)) (h1 : ∀ x, row32_128 s1 c x = σ (keyw 1 x)) (h2 : ∀ x, row32_128 s2 c x = σ (keyw 2 x)) (h3 : ∀ x, row32_128 s3 c x = σ (keyw 3 x))
    (hv0 : ∀ x, v0 (ix2 d x) = ν (keyw 0 x)) (hv1 : ∀ x, v1 (ix2 d x) = ν (keyw 1 x)) (hv2 : ∀ x, v2 (ix2 d x) = ν (keyw 2 x)) (hv3 : ∀ x, v3 (ix2 d x) = ν (keyw 3 x))
    (he0 : e0 = exP32_128 s0 (mx32_128_0 s0)) (he1 : e1 = exP32_128 s1 (mx32_128_1 s0 s1)) (he2 : e2 = exP32_128 s2 (mx32_128_2 s0 s1 s2)) (he3 : e3 = exP32_128 s3 (mx32_128_3 s0 s1 s2 s3)) :
    out32_128_3 s0 s1 s2 s3 e0 e1 e2 e3 v0 v1 v2 v3 (ix2 d c) = softK σ ν (((Kw 0 ∪ Kw 1) ∪ Kw 2) ∪ Kw 3) (((Kw 0 ∪ Kw 1) ∪ Kw 2) ∪ Kw 3) := by
  unfold out32_128_3
  unfold mx32_128_0 at he0
  unfold mx32_128_1 at he1
  unfold mx32_128_2 at he2
  unfold mx32_128_3 at he3
  dsimp only at he0 he1 he2 he3 ⊢
  have t0 := tile32_128 σ 0 s0 c h0
  generalize hm0 : tm32_128 s0 = m0 at *
  generalize hl0 : ls32_128 s0 m0 = l0 at *
  have M0 : ∀ i, m0 (ix2 i c) = (Kw 0).sup σ := fun i => t0.hm i
  have S0 := t0.first (lv := fun i => l0 (ix2 i c)) (fun i => by rw [← hl0]; exact lsT32_128 σ 0 s0 m0 c h0 _ (Finset.Subset.refl _) M0 i)
  have t1 := tile32_128 σ 1 s1 c h1
  generalize hm1 : maximumf m0 (tm32_128 s1) = m1 at *
  generalize hl1 : addf (mulf l0 (wgt S8x128 m0 m1)) (ls32_128 s1 m1) = l1 at *
  have M1 : ∀ i, m1 (ix2 i c) = (Kw 0 ∪ Kw 1).sup σ := fun i => by
    rw [← hm1, Finset.sup_union]
    show max (m0 (ix2 i c)) (tm32_128 s1 (ix2 i c)) = _
    rw [M0, t1.hm]
  have D1 : Disjoint (Kw 0) (Kw 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls32_128 s1 m1 (ix2 i c)) t1 D1 (fun i => by rw [← hm1]; rfl)
    (lsT32_128 σ 1 s1 m1 c h1 _ Finset.subset_union_right M1)
    (fun i => by
      rw [← hl1]
      show l0 (ix2 i c) * wgt S8x128 m0 m1 (ix2 i c) + _ = _
      rw [wgt_apply])
  have t2 := tile32_128 σ 2 s2 c h2
  generalize hm2 : maximumf m1 (tm32_128 s2) = m2 at *
  generalize hl2 : addf (mulf l1 (wgt S8x128 m1 m2)) (ls32_128 s2 m2) = l2 at *
  have M2 : ∀ i, m2 (ix2 i c) = ((Kw 0 ∪ Kw 1) ∪ Kw 2).sup σ := fun i => by
    rw [← hm2, Finset.sup_union]
    show max (m1 (ix2 i c)) (tm32_128 s2 (ix2 i c)) = _
    rw [M1, t2.hm]
  have D2 : Disjoint (Kw 0 ∪ Kw 1) (Kw 2) := by
    refine disj_w (j := 2) (fun k hk => ?_) (fun k hk => ?_)
    · simp only [Finset.mem_union, mem_Kw, mem_Kn] at hk
      simp at hk ⊢
      omega
    · simp only [Finset.mem_union, mem_Kw, mem_Kn] at hk
      exact hk.1
  have S2 := S1.step (mv' := fun i => m2 (ix2 i c)) (lv' := fun i => l2 (ix2 i c)) (ls := fun i => ls32_128 s2 m2 (ix2 i c)) t2 D2 (fun i => by rw [← hm2]; rfl)
    (lsT32_128 σ 2 s2 m2 c h2 _ Finset.subset_union_right M2)
    (fun i => by
      rw [← hl2]
      show l1 (ix2 i c) * wgt S8x128 m1 m2 (ix2 i c) + _ = _
      rw [wgt_apply])
  have t3 := tile32_128 σ 3 s3 c h3
  generalize hm3 : maximumf m2 (tm32_128 s3) = m3 at *
  generalize hl3 : addf (mulf l2 (wgt S8x128 m2 m3)) (ls32_128 s3 m3) = l3 at *
  have M3 : ∀ i, m3 (ix2 i c) = (((Kw 0 ∪ Kw 1) ∪ Kw 2) ∪ Kw 3).sup σ := fun i => by
    rw [← hm3, Finset.sup_union]
    show max (m2 (ix2 i c)) (tm32_128 s3 (ix2 i c)) = _
    rw [M2, t3.hm]
  have D3 : Disjoint ((Kw 0 ∪ Kw 1) ∪ Kw 2) (Kw 3) := by
    refine disj_w (j := 3) (fun k hk => ?_) (fun k hk => ?_)
    · simp only [Finset.mem_union, mem_Kw, mem_Kn] at hk
      simp at hk ⊢
      omega
    · simp only [Finset.mem_union, mem_Kw, mem_Kn] at hk
      exact hk.1
  have S3 := S2.step (mv' := fun i => m3 (ix2 i c)) (lv' := fun i => l3 (ix2 i c)) (ls := fun i => ls32_128 s3 m3 (ix2 i c)) t3 D3 (fun i => by rw [← hm3]; rfl)
    (lsT32_128 σ 3 s3 m3 c h3 _ Finset.subset_union_right M3)
    (fun i => by
      rw [← hl3]
      show l2 (ix2 i c) * wgt S8x128 m2 m3 (ix2 i c) + _ = _
      rw [wgt_apply])
  generalize hrl : divf (broadcast S8x128 (Scalar.ofBits .f32 0x3F800000#32)) (allAdd128 l3) = rl
  have R : ∀ i, rl (ix2 i c) = Ideal.div 1 ((∑ k ∈ (((Kw 0 ∪ Kw 1) ∪ Kw 2) ∪ Kw 3), wt (σ k) ((((Kw 0 ∪ Kw 1) ∪ Kw 2) ∪ Kw 3).sup σ) : ℝ) : EReal) := fun i => by
    rw [← hrl]
    show Ideal.div (Ideal.ieee 8 23 (0x3F800000#32)) (allAdd128 l3 (ix2 i c)) = _
    rw [f1, allAdd128_apply, ← S3.tot, coe_sum]
    congr 1
    exact Finset.sum_congr rfl fun i _ => S3.hl i
  have P0 := pv32_128_apply σ ν 0 s0 e0 m0 m3 rl v0 d c h0 hv0 he0 (((Kw 0 ∪ Kw 1) ∪ Kw 2) ∪ Kw 3) (Kw 0) (Finset.Subset.refl _) (((Finset.subset_union_left.trans Finset.subset_union_left).trans Finset.subset_union_left)) M0 M3 R
  have P1 := pv32_128_apply σ ν 1 s1 e1 m1 m3 rl v1 d c h1 hv1 he1 (((Kw 0 ∪ Kw 1) ∪ Kw 2) ∪ Kw 3) (Kw 0 ∪ Kw 1) Finset.subset_union_right ((Finset.subset_union_left.trans Finset.subset_union_left)) M1 M3 R
  have P2 := pv32_128_apply σ ν 2 s2 e2 m2 m3 rl v2 d c h2 hv2 he2 (((Kw 0 ∪ Kw 1) ∪ Kw 2) ∪ Kw 3) ((Kw 0 ∪ Kw 1) ∪ Kw 2) Finset.subset_union_right (Finset.subset_union_left) M2 M3 R
  have P3 := pv32_128_apply σ ν 3 s3 e3 m3 m3 rl v3 d c h3 hv3 he3 (((Kw 0 ∪ Kw 1) ∪ Kw 2) ∪ Kw 3) (((Kw 0 ∪ Kw 1) ∪ Kw 2) ∪ Kw 3) Finset.subset_union_right (Finset.Subset.refl _) M3 M3 R
  rw [softK_union _ _ _ _ _ D3, softK_union _ _ _ _ _ D2, softK_union _ _ _ _ _ D1, ← P0, ← P1, ← P2, ← P3]
  rfl

theorem out16_128_0_apply (σ ν : Fin 1024 → EReal) (s0 : FVec Ideal S16x8x128 .f32) (e0 : Vec Ideal S1x16x8x128 .f32) (v0 : FVec Ideal S128x128 .bf16) (d : Fin 128) (c : Fin 128)
    (h0 : ∀ x, row16_128 s0 c x = σ (keyn 0 x))
    (hv0 : ∀ x, v0 (ix2 d x) = ν (keyn 0 x))
    (he0 : e0 = exP16_128 s0 (mx16_128_0 s0)) :
    out16_128_0 s0 e0 v0 (ix2 d c) = softK σ ν (Kn 0) (Kn 0) := by
  unfold out16_128_0
  unfold mx16_128_0 at he0
  dsimp only at he0 ⊢
  have t0 := tile16_128 σ 0 s0 c h0
  generalize hm0 : tm16_128 s0 = m0 at *
  generalize hl0 : ls16_128 s0 m0 = l0 at *
  have M0 : ∀ i, m0 (ix2 i c) = (Kn 0).sup σ := fun i => t0.hm i
  have S0 := t0.first (lv := fun i => l0 (ix2 i c)) (fun i => by rw [← hl0]; exact lsT16_128 σ 0 s0 m0 c h0 _ (Finset.Subset.refl _) M0 i)
  generalize hrl : divf (broadcast S8x128 (Scalar.ofBits .f32 0x3F800000#32)) (allAdd128 l0) = rl
  have R : ∀ i, rl (ix2 i c) = Ideal.div 1 ((∑ k ∈ (Kn 0), wt (σ k) ((Kn 0).sup σ) : ℝ) : EReal) := fun i => by
    rw [← hrl]
    show Ideal.div (Ideal.ieee 8 23 (0x3F800000#32)) (allAdd128 l0 (ix2 i c)) = _
    rw [f1, allAdd128_apply, ← S0.tot, coe_sum]
    congr 1
    exact Finset.sum_congr rfl fun i _ => S0.hl i
  have P0 := pv16_128_apply σ ν 0 s0 e0 m0 m0 rl v0 d c h0 hv0 he0 (Kn 0) (Kn 0) (Finset.Subset.refl _) (Finset.Subset.refl _) M0 M0 R
  exact P0

theorem out16_128_1_apply (σ ν : Fin 1024 → EReal) (s0 : FVec Ideal S32x8x128 .f32) (s1 : FVec Ideal S16x8x128 .f32) (e0 : Vec Ideal S1x32x8x128 .f32) (e1 : Vec Ideal S1x16x8x128 .f32) (v0 : FVec Ideal S128x256 .bf16) (v1 : FVec Ideal S128x128 .bf16) (d : Fin 128) (c : Fin 128)
    (h0 : ∀ x, row32_128 s0 c x = σ (keyw 0 x)) (h1 : ∀ x, row16_128 s1 c x = σ (keyn 1 x))
    (hv0 : ∀ x, v0 (ix2 d x) = ν (keyw 0 x)) (hv1 : ∀ x, v1 (ix2 d x) = ν (keyn 1 x))
    (he0 : e0 = exP32_128 s0 (mx32_128_0 s0)) (he1 : e1 = exP16_128 s1 (mx16_128_1 s0 s1)) :
    out16_128_1 s0 s1 e0 e1 v0 v1 (ix2 d c) = softK σ ν (Kw 0 ∪ Kn 1) (Kw 0 ∪ Kn 1) := by
  unfold out16_128_1
  unfold mx32_128_0 at he0
  unfold mx16_128_1 at he1
  dsimp only at he0 he1 ⊢
  have t0 := tile32_128 σ 0 s0 c h0
  generalize hm0 : tm32_128 s0 = m0 at *
  generalize hl0 : ls32_128 s0 m0 = l0 at *
  have M0 : ∀ i, m0 (ix2 i c) = (Kw 0).sup σ := fun i => t0.hm i
  have S0 := t0.first (lv := fun i => l0 (ix2 i c)) (fun i => by rw [← hl0]; exact lsT32_128 σ 0 s0 m0 c h0 _ (Finset.Subset.refl _) M0 i)
  have t1 := tile16_128 σ 1 s1 c h1
  generalize hm1 : maximumf m0 (tm16_128 s1) = m1 at *
  generalize hl1 : addf (mulf l0 (wgt S8x128 m0 m1)) (ls16_128 s1 m1) = l1 at *
  have M1 : ∀ i, m1 (ix2 i c) = (Kw 0 ∪ Kn 1).sup σ := fun i => by
    rw [← hm1, Finset.sup_union]
    show max (m0 (ix2 i c)) (tm16_128 s1 (ix2 i c)) = _
    rw [M0, t1.hm]
  have D1 : Disjoint (Kw 0) (Kn 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls16_128 s1 m1 (ix2 i c)) t1 D1 (fun i => by rw [← hm1]; rfl)
    (lsT16_128 σ 1 s1 m1 c h1 _ Finset.subset_union_right M1)
    (fun i => by
      rw [← hl1]
      show l0 (ix2 i c) * wgt S8x128 m0 m1 (ix2 i c) + _ = _
      rw [wgt_apply])
  generalize hrl : divf (broadcast S8x128 (Scalar.ofBits .f32 0x3F800000#32)) (allAdd128 l1) = rl
  have R : ∀ i, rl (ix2 i c) = Ideal.div 1 ((∑ k ∈ (Kw 0 ∪ Kn 1), wt (σ k) ((Kw 0 ∪ Kn 1).sup σ) : ℝ) : EReal) := fun i => by
    rw [← hrl]
    show Ideal.div (Ideal.ieee 8 23 (0x3F800000#32)) (allAdd128 l1 (ix2 i c)) = _
    rw [f1, allAdd128_apply, ← S1.tot, coe_sum]
    congr 1
    exact Finset.sum_congr rfl fun i _ => S1.hl i
  have P0 := pv32_128_apply σ ν 0 s0 e0 m0 m1 rl v0 d c h0 hv0 he0 (Kw 0 ∪ Kn 1) (Kw 0) (Finset.Subset.refl _) (Finset.subset_union_left) M0 M1 R
  have P1 := pv16_128_apply σ ν 1 s1 e1 m1 m1 rl v1 d c h1 hv1 he1 (Kw 0 ∪ Kn 1) (Kw 0 ∪ Kn 1) Finset.subset_union_right (Finset.Subset.refl _) M1 M1 R
  rw [softK_union _ _ _ _ _ D1, ← P0, ← P1]
  rfl

theorem out16_128_2_apply (σ ν : Fin 1024 → EReal) (s0 : FVec Ideal S32x8x128 .f32) (s1 : FVec Ideal S32x8x128 .f32) (s2 : FVec Ideal S16x8x128 .f32) (e0 : Vec Ideal S1x32x8x128 .f32) (e1 : Vec Ideal S1x32x8x128 .f32) (e2 : Vec Ideal S1x16x8x128 .f32) (v0 : FVec Ideal S128x256 .bf16) (v1 : FVec Ideal S128x256 .bf16) (v2 : FVec Ideal S128x128 .bf16) (d : Fin 128) (c : Fin 128)
    (h0 : ∀ x, row32_128 s0 c x = σ (keyw 0 x)) (h1 : ∀ x, row32_128 s1 c x = σ (keyw 1 x)) (h2 : ∀ x, row16_128 s2 c x = σ (keyn 2 x))
    (hv0 : ∀ x, v0 (ix2 d x) = ν (keyw 0 x)) (hv1 : ∀ x, v1 (ix2 d x) = ν (keyw 1 x)) (hv2 : ∀ x, v2 (ix2 d x) = ν (keyn 2 x))
    (he0 : e0 = exP32_128 s0 (mx32_128_0 s0)) (he1 : e1 = exP32_128 s1 (mx32_128_1 s0 s1)) (he2 : e2 = exP16_128 s2 (mx16_128_2 s0 s1 s2)) :
    out16_128_2 s0 s1 s2 e0 e1 e2 v0 v1 v2 (ix2 d c) = softK σ ν ((Kw 0 ∪ Kw 1) ∪ Kn 2) ((Kw 0 ∪ Kw 1) ∪ Kn 2) := by
  unfold out16_128_2
  unfold mx32_128_0 at he0
  unfold mx32_128_1 at he1
  unfold mx16_128_2 at he2
  dsimp only at he0 he1 he2 ⊢
  have t0 := tile32_128 σ 0 s0 c h0
  generalize hm0 : tm32_128 s0 = m0 at *
  generalize hl0 : ls32_128 s0 m0 = l0 at *
  have M0 : ∀ i, m0 (ix2 i c) = (Kw 0).sup σ := fun i => t0.hm i
  have S0 := t0.first (lv := fun i => l0 (ix2 i c)) (fun i => by rw [← hl0]; exact lsT32_128 σ 0 s0 m0 c h0 _ (Finset.Subset.refl _) M0 i)
  have t1 := tile32_128 σ 1 s1 c h1
  generalize hm1 : maximumf m0 (tm32_128 s1) = m1 at *
  generalize hl1 : addf (mulf l0 (wgt S8x128 m0 m1)) (ls32_128 s1 m1) = l1 at *
  have M1 : ∀ i, m1 (ix2 i c) = (Kw 0 ∪ Kw 1).sup σ := fun i => by
    rw [← hm1, Finset.sup_union]
    show max (m0 (ix2 i c)) (tm32_128 s1 (ix2 i c)) = _
    rw [M0, t1.hm]
  have D1 : Disjoint (Kw 0) (Kw 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls32_128 s1 m1 (ix2 i c)) t1 D1 (fun i => by rw [← hm1]; rfl)
    (lsT32_128 σ 1 s1 m1 c h1 _ Finset.subset_union_right M1)
    (fun i => by
      rw [← hl1]
      show l0 (ix2 i c) * wgt S8x128 m0 m1 (ix2 i c) + _ = _
      rw [wgt_apply])
  have t2 := tile16_128 σ 2 s2 c h2
  generalize hm2 : maximumf m1 (tm16_128 s2) = m2 at *
  generalize hl2 : addf (mulf l1 (wgt S8x128 m1 m2)) (ls16_128 s2 m2) = l2 at *
  have M2 : ∀ i, m2 (ix2 i c) = ((Kw 0 ∪ Kw 1) ∪ Kn 2).sup σ := fun i => by
    rw [← hm2, Finset.sup_union]
    show max (m1 (ix2 i c)) (tm16_128 s2 (ix2 i c)) = _
    rw [M1, t2.hm]
  have D2 : Disjoint (Kw 0 ∪ Kw 1) (Kn 2) := by
    refine disj_w (j := 2) (fun k hk => ?_) (fun k hk => ?_)
    · simp only [Finset.mem_union, mem_Kw, mem_Kn] at hk
      simp at hk ⊢
      omega
    · simp only [Finset.mem_union, mem_Kw, mem_Kn] at hk
      exact hk.1
  have S2 := S1.step (mv' := fun i => m2 (ix2 i c)) (lv' := fun i => l2 (ix2 i c)) (ls := fun i => ls16_128 s2 m2 (ix2 i c)) t2 D2 (fun i => by rw [← hm2]; rfl)
    (lsT16_128 σ 2 s2 m2 c h2 _ Finset.subset_union_right M2)
    (fun i => by
      rw [← hl2]
      show l1 (ix2 i c) * wgt S8x128 m1 m2 (ix2 i c) + _ = _
      rw [wgt_apply])
  generalize hrl : divf (broadcast S8x128 (Scalar.ofBits .f32 0x3F800000#32)) (allAdd128 l2) = rl
  have R : ∀ i, rl (ix2 i c) = Ideal.div 1 ((∑ k ∈ ((Kw 0 ∪ Kw 1) ∪ Kn 2), wt (σ k) (((Kw 0 ∪ Kw 1) ∪ Kn 2).sup σ) : ℝ) : EReal) := fun i => by
    rw [← hrl]
    show Ideal.div (Ideal.ieee 8 23 (0x3F800000#32)) (allAdd128 l2 (ix2 i c)) = _
    rw [f1, allAdd128_apply, ← S2.tot, coe_sum]
    congr 1
    exact Finset.sum_congr rfl fun i _ => S2.hl i
  have P0 := pv32_128_apply σ ν 0 s0 e0 m0 m2 rl v0 d c h0 hv0 he0 ((Kw 0 ∪ Kw 1) ∪ Kn 2) (Kw 0) (Finset.Subset.refl _) ((Finset.subset_union_left.trans Finset.subset_union_left)) M0 M2 R
  have P1 := pv32_128_apply σ ν 1 s1 e1 m1 m2 rl v1 d c h1 hv1 he1 ((Kw 0 ∪ Kw 1) ∪ Kn 2) (Kw 0 ∪ Kw 1) Finset.subset_union_right (Finset.subset_union_left) M1 M2 R
  have P2 := pv16_128_apply σ ν 2 s2 e2 m2 m2 rl v2 d c h2 hv2 he2 ((Kw 0 ∪ Kw 1) ∪ Kn 2) ((Kw 0 ∪ Kw 1) ∪ Kn 2) Finset.subset_union_right (Finset.Subset.refl _) M2 M2 R
  rw [softK_union _ _ _ _ _ D2, softK_union _ _ _ _ _ D1, ← P0, ← P1, ← P2]
  rfl

theorem out16_128_3_apply (σ ν : Fin 1024 → EReal) (s0 : FVec Ideal S32x8x128 .f32) (s1 : FVec Ideal S32x8x128 .f32) (s2 : FVec Ideal S32x8x128 .f32) (s3 : FVec Ideal S16x8x128 .f32) (e0 : Vec Ideal S1x32x8x128 .f32) (e1 : Vec Ideal S1x32x8x128 .f32) (e2 : Vec Ideal S1x32x8x128 .f32) (e3 : Vec Ideal S1x16x8x128 .f32) (v0 : FVec Ideal S128x256 .bf16) (v1 : FVec Ideal S128x256 .bf16) (v2 : FVec Ideal S128x256 .bf16) (v3 : FVec Ideal S128x128 .bf16) (d : Fin 128) (c : Fin 128)
    (h0 : ∀ x, row32_128 s0 c x = σ (keyw 0 x)) (h1 : ∀ x, row32_128 s1 c x = σ (keyw 1 x)) (h2 : ∀ x, row32_128 s2 c x = σ (keyw 2 x)) (h3 : ∀ x, row16_128 s3 c x = σ (keyn 3 x))
    (hv0 : ∀ x, v0 (ix2 d x) = ν (keyw 0 x)) (hv1 : ∀ x, v1 (ix2 d x) = ν (keyw 1 x)) (hv2 : ∀ x, v2 (ix2 d x) = ν (keyw 2 x)) (hv3 : ∀ x, v3 (ix2 d x) = ν (keyn 3 x))
    (he0 : e0 = exP32_128 s0 (mx32_128_0 s0)) (he1 : e1 = exP32_128 s1 (mx32_128_1 s0 s1)) (he2 : e2 = exP32_128 s2 (mx32_128_2 s0 s1 s2)) (he3 : e3 = exP16_128 s3 (mx16_128_3 s0 s1 s2 s3)) :
    out16_128_3 s0 s1 s2 s3 e0 e1 e2 e3 v0 v1 v2 v3 (ix2 d c) = softK σ ν (((Kw 0 ∪ Kw 1) ∪ Kw 2) ∪ Kn 3) (((Kw 0 ∪ Kw 1) ∪ Kw 2) ∪ Kn 3) := by
  unfold out16_128_3
  unfold mx32_128_0 at he0
  unfold mx32_128_1 at he1
  unfold mx32_128_2 at he2
  unfold mx16_128_3 at he3
  dsimp only at he0 he1 he2 he3 ⊢
  have t0 := tile32_128 σ 0 s0 c h0
  generalize hm0 : tm32_128 s0 = m0 at *
  generalize hl0 : ls32_128 s0 m0 = l0 at *
  have M0 : ∀ i, m0 (ix2 i c) = (Kw 0).sup σ := fun i => t0.hm i
  have S0 := t0.first (lv := fun i => l0 (ix2 i c)) (fun i => by rw [← hl0]; exact lsT32_128 σ 0 s0 m0 c h0 _ (Finset.Subset.refl _) M0 i)
  have t1 := tile32_128 σ 1 s1 c h1
  generalize hm1 : maximumf m0 (tm32_128 s1) = m1 at *
  generalize hl1 : addf (mulf l0 (wgt S8x128 m0 m1)) (ls32_128 s1 m1) = l1 at *
  have M1 : ∀ i, m1 (ix2 i c) = (Kw 0 ∪ Kw 1).sup σ := fun i => by
    rw [← hm1, Finset.sup_union]
    show max (m0 (ix2 i c)) (tm32_128 s1 (ix2 i c)) = _
    rw [M0, t1.hm]
  have D1 : Disjoint (Kw 0) (Kw 1) := by
    refine disj_w (j := 1) (fun k hk => ?_) (fun k hk => ?_)
    · simp only [Finset.mem_union, mem_Kw, mem_Kn] at hk
      simp at hk ⊢
      omega
    · simp only [Finset.mem_union, mem_Kw, mem_Kn] at hk
      exact hk.1
  have S1 := S0.step (mv' := fun i => m1 (ix2 i c)) (lv' := fun i => l1 (ix2 i c)) (ls := fun i => ls32_128 s1 m1 (ix2 i c)) t1 D1 (fun i => by rw [← hm1]; rfl)
    (lsT32_128 σ 1 s1 m1 c h1 _ Finset.subset_union_right M1)
    (fun i => by
      rw [← hl1]
      show l0 (ix2 i c) * wgt S8x128 m0 m1 (ix2 i c) + _ = _
      rw [wgt_apply])
  have t2 := tile32_128 σ 2 s2 c h2
  generalize hm2 : maximumf m1 (tm32_128 s2) = m2 at *
  generalize hl2 : addf (mulf l1 (wgt S8x128 m1 m2)) (ls32_128 s2 m2) = l2 at *
  have M2 : ∀ i, m2 (ix2 i c) = ((Kw 0 ∪ Kw 1) ∪ Kw 2).sup σ := fun i => by
    rw [← hm2, Finset.sup_union]
    show max (m1 (ix2 i c)) (tm32_128 s2 (ix2 i c)) = _
    rw [M1, t2.hm]
  have D2 : Disjoint (Kw 0 ∪ Kw 1) (Kw 2) := by
    refine disj_w (j := 2) (fun k hk => ?_) (fun k hk => ?_)
    · simp only [Finset.mem_union, mem_Kw, mem_Kn] at hk
      simp at hk ⊢
      omega
    · simp only [Finset.mem_union, mem_Kw, mem_Kn] at hk
      exact hk.1
  have S2 := S1.step (mv' := fun i => m2 (ix2 i c)) (lv' := fun i => l2 (ix2 i c)) (ls := fun i => ls32_128 s2 m2 (ix2 i c)) t2 D2 (fun i => by rw [← hm2]; rfl)
    (lsT32_128 σ 2 s2 m2 c h2 _ Finset.subset_union_right M2)
    (fun i => by
      rw [← hl2]
      show l1 (ix2 i c) * wgt S8x128 m1 m2 (ix2 i c) + _ = _
      rw [wgt_apply])
  have t3 := tile16_128 σ 3 s3 c h3
  generalize hm3 : maximumf m2 (tm16_128 s3) = m3 at *
  generalize hl3 : addf (mulf l2 (wgt S8x128 m2 m3)) (ls16_128 s3 m3) = l3 at *
  have M3 : ∀ i, m3 (ix2 i c) = (((Kw 0 ∪ Kw 1) ∪ Kw 2) ∪ Kn 3).sup σ := fun i => by
    rw [← hm3, Finset.sup_union]
    show max (m2 (ix2 i c)) (tm16_128 s3 (ix2 i c)) = _
    rw [M2, t3.hm]
  have D3 : Disjoint ((Kw 0 ∪ Kw 1) ∪ Kw 2) (Kn 3) := by
    refine disj_w (j := 3) (fun k hk => ?_) (fun k hk => ?_)
    · simp only [Finset.mem_union, mem_Kw, mem_Kn] at hk
      simp at hk ⊢
      omega
    · simp only [Finset.mem_union, mem_Kw, mem_Kn] at hk
      exact hk.1
  have S3 := S2.step (mv' := fun i => m3 (ix2 i c)) (lv' := fun i => l3 (ix2 i c)) (ls := fun i => ls16_128 s3 m3 (ix2 i c)) t3 D3 (fun i => by rw [← hm3]; rfl)
    (lsT16_128 σ 3 s3 m3 c h3 _ Finset.subset_union_right M3)
    (fun i => by
      rw [← hl3]
      show l2 (ix2 i c) * wgt S8x128 m2 m3 (ix2 i c) + _ = _
      rw [wgt_apply])
  generalize hrl : divf (broadcast S8x128 (Scalar.ofBits .f32 0x3F800000#32)) (allAdd128 l3) = rl
  have R : ∀ i, rl (ix2 i c) = Ideal.div 1 ((∑ k ∈ (((Kw 0 ∪ Kw 1) ∪ Kw 2) ∪ Kn 3), wt (σ k) ((((Kw 0 ∪ Kw 1) ∪ Kw 2) ∪ Kn 3).sup σ) : ℝ) : EReal) := fun i => by
    rw [← hrl]
    show Ideal.div (Ideal.ieee 8 23 (0x3F800000#32)) (allAdd128 l3 (ix2 i c)) = _
    rw [f1, allAdd128_apply, ← S3.tot, coe_sum]
    congr 1
    exact Finset.sum_congr rfl fun i _ => S3.hl i
  have P0 := pv32_128_apply σ ν 0 s0 e0 m0 m3 rl v0 d c h0 hv0 he0 (((Kw 0 ∪ Kw 1) ∪ Kw 2) ∪ Kn 3) (Kw 0) (Finset.Subset.refl _) (((Finset.subset_union_left.trans Finset.subset_union_left).trans Finset.subset_union_left)) M0 M3 R
  have P1 := pv32_128_apply σ ν 1 s1 e1 m1 m3 rl v1 d c h1 hv1 he1 (((Kw 0 ∪ Kw 1) ∪ Kw 2) ∪ Kn 3) (Kw 0 ∪ Kw 1) Finset.subset_union_right ((Finset.subset_union_left.trans Finset.subset_union_left)) M1 M3 R
  have P2 := pv32_128_apply σ ν 2 s2 e2 m2 m3 rl v2 d c h2 hv2 he2 (((Kw 0 ∪ Kw 1) ∪ Kw 2) ∪ Kn 3) ((Kw 0 ∪ Kw 1) ∪ Kw 2) Finset.subset_union_right (Finset.subset_union_left) M2 M3 R
  have P3 := pv16_128_apply σ ν 3 s3 e3 m3 m3 rl v3 d c h3 hv3 he3 (((Kw 0 ∪ Kw 1) ∪ Kw 2) ∪ Kn 3) (((Kw 0 ∪ Kw 1) ∪ Kw 2) ∪ Kn 3) Finset.subset_union_right (Finset.Subset.refl _) M3 M3 R
  rw [softK_union _ _ _ _ _ D3, softK_union _ _ _ _ _ D2, softK_union _ _ _ _ _ D1, ← P0, ← P1, ← P2, ← P3]
  rfl

end Cert.KernelIdeal.Run

end
-- ==== Proof.Units.lean ====
/- What each scratch buffer is left, what is read back of it, and each query tile's output, over the body's
   operands. -/
module

public import proofs.«01_k».proof.Proof.Tile

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F] [Named F]

/-- The body's operands: the buffers it reads and writes and the input blocks they hold. -/
structure Env (F : FTy → Type) where
  arg2 : Memref sig .tc .vmem S1x5x1024x128 .fp8e4m3
  harg2 : arg2.IsWhole
  arg3 : Memref sig .tc .vmem S1x5x4x1024 .i8
  harg3 : arg3.IsWhole
  arg4 : Memref sig .tc .vmem S1x1x1024x128 .fp8e4m3
  harg4 : arg4.IsWhole
  arg5 : Memref sig .tc .vmem S1x1x4x1024 .i8
  harg5 : arg5.IsWhole
  arg6 : Memref sig .tc .vmem S1x1x1024x128 .fp8e4m3
  harg6 : arg6.IsWhole
  arg7 : Memref sig .tc .vmem S1x1x32x128 .i8
  harg7 : arg7.IsWhole
  arg11 : Memref sig .tc .vmem S8x256x640 .bf16
  arg12 : Memref sig .tc .vmem S4x256x256 .bf16
  arg13 : Memref sig .tc .vmem S4x128x256 .bf16
  arg14 : Memref sig .tc .vmem S4x128x256 .bf16
  arg15 : Memref sig .tc .vmem S4x128x128 .bf16
  arg16 : Memref sig .tc .vmem S4x32x8x256 .f32
  x0 : Vec F S1x5x1024x128 .fp8e4m3
  x1 : Vec F S1x5x4x1024 .i8
  x2 : Vec F S1x1x1024x128 .fp8e4m3
  x3 : Vec F S1x1x4x1024 .i8
  x4 : Vec F S1x1x1024x128 .fp8e4m3
  x5 : Vec F S1x1x32x128 .i8

variable (E : Env F)

/-- Key tile 0. -/
def kT0 : FVec F S128x256 .bf16 :=
  kT (View.readAt (Elt F) E.arg4.view (Rect.unit (s := S1x1x1024x128) ![0, 0, 0, 0] S1x1x256x128.size inb_S1x1x1024x128_S1x1x256x128_0_0_0_0).toLoadRect (E.harg4.unread E.x2))
    (View.readAt (Elt F) E.arg5.view (Rect.unit (s := S1x1x4x1024) ![0, 0, 0, 0] S1x1x4x256.size inb_S1x1x4x1024_S1x1x4x256_0_0_0_0).toLoadRect (E.harg5.unread E.x3))

/-- Value tile 0. -/
def vT0 : FVec F S128x256 .bf16 :=
  vT (View.readAt (Elt F) E.arg6.view (Rect.unit (s := S1x1x1024x128) ![0, 0, 0, 0] S1x1x256x128.size inb_S1x1x1024x128_S1x1x256x128_0_0_0_0).toLoadRect (E.harg6.unread E.x4))
    (View.readAt (Elt F) E.arg7.view (Rect.unit (s := S1x1x32x128) ![0, 0, 0, 0] S1x1x8x128.size inb_S1x1x32x128_S1x1x8x128_0_0_0_0).toLoadRect (E.harg7.unread E.x5))

/-- Key tile 1. -/
def kT1 : FVec F S128x256 .bf16 :=
  kT (View.readAt (Elt F) E.arg4.view (Rect.unit (s := S1x1x1024x128) ![0, 0, 256, 0] S1x1x256x128.size inb_S1x1x1024x128_S1x1x256x128_0_0_256_0).toLoadRect (E.harg4.unread E.x2))
    (View.readAt (Elt F) E.arg5.view (Rect.unit (s := S1x1x4x1024) ![0, 0, 0, 256] S1x1x4x256.size inb_S1x1x4x1024_S1x1x4x256_0_0_0_256).toLoadRect (E.harg5.unread E.x3))

/-- Value tile 1. -/
def vT1 : FVec F S128x256 .bf16 :=
  vT (View.readAt (Elt F) E.arg6.view (Rect.unit (s := S1x1x1024x128) ![0, 0, 256, 0] S1x1x256x128.size inb_S1x1x1024x128_S1x1x256x128_0_0_256_0).toLoadRect (E.harg6.unread E.x4))
    (View.readAt (Elt F) E.arg7.view (Rect.unit (s := S1x1x32x128) ![0, 0, 8, 0] S1x1x8x128.size inb_S1x1x32x128_S1x1x8x128_0_0_8_0).toLoadRect (E.harg7.unread E.x5))

/-- Key tile 2. -/
def kT2 : FVec F S128x256 .bf16 :=
  kT (View.readAt (Elt F) E.arg4.view (Rect.unit (s := S1x1x1024x128) ![0, 0, 512, 0] S1x1x256x128.size inb_S1x1x1024x128_S1x1x256x128_0_0_512_0).toLoadRect (E.harg4.unread E.x2))
    (View.readAt (Elt F) E.arg5.view (Rect.unit (s := S1x1x4x1024) ![0, 0, 0, 512] S1x1x4x256.size inb_S1x1x4x1024_S1x1x4x256_0_0_0_512).toLoadRect (E.harg5.unread E.x3))

/-- Value tile 2. -/
def vT2 : FVec F S128x256 .bf16 :=
  vT (View.readAt (Elt F) E.arg6.view (Rect.unit (s := S1x1x1024x128) ![0, 0, 512, 0] S1x1x256x128.size inb_S1x1x1024x128_S1x1x256x128_0_0_512_0).toLoadRect (E.harg6.unread E.x4))
    (View.readAt (Elt F) E.arg7.view (Rect.unit (s := S1x1x32x128) ![0, 0, 16, 0] S1x1x8x128.size inb_S1x1x32x128_S1x1x8x128_0_0_16_0).toLoadRect (E.harg7.unread E.x5))

/-- Key tile 3. -/
def kT3 : FVec F S128x256 .bf16 :=
  kT (View.readAt (Elt F) E.arg4.view (Rect.unit (s := S1x1x1024x128) ![0, 0, 768, 0] S1x1x256x128.size inb_S1x1x1024x128_S1x1x256x128_0_0_768_0).toLoadRect (E.harg4.unread E.x2))
    (View.readAt (Elt F) E.arg5.view (Rect.unit (s := S1x1x4x1024) ![0, 0, 0, 768] S1x1x4x256.size inb_S1x1x4x1024_S1x1x4x256_0_0_0_768).toLoadRect (E.harg5.unread E.x3))

/-- Value tile 3. -/
def vT3 : FVec F S128x256 .bf16 :=
  vT (View.readAt (Elt F) E.arg6.view (Rect.unit (s := S1x1x1024x128) ![0, 0, 768, 0] S1x1x256x128.size inb_S1x1x1024x128_S1x1x256x128_0_0_768_0).toLoadRect (E.harg6.unread E.x4))
    (View.readAt (Elt F) E.arg7.view (Rect.unit (s := S1x1x32x128) ![0, 0, 24, 0] S1x1x8x128.size inb_S1x1x32x128_S1x1x8x128_0_0_24_0).toLoadRect (E.harg7.unread E.x5))

/-- A load of a query tile's codes. -/
abbrev ldQ (o : Fin 4 → ℕ) (h : ∀ a, o a + S1x1x128x128.size a ≤ S1x5x1024x128.size a) :=
  View.readAt (Elt F) E.arg2.view (Rect.unit (s := S1x5x1024x128) o S1x1x128x128.size h).toLoadRect (E.harg2.unread E.x0)

/-- A load of a query tile's scales. -/
abbrev ldS (o : Fin 4 → ℕ) (h : ∀ a, o a + S1x1x4x128.size a ≤ S1x5x4x1024.size a) :=
  View.readAt (Elt F) E.arg3.view (Rect.unit (s := S1x5x4x1024) o S1x1x4x128.size h).toLoadRect (E.harg3.unread E.x1)

/-- Query tile 0 of head 0. -/
def qT0_0 : FVec F S128x128 .bf16 :=
  qT (ldQ E ![0, 0, 0, 0] inb_S1x5x1024x128_S1x1x128x128_0_0_0_0)
    (ldS E ![0, 0, 0, 0] inb_S1x5x4x1024_S1x1x4x128_0_0_0_0)

/-- Query tile 1 of head 0. -/
def qT0_1 : FVec F S128x128 .bf16 :=
  qT (ldQ E ![0, 0, 128, 0] inb_S1x5x1024x128_S1x1x128x128_0_0_128_0)
    (ldS E ![0, 0, 0, 128] inb_S1x5x4x1024_S1x1x4x128_0_0_0_128)

/-- Query tile 2 of head 0. -/
def qT0_2 : FVec F S128x128 .bf16 :=
  qT (ldQ E ![0, 0, 256, 0] inb_S1x5x1024x128_S1x1x128x128_0_0_256_0)
    (ldS E ![0, 0, 0, 256] inb_S1x5x4x1024_S1x1x4x128_0_0_0_256)

/-- Query tile 3 of head 0. -/
def qT0_3 : FVec F S128x128 .bf16 :=
  qT (ldQ E ![0, 0, 384, 0] inb_S1x5x1024x128_S1x1x128x128_0_0_384_0)
    (ldS E ![0, 0, 0, 384] inb_S1x5x4x1024_S1x1x4x128_0_0_0_384)

/-- Query tile 4 of head 0. -/
def qT0_4 : FVec F S128x128 .bf16 :=
  qT (ldQ E ![0, 0, 512, 0] inb_S1x5x1024x128_S1x1x128x128_0_0_512_0)
    (ldS E ![0, 0, 0, 512] inb_S1x5x4x1024_S1x1x4x128_0_0_0_512)

/-- Query tile 5 of head 0. -/
def qT0_5 : FVec F S128x128 .bf16 :=
  qT (ldQ E ![0, 0, 640, 0] inb_S1x5x1024x128_S1x1x128x128_0_0_640_0)
    (ldS E ![0, 0, 0, 640] inb_S1x5x4x1024_S1x1x4x128_0_0_0_640)

/-- Query tile 6 of head 0. -/
def qT0_6 : FVec F S128x128 .bf16 :=
  qT (ldQ E ![0, 0, 768, 0] inb_S1x5x1024x128_S1x1x128x128_0_0_768_0)
    (ldS E ![0, 0, 0, 768] inb_S1x5x4x1024_S1x1x4x128_0_0_0_768)

/-- Query tile 7 of head 0. -/
def qT0_7 : FVec F S128x128 .bf16 :=
  qT (ldQ E ![0, 0, 896, 0] inb_S1x5x1024x128_S1x1x128x128_0_0_896_0)
    (ldS E ![0, 0, 0, 896] inb_S1x5x4x1024_S1x1x4x128_0_0_0_896)

/-- Query tile 0 of head 1. -/
def qT1_0 : FVec F S128x128 .bf16 :=
  qT (ldQ E ![0, 1, 0, 0] inb_S1x5x1024x128_S1x1x128x128_0_1_0_0)
    (ldS E ![0, 1, 0, 0] inb_S1x5x4x1024_S1x1x4x128_0_1_0_0)

/-- Query tile 1 of head 1. -/
def qT1_1 : FVec F S128x128 .bf16 :=
  qT (ldQ E ![0, 1, 128, 0] inb_S1x5x1024x128_S1x1x128x128_0_1_128_0)
    (ldS E ![0, 1, 0, 128] inb_S1x5x4x1024_S1x1x4x128_0_1_0_128)

/-- Query tile 2 of head 1. -/
def qT1_2 : FVec F S128x128 .bf16 :=
  qT (ldQ E ![0, 1, 256, 0] inb_S1x5x1024x128_S1x1x128x128_0_1_256_0)
    (ldS E ![0, 1, 0, 256] inb_S1x5x4x1024_S1x1x4x128_0_1_0_256)

/-- Query tile 3 of head 1. -/
def qT1_3 : FVec F S128x128 .bf16 :=
  qT (ldQ E ![0, 1, 384, 0] inb_S1x5x1024x128_S1x1x128x128_0_1_384_0)
    (ldS E ![0, 1, 0, 384] inb_S1x5x4x1024_S1x1x4x128_0_1_0_384)

/-- Query tile 4 of head 1. -/
def qT1_4 : FVec F S128x128 .bf16 :=
  qT (ldQ E ![0, 1, 512, 0] inb_S1x5x1024x128_S1x1x128x128_0_1_512_0)
    (ldS E ![0, 1, 0, 512] inb_S1x5x4x1024_S1x1x4x128_0_1_0_512)

/-- Query tile 5 of head 1. -/
def qT1_5 : FVec F S128x128 .bf16 :=
  qT (ldQ E ![0, 1, 640, 0] inb_S1x5x1024x128_S1x1x128x128_0_1_640_0)
    (ldS E ![0, 1, 0, 640] inb_S1x5x4x1024_S1x1x4x128_0_1_0_640)

/-- Query tile 6 of head 1. -/
def qT1_6 : FVec F S128x128 .bf16 :=
  qT (ldQ E ![0, 1, 768, 0] inb_S1x5x1024x128_S1x1x128x128_0_1_768_0)
    (ldS E ![0, 1, 0, 768] inb_S1x5x4x1024_S1x1x4x128_0_1_0_768)

/-- Query tile 7 of head 1. -/
def qT1_7 : FVec F S128x128 .bf16 :=
  qT (ldQ E ![0, 1, 896, 0] inb_S1x5x1024x128_S1x1x128x128_0_1_896_0)
    (ldS E ![0, 1, 0, 896] inb_S1x5x4x1024_S1x1x4x128_0_1_0_896)

/-- Query tile 0 of head 2. -/
def qT2_0 : FVec F S128x128 .bf16 :=
  qT (ldQ E ![0, 2, 0, 0] inb_S1x5x1024x128_S1x1x128x128_0_2_0_0)
    (ldS E ![0, 2, 0, 0] inb_S1x5x4x1024_S1x1x4x128_0_2_0_0)

/-- Query tile 1 of head 2. -/
def qT2_1 : FVec F S128x128 .bf16 :=
  qT (ldQ E ![0, 2, 128, 0] inb_S1x5x1024x128_S1x1x128x128_0_2_128_0)
    (ldS E ![0, 2, 0, 128] inb_S1x5x4x1024_S1x1x4x128_0_2_0_128)

/-- Query tile 2 of head 2. -/
def qT2_2 : FVec F S128x128 .bf16 :=
  qT (ldQ E ![0, 2, 256, 0] inb_S1x5x1024x128_S1x1x128x128_0_2_256_0)
    (ldS E ![0, 2, 0, 256] inb_S1x5x4x1024_S1x1x4x128_0_2_0_256)

/-- Query tile 3 of head 2. -/
def qT2_3 : FVec F S128x128 .bf16 :=
  qT (ldQ E ![0, 2, 384, 0] inb_S1x5x1024x128_S1x1x128x128_0_2_384_0)
    (ldS E ![0, 2, 0, 384] inb_S1x5x4x1024_S1x1x4x128_0_2_0_384)

/-- Query tile 4 of head 2. -/
def qT2_4 : FVec F S128x128 .bf16 :=
  qT (ldQ E ![0, 2, 512, 0] inb_S1x5x1024x128_S1x1x128x128_0_2_512_0)
    (ldS E ![0, 2, 0, 512] inb_S1x5x4x1024_S1x1x4x128_0_2_0_512)

/-- Query tile 5 of head 2. -/
def qT2_5 : FVec F S128x128 .bf16 :=
  qT (ldQ E ![0, 2, 640, 0] inb_S1x5x1024x128_S1x1x128x128_0_2_640_0)
    (ldS E ![0, 2, 0, 640] inb_S1x5x4x1024_S1x1x4x128_0_2_0_640)

/-- Query tile 6 of head 2. -/
def qT2_6 : FVec F S128x128 .bf16 :=
  qT (ldQ E ![0, 2, 768, 0] inb_S1x5x1024x128_S1x1x128x128_0_2_768_0)
    (ldS E ![0, 2, 0, 768] inb_S1x5x4x1024_S1x1x4x128_0_2_0_768)

/-- Query tile 7 of head 2. -/
def qT2_7 : FVec F S128x128 .bf16 :=
  qT (ldQ E ![0, 2, 896, 0] inb_S1x5x1024x128_S1x1x128x128_0_2_896_0)
    (ldS E ![0, 2, 0, 896] inb_S1x5x4x1024_S1x1x4x128_0_2_0_896)

/-- Query tile 0 of head 3. -/
def qT3_0 : FVec F S128x128 .bf16 :=
  qT (ldQ E ![0, 3, 0, 0] inb_S1x5x1024x128_S1x1x128x128_0_3_0_0)
    (ldS E ![0, 3, 0, 0] inb_S1x5x4x1024_S1x1x4x128_0_3_0_0)

/-- Query tile 1 of head 3. -/
def qT3_1 : FVec F S128x128 .bf16 :=
  qT (ldQ E ![0, 3, 128, 0] inb_S1x5x1024x128_S1x1x128x128_0_3_128_0)
    (ldS E ![0, 3, 0, 128] inb_S1x5x4x1024_S1x1x4x128_0_3_0_128)

/-- Query tile 2 of head 3. -/
def qT3_2 : FVec F S128x128 .bf16 :=
  qT (ldQ E ![0, 3, 256, 0] inb_S1x5x1024x128_S1x1x128x128_0_3_256_0)
    (ldS E ![0, 3, 0, 256] inb_S1x5x4x1024_S1x1x4x128_0_3_0_256)

/-- Query tile 3 of head 3. -/
def qT3_3 : FVec F S128x128 .bf16 :=
  qT (ldQ E ![0, 3, 384, 0] inb_S1x5x1024x128_S1x1x128x128_0_3_384_0)
    (ldS E ![0, 3, 0, 384] inb_S1x5x4x1024_S1x1x4x128_0_3_0_384)

/-- Query tile 4 of head 3. -/
def qT3_4 : FVec F S128x128 .bf16 :=
  qT (ldQ E ![0, 3, 512, 0] inb_S1x5x1024x128_S1x1x128x128_0_3_512_0)
    (ldS E ![0, 3, 0, 512] inb_S1x5x4x1024_S1x1x4x128_0_3_0_512)

/-- Query tile 5 of head 3. -/
def qT3_5 : FVec F S128x128 .bf16 :=
  qT (ldQ E ![0, 3, 640, 0] inb_S1x5x1024x128_S1x1x128x128_0_3_640_0)
    (ldS E ![0, 3, 0, 640] inb_S1x5x4x1024_S1x1x4x128_0_3_0_640)

/-- Query tile 6 of head 3. -/
def qT3_6 : FVec F S128x128 .bf16 :=
  qT (ldQ E ![0, 3, 768, 0] inb_S1x5x1024x128_S1x1x128x128_0_3_768_0)
    (ldS E ![0, 3, 0, 768] inb_S1x5x4x1024_S1x1x4x128_0_3_0_768)

/-- Query tile 7 of head 3. -/
def qT3_7 : FVec F S128x128 .bf16 :=
  qT (ldQ E ![0, 3, 896, 0] inb_S1x5x1024x128_S1x1x128x128_0_3_896_0)
    (ldS E ![0, 3, 0, 896] inb_S1x5x4x1024_S1x1x4x128_0_3_0_896)

/-- Query tile 0 of head 4. -/
def qT4_0 : FVec F S128x128 .bf16 :=
  qT (ldQ E ![0, 4, 0, 0] inb_S1x5x1024x128_S1x1x128x128_0_4_0_0)
    (ldS E ![0, 4, 0, 0] inb_S1x5x4x1024_S1x1x4x128_0_4_0_0)

/-- Query tile 1 of head 4. -/
def qT4_1 : FVec F S128x128 .bf16 :=
  qT (ldQ E ![0, 4, 128, 0] inb_S1x5x1024x128_S1x1x128x128_0_4_128_0)
    (ldS E ![0, 4, 0, 128] inb_S1x5x4x1024_S1x1x4x128_0_4_0_128)

/-- Query tile 2 of head 4. -/
def qT4_2 : FVec F S128x128 .bf16 :=
  qT (ldQ E ![0, 4, 256, 0] inb_S1x5x1024x128_S1x1x128x128_0_4_256_0)
    (ldS E ![0, 4, 0, 256] inb_S1x5x4x1024_S1x1x4x128_0_4_0_256)

/-- Query tile 3 of head 4. -/
def qT4_3 : FVec F S128x128 .bf16 :=
  qT (ldQ E ![0, 4, 384, 0] inb_S1x5x1024x128_S1x1x128x128_0_4_384_0)
    (ldS E ![0, 4, 0, 384] inb_S1x5x4x1024_S1x1x4x128_0_4_0_384)

/-- Query tile 4 of head 4. -/
def qT4_4 : FVec F S128x128 .bf16 :=
  qT (ldQ E ![0, 4, 512, 0] inb_S1x5x1024x128_S1x1x128x128_0_4_512_0)
    (ldS E ![0, 4, 0, 512] inb_S1x5x4x1024_S1x1x4x128_0_4_0_512)

/-- Query tile 5 of head 4. -/
def qT4_5 : FVec F S128x128 .bf16 :=
  qT (ldQ E ![0, 4, 640, 0] inb_S1x5x1024x128_S1x1x128x128_0_4_640_0)
    (ldS E ![0, 4, 0, 640] inb_S1x5x4x1024_S1x1x4x128_0_4_0_640)

/-- Query tile 6 of head 4. -/
def qT4_6 : FVec F S128x128 .bf16 :=
  qT (ldQ E ![0, 4, 768, 0] inb_S1x5x1024x128_S1x1x128x128_0_4_768_0)
    (ldS E ![0, 4, 0, 768] inb_S1x5x4x1024_S1x1x4x128_0_4_0_768)

/-- Query tile 7 of head 4. -/
def qT4_7 : FVec F S128x128 .bf16 :=
  qT (ldQ E ![0, 4, 896, 0] inb_S1x5x1024x128_S1x1x128x128_0_4_896_0)
    (ldS E ![0, 4, 0, 896] inb_S1x5x4x1024_S1x1x4x128_0_4_0_896)

/-- What the wide key scratch was left, last store first. -/
def hA : List (View.Piece (Elt F) S4x256x256 .bf16) :=
  ⟨Rect.unit (s := S4x256x256) ![3, 0, 128] S1x256x128.size inb_S4x256x256_S1x256x128_3_0_128, kaM⟩ ::
  ⟨Rect.unit (s := S4x256x256) ![3, 0, 0] S1x256x128.size inb_S4x256x256_S1x256x128_3_0_0, kaP (kT3 E)⟩ ::
  ⟨Rect.unit (s := S4x256x256) ![2, 0, 128] S1x256x128.size inb_S4x256x256_S1x256x128_2_0_128, kaM⟩ ::
  ⟨Rect.unit (s := S4x256x256) ![2, 0, 0] S1x256x128.size inb_S4x256x256_S1x256x128_2_0_0, kaP (kT2 E)⟩ ::
  ⟨Rect.unit (s := S4x256x256) ![1, 0, 128] S1x256x128.size inb_S4x256x256_S1x256x128_1_0_128, kaM⟩ ::
  ⟨Rect.unit (s := S4x256x256) ![1, 0, 0] S1x256x128.size inb_S4x256x256_S1x256x128_1_0_0, kaP (kT1 E)⟩ ::
  ⟨Rect.unit (s := S4x256x256) ![0, 0, 128] S1x256x128.size inb_S4x256x256_S1x256x128_0_0_128, kaM⟩ ::
  ⟨Rect.unit (s := S4x256x256) ![0, 0, 0] S1x256x128.size inb_S4x256x256_S1x256x128_0_0_0, kaP (kT0 E)⟩ ::
  []

/-- What the narrow key scratch was left. -/
def hB : List (View.Piece (Elt F) S4x128x256 .bf16) :=
  ⟨Rect.unit (s := S4x128x256) ![3, 0, 128] S1x128x128.size inb_S4x128x256_S1x128x128_3_0_128, kbM⟩ ::
  ⟨Rect.unit (s := S4x128x256) ![3, 0, 0] S1x128x128.size inb_S4x128x256_S1x128x128_3_0_0, kbP (kT3 E)⟩ ::
  ⟨Rect.unit (s := S4x128x256) ![2, 0, 128] S1x128x128.size inb_S4x128x256_S1x128x128_2_0_128, kbM⟩ ::
  ⟨Rect.unit (s := S4x128x256) ![2, 0, 0] S1x128x128.size inb_S4x128x256_S1x128x128_2_0_0, kbP (kT2 E)⟩ ::
  ⟨Rect.unit (s := S4x128x256) ![1, 0, 128] S1x128x128.size inb_S4x128x256_S1x128x128_1_0_128, kbM⟩ ::
  ⟨Rect.unit (s := S4x128x256) ![1, 0, 0] S1x128x128.size inb_S4x128x256_S1x128x128_1_0_0, kbP (kT1 E)⟩ ::
  ⟨Rect.unit (s := S4x128x256) ![0, 0, 128] S1x128x128.size inb_S4x128x256_S1x128x128_0_0_128, kbM⟩ ::
  ⟨Rect.unit (s := S4x128x256) ![0, 0, 0] S1x128x128.size inb_S4x128x256_S1x128x128_0_0_0, kbP (kT0 E)⟩ ::
  []

/-- What the wide value scratch was left. -/
def hVA : List (View.Piece (Elt F) S4x128x256 .bf16) :=
  ⟨Rect.unit (s := S4x128x256) ![3, 0, 0] S1x128x256.size inb_S4x128x256_S1x128x256_3_0_0, vaP (vT3 E)⟩ ::
  ⟨Rect.unit (s := S4x128x256) ![2, 0, 0] S1x128x256.size inb_S4x128x256_S1x128x256_2_0_0, vaP (vT2 E)⟩ ::
  ⟨Rect.unit (s := S4x128x256) ![1, 0, 0] S1x128x256.size inb_S4x128x256_S1x128x256_1_0_0, vaP (vT1 E)⟩ ::
  ⟨Rect.unit (s := S4x128x256) ![0, 0, 0] S1x128x256.size inb_S4x128x256_S1x128x256_0_0_0, vaP (vT0 E)⟩ ::
  []

/-- What the narrow value scratch was left. -/
def hVB : List (View.Piece (Elt F) S4x128x128 .bf16) :=
  ⟨Rect.unit (s := S4x128x128) ![3, 0, 0] S1x128x128.size inb_S4x128x128_S1x128x128_3_0_0, vbP (vT3 E)⟩ ::
  ⟨Rect.unit (s := S4x128x128) ![2, 0, 0] S1x128x128.size inb_S4x128x128_S1x128x128_2_0_0, vbP (vT2 E)⟩ ::
  ⟨Rect.unit (s := S4x128x128) ![1, 0, 0] S1x128x128.size inb_S4x128x128_S1x128x128_1_0_0, vbP (vT1 E)⟩ ::
  ⟨Rect.unit (s := S4x128x128) ![0, 0, 0] S1x128x128.size inb_S4x128x128_S1x128x128_0_0_0, vbP (vT0 E)⟩ ::
  []

/-- What the query scratch was left. -/
def hQ : List (View.Piece (Elt F) S8x256x640 .bf16) :=
  ⟨Rect.unit (s := S8x256x640) ![7, 128, 512] S1x128x128.size inb_S8x256x640_S1x128x128_7_128_512, qP eyeM⟩ ::
  ⟨Rect.unit (s := S8x256x640) ![7, 0, 512] S1x128x128.size inb_S8x256x640_S1x128x128_7_0_512, qP (qT4_7 E)⟩ ::
  ⟨Rect.unit (s := S8x256x640) ![6, 128, 512] S1x128x128.size inb_S8x256x640_S1x128x128_6_128_512, qP eyeM⟩ ::
  ⟨Rect.unit (s := S8x256x640) ![6, 0, 512] S1x128x128.size inb_S8x256x640_S1x128x128_6_0_512, qP (qT4_6 E)⟩ ::
  ⟨Rect.unit (s := S8x256x640) ![5, 128, 512] S1x128x128.size inb_S8x256x640_S1x128x128_5_128_512, qP eyeM⟩ ::
  ⟨Rect.unit (s := S8x256x640) ![5, 0, 512] S1x128x128.size inb_S8x256x640_S1x128x128_5_0_512, qP (qT4_5 E)⟩ ::
  ⟨Rect.unit (s := S8x256x640) ![4, 128, 512] S1x128x128.size inb_S8x256x640_S1x128x128_4_128_512, qP eyeM⟩ ::
  ⟨Rect.unit (s := S8x256x640) ![4, 0, 512] S1x128x128.size inb_S8x256x640_S1x128x128_4_0_512, qP (qT4_4 E)⟩ ::
  ⟨Rect.unit (s := S8x256x640) ![3, 128, 512] S1x128x128.size inb_S8x256x640_S1x128x128_3_128_512, qP eyeM⟩ ::
  ⟨Rect.unit (s := S8x256x640) ![3, 0, 512] S1x128x128.size inb_S8x256x640_S1x128x128_3_0_512, qP (qT4_3 E)⟩ ::
  ⟨Rect.unit (s := S8x256x640) ![2, 128, 512] S1x128x128.size inb_S8x256x640_S1x128x128_2_128_512, qP eyeM⟩ ::
  ⟨Rect.unit (s := S8x256x640) ![2, 0, 512] S1x128x128.size inb_S8x256x640_S1x128x128_2_0_512, qP (qT4_2 E)⟩ ::
  ⟨Rect.unit (s := S8x256x640) ![1, 128, 512] S1x128x128.size inb_S8x256x640_S1x128x128_1_128_512, qP eyeM⟩ ::
  ⟨Rect.unit (s := S8x256x640) ![1, 0, 512] S1x128x128.size inb_S8x256x640_S1x128x128_1_0_512, qP (qT4_1 E)⟩ ::
  ⟨Rect.unit (s := S8x256x640) ![0, 128, 512] S1x128x128.size inb_S8x256x640_S1x128x128_0_128_512, qP eyeM⟩ ::
  ⟨Rect.unit (s := S8x256x640) ![0, 0, 512] S1x128x128.size inb_S8x256x640_S1x128x128_0_0_512, qP (qT4_0 E)⟩ ::
  ⟨Rect.unit (s := S8x256x640) ![7, 128, 384] S1x128x128.size inb_S8x256x640_S1x128x128_7_128_384, qP eyeM⟩ ::
  ⟨Rect.unit (s := S8x256x640) ![7, 0, 384] S1x128x128.size inb_S8x256x640_S1x128x128_7_0_384, qP (qT3_7 E)⟩ ::
  ⟨Rect.unit (s := S8x256x640) ![6, 128, 384] S1x128x128.size inb_S8x256x640_S1x128x128_6_128_384, qP eyeM⟩ ::
  ⟨Rect.unit (s := S8x256x640) ![6, 0, 384] S1x128x128.size inb_S8x256x640_S1x128x128_6_0_384, qP (qT3_6 E)⟩ ::
  ⟨Rect.unit (s := S8x256x640) ![5, 128, 384] S1x128x128.size inb_S8x256x640_S1x128x128_5_128_384, qP eyeM⟩ ::
  ⟨Rect.unit (s := S8x256x640) ![5, 0, 384] S1x128x128.size inb_S8x256x640_S1x128x128_5_0_384, qP (qT3_5 E)⟩ ::
  ⟨Rect.unit (s := S8x256x640) ![4, 128, 384] S1x128x128.size inb_S8x256x640_S1x128x128_4_128_384, qP eyeM⟩ ::
  ⟨Rect.unit (s := S8x256x640) ![4, 0, 384] S1x128x128.size inb_S8x256x640_S1x128x128_4_0_384, qP (qT3_4 E)⟩ ::
  ⟨Rect.unit (s := S8x256x640) ![3, 128, 384] S1x128x128.size inb_S8x256x640_S1x128x128_3_128_384, qP eyeM⟩ ::
  ⟨Rect.unit (s := S8x256x640) ![3, 0, 384] S1x128x128.size inb_S8x256x640_S1x128x128_3_0_384, qP (qT3_3 E)⟩ ::
  ⟨Rect.unit (s := S8x256x640) ![2, 128, 384] S1x128x128.size inb_S8x256x640_S1x128x128_2_128_384, qP eyeM⟩ ::
  ⟨Rect.unit (s := S8x256x640) ![2, 0, 384] S1x128x128.size inb_S8x256x640_S1x128x128_2_0_384, qP (qT3_2 E)⟩ ::
  ⟨Rect.unit (s := S8x256x640) ![1, 128, 384] S1x128x128.size inb_S8x256x640_S1x128x128_1_128_384, qP eyeM⟩ ::
  ⟨Rect.unit (s := S8x256x640) ![1, 0, 384] S1x128x128.size inb_S8x256x640_S1x128x128_1_0_384, qP (qT3_1 E)⟩ ::
  ⟨Rect.unit (s := S8x256x640) ![0, 128, 384] S1x128x128.size inb_S8x256x640_S1x128x128_0_128_384, qP eyeM⟩ ::
  ⟨Rect.unit (s := S8x256x640) ![0, 0, 384] S1x128x128.size inb_S8x256x640_S1x128x128_0_0_384, qP (qT3_0 E)⟩ ::
  ⟨Rect.unit (s := S8x256x640) ![7, 128, 256] S1x128x128.size inb_S8x256x640_S1x128x128_7_128_256, qP eyeM⟩ ::
  ⟨Rect.unit (s := S8x256x640) ![7, 0, 256] S1x128x128.size inb_S8x256x640_S1x128x128_7_0_256, qP (qT2_7 E)⟩ ::
  ⟨Rect.unit (s := S8x256x640) ![6, 128, 256] S1x128x128.size inb_S8x256x640_S1x128x128_6_128_256, qP eyeM⟩ ::
  ⟨Rect.unit (s := S8x256x640) ![6, 0, 256] S1x128x128.size inb_S8x256x640_S1x128x128_6_0_256, qP (qT2_6 E)⟩ ::
  ⟨Rect.unit (s := S8x256x640) ![5, 128, 256] S1x128x128.size inb_S8x256x640_S1x128x128_5_128_256, qP eyeM⟩ ::
  ⟨Rect.unit (s := S8x256x640) ![5, 0, 256] S1x128x128.size inb_S8x256x640_S1x128x128_5_0_256, qP (qT2_5 E)⟩ ::
  ⟨Rect.unit (s := S8x256x640) ![4, 128, 256] S1x128x128.size inb_S8x256x640_S1x128x128_4_128_256, qP eyeM⟩ ::
  ⟨Rect.unit (s := S8x256x640) ![4, 0, 256] S1x128x128.size inb_S8x256x640_S1x128x128_4_0_256, qP (qT2_4 E)⟩ ::
  ⟨Rect.unit (s := S8x256x640) ![3, 128, 256] S1x128x128.size inb_S8x256x640_S1x128x128_3_128_256, qP eyeM⟩ ::
  ⟨Rect.unit (s := S8x256x640) ![3, 0, 256] S1x128x128.size inb_S8x256x640_S1x128x128_3_0_256, qP (qT2_3 E)⟩ ::
  ⟨Rect.unit (s := S8x256x640) ![2, 128, 256] S1x128x128.size inb_S8x256x640_S1x128x128_2_128_256, qP eyeM⟩ ::
  ⟨Rect.unit (s := S8x256x640) ![2, 0, 256] S1x128x128.size inb_S8x256x640_S1x128x128_2_0_256, qP (qT2_2 E)⟩ ::
  ⟨Rect.unit (s := S8x256x640) ![1, 128, 256] S1x128x128.size inb_S8x256x640_S1x128x128_1_128_256, qP eyeM⟩ ::
  ⟨Rect.unit (s := S8x256x640) ![1, 0, 256] S1x128x128.size inb_S8x256x640_S1x128x128_1_0_256, qP (qT2_1 E)⟩ ::
  ⟨Rect.unit (s := S8x256x640) ![0, 128, 256] S1x128x128.size inb_S8x256x640_S1x128x128_0_128_256, qP eyeM⟩ ::
  ⟨Rect.unit (s := S8x256x640) ![0, 0, 256] S1x128x128.size inb_S8x256x640_S1x128x128_0_0_256, qP (qT2_0 E)⟩ ::
  ⟨Rect.unit (s := S8x256x640) ![7, 128, 128] S1x128x128.size inb_S8x256x640_S1x128x128_7_128_128, qP eyeM⟩ ::
  ⟨Rect.unit (s := S8x256x640) ![7, 0, 128] S1x128x128.size inb_S8x256x640_S1x128x128_7_0_128, qP (qT1_7 E)⟩ ::
  ⟨Rect.unit (s := S8x256x640) ![6, 128, 128] S1x128x128.size inb_S8x256x640_S1x128x128_6_128_128, qP eyeM⟩ ::
  ⟨Rect.unit (s := S8x256x640) ![6, 0, 128] S1x128x128.size inb_S8x256x640_S1x128x128_6_0_128, qP (qT1_6 E)⟩ ::
  ⟨Rect.unit (s := S8x256x640) ![5, 128, 128] S1x128x128.size inb_S8x256x640_S1x128x128_5_128_128, qP eyeM⟩ ::
  ⟨Rect.unit (s := S8x256x640) ![5, 0, 128] S1x128x128.size inb_S8x256x640_S1x128x128_5_0_128, qP (qT1_5 E)⟩ ::
  ⟨Rect.unit (s := S8x256x640) ![4, 128, 128] S1x128x128.size inb_S8x256x640_S1x128x128_4_128_128, qP eyeM⟩ ::
  ⟨Rect.unit (s := S8x256x640) ![4, 0, 128] S1x128x128.size inb_S8x256x640_S1x128x128_4_0_128, qP (qT1_4 E)⟩ ::
  ⟨Rect.unit (s := S8x256x640) ![3, 128, 128] S1x128x128.size inb_S8x256x640_S1x128x128_3_128_128, qP eyeM⟩ ::
  ⟨Rect.unit (s := S8x256x640) ![3, 0, 128] S1x128x128.size inb_S8x256x640_S1x128x128_3_0_128, qP (qT1_3 E)⟩ ::
  ⟨Rect.unit (s := S8x256x640) ![2, 128, 128] S1x128x128.size inb_S8x256x640_S1x128x128_2_128_128, qP eyeM⟩ ::
  ⟨Rect.unit (s := S8x256x640) ![2, 0, 128] S1x128x128.size inb_S8x256x640_S1x128x128_2_0_128, qP (qT1_2 E)⟩ ::
  ⟨Rect.unit (s := S8x256x640) ![1, 128, 128] S1x128x128.size inb_S8x256x640_S1x128x128_1_128_128, qP eyeM⟩ ::
  ⟨Rect.unit (s := S8x256x640) ![1, 0, 128] S1x128x128.size inb_S8x256x640_S1x128x128_1_0_128, qP (qT1_1 E)⟩ ::
  ⟨Rect.unit (s := S8x256x640) ![0, 128, 128] S1x128x128.size inb_S8x256x640_S1x128x128_0_128_128, qP eyeM⟩ ::
  ⟨Rect.unit (s := S8x256x640) ![0, 0, 128] S1x128x128.size inb_S8x256x640_S1x128x128_0_0_128, qP (qT1_0 E)⟩ ::
  ⟨Rect.unit (s := S8x256x640) ![7, 128, 0] S1x128x128.size inb_S8x256x640_S1x128x128_7_128_0, qP eyeM⟩ ::
  ⟨Rect.unit (s := S8x256x640) ![7, 0, 0] S1x128x128.size inb_S8x256x640_S1x128x128_7_0_0, qP (qT0_7 E)⟩ ::
  ⟨Rect.unit (s := S8x256x640) ![6, 128, 0] S1x128x128.size inb_S8x256x640_S1x128x128_6_128_0, qP eyeM⟩ ::
  ⟨Rect.unit (s := S8x256x640) ![6, 0, 0] S1x128x128.size inb_S8x256x640_S1x128x128_6_0_0, qP (qT0_6 E)⟩ ::
  ⟨Rect.unit (s := S8x256x640) ![5, 128, 0] S1x128x128.size inb_S8x256x640_S1x128x128_5_128_0, qP eyeM⟩ ::
  ⟨Rect.unit (s := S8x256x640) ![5, 0, 0] S1x128x128.size inb_S8x256x640_S1x128x128_5_0_0, qP (qT0_5 E)⟩ ::
  ⟨Rect.unit (s := S8x256x640) ![4, 128, 0] S1x128x128.size inb_S8x256x640_S1x128x128_4_128_0, qP eyeM⟩ ::
  ⟨Rect.unit (s := S8x256x640) ![4, 0, 0] S1x128x128.size inb_S8x256x640_S1x128x128_4_0_0, qP (qT0_4 E)⟩ ::
  ⟨Rect.unit (s := S8x256x640) ![3, 128, 0] S1x128x128.size inb_S8x256x640_S1x128x128_3_128_0, qP eyeM⟩ ::
  ⟨Rect.unit (s := S8x256x640) ![3, 0, 0] S1x128x128.size inb_S8x256x640_S1x128x128_3_0_0, qP (qT0_3 E)⟩ ::
  ⟨Rect.unit (s := S8x256x640) ![2, 128, 0] S1x128x128.size inb_S8x256x640_S1x128x128_2_128_0, qP eyeM⟩ ::
  ⟨Rect.unit (s := S8x256x640) ![2, 0, 0] S1x128x128.size inb_S8x256x640_S1x128x128_2_0_0, qP (qT0_2 E)⟩ ::
  ⟨Rect.unit (s := S8x256x640) ![1, 128, 0] S1x128x128.size inb_S8x256x640_S1x128x128_1_128_0, qP eyeM⟩ ::
  ⟨Rect.unit (s := S8x256x640) ![1, 0, 0] S1x128x128.size inb_S8x256x640_S1x128x128_1_0_0, qP (qT0_1 E)⟩ ::
  ⟨Rect.unit (s := S8x256x640) ![0, 128, 0] S1x128x128.size inb_S8x256x640_S1x128x128_0_128_0, qP eyeM⟩ ::
  ⟨Rect.unit (s := S8x256x640) ![0, 0, 0] S1x128x128.size inb_S8x256x640_S1x128x128_0_0_0, qP (qT0_0 E)⟩ ::
  []

/-- The wide key tile 0 read back without its mask. -/
def rkA0 : FVec F S256x128 .bf16 := shapeCast S256x128 (E.arg12.view.readCov (hA E) (Rect.unit (s := S4x256x256) ![0, 0, 0] S1x256x128.size inb_S4x256x256_S1x256x128_0_0_0).toLoadRect) shapeCasts_S1x256x128_S256x128

/-- The wide key tile 0 read back with its mask. -/
def rkM0 : FVec F S256x256 .bf16 := shapeCast S256x256 (E.arg12.view.readCov (hA E) (Rect.unit (s := S4x256x256) ![0, 0, 0] S1x256x256.size inb_S4x256x256_S1x256x256_0_0_0).toLoadRect) shapeCasts_S1x256x256_S256x256

/-- The narrow key tile 0 read back with its mask. -/
def rkB0 : FVec F S128x256 .bf16 := shapeCast S128x256 (E.arg13.view.readCov (hB E) (Rect.unit (s := S4x128x256) ![0, 0, 0] S1x128x256.size inb_S4x128x256_S1x128x256_0_0_0).toLoadRect) shapeCasts_S1x128x256_S128x256

/-- The wide value tile 0 read back. -/
def rvA0 : FVec F S128x256 .bf16 := shapeCast S128x256 (E.arg14.view.readCov (hVA E) (Rect.unit (s := S4x128x256) ![0, 0, 0] S1x128x256.size inb_S4x128x256_S1x128x256_0_0_0).toLoadRect) shapeCasts_S1x128x256_S128x256

/-- The narrow value tile 0 read back. -/
def rvB0 : FVec F S128x128 .bf16 := shapeCast S128x128 (E.arg15.view.readCov (hVB E) (Rect.unit (s := S4x128x128) ![0, 0, 0] S1x128x128.size inb_S4x128x128_S1x128x128_0_0_0).toLoadRect) shapeCasts_S1x128x128_S128x128

/-- The wide key tile 1 read back without its mask. -/
def rkA1 : FVec F S256x128 .bf16 := shapeCast S256x128 (E.arg12.view.readCov (hA E) (Rect.unit (s := S4x256x256) ![1, 0, 0] S1x256x128.size inb_S4x256x256_S1x256x128_1_0_0).toLoadRect) shapeCasts_S1x256x128_S256x128

/-- The wide key tile 1 read back with its mask. -/
def rkM1 : FVec F S256x256 .bf16 := shapeCast S256x256 (E.arg12.view.readCov (hA E) (Rect.unit (s := S4x256x256) ![1, 0, 0] S1x256x256.size inb_S4x256x256_S1x256x256_1_0_0).toLoadRect) shapeCasts_S1x256x256_S256x256

/-- The narrow key tile 1 read back with its mask. -/
def rkB1 : FVec F S128x256 .bf16 := shapeCast S128x256 (E.arg13.view.readCov (hB E) (Rect.unit (s := S4x128x256) ![1, 0, 0] S1x128x256.size inb_S4x128x256_S1x128x256_1_0_0).toLoadRect) shapeCasts_S1x128x256_S128x256

/-- The wide value tile 1 read back. -/
def rvA1 : FVec F S128x256 .bf16 := shapeCast S128x256 (E.arg14.view.readCov (hVA E) (Rect.unit (s := S4x128x256) ![1, 0, 0] S1x128x256.size inb_S4x128x256_S1x128x256_1_0_0).toLoadRect) shapeCasts_S1x128x256_S128x256

/-- The narrow value tile 1 read back. -/
def rvB1 : FVec F S128x128 .bf16 := shapeCast S128x128 (E.arg15.view.readCov (hVB E) (Rect.unit (s := S4x128x128) ![1, 0, 0] S1x128x128.size inb_S4x128x128_S1x128x128_1_0_0).toLoadRect) shapeCasts_S1x128x128_S128x128

/-- The wide key tile 2 read back without its mask. -/
def rkA2 : FVec F S256x128 .bf16 := shapeCast S256x128 (E.arg12.view.readCov (hA E) (Rect.unit (s := S4x256x256) ![2, 0, 0] S1x256x128.size inb_S4x256x256_S1x256x128_2_0_0).toLoadRect) shapeCasts_S1x256x128_S256x128

/-- The wide key tile 2 read back with its mask. -/
def rkM2 : FVec F S256x256 .bf16 := shapeCast S256x256 (E.arg12.view.readCov (hA E) (Rect.unit (s := S4x256x256) ![2, 0, 0] S1x256x256.size inb_S4x256x256_S1x256x256_2_0_0).toLoadRect) shapeCasts_S1x256x256_S256x256

/-- The narrow key tile 2 read back with its mask. -/
def rkB2 : FVec F S128x256 .bf16 := shapeCast S128x256 (E.arg13.view.readCov (hB E) (Rect.unit (s := S4x128x256) ![2, 0, 0] S1x128x256.size inb_S4x128x256_S1x128x256_2_0_0).toLoadRect) shapeCasts_S1x128x256_S128x256

/-- The wide value tile 2 read back. -/
def rvA2 : FVec F S128x256 .bf16 := shapeCast S128x256 (E.arg14.view.readCov (hVA E) (Rect.unit (s := S4x128x256) ![2, 0, 0] S1x128x256.size inb_S4x128x256_S1x128x256_2_0_0).toLoadRect) shapeCasts_S1x128x256_S128x256

/-- The narrow value tile 2 read back. -/
def rvB2 : FVec F S128x128 .bf16 := shapeCast S128x128 (E.arg15.view.readCov (hVB E) (Rect.unit (s := S4x128x128) ![2, 0, 0] S1x128x128.size inb_S4x128x128_S1x128x128_2_0_0).toLoadRect) shapeCasts_S1x128x128_S128x128

/-- The wide key tile 3 read back without its mask. -/
def rkA3 : FVec F S256x128 .bf16 := shapeCast S256x128 (E.arg12.view.readCov (hA E) (Rect.unit (s := S4x256x256) ![3, 0, 0] S1x256x128.size inb_S4x256x256_S1x256x128_3_0_0).toLoadRect) shapeCasts_S1x256x128_S256x128

/-- The wide key tile 3 read back with its mask. -/
def rkM3 : FVec F S256x256 .bf16 := shapeCast S256x256 (E.arg12.view.readCov (hA E) (Rect.unit (s := S4x256x256) ![3, 0, 0] S1x256x256.size inb_S4x256x256_S1x256x256_3_0_0).toLoadRect) shapeCasts_S1x256x256_S256x256

/-- The narrow key tile 3 read back with its mask. -/
def rkB3 : FVec F S128x256 .bf16 := shapeCast S128x256 (E.arg13.view.readCov (hB E) (Rect.unit (s := S4x128x256) ![3, 0, 0] S1x128x256.size inb_S4x128x256_S1x128x256_3_0_0).toLoadRect) shapeCasts_S1x128x256_S128x256

/-- The wide value tile 3 read back. -/
def rvA3 : FVec F S128x256 .bf16 := shapeCast S128x256 (E.arg14.view.readCov (hVA E) (Rect.unit (s := S4x128x256) ![3, 0, 0] S1x128x256.size inb_S4x128x256_S1x128x256_3_0_0).toLoadRect) shapeCasts_S1x128x256_S128x256

/-- The narrow value tile 3 read back. -/
def rvB3 : FVec F S128x128 .bf16 := shapeCast S128x128 (E.arg15.view.readCov (hVB E) (Rect.unit (s := S4x128x128) ![3, 0, 0] S1x128x128.size inb_S4x128x128_S1x128x128_3_0_0).toLoadRect) shapeCasts_S1x128x128_S128x128

/-- Query tile 0 of the heads from 0, with the identity below. -/
def rqm0_0 : FVec F S256x256 .bf16 := shapeCast S256x256 (E.arg11.view.readCov (hQ E) (Rect.unit (s := S8x256x640) ![0, 0, 0] S1x256x256.size inb_S8x256x640_S1x256x256_0_0_0).toLoadRect) shapeCasts_S1x256x256_S256x256

/-- Scores of key tile 0 at query tile 0, heads from 0. -/
def s0_0_0 : FVec F S16x8x256 .f32 := (sc16_256_256 (rkB0 E) (rqm0_0 E))

/-- What the exponentials scratch was left after query tile 0, heads from 0. -/
def hE0_0 : List (View.Piece (Elt F) S4x32x8x256 .f32) :=
  ⟨Rect.unit (s := S4x32x8x256) ![0, 0, 0, 0] S1x16x8x256.size inb_S4x32x8x256_S1x16x8x256_0_0_0_0, exP16_256 (s0_0_0 E) (mx16_256_0 (s0_0_0 E))⟩ ::
  []

/-- The exponentials of tile 0 read back at query tile 0, heads from 0. -/
def re0_0_0 : Vec F S1x16x8x256 .f32 := (E.arg16.view.readCov (hE0_0 E) (Rect.unit (s := S4x32x8x256) ![0, 0, 0, 0] S1x16x8x256.size inb_S4x32x8x256_S1x16x8x256_0_0_0_0).toLoadRect)

/-- The output of query tile 0, heads from 0. -/
def o0_0 : FVec F S128x256 .f32 := out16_256_0 (s0_0_0 E) (re0_0_0 E) (rvB0 E)

/-- What is stored for query tile 0 of head 0. -/
def op0_0 : FVec F S1x128x128 .bf16 := shapeCast S1x128x128 (transpose S128x128 [1, 0] (truncf .bf16 (extractStridedSlice S128x128 ![0, 0] (o0_0 E) slices_S128x256_o0_0_S128x128) bitsLt_bf16_f32) transposes_S128x128_p1_0_S128x128) shapeCasts_S128x128_S1x128x128

/-- What is stored for query tile 0 of head 1. -/
def op0_1 : FVec F S1x128x128 .bf16 := shapeCast S1x128x128 (transpose S128x128 [1, 0] (truncf .bf16 (extractStridedSlice S128x128 ![0, 128] (o0_0 E) slices_S128x256_o0_128_S128x128) bitsLt_bf16_f32) transposes_S128x128_p1_0_S128x128) shapeCasts_S128x128_S1x128x128

/-- Query tile 0 of the heads from 2, with the identity below. -/
def rqm0_2 : FVec F S256x256 .bf16 := shapeCast S256x256 (E.arg11.view.readCov (hQ E) (Rect.unit (s := S8x256x640) ![0, 0, 256] S1x256x256.size inb_S8x256x640_S1x256x256_0_0_256).toLoadRect) shapeCasts_S1x256x256_S256x256

/-- Scores of key tile 0 at query tile 0, heads from 2. -/
def s0_2_0 : FVec F S16x8x256 .f32 := (sc16_256_256 (rkB0 E) (rqm0_2 E))

/-- What the exponentials scratch was left after query tile 0, heads from 2. -/
def hE0_2 : List (View.Piece (Elt F) S4x32x8x256 .f32) :=
  ⟨Rect.unit (s := S4x32x8x256) ![0, 0, 0, 0] S1x16x8x256.size inb_S4x32x8x256_S1x16x8x256_0_0_0_0, exP16_256 (s0_2_0 E) (mx16_256_0 (s0_2_0 E))⟩ ::
  hE0_0 E

/-- The exponentials of tile 0 read back at query tile 0, heads from 2. -/
def re0_2_0 : Vec F S1x16x8x256 .f32 := (E.arg16.view.readCov (hE0_2 E) (Rect.unit (s := S4x32x8x256) ![0, 0, 0, 0] S1x16x8x256.size inb_S4x32x8x256_S1x16x8x256_0_0_0_0).toLoadRect)

/-- The output of query tile 0, heads from 2. -/
def o0_2 : FVec F S128x256 .f32 := out16_256_0 (s0_2_0 E) (re0_2_0 E) (rvB0 E)

/-- What is stored for query tile 0 of head 2. -/
def op0_2 : FVec F S1x128x128 .bf16 := shapeCast S1x128x128 (transpose S128x128 [1, 0] (truncf .bf16 (extractStridedSlice S128x128 ![0, 0] (o0_2 E) slices_S128x256_o0_0_S128x128) bitsLt_bf16_f32) transposes_S128x128_p1_0_S128x128) shapeCasts_S128x128_S1x128x128

/-- What is stored for query tile 0 of head 3. -/
def op0_3 : FVec F S1x128x128 .bf16 := shapeCast S1x128x128 (transpose S128x128 [1, 0] (truncf .bf16 (extractStridedSlice S128x128 ![0, 128] (o0_2 E) slices_S128x256_o0_128_S128x128) bitsLt_bf16_f32) transposes_S128x128_p1_0_S128x128) shapeCasts_S128x128_S1x128x128

/-- Query tile 0 of the heads from 4, with the identity below. -/
def rqm0_4 : FVec F S256x128 .bf16 := shapeCast S256x128 (E.arg11.view.readCov (hQ E) (Rect.unit (s := S8x256x640) ![0, 0, 512] S1x256x128.size inb_S8x256x640_S1x256x128_0_0_512).toLoadRect) shapeCasts_S1x256x128_S256x128

/-- Scores of key tile 0 at query tile 0, heads from 4. -/
def s0_4_0 : FVec F S16x8x128 .f32 := (sc16_128_256 (rkB0 E) (rqm0_4 E))

/-- What the exponentials scratch was left after query tile 0, heads from 4. -/
def hE0_4 : List (View.Piece (Elt F) S4x32x8x256 .f32) :=
  ⟨Rect.unit (s := S4x32x8x256) ![0, 0, 0, 0] S1x16x8x128.size inb_S4x32x8x256_S1x16x8x128_0_0_0_0, exP16_128 (s0_4_0 E) (mx16_128_0 (s0_4_0 E))⟩ ::
  hE0_2 E

/-- The exponentials of tile 0 read back at query tile 0, heads from 4. -/
def re0_4_0 : Vec F S1x16x8x128 .f32 := (E.arg16.view.readCov (hE0_4 E) (Rect.unit (s := S4x32x8x256) ![0, 0, 0, 0] S1x16x8x128.size inb_S4x32x8x256_S1x16x8x128_0_0_0_0).toLoadRect)

/-- The output of query tile 0, heads from 4. -/
def o0_4 : FVec F S128x128 .f32 := out16_128_0 (s0_4_0 E) (re0_4_0 E) (rvB0 E)

/-- What is stored for query tile 0 of head 4. -/
def op0_4 : FVec F S1x128x128 .bf16 := shapeCast S1x128x128 (transpose S128x128 [1, 0] (truncf .bf16 (o0_4 E) bitsLt_bf16_f32) transposes_S128x128_p1_0_S128x128) shapeCasts_S128x128_S1x128x128

/-- Query tile 1 of the heads from 0, with the identity below. -/
def rqm1_0 : FVec F S256x256 .bf16 := shapeCast S256x256 (E.arg11.view.readCov (hQ E) (Rect.unit (s := S8x256x640) ![1, 0, 0] S1x256x256.size inb_S8x256x640_S1x256x256_1_0_0).toLoadRect) shapeCasts_S1x256x256_S256x256

/-- Scores of key tile 0 at query tile 1, heads from 0. -/
def s1_0_0 : FVec F S32x8x256 .f32 := (sc32_256_256 (rkM0 E) (rqm1_0 E))

/-- What the exponentials scratch was left after query tile 1, heads from 0. -/
def hE1_0 : List (View.Piece (Elt F) S4x32x8x256 .f32) :=
  ⟨Rect.unit (s := S4x32x8x256) ![0, 0, 0, 0] S1x32x8x256.size inb_S4x32x8x256_S1x32x8x256_0_0_0_0, exP32_256 (s1_0_0 E) (mx32_256_0 (s1_0_0 E))⟩ ::
  hE0_4 E

/-- The exponentials of tile 0 read back at query tile 1, heads from 0. -/
def re1_0_0 : Vec F S1x32x8x256 .f32 := (E.arg16.view.readCov (hE1_0 E) (Rect.unit (s := S4x32x8x256) ![0, 0, 0, 0] S1x32x8x256.size inb_S4x32x8x256_S1x32x8x256_0_0_0_0).toLoadRect)

/-- The output of query tile 1, heads from 0. -/
def o1_0 : FVec F S128x256 .f32 := out32_256_0 (s1_0_0 E) (re1_0_0 E) (rvA0 E)

/-- What is stored for query tile 1 of head 0. -/
def op1_0 : FVec F S1x128x128 .bf16 := shapeCast S1x128x128 (transpose S128x128 [1, 0] (truncf .bf16 (extractStridedSlice S128x128 ![0, 0] (o1_0 E) slices_S128x256_o0_0_S128x128) bitsLt_bf16_f32) transposes_S128x128_p1_0_S128x128) shapeCasts_S128x128_S1x128x128

/-- What is stored for query tile 1 of head 1. -/
def op1_1 : FVec F S1x128x128 .bf16 := shapeCast S1x128x128 (transpose S128x128 [1, 0] (truncf .bf16 (extractStridedSlice S128x128 ![0, 128] (o1_0 E) slices_S128x256_o0_128_S128x128) bitsLt_bf16_f32) transposes_S128x128_p1_0_S128x128) shapeCasts_S128x128_S1x128x128

/-- Query tile 1 of the heads from 2, with the identity below. -/
def rqm1_2 : FVec F S256x256 .bf16 := shapeCast S256x256 (E.arg11.view.readCov (hQ E) (Rect.unit (s := S8x256x640) ![1, 0, 256] S1x256x256.size inb_S8x256x640_S1x256x256_1_0_256).toLoadRect) shapeCasts_S1x256x256_S256x256

/-- Scores of key tile 0 at query tile 1, heads from 2. -/
def s1_2_0 : FVec F S32x8x256 .f32 := (sc32_256_256 (rkM0 E) (rqm1_2 E))

/-- What the exponentials scratch was left after query tile 1, heads from 2. -/
def hE1_2 : List (View.Piece (Elt F) S4x32x8x256 .f32) :=
  ⟨Rect.unit (s := S4x32x8x256) ![0, 0, 0, 0] S1x32x8x256.size inb_S4x32x8x256_S1x32x8x256_0_0_0_0, exP32_256 (s1_2_0 E) (mx32_256_0 (s1_2_0 E))⟩ ::
  hE1_0 E

/-- The exponentials of tile 0 read back at query tile 1, heads from 2. -/
def re1_2_0 : Vec F S1x32x8x256 .f32 := (E.arg16.view.readCov (hE1_2 E) (Rect.unit (s := S4x32x8x256) ![0, 0, 0, 0] S1x32x8x256.size inb_S4x32x8x256_S1x32x8x256_0_0_0_0).toLoadRect)

/-- The output of query tile 1, heads from 2. -/
def o1_2 : FVec F S128x256 .f32 := out32_256_0 (s1_2_0 E) (re1_2_0 E) (rvA0 E)

/-- What is stored for query tile 1 of head 2. -/
def op1_2 : FVec F S1x128x128 .bf16 := shapeCast S1x128x128 (transpose S128x128 [1, 0] (truncf .bf16 (extractStridedSlice S128x128 ![0, 0] (o1_2 E) slices_S128x256_o0_0_S128x128) bitsLt_bf16_f32) transposes_S128x128_p1_0_S128x128) shapeCasts_S128x128_S1x128x128

/-- What is stored for query tile 1 of head 3. -/
def op1_3 : FVec F S1x128x128 .bf16 := shapeCast S1x128x128 (transpose S128x128 [1, 0] (truncf .bf16 (extractStridedSlice S128x128 ![0, 128] (o1_2 E) slices_S128x256_o0_128_S128x128) bitsLt_bf16_f32) transposes_S128x128_p1_0_S128x128) shapeCasts_S128x128_S1x128x128

/-- Query tile 1 of the heads from 4, with the identity below. -/
def rqm1_4 : FVec F S256x128 .bf16 := shapeCast S256x128 (E.arg11.view.readCov (hQ E) (Rect.unit (s := S8x256x640) ![1, 0, 512] S1x256x128.size inb_S8x256x640_S1x256x128_1_0_512).toLoadRect) shapeCasts_S1x256x128_S256x128

/-- Scores of key tile 0 at query tile 1, heads from 4. -/
def s1_4_0 : FVec F S32x8x128 .f32 := (sc32_128_256 (rkM0 E) (rqm1_4 E))

/-- What the exponentials scratch was left after query tile 1, heads from 4. -/
def hE1_4 : List (View.Piece (Elt F) S4x32x8x256 .f32) :=
  ⟨Rect.unit (s := S4x32x8x256) ![0, 0, 0, 0] S1x32x8x128.size inb_S4x32x8x256_S1x32x8x128_0_0_0_0, exP32_128 (s1_4_0 E) (mx32_128_0 (s1_4_0 E))⟩ ::
  hE1_2 E

/-- The exponentials of tile 0 read back at query tile 1, heads from 4. -/
def re1_4_0 : Vec F S1x32x8x128 .f32 := (E.arg16.view.readCov (hE1_4 E) (Rect.unit (s := S4x32x8x256) ![0, 0, 0, 0] S1x32x8x128.size inb_S4x32x8x256_S1x32x8x128_0_0_0_0).toLoadRect)

/-- The output of query tile 1, heads from 4. -/
def o1_4 : FVec F S128x128 .f32 := out32_128_0 (s1_4_0 E) (re1_4_0 E) (rvA0 E)

/-- What is stored for query tile 1 of head 4. -/
def op1_4 : FVec F S1x128x128 .bf16 := shapeCast S1x128x128 (transpose S128x128 [1, 0] (truncf .bf16 (o1_4 E) bitsLt_bf16_f32) transposes_S128x128_p1_0_S128x128) shapeCasts_S128x128_S1x128x128

/-- Query tile 2 of the heads from 0. -/
def rq2_0 : FVec F S128x256 .bf16 := shapeCast S128x256 (E.arg11.view.readCov (hQ E) (Rect.unit (s := S8x256x640) ![2, 0, 0] S1x128x256.size inb_S8x256x640_S1x128x256_2_0_0).toLoadRect) shapeCasts_S1x128x256_S128x256

/-- Query tile 2 of the heads from 0, with the identity below. -/
def rqm2_0 : FVec F S256x256 .bf16 := shapeCast S256x256 (E.arg11.view.readCov (hQ E) (Rect.unit (s := S8x256x640) ![2, 0, 0] S1x256x256.size inb_S8x256x640_S1x256x256_2_0_0).toLoadRect) shapeCasts_S1x256x256_S256x256

/-- Scores of key tile 0 at query tile 2, heads from 0. -/
def s2_0_0 : FVec F S32x8x256 .f32 := (sc32_256_128 (rkA0 E) (rq2_0 E))

/-- Scores of key tile 1 at query tile 2, heads from 0. -/
def s2_0_1 : FVec F S16x8x256 .f32 := (sc16_256_256 (rkB1 E) (rqm2_0 E))

/-- What the exponentials scratch was left after query tile 2, heads from 0. -/
def hE2_0 : List (View.Piece (Elt F) S4x32x8x256 .f32) :=
  ⟨Rect.unit (s := S4x32x8x256) ![1, 0, 0, 0] S1x16x8x256.size inb_S4x32x8x256_S1x16x8x256_1_0_0_0, exP16_256 (s2_0_1 E) (mx16_256_1 (s2_0_0 E) (s2_0_1 E))⟩ ::
  ⟨Rect.unit (s := S4x32x8x256) ![0, 0, 0, 0] S1x32x8x256.size inb_S4x32x8x256_S1x32x8x256_0_0_0_0, exP32_256 (s2_0_0 E) (mx32_256_0 (s2_0_0 E))⟩ ::
  hE1_4 E

/-- The exponentials of tile 0 read back at query tile 2, heads from 0. -/
def re2_0_0 : Vec F S1x32x8x256 .f32 := (E.arg16.view.readCov (hE2_0 E) (Rect.unit (s := S4x32x8x256) ![0, 0, 0, 0] S1x32x8x256.size inb_S4x32x8x256_S1x32x8x256_0_0_0_0).toLoadRect)

/-- The exponentials of tile 1 read back at query tile 2, heads from 0. -/
def re2_0_1 : Vec F S1x16x8x256 .f32 := (E.arg16.view.readCov (hE2_0 E) (Rect.unit (s := S4x32x8x256) ![1, 0, 0, 0] S1x16x8x256.size inb_S4x32x8x256_S1x16x8x256_1_0_0_0).toLoadRect)

/-- The output of query tile 2, heads from 0. -/
def o2_0 : FVec F S128x256 .f32 := out16_256_1 (s2_0_0 E) (s2_0_1 E) (re2_0_0 E) (re2_0_1 E) (rvA0 E) (rvB1 E)

/-- What is stored for query tile 2 of head 0. -/
def op2_0 : FVec F S1x128x128 .bf16 := shapeCast S1x128x128 (transpose S128x128 [1, 0] (truncf .bf16 (extractStridedSlice S128x128 ![0, 0] (o2_0 E) slices_S128x256_o0_0_S128x128) bitsLt_bf16_f32) transposes_S128x128_p1_0_S128x128) shapeCasts_S128x128_S1x128x128

/-- What is stored for query tile 2 of head 1. -/
def op2_1 : FVec F S1x128x128 .bf16 := shapeCast S1x128x128 (transpose S128x128 [1, 0] (truncf .bf16 (extractStridedSlice S128x128 ![0, 128] (o2_0 E) slices_S128x256_o0_128_S128x128) bitsLt_bf16_f32) transposes_S128x128_p1_0_S128x128) shapeCasts_S128x128_S1x128x128

/-- Query tile 2 of the heads from 2. -/
def rq2_2 : FVec F S128x256 .bf16 := shapeCast S128x256 (E.arg11.view.readCov (hQ E) (Rect.unit (s := S8x256x640) ![2, 0, 256] S1x128x256.size inb_S8x256x640_S1x128x256_2_0_256).toLoadRect) shapeCasts_S1x128x256_S128x256

/-- Query tile 2 of the heads from 2, with the identity below. -/
def rqm2_2 : FVec F S256x256 .bf16 := shapeCast S256x256 (E.arg11.view.readCov (hQ E) (Rect.unit (s := S8x256x640) ![2, 0, 256] S1x256x256.size inb_S8x256x640_S1x256x256_2_0_256).toLoadRect) shapeCasts_S1x256x256_S256x256

/-- Scores of key tile 0 at query tile 2, heads from 2. -/
def s2_2_0 : FVec F S32x8x256 .f32 := (sc32_256_128 (rkA0 E) (rq2_2 E))

/-- Scores of key tile 1 at query tile 2, heads from 2. -/
def s2_2_1 : FVec F S16x8x256 .f32 := (sc16_256_256 (rkB1 E) (rqm2_2 E))

/-- What the exponentials scratch was left after query tile 2, heads from 2. -/
def hE2_2 : List (View.Piece (Elt F) S4x32x8x256 .f32) :=
  ⟨Rect.unit (s := S4x32x8x256) ![1, 0, 0, 0] S1x16x8x256.size inb_S4x32x8x256_S1x16x8x256_1_0_0_0, exP16_256 (s2_2_1 E) (mx16_256_1 (s2_2_0 E) (s2_2_1 E))⟩ ::
  ⟨Rect.unit (s := S4x32x8x256) ![0, 0, 0, 0] S1x32x8x256.size inb_S4x32x8x256_S1x32x8x256_0_0_0_0, exP32_256 (s2_2_0 E) (mx32_256_0 (s2_2_0 E))⟩ ::
  hE2_0 E

/-- The exponentials of tile 0 read back at query tile 2, heads from 2. -/
def re2_2_0 : Vec F S1x32x8x256 .f32 := (E.arg16.view.readCov (hE2_2 E) (Rect.unit (s := S4x32x8x256) ![0, 0, 0, 0] S1x32x8x256.size inb_S4x32x8x256_S1x32x8x256_0_0_0_0).toLoadRect)

/-- The exponentials of tile 1 read back at query tile 2, heads from 2. -/
def re2_2_1 : Vec F S1x16x8x256 .f32 := (E.arg16.view.readCov (hE2_2 E) (Rect.unit (s := S4x32x8x256) ![1, 0, 0, 0] S1x16x8x256.size inb_S4x32x8x256_S1x16x8x256_1_0_0_0).toLoadRect)

/-- The output of query tile 2, heads from 2. -/
def o2_2 : FVec F S128x256 .f32 := out16_256_1 (s2_2_0 E) (s2_2_1 E) (re2_2_0 E) (re2_2_1 E) (rvA0 E) (rvB1 E)

/-- What is stored for query tile 2 of head 2. -/
def op2_2 : FVec F S1x128x128 .bf16 := shapeCast S1x128x128 (transpose S128x128 [1, 0] (truncf .bf16 (extractStridedSlice S128x128 ![0, 0] (o2_2 E) slices_S128x256_o0_0_S128x128) bitsLt_bf16_f32) transposes_S128x128_p1_0_S128x128) shapeCasts_S128x128_S1x128x128

/-- What is stored for query tile 2 of head 3. -/
def op2_3 : FVec F S1x128x128 .bf16 := shapeCast S1x128x128 (transpose S128x128 [1, 0] (truncf .bf16 (extractStridedSlice S128x128 ![0, 128] (o2_2 E) slices_S128x256_o0_128_S128x128) bitsLt_bf16_f32) transposes_S128x128_p1_0_S128x128) shapeCasts_S128x128_S1x128x128

/-- Query tile 2 of the heads from 4. -/
def rq2_4 : FVec F S128x128 .bf16 := shapeCast S128x128 (E.arg11.view.readCov (hQ E) (Rect.unit (s := S8x256x640) ![2, 0, 512] S1x128x128.size inb_S8x256x640_S1x128x128_2_0_512).toLoadRect) shapeCasts_S1x128x128_S128x128

/-- Query tile 2 of the heads from 4, with the identity below. -/
def rqm2_4 : FVec F S256x128 .bf16 := shapeCast S256x128 (E.arg11.view.readCov (hQ E) (Rect.unit (s := S8x256x640) ![2, 0, 512] S1x256x128.size inb_S8x256x640_S1x256x128_2_0_512).toLoadRect) shapeCasts_S1x256x128_S256x128

/-- Scores of key tile 0 at query tile 2, heads from 4. -/
def s2_4_0 : FVec F S32x8x128 .f32 := (sc32_128_128 (rkA0 E) (rq2_4 E))

/-- Scores of key tile 1 at query tile 2, heads from 4. -/
def s2_4_1 : FVec F S16x8x128 .f32 := (sc16_128_256 (rkB1 E) (rqm2_4 E))

/-- What the exponentials scratch was left after query tile 2, heads from 4. -/
def hE2_4 : List (View.Piece (Elt F) S4x32x8x256 .f32) :=
  ⟨Rect.unit (s := S4x32x8x256) ![1, 0, 0, 0] S1x16x8x128.size inb_S4x32x8x256_S1x16x8x128_1_0_0_0, exP16_128 (s2_4_1 E) (mx16_128_1 (s2_4_0 E) (s2_4_1 E))⟩ ::
  ⟨Rect.unit (s := S4x32x8x256) ![0, 0, 0, 0] S1x32x8x128.size inb_S4x32x8x256_S1x32x8x128_0_0_0_0, exP32_128 (s2_4_0 E) (mx32_128_0 (s2_4_0 E))⟩ ::
  hE2_2 E

/-- The exponentials of tile 0 read back at query tile 2, heads from 4. -/
def re2_4_0 : Vec F S1x32x8x128 .f32 := (E.arg16.view.readCov (hE2_4 E) (Rect.unit (s := S4x32x8x256) ![0, 0, 0, 0] S1x32x8x128.size inb_S4x32x8x256_S1x32x8x128_0_0_0_0).toLoadRect)

/-- The exponentials of tile 1 read back at query tile 2, heads from 4. -/
def re2_4_1 : Vec F S1x16x8x128 .f32 := (E.arg16.view.readCov (hE2_4 E) (Rect.unit (s := S4x32x8x256) ![1, 0, 0, 0] S1x16x8x128.size inb_S4x32x8x256_S1x16x8x128_1_0_0_0).toLoadRect)

/-- The output of query tile 2, heads from 4. -/
def o2_4 : FVec F S128x128 .f32 := out16_128_1 (s2_4_0 E) (s2_4_1 E) (re2_4_0 E) (re2_4_1 E) (rvA0 E) (rvB1 E)

/-- What is stored for query tile 2 of head 4. -/
def op2_4 : FVec F S1x128x128 .bf16 := shapeCast S1x128x128 (transpose S128x128 [1, 0] (truncf .bf16 (o2_4 E) bitsLt_bf16_f32) transposes_S128x128_p1_0_S128x128) shapeCasts_S128x128_S1x128x128

/-- Query tile 3 of the heads from 0. -/
def rq3_0 : FVec F S128x256 .bf16 := shapeCast S128x256 (E.arg11.view.readCov (hQ E) (Rect.unit (s := S8x256x640) ![3, 0, 0] S1x128x256.size inb_S8x256x640_S1x128x256_3_0_0).toLoadRect) shapeCasts_S1x128x256_S128x256

/-- Query tile 3 of the heads from 0, with the identity below. -/
def rqm3_0 : FVec F S256x256 .bf16 := shapeCast S256x256 (E.arg11.view.readCov (hQ E) (Rect.unit (s := S8x256x640) ![3, 0, 0] S1x256x256.size inb_S8x256x640_S1x256x256_3_0_0).toLoadRect) shapeCasts_S1x256x256_S256x256

/-- Scores of key tile 0 at query tile 3, heads from 0. -/
def s3_0_0 : FVec F S32x8x256 .f32 := (sc32_256_128 (rkA0 E) (rq3_0 E))

/-- Scores of key tile 1 at query tile 3, heads from 0. -/
def s3_0_1 : FVec F S32x8x256 .f32 := (sc32_256_256 (rkM1 E) (rqm3_0 E))

/-- What the exponentials scratch was left after query tile 3, heads from 0. -/
def hE3_0 : List (View.Piece (Elt F) S4x32x8x256 .f32) :=
  ⟨Rect.unit (s := S4x32x8x256) ![1, 0, 0, 0] S1x32x8x256.size inb_S4x32x8x256_S1x32x8x256_1_0_0_0, exP32_256 (s3_0_1 E) (mx32_256_1 (s3_0_0 E) (s3_0_1 E))⟩ ::
  ⟨Rect.unit (s := S4x32x8x256) ![0, 0, 0, 0] S1x32x8x256.size inb_S4x32x8x256_S1x32x8x256_0_0_0_0, exP32_256 (s3_0_0 E) (mx32_256_0 (s3_0_0 E))⟩ ::
  hE2_4 E

/-- The exponentials of tile 0 read back at query tile 3, heads from 0. -/
def re3_0_0 : Vec F S1x32x8x256 .f32 := (E.arg16.view.readCov (hE3_0 E) (Rect.unit (s := S4x32x8x256) ![0, 0, 0, 0] S1x32x8x256.size inb_S4x32x8x256_S1x32x8x256_0_0_0_0).toLoadRect)

/-- The exponentials of tile 1 read back at query tile 3, heads from 0. -/
def re3_0_1 : Vec F S1x32x8x256 .f32 := (E.arg16.view.readCov (hE3_0 E) (Rect.unit (s := S4x32x8x256) ![1, 0, 0, 0] S1x32x8x256.size inb_S4x32x8x256_S1x32x8x256_1_0_0_0).toLoadRect)

/-- The output of query tile 3, heads from 0. -/
def o3_0 : FVec F S128x256 .f32 := out32_256_1 (s3_0_0 E) (s3_0_1 E) (re3_0_0 E) (re3_0_1 E) (rvA0 E) (rvA1 E)

/-- What is stored for query tile 3 of head 0. -/
def op3_0 : FVec F S1x128x128 .bf16 := shapeCast S1x128x128 (transpose S128x128 [1, 0] (truncf .bf16 (extractStridedSlice S128x128 ![0, 0] (o3_0 E) slices_S128x256_o0_0_S128x128) bitsLt_bf16_f32) transposes_S128x128_p1_0_S128x128) shapeCasts_S128x128_S1x128x128

/-- What is stored for query tile 3 of head 1. -/
def op3_1 : FVec F S1x128x128 .bf16 := shapeCast S1x128x128 (transpose S128x128 [1, 0] (truncf .bf16 (extractStridedSlice S128x128 ![0, 128] (o3_0 E) slices_S128x256_o0_128_S128x128) bitsLt_bf16_f32) transposes_S128x128_p1_0_S128x128) shapeCasts_S128x128_S1x128x128

/-- Query tile 3 of the heads from 2. -/
def rq3_2 : FVec F S128x256 .bf16 := shapeCast S128x256 (E.arg11.view.readCov (hQ E) (Rect.unit (s := S8x256x640) ![3, 0, 256] S1x128x256.size inb_S8x256x640_S1x128x256_3_0_256).toLoadRect) shapeCasts_S1x128x256_S128x256

/-- Query tile 3 of the heads from 2, with the identity below. -/
def rqm3_2 : FVec F S256x256 .bf16 := shapeCast S256x256 (E.arg11.view.readCov (hQ E) (Rect.unit (s := S8x256x640) ![3, 0, 256] S1x256x256.size inb_S8x256x640_S1x256x256_3_0_256).toLoadRect) shapeCasts_S1x256x256_S256x256

/-- Scores of key tile 0 at query tile 3, heads from 2. -/
def s3_2_0 : FVec F S32x8x256 .f32 := (sc32_256_128 (rkA0 E) (rq3_2 E))

/-- Scores of key tile 1 at query tile 3, heads from 2. -/
def s3_2_1 : FVec F S32x8x256 .f32 := (sc32_256_256 (rkM1 E) (rqm3_2 E))

/-- What the exponentials scratch was left after query tile 3, heads from 2. -/
def hE3_2 : List (View.Piece (Elt F) S4x32x8x256 .f32) :=
  ⟨Rect.unit (s := S4x32x8x256) ![1, 0, 0, 0] S1x32x8x256.size inb_S4x32x8x256_S1x32x8x256_1_0_0_0, exP32_256 (s3_2_1 E) (mx32_256_1 (s3_2_0 E) (s3_2_1 E))⟩ ::
  ⟨Rect.unit (s := S4x32x8x256) ![0, 0, 0, 0] S1x32x8x256.size inb_S4x32x8x256_S1x32x8x256_0_0_0_0, exP32_256 (s3_2_0 E) (mx32_256_0 (s3_2_0 E))⟩ ::
  hE3_0 E

/-- The exponentials of tile 0 read back at query tile 3, heads from 2. -/
def re3_2_0 : Vec F S1x32x8x256 .f32 := (E.arg16.view.readCov (hE3_2 E) (Rect.unit (s := S4x32x8x256) ![0, 0, 0, 0] S1x32x8x256.size inb_S4x32x8x256_S1x32x8x256_0_0_0_0).toLoadRect)

/-- The exponentials of tile 1 read back at query tile 3, heads from 2. -/
def re3_2_1 : Vec F S1x32x8x256 .f32 := (E.arg16.view.readCov (hE3_2 E) (Rect.unit (s := S4x32x8x256) ![1, 0, 0, 0] S1x32x8x256.size inb_S4x32x8x256_S1x32x8x256_1_0_0_0).toLoadRect)

/-- The output of query tile 3, heads from 2. -/
def o3_2 : FVec F S128x256 .f32 := out32_256_1 (s3_2_0 E) (s3_2_1 E) (re3_2_0 E) (re3_2_1 E) (rvA0 E) (rvA1 E)

/-- What is stored for query tile 3 of head 2. -/
def op3_2 : FVec F S1x128x128 .bf16 := shapeCast S1x128x128 (transpose S128x128 [1, 0] (truncf .bf16 (extractStridedSlice S128x128 ![0, 0] (o3_2 E) slices_S128x256_o0_0_S128x128) bitsLt_bf16_f32) transposes_S128x128_p1_0_S128x128) shapeCasts_S128x128_S1x128x128

/-- What is stored for query tile 3 of head 3. -/
def op3_3 : FVec F S1x128x128 .bf16 := shapeCast S1x128x128 (transpose S128x128 [1, 0] (truncf .bf16 (extractStridedSlice S128x128 ![0, 128] (o3_2 E) slices_S128x256_o0_128_S128x128) bitsLt_bf16_f32) transposes_S128x128_p1_0_S128x128) shapeCasts_S128x128_S1x128x128

/-- Query tile 3 of the heads from 4. -/
def rq3_4 : FVec F S128x128 .bf16 := shapeCast S128x128 (E.arg11.view.readCov (hQ E) (Rect.unit (s := S8x256x640) ![3, 0, 512] S1x128x128.size inb_S8x256x640_S1x128x128_3_0_512).toLoadRect) shapeCasts_S1x128x128_S128x128

/-- Query tile 3 of the heads from 4, with the identity below. -/
def rqm3_4 : FVec F S256x128 .bf16 := shapeCast S256x128 (E.arg11.view.readCov (hQ E) (Rect.unit (s := S8x256x640) ![3, 0, 512] S1x256x128.size inb_S8x256x640_S1x256x128_3_0_512).toLoadRect) shapeCasts_S1x256x128_S256x128

/-- Scores of key tile 0 at query tile 3, heads from 4. -/
def s3_4_0 : FVec F S32x8x128 .f32 := (sc32_128_128 (rkA0 E) (rq3_4 E))

/-- Scores of key tile 1 at query tile 3, heads from 4. -/
def s3_4_1 : FVec F S32x8x128 .f32 := (sc32_128_256 (rkM1 E) (rqm3_4 E))

/-- What the exponentials scratch was left after query tile 3, heads from 4. -/
def hE3_4 : List (View.Piece (Elt F) S4x32x8x256 .f32) :=
  ⟨Rect.unit (s := S4x32x8x256) ![1, 0, 0, 0] S1x32x8x128.size inb_S4x32x8x256_S1x32x8x128_1_0_0_0, exP32_128 (s3_4_1 E) (mx32_128_1 (s3_4_0 E) (s3_4_1 E))⟩ ::
  ⟨Rect.unit (s := S4x32x8x256) ![0, 0, 0, 0] S1x32x8x128.size inb_S4x32x8x256_S1x32x8x128_0_0_0_0, exP32_128 (s3_4_0 E) (mx32_128_0 (s3_4_0 E))⟩ ::
  hE3_2 E

/-- The exponentials of tile 0 read back at query tile 3, heads from 4. -/
def re3_4_0 : Vec F S1x32x8x128 .f32 := (E.arg16.view.readCov (hE3_4 E) (Rect.unit (s := S4x32x8x256) ![0, 0, 0, 0] S1x32x8x128.size inb_S4x32x8x256_S1x32x8x128_0_0_0_0).toLoadRect)

/-- The exponentials of tile 1 read back at query tile 3, heads from 4. -/
def re3_4_1 : Vec F S1x32x8x128 .f32 := (E.arg16.view.readCov (hE3_4 E) (Rect.unit (s := S4x32x8x256) ![1, 0, 0, 0] S1x32x8x128.size inb_S4x32x8x256_S1x32x8x128_1_0_0_0).toLoadRect)

/-- The output of query tile 3, heads from 4. -/
def o3_4 : FVec F S128x128 .f32 := out32_128_1 (s3_4_0 E) (s3_4_1 E) (re3_4_0 E) (re3_4_1 E) (rvA0 E) (rvA1 E)

/-- What is stored for query tile 3 of head 4. -/
def op3_4 : FVec F S1x128x128 .bf16 := shapeCast S1x128x128 (transpose S128x128 [1, 0] (truncf .bf16 (o3_4 E) bitsLt_bf16_f32) transposes_S128x128_p1_0_S128x128) shapeCasts_S128x128_S1x128x128

/-- Query tile 4 of the heads from 0. -/
def rq4_0 : FVec F S128x256 .bf16 := shapeCast S128x256 (E.arg11.view.readCov (hQ E) (Rect.unit (s := S8x256x640) ![4, 0, 0] S1x128x256.size inb_S8x256x640_S1x128x256_4_0_0).toLoadRect) shapeCasts_S1x128x256_S128x256

/-- Query tile 4 of the heads from 0, with the identity below. -/
def rqm4_0 : FVec F S256x256 .bf16 := shapeCast S256x256 (E.arg11.view.readCov (hQ E) (Rect.unit (s := S8x256x640) ![4, 0, 0] S1x256x256.size inb_S8x256x640_S1x256x256_4_0_0).toLoadRect) shapeCasts_S1x256x256_S256x256

/-- Scores of key tile 0 at query tile 4, heads from 0. -/
def s4_0_0 : FVec F S32x8x256 .f32 := (sc32_256_128 (rkA0 E) (rq4_0 E))

/-- Scores of key tile 1 at query tile 4, heads from 0. -/
def s4_0_1 : FVec F S32x8x256 .f32 := (sc32_256_128 (rkA1 E) (rq4_0 E))

/-- Scores of key tile 2 at query tile 4, heads from 0. -/
def s4_0_2 : FVec F S16x8x256 .f32 := (sc16_256_256 (rkB2 E) (rqm4_0 E))

/-- What the exponentials scratch was left after query tile 4, heads from 0. -/
def hE4_0 : List (View.Piece (Elt F) S4x32x8x256 .f32) :=
  ⟨Rect.unit (s := S4x32x8x256) ![2, 0, 0, 0] S1x16x8x256.size inb_S4x32x8x256_S1x16x8x256_2_0_0_0, exP16_256 (s4_0_2 E) (mx16_256_2 (s4_0_0 E) (s4_0_1 E) (s4_0_2 E))⟩ ::
  ⟨Rect.unit (s := S4x32x8x256) ![1, 0, 0, 0] S1x32x8x256.size inb_S4x32x8x256_S1x32x8x256_1_0_0_0, exP32_256 (s4_0_1 E) (mx32_256_1 (s4_0_0 E) (s4_0_1 E))⟩ ::
  ⟨Rect.unit (s := S4x32x8x256) ![0, 0, 0, 0] S1x32x8x256.size inb_S4x32x8x256_S1x32x8x256_0_0_0_0, exP32_256 (s4_0_0 E) (mx32_256_0 (s4_0_0 E))⟩ ::
  hE3_4 E

/-- The exponentials of tile 0 read back at query tile 4, heads from 0. -/
def re4_0_0 : Vec F S1x32x8x256 .f32 := (E.arg16.view.readCov (hE4_0 E) (Rect.unit (s := S4x32x8x256) ![0, 0, 0, 0] S1x32x8x256.size inb_S4x32x8x256_S1x32x8x256_0_0_0_0).toLoadRect)

/-- The exponentials of tile 1 read back at query tile 4, heads from 0. -/
def re4_0_1 : Vec F S1x32x8x256 .f32 := (E.arg16.view.readCov (hE4_0 E) (Rect.unit (s := S4x32x8x256) ![1, 0, 0, 0] S1x32x8x256.size inb_S4x32x8x256_S1x32x8x256_1_0_0_0).toLoadRect)

/-- The exponentials of tile 2 read back at query tile 4, heads from 0. -/
def re4_0_2 : Vec F S1x16x8x256 .f32 := (E.arg16.view.readCov (hE4_0 E) (Rect.unit (s := S4x32x8x256) ![2, 0, 0, 0] S1x16x8x256.size inb_S4x32x8x256_S1x16x8x256_2_0_0_0).toLoadRect)

/-- The output of query tile 4, heads from 0. -/
def o4_0 : FVec F S128x256 .f32 := out16_256_2 (s4_0_0 E) (s4_0_1 E) (s4_0_2 E) (re4_0_0 E) (re4_0_1 E) (re4_0_2 E) (rvA0 E) (rvA1 E) (rvB2 E)

/-- What is stored for query tile 4 of head 0. -/
def op4_0 : FVec F S1x128x128 .bf16 := shapeCast S1x128x128 (transpose S128x128 [1, 0] (truncf .bf16 (extractStridedSlice S128x128 ![0, 0] (o4_0 E) slices_S128x256_o0_0_S128x128) bitsLt_bf16_f32) transposes_S128x128_p1_0_S128x128) shapeCasts_S128x128_S1x128x128

/-- What is stored for query tile 4 of head 1. -/
def op4_1 : FVec F S1x128x128 .bf16 := shapeCast S1x128x128 (transpose S128x128 [1, 0] (truncf .bf16 (extractStridedSlice S128x128 ![0, 128] (o4_0 E) slices_S128x256_o0_128_S128x128) bitsLt_bf16_f32) transposes_S128x128_p1_0_S128x128) shapeCasts_S128x128_S1x128x128

/-- Query tile 4 of the heads from 2. -/
def rq4_2 : FVec F S128x256 .bf16 := shapeCast S128x256 (E.arg11.view.readCov (hQ E) (Rect.unit (s := S8x256x640) ![4, 0, 256] S1x128x256.size inb_S8x256x640_S1x128x256_4_0_256).toLoadRect) shapeCasts_S1x128x256_S128x256

/-- Query tile 4 of the heads from 2, with the identity below. -/
def rqm4_2 : FVec F S256x256 .bf16 := shapeCast S256x256 (E.arg11.view.readCov (hQ E) (Rect.unit (s := S8x256x640) ![4, 0, 256] S1x256x256.size inb_S8x256x640_S1x256x256_4_0_256).toLoadRect) shapeCasts_S1x256x256_S256x256

/-- Scores of key tile 0 at query tile 4, heads from 2. -/
def s4_2_0 : FVec F S32x8x256 .f32 := (sc32_256_128 (rkA0 E) (rq4_2 E))

/-- Scores of key tile 1 at query tile 4, heads from 2. -/
def s4_2_1 : FVec F S32x8x256 .f32 := (sc32_256_128 (rkA1 E) (rq4_2 E))

/-- Scores of key tile 2 at query tile 4, heads from 2. -/
def s4_2_2 : FVec F S16x8x256 .f32 := (sc16_256_256 (rkB2 E) (rqm4_2 E))

/-- What the exponentials scratch was left after query tile 4, heads from 2. -/
def hE4_2 : List (View.Piece (Elt F) S4x32x8x256 .f32) :=
  ⟨Rect.unit (s := S4x32x8x256) ![2, 0, 0, 0] S1x16x8x256.size inb_S4x32x8x256_S1x16x8x256_2_0_0_0, exP16_256 (s4_2_2 E) (mx16_256_2 (s4_2_0 E) (s4_2_1 E) (s4_2_2 E))⟩ ::
  ⟨Rect.unit (s := S4x32x8x256) ![1, 0, 0, 0] S1x32x8x256.size inb_S4x32x8x256_S1x32x8x256_1_0_0_0, exP32_256 (s4_2_1 E) (mx32_256_1 (s4_2_0 E) (s4_2_1 E))⟩ ::
  ⟨Rect.unit (s := S4x32x8x256) ![0, 0, 0, 0] S1x32x8x256.size inb_S4x32x8x256_S1x32x8x256_0_0_0_0, exP32_256 (s4_2_0 E) (mx32_256_0 (s4_2_0 E))⟩ ::
  hE4_0 E

/-- The exponentials of tile 0 read back at query tile 4, heads from 2. -/
def re4_2_0 : Vec F S1x32x8x256 .f32 := (E.arg16.view.readCov (hE4_2 E) (Rect.unit (s := S4x32x8x256) ![0, 0, 0, 0] S1x32x8x256.size inb_S4x32x8x256_S1x32x8x256_0_0_0_0).toLoadRect)

/-- The exponentials of tile 1 read back at query tile 4, heads from 2. -/
def re4_2_1 : Vec F S1x32x8x256 .f32 := (E.arg16.view.readCov (hE4_2 E) (Rect.unit (s := S4x32x8x256) ![1, 0, 0, 0] S1x32x8x256.size inb_S4x32x8x256_S1x32x8x256_1_0_0_0).toLoadRect)

/-- The exponentials of tile 2 read back at query tile 4, heads from 2. -/
def re4_2_2 : Vec F S1x16x8x256 .f32 := (E.arg16.view.readCov (hE4_2 E) (Rect.unit (s := S4x32x8x256) ![2, 0, 0, 0] S1x16x8x256.size inb_S4x32x8x256_S1x16x8x256_2_0_0_0).toLoadRect)

/-- The output of query tile 4, heads from 2. -/
def o4_2 : FVec F S128x256 .f32 := out16_256_2 (s4_2_0 E) (s4_2_1 E) (s4_2_2 E) (re4_2_0 E) (re4_2_1 E) (re4_2_2 E) (rvA0 E) (rvA1 E) (rvB2 E)

/-- What is stored for query tile 4 of head 2. -/
def op4_2 : FVec F S1x128x128 .bf16 := shapeCast S1x128x128 (transpose S128x128 [1, 0] (truncf .bf16 (extractStridedSlice S128x128 ![0, 0] (o4_2 E) slices_S128x256_o0_0_S128x128) bitsLt_bf16_f32) transposes_S128x128_p1_0_S128x128) shapeCasts_S128x128_S1x128x128

/-- What is stored for query tile 4 of head 3. -/
def op4_3 : FVec F S1x128x128 .bf16 := shapeCast S1x128x128 (transpose S128x128 [1, 0] (truncf .bf16 (extractStridedSlice S128x128 ![0, 128] (o4_2 E) slices_S128x256_o0_128_S128x128) bitsLt_bf16_f32) transposes_S128x128_p1_0_S128x128) shapeCasts_S128x128_S1x128x128

/-- Query tile 4 of the heads from 4. -/
def rq4_4 : FVec F S128x128 .bf16 := shapeCast S128x128 (E.arg11.view.readCov (hQ E) (Rect.unit (s := S8x256x640) ![4, 0, 512] S1x128x128.size inb_S8x256x640_S1x128x128_4_0_512).toLoadRect) shapeCasts_S1x128x128_S128x128

/-- Query tile 4 of the heads from 4, with the identity below. -/
def rqm4_4 : FVec F S256x128 .bf16 := shapeCast S256x128 (E.arg11.view.readCov (hQ E) (Rect.unit (s := S8x256x640) ![4, 0, 512] S1x256x128.size inb_S8x256x640_S1x256x128_4_0_512).toLoadRect) shapeCasts_S1x256x128_S256x128

/-- Scores of key tile 0 at query tile 4, heads from 4. -/
def s4_4_0 : FVec F S32x8x128 .f32 := (sc32_128_128 (rkA0 E) (rq4_4 E))

/-- Scores of key tile 1 at query tile 4, heads from 4. -/
def s4_4_1 : FVec F S32x8x128 .f32 := (sc32_128_128 (rkA1 E) (rq4_4 E))

/-- Scores of key tile 2 at query tile 4, heads from 4. -/
def s4_4_2 : FVec F S16x8x128 .f32 := (sc16_128_256 (rkB2 E) (rqm4_4 E))

/-- What the exponentials scratch was left after query tile 4, heads from 4. -/
def hE4_4 : List (View.Piece (Elt F) S4x32x8x256 .f32) :=
  ⟨Rect.unit (s := S4x32x8x256) ![2, 0, 0, 0] S1x16x8x128.size inb_S4x32x8x256_S1x16x8x128_2_0_0_0, exP16_128 (s4_4_2 E) (mx16_128_2 (s4_4_0 E) (s4_4_1 E) (s4_4_2 E))⟩ ::
  ⟨Rect.unit (s := S4x32x8x256) ![1, 0, 0, 0] S1x32x8x128.size inb_S4x32x8x256_S1x32x8x128_1_0_0_0, exP32_128 (s4_4_1 E) (mx32_128_1 (s4_4_0 E) (s4_4_1 E))⟩ ::
  ⟨Rect.unit (s := S4x32x8x256) ![0, 0, 0, 0] S1x32x8x128.size inb_S4x32x8x256_S1x32x8x128_0_0_0_0, exP32_128 (s4_4_0 E) (mx32_128_0 (s4_4_0 E))⟩ ::
  hE4_2 E

/-- The exponentials of tile 0 read back at query tile 4, heads from 4. -/
def re4_4_0 : Vec F S1x32x8x128 .f32 := (E.arg16.view.readCov (hE4_4 E) (Rect.unit (s := S4x32x8x256) ![0, 0, 0, 0] S1x32x8x128.size inb_S4x32x8x256_S1x32x8x128_0_0_0_0).toLoadRect)

/-- The exponentials of tile 1 read back at query tile 4, heads from 4. -/
def re4_4_1 : Vec F S1x32x8x128 .f32 := (E.arg16.view.readCov (hE4_4 E) (Rect.unit (s := S4x32x8x256) ![1, 0, 0, 0] S1x32x8x128.size inb_S4x32x8x256_S1x32x8x128_1_0_0_0).toLoadRect)

/-- The exponentials of tile 2 read back at query tile 4, heads from 4. -/
def re4_4_2 : Vec F S1x16x8x128 .f32 := (E.arg16.view.readCov (hE4_4 E) (Rect.unit (s := S4x32x8x256) ![2, 0, 0, 0] S1x16x8x128.size inb_S4x32x8x256_S1x16x8x128_2_0_0_0).toLoadRect)

/-- The output of query tile 4, heads from 4. -/
def o4_4 : FVec F S128x128 .f32 := out16_128_2 (s4_4_0 E) (s4_4_1 E) (s4_4_2 E) (re4_4_0 E) (re4_4_1 E) (re4_4_2 E) (rvA0 E) (rvA1 E) (rvB2 E)

/-- What is stored for query tile 4 of head 4. -/
def op4_4 : FVec F S1x128x128 .bf16 := shapeCast S1x128x128 (transpose S128x128 [1, 0] (truncf .bf16 (o4_4 E) bitsLt_bf16_f32) transposes_S128x128_p1_0_S128x128) shapeCasts_S128x128_S1x128x128

/-- Query tile 5 of the heads from 0. -/
def rq5_0 : FVec F S128x256 .bf16 := shapeCast S128x256 (E.arg11.view.readCov (hQ E) (Rect.unit (s := S8x256x640) ![5, 0, 0] S1x128x256.size inb_S8x256x640_S1x128x256_5_0_0).toLoadRect) shapeCasts_S1x128x256_S128x256

/-- Query tile 5 of the heads from 0, with the identity below. -/
def rqm5_0 : FVec F S256x256 .bf16 := shapeCast S256x256 (E.arg11.view.readCov (hQ E) (Rect.unit (s := S8x256x640) ![5, 0, 0] S1x256x256.size inb_S8x256x640_S1x256x256_5_0_0).toLoadRect) shapeCasts_S1x256x256_S256x256

/-- Scores of key tile 0 at query tile 5, heads from 0. -/
def s5_0_0 : FVec F S32x8x256 .f32 := (sc32_256_128 (rkA0 E) (rq5_0 E))

/-- Scores of key tile 1 at query tile 5, heads from 0. -/
def s5_0_1 : FVec F S32x8x256 .f32 := (sc32_256_128 (rkA1 E) (rq5_0 E))

/-- Scores of key tile 2 at query tile 5, heads from 0. -/
def s5_0_2 : FVec F S32x8x256 .f32 := (sc32_256_256 (rkM2 E) (rqm5_0 E))

/-- What the exponentials scratch was left after query tile 5, heads from 0. -/
def hE5_0 : List (View.Piece (Elt F) S4x32x8x256 .f32) :=
  ⟨Rect.unit (s := S4x32x8x256) ![2, 0, 0, 0] S1x32x8x256.size inb_S4x32x8x256_S1x32x8x256_2_0_0_0, exP32_256 (s5_0_2 E) (mx32_256_2 (s5_0_0 E) (s5_0_1 E) (s5_0_2 E))⟩ ::
  ⟨Rect.unit (s := S4x32x8x256) ![1, 0, 0, 0] S1x32x8x256.size inb_S4x32x8x256_S1x32x8x256_1_0_0_0, exP32_256 (s5_0_1 E) (mx32_256_1 (s5_0_0 E) (s5_0_1 E))⟩ ::
  ⟨Rect.unit (s := S4x32x8x256) ![0, 0, 0, 0] S1x32x8x256.size inb_S4x32x8x256_S1x32x8x256_0_0_0_0, exP32_256 (s5_0_0 E) (mx32_256_0 (s5_0_0 E))⟩ ::
  hE4_4 E

/-- The exponentials of tile 0 read back at query tile 5, heads from 0. -/
def re5_0_0 : Vec F S1x32x8x256 .f32 := (E.arg16.view.readCov (hE5_0 E) (Rect.unit (s := S4x32x8x256) ![0, 0, 0, 0] S1x32x8x256.size inb_S4x32x8x256_S1x32x8x256_0_0_0_0).toLoadRect)

/-- The exponentials of tile 1 read back at query tile 5, heads from 0. -/
def re5_0_1 : Vec F S1x32x8x256 .f32 := (E.arg16.view.readCov (hE5_0 E) (Rect.unit (s := S4x32x8x256) ![1, 0, 0, 0] S1x32x8x256.size inb_S4x32x8x256_S1x32x8x256_1_0_0_0).toLoadRect)

/-- The exponentials of tile 2 read back at query tile 5, heads from 0. -/
def re5_0_2 : Vec F S1x32x8x256 .f32 := (E.arg16.view.readCov (hE5_0 E) (Rect.unit (s := S4x32x8x256) ![2, 0, 0, 0] S1x32x8x256.size inb_S4x32x8x256_S1x32x8x256_2_0_0_0).toLoadRect)

/-- The output of query tile 5, heads from 0. -/
def o5_0 : FVec F S128x256 .f32 := out32_256_2 (s5_0_0 E) (s5_0_1 E) (s5_0_2 E) (re5_0_0 E) (re5_0_1 E) (re5_0_2 E) (rvA0 E) (rvA1 E) (rvA2 E)

/-- What is stored for query tile 5 of head 0. -/
def op5_0 : FVec F S1x128x128 .bf16 := shapeCast S1x128x128 (transpose S128x128 [1, 0] (truncf .bf16 (extractStridedSlice S128x128 ![0, 0] (o5_0 E) slices_S128x256_o0_0_S128x128) bitsLt_bf16_f32) transposes_S128x128_p1_0_S128x128) shapeCasts_S128x128_S1x128x128

/-- What is stored for query tile 5 of head 1. -/
def op5_1 : FVec F S1x128x128 .bf16 := shapeCast S1x128x128 (transpose S128x128 [1, 0] (truncf .bf16 (extractStridedSlice S128x128 ![0, 128] (o5_0 E) slices_S128x256_o0_128_S128x128) bitsLt_bf16_f32) transposes_S128x128_p1_0_S128x128) shapeCasts_S128x128_S1x128x128

/-- Query tile 5 of the heads from 2. -/
def rq5_2 : FVec F S128x256 .bf16 := shapeCast S128x256 (E.arg11.view.readCov (hQ E) (Rect.unit (s := S8x256x640) ![5, 0, 256] S1x128x256.size inb_S8x256x640_S1x128x256_5_0_256).toLoadRect) shapeCasts_S1x128x256_S128x256

/-- Query tile 5 of the heads from 2, with the identity below. -/
def rqm5_2 : FVec F S256x256 .bf16 := shapeCast S256x256 (E.arg11.view.readCov (hQ E) (Rect.unit (s := S8x256x640) ![5, 0, 256] S1x256x256.size inb_S8x256x640_S1x256x256_5_0_256).toLoadRect) shapeCasts_S1x256x256_S256x256

/-- Scores of key tile 0 at query tile 5, heads from 2. -/
def s5_2_0 : FVec F S32x8x256 .f32 := (sc32_256_128 (rkA0 E) (rq5_2 E))

/-- Scores of key tile 1 at query tile 5, heads from 2. -/
def s5_2_1 : FVec F S32x8x256 .f32 := (sc32_256_128 (rkA1 E) (rq5_2 E))

/-- Scores of key tile 2 at query tile 5, heads from 2. -/
def s5_2_2 : FVec F S32x8x256 .f32 := (sc32_256_256 (rkM2 E) (rqm5_2 E))

/-- What the exponentials scratch was left after query tile 5, heads from 2. -/
def hE5_2 : List (View.Piece (Elt F) S4x32x8x256 .f32) :=
  ⟨Rect.unit (s := S4x32x8x256) ![2, 0, 0, 0] S1x32x8x256.size inb_S4x32x8x256_S1x32x8x256_2_0_0_0, exP32_256 (s5_2_2 E) (mx32_256_2 (s5_2_0 E) (s5_2_1 E) (s5_2_2 E))⟩ ::
  ⟨Rect.unit (s := S4x32x8x256) ![1, 0, 0, 0] S1x32x8x256.size inb_S4x32x8x256_S1x32x8x256_1_0_0_0, exP32_256 (s5_2_1 E) (mx32_256_1 (s5_2_0 E) (s5_2_1 E))⟩ ::
  ⟨Rect.unit (s := S4x32x8x256) ![0, 0, 0, 0] S1x32x8x256.size inb_S4x32x8x256_S1x32x8x256_0_0_0_0, exP32_256 (s5_2_0 E) (mx32_256_0 (s5_2_0 E))⟩ ::
  hE5_0 E

/-- The exponentials of tile 0 read back at query tile 5, heads from 2. -/
def re5_2_0 : Vec F S1x32x8x256 .f32 := (E.arg16.view.readCov (hE5_2 E) (Rect.unit (s := S4x32x8x256) ![0, 0, 0, 0] S1x32x8x256.size inb_S4x32x8x256_S1x32x8x256_0_0_0_0).toLoadRect)

/-- The exponentials of tile 1 read back at query tile 5, heads from 2. -/
def re5_2_1 : Vec F S1x32x8x256 .f32 := (E.arg16.view.readCov (hE5_2 E) (Rect.unit (s := S4x32x8x256) ![1, 0, 0, 0] S1x32x8x256.size inb_S4x32x8x256_S1x32x8x256_1_0_0_0).toLoadRect)

/-- The exponentials of tile 2 read back at query tile 5, heads from 2. -/
def re5_2_2 : Vec F S1x32x8x256 .f32 := (E.arg16.view.readCov (hE5_2 E) (Rect.unit (s := S4x32x8x256) ![2, 0, 0, 0] S1x32x8x256.size inb_S4x32x8x256_S1x32x8x256_2_0_0_0).toLoadRect)

/-- The output of query tile 5, heads from 2. -/
def o5_2 : FVec F S128x256 .f32 := out32_256_2 (s5_2_0 E) (s5_2_1 E) (s5_2_2 E) (re5_2_0 E) (re5_2_1 E) (re5_2_2 E) (rvA0 E) (rvA1 E) (rvA2 E)

/-- What is stored for query tile 5 of head 2. -/
def op5_2 : FVec F S1x128x128 .bf16 := shapeCast S1x128x128 (transpose S128x128 [1, 0] (truncf .bf16 (extractStridedSlice S128x128 ![0, 0] (o5_2 E) slices_S128x256_o0_0_S128x128) bitsLt_bf16_f32) transposes_S128x128_p1_0_S128x128) shapeCasts_S128x128_S1x128x128

/-- What is stored for query tile 5 of head 3. -/
def op5_3 : FVec F S1x128x128 .bf16 := shapeCast S1x128x128 (transpose S128x128 [1, 0] (truncf .bf16 (extractStridedSlice S128x128 ![0, 128] (o5_2 E) slices_S128x256_o0_128_S128x128) bitsLt_bf16_f32) transposes_S128x128_p1_0_S128x128) shapeCasts_S128x128_S1x128x128

/-- Query tile 5 of the heads from 4. -/
def rq5_4 : FVec F S128x128 .bf16 := shapeCast S128x128 (E.arg11.view.readCov (hQ E) (Rect.unit (s := S8x256x640) ![5, 0, 512] S1x128x128.size inb_S8x256x640_S1x128x128_5_0_512).toLoadRect) shapeCasts_S1x128x128_S128x128

/-- Query tile 5 of the heads from 4, with the identity below. -/
def rqm5_4 : FVec F S256x128 .bf16 := shapeCast S256x128 (E.arg11.view.readCov (hQ E) (Rect.unit (s := S8x256x640) ![5, 0, 512] S1x256x128.size inb_S8x256x640_S1x256x128_5_0_512).toLoadRect) shapeCasts_S1x256x128_S256x128

/-- Scores of key tile 0 at query tile 5, heads from 4. -/
def s5_4_0 : FVec F S32x8x128 .f32 := (sc32_128_128 (rkA0 E) (rq5_4 E))

/-- Scores of key tile 1 at query tile 5, heads from 4. -/
def s5_4_1 : FVec F S32x8x128 .f32 := (sc32_128_128 (rkA1 E) (rq5_4 E))

/-- Scores of key tile 2 at query tile 5, heads from 4. -/
def s5_4_2 : FVec F S32x8x128 .f32 := (sc32_128_256 (rkM2 E) (rqm5_4 E))

/-- What the exponentials scratch was left after query tile 5, heads from 4. -/
def hE5_4 : List (View.Piece (Elt F) S4x32x8x256 .f32) :=
  ⟨Rect.unit (s := S4x32x8x256) ![2, 0, 0, 0] S1x32x8x128.size inb_S4x32x8x256_S1x32x8x128_2_0_0_0, exP32_128 (s5_4_2 E) (mx32_128_2 (s5_4_0 E) (s5_4_1 E) (s5_4_2 E))⟩ ::
  ⟨Rect.unit (s := S4x32x8x256) ![1, 0, 0, 0] S1x32x8x128.size inb_S4x32x8x256_S1x32x8x128_1_0_0_0, exP32_128 (s5_4_1 E) (mx32_128_1 (s5_4_0 E) (s5_4_1 E))⟩ ::
  ⟨Rect.unit (s := S4x32x8x256) ![0, 0, 0, 0] S1x32x8x128.size inb_S4x32x8x256_S1x32x8x128_0_0_0_0, exP32_128 (s5_4_0 E) (mx32_128_0 (s5_4_0 E))⟩ ::
  hE5_2 E

/-- The exponentials of tile 0 read back at query tile 5, heads from 4. -/
def re5_4_0 : Vec F S1x32x8x128 .f32 := (E.arg16.view.readCov (hE5_4 E) (Rect.unit (s := S4x32x8x256) ![0, 0, 0, 0] S1x32x8x128.size inb_S4x32x8x256_S1x32x8x128_0_0_0_0).toLoadRect)

/-- The exponentials of tile 1 read back at query tile 5, heads from 4. -/
def re5_4_1 : Vec F S1x32x8x128 .f32 := (E.arg16.view.readCov (hE5_4 E) (Rect.unit (s := S4x32x8x256) ![1, 0, 0, 0] S1x32x8x128.size inb_S4x32x8x256_S1x32x8x128_1_0_0_0).toLoadRect)

/-- The exponentials of tile 2 read back at query tile 5, heads from 4. -/
def re5_4_2 : Vec F S1x32x8x128 .f32 := (E.arg16.view.readCov (hE5_4 E) (Rect.unit (s := S4x32x8x256) ![2, 0, 0, 0] S1x32x8x128.size inb_S4x32x8x256_S1x32x8x128_2_0_0_0).toLoadRect)

/-- The output of query tile 5, heads from 4. -/
def o5_4 : FVec F S128x128 .f32 := out32_128_2 (s5_4_0 E) (s5_4_1 E) (s5_4_2 E) (re5_4_0 E) (re5_4_1 E) (re5_4_2 E) (rvA0 E) (rvA1 E) (rvA2 E)

/-- What is stored for query tile 5 of head 4. -/
def op5_4 : FVec F S1x128x128 .bf16 := shapeCast S1x128x128 (transpose S128x128 [1, 0] (truncf .bf16 (o5_4 E) bitsLt_bf16_f32) transposes_S128x128_p1_0_S128x128) shapeCasts_S128x128_S1x128x128

/-- Query tile 6 of the heads from 0. -/
def rq6_0 : FVec F S128x256 .bf16 := shapeCast S128x256 (E.arg11.view.readCov (hQ E) (Rect.unit (s := S8x256x640) ![6, 0, 0] S1x128x256.size inb_S8x256x640_S1x128x256_6_0_0).toLoadRect) shapeCasts_S1x128x256_S128x256

/-- Query tile 6 of the heads from 0, with the identity below. -/
def rqm6_0 : FVec F S256x256 .bf16 := shapeCast S256x256 (E.arg11.view.readCov (hQ E) (Rect.unit (s := S8x256x640) ![6, 0, 0] S1x256x256.size inb_S8x256x640_S1x256x256_6_0_0).toLoadRect) shapeCasts_S1x256x256_S256x256

/-- Scores of key tile 0 at query tile 6, heads from 0. -/
def s6_0_0 : FVec F S32x8x256 .f32 := (sc32_256_128 (rkA0 E) (rq6_0 E))

/-- Scores of key tile 1 at query tile 6, heads from 0. -/
def s6_0_1 : FVec F S32x8x256 .f32 := (sc32_256_128 (rkA1 E) (rq6_0 E))

/-- Scores of key tile 2 at query tile 6, heads from 0. -/
def s6_0_2 : FVec F S32x8x256 .f32 := (sc32_256_128 (rkA2 E) (rq6_0 E))

/-- Scores of key tile 3 at query tile 6, heads from 0. -/
def s6_0_3 : FVec F S16x8x256 .f32 := (sc16_256_256 (rkB3 E) (rqm6_0 E))

/-- What the exponentials scratch was left after query tile 6, heads from 0. -/
def hE6_0 : List (View.Piece (Elt F) S4x32x8x256 .f32) :=
  ⟨Rect.unit (s := S4x32x8x256) ![3, 0, 0, 0] S1x16x8x256.size inb_S4x32x8x256_S1x16x8x256_3_0_0_0, exP16_256 (s6_0_3 E) (mx16_256_3 (s6_0_0 E) (s6_0_1 E) (s6_0_2 E) (s6_0_3 E))⟩ ::
  ⟨Rect.unit (s := S4x32x8x256) ![2, 0, 0, 0] S1x32x8x256.size inb_S4x32x8x256_S1x32x8x256_2_0_0_0, exP32_256 (s6_0_2 E) (mx32_256_2 (s6_0_0 E) (s6_0_1 E) (s6_0_2 E))⟩ ::
  ⟨Rect.unit (s := S4x32x8x256) ![1, 0, 0, 0] S1x32x8x256.size inb_S4x32x8x256_S1x32x8x256_1_0_0_0, exP32_256 (s6_0_1 E) (mx32_256_1 (s6_0_0 E) (s6_0_1 E))⟩ ::
  ⟨Rect.unit (s := S4x32x8x256) ![0, 0, 0, 0] S1x32x8x256.size inb_S4x32x8x256_S1x32x8x256_0_0_0_0, exP32_256 (s6_0_0 E) (mx32_256_0 (s6_0_0 E))⟩ ::
  hE5_4 E

/-- The exponentials of tile 0 read back at query tile 6, heads from 0. -/
def re6_0_0 : Vec F S1x32x8x256 .f32 := (E.arg16.view.readCov (hE6_0 E) (Rect.unit (s := S4x32x8x256) ![0, 0, 0, 0] S1x32x8x256.size inb_S4x32x8x256_S1x32x8x256_0_0_0_0).toLoadRect)

/-- The exponentials of tile 1 read back at query tile 6, heads from 0. -/
def re6_0_1 : Vec F S1x32x8x256 .f32 := (E.arg16.view.readCov (hE6_0 E) (Rect.unit (s := S4x32x8x256) ![1, 0, 0, 0] S1x32x8x256.size inb_S4x32x8x256_S1x32x8x256_1_0_0_0).toLoadRect)

/-- The exponentials of tile 2 read back at query tile 6, heads from 0. -/
def re6_0_2 : Vec F S1x32x8x256 .f32 := (E.arg16.view.readCov (hE6_0 E) (Rect.unit (s := S4x32x8x256) ![2, 0, 0, 0] S1x32x8x256.size inb_S4x32x8x256_S1x32x8x256_2_0_0_0).toLoadRect)

/-- The exponentials of tile 3 read back at query tile 6, heads from 0. -/
def re6_0_3 : Vec F S1x16x8x256 .f32 := (E.arg16.view.readCov (hE6_0 E) (Rect.unit (s := S4x32x8x256) ![3, 0, 0, 0] S1x16x8x256.size inb_S4x32x8x256_S1x16x8x256_3_0_0_0).toLoadRect)

/-- The output of query tile 6, heads from 0. -/
def o6_0 : FVec F S128x256 .f32 := out16_256_3 (s6_0_0 E) (s6_0_1 E) (s6_0_2 E) (s6_0_3 E) (re6_0_0 E) (re6_0_1 E) (re6_0_2 E) (re6_0_3 E) (rvA0 E) (rvA1 E) (rvA2 E) (rvB3 E)

/-- What is stored for query tile 6 of head 0. -/
def op6_0 : FVec F S1x128x128 .bf16 := shapeCast S1x128x128 (transpose S128x128 [1, 0] (truncf .bf16 (extractStridedSlice S128x128 ![0, 0] (o6_0 E) slices_S128x256_o0_0_S128x128) bitsLt_bf16_f32) transposes_S128x128_p1_0_S128x128) shapeCasts_S128x128_S1x128x128

/-- What is stored for query tile 6 of head 1. -/
def op6_1 : FVec F S1x128x128 .bf16 := shapeCast S1x128x128 (transpose S128x128 [1, 0] (truncf .bf16 (extractStridedSlice S128x128 ![0, 128] (o6_0 E) slices_S128x256_o0_128_S128x128) bitsLt_bf16_f32) transposes_S128x128_p1_0_S128x128) shapeCasts_S128x128_S1x128x128

/-- Query tile 6 of the heads from 2. -/
def rq6_2 : FVec F S128x256 .bf16 := shapeCast S128x256 (E.arg11.view.readCov (hQ E) (Rect.unit (s := S8x256x640) ![6, 0, 256] S1x128x256.size inb_S8x256x640_S1x128x256_6_0_256).toLoadRect) shapeCasts_S1x128x256_S128x256

/-- Query tile 6 of the heads from 2, with the identity below. -/
def rqm6_2 : FVec F S256x256 .bf16 := shapeCast S256x256 (E.arg11.view.readCov (hQ E) (Rect.unit (s := S8x256x640) ![6, 0, 256] S1x256x256.size inb_S8x256x640_S1x256x256_6_0_256).toLoadRect) shapeCasts_S1x256x256_S256x256

/-- Scores of key tile 0 at query tile 6, heads from 2. -/
def s6_2_0 : FVec F S32x8x256 .f32 := (sc32_256_128 (rkA0 E) (rq6_2 E))

/-- Scores of key tile 1 at query tile 6, heads from 2. -/
def s6_2_1 : FVec F S32x8x256 .f32 := (sc32_256_128 (rkA1 E) (rq6_2 E))

/-- Scores of key tile 2 at query tile 6, heads from 2. -/
def s6_2_2 : FVec F S32x8x256 .f32 := (sc32_256_128 (rkA2 E) (rq6_2 E))

/-- Scores of key tile 3 at query tile 6, heads from 2. -/
def s6_2_3 : FVec F S16x8x256 .f32 := (sc16_256_256 (rkB3 E) (rqm6_2 E))

/-- What the exponentials scratch was left after query tile 6, heads from 2. -/
def hE6_2 : List (View.Piece (Elt F) S4x32x8x256 .f32) :=
  ⟨Rect.unit (s := S4x32x8x256) ![3, 0, 0, 0] S1x16x8x256.size inb_S4x32x8x256_S1x16x8x256_3_0_0_0, exP16_256 (s6_2_3 E) (mx16_256_3 (s6_2_0 E) (s6_2_1 E) (s6_2_2 E) (s6_2_3 E))⟩ ::
  ⟨Rect.unit (s := S4x32x8x256) ![2, 0, 0, 0] S1x32x8x256.size inb_S4x32x8x256_S1x32x8x256_2_0_0_0, exP32_256 (s6_2_2 E) (mx32_256_2 (s6_2_0 E) (s6_2_1 E) (s6_2_2 E))⟩ ::
  ⟨Rect.unit (s := S4x32x8x256) ![1, 0, 0, 0] S1x32x8x256.size inb_S4x32x8x256_S1x32x8x256_1_0_0_0, exP32_256 (s6_2_1 E) (mx32_256_1 (s6_2_0 E) (s6_2_1 E))⟩ ::
  ⟨Rect.unit (s := S4x32x8x256) ![0, 0, 0, 0] S1x32x8x256.size inb_S4x32x8x256_S1x32x8x256_0_0_0_0, exP32_256 (s6_2_0 E) (mx32_256_0 (s6_2_0 E))⟩ ::
  hE6_0 E

/-- The exponentials of tile 0 read back at query tile 6, heads from 2. -/
def re6_2_0 : Vec F S1x32x8x256 .f32 := (E.arg16.view.readCov (hE6_2 E) (Rect.unit (s := S4x32x8x256) ![0, 0, 0, 0] S1x32x8x256.size inb_S4x32x8x256_S1x32x8x256_0_0_0_0).toLoadRect)

/-- The exponentials of tile 1 read back at query tile 6, heads from 2. -/
def re6_2_1 : Vec F S1x32x8x256 .f32 := (E.arg16.view.readCov (hE6_2 E) (Rect.unit (s := S4x32x8x256) ![1, 0, 0, 0] S1x32x8x256.size inb_S4x32x8x256_S1x32x8x256_1_0_0_0).toLoadRect)

/-- The exponentials of tile 2 read back at query tile 6, heads from 2. -/
def re6_2_2 : Vec F S1x32x8x256 .f32 := (E.arg16.view.readCov (hE6_2 E) (Rect.unit (s := S4x32x8x256) ![2, 0, 0, 0] S1x32x8x256.size inb_S4x32x8x256_S1x32x8x256_2_0_0_0).toLoadRect)

/-- The exponentials of tile 3 read back at query tile 6, heads from 2. -/
def re6_2_3 : Vec F S1x16x8x256 .f32 := (E.arg16.view.readCov (hE6_2 E) (Rect.unit (s := S4x32x8x256) ![3, 0, 0, 0] S1x16x8x256.size inb_S4x32x8x256_S1x16x8x256_3_0_0_0).toLoadRect)

/-- The output of query tile 6, heads from 2. -/
def o6_2 : FVec F S128x256 .f32 := out16_256_3 (s6_2_0 E) (s6_2_1 E) (s6_2_2 E) (s6_2_3 E) (re6_2_0 E) (re6_2_1 E) (re6_2_2 E) (re6_2_3 E) (rvA0 E) (rvA1 E) (rvA2 E) (rvB3 E)

/-- What is stored for query tile 6 of head 2. -/
def op6_2 : FVec F S1x128x128 .bf16 := shapeCast S1x128x128 (transpose S128x128 [1, 0] (truncf .bf16 (extractStridedSlice S128x128 ![0, 0] (o6_2 E) slices_S128x256_o0_0_S128x128) bitsLt_bf16_f32) transposes_S128x128_p1_0_S128x128) shapeCasts_S128x128_S1x128x128

/-- What is stored for query tile 6 of head 3. -/
def op6_3 : FVec F S1x128x128 .bf16 := shapeCast S1x128x128 (transpose S128x128 [1, 0] (truncf .bf16 (extractStridedSlice S128x128 ![0, 128] (o6_2 E) slices_S128x256_o0_128_S128x128) bitsLt_bf16_f32) transposes_S128x128_p1_0_S128x128) shapeCasts_S128x128_S1x128x128

/-- Query tile 6 of the heads from 4. -/
def rq6_4 : FVec F S128x128 .bf16 := shapeCast S128x128 (E.arg11.view.readCov (hQ E) (Rect.unit (s := S8x256x640) ![6, 0, 512] S1x128x128.size inb_S8x256x640_S1x128x128_6_0_512).toLoadRect) shapeCasts_S1x128x128_S128x128

/-- Query tile 6 of the heads from 4, with the identity below. -/
def rqm6_4 : FVec F S256x128 .bf16 := shapeCast S256x128 (E.arg11.view.readCov (hQ E) (Rect.unit (s := S8x256x640) ![6, 0, 512] S1x256x128.size inb_S8x256x640_S1x256x128_6_0_512).toLoadRect) shapeCasts_S1x256x128_S256x128

/-- Scores of key tile 0 at query tile 6, heads from 4. -/
def s6_4_0 : FVec F S32x8x128 .f32 := (sc32_128_128 (rkA0 E) (rq6_4 E))

/-- Scores of key tile 1 at query tile 6, heads from 4. -/
def s6_4_1 : FVec F S32x8x128 .f32 := (sc32_128_128 (rkA1 E) (rq6_4 E))

/-- Scores of key tile 2 at query tile 6, heads from 4. -/
def s6_4_2 : FVec F S32x8x128 .f32 := (sc32_128_128 (rkA2 E) (rq6_4 E))

/-- Scores of key tile 3 at query tile 6, heads from 4. -/
def s6_4_3 : FVec F S16x8x128 .f32 := (sc16_128_256 (rkB3 E) (rqm6_4 E))

/-- What the exponentials scratch was left after query tile 6, heads from 4. -/
def hE6_4 : List (View.Piece (Elt F) S4x32x8x256 .f32) :=
  ⟨Rect.unit (s := S4x32x8x256) ![3, 0, 0, 0] S1x16x8x128.size inb_S4x32x8x256_S1x16x8x128_3_0_0_0, exP16_128 (s6_4_3 E) (mx16_128_3 (s6_4_0 E) (s6_4_1 E) (s6_4_2 E) (s6_4_3 E))⟩ ::
  ⟨Rect.unit (s := S4x32x8x256) ![2, 0, 0, 0] S1x32x8x128.size inb_S4x32x8x256_S1x32x8x128_2_0_0_0, exP32_128 (s6_4_2 E) (mx32_128_2 (s6_4_0 E) (s6_4_1 E) (s6_4_2 E))⟩ ::
  ⟨Rect.unit (s := S4x32x8x256) ![1, 0, 0, 0] S1x32x8x128.size inb_S4x32x8x256_S1x32x8x128_1_0_0_0, exP32_128 (s6_4_1 E) (mx32_128_1 (s6_4_0 E) (s6_4_1 E))⟩ ::
  ⟨Rect.unit (s := S4x32x8x256) ![0, 0, 0, 0] S1x32x8x128.size inb_S4x32x8x256_S1x32x8x128_0_0_0_0, exP32_128 (s6_4_0 E) (mx32_128_0 (s6_4_0 E))⟩ ::
  hE6_2 E

/-- The exponentials of tile 0 read back at query tile 6, heads from 4. -/
def re6_4_0 : Vec F S1x32x8x128 .f32 := (E.arg16.view.readCov (hE6_4 E) (Rect.unit (s := S4x32x8x256) ![0, 0, 0, 0] S1x32x8x128.size inb_S4x32x8x256_S1x32x8x128_0_0_0_0).toLoadRect)

/-- The exponentials of tile 1 read back at query tile 6, heads from 4. -/
def re6_4_1 : Vec F S1x32x8x128 .f32 := (E.arg16.view.readCov (hE6_4 E) (Rect.unit (s := S4x32x8x256) ![1, 0, 0, 0] S1x32x8x128.size inb_S4x32x8x256_S1x32x8x128_1_0_0_0).toLoadRect)

/-- The exponentials of tile 2 read back at query tile 6, heads from 4. -/
def re6_4_2 : Vec F S1x32x8x128 .f32 := (E.arg16.view.readCov (hE6_4 E) (Rect.unit (s := S4x32x8x256) ![2, 0, 0, 0] S1x32x8x128.size inb_S4x32x8x256_S1x32x8x128_2_0_0_0).toLoadRect)

/-- The exponentials of tile 3 read back at query tile 6, heads from 4. -/
def re6_4_3 : Vec F S1x16x8x128 .f32 := (E.arg16.view.readCov (hE6_4 E) (Rect.unit (s := S4x32x8x256) ![3, 0, 0, 0] S1x16x8x128.size inb_S4x32x8x256_S1x16x8x128_3_0_0_0).toLoadRect)

/-- The output of query tile 6, heads from 4. -/
def o6_4 : FVec F S128x128 .f32 := out16_128_3 (s6_4_0 E) (s6_4_1 E) (s6_4_2 E) (s6_4_3 E) (re6_4_0 E) (re6_4_1 E) (re6_4_2 E) (re6_4_3 E) (rvA0 E) (rvA1 E) (rvA2 E) (rvB3 E)

/-- What is stored for query tile 6 of head 4. -/
def op6_4 : FVec F S1x128x128 .bf16 := shapeCast S1x128x128 (transpose S128x128 [1, 0] (truncf .bf16 (o6_4 E) bitsLt_bf16_f32) transposes_S128x128_p1_0_S128x128) shapeCasts_S128x128_S1x128x128

/-- Query tile 7 of the heads from 0. -/
def rq7_0 : FVec F S128x256 .bf16 := shapeCast S128x256 (E.arg11.view.readCov (hQ E) (Rect.unit (s := S8x256x640) ![7, 0, 0] S1x128x256.size inb_S8x256x640_S1x128x256_7_0_0).toLoadRect) shapeCasts_S1x128x256_S128x256

/-- Query tile 7 of the heads from 0, with the identity below. -/
def rqm7_0 : FVec F S256x256 .bf16 := shapeCast S256x256 (E.arg11.view.readCov (hQ E) (Rect.unit (s := S8x256x640) ![7, 0, 0] S1x256x256.size inb_S8x256x640_S1x256x256_7_0_0).toLoadRect) shapeCasts_S1x256x256_S256x256

/-- Scores of key tile 0 at query tile 7, heads from 0. -/
def s7_0_0 : FVec F S32x8x256 .f32 := (sc32_256_128 (rkA0 E) (rq7_0 E))

/-- Scores of key tile 1 at query tile 7, heads from 0. -/
def s7_0_1 : FVec F S32x8x256 .f32 := (sc32_256_128 (rkA1 E) (rq7_0 E))

/-- Scores of key tile 2 at query tile 7, heads from 0. -/
def s7_0_2 : FVec F S32x8x256 .f32 := (sc32_256_128 (rkA2 E) (rq7_0 E))

/-- Scores of key tile 3 at query tile 7, heads from 0. -/
def s7_0_3 : FVec F S32x8x256 .f32 := (sc32_256_256 (rkM3 E) (rqm7_0 E))

/-- What the exponentials scratch was left after query tile 7, heads from 0. -/
def hE7_0 : List (View.Piece (Elt F) S4x32x8x256 .f32) :=
  ⟨Rect.unit (s := S4x32x8x256) ![3, 0, 0, 0] S1x32x8x256.size inb_S4x32x8x256_S1x32x8x256_3_0_0_0, exP32_256 (s7_0_3 E) (mx32_256_3 (s7_0_0 E) (s7_0_1 E) (s7_0_2 E) (s7_0_3 E))⟩ ::
  ⟨Rect.unit (s := S4x32x8x256) ![2, 0, 0, 0] S1x32x8x256.size inb_S4x32x8x256_S1x32x8x256_2_0_0_0, exP32_256 (s7_0_2 E) (mx32_256_2 (s7_0_0 E) (s7_0_1 E) (s7_0_2 E))⟩ ::
  ⟨Rect.unit (s := S4x32x8x256) ![1, 0, 0, 0] S1x32x8x256.size inb_S4x32x8x256_S1x32x8x256_1_0_0_0, exP32_256 (s7_0_1 E) (mx32_256_1 (s7_0_0 E) (s7_0_1 E))⟩ ::
  ⟨Rect.unit (s := S4x32x8x256) ![0, 0, 0, 0] S1x32x8x256.size inb_S4x32x8x256_S1x32x8x256_0_0_0_0, exP32_256 (s7_0_0 E) (mx32_256_0 (s7_0_0 E))⟩ ::
  hE6_4 E

/-- The exponentials of tile 0 read back at query tile 7, heads from 0. -/
def re7_0_0 : Vec F S1x32x8x256 .f32 := (E.arg16.view.readCov (hE7_0 E) (Rect.unit (s := S4x32x8x256) ![0, 0, 0, 0] S1x32x8x256.size inb_S4x32x8x256_S1x32x8x256_0_0_0_0).toLoadRect)

/-- The exponentials of tile 1 read back at query tile 7, heads from 0. -/
def re7_0_1 : Vec F S1x32x8x256 .f32 := (E.arg16.view.readCov (hE7_0 E) (Rect.unit (s := S4x32x8x256) ![1, 0, 0, 0] S1x32x8x256.size inb_S4x32x8x256_S1x32x8x256_1_0_0_0).toLoadRect)

/-- The exponentials of tile 2 read back at query tile 7, heads from 0. -/
def re7_0_2 : Vec F S1x32x8x256 .f32 := (E.arg16.view.readCov (hE7_0 E) (Rect.unit (s := S4x32x8x256) ![2, 0, 0, 0] S1x32x8x256.size inb_S4x32x8x256_S1x32x8x256_2_0_0_0).toLoadRect)

/-- The exponentials of tile 3 read back at query tile 7, heads from 0. -/
def re7_0_3 : Vec F S1x32x8x256 .f32 := (E.arg16.view.readCov (hE7_0 E) (Rect.unit (s := S4x32x8x256) ![3, 0, 0, 0] S1x32x8x256.size inb_S4x32x8x256_S1x32x8x256_3_0_0_0).toLoadRect)

/-- The output of query tile 7, heads from 0. -/
def o7_0 : FVec F S128x256 .f32 := out32_256_3 (s7_0_0 E) (s7_0_1 E) (s7_0_2 E) (s7_0_3 E) (re7_0_0 E) (re7_0_1 E) (re7_0_2 E) (re7_0_3 E) (rvA0 E) (rvA1 E) (rvA2 E) (rvA3 E)

/-- What is stored for query tile 7 of head 0. -/
def op7_0 : FVec F S1x128x128 .bf16 := shapeCast S1x128x128 (transpose S128x128 [1, 0] (truncf .bf16 (extractStridedSlice S128x128 ![0, 0] (o7_0 E) slices_S128x256_o0_0_S128x128) bitsLt_bf16_f32) transposes_S128x128_p1_0_S128x128) shapeCasts_S128x128_S1x128x128

/-- What is stored for query tile 7 of head 1. -/
def op7_1 : FVec F S1x128x128 .bf16 := shapeCast S1x128x128 (transpose S128x128 [1, 0] (truncf .bf16 (extractStridedSlice S128x128 ![0, 128] (o7_0 E) slices_S128x256_o0_128_S128x128) bitsLt_bf16_f32) transposes_S128x128_p1_0_S128x128) shapeCasts_S128x128_S1x128x128

/-- Query tile 7 of the heads from 2. -/
def rq7_2 : FVec F S128x256 .bf16 := shapeCast S128x256 (E.arg11.view.readCov (hQ E) (Rect.unit (s := S8x256x640) ![7, 0, 256] S1x128x256.size inb_S8x256x640_S1x128x256_7_0_256).toLoadRect) shapeCasts_S1x128x256_S128x256

/-- Query tile 7 of the heads from 2, with the identity below. -/
def rqm7_2 : FVec F S256x256 .bf16 := shapeCast S256x256 (E.arg11.view.readCov (hQ E) (Rect.unit (s := S8x256x640) ![7, 0, 256] S1x256x256.size inb_S8x256x640_S1x256x256_7_0_256).toLoadRect) shapeCasts_S1x256x256_S256x256

/-- Scores of key tile 0 at query tile 7, heads from 2. -/
def s7_2_0 : FVec F S32x8x256 .f32 := (sc32_256_128 (rkA0 E) (rq7_2 E))

/-- Scores of key tile 1 at query tile 7, heads from 2. -/
def s7_2_1 : FVec F S32x8x256 .f32 := (sc32_256_128 (rkA1 E) (rq7_2 E))

/-- Scores of key tile 2 at query tile 7, heads from 2. -/
def s7_2_2 : FVec F S32x8x256 .f32 := (sc32_256_128 (rkA2 E) (rq7_2 E))

/-- Scores of key tile 3 at query tile 7, heads from 2. -/
def s7_2_3 : FVec F S32x8x256 .f32 := (sc32_256_256 (rkM3 E) (rqm7_2 E))

/-- What the exponentials scratch was left after query tile 7, heads from 2. -/
def hE7_2 : List (View.Piece (Elt F) S4x32x8x256 .f32) :=
  ⟨Rect.unit (s := S4x32x8x256) ![3, 0, 0, 0] S1x32x8x256.size inb_S4x32x8x256_S1x32x8x256_3_0_0_0, exP32_256 (s7_2_3 E) (mx32_256_3 (s7_2_0 E) (s7_2_1 E) (s7_2_2 E) (s7_2_3 E))⟩ ::
  ⟨Rect.unit (s := S4x32x8x256) ![2, 0, 0, 0] S1x32x8x256.size inb_S4x32x8x256_S1x32x8x256_2_0_0_0, exP32_256 (s7_2_2 E) (mx32_256_2 (s7_2_0 E) (s7_2_1 E) (s7_2_2 E))⟩ ::
  ⟨Rect.unit (s := S4x32x8x256) ![1, 0, 0, 0] S1x32x8x256.size inb_S4x32x8x256_S1x32x8x256_1_0_0_0, exP32_256 (s7_2_1 E) (mx32_256_1 (s7_2_0 E) (s7_2_1 E))⟩ ::
  ⟨Rect.unit (s := S4x32x8x256) ![0, 0, 0, 0] S1x32x8x256.size inb_S4x32x8x256_S1x32x8x256_0_0_0_0, exP32_256 (s7_2_0 E) (mx32_256_0 (s7_2_0 E))⟩ ::
  hE7_0 E

/-- The exponentials of tile 0 read back at query tile 7, heads from 2. -/
def re7_2_0 : Vec F S1x32x8x256 .f32 := (E.arg16.view.readCov (hE7_2 E) (Rect.unit (s := S4x32x8x256) ![0, 0, 0, 0] S1x32x8x256.size inb_S4x32x8x256_S1x32x8x256_0_0_0_0).toLoadRect)

/-- The exponentials of tile 1 read back at query tile 7, heads from 2. -/
def re7_2_1 : Vec F S1x32x8x256 .f32 := (E.arg16.view.readCov (hE7_2 E) (Rect.unit (s := S4x32x8x256) ![1, 0, 0, 0] S1x32x8x256.size inb_S4x32x8x256_S1x32x8x256_1_0_0_0).toLoadRect)

/-- The exponentials of tile 2 read back at query tile 7, heads from 2. -/
def re7_2_2 : Vec F S1x32x8x256 .f32 := (E.arg16.view.readCov (hE7_2 E) (Rect.unit (s := S4x32x8x256) ![2, 0, 0, 0] S1x32x8x256.size inb_S4x32x8x256_S1x32x8x256_2_0_0_0).toLoadRect)

/-- The exponentials of tile 3 read back at query tile 7, heads from 2. -/
def re7_2_3 : Vec F S1x32x8x256 .f32 := (E.arg16.view.readCov (hE7_2 E) (Rect.unit (s := S4x32x8x256) ![3, 0, 0, 0] S1x32x8x256.size inb_S4x32x8x256_S1x32x8x256_3_0_0_0).toLoadRect)

/-- The output of query tile 7, heads from 2. -/
def o7_2 : FVec F S128x256 .f32 := out32_256_3 (s7_2_0 E) (s7_2_1 E) (s7_2_2 E) (s7_2_3 E) (re7_2_0 E) (re7_2_1 E) (re7_2_2 E) (re7_2_3 E) (rvA0 E) (rvA1 E) (rvA2 E) (rvA3 E)

/-- What is stored for query tile 7 of head 2. -/
def op7_2 : FVec F S1x128x128 .bf16 := shapeCast S1x128x128 (transpose S128x128 [1, 0] (truncf .bf16 (extractStridedSlice S128x128 ![0, 0] (o7_2 E) slices_S128x256_o0_0_S128x128) bitsLt_bf16_f32) transposes_S128x128_p1_0_S128x128) shapeCasts_S128x128_S1x128x128

/-- What is stored for query tile 7 of head 3. -/
def op7_3 : FVec F S1x128x128 .bf16 := shapeCast S1x128x128 (transpose S128x128 [1, 0] (truncf .bf16 (extractStridedSlice S128x128 ![0, 128] (o7_2 E) slices_S128x256_o0_128_S128x128) bitsLt_bf16_f32) transposes_S128x128_p1_0_S128x128) shapeCasts_S128x128_S1x128x128

/-- Query tile 7 of the heads from 4. -/
def rq7_4 : FVec F S128x128 .bf16 := shapeCast S128x128 (E.arg11.view.readCov (hQ E) (Rect.unit (s := S8x256x640) ![7, 0, 512] S1x128x128.size inb_S8x256x640_S1x128x128_7_0_512).toLoadRect) shapeCasts_S1x128x128_S128x128

/-- Query tile 7 of the heads from 4, with the identity below. -/
def rqm7_4 : FVec F S256x128 .bf16 := shapeCast S256x128 (E.arg11.view.readCov (hQ E) (Rect.unit (s := S8x256x640) ![7, 0, 512] S1x256x128.size inb_S8x256x640_S1x256x128_7_0_512).toLoadRect) shapeCasts_S1x256x128_S256x128

/-- Scores of key tile 0 at query tile 7, heads from 4. -/
def s7_4_0 : FVec F S32x8x128 .f32 := (sc32_128_128 (rkA0 E) (rq7_4 E))

/-- Scores of key tile 1 at query tile 7, heads from 4. -/
def s7_4_1 : FVec F S32x8x128 .f32 := (sc32_128_128 (rkA1 E) (rq7_4 E))

/-- Scores of key tile 2 at query tile 7, heads from 4. -/
def s7_4_2 : FVec F S32x8x128 .f32 := (sc32_128_128 (rkA2 E) (rq7_4 E))

/-- Scores of key tile 3 at query tile 7, heads from 4. -/
def s7_4_3 : FVec F S32x8x128 .f32 := (sc32_128_256 (rkM3 E) (rqm7_4 E))

/-- What the exponentials scratch was left after query tile 7, heads from 4. -/
def hE7_4 : List (View.Piece (Elt F) S4x32x8x256 .f32) :=
  ⟨Rect.unit (s := S4x32x8x256) ![3, 0, 0, 0] S1x32x8x128.size inb_S4x32x8x256_S1x32x8x128_3_0_0_0, exP32_128 (s7_4_3 E) (mx32_128_3 (s7_4_0 E) (s7_4_1 E) (s7_4_2 E) (s7_4_3 E))⟩ ::
  ⟨Rect.unit (s := S4x32x8x256) ![2, 0, 0, 0] S1x32x8x128.size inb_S4x32x8x256_S1x32x8x128_2_0_0_0, exP32_128 (s7_4_2 E) (mx32_128_2 (s7_4_0 E) (s7_4_1 E) (s7_4_2 E))⟩ ::
  ⟨Rect.unit (s := S4x32x8x256) ![1, 0, 0, 0] S1x32x8x128.size inb_S4x32x8x256_S1x32x8x128_1_0_0_0, exP32_128 (s7_4_1 E) (mx32_128_1 (s7_4_0 E) (s7_4_1 E))⟩ ::
  ⟨Rect.unit (s := S4x32x8x256) ![0, 0, 0, 0] S1x32x8x128.size inb_S4x32x8x256_S1x32x8x128_0_0_0_0, exP32_128 (s7_4_0 E) (mx32_128_0 (s7_4_0 E))⟩ ::
  hE7_2 E

/-- The exponentials of tile 0 read back at query tile 7, heads from 4. -/
def re7_4_0 : Vec F S1x32x8x128 .f32 := (E.arg16.view.readCov (hE7_4 E) (Rect.unit (s := S4x32x8x256) ![0, 0, 0, 0] S1x32x8x128.size inb_S4x32x8x256_S1x32x8x128_0_0_0_0).toLoadRect)

/-- The exponentials of tile 1 read back at query tile 7, heads from 4. -/
def re7_4_1 : Vec F S1x32x8x128 .f32 := (E.arg16.view.readCov (hE7_4 E) (Rect.unit (s := S4x32x8x256) ![1, 0, 0, 0] S1x32x8x128.size inb_S4x32x8x256_S1x32x8x128_1_0_0_0).toLoadRect)

/-- The exponentials of tile 2 read back at query tile 7, heads from 4. -/
def re7_4_2 : Vec F S1x32x8x128 .f32 := (E.arg16.view.readCov (hE7_4 E) (Rect.unit (s := S4x32x8x256) ![2, 0, 0, 0] S1x32x8x128.size inb_S4x32x8x256_S1x32x8x128_2_0_0_0).toLoadRect)

/-- The exponentials of tile 3 read back at query tile 7, heads from 4. -/
def re7_4_3 : Vec F S1x32x8x128 .f32 := (E.arg16.view.readCov (hE7_4 E) (Rect.unit (s := S4x32x8x256) ![3, 0, 0, 0] S1x32x8x128.size inb_S4x32x8x256_S1x32x8x128_3_0_0_0).toLoadRect)

/-- The output of query tile 7, heads from 4. -/
def o7_4 : FVec F S128x128 .f32 := out32_128_3 (s7_4_0 E) (s7_4_1 E) (s7_4_2 E) (s7_4_3 E) (re7_4_0 E) (re7_4_1 E) (re7_4_2 E) (re7_4_3 E) (rvA0 E) (rvA1 E) (rvA2 E) (rvA3 E)

/-- What is stored for query tile 7 of head 4. -/
def op7_4 : FVec F S1x128x128 .bf16 := shapeCast S1x128x128 (transpose S128x128 [1, 0] (truncf .bf16 (o7_4 E) bitsLt_bf16_f32) transposes_S128x128_p1_0_S128x128) shapeCasts_S128x128_S1x128x128

/-- The stores into the output block, last first. -/
def outL : List (View.Piece (Elt F) S1x1024x640 .bf16) :=
  ⟨Rect.unit (s := S1x1024x640) ![0, 896, 512] S1x128x128.size inb_S1x1024x640_S1x128x128_0_896_512, op7_4 E⟩ ::
  ⟨Rect.unit (s := S1x1024x640) ![0, 896, 384] S1x128x128.size inb_S1x1024x640_S1x128x128_0_896_384, op7_3 E⟩ ::
  ⟨Rect.unit (s := S1x1024x640) ![0, 896, 256] S1x128x128.size inb_S1x1024x640_S1x128x128_0_896_256, op7_2 E⟩ ::
  ⟨Rect.unit (s := S1x1024x640) ![0, 896, 128] S1x128x128.size inb_S1x1024x640_S1x128x128_0_896_128, op7_1 E⟩ ::
  ⟨Rect.unit (s := S1x1024x640) ![0, 896, 0] S1x128x128.size inb_S1x1024x640_S1x128x128_0_896_0, op7_0 E⟩ ::
  ⟨Rect.unit (s := S1x1024x640) ![0, 768, 512] S1x128x128.size inb_S1x1024x640_S1x128x128_0_768_512, op6_4 E⟩ ::
  ⟨Rect.unit (s := S1x1024x640) ![0, 768, 384] S1x128x128.size inb_S1x1024x640_S1x128x128_0_768_384, op6_3 E⟩ ::
  ⟨Rect.unit (s := S1x1024x640) ![0, 768, 256] S1x128x128.size inb_S1x1024x640_S1x128x128_0_768_256, op6_2 E⟩ ::
  ⟨Rect.unit (s := S1x1024x640) ![0, 768, 128] S1x128x128.size inb_S1x1024x640_S1x128x128_0_768_128, op6_1 E⟩ ::
  ⟨Rect.unit (s := S1x1024x640) ![0, 768, 0] S1x128x128.size inb_S1x1024x640_S1x128x128_0_768_0, op6_0 E⟩ ::
  ⟨Rect.unit (s := S1x1024x640) ![0, 640, 512] S1x128x128.size inb_S1x1024x640_S1x128x128_0_640_512, op5_4 E⟩ ::
  ⟨Rect.unit (s := S1x1024x640) ![0, 640, 384] S1x128x128.size inb_S1x1024x640_S1x128x128_0_640_384, op5_3 E⟩ ::
  ⟨Rect.unit (s := S1x1024x640) ![0, 640, 256] S1x128x128.size inb_S1x1024x640_S1x128x128_0_640_256, op5_2 E⟩ ::
  ⟨Rect.unit (s := S1x1024x640) ![0, 640, 128] S1x128x128.size inb_S1x1024x640_S1x128x128_0_640_128, op5_1 E⟩ ::
  ⟨Rect.unit (s := S1x1024x640) ![0, 640, 0] S1x128x128.size inb_S1x1024x640_S1x128x128_0_640_0, op5_0 E⟩ ::
  ⟨Rect.unit (s := S1x1024x640) ![0, 512, 512] S1x128x128.size inb_S1x1024x640_S1x128x128_0_512_512, op4_4 E⟩ ::
  ⟨Rect.unit (s := S1x1024x640) ![0, 512, 384] S1x128x128.size inb_S1x1024x640_S1x128x128_0_512_384, op4_3 E⟩ ::
  ⟨Rect.unit (s := S1x1024x640) ![0, 512, 256] S1x128x128.size inb_S1x1024x640_S1x128x128_0_512_256, op4_2 E⟩ ::
  ⟨Rect.unit (s := S1x1024x640) ![0, 512, 128] S1x128x128.size inb_S1x1024x640_S1x128x128_0_512_128, op4_1 E⟩ ::
  ⟨Rect.unit (s := S1x1024x640) ![0, 512, 0] S1x128x128.size inb_S1x1024x640_S1x128x128_0_512_0, op4_0 E⟩ ::
  ⟨Rect.unit (s := S1x1024x640) ![0, 384, 512] S1x128x128.size inb_S1x1024x640_S1x128x128_0_384_512, op3_4 E⟩ ::
  ⟨Rect.unit (s := S1x1024x640) ![0, 384, 384] S1x128x128.size inb_S1x1024x640_S1x128x128_0_384_384, op3_3 E⟩ ::
  ⟨Rect.unit (s := S1x1024x640) ![0, 384, 256] S1x128x128.size inb_S1x1024x640_S1x128x128_0_384_256, op3_2 E⟩ ::
  ⟨Rect.unit (s := S1x1024x640) ![0, 384, 128] S1x128x128.size inb_S1x1024x640_S1x128x128_0_384_128, op3_1 E⟩ ::
  ⟨Rect.unit (s := S1x1024x640) ![0, 384, 0] S1x128x128.size inb_S1x1024x640_S1x128x128_0_384_0, op3_0 E⟩ ::
  ⟨Rect.unit (s := S1x1024x640) ![0, 256, 512] S1x128x128.size inb_S1x1024x640_S1x128x128_0_256_512, op2_4 E⟩ ::
  ⟨Rect.unit (s := S1x1024x640) ![0, 256, 384] S1x128x128.size inb_S1x1024x640_S1x128x128_0_256_384, op2_3 E⟩ ::
  ⟨Rect.unit (s := S1x1024x640) ![0, 256, 256] S1x128x128.size inb_S1x1024x640_S1x128x128_0_256_256, op2_2 E⟩ ::
  ⟨Rect.unit (s := S1x1024x640) ![0, 256, 128] S1x128x128.size inb_S1x1024x640_S1x128x128_0_256_128, op2_1 E⟩ ::
  ⟨Rect.unit (s := S1x1024x640) ![0, 256, 0] S1x128x128.size inb_S1x1024x640_S1x128x128_0_256_0, op2_0 E⟩ ::
  ⟨Rect.unit (s := S1x1024x640) ![0, 128, 512] S1x128x128.size inb_S1x1024x640_S1x128x128_0_128_512, op1_4 E⟩ ::
  ⟨Rect.unit (s := S1x1024x640) ![0, 128, 384] S1x128x128.size inb_S1x1024x640_S1x128x128_0_128_384, op1_3 E⟩ ::
  ⟨Rect.unit (s := S1x1024x640) ![0, 128, 256] S1x128x128.size inb_S1x1024x640_S1x128x128_0_128_256, op1_2 E⟩ ::
  ⟨Rect.unit (s := S1x1024x640) ![0, 128, 128] S1x128x128.size inb_S1x1024x640_S1x128x128_0_128_128, op1_1 E⟩ ::
  ⟨Rect.unit (s := S1x1024x640) ![0, 128, 0] S1x128x128.size inb_S1x1024x640_S1x128x128_0_128_0, op1_0 E⟩ ::
  ⟨Rect.unit (s := S1x1024x640) ![0, 0, 512] S1x128x128.size inb_S1x1024x640_S1x128x128_0_0_512, op0_4 E⟩ ::
  ⟨Rect.unit (s := S1x1024x640) ![0, 0, 384] S1x128x128.size inb_S1x1024x640_S1x128x128_0_0_384, op0_3 E⟩ ::
  ⟨Rect.unit (s := S1x1024x640) ![0, 0, 256] S1x128x128.size inb_S1x1024x640_S1x128x128_0_0_256, op0_2 E⟩ ::
  ⟨Rect.unit (s := S1x1024x640) ![0, 0, 128] S1x128x128.size inb_S1x1024x640_S1x128x128_0_0_128, op0_1 E⟩ ::
  ⟨Rect.unit (s := S1x1024x640) ![0, 0, 0] S1x128x128.size inb_S1x1024x640_S1x128x128_0_0_0, op0_0 E⟩ ::
  []

end Cert.KernelIdeal.Run
-- ==== Proof.Sem.lean ====
/- What the body's tiles hold, element by element: the scaled keys, values and queries, the one-hot row orders, the masks. -/
module

public import proofs.«01_k».proof.Proof.Out
public import proofs.«01_k».proof.Proof.Units
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe
open Att

theorem ieee_one : Ideal.ieee 8 23 0x3F800000#32 = 1 := by
  have := pw_eq (k := 127) (by norm_num) (by norm_num)
  have e : pw 127 = Ideal.ieee 8 23 0x3F800000#32 := by unfold pw; congr 1
  rw [← e, this]
  norm_num

theorem ieee_zero : Ideal.ieee 8 23 0x00000000#32 = 0 := by
  unfold Ideal.ieee
  simp

theorem neg_inf_eq : Named.named (F := Ideal) κ "neg_inf" (φ := .f32) 0xFE967699#32 = (⊥ : EReal) :=
  IdealRules.named_const.ideal_named_scalar _ _ _ _ rfl

/-- The key in a row of a wide tile, within the tile. -/
def kw (x : Fin 256) : Fin 256 := ⟨32 * (x.val % 8) + x.val / 8, by omega⟩

/-- The key in a row of a narrow tile, within the tile. -/
def kn (x : Fin 128) : Fin 128 := ⟨32 * ((x.val % 8) % 4) + 2 * (x.val / 8) + (x.val % 8) / 4, by omega⟩

theorem keyA_tab : ∀ x : Fin 256, keyA (ix2 x 0) = BitVec.ofNat 32 (kw x).val := by decide +kernel
theorem keyB_tab : ∀ x : Fin 128, keyB (ix2 x 0) = BitVec.ofNat 32 (kn x).val := by decide +kernel
theorem keyMA_tab : ∀ x : Fin 256, keyMA (ix2 x 0) = BitVec.ofNat 32 (kw x).val := by decide +kernel
theorem keyMB_tab : ∀ x : Fin 128, keyMB (ix2 x 0) = BitVec.ofNat 32 (kn x).val := by decide +kernel

theorem keyA_apply (x y : Fin 256) : keyA (ix2 x y) = BitVec.ofNat 32 (kw x).val := keyA_tab x
theorem keyB_apply (x y : Fin 128) : keyB (ix2 x y) = BitVec.ofNat 32 (kn x).val := keyB_tab x
theorem keyMA_apply (x : Fin 256) (y : Fin 128) : keyMA (ix2 x y) = BitVec.ofNat 32 (kw x).val := keyMA_tab x
theorem keyMB_apply (x y : Fin 128) : keyMB (ix2 x y) = BitVec.ofNat 32 (kn x).val := keyMB_tab x

theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem sel_eq (a b : ℕ) (ha : a < 2 ^ 31) (hb : b < 2 ^ 31) (x y : EReal) :
    Scalar.select (IntOp.cmpi .eq (BitVec.ofNat 32 a) (BitVec.ofNat 32 b)) x y = if b = a then x else y := by
  unfold Scalar.select IntOp.cmpi
  by_cases h : b = a
  · subst h; simp
  · have : ¬ BitVec.ofNat 32 a = BitVec.ofNat 32 b := fun e => h ((ofNat_eq_iff (by omega) (by omega)).1 e).symm
    rw [if_neg h, if_neg]
    rw [show (BitVec.ofNat 32 a == BitVec.ofNat 32 b) = false from beq_false_of_ne this]
    exact (by decide : ¬ BitVec.ofBool false = 1#1)

theorem sel_sgt (a b : ℕ) (ha : a < 2 ^ 31) (hb : b < 2 ^ 31) (x y : EReal) :
    Scalar.select (IntOp.cmpi .sgt (BitVec.ofNat 32 a) (BitVec.ofNat 32 b)) x y = if b < a then x else y := by
  have ia : (BitVec.ofNat 32 a).toInt = a := by
    rw [BitVec.toInt_eq_toNat_of_lt (by rw [BitVec.toNat_ofNat]; omega), BitVec.toNat_ofNat, Nat.mod_eq_of_lt (by omega)]
  have ib : (BitVec.ofNat 32 b).toInt = b := by
    rw [BitVec.toInt_eq_toNat_of_lt (by rw [BitVec.toNat_ofNat]; omega), BitVec.toNat_ofNat, Nat.mod_eq_of_lt (by omega)]
  unfold Scalar.select IntOp.cmpi
  by_cases h : b < a
  · simp [h, BitVec.slt, ia, ib]
  · simp [h, BitVec.slt, ia, ib]

theorem permA_apply (x y : Fin 256) : permA (F := Ideal) (ix2 x y) = if y = kw x then (1 : EReal) else 0 := by
  pointwise [permA]
  rw [keyA_apply, sel_eq _ _ (by omega) (by omega)]
  simp only [Fin.ext_iff]

theorem permB_apply (x y : Fin 128) : permB (F := Ideal) (ix2 x y) = if y = kn x then (1 : EReal) else 0 := by
  pointwise [permB]
  rw [keyB_apply, sel_eq _ _ (by omega) (by omega)]
  simp only [Fin.ext_iff]

theorem eyeM_apply (x y : Fin 128) : eyeM (F := Ideal) (ix2 x y) = if y = x then (1 : EReal) else 0 := by
  pointwise [eyeM]
  rw [sel_eq _ _ (by omega) (by omega)]
  simp only [Fin.ext_iff]

theorem maskA_apply (x : Fin 256) (y : Fin 128) : maskA (F := Ideal) (ix2 x y) = if y.val + 128 < (kw x).val then (⊥ : EReal) else 0 := by
  pointwise [maskA]
  rw [keyMA_apply, show IntOp.addi (BitVec.ofNat 32 y.val) 128#32 = BitVec.ofNat 32 (y.val + 128) from by
    unfold IntOp.addi; rw [BitVec.ofNat_add], sel_sgt _ _ (by omega) (by omega), neg_inf_eq]

theorem maskB_apply (x y : Fin 128) : maskB (F := Ideal) (ix2 x y) = if y.val < (kn x).val then (⊥ : EReal) else 0 := by
  pointwise [maskB]
  rw [keyMB_apply, show IntOp.addi (BitVec.ofNat 32 y.val) 0#32 = BitVec.ofNat 32 y.val from by
    unfold IntOp.addi; simp, sel_sgt _ _ (by omega) (by omega), neg_inf_eq]

/-- A sum against a one-hot row is one term. -/
theorem sum_pick_left {n : ℕ} (a : Fin n) (f : Fin n → EReal) : ∑ y, (if y = a then (1 : EReal) else 0) * f y = f a := by
  rw [Finset.sum_eq_single a]
  · simp
  · intro b _ h; simp [h]
  · intro h; exact absurd (Finset.mem_univ a) h

theorem sum_pick_right {n : ℕ} (a : Fin n) (f : Fin n → EReal) : ∑ y, f y * (if y = a then (1 : EReal) else 0) = f a := by
  rw [Finset.sum_eq_single a]
  · simp
  · intro b _ h; simp [h]
  · intro h; exact absurd (Finset.mem_univ a) h

theorem kaP_apply (k : FVec Ideal S128x256 .bf16) (z : Fin 1) (x : Fin 256) (d : Fin 128) : kaP k (ix3 z x d) = k (ix2 d (kw x)) := by
  have h : kaP k (ix3 z x d) = ∑ y : Fin 256, permA (F := Ideal) (ix2 x y) * k (ix2 d y) := by
    pointwise [kaP, zeroS]
  rw [h]
  simp only [permA_apply]
  exact sum_pick_left _ _

theorem kbP_apply (k : FVec Ideal S128x256 .bf16) (z : Fin 1) (x d : Fin 128) : kbP k (ix3 z x d) = k (ix2 d ⟨(kn x).val, by omega⟩) := by
  have h : kbP k (ix3 z x d) = ∑ y : Fin 128, permB (F := Ideal) (ix2 x y) * k (ix2 d ⟨y.val, by omega⟩) := by
    pointwise [kbP, zeroS]
  rw [h]
  simp only [permB_apply]
  exact sum_pick_left _ (fun y : Fin 128 => k (ix2 d ⟨y.val, by omega⟩))

theorem vaP_apply (v : FVec Ideal S128x256 .bf16) (z : Fin 1) (d : Fin 128) (x : Fin 256) : vaP v (ix3 z d x) = v (ix2 d (kw x)) := by
  have h : vaP v (ix3 z d x) = ∑ y : Fin 256, v (ix2 d y) * permA (F := Ideal) (ix2 x y) := by
    pointwise [vaP, zeroS]
  rw [h]
  simp only [permA_apply]
  exact sum_pick_right _ (fun y => v (ix2 d y))

theorem vbP_apply (v : FVec Ideal S128x256 .bf16) (z : Fin 1) (d x : Fin 128) : vbP v (ix3 z d x) = v (ix2 d ⟨(kn x).val, by omega⟩) := by
  have h : vbP v (ix3 z d x) = ∑ y : Fin 128, v (ix2 d ⟨y.val, by omega⟩) * permB (F := Ideal) (ix2 x y) := by
    pointwise [vbP, zeroS]
  rw [h]
  simp only [permB_apply]
  exact sum_pick_right _ (fun y : Fin 128 => v (ix2 d ⟨y.val, by omega⟩))

theorem ext8 (b : BitVec 8) : b.setWidth 32 = BitVec.ofNat 32 b.toNat := by
  ext; simp

theorem kT_apply (k : Vec Ideal S1x1x256x128 .fp8e4m3) (ks : Vec Ideal S1x1x4x256 .i8) (d : Fin 128) (y : Fin 256) :
    kT k ks (ix2 d y) = k (ix4 0 0 y d) * pw (ks (ix4 0 0 ⟨d.val / 32, by omega⟩ y)).toNat := by
  pointwise [kT]
  rw [pow2_apply S4x256 _ _ _ (ext8 _)]
  pointwise

theorem vT_apply (v : Vec Ideal S1x1x256x128 .fp8e4m3) (vs : Vec Ideal S1x1x8x128 .i8) (d : Fin 128) (y : Fin 256) :
    vT v vs (ix2 d y) = v (ix4 0 0 y d) * pw (vs (ix4 0 0 ⟨y.val / 32, by omega⟩ d)).toNat := by
  pointwise [vT]
  rw [pow2_apply S8x128 _ _ _ (ext8 _)]
  pointwise

theorem qT_apply (q : Vec Ideal S1x1x128x128 .fp8e4m3) (qs : Vec Ideal S1x1x4x128 .i8) (d y : Fin 128) :
    qT q qs (ix2 d y) = q (ix4 0 0 y d) * pw (qs (ix4 0 0 ⟨d.val / 32, by omega⟩ y)).toNat := by
  pointwise [qT]
  rw [pow2_apply S4x128 _ _ _ (ext8 _)]
  pointwise

/-- A block of a whole buffer, read where the rectangle places it. -/
theorem readAt_unread {s : Shape} {e : EltTy} {m : Memref sig .tc .vmem s e} (h : m.IsWhole) (r : Rect s) (x : Vec Ideal s e) (i : r.shape.Idx) :
    View.readAt (Elt Ideal) m.view r.toLoadRect (h.unread x) i = x (r.emb i) :=
  congrFun (h.read_unread x) (r.emb i)

variable (E : Env Ideal)

/-- A key, scaled. -/
def Kf (k : Fin 1024) (d : Fin 128) : EReal := E.x2 (ix4 0 0 k d) * pw (E.x3 (ix4 0 0 ⟨d.val / 32, by omega⟩ k)).toNat

/-- A value, scaled. -/
def Vf (k : Fin 1024) (d : Fin 128) : EReal := E.x4 (ix4 0 0 k d) * pw (E.x5 (ix4 0 0 ⟨k.val / 32, by omega⟩ d)).toNat

/-- A query, scaled. -/
def Qf (r : Fin 5) (q : Fin 1024) (d : Fin 128) : EReal := E.x0 (ix4 0 r q d) * pw (E.x1 (ix4 0 r ⟨d.val / 32, by omega⟩ q)).toNat

theorem z1 (n : ℕ) : 0 + 1 * n = n := by omega

theorem z2 (a n : ℕ) : a + 1 * n = a + n := by omega

theorem idx4_ext {a b c d : ℕ} {i j : (⟨4, ![a, b, c, d]⟩ : Shape).Idx} (h0 : (i 0).val = (j 0).val) (h1 : (i 1).val = (j 1).val)
    (h2 : (i 2).val = (j 2).val) (h3 : (i 3).val = (j 3).val) : i = j := by
  funext x
  match x with
  | ⟨0, _⟩ => exact Fin.ext h0
  | ⟨1, _⟩ => exact Fin.ext h1
  | ⟨2, _⟩ => exact Fin.ext h2
  | ⟨3, _⟩ => exact Fin.ext h3

end Cert.KernelIdeal.Run
end
-- ==== Proof.Sem2.lean ====
/- The tiles the body loads, as rows of the scaled keys, values and queries. -/
module

public import proofs.«01_k».proof.Proof.Sem

@[expose] public section

set_option maxRecDepth 16384

noncomputable section

namespace Cert.KernelIdeal.Run

open Cert.KernelIdeal Cert.KernelIdeal.Gen
open Idealize.ShloMosaic Idealize.ShloMosaic.TcCoe
open Att

variable (E : Env Ideal)

theorem kT0_apply (d : Fin 128) (y : Fin 256) : kT0 E (ix2 d y) = Kf E ⟨0 + y.val, by omega⟩ d := by
  unfold kT0
  rw [kT_apply, readAt_unread, readAt_unread]
  unfold Kf
  exact congrArg₂ (fun a b : EReal => a * b) (congrArg E.x2 (idx4_ext rfl rfl (z2 0 y.val) (z1 d.val)))
    (congrArg (fun i => pw (E.x3 i).toNat) (idx4_ext rfl rfl (z1 (d.val / 32)) (z2 0 y.val)))

theorem vT0_apply (d : Fin 128) (y : Fin 256) : vT0 E (ix2 d y) = Vf E ⟨0 + y.val, by omega⟩ d := by
  unfold vT0
  rw [vT_apply, readAt_unread, readAt_unread]
  unfold Vf
  exact congrArg₂ (fun a b : EReal => a * b) (congrArg E.x4 (idx4_ext rfl rfl (z2 0 y.val) (z1 d.val)))
    (congrArg (fun i => pw (E.x5 i).toNat) (idx4_ext rfl rfl (by show 0 + 1 * (y.val / 32) = (0 + y.val) / 32; omega) (z1 d.val)))

theorem kT1_apply (d : Fin 128) (y : Fin 256) : kT1 E (ix2 d y) = Kf E ⟨256 + y.val, by omega⟩ d := by
  unfold kT1
  rw [kT_apply, readAt_unread, readAt_unread]
  unfold Kf
  exact congrArg₂ (fun a b : EReal => a * b) (congrArg E.x2 (idx4_ext rfl rfl (z2 256 y.val) (z1 d.val)))
    (congrArg (fun i => pw (E.x3 i).toNat) (idx4_ext rfl rfl (z1 (d.val / 32)) (z2 256 y.val)))

theorem vT1_apply (d : Fin 128) (y : Fin 256) : vT1 E (ix2 d y) = Vf E ⟨256 + y.val, by omega⟩ d := by
  unfold vT1
  rw [vT_apply, readAt_unread, readAt_unread]
  unfold Vf
  exact congrArg₂ (fun a b : EReal => a * b) (congrArg E.x4 (idx4_ext rfl rfl (z2 256 y.val) (z1 d.val)))
    (congrArg (fun i => pw (E.x5 i).toNat) (idx4_ext rfl rfl (by show 8 + 1 * (y.val / 32) = (256 + y.val) / 32; omega) (z1 d.val)))

theorem kT2_apply (d : Fin 128) (y : Fin 256) : kT2 E (ix2 d y) = Kf E ⟨512 + y.val, by omega⟩ d := by
  unfold kT2
  rw [kT_apply, readAt_unread, readAt_unread]
  unfold Kf
  exact congrArg₂ (fun a b : EReal => a * b) (congrArg E.x2 (idx4_ext rfl rfl (z2 512 y.val) (z1 d.val)))
    (congrArg (fun i => pw (E.x3 i).toNat) (idx4_ext rfl rfl (z1 (d.val / 32)) (z2 512 y.val)))

theorem vT2_apply (d : Fin 128) (y : Fin 256) : vT2 E (ix2 d y) = Vf E ⟨512 + y.val, by omega⟩ d := by
  unfold vT2
  rw [vT_apply, readAt_unread, readAt_unread]
  unfold Vf
  exact congrArg₂ (fun a b : EReal => a * b) (congrArg E.x4 (idx4_ext rfl rfl (z2 512 y.val) (z1 d.val)))
    (congrArg (fun i => pw (E.x5 i).toNat) (idx4_ext rfl rfl (by show 16 + 1 * (y.val / 32) = (512 + y.val) / 32; omega) (z1 d.val)))

theorem kT3_apply (d : Fin 128) (y : Fin 256) : kT3 E (ix2 d y) = Kf E ⟨768 + y.val, by omega⟩ d := by
  unfold kT3
  rw [kT_apply, readAt_unread, readAt_unread]
  unfold Kf
  exact congrArg₂ (fun a b : EReal => a * b) (congrArg E.x2 (idx4_ext rfl rfl (z2 768 y.val) (z1 d.val)))
    (congrArg (fun i => pw (E.x3 i).toNat) (idx4_ext rfl rfl (z1 (d.val / 32)) (z2 768 y.val)))

theorem vT3_apply (d : Fin 128) (y : Fin 256) : vT3 E (ix2 d y) = Vf E ⟨768 + y.val, by omega⟩ d := by
  unfold vT3
  rw [vT_apply, readAt_unread, readAt_unread]
  unfold Vf
  exact congrArg₂ (fun a b : EReal => a * b) (congrArg E.x4 (idx4_ext rfl rfl (z2 768 y.val) (z1 d.val)))
    (congrArg (fun i => pw (E.x5 i).toNat) (idx4_ext rfl rfl (by show 24 + 1 * (y.val / 32) = (768 + y.val) / 32; omega) (z1 d.val)))

theorem qT0_0_apply (d c : Fin 128) : qT0_0 E (ix2 d c) = Qf E 0 ⟨0 + c.val, by omega⟩ d := by
  unfold qT0_0 ldQ ldS
  rw [qT_apply, readAt_unread, readAt_unread]
  unfold Qf
  exact congrArg₂ (fun a b : EReal => a * b) (congrArg E.x0 (idx4_ext rfl rfl (z2 0 c.val) (z1 d.val)))
    (congrArg (fun i => pw (E.x1 i).toNat) (idx4_ext rfl rfl (z1 (d.val / 32)) (z2 0 c.val)))

theorem qT0_1_apply (d c : Fin 128) : qT0_1 E (ix2 d c) = Qf E 0 ⟨128 + c.val, by omega⟩ d := by
  unfold qT0_1 ldQ ldS
  rw [qT_apply, readAt_unread, readAt_unread]
  unfold Qf
  exact congrArg₂ (fun a b : EReal => a * b) (congrArg E.x0 (idx4_ext rfl rfl (z2 128 c.val) (z1 d.val)))
    (congrArg (fun i => pw (E.x1 i).toNat) (idx4_ext rfl rfl (z1 (d.val / 32)) (z2 128 c.val)))

theorem qT0_2_apply (d c : Fin 128) : qT0_2 E (ix2 d c) = Qf E 0 ⟨256 + c.val, by omega⟩ d := by
  unfold qT0_2 ldQ ldS
  rw [qT_apply, readAt_unread, readAt_unread]
  unfold Qf
  exact congrArg₂ (fun a b : EReal => a * b) (congrArg E.x0 (idx4_ext rfl rfl (z2 256 c.val) (z1 d.val)))
    (congrArg (fun i => pw (E.x1 i).toNat) (idx4_ext rfl rfl (z1 (d.val / 32)) (z2 256 c.val)))

theorem qT0_3_apply (d c : Fin 128) : qT0_3 E (ix2 d c) = Qf E 0 ⟨384 + c.val, by omega⟩ d := by
  unfold qT0_3 ldQ ldS
  rw [qT_apply, readAt_unread, readAt_unread]
  unfold Qf
  exact congrArg₂ (fun a b : EReal => a * b) (congrArg E.x0 (idx4_ext rfl rfl (z2 384 c.val) (z1 d.val)))
    (congrArg (fun i => pw (E.x1 i).toNat) (idx4_ext rfl rfl (z1 (d.val / 32)) (z2 384 c.val)))

theorem qT0_4_apply (d c : Fin 128) : qT0_4 E (ix2 d c) = Qf E 0 ⟨512 + c.val, by omega⟩ d := by
  unfold qT0_4 ldQ ldS
  rw [qT_apply, readAt_unread, readAt_unread]
  unfold Qf
  exact congrArg₂ (fun a b : EReal => a * b) (congrArg E.x0 (idx4_ext rfl rfl (z2 512 c.val) (z1 d.val)))
    (congrArg (fun i => pw (E.x1 i).toNat) (idx4_ext rfl rfl (z1 (d.val / 32)) (z2 512 c.val)))

theorem qT0_5_apply (d c : Fin 128) : qT0_5 E (ix2 d c) = Qf E 0 ⟨640 + c.val, by omega⟩ d := by
  unfold qT0_5 ldQ ldS
  rw [qT_apply, readAt_unread, readAt_unread]
  unfold Qf
  exact congrArg₂ (fun a b : EReal => a * b) (congrArg E.x0 (idx4_ext rfl rfl (z2 640 c.val) (z1 d.val)))
    (congrArg (fun i => pw (E.x1 i).toNat) (idx4_ext rfl rfl (z1 (d.val / 32)) (z2 640 c.val)))

theorem qT0_6_apply (d c : Fin 128) : qT0_6 E (ix2 d c) = Qf E 0 ⟨768 + c.val, by omega⟩ d := by
  unfold qT0_6 ldQ ldS
  rw [qT_apply, readAt_unread, readAt_unread]
  unfold Qf
  exact congrArg₂ (fun a b : EReal => a * b) (congrArg E.x0 (idx4_ext rfl rfl (z2 768 c.val) (z1 d.val)))
    (congrArg (fun i => pw (E.x1 i).toNat) (idx4_ext rfl rfl (z1 (d.val / 32)) (z2 768 c.val)))

theorem qT0_7_apply (d c : Fin 128) : qT0_7 E (ix2 d c) = Qf E 0 ⟨896 + c.val, by omega⟩ d := by
  unfold qT0_7 ldQ ldS
  rw [qT_apply, readAt_unread, readAt_unread]
  unfold Qf
  exact congrArg₂ (fun a b : EReal => a * b) (congrArg E.x0 (idx4_ext rfl rfl (z2 896 c.val) (z1 d.val)))
    (congrArg (fun i => pw (E.x1 i).toNat) (idx4_ext rfl rfl (z1 (d.val / 32)) (z2 896 c.val)))

theorem qT1_0_apply (d c : Fin 128) : qT1_0 E (ix2 d c) = Qf E 1 ⟨0 + c.val, by omega⟩ d := by
  unfold qT1_0 ldQ ldS
  rw [qT_apply, readAt_unread, readAt_unread]
  unfold Qf
  exact congrArg₂ (fun a b : EReal => a * b) (congrArg E.x0 (idx4_ext rfl rfl (z2 0 c.val) (z1 d.val)))
    (congrArg (fun i => pw (E.x1 i).toNat) (idx4_ext rfl rfl (z1 (d.val / 32)) (z2 0 c.val)))

theorem qT1_1_apply (d c : Fin 128) : qT1_1 E (ix2 d c) = Qf E 1 ⟨128 + c.val, by omega⟩ d := by
  unfold qT1_1 ldQ ldS
  rw [qT_apply, readAt_unread, readAt_unread]
  unfold Qf
  exact congrArg₂ (fun a b : EReal => a * b) (congrArg E.x0 (idx4_ext rfl rfl (z2 128 c.val) (z1 d.val)))
    (congrArg (fun i => pw (E.x1 i).toNat) (idx4_ext rfl rfl (z1 (d.val / 32)) (z2 128 c.val)))

theorem qT1_2_apply (d c : Fin 128) : qT1_2 E (ix2 d c) = Qf E 1 ⟨256 + c.val, by omega⟩ d := by
  unfold qT1_2 ldQ ldS
  rw [qT_apply, readAt_unread, readAt_unread]
  unfold Qf
  exact congrArg₂ (fun a b : EReal => a * b) (congrArg E.x0 (idx4_ext rfl rfl (z2 256 c.val) (z1 d.val)))
    (congrArg (fun i => pw (E.x1 i).toNat) (idx4_ext rfl rfl (z1 (d.val / 32)) (z2 256 c.val)))

theorem qT1_3_apply (d c : Fin 128) : qT1_3 E (ix2 d c) = Qf E 1 ⟨384 + c.val, by omega⟩ d := by
  unfold qT1_3 ldQ ldS
  rw [qT_apply, readAt_unread, readAt_unread]
  unfold Qf
  exact congrArg₂ (fun a b : EReal => a * b) (congrArg E.x0 (idx4_ext rfl rfl (z2 384 c.val) (z1 d.val)))
    (congrArg (fun i => pw (E.x1 i).toNat) (idx4_ext rfl rfl (z1 (d.val / 32)) (z2 384 c.val)))

theorem qT1_4_apply (d c : Fin 128) : qT1_4 E (ix2 d c) = Qf E 1 ⟨512 + c.val, by omega⟩ d := by
  unfold qT1_4 ldQ ldS
  rw [qT_apply, readAt_unread, readAt_unread]
  unfold Qf
  exact congrArg₂ (fun a b : EReal => a * b) (congrArg E.x0 (idx4_ext rfl rfl (z2 512 c.val) (z1 d.val)))
    (congrArg (fun i => pw (E.x1 i).toNat) (idx4_ext rfl rfl (z1 (d.val / 32)) (z2 512 c.val)))

theorem qT1_5_apply (d c : Fin 128) : qT1_5 E (ix2 d c) = Qf E 1 ⟨640 + c.val, by omega⟩ d := by
  unfold qT1_5 ldQ ldS
  rw [qT_apply, readAt_unread, readAt_unread]
  unfold Qf
  exact congrArg₂ (fun a b : EReal => a * b) (congrArg E.x0 (idx4_ext rfl rfl (z2 640 c.val) (z1 d.val)))
    (congrArg (fun i => pw (E.x1 i).toNat) (idx4_ext rfl rfl (z1 (d.val / 32)) (z2 640 c.val)))

theorem qT1_6_apply (d c : Fin 128) : qT1_6 E (ix2 d c) = Qf E 1 ⟨768 + c.val, by omega⟩ d := by
  unfold qT1_6 ldQ ldS
  rw [qT_apply, readAt_unread, readAt_unread]
  unfold Qf
  exact congrArg₂ (fun a b : EReal => a * b) (congrArg E.x0 (idx4_ext rfl rfl (z2 768 c.val) (z1 d.val)))
    (congrArg (fun i => pw (E.x1 i).toNat) (idx4_ext rfl rfl (z1 (d.val / 32)) (z2 768 c.val)))

theorem qT1_7_apply (d c : Fin 128) : qT1_7 E (ix2 d c) = Qf E 1 ⟨896 + c.val, by omega⟩ d := by
  unfold qT1_7 ldQ ldS
  rw [qT_apply, readAt_unread, readAt_unread]
  unfold Qf
  exact congrArg₂ (fun a b : EReal => a * b) (congrArg E.x0 (idx4_ext rfl rfl (z2 896 c.val) (z1 d.val)))
    (congrArg (fun i => pw (E.x1 i).toNat) (idx4_ext rfl rfl (z1 (d.val / 32)) (z2 896 c.val)))

theorem qT2_0_apply (d c : Fin 128) : qT2_0 E (ix2 d c) = Qf E 2 ⟨0 + c.val, by omega⟩ d := by
  unfold qT2_0 ldQ ldS
  rw [qT_apply, readAt_unread, readAt_unread]
  unfold Qf
  exact congrArg₂ (fun a b : EReal => a * b) (congrArg E.x0 (idx4_ext rfl rfl (z2 0 c.val) (z1 d.val)))
    (congrArg (fun i => pw (E.x1 i).toNat) (idx4_ext rfl rfl (z1 (d.val / 32)) (z2 0 c.val)))

theorem qT2_1_apply (d c : Fin 128) : qT2_1 E (ix2 d c) = Qf E 2 ⟨128 + c.val, by omega⟩ d := by
  unfold qT2_1 ldQ ldS
  rw [qT_apply, readAt_unread, readAt_unread]
  unfold Qf
  exact congrArg₂ (fun a b : EReal => a * b) (congrArg E.x0 (idx4_ext rfl rfl (z2 128 c.val) (z1 d.val)))
    (congrArg (fun i => pw (E.x1 i).toNat) (idx4_ext rfl rfl (z1 (d.val / 32)) (z2 128 c.val)))

theorem qT2_2_apply (d c : Fin 128) : qT2_2 E (ix2 d c) = Qf E 2 ⟨256 + c.val, by omega⟩ d := by
  unfold qT2_2 ldQ ldS
  rw [qT_apply, readAt_unread, readAt_unread]
  unfold Qf
  exact congrArg₂ (fun a b : EReal => a * b) (congrArg E.x0 (idx4_ext rfl rfl (z2 256 c.val) (z1 d.val)))
    (congrArg (fun i => pw (E.x1 i).toNat) (idx4_ext rfl rfl (z1 (d.val / 32)) (z2 256 c.val)))

theorem qT2_3_apply (d c : Fin 128) : qT2_3 E (ix2 d c) = Qf E 2 ⟨384 + c.val, by omega⟩ d := by
  unfold qT2_3 ldQ ldS
  rw [qT_apply, readAt_unread, readAt_unread]
  unfold Qf
  exact congrArg₂ (fun a b : EReal => a * b) (congrArg E.x0 (idx4_ext rfl rfl (z2 384 c.val) (z1 d.val)))
    (congrArg (fun i => pw (E.x1 i).toNat) (idx4_ext rfl rfl (z1 (d.val / 32)) (z2 384 c.val)))

theorem qT2_4_apply (d c : Fin 128) : qT2_4 E (ix2 d c) = Qf E 2 ⟨512 + c.val, by omega⟩ d := by
  unfold qT2_4 ldQ ldS
  rw [qT_apply, readAt_unread, readAt_unread]
  unfold Qf
  exact congrArg₂ (fun a b : EReal => a * b) (congrArg E.x0 (idx4_ext rfl rfl (z2 512 c.val) (z1 d.val)))
    (congrArg (fun i => pw (E.x1 i).toNat) (idx4_ext rfl rfl (z1 (d.val / 32)) (z2 512 c.val)))

theorem qT2_5_apply (d c : Fin 128) : qT2_5 E (ix2 d c) = Qf E 2 ⟨640 + c.val, by omega⟩ d := by
  unfold qT2_5 ldQ ldS
  rw [qT_apply, readAt_unread, readAt_unread]
  unfold Qf
  exact congrArg₂ (fun a b : EReal => a * b) (congrArg E.x0 (idx4_ext rfl rfl (z2 640 c.val) (z1 d.val)))
    (congrArg (fun i => pw (E.x1 i).toNat) (idx4_ext rfl rfl (z1 (d.val / 32)) (z2 640 c.val)))

theorem qT2_6_apply (d c : Fin 128) : qT2_6 E (ix2 d c) = Qf E 2 ⟨768 + c.val, by omega⟩ d := by
  unfold qT2_6 ldQ ldS
  rw [qT_apply, readAt_unread, readAt_unread]
  unfold Qf
  exact congrArg₂ (fun a b : EReal => a * b) (congrArg E.x0 (idx4_ext rfl rfl (z2 768 c.val) (z1 d.val)))
    (congrArg (fun i => pw (E.x1 i).toNat) (idx4_ext rfl rfl (z1 (d.val / 32)) (z2 768 c.val)))

theorem qT2_7_apply (d c : Fin 128) : qT2_7 E (ix2 d c) = Qf E 2 ⟨896 + c.val, by omega⟩ d := by
  unfold qT2_7 ldQ ldS
  rw [qT_apply, readAt_unread, readAt_unread]
  unfold Qf
  exact congrArg₂ (fun a b : EReal => a * b) (congrArg E.x0 (idx4_ext rfl rfl (z2 896 c.val) (z1 d.val)))
    (congrArg (fun i => pw (E.x1 i).toNat) (idx4_ext rfl rfl (z1 (d.val / 32)) (z2 896 c.val)))

theorem qT3_0_apply (d c : Fin 128) : qT3_0 E (ix2 d c) = Qf E 3 ⟨0 + c.val, by omega⟩ d := by
  unfold qT3_0 ldQ ldS
  rw [qT_apply, readAt_unread, readAt_unread]
  unfold Qf
  exact congrArg₂ (fun a b : EReal => a * b) (congrArg E.x0 (idx4_ext rfl rfl (z2 0 c.val) (z1 d.val)))
    (congrArg (fun i => pw (E.x1 i).toNat) (idx4_ext rfl rfl (z1 (d.val / 32)) (z2 0 c.val)))

theorem qT3_1_apply (d c : Fin 128) : qT3_1 E (ix2 d c) = Qf E 3 ⟨128 + c.val, by omega⟩ d := by
  unfold qT3_1 ldQ ldS
  rw [qT_apply, readAt_unread, readAt_unread]
  unfold Qf
  exact congrArg₂ (fun a b : EReal => a * b) (congrArg E.x0 (idx4_ext rfl rfl (z2 128 c.val) (z1 d.val)))
    (congrArg (fun i => pw (E.x1 i).toNat) (idx4_ext rfl rfl (z1 (d.val / 32)) (z2 128 c.val)))

theorem qT3_2_apply (d c : Fin 128) : qT3_2 E (ix2 d c) = Qf E 3 ⟨256 + c.val, by omega⟩ d := by
  unfold qT3_2 ldQ ldS
  rw [qT_apply, readAt_unread, readAt_unread]
  unfold Qf
  exact congrArg₂ (fun a b : EReal => a * b) (congrArg E.x0 (idx4_ext rfl rfl (z2 256 c.val) (z1 d.val)))
    (congrArg (fun i => pw (E.x1 i).toNat) (idx4_ext rfl rfl (z1 (d.val / 32)) (z2 256 c.val)))

theorem qT3_3_apply (d c : Fin 128) : qT3_3 E (ix2 d c) = Qf E 3 ⟨384 + c.val, by omega⟩ d := by
  unfold qT3_3 ldQ ldS
  rw [qT_apply, readAt_unread, readAt_unread]
  unfold Qf
  exact congrArg₂ (fun a b : EReal => a * b) (congrArg E.x0 (idx4_ext rfl rfl (z2 384 c.val) (z1 d.val)))
    (congrArg (fun i => pw (E.x1 i).toNat) (idx4_ext rfl rfl (z1 (d.val / 32)) (z2 384 c.val)))

theorem qT3_4_apply (d c : Fin 128) : qT3_4 E (ix2 d c) = Qf E 3 ⟨512 + c.val, by omega⟩ d := by
  unfold qT3_4 ldQ ldS
  rw [qT_apply, readAt_unread, readAt_unread]
  unfold Qf
  exact congrArg₂ (fun a b : EReal => a * b) (congrArg E.x0 (idx4_ext rfl rfl (z2 512 c.val) (z1 d.val)))
    (congrArg (fun i => pw (E.x1 i).toNat) (idx4_ext rfl rfl (z1 (d.val / 32)) (z2 512 c.val)))

theorem qT3_5_apply (d c : Fin 128) : qT3_5 E (ix2 d c) = Qf E 3 ⟨640 + c.val, by omega⟩ d := by
  unfold qT3_5 ldQ ldS
  rw [qT_apply, readAt_unread, readAt_unread]
  unfold Qf
  exact congrArg₂ (fun a b : EReal => a * b) (congrArg E.x0 (idx4_ext rfl rfl (z2 640 c.val) (z1 d.val)))
    (congrArg (fun i => pw (E.x1 i).toNat) (idx4_ext rfl rfl (z1 (d.val / 32)) (z2 640 c.val)))

theorem qT3_6_apply (d c : Fin 128) : qT3_6 E (ix2 d c) = Qf E 3 ⟨768 + c.val, by omega⟩ d := by
  unfold qT3_6 ldQ ldS
  rw [qT_apply, readAt_unread, readAt_unread]
  unfold Qf
  exact congrArg₂ (fun a b : EReal => a * b) (congrArg E.x0 (idx4_ext rfl rfl (z2 768 c.val) (z1 d.val)))
    (congrArg (fun i => pw (E.x1 i).toNat) (idx4_ext rfl rfl (z1 (d.val / 32)) (z2 768 c.val)))

theorem qT3_7_apply (d c : Fin 128) : qT3_7 E (ix2 d c) = Qf E 3 ⟨896 + c.val, by omega⟩ d := by
  unfold qT3_7 ldQ ldS
  rw [qT_apply, readAt_unread, readAt_unread]
  unfold Qf
  exact congrArg₂ (fun a b : EReal => a * b) (congrArg E.x0 (idx4_ext rfl rfl (z2 896 c.val) (z1 d.val)))
    (congrArg (fun i => pw (E.x1 i).toNat) (idx4_ext rfl rfl (z1 (d.val / 32)) (z2 896 c.val)))

theorem qT4_0_apply (d c : Fin 128) : qT4_0 E (ix2 d c) = Qf E 4 ⟨0 + c.val, by omega⟩ d := by
  unfold qT4_0 ldQ ldS
  rw [qT_apply, readAt_unread, readAt_unread]
  unfold Qf
  exact congrArg₂ (fun a b : EReal => a * b) (congrArg E.x0 (idx4_ext rfl rfl (z2 0 c.val) (z1 d.val)))
    (congrArg (fun i => pw (E.x1 i).toNat) (idx4_ext rfl rfl (z1 (d.val / 32)) (z2 0 c.val)))

theorem qT4_1_apply (d c : Fin 128) : qT4_1 E (ix2 d c) = Qf E 4 ⟨128 + c.val, by omega⟩ d := by
  unfold qT4_1 ldQ ldS
  rw [qT_apply, readAt_unread, readAt_unread]
  unfold Qf
  exact congrArg₂ (fun a b : EReal => a * b) (congrArg E.x0 (idx4_ext rfl rfl (z2 128 c.val) (z1 d.val)))
    (congrArg (fun i => pw (E.x1 i).toNat) (idx4_ext rfl rfl (z1 (d.val / 32)) (z2 128 c.val)))

theorem qT4_2_apply (d c : Fin 128) : qT4_2 E (ix2 d c) = Qf E 4 ⟨256 + c.val, by omega⟩ d := by
  unfold qT4_2 ldQ ldS
  rw [qT_apply, readAt_unread, readAt_unread]
  unfold Qf
  exact congrArg₂ (fun a b : EReal => a * b) (congrArg E.x0 (idx4_ext rfl rfl (z2 256 c.val) (z1 d.val)))
    (congrArg (fun i => pw (E.x1 i).toNat) (idx4_ext rfl rfl (z1 (d.val / 32)) (z2 256 c.val)))

theorem qT4_3_apply (d c : Fin 128) : qT4_3 E (ix2 d c) = Qf E 4 ⟨384 + c.val, by omega⟩ d := by
  unfold qT4_3 ldQ ldS
  rw [qT_apply, readAt_unread, readAt_unread]
  unfold Qf
  exact congrArg₂ (fun a b : EReal => a * b) (congrArg E.x0 (idx4_ext rfl rfl (z2 384 c.val) (z1 d.val)))
    (congrArg (fun i => pw (E.x1 i).toNat) (idx4_ext rfl rfl (z1 (d.val / 32)) (z2 384 c.val)))

theorem qT4_4_apply (d c : Fin 128) : qT4_4 E (ix2 d c) = Qf E 4 ⟨512 + c.val, by omega⟩ d := by
  unfold qT4_4 ldQ ldS
  rw [qT_apply, readAt_unread, readAt_unread]
  unfold Qf
  exact congrArg₂ (fun a b : EReal => a * b) (congrArg E.x0 (idx4_ext rfl rfl (z2 512 c.val) (z1 d.val)))
    (congrArg (fun i => pw (E.x1 i).toNat) (idx4_ext rfl rfl (z1 (d.val / 32)) (z2 512 c.val)))

theorem qT4_5_apply (d c : Fin 128) : qT4_5 E (ix2 d c) = Qf E 4 ⟨640 + c.val, by omega⟩ d := by
  unfold qT4_5 ldQ ldS
  rw [qT_apply, readAt_unread, readAt_unread]
  unfold Qf
  exact congrArg₂ (fun a b : EReal => a * b) (congrArg E.x0 (idx4_ext rfl rfl (z2 640 c.val) (z1 d.val)))
    (congrArg (fun i => pw (E.x1 i).toNat) (idx4_ext rfl rfl (z1 (d.val / 32)) (z2 640 c.val)))

theorem qT4_6_apply (d c : Fin 128) : qT4_6 E (ix2 d c) = Qf E 4 ⟨768 + c.val, by omega⟩ d := by
  unfold qT4_6 ldQ ldS
  rw [qT_apply, readAt_unread, readAt_unread]
  unfold Qf
  exact congrArg₂ (fun a b : EReal => a * b) (congrArg E.x0 (idx4_ext rfl rfl (z2 768 c.val) (z1 d.val)))
    (congrArg (fun i => pw (E.x1 i).toNat) (idx4_ext rfl rfl (z1 (d.val / 32)) (z2 768 c.val)))

theorem qT4_7_apply (d c : Fin 128) : qT4_7 E (ix2 d c) = Qf E 4 ⟨896 + c.val, by omega⟩ d := by
  unfold qT4_7 ldQ ldS
  rw [qT_apply, readAt_unread, readAt_unread]
  unfold Qf
  exact congrArg₂ (fun a b : EReal => a * b) (congrArg E.x0 (idx4_ext rfl rfl (z2 896 c.val) (z1 d.val)))
    (congrArg (fun i => pw (E.x1 i).toNat) (idx4_ext rfl rfl (z1 (d.val / 32)) (z2 896 c.val)))

end Cert.KernelIdeal.Run

end
-- ==== Proof.Scratch.lean ====
/- What the scratch buffers hold, read back element by element. -/
module

public import proofs.«01_k».proof.Proof.Sem2

@[expose] public section

set_option maxRecDepth 16384

noncomputable section

namespace Cert.KernelIdeal.Run

open Cert.KernelIdeal Cert.KernelIdeal.Gen
open Idealize.ShloMosaic Idealize.ShloMosaic.TcCoe
open Att

variable (E : Env Ideal)

/-- A covered load where every store agrees with one function. -/
theorem readCov_eq {κ : Kind} {sp : Space} {s : Shape} {e : EltTy} (v : View sig κ sp s e) (L : List (View.Piece (Elt Ideal) s e)) (G : s.Idx → Elt Ideal e)
    (hG : ∀ p ∈ L, ∀ x : p.1.shape.Idx, p.2 x = G (p.1.emb x)) (hc : ∀ y, ∃ p ∈ L, y ∈ p.1.set) (r : Rect s) (i : r.shape.Idx) :
    v.readCov L r.toLoadRect i = G (r.emb i) :=
  View.read_writes_apply_of_pieces v _ G L hG _ (hc _)

theorem idx3_ext {a b c : ℕ} {i j : (⟨3, ![a, b, c]⟩ : Shape).Idx} (h0 : (i 0).val = (j 0).val) (h1 : (i 1).val = (j 1).val)
    (h2 : (i 2).val = (j 2).val) : i = j := by
  funext x
  match x with
  | ⟨0, _⟩ => exact Fin.ext h0
  | ⟨1, _⟩ => exact Fin.ext h1
  | ⟨2, _⟩ => exact Fin.ext h2

theorem idx3_eta {b c : ℕ} (x : (⟨3, ![1, b, c]⟩ : Shape).Idx) : x = ix3 (0 : Fin 1) (⟨(x 1).val, (x 1).isLt⟩ : Fin b) (⟨(x 2).val, (x 2).isLt⟩ : Fin c) :=
  idx3_ext (Nat.lt_one_iff.1 (x 0).isLt) rfl rfl

theorem fc {α : Type} {p : α → Prop} {a : α} {l : List α} (h : p a ∧ ∀ x ∈ l, p x) : ∀ x ∈ a :: l, p x := List.forall_mem_cons.2 h

/-- The wide key scratch. -/
def G12 (y : S4x256x256.Idx) : EReal :=
  if h : (y 2).val < 128 then Kf E (keyw ⟨(y 0).val, (y 0).isLt⟩ ⟨(y 1).val, (y 1).isLt⟩) ⟨(y 2).val, h⟩
  else maskA (F := Ideal) (ix2 ⟨(y 1).val, (y 1).isLt⟩ ⟨(y 2).val - 128, by have : (y 2).val < 256 := (y 2).isLt; omega⟩)

theorem G12_lt (y : S4x256x256.Idx) (j : Fin 4) (a : Fin 256) (d : Fin 128) (h0 : (y 0).val = j.val) (h1 : (y 1).val = a.val) (h2 : (y 2).val = d.val) :
    G12 E y = Kf E (keyw j a) d := by
  unfold G12
  rw [dif_pos (by omega)]
  exact congrArg₂ (fun u v => Kf E u v) (congrArg₂ (fun u v => keyw u v) (Fin.ext h0) (Fin.ext h1)) (Fin.ext h2)

theorem G12_ge (y : S4x256x256.Idx) (a : Fin 256) (d : Fin 128) (h1 : (y 1).val = a.val) (h2 : (y 2).val = 128 + d.val) :
    G12 E y = maskA (F := Ideal) (ix2 a d) := by
  unfold G12
  rw [dif_neg (by omega)]
  exact congrArg₂ (fun u v => maskA (F := Ideal) (ix2 u v)) (Fin.ext h1) (Fin.ext (by show (y 2).val - 128 = d.val; omega))

/-- The narrow key scratch. -/
def G13 (y : S4x128x256.Idx) : EReal :=
  if h : (y 2).val < 128 then Kf E (keyn ⟨(y 0).val, (y 0).isLt⟩ ⟨(y 1).val, (y 1).isLt⟩) ⟨(y 2).val, h⟩
  else maskB (F := Ideal) (ix2 ⟨(y 1).val, (y 1).isLt⟩ ⟨(y 2).val - 128, by have : (y 2).val < 256 := (y 2).isLt; omega⟩)

theorem G13_lt (y : S4x128x256.Idx) (j : Fin 4) (a : Fin 128) (d : Fin 128) (h0 : (y 0).val = j.val) (h1 : (y 1).val = a.val) (h2 : (y 2).val = d.val) :
    G13 E y = Kf E (keyn j a) d := by
  unfold G13
  rw [dif_pos (by omega)]
  exact congrArg₂ (fun u v => Kf E u v) (congrArg₂ (fun u v => keyn u v) (Fin.ext h0) (Fin.ext h1)) (Fin.ext h2)

theorem G13_ge (y : S4x128x256.Idx) (a : Fin 128) (d : Fin 128) (h1 : (y 1).val = a.val) (h2 : (y 2).val = 128 + d.val) :
    G13 E y = maskB (F := Ideal) (ix2 a d) := by
  unfold G13
  rw [dif_neg (by omega)]
  exact congrArg₂ (fun u v => maskB (F := Ideal) (ix2 u v)) (Fin.ext h1) (Fin.ext (by show (y 2).val - 128 = d.val; omega))

/-- The wide value scratch. -/
def G14 (y : S4x128x256.Idx) : EReal := Vf E (keyw ⟨(y 0).val, (y 0).isLt⟩ ⟨(y 2).val, (y 2).isLt⟩) ⟨(y 1).val, (y 1).isLt⟩

theorem G14_eq (y : S4x128x256.Idx) (j : Fin 4) (a : Fin 256) (d : Fin 128) (h0 : (y 0).val = j.val) (h1 : (y 1).val = d.val) (h2 : (y 2).val = a.val) :
    G14 E y = Vf E (keyw j a) d :=
  congrArg₂ (fun u v => Vf E u v) (congrArg₂ (fun u v => keyw u v) (Fin.ext h0) (Fin.ext h2)) (Fin.ext h1)

/-- The narrow value scratch. -/
def G15 (y : S4x128x128.Idx) : EReal := Vf E (keyn ⟨(y 0).val, (y 0).isLt⟩ ⟨(y 2).val, (y 2).isLt⟩) ⟨(y 1).val, (y 1).isLt⟩

theorem G15_eq (y : S4x128x128.Idx) (j : Fin 4) (a : Fin 128) (d : Fin 128) (h0 : (y 0).val = j.val) (h1 : (y 1).val = d.val) (h2 : (y 2).val = a.val) :
    G15 E y = Vf E (keyn j a) d :=
  congrArg₂ (fun u v => Vf E u v) (congrArg₂ (fun u v => keyn u v) (Fin.ext h0) (Fin.ext h2)) (Fin.ext h1)

/-- The query scratch. -/
def G11 (y : S8x256x640.Idx) : EReal :=
  if h : (y 1).val < 128 then
    Qf E ⟨(y 2).val / 128, by have : (y 2).val < 640 := (y 2).isLt; omega⟩
      ⟨128 * (y 0).val + (y 2).val % 128, by have : (y 0).val < 8 := (y 0).isLt; omega⟩ ⟨(y 1).val, h⟩
  else eyeM (F := Ideal) (ix2 ⟨(y 1).val - 128, by have : (y 1).val < 256 := (y 1).isLt; omega⟩ ⟨(y 2).val % 128, by omega⟩)

theorem G11_lt (y : S8x256x640.Idx) (r : Fin 5) (q : Fin 1024) (d : Fin 128) (hr : (y 2).val / 128 = r.val) (hq : 128 * (y 0).val + (y 2).val % 128 = q.val)
    (h1 : (y 1).val = d.val) : G11 E y = Qf E r q d := by
  unfold G11
  rw [dif_pos (by omega)]
  rw [show (⟨(y 2).val / 128, by omega⟩ : Fin 5) = r from Fin.ext hr, show (⟨128 * (y 0).val + (y 2).val % 128, by omega⟩ : Fin 1024) = q from Fin.ext hq,
    show (⟨(y 1).val, by omega⟩ : Fin 128) = d from Fin.ext h1]

theorem G11_ge (y : S8x256x640.Idx) (a c : Fin 128) (h1 : (y 1).val = 128 + a.val) (h2 : (y 2).val % 128 = c.val) : G11 E y = eyeM (F := Ideal) (ix2 a c) := by
  unfold G11
  rw [dif_neg (by omega)]
  exact congrArg₂ (fun u v => eyeM (F := Ideal) (ix2 u v)) (Fin.ext (by show (y 1).val - 128 = a.val; omega)) (Fin.ext h2)

theorem pA (j : Fin 4) (inb) (k : FVec Ideal S128x256 .bf16) (hk : ∀ (d : Fin 128) (y : Fin 256), k (ix2 d y) = Kf E ⟨256 * j.val + y.val, by omega⟩ d)
    (x : S1x256x128.Idx) : kaP k x = G12 E ((Rect.unit (s := S4x256x256) ![j.val, 0, 0] S1x256x128.size inb).emb x) := by
  rw [G12_lt E _ j ⟨(x 1).val, (x 1).isLt⟩ ⟨(x 2).val, (x 2).isLt⟩ (by show j.val + 1 * (x 0).val = j.val; have : (x 0).val < 1 := (x 0).isLt; omega)
    (by show 0 + 1 * (x 1).val = (x 1).val; omega) (by show 0 + 1 * (x 2).val = (x 2).val; omega)]
  refine (congrArg (kaP k) (idx3_eta x)).trans ?_
  rw [kaP_apply, hk]
  exact congrArg (fun u => Kf E u _) (Fin.ext (by simp only [kw, keyw]; omega))

theorem pAM (j : Fin 4) (inb) (x : S1x256x128.Idx) :
    kaM (F := Ideal) x = G12 E ((Rect.unit (s := S4x256x256) ![j.val, 0, 128] S1x256x128.size inb).emb x) := by
  rw [G12_ge E _ ⟨(x 1).val, (x 1).isLt⟩ ⟨(x 2).val, (x 2).isLt⟩
    (by show 0 + 1 * (x 1).val = (x 1).val; omega) (by show 128 + 1 * (x 2).val = 128 + (x 2).val; omega)]
  refine (congrArg (kaM (F := Ideal)) (idx3_eta x)).trans ?_
  pointwise [kaM]

theorem pB (j : Fin 4) (inb) (k : FVec Ideal S128x256 .bf16) (hk : ∀ (d : Fin 128) (y : Fin 256), k (ix2 d y) = Kf E ⟨256 * j.val + y.val, by omega⟩ d)
    (x : S1x128x128.Idx) : kbP k x = G13 E ((Rect.unit (s := S4x128x256) ![j.val, 0, 0] S1x128x128.size inb).emb x) := by
  rw [G13_lt E _ j ⟨(x 1).val, (x 1).isLt⟩ ⟨(x 2).val, (x 2).isLt⟩ (by show j.val + 1 * (x 0).val = j.val; have : (x 0).val < 1 := (x 0).isLt; omega)
    (by show 0 + 1 * (x 1).val = (x 1).val; omega) (by show 0 + 1 * (x 2).val = (x 2).val; omega)]
  refine (congrArg (kbP k) (idx3_eta x)).trans ?_
  rw [kbP_apply, hk]
  exact congrArg (fun u => Kf E u _) (Fin.ext (by simp only [kn, keyn]; omega))

theorem pBM (j : Fin 4) (inb) (x : S1x128x128.Idx) :
    kbM (F := Ideal) x = G13 E ((Rect.unit (s := S4x128x256) ![j.val, 0, 128] S1x128x128.size inb).emb x) := by
  rw [G13_ge E _ ⟨(x 1).val, (x 1).isLt⟩ ⟨(x 2).val, (x 2).isLt⟩
    (by show 0 + 1 * (x 1).val = (x 1).val; omega) (by show 128 + 1 * (x 2).val = 128 + (x 2).val; omega)]
  refine (congrArg (kbM (F := Ideal)) (idx3_eta x)).trans ?_
  pointwise [kbM]

theorem pVA (j : Fin 4) (inb) (v : FVec Ideal S128x256 .bf16) (hv : ∀ (d : Fin 128) (y : Fin 256), v (ix2 d y) = Vf E ⟨256 * j.val + y.val, by omega⟩ d)
    (x : S1x128x256.Idx) : vaP v x = G14 E ((Rect.unit (s := S4x128x256) ![j.val, 0, 0] S1x128x256.size inb).emb x) := by
  rw [G14_eq E _ j ⟨(x 2).val, (x 2).isLt⟩ ⟨(x 1).val, (x 1).isLt⟩ (by show j.val + 1 * (x 0).val = j.val; have : (x 0).val < 1 := (x 0).isLt; omega)
    (by show 0 + 1 * (x 1).val = (x 1).val; omega) (by show 0 + 1 * (x 2).val = (x 2).val; omega)]
  refine (congrArg (vaP v) (idx3_eta x)).trans ?_
  rw [vaP_apply, hv]
  exact congrArg (fun u => Vf E u _) (Fin.ext (by simp only [kw, keyw]; omega))

theorem pVB (j : Fin 4) (inb) (v : FVec Ideal S128x256 .bf16) (hv : ∀ (d : Fin 128) (y : Fin 256), v (ix2 d y) = Vf E ⟨256 * j.val + y.val, by omega⟩ d)
    (x : S1x128x128.Idx) : vbP v x = G15 E ((Rect.unit (s := S4x128x128) ![j.val, 0, 0] S1x128x128.size inb).emb x) := by
  rw [G15_eq E _ j ⟨(x 2).val, (x 2).isLt⟩ ⟨(x 1).val, (x 1).isLt⟩ (by show j.val + 1 * (x 0).val = j.val; have : (x 0).val < 1 := (x 0).isLt; omega)
    (by show 0 + 1 * (x 1).val = (x 1).val; omega) (by show 0 + 1 * (x 2).val = (x 2).val; omega)]
  refine (congrArg (vbP v) (idx3_eta x)).trans ?_
  rw [vbP_apply, hv]
  exact congrArg (fun u => Vf E u _) (Fin.ext (by simp only [kn, keyn]; omega))

theorem pQ (t : Fin 8) (r : Fin 5) (o : ℕ) (ho : o = 128 * r.val) (inb) (q : FVec Ideal S128x128 .bf16)
    (hq : ∀ (d c : Fin 128), q (ix2 d c) = Qf E r ⟨128 * t.val + c.val, by omega⟩ d) (x : S1x128x128.Idx) :
    qP q x = G11 E ((Rect.unit (s := S8x256x640) ![t.val, 0, o] S1x128x128.size inb).emb x) := by
  subst ho
  have x0 : (x 0).val < 1 := (x 0).isLt
  have x2 : (x 2).val < 128 := (x 2).isLt
  rw [G11_lt E _ r ⟨128 * t.val + (x 2).val, by omega⟩ ⟨(x 1).val, (x 1).isLt⟩ (by show (128 * r.val + 1 * (x 2).val) / 128 = r.val; omega)
    (by show 128 * (t.val + 1 * (x 0).val) + (128 * r.val + 1 * (x 2).val) % 128 = 128 * t.val + (x 2).val; omega) (by show 0 + 1 * (x 1).val = (x 1).val; omega)]
  refine (congrArg (qP q) (idx3_eta x)).trans ?_
  pointwise [qP]
  exact hq _ _

theorem pQM (t : Fin 8) (r : Fin 5) (o : ℕ) (ho : o = 128 * r.val) (inb) (x : S1x128x128.Idx) :
    qP (eyeM (F := Ideal)) x = G11 E ((Rect.unit (s := S8x256x640) ![t.val, 128, o] S1x128x128.size inb).emb x) := by
  subst ho
  have x2 : (x 2).val < 128 := (x 2).isLt
  rw [G11_ge E _ ⟨(x 1).val, (x 1).isLt⟩ ⟨(x 2).val, (x 2).isLt⟩ (by show 128 + 1 * (x 1).val = 128 + (x 1).val; omega)
    (by show (128 * r.val + 1 * (x 2).val) % 128 = (x 2).val; omega)]
  refine (congrArg (qP (eyeM (F := Ideal))) (idx3_eta x)).trans ?_
  pointwise [qP]

theorem hA_agree : ∀ p ∈ hA E, ∀ x : p.1.shape.Idx, p.2 x = G12 E (p.1.emb x) :=
  fc ⟨pAM E 3 inb_S4x256x256_S1x256x128_3_0_128,
    fc ⟨pA E 3 inb_S4x256x256_S1x256x128_3_0_0 _ (kT3_apply E),
    fc ⟨pAM E 2 inb_S4x256x256_S1x256x128_2_0_128,
    fc ⟨pA E 2 inb_S4x256x256_S1x256x128_2_0_0 _ (kT2_apply E),
    fc ⟨pAM E 1 inb_S4x256x256_S1x256x128_1_0_128,
    fc ⟨pA E 1 inb_S4x256x256_S1x256x128_1_0_0 _ (kT1_apply E),
    fc ⟨pAM E 0 inb_S4x256x256_S1x256x128_0_0_128,
    fc ⟨pA E 0 inb_S4x256x256_S1x256x128_0_0_0 _ (kT0_apply E),
    fun p hp => absurd hp List.not_mem_nil⟩⟩⟩⟩⟩⟩⟩⟩

theorem hA_cover (y) : ∃ p ∈ hA E, y ∈ p.1.set :=
  View.cover_of_tiledL (hA E) S1x256x128.size (by sl_kernel_rfl) y

theorem rcA {κ : Kind} {sp : Space} (v : View sig κ sp S4x256x256 .bf16) (r : Rect S4x256x256) (i : r.shape.Idx) : v.readCov (hA E) r.toLoadRect i = G12 E (r.emb i) :=
  readCov_eq _ _ (G12 E) (hA_agree E) (hA_cover E) r i

theorem hB_agree : ∀ p ∈ hB E, ∀ x : p.1.shape.Idx, p.2 x = G13 E (p.1.emb x) :=
  fc ⟨pBM E 3 inb_S4x128x256_S1x128x128_3_0_128,
    fc ⟨pB E 3 inb_S4x128x256_S1x128x128_3_0_0 _ (kT3_apply E),
    fc ⟨pBM E 2 inb_S4x128x256_S1x128x128_2_0_128,
    fc ⟨pB E 2 inb_S4x128x256_S1x128x128_2_0_0 _ (kT2_apply E),
    fc ⟨pBM E 1 inb_S4x128x256_S1x128x128_1_0_128,
    fc ⟨pB E 1 inb_S4x128x256_S1x128x128_1_0_0 _ (kT1_apply E),
    fc ⟨pBM E 0 inb_S4x128x256_S1x128x128_0_0_128,
    fc ⟨pB E 0 inb_S4x128x256_S1x128x128_0_0_0 _ (kT0_apply E),
    fun p hp => absurd hp List.not_mem_nil⟩⟩⟩⟩⟩⟩⟩⟩

theorem hB_cover (y) : ∃ p ∈ hB E, y ∈ p.1.set :=
  View.cover_of_tiledL (hB E) S1x128x128.size (by sl_kernel_rfl) y

theorem rcB {κ : Kind} {sp : Space} (v : View sig κ sp S4x128x256 .bf16) (r : Rect S4x128x256) (i : r.shape.Idx) : v.readCov (hB E) r.toLoadRect i = G13 E (r.emb i) :=
  readCov_eq _ _ (G13 E) (hB_agree E) (hB_cover E) r i

theorem hVA_agree : ∀ p ∈ hVA E, ∀ x : p.1.shape.Idx, p.2 x = G14 E (p.1.emb x) :=
  fc ⟨pVA E 3 inb_S4x128x256_S1x128x256_3_0_0 _ (vT3_apply E),
    fc ⟨pVA E 2 inb_S4x128x256_S1x128x256_2_0_0 _ (vT2_apply E),
    fc ⟨pVA E 1 inb_S4x128x256_S1x128x256_1_0_0 _ (vT1_apply E),
    fc ⟨pVA E 0 inb_S4x128x256_S1x128x256_0_0_0 _ (vT0_apply E),
    fun p hp => absurd hp List.not_mem_nil⟩⟩⟩⟩

theorem hVA_cover (y) : ∃ p ∈ hVA E, y ∈ p.1.set :=
  View.cover_of_tiledL (hVA E) S1x128x256.size (by sl_kernel_rfl) y

theorem rcVA {κ : Kind} {sp : Space} (v : View sig κ sp S4x128x256 .bf16) (r : Rect S4x128x256) (i : r.shape.Idx) : v.readCov (hVA E) r.toLoadRect i = G14 E (r.emb i) :=
  readCov_eq _ _ (G14 E) (hVA_agree E) (hVA_cover E) r i

theorem hVB_agree : ∀ p ∈ hVB E, ∀ x : p.1.shape.Idx, p.2 x = G15 E (p.1.emb x) :=
  fc ⟨pVB E 3 inb_S4x128x128_S1x128x128_3_0_0 _ (vT3_apply E),
    fc ⟨pVB E 2 inb_S4x128x128_S1x128x128_2_0_0 _ (vT2_apply E),
    fc ⟨pVB E 1 inb_S4x128x128_S1x128x128_1_0_0 _ (vT1_apply E),
    fc ⟨pVB E 0 inb_S4x128x128_S1x128x128_0_0_0 _ (vT0_apply E),
    fun p hp => absurd hp List.not_mem_nil⟩⟩⟩⟩

theorem hVB_cover (y) : ∃ p ∈ hVB E, y ∈ p.1.set :=
  View.cover_of_tiledL (hVB E) S1x128x128.size (by sl_kernel_rfl) y

theorem rcVB {κ : Kind} {sp : Space} (v : View sig κ sp S4x128x128 .bf16) (r : Rect S4x128x128) (i : r.shape.Idx) : v.readCov (hVB E) r.toLoadRect i = G15 E (r.emb i) :=
  readCov_eq _ _ (G15 E) (hVB_agree E) (hVB_cover E) r i

theorem hQ_agree : ∀ p ∈ hQ E, ∀ x : p.1.shape.Idx, p.2 x = G11 E (p.1.emb x) :=
  fc ⟨pQM E 7 4 512 rfl inb_S8x256x640_S1x128x128_7_128_512,
    fc ⟨pQ E 7 4 512 rfl inb_S8x256x640_S1x128x128_7_0_512 _ (qT4_7_apply E),
    fc ⟨pQM E 6 4 512 rfl inb_S8x256x640_S1x128x128_6_128_512,
    fc ⟨pQ E 6 4 512 rfl inb_S8x256x640_S1x128x128_6_0_512 _ (qT4_6_apply E),
    fc ⟨pQM E 5 4 512 rfl inb_S8x256x640_S1x128x128_5_128_512,
    fc ⟨pQ E 5 4 512 rfl inb_S8x256x640_S1x128x128_5_0_512 _ (qT4_5_apply E),
    fc ⟨pQM E 4 4 512 rfl inb_S8x256x640_S1x128x128_4_128_512,
    fc ⟨pQ E 4 4 512 rfl inb_S8x256x640_S1x128x128_4_0_512 _ (qT4_4_apply E),
    fc ⟨pQM E 3 4 512 rfl inb_S8x256x640_S1x128x128_3_128_512,
    fc ⟨pQ E 3 4 512 rfl inb_S8x256x640_S1x128x128_3_0_512 _ (qT4_3_apply E),
    fc ⟨pQM E 2 4 512 rfl inb_S8x256x640_S1x128x128_2_128_512,
    fc ⟨pQ E 2 4 512 rfl inb_S8x256x640_S1x128x128_2_0_512 _ (qT4_2_apply E),
    fc ⟨pQM E 1 4 512 rfl inb_S8x256x640_S1x128x128_1_128_512,
    fc ⟨pQ E 1 4 512 rfl inb_S8x256x640_S1x128x128_1_0_512 _ (qT4_1_apply E),
    fc ⟨pQM E 0 4 512 rfl inb_S8x256x640_S1x128x128_0_128_512,
    fc ⟨pQ E 0 4 512 rfl inb_S8x256x640_S1x128x128_0_0_512 _ (qT4_0_apply E),
    fc ⟨pQM E 7 3 384 rfl inb_S8x256x640_S1x128x128_7_128_384,
    fc ⟨pQ E 7 3 384 rfl inb_S8x256x640_S1x128x128_7_0_384 _ (qT3_7_apply E),
    fc ⟨pQM E 6 3 384 rfl inb_S8x256x640_S1x128x128_6_128_384,
    fc ⟨pQ E 6 3 384 rfl inb_S8x256x640_S1x128x128_6_0_384 _ (qT3_6_apply E),
    fc ⟨pQM E 5 3 384 rfl inb_S8x256x640_S1x128x128_5_128_384,
    fc ⟨pQ E 5 3 384 rfl inb_S8x256x640_S1x128x128_5_0_384 _ (qT3_5_apply E),
    fc ⟨pQM E 4 3 384 rfl inb_S8x256x640_S1x128x128_4_128_384,
    fc ⟨pQ E 4 3 384 rfl inb_S8x256x640_S1x128x128_4_0_384 _ (qT3_4_apply E),
    fc ⟨pQM E 3 3 384 rfl inb_S8x256x640_S1x128x128_3_128_384,
    fc ⟨pQ E 3 3 384 rfl inb_S8x256x640_S1x128x128_3_0_384 _ (qT3_3_apply E),
    fc ⟨pQM E 2 3 384 rfl inb_S8x256x640_S1x128x128_2_128_384,
    fc ⟨pQ E 2 3 384 rfl inb_S8x256x640_S1x128x128_2_0_384 _ (qT3_2_apply E),
    fc ⟨pQM E 1 3 384 rfl inb_S8x256x640_S1x128x128_1_128_384,
    fc ⟨pQ E 1 3 384 rfl inb_S8x256x640_S1x128x128_1_0_384 _ (qT3_1_apply E),
    fc ⟨pQM E 0 3 384 rfl inb_S8x256x640_S1x128x128_0_128_384,
    fc ⟨pQ E 0 3 384 rfl inb_S8x256x640_S1x128x128_0_0_384 _ (qT3_0_apply E),
    fc ⟨pQM E 7 2 256 rfl inb_S8x256x640_S1x128x128_7_128_256,
    fc ⟨pQ E 7 2 256 rfl inb_S8x256x640_S1x128x128_7_0_256 _ (qT2_7_apply E),
    fc ⟨pQM E 6 2 256 rfl inb_S8x256x640_S1x128x128_6_128_256,
    fc ⟨pQ E 6 2 256 rfl inb_S8x256x640_S1x128x128_6_0_256 _ (qT2_6_apply E),
    fc ⟨pQM E 5 2 256 rfl inb_S8x256x640_S1x128x128_5_128_256,
    fc ⟨pQ E 5 2 256 rfl inb_S8x256x640_S1x128x128_5_0_256 _ (qT2_5_apply E),
    fc ⟨pQM E 4 2 256 rfl inb_S8x256x640_S1x128x128_4_128_256,
    fc ⟨pQ E 4 2 256 rfl inb_S8x256x640_S1x128x128_4_0_256 _ (qT2_4_apply E),
    fc ⟨pQM E 3 2 256 rfl inb_S8x256x640_S1x128x128_3_128_256,
    fc ⟨pQ E 3 2 256 rfl inb_S8x256x640_S1x128x128_3_0_256 _ (qT2_3_apply E),
    fc ⟨pQM E 2 2 256 rfl inb_S8x256x640_S1x128x128_2_128_256,
    fc ⟨pQ E 2 2 256 rfl inb_S8x256x640_S1x128x128_2_0_256 _ (qT2_2_apply E),
    fc ⟨pQM E 1 2 256 rfl inb_S8x256x640_S1x128x128_1_128_256,
    fc ⟨pQ E 1 2 256 rfl inb_S8x256x640_S1x128x128_1_0_256 _ (qT2_1_apply E),
    fc ⟨pQM E 0 2 256 rfl inb_S8x256x640_S1x128x128_0_128_256,
    fc ⟨pQ E 0 2 256 rfl inb_S8x256x640_S1x128x128_0_0_256 _ (qT2_0_apply E),
    fc ⟨pQM E 7 1 128 rfl inb_S8x256x640_S1x128x128_7_128_128,
    fc ⟨pQ E 7 1 128 rfl inb_S8x256x640_S1x128x128_7_0_128 _ (qT1_7_apply E),
    fc ⟨pQM E 6 1 128 rfl inb_S8x256x640_S1x128x128_6_128_128,
    fc ⟨pQ E 6 1 128 rfl inb_S8x256x640_S1x128x128_6_0_128 _ (qT1_6_apply E),
    fc ⟨pQM E 5 1 128 rfl inb_S8x256x640_S1x128x128_5_128_128,
    fc ⟨pQ E 5 1 128 rfl inb_S8x256x640_S1x128x128_5_0_128 _ (qT1_5_apply E),
    fc ⟨pQM E 4 1 128 rfl inb_S8x256x640_S1x128x128_4_128_128,
    fc ⟨pQ E 4 1 128 rfl inb_S8x256x640_S1x128x128_4_0_128 _ (qT1_4_apply E),
    fc ⟨pQM E 3 1 128 rfl inb_S8x256x640_S1x128x128_3_128_128,
    fc ⟨pQ E 3 1 128 rfl inb_S8x256x640_S1x128x128_3_0_128 _ (qT1_3_apply E),
    fc ⟨pQM E 2 1 128 rfl inb_S8x256x640_S1x128x128_2_128_128,
    fc ⟨pQ E 2 1 128 rfl inb_S8x256x640_S1x128x128_2_0_128 _ (qT1_2_apply E),
    fc ⟨pQM E 1 1 128 rfl inb_S8x256x640_S1x128x128_1_128_128,
    fc ⟨pQ E 1 1 128 rfl inb_S8x256x640_S1x128x128_1_0_128 _ (qT1_1_apply E),
    fc ⟨pQM E 0 1 128 rfl inb_S8x256x640_S1x128x128_0_128_128,
    fc ⟨pQ E 0 1 128 rfl inb_S8x256x640_S1x128x128_0_0_128 _ (qT1_0_apply E),
    fc ⟨pQM E 7 0 0 rfl inb_S8x256x640_S1x128x128_7_128_0,
    fc ⟨pQ E 7 0 0 rfl inb_S8x256x640_S1x128x128_7_0_0 _ (qT0_7_apply E),
    fc ⟨pQM E 6 0 0 rfl inb_S8x256x640_S1x128x128_6_128_0,
    fc ⟨pQ E 6 0 0 rfl inb_S8x256x640_S1x128x128_6_0_0 _ (qT0_6_apply E),
    fc ⟨pQM E 5 0 0 rfl inb_S8x256x640_S1x128x128_5_128_0,
    fc ⟨pQ E 5 0 0 rfl inb_S8x256x640_S1x128x128_5_0_0 _ (qT0_5_apply E),
    fc ⟨pQM E 4 0 0 rfl inb_S8x256x640_S1x128x128_4_128_0,
    fc ⟨pQ E 4 0 0 rfl inb_S8x256x640_S1x128x128_4_0_0 _ (qT0_4_apply E),
    fc ⟨pQM E 3 0 0 rfl inb_S8x256x640_S1x128x128_3_128_0,
    fc ⟨pQ E 3 0 0 rfl inb_S8x256x640_S1x128x128_3_0_0 _ (qT0_3_apply E),
    fc ⟨pQM E 2 0 0 rfl inb_S8x256x640_S1x128x128_2_128_0,
    fc ⟨pQ E 2 0 0 rfl inb_S8x256x640_S1x128x128_2_0_0 _ (qT0_2_apply E),
    fc ⟨pQM E 1 0 0 rfl inb_S8x256x640_S1x128x128_1_128_0,
    fc ⟨pQ E 1 0 0 rfl inb_S8x256x640_S1x128x128_1_0_0 _ (qT0_1_apply E),
    fc ⟨pQM E 0 0 0 rfl inb_S8x256x640_S1x128x128_0_128_0,
    fc ⟨pQ E 0 0 0 rfl inb_S8x256x640_S1x128x128_0_0_0 _ (qT0_0_apply E),
    fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

theorem hQ_cover (y) : ∃ p ∈ hQ E, y ∈ p.1.set :=
  View.cover_of_tiledL (hQ E) S1x128x128.size (by sl_kernel_rfl) y

theorem rcQ {κ : Kind} {sp : Space} (v : View sig κ sp S8x256x640 .bf16) (r : Rect S8x256x640) (i : r.shape.Idx) : v.readCov (hQ E) r.toLoadRect i = G11 E (r.emb i) :=
  readCov_eq _ _ (G11 E) (hQ_agree E) (hQ_cover E) r i

theorem drop_256_128 (f : S1x256x128.Idx → EReal) (h) (x : Fin 256) (y : Fin 128) : shapeCast S256x128 f h (ix2 x y) = f (ix3 (0 : Fin 1) x y) := by
  pointwise

theorem drop_256_256 (f : S1x256x256.Idx → EReal) (h) (x : Fin 256) (y : Fin 256) : shapeCast S256x256 f h (ix2 x y) = f (ix3 (0 : Fin 1) x y) := by
  pointwise

theorem drop_128_256 (f : S1x128x256.Idx → EReal) (h) (x : Fin 128) (y : Fin 256) : shapeCast S128x256 f h (ix2 x y) = f (ix3 (0 : Fin 1) x y) := by
  pointwise

theorem drop_128_128 (f : S1x128x128.Idx → EReal) (h) (x : Fin 128) (y : Fin 128) : shapeCast S128x128 f h (ix2 x y) = f (ix3 (0 : Fin 1) x y) := by
  pointwise

theorem rkA0_apply (x : Fin 256) (d : Fin 128) : rkA0 E (ix2 x d) = Kf E (keyw 0 x) d := by
  unfold rkA0
  rw [drop_256_128, rcA E]
  exact G12_lt E _ 0 x d (by show 0 + 1 * 0 = 0; omega) (z1 x.val) (z1 d.val)

theorem rkM0_lo (x : Fin 256) (d : Fin 128) : rkM0 E (ix2 x ⟨d.val, by omega⟩) = Kf E (keyw 0 x) d := by
  unfold rkM0
  rw [drop_256_256, rcA E]
  exact G12_lt E _ 0 x d (by show 0 + 1 * 0 = 0; omega) (z1 x.val) (z1 d.val)

theorem rkM0_hi (x : Fin 256) (d : Fin 128) : rkM0 E (ix2 x ⟨128 + d.val, by omega⟩) = maskA (F := Ideal) (ix2 x d) := by
  unfold rkM0
  rw [drop_256_256, rcA E]
  exact G12_ge E _ x d (z1 x.val) (z1 (128 + d.val))

theorem rkB0_lo (x d : Fin 128) : rkB0 E (ix2 x ⟨d.val, by omega⟩) = Kf E (keyn 0 x) d := by
  unfold rkB0
  rw [drop_128_256, rcB E]
  exact G13_lt E _ 0 x d (by show 0 + 1 * 0 = 0; omega) (z1 x.val) (z1 d.val)

theorem rkB0_hi (x d : Fin 128) : rkB0 E (ix2 x ⟨128 + d.val, by omega⟩) = maskB (F := Ideal) (ix2 x d) := by
  unfold rkB0
  rw [drop_128_256, rcB E]
  exact G13_ge E _ x d (z1 x.val) (z1 (128 + d.val))

theorem rvA0_apply (d : Fin 128) (x : Fin 256) : rvA0 E (ix2 d x) = Vf E (keyw 0 x) d := by
  unfold rvA0
  rw [drop_128_256, rcVA E]
  exact G14_eq E _ 0 x d (by show 0 + 1 * 0 = 0; omega) (z1 d.val) (z1 x.val)

theorem rvB0_apply (d x : Fin 128) : rvB0 E (ix2 d x) = Vf E (keyn 0 x) d := by
  unfold rvB0
  rw [drop_128_128, rcVB E]
  exact G15_eq E _ 0 x d (by show 0 + 1 * 0 = 0; omega) (z1 d.val) (z1 x.val)

theorem rkA1_apply (x : Fin 256) (d : Fin 128) : rkA1 E (ix2 x d) = Kf E (keyw 1 x) d := by
  unfold rkA1
  rw [drop_256_128, rcA E]
  exact G12_lt E _ 1 x d (by show 1 + 1 * 0 = 1; omega) (z1 x.val) (z1 d.val)

theorem rkM1_lo (x : Fin 256) (d : Fin 128) : rkM1 E (ix2 x ⟨d.val, by omega⟩) = Kf E (keyw 1 x) d := by
  unfold rkM1
  rw [drop_256_256, rcA E]
  exact G12_lt E _ 1 x d (by show 1 + 1 * 0 = 1; omega) (z1 x.val) (z1 d.val)

theorem rkM1_hi (x : Fin 256) (d : Fin 128) : rkM1 E (ix2 x ⟨128 + d.val, by omega⟩) = maskA (F := Ideal) (ix2 x d) := by
  unfold rkM1
  rw [drop_256_256, rcA E]
  exact G12_ge E _ x d (z1 x.val) (z1 (128 + d.val))

theorem rkB1_lo (x d : Fin 128) : rkB1 E (ix2 x ⟨d.val, by omega⟩) = Kf E (keyn 1 x) d := by
  unfold rkB1
  rw [drop_128_256, rcB E]
  exact G13_lt E _ 1 x d (by show 1 + 1 * 0 = 1; omega) (z1 x.val) (z1 d.val)

theorem rkB1_hi (x d : Fin 128) : rkB1 E (ix2 x ⟨128 + d.val, by omega⟩) = maskB (F := Ideal) (ix2 x d) := by
  unfold rkB1
  rw [drop_128_256, rcB E]
  exact G13_ge E _ x d (z1 x.val) (z1 (128 + d.val))

theorem rvA1_apply (d : Fin 128) (x : Fin 256) : rvA1 E (ix2 d x) = Vf E (keyw 1 x) d := by
  unfold rvA1
  rw [drop_128_256, rcVA E]
  exact G14_eq E _ 1 x d (by show 1 + 1 * 0 = 1; omega) (z1 d.val) (z1 x.val)

theorem rvB1_apply (d x : Fin 128) : rvB1 E (ix2 d x) = Vf E (keyn 1 x) d := by
  unfold rvB1
  rw [drop_128_128, rcVB E]
  exact G15_eq E _ 1 x d (by show 1 + 1 * 0 = 1; omega) (z1 d.val) (z1 x.val)

theorem rkA2_apply (x : Fin 256) (d : Fin 128) : rkA2 E (ix2 x d) = Kf E (keyw 2 x) d := by
  unfold rkA2
  rw [drop_256_128, rcA E]
  exact G12_lt E _ 2 x d (by show 2 + 1 * 0 = 2; omega) (z1 x.val) (z1 d.val)

theorem rkM2_lo (x : Fin 256) (d : Fin 128) : rkM2 E (ix2 x ⟨d.val, by omega⟩) = Kf E (keyw 2 x) d := by
  unfold rkM2
  rw [drop_256_256, rcA E]
  exact G12_lt E _ 2 x d (by show 2 + 1 * 0 = 2; omega) (z1 x.val) (z1 d.val)

theorem rkM2_hi (x : Fin 256) (d : Fin 128) : rkM2 E (ix2 x ⟨128 + d.val, by omega⟩) = maskA (F := Ideal) (ix2 x d) := by
  unfold rkM2
  rw [drop_256_256, rcA E]
  exact G12_ge E _ x d (z1 x.val) (z1 (128 + d.val))

theorem rkB2_lo (x d : Fin 128) : rkB2 E (ix2 x ⟨d.val, by omega⟩) = Kf E (keyn 2 x) d := by
  unfold rkB2
  rw [drop_128_256, rcB E]
  exact G13_lt E _ 2 x d (by show 2 + 1 * 0 = 2; omega) (z1 x.val) (z1 d.val)

theorem rkB2_hi (x d : Fin 128) : rkB2 E (ix2 x ⟨128 + d.val, by omega⟩) = maskB (F := Ideal) (ix2 x d) := by
  unfold rkB2
  rw [drop_128_256, rcB E]
  exact G13_ge E _ x d (z1 x.val) (z1 (128 + d.val))

theorem rvA2_apply (d : Fin 128) (x : Fin 256) : rvA2 E (ix2 d x) = Vf E (keyw 2 x) d := by
  unfold rvA2
  rw [drop_128_256, rcVA E]
  exact G14_eq E _ 2 x d (by show 2 + 1 * 0 = 2; omega) (z1 d.val) (z1 x.val)

theorem rvB2_apply (d x : Fin 128) : rvB2 E (ix2 d x) = Vf E (keyn 2 x) d := by
  unfold rvB2
  rw [drop_128_128, rcVB E]
  exact G15_eq E _ 2 x d (by show 2 + 1 * 0 = 2; omega) (z1 d.val) (z1 x.val)

theorem rkA3_apply (x : Fin 256) (d : Fin 128) : rkA3 E (ix2 x d) = Kf E (keyw 3 x) d := by
  unfold rkA3
  rw [drop_256_128, rcA E]
  exact G12_lt E _ 3 x d (by show 3 + 1 * 0 = 3; omega) (z1 x.val) (z1 d.val)

theorem rkM3_lo (x : Fin 256) (d : Fin 128) : rkM3 E (ix2 x ⟨d.val, by omega⟩) = Kf E (keyw 3 x) d := by
  unfold rkM3
  rw [drop_256_256, rcA E]
  exact G12_lt E _ 3 x d (by show 3 + 1 * 0 = 3; omega) (z1 x.val) (z1 d.val)

theorem rkM3_hi (x : Fin 256) (d : Fin 128) : rkM3 E (ix2 x ⟨128 + d.val, by omega⟩) = maskA (F := Ideal) (ix2 x d) := by
  unfold rkM3
  rw [drop_256_256, rcA E]
  exact G12_ge E _ x d (z1 x.val) (z1 (128 + d.val))

theorem rkB3_lo (x d : Fin 128) : rkB3 E (ix2 x ⟨d.val, by omega⟩) = Kf E (keyn 3 x) d := by
  unfold rkB3
  rw [drop_128_256, rcB E]
  exact G13_lt E _ 3 x d (by show 3 + 1 * 0 = 3; omega) (z1 x.val) (z1 d.val)

theorem rkB3_hi (x d : Fin 128) : rkB3 E (ix2 x ⟨128 + d.val, by omega⟩) = maskB (F := Ideal) (ix2 x d) := by
  unfold rkB3
  rw [drop_128_256, rcB E]
  exact G13_ge E _ x d (z1 x.val) (z1 (128 + d.val))

theorem rvA3_apply (d : Fin 128) (x : Fin 256) : rvA3 E (ix2 d x) = Vf E (keyw 3 x) d := by
  unfold rvA3
  rw [drop_128_256, rcVA E]
  exact G14_eq E _ 3 x d (by show 3 + 1 * 0 = 3; omega) (z1 d.val) (z1 x.val)

theorem rvB3_apply (d x : Fin 128) : rvB3 E (ix2 d x) = Vf E (keyn 3 x) d := by
  unfold rvB3
  rw [drop_128_128, rcVB E]
  exact G15_eq E _ 3 x d (by show 3 + 1 * 0 = 3; omega) (z1 d.val) (z1 x.val)

theorem rqm0_0_lo (d : Fin 128) (c : Fin 256) (r : Fin 5) (q : Fin 1024) (hr : r.val = 0 + c.val / 128) (hq : q.val = 0 + c.val % 128) : rqm0_0 E (ix2 ⟨d.val, by omega⟩ c) = Qf E r q d := by
  unfold rqm0_0
  rw [drop_256_256, rcQ E]
  exact G11_lt E _ r q d (by show (0 + 1 * c.val) / 128 = r.val; omega) (by show 128 * (0 + 1 * 0) + (0 + 1 * c.val) % 128 = q.val; omega) (z1 d.val)

theorem rqm0_0_hi (d : Fin 128) (c : Fin 256) : rqm0_0 E (ix2 ⟨128 + d.val, by omega⟩ c) = eyeM (F := Ideal) (ix2 d ⟨c.val % 128, by omega⟩) := by
  unfold rqm0_0
  rw [drop_256_256, rcQ E]
  exact G11_ge E _ d _ (z1 (128 + d.val)) (by show (0 + 1 * c.val) % 128 = c.val % 128; omega)

theorem rqm0_2_lo (d : Fin 128) (c : Fin 256) (r : Fin 5) (q : Fin 1024) (hr : r.val = 2 + c.val / 128) (hq : q.val = 0 + c.val % 128) : rqm0_2 E (ix2 ⟨d.val, by omega⟩ c) = Qf E r q d := by
  unfold rqm0_2
  rw [drop_256_256, rcQ E]
  exact G11_lt E _ r q d (by show (256 + 1 * c.val) / 128 = r.val; omega) (by show 128 * (0 + 1 * 0) + (256 + 1 * c.val) % 128 = q.val; omega) (z1 d.val)

theorem rqm0_2_hi (d : Fin 128) (c : Fin 256) : rqm0_2 E (ix2 ⟨128 + d.val, by omega⟩ c) = eyeM (F := Ideal) (ix2 d ⟨c.val % 128, by omega⟩) := by
  unfold rqm0_2
  rw [drop_256_256, rcQ E]
  exact G11_ge E _ d _ (z1 (128 + d.val)) (by show (256 + 1 * c.val) % 128 = c.val % 128; omega)

theorem rqm0_4_lo (d : Fin 128) (c : Fin 128) (r : Fin 5) (q : Fin 1024) (hr : r.val = 4 + c.val / 128) (hq : q.val = 0 + c.val % 128) : rqm0_4 E (ix2 ⟨d.val, by omega⟩ c) = Qf E r q d := by
  unfold rqm0_4
  rw [drop_256_128, rcQ E]
  exact G11_lt E _ r q d (by show (512 + 1 * c.val) / 128 = r.val; omega) (by show 128 * (0 + 1 * 0) + (512 + 1 * c.val) % 128 = q.val; omega) (z1 d.val)

theorem rqm0_4_hi (d : Fin 128) (c : Fin 128) : rqm0_4 E (ix2 ⟨128 + d.val, by omega⟩ c) = eyeM (F := Ideal) (ix2 d ⟨c.val % 128, by omega⟩) := by
  unfold rqm0_4
  rw [drop_256_128, rcQ E]
  exact G11_ge E _ d _ (z1 (128 + d.val)) (by show (512 + 1 * c.val) % 128 = c.val % 128; omega)

theorem rqm1_0_lo (d : Fin 128) (c : Fin 256) (r : Fin 5) (q : Fin 1024) (hr : r.val = 0 + c.val / 128) (hq : q.val = 128 + c.val % 128) : rqm1_0 E (ix2 ⟨d.val, by omega⟩ c) = Qf E r q d := by
  unfold rqm1_0
  rw [drop_256_256, rcQ E]
  exact G11_lt E _ r q d (by show (0 + 1 * c.val) / 128 = r.val; omega) (by show 128 * (1 + 1 * 0) + (0 + 1 * c.val) % 128 = q.val; omega) (z1 d.val)

theorem rqm1_0_hi (d : Fin 128) (c : Fin 256) : rqm1_0 E (ix2 ⟨128 + d.val, by omega⟩ c) = eyeM (F := Ideal) (ix2 d ⟨c.val % 128, by omega⟩) := by
  unfold rqm1_0
  rw [drop_256_256, rcQ E]
  exact G11_ge E _ d _ (z1 (128 + d.val)) (by show (0 + 1 * c.val) % 128 = c.val % 128; omega)

theorem rqm1_2_lo (d : Fin 128) (c : Fin 256) (r : Fin 5) (q : Fin 1024) (hr : r.val = 2 + c.val / 128) (hq : q.val = 128 + c.val % 128) : rqm1_2 E (ix2 ⟨d.val, by omega⟩ c) = Qf E r q d := by
  unfold rqm1_2
  rw [drop_256_256, rcQ E]
  exact G11_lt E _ r q d (by show (256 + 1 * c.val) / 128 = r.val; omega) (by show 128 * (1 + 1 * 0) + (256 + 1 * c.val) % 128 = q.val; omega) (z1 d.val)

theorem rqm1_2_hi (d : Fin 128) (c : Fin 256) : rqm1_2 E (ix2 ⟨128 + d.val, by omega⟩ c) = eyeM (F := Ideal) (ix2 d ⟨c.val % 128, by omega⟩) := by
  unfold rqm1_2
  rw [drop_256_256, rcQ E]
  exact G11_ge E _ d _ (z1 (128 + d.val)) (by show (256 + 1 * c.val) % 128 = c.val % 128; omega)

theorem rqm1_4_lo (d : Fin 128) (c : Fin 128) (r : Fin 5) (q : Fin 1024) (hr : r.val = 4 + c.val / 128) (hq : q.val = 128 + c.val % 128) : rqm1_4 E (ix2 ⟨d.val, by omega⟩ c) = Qf E r q d := by
  unfold rqm1_4
  rw [drop_256_128, rcQ E]
  exact G11_lt E _ r q d (by show (512 + 1 * c.val) / 128 = r.val; omega) (by show 128 * (1 + 1 * 0) + (512 + 1 * c.val) % 128 = q.val; omega) (z1 d.val)

theorem rqm1_4_hi (d : Fin 128) (c : Fin 128) : rqm1_4 E (ix2 ⟨128 + d.val, by omega⟩ c) = eyeM (F := Ideal) (ix2 d ⟨c.val % 128, by omega⟩) := by
  unfold rqm1_4
  rw [drop_256_128, rcQ E]
  exact G11_ge E _ d _ (z1 (128 + d.val)) (by show (512 + 1 * c.val) % 128 = c.val % 128; omega)

theorem rq2_0_apply (d : Fin 128) (c : Fin 256) (r : Fin 5) (q : Fin 1024) (hr : r.val = 0 + c.val / 128) (hq : q.val = 256 + c.val % 128) : rq2_0 E (ix2 d c) = Qf E r q d := by
  unfold rq2_0
  rw [drop_128_256, rcQ E]
  exact G11_lt E _ r q d (by show (0 + 1 * c.val) / 128 = r.val; omega) (by show 128 * (2 + 1 * 0) + (0 + 1 * c.val) % 128 = q.val; omega) (z1 d.val)

theorem rqm2_0_lo (d : Fin 128) (c : Fin 256) (r : Fin 5) (q : Fin 1024) (hr : r.val = 0 + c.val / 128) (hq : q.val = 256 + c.val % 128) : rqm2_0 E (ix2 ⟨d.val, by omega⟩ c) = Qf E r q d := by
  unfold rqm2_0
  rw [drop_256_256, rcQ E]
  exact G11_lt E _ r q d (by show (0 + 1 * c.val) / 128 = r.val; omega) (by show 128 * (2 + 1 * 0) + (0 + 1 * c.val) % 128 = q.val; omega) (z1 d.val)

theorem rqm2_0_hi (d : Fin 128) (c : Fin 256) : rqm2_0 E (ix2 ⟨128 + d.val, by omega⟩ c) = eyeM (F := Ideal) (ix2 d ⟨c.val % 128, by omega⟩) := by
  unfold rqm2_0
  rw [drop_256_256, rcQ E]
  exact G11_ge E _ d _ (z1 (128 + d.val)) (by show (0 + 1 * c.val) % 128 = c.val % 128; omega)

theorem rq2_2_apply (d : Fin 128) (c : Fin 256) (r : Fin 5) (q : Fin 1024) (hr : r.val = 2 + c.val / 128) (hq : q.val = 256 + c.val % 128) : rq2_2 E (ix2 d c) = Qf E r q d := by
  unfold rq2_2
  rw [drop_128_256, rcQ E]
  exact G11_lt E _ r q d (by show (256 + 1 * c.val) / 128 = r.val; omega) (by show 128 * (2 + 1 * 0) + (256 + 1 * c.val) % 128 = q.val; omega) (z1 d.val)

theorem rqm2_2_lo (d : Fin 128) (c : Fin 256) (r : Fin 5) (q : Fin 1024) (hr : r.val = 2 + c.val / 128) (hq : q.val = 256 + c.val % 128) : rqm2_2 E (ix2 ⟨d.val, by omega⟩ c) = Qf E r q d := by
  unfold rqm2_2
  rw [drop_256_256, rcQ E]
  exact G11_lt E _ r q d (by show (256 + 1 * c.val) / 128 = r.val; omega) (by show 128 * (2 + 1 * 0) + (256 + 1 * c.val) % 128 = q.val; omega) (z1 d.val)

theorem rqm2_2_hi (d : Fin 128) (c : Fin 256) : rqm2_2 E (ix2 ⟨128 + d.val, by omega⟩ c) = eyeM (F := Ideal) (ix2 d ⟨c.val % 128, by omega⟩) := by
  unfold rqm2_2
  rw [drop_256_256, rcQ E]
  exact G11_ge E _ d _ (z1 (128 + d.val)) (by show (256 + 1 * c.val) % 128 = c.val % 128; omega)

theorem rq2_4_apply (d : Fin 128) (c : Fin 128) (r : Fin 5) (q : Fin 1024) (hr : r.val = 4 + c.val / 128) (hq : q.val = 256 + c.val % 128) : rq2_4 E (ix2 d c) = Qf E r q d := by
  unfold rq2_4
  rw [drop_128_128, rcQ E]
  exact G11_lt E _ r q d (by show (512 + 1 * c.val) / 128 = r.val; omega) (by show 128 * (2 + 1 * 0) + (512 + 1 * c.val) % 128 = q.val; omega) (z1 d.val)

theorem rqm2_4_lo (d : Fin 128) (c : Fin 128) (r : Fin 5) (q : Fin 1024) (hr : r.val = 4 + c.val / 128) (hq : q.val = 256 + c.val % 128) : rqm2_4 E (ix2 ⟨d.val, by omega⟩ c) = Qf E r q d := by
  unfold rqm2_4
  rw [drop_256_128, rcQ E]
  exact G11_lt E _ r q d (by show (512 + 1 * c.val) / 128 = r.val; omega) (by show 128 * (2 + 1 * 0) + (512 + 1 * c.val) % 128 = q.val; omega) (z1 d.val)

theorem rqm2_4_hi (d : Fin 128) (c : Fin 128) : rqm2_4 E (ix2 ⟨128 + d.val, by omega⟩ c) = eyeM (F := Ideal) (ix2 d ⟨c.val % 128, by omega⟩) := by
  unfold rqm2_4
  rw [drop_256_128, rcQ E]
  exact G11_ge E _ d _ (z1 (128 + d.val)) (by show (512 + 1 * c.val) % 128 = c.val % 128; omega)

theorem rq3_0_apply (d : Fin 128) (c : Fin 256) (r : Fin 5) (q : Fin 1024) (hr : r.val = 0 + c.val / 128) (hq : q.val = 384 + c.val % 128) : rq3_0 E (ix2 d c) = Qf E r q d := by
  unfold rq3_0
  rw [drop_128_256, rcQ E]
  exact G11_lt E _ r q d (by show (0 + 1 * c.val) / 128 = r.val; omega) (by show 128 * (3 + 1 * 0) + (0 + 1 * c.val) % 128 = q.val; omega) (z1 d.val)

theorem rqm3_0_lo (d : Fin 128) (c : Fin 256) (r : Fin 5) (q : Fin 1024) (hr : r.val = 0 + c.val / 128) (hq : q.val = 384 + c.val % 128) : rqm3_0 E (ix2 ⟨d.val, by omega⟩ c) = Qf E r q d := by
  unfold rqm3_0
  rw [drop_256_256, rcQ E]
  exact G11_lt E _ r q d (by show (0 + 1 * c.val) / 128 = r.val; omega) (by show 128 * (3 + 1 * 0) + (0 + 1 * c.val) % 128 = q.val; omega) (z1 d.val)

theorem rqm3_0_hi (d : Fin 128) (c : Fin 256) : rqm3_0 E (ix2 ⟨128 + d.val, by omega⟩ c) = eyeM (F := Ideal) (ix2 d ⟨c.val % 128, by omega⟩) := by
  unfold rqm3_0
  rw [drop_256_256, rcQ E]
  exact G11_ge E _ d _ (z1 (128 + d.val)) (by show (0 + 1 * c.val) % 128 = c.val % 128; omega)

theorem rq3_2_apply (d : Fin 128) (c : Fin 256) (r : Fin 5) (q : Fin 1024) (hr : r.val = 2 + c.val / 128) (hq : q.val = 384 + c.val % 128) : rq3_2 E (ix2 d c) = Qf E r q d := by
  unfold rq3_2
  rw [drop_128_256, rcQ E]
  exact G11_lt E _ r q d (by show (256 + 1 * c.val) / 128 = r.val; omega) (by show 128 * (3 + 1 * 0) + (256 + 1 * c.val) % 128 = q.val; omega) (z1 d.val)

theorem rqm3_2_lo (d : Fin 128) (c : Fin 256) (r : Fin 5) (q : Fin 1024) (hr : r.val = 2 + c.val / 128) (hq : q.val = 384 + c.val % 128) : rqm3_2 E (ix2 ⟨d.val, by omega⟩ c) = Qf E r q d := by
  unfold rqm3_2
  rw [drop_256_256, rcQ E]
  exact G11_lt E _ r q d (by show (256 + 1 * c.val) / 128 = r.val; omega) (by show 128 * (3 + 1 * 0) + (256 + 1 * c.val) % 128 = q.val; omega) (z1 d.val)

theorem rqm3_2_hi (d : Fin 128) (c : Fin 256) : rqm3_2 E (ix2 ⟨128 + d.val, by omega⟩ c) = eyeM (F := Ideal) (ix2 d ⟨c.val % 128, by omega⟩) := by
  unfold rqm3_2
  rw [drop_256_256, rcQ E]
  exact G11_ge E _ d _ (z1 (128 + d.val)) (by show (256 + 1 * c.val) % 128 = c.val % 128; omega)

theorem rq3_4_apply (d : Fin 128) (c : Fin 128) (r : Fin 5) (q : Fin 1024) (hr : r.val = 4 + c.val / 128) (hq : q.val = 384 + c.val % 128) : rq3_4 E (ix2 d c) = Qf E r q d := by
  unfold rq3_4
  rw [drop_128_128, rcQ E]
  exact G11_lt E _ r q d (by show (512 + 1 * c.val) / 128 = r.val; omega) (by show 128 * (3 + 1 * 0) + (512 + 1 * c.val) % 128 = q.val; omega) (z1 d.val)

theorem rqm3_4_lo (d : Fin 128) (c : Fin 128) (r : Fin 5) (q : Fin 1024) (hr : r.val = 4 + c.val / 128) (hq : q.val = 384 + c.val % 128) : rqm3_4 E (ix2 ⟨d.val, by omega⟩ c) = Qf E r q d := by
  unfold rqm3_4
  rw [drop_256_128, rcQ E]
  exact G11_lt E _ r q d (by show (512 + 1 * c.val) / 128 = r.val; omega) (by show 128 * (3 + 1 * 0) + (512 + 1 * c.val) % 128 = q.val; omega) (z1 d.val)

theorem rqm3_4_hi (d : Fin 128) (c : Fin 128) : rqm3_4 E (ix2 ⟨128 + d.val, by omega⟩ c) = eyeM (F := Ideal) (ix2 d ⟨c.val % 128, by omega⟩) := by
  unfold rqm3_4
  rw [drop_256_128, rcQ E]
  exact G11_ge E _ d _ (z1 (128 + d.val)) (by show (512 + 1 * c.val) % 128 = c.val % 128; omega)

theorem rq4_0_apply (d : Fin 128) (c : Fin 256) (r : Fin 5) (q : Fin 1024) (hr : r.val = 0 + c.val / 128) (hq : q.val = 512 + c.val % 128) : rq4_0 E (ix2 d c) = Qf E r q d := by
  unfold rq4_0
  rw [drop_128_256, rcQ E]
  exact G11_lt E _ r q d (by show (0 + 1 * c.val) / 128 = r.val; omega) (by show 128 * (4 + 1 * 0) + (0 + 1 * c.val) % 128 = q.val; omega) (z1 d.val)

theorem rqm4_0_lo (d : Fin 128) (c : Fin 256) (r : Fin 5) (q : Fin 1024) (hr : r.val = 0 + c.val / 128) (hq : q.val = 512 + c.val % 128) : rqm4_0 E (ix2 ⟨d.val, by omega⟩ c) = Qf E r q d := by
  unfold rqm4_0
  rw [drop_256_256, rcQ E]
  exact G11_lt E _ r q d (by show (0 + 1 * c.val) / 128 = r.val; omega) (by show 128 * (4 + 1 * 0) + (0 + 1 * c.val) % 128 = q.val; omega) (z1 d.val)

theorem rqm4_0_hi (d : Fin 128) (c : Fin 256) : rqm4_0 E (ix2 ⟨128 + d.val, by omega⟩ c) = eyeM (F := Ideal) (ix2 d ⟨c.val % 128, by omega⟩) := by
  unfold rqm4_0
  rw [drop_256_256, rcQ E]
  exact G11_ge E _ d _ (z1 (128 + d.val)) (by show (0 + 1 * c.val) % 128 = c.val % 128; omega)

theorem rq4_2_apply (d : Fin 128) (c : Fin 256) (r : Fin 5) (q : Fin 1024) (hr : r.val = 2 + c.val / 128) (hq : q.val = 512 + c.val % 128) : rq4_2 E (ix2 d c) = Qf E r q d := by
  unfold rq4_2
  rw [drop_128_256, rcQ E]
  exact G11_lt E _ r q d (by show (256 + 1 * c.val) / 128 = r.val; omega) (by show 128 * (4 + 1 * 0) + (256 + 1 * c.val) % 128 = q.val; omega) (z1 d.val)

theorem rqm4_2_lo (d : Fin 128) (c : Fin 256) (r : Fin 5) (q : Fin 1024) (hr : r.val = 2 + c.val / 128) (hq : q.val = 512 + c.val % 128) : rqm4_2 E (ix2 ⟨d.val, by omega⟩ c) = Qf E r q d := by
  unfold rqm4_2
  rw [drop_256_256, rcQ E]
  exact G11_lt E _ r q d (by show (256 + 1 * c.val) / 128 = r.val; omega) (by show 128 * (4 + 1 * 0) + (256 + 1 * c.val) % 128 = q.val; omega) (z1 d.val)

theorem rqm4_2_hi (d : Fin 128) (c : Fin 256) : rqm4_2 E (ix2 ⟨128 + d.val, by omega⟩ c) = eyeM (F := Ideal) (ix2 d ⟨c.val % 128, by omega⟩) := by
  unfold rqm4_2
  rw [drop_256_256, rcQ E]
  exact G11_ge E _ d _ (z1 (128 + d.val)) (by show (256 + 1 * c.val) % 128 = c.val % 128; omega)

theorem rq4_4_apply (d : Fin 128) (c : Fin 128) (r : Fin 5) (q : Fin 1024) (hr : r.val = 4 + c.val / 128) (hq : q.val = 512 + c.val % 128) : rq4_4 E (ix2 d c) = Qf E r q d := by
  unfold rq4_4
  rw [drop_128_128, rcQ E]
  exact G11_lt E _ r q d (by show (512 + 1 * c.val) / 128 = r.val; omega) (by show 128 * (4 + 1 * 0) + (512 + 1 * c.val) % 128 = q.val; omega) (z1 d.val)

theorem rqm4_4_lo (d : Fin 128) (c : Fin 128) (r : Fin 5) (q : Fin 1024) (hr : r.val = 4 + c.val / 128) (hq : q.val = 512 + c.val % 128) : rqm4_4 E (ix2 ⟨d.val, by omega⟩ c) = Qf E r q d := by
  unfold rqm4_4
  rw [drop_256_128, rcQ E]
  exact G11_lt E _ r q d (by show (512 + 1 * c.val) / 128 = r.val; omega) (by show 128 * (4 + 1 * 0) + (512 + 1 * c.val) % 128 = q.val; omega) (z1 d.val)

theorem rqm4_4_hi (d : Fin 128) (c : Fin 128) : rqm4_4 E (ix2 ⟨128 + d.val, by omega⟩ c) = eyeM (F := Ideal) (ix2 d ⟨c.val % 128, by omega⟩) := by
  unfold rqm4_4
  rw [drop_256_128, rcQ E]
  exact G11_ge E _ d _ (z1 (128 + d.val)) (by show (512 + 1 * c.val) % 128 = c.val % 128; omega)

theorem rq5_0_apply (d : Fin 128) (c : Fin 256) (r : Fin 5) (q : Fin 1024) (hr : r.val = 0 + c.val / 128) (hq : q.val = 640 + c.val % 128) : rq5_0 E (ix2 d c) = Qf E r q d := by
  unfold rq5_0
  rw [drop_128_256, rcQ E]
  exact G11_lt E _ r q d (by show (0 + 1 * c.val) / 128 = r.val; omega) (by show 128 * (5 + 1 * 0) + (0 + 1 * c.val) % 128 = q.val; omega) (z1 d.val)

theorem rqm5_0_lo (d : Fin 128) (c : Fin 256) (r : Fin 5) (q : Fin 1024) (hr : r.val = 0 + c.val / 128) (hq : q.val = 640 + c.val % 128) : rqm5_0 E (ix2 ⟨d.val, by omega⟩ c) = Qf E r q d := by
  unfold rqm5_0
  rw [drop_256_256, rcQ E]
  exact G11_lt E _ r q d (by show (0 + 1 * c.val) / 128 = r.val; omega) (by show 128 * (5 + 1 * 0) + (0 + 1 * c.val) % 128 = q.val; omega) (z1 d.val)

theorem rqm5_0_hi (d : Fin 128) (c : Fin 256) : rqm5_0 E (ix2 ⟨128 + d.val, by omega⟩ c) = eyeM (F := Ideal) (ix2 d ⟨c.val % 128, by omega⟩) := by
  unfold rqm5_0
  rw [drop_256_256, rcQ E]
  exact G11_ge E _ d _ (z1 (128 + d.val)) (by show (0 + 1 * c.val) % 128 = c.val % 128; omega)

theorem rq5_2_apply (d : Fin 128) (c : Fin 256) (r : Fin 5) (q : Fin 1024) (hr : r.val = 2 + c.val / 128) (hq : q.val = 640 + c.val % 128) : rq5_2 E (ix2 d c) = Qf E r q d := by
  unfold rq5_2
  rw [drop_128_256, rcQ E]
  exact G11_lt E _ r q d (by show (256 + 1 * c.val) / 128 = r.val; omega) (by show 128 * (5 + 1 * 0) + (256 + 1 * c.val) % 128 = q.val; omega) (z1 d.val)

theorem rqm5_2_lo (d : Fin 128) (c : Fin 256) (r : Fin 5) (q : Fin 1024) (hr : r.val = 2 + c.val / 128) (hq : q.val = 640 + c.val % 128) : rqm5_2 E (ix2 ⟨d.val, by omega⟩ c) = Qf E r q d := by
  unfold rqm5_2
  rw [drop_256_256, rcQ E]
  exact G11_lt E _ r q d (by show (256 + 1 * c.val) / 128 = r.val; omega) (by show 128 * (5 + 1 * 0) + (256 + 1 * c.val) % 128 = q.val; omega) (z1 d.val)

theorem rqm5_2_hi (d : Fin 128) (c : Fin 256) : rqm5_2 E (ix2 ⟨128 + d.val, by omega⟩ c) = eyeM (F := Ideal) (ix2 d ⟨c.val % 128, by omega⟩) := by
  unfold rqm5_2
  rw [drop_256_256, rcQ E]
  exact G11_ge E _ d _ (z1 (128 + d.val)) (by show (256 + 1 * c.val) % 128 = c.val % 128; omega)

theorem rq5_4_apply (d : Fin 128) (c : Fin 128) (r : Fin 5) (q : Fin 1024) (hr : r.val = 4 + c.val / 128) (hq : q.val = 640 + c.val % 128) : rq5_4 E (ix2 d c) = Qf E r q d := by
  unfold rq5_4
  rw [drop_128_128, rcQ E]
  exact G11_lt E _ r q d (by show (512 + 1 * c.val) / 128 = r.val; omega) (by show 128 * (5 + 1 * 0) + (512 + 1 * c.val) % 128 = q.val; omega) (z1 d.val)

theorem rqm5_4_lo (d : Fin 128) (c : Fin 128) (r : Fin 5) (q : Fin 1024) (hr : r.val = 4 + c.val / 128) (hq : q.val = 640 + c.val % 128) : rqm5_4 E (ix2 ⟨d.val, by omega⟩ c) = Qf E r q d := by
  unfold rqm5_4
  rw [drop_256_128, rcQ E]
  exact G11_lt E _ r q d (by show (512 + 1 * c.val) / 128 = r.val; omega) (by show 128 * (5 + 1 * 0) + (512 + 1 * c.val) % 128 = q.val; omega) (z1 d.val)

theorem rqm5_4_hi (d : Fin 128) (c : Fin 128) : rqm5_4 E (ix2 ⟨128 + d.val, by omega⟩ c) = eyeM (F := Ideal) (ix2 d ⟨c.val % 128, by omega⟩) := by
  unfold rqm5_4
  rw [drop_256_128, rcQ E]
  exact G11_ge E _ d _ (z1 (128 + d.val)) (by show (512 + 1 * c.val) % 128 = c.val % 128; omega)

theorem rq6_0_apply (d : Fin 128) (c : Fin 256) (r : Fin 5) (q : Fin 1024) (hr : r.val = 0 + c.val / 128) (hq : q.val = 768 + c.val % 128) : rq6_0 E (ix2 d c) = Qf E r q d := by
  unfold rq6_0
  rw [drop_128_256, rcQ E]
  exact G11_lt E _ r q d (by show (0 + 1 * c.val) / 128 = r.val; omega) (by show 128 * (6 + 1 * 0) + (0 + 1 * c.val) % 128 = q.val; omega) (z1 d.val)

theorem rqm6_0_lo (d : Fin 128) (c : Fin 256) (r : Fin 5) (q : Fin 1024) (hr : r.val = 0 + c.val / 128) (hq : q.val = 768 + c.val % 128) : rqm6_0 E (ix2 ⟨d.val, by omega⟩ c) = Qf E r q d := by
  unfold rqm6_0
  rw [drop_256_256, rcQ E]
  exact G11_lt E _ r q d (by show (0 + 1 * c.val) / 128 = r.val; omega) (by show 128 * (6 + 1 * 0) + (0 + 1 * c.val) % 128 = q.val; omega) (z1 d.val)

theorem rqm6_0_hi (d : Fin 128) (c : Fin 256) : rqm6_0 E (ix2 ⟨128 + d.val, by omega⟩ c) = eyeM (F := Ideal) (ix2 d ⟨c.val % 128, by omega⟩) := by
  unfold rqm6_0
  rw [drop_256_256, rcQ E]
  exact G11_ge E _ d _ (z1 (128 + d.val)) (by show (0 + 1 * c.val) % 128 = c.val % 128; omega)

theorem rq6_2_apply (d : Fin 128) (c : Fin 256) (r : Fin 5) (q : Fin 1024) (hr : r.val = 2 + c.val / 128) (hq : q.val = 768 + c.val % 128) : rq6_2 E (ix2 d c) = Qf E r q d := by
  unfold rq6_2
  rw [drop_128_256, rcQ E]
  exact G11_lt E _ r q d (by show (256 + 1 * c.val) / 128 = r.val; omega) (by show 128 * (6 + 1 * 0) + (256 + 1 * c.val) % 128 = q.val; omega) (z1 d.val)

theorem rqm6_2_lo (d : Fin 128) (c : Fin 256) (r : Fin 5) (q : Fin 1024) (hr : r.val = 2 + c.val / 128) (hq : q.val = 768 + c.val % 128) : rqm6_2 E (ix2 ⟨d.val, by omega⟩ c) = Qf E r q d := by
  unfold rqm6_2
  rw [drop_256_256, rcQ E]
  exact G11_lt E _ r q d (by show (256 + 1 * c.val) / 128 = r.val; omega) (by show 128 * (6 + 1 * 0) + (256 + 1 * c.val) % 128 = q.val; omega) (z1 d.val)

theorem rqm6_2_hi (d : Fin 128) (c : Fin 256) : rqm6_2 E (ix2 ⟨128 + d.val, by omega⟩ c) = eyeM (F := Ideal) (ix2 d ⟨c.val % 128, by omega⟩) := by
  unfold rqm6_2
  rw [drop_256_256, rcQ E]
  exact G11_ge E _ d _ (z1 (128 + d.val)) (by show (256 + 1 * c.val) % 128 = c.val % 128; omega)

theorem rq6_4_apply (d : Fin 128) (c : Fin 128) (r : Fin 5) (q : Fin 1024) (hr : r.val = 4 + c.val / 128) (hq : q.val = 768 + c.val % 128) : rq6_4 E (ix2 d c) = Qf E r q d := by
  unfold rq6_4
  rw [drop_128_128, rcQ E]
  exact G11_lt E _ r q d (by show (512 + 1 * c.val) / 128 = r.val; omega) (by show 128 * (6 + 1 * 0) + (512 + 1 * c.val) % 128 = q.val; omega) (z1 d.val)

theorem rqm6_4_lo (d : Fin 128) (c : Fin 128) (r : Fin 5) (q : Fin 1024) (hr : r.val = 4 + c.val / 128) (hq : q.val = 768 + c.val % 128) : rqm6_4 E (ix2 ⟨d.val, by omega⟩ c) = Qf E r q d := by
  unfold rqm6_4
  rw [drop_256_128, rcQ E]
  exact G11_lt E _ r q d (by show (512 + 1 * c.val) / 128 = r.val; omega) (by show 128 * (6 + 1 * 0) + (512 + 1 * c.val) % 128 = q.val; omega) (z1 d.val)

theorem rqm6_4_hi (d : Fin 128) (c : Fin 128) : rqm6_4 E (ix2 ⟨128 + d.val, by omega⟩ c) = eyeM (F := Ideal) (ix2 d ⟨c.val % 128, by omega⟩) := by
  unfold rqm6_4
  rw [drop_256_128, rcQ E]
  exact G11_ge E _ d _ (z1 (128 + d.val)) (by show (512 + 1 * c.val) % 128 = c.val % 128; omega)

theorem rq7_0_apply (d : Fin 128) (c : Fin 256) (r : Fin 5) (q : Fin 1024) (hr : r.val = 0 + c.val / 128) (hq : q.val = 896 + c.val % 128) : rq7_0 E (ix2 d c) = Qf E r q d := by
  unfold rq7_0
  rw [drop_128_256, rcQ E]
  exact G11_lt E _ r q d (by show (0 + 1 * c.val) / 128 = r.val; omega) (by show 128 * (7 + 1 * 0) + (0 + 1 * c.val) % 128 = q.val; omega) (z1 d.val)

theorem rqm7_0_lo (d : Fin 128) (c : Fin 256) (r : Fin 5) (q : Fin 1024) (hr : r.val = 0 + c.val / 128) (hq : q.val = 896 + c.val % 128) : rqm7_0 E (ix2 ⟨d.val, by omega⟩ c) = Qf E r q d := by
  unfold rqm7_0
  rw [drop_256_256, rcQ E]
  exact G11_lt E _ r q d (by show (0 + 1 * c.val) / 128 = r.val; omega) (by show 128 * (7 + 1 * 0) + (0 + 1 * c.val) % 128 = q.val; omega) (z1 d.val)

theorem rqm7_0_hi (d : Fin 128) (c : Fin 256) : rqm7_0 E (ix2 ⟨128 + d.val, by omega⟩ c) = eyeM (F := Ideal) (ix2 d ⟨c.val % 128, by omega⟩) := by
  unfold rqm7_0
  rw [drop_256_256, rcQ E]
  exact G11_ge E _ d _ (z1 (128 + d.val)) (by show (0 + 1 * c.val) % 128 = c.val % 128; omega)

theorem rq7_2_apply (d : Fin 128) (c : Fin 256) (r : Fin 5) (q : Fin 1024) (hr : r.val = 2 + c.val / 128) (hq : q.val = 896 + c.val % 128) : rq7_2 E (ix2 d c) = Qf E r q d := by
  unfold rq7_2
  rw [drop_128_256, rcQ E]
  exact G11_lt E _ r q d (by show (256 + 1 * c.val) / 128 = r.val; omega) (by show 128 * (7 + 1 * 0) + (256 + 1 * c.val) % 128 = q.val; omega) (z1 d.val)

theorem rqm7_2_lo (d : Fin 128) (c : Fin 256) (r : Fin 5) (q : Fin 1024) (hr : r.val = 2 + c.val / 128) (hq : q.val = 896 + c.val % 128) : rqm7_2 E (ix2 ⟨d.val, by omega⟩ c) = Qf E r q d := by
  unfold rqm7_2
  rw [drop_256_256, rcQ E]
  exact G11_lt E _ r q d (by show (256 + 1 * c.val) / 128 = r.val; omega) (by show 128 * (7 + 1 * 0) + (256 + 1 * c.val) % 128 = q.val; omega) (z1 d.val)

theorem rqm7_2_hi (d : Fin 128) (c : Fin 256) : rqm7_2 E (ix2 ⟨128 + d.val, by omega⟩ c) = eyeM (F := Ideal) (ix2 d ⟨c.val % 128, by omega⟩) := by
  unfold rqm7_2
  rw [drop_256_256, rcQ E]
  exact G11_ge E _ d _ (z1 (128 + d.val)) (by show (256 + 1 * c.val) % 128 = c.val % 128; omega)

theorem rq7_4_apply (d : Fin 128) (c : Fin 128) (r : Fin 5) (q : Fin 1024) (hr : r.val = 4 + c.val / 128) (hq : q.val = 896 + c.val % 128) : rq7_4 E (ix2 d c) = Qf E r q d := by
  unfold rq7_4
  rw [drop_128_128, rcQ E]
  exact G11_lt E _ r q d (by show (512 + 1 * c.val) / 128 = r.val; omega) (by show 128 * (7 + 1 * 0) + (512 + 1 * c.val) % 128 = q.val; omega) (z1 d.val)

theorem rqm7_4_lo (d : Fin 128) (c : Fin 128) (r : Fin 5) (q : Fin 1024) (hr : r.val = 4 + c.val / 128) (hq : q.val = 896 + c.val % 128) : rqm7_4 E (ix2 ⟨d.val, by omega⟩ c) = Qf E r q d := by
  unfold rqm7_4
  rw [drop_256_128, rcQ E]
  exact G11_lt E _ r q d (by show (512 + 1 * c.val) / 128 = r.val; omega) (by show 128 * (7 + 1 * 0) + (512 + 1 * c.val) % 128 = q.val; omega) (z1 d.val)

theorem rqm7_4_hi (d : Fin 128) (c : Fin 128) : rqm7_4 E (ix2 ⟨128 + d.val, by omega⟩ c) = eyeM (F := Ideal) (ix2 d ⟨c.val % 128, by omega⟩) := by
  unfold rqm7_4
  rw [drop_256_128, rcQ E]
  exact G11_ge E _ d _ (z1 (128 + d.val)) (by show (512 + 1 * c.val) % 128 = c.val % 128; omega)

end Cert.KernelIdeal.Run

end
-- ==== Proof.Val.lean ====
/- The value of each block of queries the kernel writes. -/
module

public import proofs.«01_k».proof.Proof.Scratch

@[expose] public section

set_option maxRecDepth 16384

noncomputable section

namespace Cert.KernelIdeal.Run

open Cert.KernelIdeal Cert.KernelIdeal.Gen
open Idealize.ShloMosaic Idealize.ShloMosaic.TcCoe
open Att

variable (E : Env Ideal)

/-- The score of a key for a query: absent when the key comes after it. -/
def sco (r : Fin 5) (q k : Fin 1024) : EReal := if k.val ≤ q.val then ∑ d, Kf E k d * Qf E r q d else ⊥

/-- The attention of one query of one head, one lane of it. -/
def att (r : Fin 5) (q : Fin 1024) (d : Fin 128) : EReal := soft (sco E r q) (fun k => Vf E k d)

theorem hit16 {κ : Kind} {sp : Space} (v : View sig κ sp S4x32x8x256 .f32) (r : Rect S4x32x8x256) (w : r.shape.Idx → Elt Ideal .f32)
    (L : List (View.Piece (Elt Ideal) S4x32x8x256 .f32)) : v.readCov (⟨r, w⟩ :: L) r.toLoadRect = w :=
  funext fun x => View.read_writes_cons_emb v _ r w L x

theorem miss16 {κ : Kind} {sp : Space} (v : View sig κ sp S4x32x8x256 .f32) (p : View.Piece (Elt Ideal) S4x32x8x256 .f32)
    (L : List (View.Piece (Elt Ideal) S4x32x8x256 .f32)) (B : Rect S4x32x8x256) (o j : ℕ) (ho : p.1.off 0 = o) (hst : p.1.stride 0 = 1) (hn : p.1.size 0 = 1)
    (hB : B.off 0 = j) (hBs : B.stride 0 = 1) (hBn : B.size 0 = 1) (hne : j ≠ o) :
    v.readCov (p :: L) B.toLoadRect = v.readCov L B.toLoadRect := by
  funext x
  have hx : (x 0).val = 0 := by have : (x 0).val < B.size 0 := (x 0).isLt; omega
  have hy : ((B.emb x) 0).val = j := by
    have : ((B.emb x) 0).val = B.off 0 + B.stride 0 * (x 0).val := rfl
    rw [this, hB, hx]; omega
  exact View.read_writes_cons_miss_of_axis v _ p L (B.emb x) 0 o 1 ho hst hn (by rw [hy]; omega)

theorem row_sc32_256_128 (kk : FVec Ideal S256x128 .bf16) (qq : FVec Ideal S128x256 .bf16) (c : Fin 256) (x : Fin 256) :
    row32_256 (sc32_256_128 kk qq) c x = ∑ d : Fin 128, kk (ix2 x d) * qq (ix2 d c) := by
  have h : ∀ (a : Fin 32) (b : Fin 8), sc32_256_128 kk qq (ix3 a b c) = ∑ d : Fin 128, kk (ix2 ⟨a.val * 8 + b.val, by omega⟩ d) * qq (ix2 d c) := by
    intro a b
    pointwise [sc32_256_128, zeroS]
  unfold row32_256
  rw [h]
  rw [show (⟨x.val / 8 * 8 + x.val % 8, by omega⟩ : Fin 256) = x from Fin.ext (by show x.val / 8 * 8 + x.val % 8 = x.val; omega)]

theorem row_sc32_256_256 (kk : FVec Ideal S256x256 .bf16) (qq : FVec Ideal S256x256 .bf16) (c : Fin 256) (x : Fin 256) :
    row32_256 (sc32_256_256 kk qq) c x = ∑ d : Fin 256, kk (ix2 x d) * qq (ix2 d c) := by
  have h : ∀ (a : Fin 32) (b : Fin 8), sc32_256_256 kk qq (ix3 a b c) = ∑ d : Fin 256, kk (ix2 ⟨a.val * 8 + b.val, by omega⟩ d) * qq (ix2 d c) := by
    intro a b
    pointwise [sc32_256_256, zeroS]
  unfold row32_256
  rw [h]
  rw [show (⟨x.val / 8 * 8 + x.val % 8, by omega⟩ : Fin 256) = x from Fin.ext (by show x.val / 8 * 8 + x.val % 8 = x.val; omega)]

theorem rowP32_256 (j : Fin 4) (r : Fin 5) (q : Fin 1024) (kk : FVec Ideal S256x128 .bf16) (qq : FVec Ideal S128x256 .bf16) (c : Fin 256)
    (hk : ∀ x d, kk (ix2 x d) = Kf E (keyw j x) d) (hq : ∀ d, qq (ix2 d c) = Qf E r q d) (hj : 256 * j.val + 256 ≤ q.val) (x : Fin 256) :
    row32_256 (sc32_256_128 kk qq) c x = sco E r q (keyw j x) := by
  rw [row_sc32_256_128]
  unfold sco
  rw [if_pos (by simp only [keyw]; omega)]
  exact Finset.sum_congr rfl fun d _ => by rw [hk, hq]

theorem rowL32_256 (j : Fin 4) (r : Fin 5) (q : Fin 1024) (kk : FVec Ideal S256x256 .bf16) (qq : FVec Ideal S256x256 .bf16) (c : Fin 256)
    (hk : ∀ (x : Fin 256) (d : Fin 128), kk (ix2 x ⟨d.val, by omega⟩) = Kf E (keyw j x) d)
    (hm : ∀ (x : Fin 256) (d : Fin 128), kk (ix2 x ⟨128 + d.val, by omega⟩) = maskA (F := Ideal) (ix2 x d))
    (hq : ∀ d : Fin 128, qq (ix2 ⟨d.val, by omega⟩ c) = Qf E r q d)
    (he : ∀ d : Fin 128, qq (ix2 ⟨128 + d.val, by omega⟩ c) = eyeM (F := Ideal) (ix2 d ⟨c.val % 128, by omega⟩))
    (hj : q.val = 256 * j.val + 128 + c.val % 128) (x : Fin 256) :
    row32_256 (sc32_256_256 kk qq) c x = sco E r q (keyw j x) := by
  rw [row_sc32_256_256]
  have h1 := Fin.sum_univ_add (M := EReal) (a := 128) (b := 128) (fun d : Fin (128 + 128) => kk (ix2 x d) * qq (ix2 d c))
  refine h1.trans ?_
  have h2 : ∑ d : Fin 128, kk (ix2 x (Fin.castAdd 128 d)) * qq (ix2 (Fin.castAdd 128 d) c) = ∑ d, Kf E (keyw j x) d * Qf E r q d :=
    Finset.sum_congr rfl fun d _ => congrArg₂ (fun a b : EReal => a * b) (hk x d) (hq d)
  have h3 : ∑ d : Fin 128, kk (ix2 x (Fin.natAdd 128 d)) * qq (ix2 (Fin.natAdd 128 d) c) = maskA (F := Ideal) (ix2 x ⟨c.val % 128, by omega⟩) := by
    rw [← sum_pick_right (⟨c.val % 128, by omega⟩ : Fin 128) (fun d => maskA (F := Ideal) (ix2 x d))]
    refine Finset.sum_congr rfl fun d _ => congrArg₂ (fun a b : EReal => a * b) (hm x d) ((he d).trans ?_)
    rw [eyeM_apply]
    exact if_congr eq_comm rfl rfl
  refine (congrArg₂ (fun a b : EReal => a + b) h2 h3).trans ?_
  rw [maskA_apply]
  unfold sco
  have hx : (keyw j x).val = 256 * j.val + (kw x).val := by simp only [keyw, kw]; omega
  by_cases hc : c.val % 128 + 128 < (kw x).val
  · rw [if_pos hc, if_neg (by omega)]; exact EReal.add_bot _
  · rw [if_neg hc, if_pos (by omega)]; exact add_zero _

theorem row_sc32_128_128 (kk : FVec Ideal S256x128 .bf16) (qq : FVec Ideal S128x128 .bf16) (c : Fin 128) (x : Fin 256) :
    row32_128 (sc32_128_128 kk qq) c x = ∑ d : Fin 128, kk (ix2 x d) * qq (ix2 d c) := by
  have h : ∀ (a : Fin 32) (b : Fin 8), sc32_128_128 kk qq (ix3 a b c) = ∑ d : Fin 128, kk (ix2 ⟨a.val * 8 + b.val, by omega⟩ d) * qq (ix2 d c) := by
    intro a b
    pointwise [sc32_128_128, zeroS]
  unfold row32_128
  rw [h]
  rw [show (⟨x.val / 8 * 8 + x.val % 8, by omega⟩ : Fin 256) = x from Fin.ext (by show x.val / 8 * 8 + x.val % 8 = x.val; omega)]

theorem row_sc32_128_256 (kk : FVec Ideal S256x256 .bf16) (qq : FVec Ideal S256x128 .bf16) (c : Fin 128) (x : Fin 256) :
    row32_128 (sc32_128_256 kk qq) c x = ∑ d : Fin 256, kk (ix2 x d) * qq (ix2 d c) := by
  have h : ∀ (a : Fin 32) (b : Fin 8), sc32_128_256 kk qq (ix3 a b c) = ∑ d : Fin 256, kk (ix2 ⟨a.val * 8 + b.val, by omega⟩ d) * qq (ix2 d c) := by
    intro a b
    pointwise [sc32_128_256, zeroS]
  unfold row32_128
  rw [h]
  rw [show (⟨x.val / 8 * 8 + x.val % 8, by omega⟩ : Fin 256) = x from Fin.ext (by show x.val / 8 * 8 + x.val % 8 = x.val; omega)]

theorem rowP32_128 (j : Fin 4) (r : Fin 5) (q : Fin 1024) (kk : FVec Ideal S256x128 .bf16) (qq : FVec Ideal S128x128 .bf16) (c : Fin 128)
    (hk : ∀ x d, kk (ix2 x d) = Kf E (keyw j x) d) (hq : ∀ d, qq (ix2 d c) = Qf E r q d) (hj : 256 * j.val + 256 ≤ q.val) (x : Fin 256) :
    row32_128 (sc32_128_128 kk qq) c x = sco E r q (keyw j x) := by
  rw [row_sc32_128_128]
  unfold sco
  rw [if_pos (by simp only [keyw]; omega)]
  exact Finset.sum_congr rfl fun d _ => by rw [hk, hq]

theorem rowL32_128 (j : Fin 4) (r : Fin 5) (q : Fin 1024) (kk : FVec Ideal S256x256 .bf16) (qq : FVec Ideal S256x128 .bf16) (c : Fin 128)
    (hk : ∀ (x : Fin 256) (d : Fin 128), kk (ix2 x ⟨d.val, by omega⟩) = Kf E (keyw j x) d)
    (hm : ∀ (x : Fin 256) (d : Fin 128), kk (ix2 x ⟨128 + d.val, by omega⟩) = maskA (F := Ideal) (ix2 x d))
    (hq : ∀ d : Fin 128, qq (ix2 ⟨d.val, by omega⟩ c) = Qf E r q d)
    (he : ∀ d : Fin 128, qq (ix2 ⟨128 + d.val, by omega⟩ c) = eyeM (F := Ideal) (ix2 d ⟨c.val % 128, by omega⟩))
    (hj : q.val = 256 * j.val + 128 + c.val % 128) (x : Fin 256) :
    row32_128 (sc32_128_256 kk qq) c x = sco E r q (keyw j x) := by
  rw [row_sc32_128_256]
  have h1 := Fin.sum_univ_add (M := EReal) (a := 128) (b := 128) (fun d : Fin (128 + 128) => kk (ix2 x d) * qq (ix2 d c))
  refine h1.trans ?_
  have h2 : ∑ d : Fin 128, kk (ix2 x (Fin.castAdd 128 d)) * qq (ix2 (Fin.castAdd 128 d) c) = ∑ d, Kf E (keyw j x) d * Qf E r q d :=
    Finset.sum_congr rfl fun d _ => congrArg₂ (fun a b : EReal => a * b) (hk x d) (hq d)
  have h3 : ∑ d : Fin 128, kk (ix2 x (Fin.natAdd 128 d)) * qq (ix2 (Fin.natAdd 128 d) c) = maskA (F := Ideal) (ix2 x ⟨c.val % 128, by omega⟩) := by
    rw [← sum_pick_right (⟨c.val % 128, by omega⟩ : Fin 128) (fun d => maskA (F := Ideal) (ix2 x d))]
    refine Finset.sum_congr rfl fun d _ => congrArg₂ (fun a b : EReal => a * b) (hm x d) ((he d).trans ?_)
    rw [eyeM_apply]
    exact if_congr eq_comm rfl rfl
  refine (congrArg₂ (fun a b : EReal => a + b) h2 h3).trans ?_
  rw [maskA_apply]
  unfold sco
  have hx : (keyw j x).val = 256 * j.val + (kw x).val := by simp only [keyw, kw]; omega
  by_cases hc : c.val % 128 + 128 < (kw x).val
  · rw [if_pos hc, if_neg (by omega)]; exact EReal.add_bot _
  · rw [if_neg hc, if_pos (by omega)]; exact add_zero _

theorem row_sc16_256_256 (kk : FVec Ideal S128x256 .bf16) (qq : FVec Ideal S256x256 .bf16) (c : Fin 256) (x : Fin 128) :
    row16_256 (sc16_256_256 kk qq) c x = ∑ d : Fin 256, kk (ix2 x d) * qq (ix2 d c) := by
  have h : ∀ (a : Fin 16) (b : Fin 8), sc16_256_256 kk qq (ix3 a b c) = ∑ d : Fin 256, kk (ix2 ⟨a.val * 8 + b.val, by omega⟩ d) * qq (ix2 d c) := by
    intro a b
    pointwise [sc16_256_256, zeroS]
  unfold row16_256
  rw [h]
  rw [show (⟨x.val / 8 * 8 + x.val % 8, by omega⟩ : Fin 128) = x from Fin.ext (by show x.val / 8 * 8 + x.val % 8 = x.val; omega)]

theorem rowL16_256 (j : Fin 4) (r : Fin 5) (q : Fin 1024) (kk : FVec Ideal S128x256 .bf16) (qq : FVec Ideal S256x256 .bf16) (c : Fin 256)
    (hk : ∀ (x : Fin 128) (d : Fin 128), kk (ix2 x ⟨d.val, by omega⟩) = Kf E (keyn j x) d)
    (hm : ∀ (x : Fin 128) (d : Fin 128), kk (ix2 x ⟨128 + d.val, by omega⟩) = maskB (F := Ideal) (ix2 x d))
    (hq : ∀ d : Fin 128, qq (ix2 ⟨d.val, by omega⟩ c) = Qf E r q d)
    (he : ∀ d : Fin 128, qq (ix2 ⟨128 + d.val, by omega⟩ c) = eyeM (F := Ideal) (ix2 d ⟨c.val % 128, by omega⟩))
    (hj : q.val = 256 * j.val + 0 + c.val % 128) (x : Fin 128) :
    row16_256 (sc16_256_256 kk qq) c x = sco E r q (keyn j x) := by
  rw [row_sc16_256_256]
  have h1 := Fin.sum_univ_add (M := EReal) (a := 128) (b := 128) (fun d : Fin (128 + 128) => kk (ix2 x d) * qq (ix2 d c))
  refine h1.trans ?_
  have h2 : ∑ d : Fin 128, kk (ix2 x (Fin.castAdd 128 d)) * qq (ix2 (Fin.castAdd 128 d) c) = ∑ d, Kf E (keyn j x) d * Qf E r q d :=
    Finset.sum_congr rfl fun d _ => congrArg₂ (fun a b : EReal => a * b) (hk x d) (hq d)
  have h3 : ∑ d : Fin 128, kk (ix2 x (Fin.natAdd 128 d)) * qq (ix2 (Fin.natAdd 128 d) c) = maskB (F := Ideal) (ix2 x ⟨c.val % 128, by omega⟩) := by
    rw [← sum_pick_right (⟨c.val % 128, by omega⟩ : Fin 128) (fun d => maskB (F := Ideal) (ix2 x d))]
    refine Finset.sum_congr rfl fun d _ => congrArg₂ (fun a b : EReal => a * b) (hm x d) ((he d).trans ?_)
    rw [eyeM_apply]
    exact if_congr eq_comm rfl rfl
  refine (congrArg₂ (fun a b : EReal => a + b) h2 h3).trans ?_
  rw [maskB_apply]
  unfold sco
  have hx : (keyn j x).val = 256 * j.val + (kn x).val := by simp only [keyn, kn]; omega
  by_cases hc : c.val % 128 < (kn x).val
  · rw [if_pos hc, if_neg (by omega)]; exact EReal.add_bot _
  · rw [if_neg hc, if_pos (by omega)]; exact add_zero _

theorem row_sc16_128_256 (kk : FVec Ideal S128x256 .bf16) (qq : FVec Ideal S256x128 .bf16) (c : Fin 128) (x : Fin 128) :
    row16_128 (sc16_128_256 kk qq) c x = ∑ d : Fin 256, kk (ix2 x d) * qq (ix2 d c) := by
  have h : ∀ (a : Fin 16) (b : Fin 8), sc16_128_256 kk qq (ix3 a b c) = ∑ d : Fin 256, kk (ix2 ⟨a.val * 8 + b.val, by omega⟩ d) * qq (ix2 d c) := by
    intro a b
    pointwise [sc16_128_256, zeroS]
  unfold row16_128
  rw [h]
  rw [show (⟨x.val / 8 * 8 + x.val % 8, by omega⟩ : Fin 128) = x from Fin.ext (by show x.val / 8 * 8 + x.val % 8 = x.val; omega)]

theorem rowL16_128 (j : Fin 4) (r : Fin 5) (q : Fin 1024) (kk : FVec Ideal S128x256 .bf16) (qq : FVec Ideal S256x128 .bf16) (c : Fin 128)
    (hk : ∀ (x : Fin 128) (d : Fin 128), kk (ix2 x ⟨d.val, by omega⟩) = Kf E (keyn j x) d)
    (hm : ∀ (x : Fin 128) (d : Fin 128), kk (ix2 x ⟨128 + d.val, by omega⟩) = maskB (F := Ideal) (ix2 x d))
    (hq : ∀ d : Fin 128, qq (ix2 ⟨d.val, by omega⟩ c) = Qf E r q d)
    (he : ∀ d : Fin 128, qq (ix2 ⟨128 + d.val, by omega⟩ c) = eyeM (F := Ideal) (ix2 d ⟨c.val % 128, by omega⟩))
    (hj : q.val = 256 * j.val + 0 + c.val % 128) (x : Fin 128) :
    row16_128 (sc16_128_256 kk qq) c x = sco E r q (keyn j x) := by
  rw [row_sc16_128_256]
  have h1 := Fin.sum_univ_add (M := EReal) (a := 128) (b := 128) (fun d : Fin (128 + 128) => kk (ix2 x d) * qq (ix2 d c))
  refine h1.trans ?_
  have h2 : ∑ d : Fin 128, kk (ix2 x (Fin.castAdd 128 d)) * qq (ix2 (Fin.castAdd 128 d) c) = ∑ d, Kf E (keyn j x) d * Qf E r q d :=
    Finset.sum_congr rfl fun d _ => congrArg₂ (fun a b : EReal => a * b) (hk x d) (hq d)
  have h3 : ∑ d : Fin 128, kk (ix2 x (Fin.natAdd 128 d)) * qq (ix2 (Fin.natAdd 128 d) c) = maskB (F := Ideal) (ix2 x ⟨c.val % 128, by omega⟩) := by
    rw [← sum_pick_right (⟨c.val % 128, by omega⟩ : Fin 128) (fun d => maskB (F := Ideal) (ix2 x d))]
    refine Finset.sum_congr rfl fun d _ => congrArg₂ (fun a b : EReal => a * b) (hm x d) ((he d).trans ?_)
    rw [eyeM_apply]
    exact if_congr eq_comm rfl rfl
  refine (congrArg₂ (fun a b : EReal => a + b) h2 h3).trans ?_
  rw [maskB_apply]
  unfold sco
  have hx : (keyn j x).val = 256 * j.val + (kn x).val := by simp only [keyn, kn]; omega
  by_cases hc : c.val % 128 < (kn x).val
  · rw [if_pos hc, if_neg (by omega)]; exact EReal.add_bot _
  · rw [if_neg hc, if_pos (by omega)]; exact add_zero _

theorem re0_0_0_eq : re0_0_0 E = exP16_256 (s0_0_0 E) (mx16_256_0 (s0_0_0 E)) := by
  unfold re0_0_0 hE0_0
  exact hit16 _ _ _ _

theorem o0_0_apply (d : Fin 128) (c : Fin 256) (r : Fin 5) (q : Fin 1024) (hr : r.val = 0 + c.val / 128) (hq : q.val = 0 + c.val % 128) :
    o0_0 E (ix2 d c) = att E r q d := by
  unfold o0_0
  refine (out16_256_0_apply (sco E r q) (fun k => Vf E k d) _ _ _ d c (rowL16_256 E 0 r q _ _ c (rkB0_lo E) (rkB0_hi E) (fun d => rqm0_0_lo E d c r q hr hq) (fun d => rqm0_0_hi E d c) (by show q.val = 256 * 0 + 0 + c.val % 128; omega)) (rvB0_apply E d) (re0_0_0_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op0_0_apply (z : Fin 1) (x d : Fin 128) : op0_0 E (ix3 z x d) = att E 0 ⟨0 + x.val, by omega⟩ d := by
  have h : op0_0 E (ix3 z x d) = o0_0 E (ix2 d ⟨0 + x.val, by omega⟩) := by
    pointwise [op0_0]
  rw [h]
  exact o0_0_apply E d _ _ _ (by show 0 = 0 + (0 + x.val) / 128; omega) (by show 0 + x.val = 0 + (0 + x.val) % 128; omega)

theorem op0_1_apply (z : Fin 1) (x d : Fin 128) : op0_1 E (ix3 z x d) = att E 1 ⟨0 + x.val, by omega⟩ d := by
  have h : op0_1 E (ix3 z x d) = o0_0 E (ix2 d ⟨128 + x.val, by omega⟩) := by
    pointwise [op0_1]
  rw [h]
  exact o0_0_apply E d _ _ _ (by show 1 = 0 + (128 + x.val) / 128; omega) (by show 0 + x.val = 0 + (128 + x.val) % 128; omega)

theorem re0_2_0_eq : re0_2_0 E = exP16_256 (s0_2_0 E) (mx16_256_0 (s0_2_0 E)) := by
  unfold re0_2_0 hE0_2
  exact hit16 _ _ _ _

theorem o0_2_apply (d : Fin 128) (c : Fin 256) (r : Fin 5) (q : Fin 1024) (hr : r.val = 2 + c.val / 128) (hq : q.val = 0 + c.val % 128) :
    o0_2 E (ix2 d c) = att E r q d := by
  unfold o0_2
  refine (out16_256_0_apply (sco E r q) (fun k => Vf E k d) _ _ _ d c (rowL16_256 E 0 r q _ _ c (rkB0_lo E) (rkB0_hi E) (fun d => rqm0_2_lo E d c r q hr hq) (fun d => rqm0_2_hi E d c) (by show q.val = 256 * 0 + 0 + c.val % 128; omega)) (rvB0_apply E d) (re0_2_0_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op0_2_apply (z : Fin 1) (x d : Fin 128) : op0_2 E (ix3 z x d) = att E 2 ⟨0 + x.val, by omega⟩ d := by
  have h : op0_2 E (ix3 z x d) = o0_2 E (ix2 d ⟨0 + x.val, by omega⟩) := by
    pointwise [op0_2]
  rw [h]
  exact o0_2_apply E d _ _ _ (by show 2 = 2 + (0 + x.val) / 128; omega) (by show 0 + x.val = 0 + (0 + x.val) % 128; omega)

theorem op0_3_apply (z : Fin 1) (x d : Fin 128) : op0_3 E (ix3 z x d) = att E 3 ⟨0 + x.val, by omega⟩ d := by
  have h : op0_3 E (ix3 z x d) = o0_2 E (ix2 d ⟨128 + x.val, by omega⟩) := by
    pointwise [op0_3]
  rw [h]
  exact o0_2_apply E d _ _ _ (by show 3 = 2 + (128 + x.val) / 128; omega) (by show 0 + x.val = 0 + (128 + x.val) % 128; omega)

theorem re0_4_0_eq : re0_4_0 E = exP16_128 (s0_4_0 E) (mx16_128_0 (s0_4_0 E)) := by
  unfold re0_4_0 hE0_4
  exact hit16 _ _ _ _

theorem o0_4_apply (d : Fin 128) (c : Fin 128) (r : Fin 5) (q : Fin 1024) (hr : r.val = 4 + c.val / 128) (hq : q.val = 0 + c.val % 128) :
    o0_4 E (ix2 d c) = att E r q d := by
  unfold o0_4
  refine (out16_128_0_apply (sco E r q) (fun k => Vf E k d) _ _ _ d c (rowL16_128 E 0 r q _ _ c (rkB0_lo E) (rkB0_hi E) (fun d => rqm0_4_lo E d c r q hr hq) (fun d => rqm0_4_hi E d c) (by show q.val = 256 * 0 + 0 + c.val % 128; omega)) (rvB0_apply E d) (re0_4_0_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op0_4_apply (z : Fin 1) (x d : Fin 128) : op0_4 E (ix3 z x d) = att E 4 ⟨0 + x.val, by omega⟩ d := by
  have h : op0_4 E (ix3 z x d) = o0_4 E (ix2 d ⟨0 + x.val, by omega⟩) := by
    pointwise [op0_4]
  rw [h]
  exact o0_4_apply E d _ _ _ (by show 4 = 4 + (0 + x.val) / 128; omega) (by show 0 + x.val = 0 + (0 + x.val) % 128; omega)

theorem re1_0_0_eq : re1_0_0 E = exP32_256 (s1_0_0 E) (mx32_256_0 (s1_0_0 E)) := by
  unfold re1_0_0 hE1_0
  exact hit16 _ _ _ _

theorem o1_0_apply (d : Fin 128) (c : Fin 256) (r : Fin 5) (q : Fin 1024) (hr : r.val = 0 + c.val / 128) (hq : q.val = 128 + c.val % 128) :
    o1_0 E (ix2 d c) = att E r q d := by
  unfold o1_0
  refine (out32_256_0_apply (sco E r q) (fun k => Vf E k d) _ _ _ d c (rowL32_256 E 0 r q _ _ c (rkM0_lo E) (rkM0_hi E) (fun d => rqm1_0_lo E d c r q hr hq) (fun d => rqm1_0_hi E d c) (by show q.val = 256 * 0 + 128 + c.val % 128; omega)) (rvA0_apply E d) (re1_0_0_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op1_0_apply (z : Fin 1) (x d : Fin 128) : op1_0 E (ix3 z x d) = att E 0 ⟨128 + x.val, by omega⟩ d := by
  have h : op1_0 E (ix3 z x d) = o1_0 E (ix2 d ⟨0 + x.val, by omega⟩) := by
    pointwise [op1_0]
  rw [h]
  exact o1_0_apply E d _ _ _ (by show 0 = 0 + (0 + x.val) / 128; omega) (by show 128 + x.val = 128 + (0 + x.val) % 128; omega)

theorem op1_1_apply (z : Fin 1) (x d : Fin 128) : op1_1 E (ix3 z x d) = att E 1 ⟨128 + x.val, by omega⟩ d := by
  have h : op1_1 E (ix3 z x d) = o1_0 E (ix2 d ⟨128 + x.val, by omega⟩) := by
    pointwise [op1_1]
  rw [h]
  exact o1_0_apply E d _ _ _ (by show 1 = 0 + (128 + x.val) / 128; omega) (by show 128 + x.val = 128 + (128 + x.val) % 128; omega)

theorem re1_2_0_eq : re1_2_0 E = exP32_256 (s1_2_0 E) (mx32_256_0 (s1_2_0 E)) := by
  unfold re1_2_0 hE1_2
  exact hit16 _ _ _ _

theorem o1_2_apply (d : Fin 128) (c : Fin 256) (r : Fin 5) (q : Fin 1024) (hr : r.val = 2 + c.val / 128) (hq : q.val = 128 + c.val % 128) :
    o1_2 E (ix2 d c) = att E r q d := by
  unfold o1_2
  refine (out32_256_0_apply (sco E r q) (fun k => Vf E k d) _ _ _ d c (rowL32_256 E 0 r q _ _ c (rkM0_lo E) (rkM0_hi E) (fun d => rqm1_2_lo E d c r q hr hq) (fun d => rqm1_2_hi E d c) (by show q.val = 256 * 0 + 128 + c.val % 128; omega)) (rvA0_apply E d) (re1_2_0_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op1_2_apply (z : Fin 1) (x d : Fin 128) : op1_2 E (ix3 z x d) = att E 2 ⟨128 + x.val, by omega⟩ d := by
  have h : op1_2 E (ix3 z x d) = o1_2 E (ix2 d ⟨0 + x.val, by omega⟩) := by
    pointwise [op1_2]
  rw [h]
  exact o1_2_apply E d _ _ _ (by show 2 = 2 + (0 + x.val) / 128; omega) (by show 128 + x.val = 128 + (0 + x.val) % 128; omega)

theorem op1_3_apply (z : Fin 1) (x d : Fin 128) : op1_3 E (ix3 z x d) = att E 3 ⟨128 + x.val, by omega⟩ d := by
  have h : op1_3 E (ix3 z x d) = o1_2 E (ix2 d ⟨128 + x.val, by omega⟩) := by
    pointwise [op1_3]
  rw [h]
  exact o1_2_apply E d _ _ _ (by show 3 = 2 + (128 + x.val) / 128; omega) (by show 128 + x.val = 128 + (128 + x.val) % 128; omega)

theorem re1_4_0_eq : re1_4_0 E = exP32_128 (s1_4_0 E) (mx32_128_0 (s1_4_0 E)) := by
  unfold re1_4_0 hE1_4
  exact hit16 _ _ _ _

theorem o1_4_apply (d : Fin 128) (c : Fin 128) (r : Fin 5) (q : Fin 1024) (hr : r.val = 4 + c.val / 128) (hq : q.val = 128 + c.val % 128) :
    o1_4 E (ix2 d c) = att E r q d := by
  unfold o1_4
  refine (out32_128_0_apply (sco E r q) (fun k => Vf E k d) _ _ _ d c (rowL32_128 E 0 r q _ _ c (rkM0_lo E) (rkM0_hi E) (fun d => rqm1_4_lo E d c r q hr hq) (fun d => rqm1_4_hi E d c) (by show q.val = 256 * 0 + 128 + c.val % 128; omega)) (rvA0_apply E d) (re1_4_0_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op1_4_apply (z : Fin 1) (x d : Fin 128) : op1_4 E (ix3 z x d) = att E 4 ⟨128 + x.val, by omega⟩ d := by
  have h : op1_4 E (ix3 z x d) = o1_4 E (ix2 d ⟨0 + x.val, by omega⟩) := by
    pointwise [op1_4]
  rw [h]
  exact o1_4_apply E d _ _ _ (by show 4 = 4 + (0 + x.val) / 128; omega) (by show 128 + x.val = 128 + (0 + x.val) % 128; omega)

theorem re2_0_0_eq : re2_0_0 E = exP32_256 (s2_0_0 E) (mx32_256_0 (s2_0_0 E)) := by
  unfold re2_0_0 hE2_0
  refine (miss16 _ _ _ _ 1 0 rfl rfl rfl rfl rfl rfl (by decide)).trans ?_
  exact hit16 _ _ _ _

theorem re2_0_1_eq : re2_0_1 E = exP16_256 (s2_0_1 E) (mx16_256_1 (s2_0_0 E) (s2_0_1 E)) := by
  unfold re2_0_1 hE2_0
  exact hit16 _ _ _ _

theorem o2_0_apply (d : Fin 128) (c : Fin 256) (r : Fin 5) (q : Fin 1024) (hr : r.val = 0 + c.val / 128) (hq : q.val = 256 + c.val % 128) :
    o2_0 E (ix2 d c) = att E r q d := by
  unfold o2_0
  refine (out16_256_1_apply (sco E r q) (fun k => Vf E k d) _ _ _ _ _ _ d c (rowP32_256 E 0 r q _ _ c (rkA0_apply E) (fun d => rq2_0_apply E d c r q hr hq) (by show 256 * 0 + 256 ≤ q.val; omega)) (rowL16_256 E 1 r q _ _ c (rkB1_lo E) (rkB1_hi E) (fun d => rqm2_0_lo E d c r q hr hq) (fun d => rqm2_0_hi E d c) (by show q.val = 256 * 1 + 0 + c.val % 128; omega)) (rvA0_apply E d) (rvB1_apply E d) (re2_0_0_eq E) (re2_0_1_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op2_0_apply (z : Fin 1) (x d : Fin 128) : op2_0 E (ix3 z x d) = att E 0 ⟨256 + x.val, by omega⟩ d := by
  have h : op2_0 E (ix3 z x d) = o2_0 E (ix2 d ⟨0 + x.val, by omega⟩) := by
    pointwise [op2_0]
  rw [h]
  exact o2_0_apply E d _ _ _ (by show 0 = 0 + (0 + x.val) / 128; omega) (by show 256 + x.val = 256 + (0 + x.val) % 128; omega)

theorem op2_1_apply (z : Fin 1) (x d : Fin 128) : op2_1 E (ix3 z x d) = att E 1 ⟨256 + x.val, by omega⟩ d := by
  have h : op2_1 E (ix3 z x d) = o2_0 E (ix2 d ⟨128 + x.val, by omega⟩) := by
    pointwise [op2_1]
  rw [h]
  exact o2_0_apply E d _ _ _ (by show 1 = 0 + (128 + x.val) / 128; omega) (by show 256 + x.val = 256 + (128 + x.val) % 128; omega)

theorem re2_2_0_eq : re2_2_0 E = exP32_256 (s2_2_0 E) (mx32_256_0 (s2_2_0 E)) := by
  unfold re2_2_0 hE2_2
  refine (miss16 _ _ _ _ 1 0 rfl rfl rfl rfl rfl rfl (by decide)).trans ?_
  exact hit16 _ _ _ _

theorem re2_2_1_eq : re2_2_1 E = exP16_256 (s2_2_1 E) (mx16_256_1 (s2_2_0 E) (s2_2_1 E)) := by
  unfold re2_2_1 hE2_2
  exact hit16 _ _ _ _

theorem o2_2_apply (d : Fin 128) (c : Fin 256) (r : Fin 5) (q : Fin 1024) (hr : r.val = 2 + c.val / 128) (hq : q.val = 256 + c.val % 128) :
    o2_2 E (ix2 d c) = att E r q d := by
  unfold o2_2
  refine (out16_256_1_apply (sco E r q) (fun k => Vf E k d) _ _ _ _ _ _ d c (rowP32_256 E 0 r q _ _ c (rkA0_apply E) (fun d => rq2_2_apply E d c r q hr hq) (by show 256 * 0 + 256 ≤ q.val; omega)) (rowL16_256 E 1 r q _ _ c (rkB1_lo E) (rkB1_hi E) (fun d => rqm2_2_lo E d c r q hr hq) (fun d => rqm2_2_hi E d c) (by show q.val = 256 * 1 + 0 + c.val % 128; omega)) (rvA0_apply E d) (rvB1_apply E d) (re2_2_0_eq E) (re2_2_1_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op2_2_apply (z : Fin 1) (x d : Fin 128) : op2_2 E (ix3 z x d) = att E 2 ⟨256 + x.val, by omega⟩ d := by
  have h : op2_2 E (ix3 z x d) = o2_2 E (ix2 d ⟨0 + x.val, by omega⟩) := by
    pointwise [op2_2]
  rw [h]
  exact o2_2_apply E d _ _ _ (by show 2 = 2 + (0 + x.val) / 128; omega) (by show 256 + x.val = 256 + (0 + x.val) % 128; omega)

theorem op2_3_apply (z : Fin 1) (x d : Fin 128) : op2_3 E (ix3 z x d) = att E 3 ⟨256 + x.val, by omega⟩ d := by
  have h : op2_3 E (ix3 z x d) = o2_2 E (ix2 d ⟨128 + x.val, by omega⟩) := by
    pointwise [op2_3]
  rw [h]
  exact o2_2_apply E d _ _ _ (by show 3 = 2 + (128 + x.val) / 128; omega) (by show 256 + x.val = 256 + (128 + x.val) % 128; omega)

theorem re2_4_0_eq : re2_4_0 E = exP32_128 (s2_4_0 E) (mx32_128_0 (s2_4_0 E)) := by
  unfold re2_4_0 hE2_4
  refine (miss16 _ _ _ _ 1 0 rfl rfl rfl rfl rfl rfl (by decide)).trans ?_
  exact hit16 _ _ _ _

theorem re2_4_1_eq : re2_4_1 E = exP16_128 (s2_4_1 E) (mx16_128_1 (s2_4_0 E) (s2_4_1 E)) := by
  unfold re2_4_1 hE2_4
  exact hit16 _ _ _ _

theorem o2_4_apply (d : Fin 128) (c : Fin 128) (r : Fin 5) (q : Fin 1024) (hr : r.val = 4 + c.val / 128) (hq : q.val = 256 + c.val % 128) :
    o2_4 E (ix2 d c) = att E r q d := by
  unfold o2_4
  refine (out16_128_1_apply (sco E r q) (fun k => Vf E k d) _ _ _ _ _ _ d c (rowP32_128 E 0 r q _ _ c (rkA0_apply E) (fun d => rq2_4_apply E d c r q hr hq) (by show 256 * 0 + 256 ≤ q.val; omega)) (rowL16_128 E 1 r q _ _ c (rkB1_lo E) (rkB1_hi E) (fun d => rqm2_4_lo E d c r q hr hq) (fun d => rqm2_4_hi E d c) (by show q.val = 256 * 1 + 0 + c.val % 128; omega)) (rvA0_apply E d) (rvB1_apply E d) (re2_4_0_eq E) (re2_4_1_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op2_4_apply (z : Fin 1) (x d : Fin 128) : op2_4 E (ix3 z x d) = att E 4 ⟨256 + x.val, by omega⟩ d := by
  have h : op2_4 E (ix3 z x d) = o2_4 E (ix2 d ⟨0 + x.val, by omega⟩) := by
    pointwise [op2_4]
  rw [h]
  exact o2_4_apply E d _ _ _ (by show 4 = 4 + (0 + x.val) / 128; omega) (by show 256 + x.val = 256 + (0 + x.val) % 128; omega)

theorem re3_0_0_eq : re3_0_0 E = exP32_256 (s3_0_0 E) (mx32_256_0 (s3_0_0 E)) := by
  unfold re3_0_0 hE3_0
  refine (miss16 _ _ _ _ 1 0 rfl rfl rfl rfl rfl rfl (by decide)).trans ?_
  exact hit16 _ _ _ _

theorem re3_0_1_eq : re3_0_1 E = exP32_256 (s3_0_1 E) (mx32_256_1 (s3_0_0 E) (s3_0_1 E)) := by
  unfold re3_0_1 hE3_0
  exact hit16 _ _ _ _

theorem o3_0_apply (d : Fin 128) (c : Fin 256) (r : Fin 5) (q : Fin 1024) (hr : r.val = 0 + c.val / 128) (hq : q.val = 384 + c.val % 128) :
    o3_0 E (ix2 d c) = att E r q d := by
  unfold o3_0
  refine (out32_256_1_apply (sco E r q) (fun k => Vf E k d) _ _ _ _ _ _ d c (rowP32_256 E 0 r q _ _ c (rkA0_apply E) (fun d => rq3_0_apply E d c r q hr hq) (by show 256 * 0 + 256 ≤ q.val; omega)) (rowL32_256 E 1 r q _ _ c (rkM1_lo E) (rkM1_hi E) (fun d => rqm3_0_lo E d c r q hr hq) (fun d => rqm3_0_hi E d c) (by show q.val = 256 * 1 + 128 + c.val % 128; omega)) (rvA0_apply E d) (rvA1_apply E d) (re3_0_0_eq E) (re3_0_1_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op3_0_apply (z : Fin 1) (x d : Fin 128) : op3_0 E (ix3 z x d) = att E 0 ⟨384 + x.val, by omega⟩ d := by
  have h : op3_0 E (ix3 z x d) = o3_0 E (ix2 d ⟨0 + x.val, by omega⟩) := by
    pointwise [op3_0]
  rw [h]
  exact o3_0_apply E d _ _ _ (by show 0 = 0 + (0 + x.val) / 128; omega) (by show 384 + x.val = 384 + (0 + x.val) % 128; omega)

theorem op3_1_apply (z : Fin 1) (x d : Fin 128) : op3_1 E (ix3 z x d) = att E 1 ⟨384 + x.val, by omega⟩ d := by
  have h : op3_1 E (ix3 z x d) = o3_0 E (ix2 d ⟨128 + x.val, by omega⟩) := by
    pointwise [op3_1]
  rw [h]
  exact o3_0_apply E d _ _ _ (by show 1 = 0 + (128 + x.val) / 128; omega) (by show 384 + x.val = 384 + (128 + x.val) % 128; omega)

theorem re3_2_0_eq : re3_2_0 E = exP32_256 (s3_2_0 E) (mx32_256_0 (s3_2_0 E)) := by
  unfold re3_2_0 hE3_2
  refine (miss16 _ _ _ _ 1 0 rfl rfl rfl rfl rfl rfl (by decide)).trans ?_
  exact hit16 _ _ _ _

theorem re3_2_1_eq : re3_2_1 E = exP32_256 (s3_2_1 E) (mx32_256_1 (s3_2_0 E) (s3_2_1 E)) := by
  unfold re3_2_1 hE3_2
  exact hit16 _ _ _ _

theorem o3_2_apply (d : Fin 128) (c : Fin 256) (r : Fin 5) (q : Fin 1024) (hr : r.val = 2 + c.val / 128) (hq : q.val = 384 + c.val % 128) :
    o3_2 E (ix2 d c) = att E r q d := by
  unfold o3_2
  refine (out32_256_1_apply (sco E r q) (fun k => Vf E k d) _ _ _ _ _ _ d c (rowP32_256 E 0 r q _ _ c (rkA0_apply E) (fun d => rq3_2_apply E d c r q hr hq) (by show 256 * 0 + 256 ≤ q.val; omega)) (rowL32_256 E 1 r q _ _ c (rkM1_lo E) (rkM1_hi E) (fun d => rqm3_2_lo E d c r q hr hq) (fun d => rqm3_2_hi E d c) (by show q.val = 256 * 1 + 128 + c.val % 128; omega)) (rvA0_apply E d) (rvA1_apply E d) (re3_2_0_eq E) (re3_2_1_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op3_2_apply (z : Fin 1) (x d : Fin 128) : op3_2 E (ix3 z x d) = att E 2 ⟨384 + x.val, by omega⟩ d := by
  have h : op3_2 E (ix3 z x d) = o3_2 E (ix2 d ⟨0 + x.val, by omega⟩) := by
    pointwise [op3_2]
  rw [h]
  exact o3_2_apply E d _ _ _ (by show 2 = 2 + (0 + x.val) / 128; omega) (by show 384 + x.val = 384 + (0 + x.val) % 128; omega)

theorem op3_3_apply (z : Fin 1) (x d : Fin 128) : op3_3 E (ix3 z x d) = att E 3 ⟨384 + x.val, by omega⟩ d := by
  have h : op3_3 E (ix3 z x d) = o3_2 E (ix2 d ⟨128 + x.val, by omega⟩) := by
    pointwise [op3_3]
  rw [h]
  exact o3_2_apply E d _ _ _ (by show 3 = 2 + (128 + x.val) / 128; omega) (by show 384 + x.val = 384 + (128 + x.val) % 128; omega)

theorem re3_4_0_eq : re3_4_0 E = exP32_128 (s3_4_0 E) (mx32_128_0 (s3_4_0 E)) := by
  unfold re3_4_0 hE3_4
  refine (miss16 _ _ _ _ 1 0 rfl rfl rfl rfl rfl rfl (by decide)).trans ?_
  exact hit16 _ _ _ _

theorem re3_4_1_eq : re3_4_1 E = exP32_128 (s3_4_1 E) (mx32_128_1 (s3_4_0 E) (s3_4_1 E)) := by
  unfold re3_4_1 hE3_4
  exact hit16 _ _ _ _

theorem o3_4_apply (d : Fin 128) (c : Fin 128) (r : Fin 5) (q : Fin 1024) (hr : r.val = 4 + c.val / 128) (hq : q.val = 384 + c.val % 128) :
    o3_4 E (ix2 d c) = att E r q d := by
  unfold o3_4
  refine (out32_128_1_apply (sco E r q) (fun k => Vf E k d) _ _ _ _ _ _ d c (rowP32_128 E 0 r q _ _ c (rkA0_apply E) (fun d => rq3_4_apply E d c r q hr hq) (by show 256 * 0 + 256 ≤ q.val; omega)) (rowL32_128 E 1 r q _ _ c (rkM1_lo E) (rkM1_hi E) (fun d => rqm3_4_lo E d c r q hr hq) (fun d => rqm3_4_hi E d c) (by show q.val = 256 * 1 + 128 + c.val % 128; omega)) (rvA0_apply E d) (rvA1_apply E d) (re3_4_0_eq E) (re3_4_1_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op3_4_apply (z : Fin 1) (x d : Fin 128) : op3_4 E (ix3 z x d) = att E 4 ⟨384 + x.val, by omega⟩ d := by
  have h : op3_4 E (ix3 z x d) = o3_4 E (ix2 d ⟨0 + x.val, by omega⟩) := by
    pointwise [op3_4]
  rw [h]
  exact o3_4_apply E d _ _ _ (by show 4 = 4 + (0 + x.val) / 128; omega) (by show 384 + x.val = 384 + (0 + x.val) % 128; omega)

theorem re4_0_0_eq : re4_0_0 E = exP32_256 (s4_0_0 E) (mx32_256_0 (s4_0_0 E)) := by
  unfold re4_0_0 hE4_0
  refine (miss16 _ _ _ _ 2 0 rfl rfl rfl rfl rfl rfl (by decide)).trans ?_
  refine (miss16 _ _ _ _ 1 0 rfl rfl rfl rfl rfl rfl (by decide)).trans ?_
  exact hit16 _ _ _ _

theorem re4_0_1_eq : re4_0_1 E = exP32_256 (s4_0_1 E) (mx32_256_1 (s4_0_0 E) (s4_0_1 E)) := by
  unfold re4_0_1 hE4_0
  refine (miss16 _ _ _ _ 2 1 rfl rfl rfl rfl rfl rfl (by decide)).trans ?_
  exact hit16 _ _ _ _

theorem re4_0_2_eq : re4_0_2 E = exP16_256 (s4_0_2 E) (mx16_256_2 (s4_0_0 E) (s4_0_1 E) (s4_0_2 E)) := by
  unfold re4_0_2 hE4_0
  exact hit16 _ _ _ _

theorem o4_0_apply (d : Fin 128) (c : Fin 256) (r : Fin 5) (q : Fin 1024) (hr : r.val = 0 + c.val / 128) (hq : q.val = 512 + c.val % 128) :
    o4_0 E (ix2 d c) = att E r q d := by
  unfold o4_0
  refine (out16_256_2_apply (sco E r q) (fun k => Vf E k d) _ _ _ _ _ _ _ _ _ d c (rowP32_256 E 0 r q _ _ c (rkA0_apply E) (fun d => rq4_0_apply E d c r q hr hq) (by show 256 * 0 + 256 ≤ q.val; omega)) (rowP32_256 E 1 r q _ _ c (rkA1_apply E) (fun d => rq4_0_apply E d c r q hr hq) (by show 256 * 1 + 256 ≤ q.val; omega)) (rowL16_256 E 2 r q _ _ c (rkB2_lo E) (rkB2_hi E) (fun d => rqm4_0_lo E d c r q hr hq) (fun d => rqm4_0_hi E d c) (by show q.val = 256 * 2 + 0 + c.val % 128; omega)) (rvA0_apply E d) (rvA1_apply E d) (rvB2_apply E d) (re4_0_0_eq E) (re4_0_1_eq E) (re4_0_2_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op4_0_apply (z : Fin 1) (x d : Fin 128) : op4_0 E (ix3 z x d) = att E 0 ⟨512 + x.val, by omega⟩ d := by
  have h : op4_0 E (ix3 z x d) = o4_0 E (ix2 d ⟨0 + x.val, by omega⟩) := by
    pointwise [op4_0]
  rw [h]
  exact o4_0_apply E d _ _ _ (by show 0 = 0 + (0 + x.val) / 128; omega) (by show 512 + x.val = 512 + (0 + x.val) % 128; omega)

theorem op4_1_apply (z : Fin 1) (x d : Fin 128) : op4_1 E (ix3 z x d) = att E 1 ⟨512 + x.val, by omega⟩ d := by
  have h : op4_1 E (ix3 z x d) = o4_0 E (ix2 d ⟨128 + x.val, by omega⟩) := by
    pointwise [op4_1]
  rw [h]
  exact o4_0_apply E d _ _ _ (by show 1 = 0 + (128 + x.val) / 128; omega) (by show 512 + x.val = 512 + (128 + x.val) % 128; omega)

theorem re4_2_0_eq : re4_2_0 E = exP32_256 (s4_2_0 E) (mx32_256_0 (s4_2_0 E)) := by
  unfold re4_2_0 hE4_2
  refine (miss16 _ _ _ _ 2 0 rfl rfl rfl rfl rfl rfl (by decide)).trans ?_
  refine (miss16 _ _ _ _ 1 0 rfl rfl rfl rfl rfl rfl (by decide)).trans ?_
  exact hit16 _ _ _ _

theorem re4_2_1_eq : re4_2_1 E = exP32_256 (s4_2_1 E) (mx32_256_1 (s4_2_0 E) (s4_2_1 E)) := by
  unfold re4_2_1 hE4_2
  refine (miss16 _ _ _ _ 2 1 rfl rfl rfl rfl rfl rfl (by decide)).trans ?_
  exact hit16 _ _ _ _

theorem re4_2_2_eq : re4_2_2 E = exP16_256 (s4_2_2 E) (mx16_256_2 (s4_2_0 E) (s4_2_1 E) (s4_2_2 E)) := by
  unfold re4_2_2 hE4_2
  exact hit16 _ _ _ _

theorem o4_2_apply (d : Fin 128) (c : Fin 256) (r : Fin 5) (q : Fin 1024) (hr : r.val = 2 + c.val / 128) (hq : q.val = 512 + c.val % 128) :
    o4_2 E (ix2 d c) = att E r q d := by
  unfold o4_2
  refine (out16_256_2_apply (sco E r q) (fun k => Vf E k d) _ _ _ _ _ _ _ _ _ d c (rowP32_256 E 0 r q _ _ c (rkA0_apply E) (fun d => rq4_2_apply E d c r q hr hq) (by show 256 * 0 + 256 ≤ q.val; omega)) (rowP32_256 E 1 r q _ _ c (rkA1_apply E) (fun d => rq4_2_apply E d c r q hr hq) (by show 256 * 1 + 256 ≤ q.val; omega)) (rowL16_256 E 2 r q _ _ c (rkB2_lo E) (rkB2_hi E) (fun d => rqm4_2_lo E d c r q hr hq) (fun d => rqm4_2_hi E d c) (by show q.val = 256 * 2 + 0 + c.val % 128; omega)) (rvA0_apply E d) (rvA1_apply E d) (rvB2_apply E d) (re4_2_0_eq E) (re4_2_1_eq E) (re4_2_2_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op4_2_apply (z : Fin 1) (x d : Fin 128) : op4_2 E (ix3 z x d) = att E 2 ⟨512 + x.val, by omega⟩ d := by
  have h : op4_2 E (ix3 z x d) = o4_2 E (ix2 d ⟨0 + x.val, by omega⟩) := by
    pointwise [op4_2]
  rw [h]
  exact o4_2_apply E d _ _ _ (by show 2 = 2 + (0 + x.val) / 128; omega) (by show 512 + x.val = 512 + (0 + x.val) % 128; omega)

theorem op4_3_apply (z : Fin 1) (x d : Fin 128) : op4_3 E (ix3 z x d) = att E 3 ⟨512 + x.val, by omega⟩ d := by
  have h : op4_3 E (ix3 z x d) = o4_2 E (ix2 d ⟨128 + x.val, by omega⟩) := by
    pointwise [op4_3]
  rw [h]
  exact o4_2_apply E d _ _ _ (by show 3 = 2 + (128 + x.val) / 128; omega) (by show 512 + x.val = 512 + (128 + x.val) % 128; omega)

theorem re4_4_0_eq : re4_4_0 E = exP32_128 (s4_4_0 E) (mx32_128_0 (s4_4_0 E)) := by
  unfold re4_4_0 hE4_4
  refine (miss16 _ _ _ _ 2 0 rfl rfl rfl rfl rfl rfl (by decide)).trans ?_
  refine (miss16 _ _ _ _ 1 0 rfl rfl rfl rfl rfl rfl (by decide)).trans ?_
  exact hit16 _ _ _ _

theorem re4_4_1_eq : re4_4_1 E = exP32_128 (s4_4_1 E) (mx32_128_1 (s4_4_0 E) (s4_4_1 E)) := by
  unfold re4_4_1 hE4_4
  refine (miss16 _ _ _ _ 2 1 rfl rfl rfl rfl rfl rfl (by decide)).trans ?_
  exact hit16 _ _ _ _

theorem re4_4_2_eq : re4_4_2 E = exP16_128 (s4_4_2 E) (mx16_128_2 (s4_4_0 E) (s4_4_1 E) (s4_4_2 E)) := by
  unfold re4_4_2 hE4_4
  exact hit16 _ _ _ _

theorem o4_4_apply (d : Fin 128) (c : Fin 128) (r : Fin 5) (q : Fin 1024) (hr : r.val = 4 + c.val / 128) (hq : q.val = 512 + c.val % 128) :
    o4_4 E (ix2 d c) = att E r q d := by
  unfold o4_4
  refine (out16_128_2_apply (sco E r q) (fun k => Vf E k d) _ _ _ _ _ _ _ _ _ d c (rowP32_128 E 0 r q _ _ c (rkA0_apply E) (fun d => rq4_4_apply E d c r q hr hq) (by show 256 * 0 + 256 ≤ q.val; omega)) (rowP32_128 E 1 r q _ _ c (rkA1_apply E) (fun d => rq4_4_apply E d c r q hr hq) (by show 256 * 1 + 256 ≤ q.val; omega)) (rowL16_128 E 2 r q _ _ c (rkB2_lo E) (rkB2_hi E) (fun d => rqm4_4_lo E d c r q hr hq) (fun d => rqm4_4_hi E d c) (by show q.val = 256 * 2 + 0 + c.val % 128; omega)) (rvA0_apply E d) (rvA1_apply E d) (rvB2_apply E d) (re4_4_0_eq E) (re4_4_1_eq E) (re4_4_2_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op4_4_apply (z : Fin 1) (x d : Fin 128) : op4_4 E (ix3 z x d) = att E 4 ⟨512 + x.val, by omega⟩ d := by
  have h : op4_4 E (ix3 z x d) = o4_4 E (ix2 d ⟨0 + x.val, by omega⟩) := by
    pointwise [op4_4]
  rw [h]
  exact o4_4_apply E d _ _ _ (by show 4 = 4 + (0 + x.val) / 128; omega) (by show 512 + x.val = 512 + (0 + x.val) % 128; omega)

theorem re5_0_0_eq : re5_0_0 E = exP32_256 (s5_0_0 E) (mx32_256_0 (s5_0_0 E)) := by
  unfold re5_0_0 hE5_0
  refine (miss16 _ _ _ _ 2 0 rfl rfl rfl rfl rfl rfl (by decide)).trans ?_
  refine (miss16 _ _ _ _ 1 0 rfl rfl rfl rfl rfl rfl (by decide)).trans ?_
  exact hit16 _ _ _ _

theorem re5_0_1_eq : re5_0_1 E = exP32_256 (s5_0_1 E) (mx32_256_1 (s5_0_0 E) (s5_0_1 E)) := by
  unfold re5_0_1 hE5_0
  refine (miss16 _ _ _ _ 2 1 rfl rfl rfl rfl rfl rfl (by decide)).trans ?_
  exact hit16 _ _ _ _

theorem re5_0_2_eq : re5_0_2 E = exP32_256 (s5_0_2 E) (mx32_256_2 (s5_0_0 E) (s5_0_1 E) (s5_0_2 E)) := by
  unfold re5_0_2 hE5_0
  exact hit16 _ _ _ _

theorem o5_0_apply (d : Fin 128) (c : Fin 256) (r : Fin 5) (q : Fin 1024) (hr : r.val = 0 + c.val / 128) (hq : q.val = 640 + c.val % 128) :
    o5_0 E (ix2 d c) = att E r q d := by
  unfold o5_0
  refine (out32_256_2_apply (sco E r q) (fun k => Vf E k d) _ _ _ _ _ _ _ _ _ d c (rowP32_256 E 0 r q _ _ c (rkA0_apply E) (fun d => rq5_0_apply E d c r q hr hq) (by show 256 * 0 + 256 ≤ q.val; omega)) (rowP32_256 E 1 r q _ _ c (rkA1_apply E) (fun d => rq5_0_apply E d c r q hr hq) (by show 256 * 1 + 256 ≤ q.val; omega)) (rowL32_256 E 2 r q _ _ c (rkM2_lo E) (rkM2_hi E) (fun d => rqm5_0_lo E d c r q hr hq) (fun d => rqm5_0_hi E d c) (by show q.val = 256 * 2 + 128 + c.val % 128; omega)) (rvA0_apply E d) (rvA1_apply E d) (rvA2_apply E d) (re5_0_0_eq E) (re5_0_1_eq E) (re5_0_2_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op5_0_apply (z : Fin 1) (x d : Fin 128) : op5_0 E (ix3 z x d) = att E 0 ⟨640 + x.val, by omega⟩ d := by
  have h : op5_0 E (ix3 z x d) = o5_0 E (ix2 d ⟨0 + x.val, by omega⟩) := by
    pointwise [op5_0]
  rw [h]
  exact o5_0_apply E d _ _ _ (by show 0 = 0 + (0 + x.val) / 128; omega) (by show 640 + x.val = 640 + (0 + x.val) % 128; omega)

theorem op5_1_apply (z : Fin 1) (x d : Fin 128) : op5_1 E (ix3 z x d) = att E 1 ⟨640 + x.val, by omega⟩ d := by
  have h : op5_1 E (ix3 z x d) = o5_0 E (ix2 d ⟨128 + x.val, by omega⟩) := by
    pointwise [op5_1]
  rw [h]
  exact o5_0_apply E d _ _ _ (by show 1 = 0 + (128 + x.val) / 128; omega) (by show 640 + x.val = 640 + (128 + x.val) % 128; omega)

theorem re5_2_0_eq : re5_2_0 E = exP32_256 (s5_2_0 E) (mx32_256_0 (s5_2_0 E)) := by
  unfold re5_2_0 hE5_2
  refine (miss16 _ _ _ _ 2 0 rfl rfl rfl rfl rfl rfl (by decide)).trans ?_
  refine (miss16 _ _ _ _ 1 0 rfl rfl rfl rfl rfl rfl (by decide)).trans ?_
  exact hit16 _ _ _ _

theorem re5_2_1_eq : re5_2_1 E = exP32_256 (s5_2_1 E) (mx32_256_1 (s5_2_0 E) (s5_2_1 E)) := by
  unfold re5_2_1 hE5_2
  refine (miss16 _ _ _ _ 2 1 rfl rfl rfl rfl rfl rfl (by decide)).trans ?_
  exact hit16 _ _ _ _

theorem re5_2_2_eq : re5_2_2 E = exP32_256 (s5_2_2 E) (mx32_256_2 (s5_2_0 E) (s5_2_1 E) (s5_2_2 E)) := by
  unfold re5_2_2 hE5_2
  exact hit16 _ _ _ _

theorem o5_2_apply (d : Fin 128) (c : Fin 256) (r : Fin 5) (q : Fin 1024) (hr : r.val = 2 + c.val / 128) (hq : q.val = 640 + c.val % 128) :
    o5_2 E (ix2 d c) = att E r q d := by
  unfold o5_2
  refine (out32_256_2_apply (sco E r q) (fun k => Vf E k d) _ _ _ _ _ _ _ _ _ d c (rowP32_256 E 0 r q _ _ c (rkA0_apply E) (fun d => rq5_2_apply E d c r q hr hq) (by show 256 * 0 + 256 ≤ q.val; omega)) (rowP32_256 E 1 r q _ _ c (rkA1_apply E) (fun d => rq5_2_apply E d c r q hr hq) (by show 256 * 1 + 256 ≤ q.val; omega)) (rowL32_256 E 2 r q _ _ c (rkM2_lo E) (rkM2_hi E) (fun d => rqm5_2_lo E d c r q hr hq) (fun d => rqm5_2_hi E d c) (by show q.val = 256 * 2 + 128 + c.val % 128; omega)) (rvA0_apply E d) (rvA1_apply E d) (rvA2_apply E d) (re5_2_0_eq E) (re5_2_1_eq E) (re5_2_2_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op5_2_apply (z : Fin 1) (x d : Fin 128) : op5_2 E (ix3 z x d) = att E 2 ⟨640 + x.val, by omega⟩ d := by
  have h : op5_2 E (ix3 z x d) = o5_2 E (ix2 d ⟨0 + x.val, by omega⟩) := by
    pointwise [op5_2]
  rw [h]
  exact o5_2_apply E d _ _ _ (by show 2 = 2 + (0 + x.val) / 128; omega) (by show 640 + x.val = 640 + (0 + x.val) % 128; omega)

theorem op5_3_apply (z : Fin 1) (x d : Fin 128) : op5_3 E (ix3 z x d) = att E 3 ⟨640 + x.val, by omega⟩ d := by
  have h : op5_3 E (ix3 z x d) = o5_2 E (ix2 d ⟨128 + x.val, by omega⟩) := by
    pointwise [op5_3]
  rw [h]
  exact o5_2_apply E d _ _ _ (by show 3 = 2 + (128 + x.val) / 128; omega) (by show 640 + x.val = 640 + (128 + x.val) % 128; omega)

theorem re5_4_0_eq : re5_4_0 E = exP32_128 (s5_4_0 E) (mx32_128_0 (s5_4_0 E)) := by
  unfold re5_4_0 hE5_4
  refine (miss16 _ _ _ _ 2 0 rfl rfl rfl rfl rfl rfl (by decide)).trans ?_
  refine (miss16 _ _ _ _ 1 0 rfl rfl rfl rfl rfl rfl (by decide)).trans ?_
  exact hit16 _ _ _ _

theorem re5_4_1_eq : re5_4_1 E = exP32_128 (s5_4_1 E) (mx32_128_1 (s5_4_0 E) (s5_4_1 E)) := by
  unfold re5_4_1 hE5_4
  refine (miss16 _ _ _ _ 2 1 rfl rfl rfl rfl rfl rfl (by decide)).trans ?_
  exact hit16 _ _ _ _

theorem re5_4_2_eq : re5_4_2 E = exP32_128 (s5_4_2 E) (mx32_128_2 (s5_4_0 E) (s5_4_1 E) (s5_4_2 E)) := by
  unfold re5_4_2 hE5_4
  exact hit16 _ _ _ _

theorem o5_4_apply (d : Fin 128) (c : Fin 128) (r : Fin 5) (q : Fin 1024) (hr : r.val = 4 + c.val / 128) (hq : q.val = 640 + c.val % 128) :
    o5_4 E (ix2 d c) = att E r q d := by
  unfold o5_4
  refine (out32_128_2_apply (sco E r q) (fun k => Vf E k d) _ _ _ _ _ _ _ _ _ d c (rowP32_128 E 0 r q _ _ c (rkA0_apply E) (fun d => rq5_4_apply E d c r q hr hq) (by show 256 * 0 + 256 ≤ q.val; omega)) (rowP32_128 E 1 r q _ _ c (rkA1_apply E) (fun d => rq5_4_apply E d c r q hr hq) (by show 256 * 1 + 256 ≤ q.val; omega)) (rowL32_128 E 2 r q _ _ c (rkM2_lo E) (rkM2_hi E) (fun d => rqm5_4_lo E d c r q hr hq) (fun d => rqm5_4_hi E d c) (by show q.val = 256 * 2 + 128 + c.val % 128; omega)) (rvA0_apply E d) (rvA1_apply E d) (rvA2_apply E d) (re5_4_0_eq E) (re5_4_1_eq E) (re5_4_2_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op5_4_apply (z : Fin 1) (x d : Fin 128) : op5_4 E (ix3 z x d) = att E 4 ⟨640 + x.val, by omega⟩ d := by
  have h : op5_4 E (ix3 z x d) = o5_4 E (ix2 d ⟨0 + x.val, by omega⟩) := by
    pointwise [op5_4]
  rw [h]
  exact o5_4_apply E d _ _ _ (by show 4 = 4 + (0 + x.val) / 128; omega) (by show 640 + x.val = 640 + (0 + x.val) % 128; omega)

theorem re6_0_0_eq : re6_0_0 E = exP32_256 (s6_0_0 E) (mx32_256_0 (s6_0_0 E)) := by
  unfold re6_0_0 hE6_0
  refine (miss16 _ _ _ _ 3 0 rfl rfl rfl rfl rfl rfl (by decide)).trans ?_
  refine (miss16 _ _ _ _ 2 0 rfl rfl rfl rfl rfl rfl (by decide)).trans ?_
  refine (miss16 _ _ _ _ 1 0 rfl rfl rfl rfl rfl rfl (by decide)).trans ?_
  exact hit16 _ _ _ _

theorem re6_0_1_eq : re6_0_1 E = exP32_256 (s6_0_1 E) (mx32_256_1 (s6_0_0 E) (s6_0_1 E)) := by
  unfold re6_0_1 hE6_0
  refine (miss16 _ _ _ _ 3 1 rfl rfl rfl rfl rfl rfl (by decide)).trans ?_
  refine (miss16 _ _ _ _ 2 1 rfl rfl rfl rfl rfl rfl (by decide)).trans ?_
  exact hit16 _ _ _ _

theorem re6_0_2_eq : re6_0_2 E = exP32_256 (s6_0_2 E) (mx32_256_2 (s6_0_0 E) (s6_0_1 E) (s6_0_2 E)) := by
  unfold re6_0_2 hE6_0
  refine (miss16 _ _ _ _ 3 2 rfl rfl rfl rfl rfl rfl (by decide)).trans ?_
  exact hit16 _ _ _ _

theorem re6_0_3_eq : re6_0_3 E = exP16_256 (s6_0_3 E) (mx16_256_3 (s6_0_0 E) (s6_0_1 E) (s6_0_2 E) (s6_0_3 E)) := by
  unfold re6_0_3 hE6_0
  exact hit16 _ _ _ _

theorem o6_0_apply (d : Fin 128) (c : Fin 256) (r : Fin 5) (q : Fin 1024) (hr : r.val = 0 + c.val / 128) (hq : q.val = 768 + c.val % 128) :
    o6_0 E (ix2 d c) = att E r q d := by
  unfold o6_0
  refine (out16_256_3_apply (sco E r q) (fun k => Vf E k d) _ _ _ _ _ _ _ _ _ _ _ _ d c (rowP32_256 E 0 r q _ _ c (rkA0_apply E) (fun d => rq6_0_apply E d c r q hr hq) (by show 256 * 0 + 256 ≤ q.val; omega)) (rowP32_256 E 1 r q _ _ c (rkA1_apply E) (fun d => rq6_0_apply E d c r q hr hq) (by show 256 * 1 + 256 ≤ q.val; omega)) (rowP32_256 E 2 r q _ _ c (rkA2_apply E) (fun d => rq6_0_apply E d c r q hr hq) (by show 256 * 2 + 256 ≤ q.val; omega)) (rowL16_256 E 3 r q _ _ c (rkB3_lo E) (rkB3_hi E) (fun d => rqm6_0_lo E d c r q hr hq) (fun d => rqm6_0_hi E d c) (by show q.val = 256 * 3 + 0 + c.val % 128; omega)) (rvA0_apply E d) (rvA1_apply E d) (rvA2_apply E d) (rvB3_apply E d) (re6_0_0_eq E) (re6_0_1_eq E) (re6_0_2_eq E) (re6_0_3_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op6_0_apply (z : Fin 1) (x d : Fin 128) : op6_0 E (ix3 z x d) = att E 0 ⟨768 + x.val, by omega⟩ d := by
  have h : op6_0 E (ix3 z x d) = o6_0 E (ix2 d ⟨0 + x.val, by omega⟩) := by
    pointwise [op6_0]
  rw [h]
  exact o6_0_apply E d _ _ _ (by show 0 = 0 + (0 + x.val) / 128; omega) (by show 768 + x.val = 768 + (0 + x.val) % 128; omega)

theorem op6_1_apply (z : Fin 1) (x d : Fin 128) : op6_1 E (ix3 z x d) = att E 1 ⟨768 + x.val, by omega⟩ d := by
  have h : op6_1 E (ix3 z x d) = o6_0 E (ix2 d ⟨128 + x.val, by omega⟩) := by
    pointwise [op6_1]
  rw [h]
  exact o6_0_apply E d _ _ _ (by show 1 = 0 + (128 + x.val) / 128; omega) (by show 768 + x.val = 768 + (128 + x.val) % 128; omega)

theorem re6_2_0_eq : re6_2_0 E = exP32_256 (s6_2_0 E) (mx32_256_0 (s6_2_0 E)) := by
  unfold re6_2_0 hE6_2
  refine (miss16 _ _ _ _ 3 0 rfl rfl rfl rfl rfl rfl (by decide)).trans ?_
  refine (miss16 _ _ _ _ 2 0 rfl rfl rfl rfl rfl rfl (by decide)).trans ?_
  refine (miss16 _ _ _ _ 1 0 rfl rfl rfl rfl rfl rfl (by decide)).trans ?_
  exact hit16 _ _ _ _

theorem re6_2_1_eq : re6_2_1 E = exP32_256 (s6_2_1 E) (mx32_256_1 (s6_2_0 E) (s6_2_1 E)) := by
  unfold re6_2_1 hE6_2
  refine (miss16 _ _ _ _ 3 1 rfl rfl rfl rfl rfl rfl (by decide)).trans ?_
  refine (miss16 _ _ _ _ 2 1 rfl rfl rfl rfl rfl rfl (by decide)).trans ?_
  exact hit16 _ _ _ _

theorem re6_2_2_eq : re6_2_2 E = exP32_256 (s6_2_2 E) (mx32_256_2 (s6_2_0 E) (s6_2_1 E) (s6_2_2 E)) := by
  unfold re6_2_2 hE6_2
  refine (miss16 _ _ _ _ 3 2 rfl rfl rfl rfl rfl rfl (by decide)).trans ?_
  exact hit16 _ _ _ _

theorem re6_2_3_eq : re6_2_3 E = exP16_256 (s6_2_3 E) (mx16_256_3 (s6_2_0 E) (s6_2_1 E) (s6_2_2 E) (s6_2_3 E)) := by
  unfold re6_2_3 hE6_2
  exact hit16 _ _ _ _

theorem o6_2_apply (d : Fin 128) (c : Fin 256) (r : Fin 5) (q : Fin 1024) (hr : r.val = 2 + c.val / 128) (hq : q.val = 768 + c.val % 128) :
    o6_2 E (ix2 d c) = att E r q d := by
  unfold o6_2
  refine (out16_256_3_apply (sco E r q) (fun k => Vf E k d) _ _ _ _ _ _ _ _ _ _ _ _ d c (rowP32_256 E 0 r q _ _ c (rkA0_apply E) (fun d => rq6_2_apply E d c r q hr hq) (by show 256 * 0 + 256 ≤ q.val; omega)) (rowP32_256 E 1 r q _ _ c (rkA1_apply E) (fun d => rq6_2_apply E d c r q hr hq) (by show 256 * 1 + 256 ≤ q.val; omega)) (rowP32_256 E 2 r q _ _ c (rkA2_apply E) (fun d => rq6_2_apply E d c r q hr hq) (by show 256 * 2 + 256 ≤ q.val; omega)) (rowL16_256 E 3 r q _ _ c (rkB3_lo E) (rkB3_hi E) (fun d => rqm6_2_lo E d c r q hr hq) (fun d => rqm6_2_hi E d c) (by show q.val = 256 * 3 + 0 + c.val % 128; omega)) (rvA0_apply E d) (rvA1_apply E d) (rvA2_apply E d) (rvB3_apply E d) (re6_2_0_eq E) (re6_2_1_eq E) (re6_2_2_eq E) (re6_2_3_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op6_2_apply (z : Fin 1) (x d : Fin 128) : op6_2 E (ix3 z x d) = att E 2 ⟨768 + x.val, by omega⟩ d := by
  have h : op6_2 E (ix3 z x d) = o6_2 E (ix2 d ⟨0 + x.val, by omega⟩) := by
    pointwise [op6_2]
  rw [h]
  exact o6_2_apply E d _ _ _ (by show 2 = 2 + (0 + x.val) / 128; omega) (by show 768 + x.val = 768 + (0 + x.val) % 128; omega)

theorem op6_3_apply (z : Fin 1) (x d : Fin 128) : op6_3 E (ix3 z x d) = att E 3 ⟨768 + x.val, by omega⟩ d := by
  have h : op6_3 E (ix3 z x d) = o6_2 E (ix2 d ⟨128 + x.val, by omega⟩) := by
    pointwise [op6_3]
  rw [h]
  exact o6_2_apply E d _ _ _ (by show 3 = 2 + (128 + x.val) / 128; omega) (by show 768 + x.val = 768 + (128 + x.val) % 128; omega)

theorem re6_4_0_eq : re6_4_0 E = exP32_128 (s6_4_0 E) (mx32_128_0 (s6_4_0 E)) := by
  unfold re6_4_0 hE6_4
  refine (miss16 _ _ _ _ 3 0 rfl rfl rfl rfl rfl rfl (by decide)).trans ?_
  refine (miss16 _ _ _ _ 2 0 rfl rfl rfl rfl rfl rfl (by decide)).trans ?_
  refine (miss16 _ _ _ _ 1 0 rfl rfl rfl rfl rfl rfl (by decide)).trans ?_
  exact hit16 _ _ _ _

theorem re6_4_1_eq : re6_4_1 E = exP32_128 (s6_4_1 E) (mx32_128_1 (s6_4_0 E) (s6_4_1 E)) := by
  unfold re6_4_1 hE6_4
  refine (miss16 _ _ _ _ 3 1 rfl rfl rfl rfl rfl rfl (by decide)).trans ?_
  refine (miss16 _ _ _ _ 2 1 rfl rfl rfl rfl rfl rfl (by decide)).trans ?_
  exact hit16 _ _ _ _

theorem re6_4_2_eq : re6_4_2 E = exP32_128 (s6_4_2 E) (mx32_128_2 (s6_4_0 E) (s6_4_1 E) (s6_4_2 E)) := by
  unfold re6_4_2 hE6_4
  refine (miss16 _ _ _ _ 3 2 rfl rfl rfl rfl rfl rfl (by decide)).trans ?_
  exact hit16 _ _ _ _

theorem re6_4_3_eq : re6_4_3 E = exP16_128 (s6_4_3 E) (mx16_128_3 (s6_4_0 E) (s6_4_1 E) (s6_4_2 E) (s6_4_3 E)) := by
  unfold re6_4_3 hE6_4
  exact hit16 _ _ _ _

theorem o6_4_apply (d : Fin 128) (c : Fin 128) (r : Fin 5) (q : Fin 1024) (hr : r.val = 4 + c.val / 128) (hq : q.val = 768 + c.val % 128) :
    o6_4 E (ix2 d c) = att E r q d := by
  unfold o6_4
  refine (out16_128_3_apply (sco E r q) (fun k => Vf E k d) _ _ _ _ _ _ _ _ _ _ _ _ d c (rowP32_128 E 0 r q _ _ c (rkA0_apply E) (fun d => rq6_4_apply E d c r q hr hq) (by show 256 * 0 + 256 ≤ q.val; omega)) (rowP32_128 E 1 r q _ _ c (rkA1_apply E) (fun d => rq6_4_apply E d c r q hr hq) (by show 256 * 1 + 256 ≤ q.val; omega)) (rowP32_128 E 2 r q _ _ c (rkA2_apply E) (fun d => rq6_4_apply E d c r q hr hq) (by show 256 * 2 + 256 ≤ q.val; omega)) (rowL16_128 E 3 r q _ _ c (rkB3_lo E) (rkB3_hi E) (fun d => rqm6_4_lo E d c r q hr hq) (fun d => rqm6_4_hi E d c) (by show q.val = 256 * 3 + 0 + c.val % 128; omega)) (rvA0_apply E d) (rvA1_apply E d) (rvA2_apply E d) (rvB3_apply E d) (re6_4_0_eq E) (re6_4_1_eq E) (re6_4_2_eq E) (re6_4_3_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op6_4_apply (z : Fin 1) (x d : Fin 128) : op6_4 E (ix3 z x d) = att E 4 ⟨768 + x.val, by omega⟩ d := by
  have h : op6_4 E (ix3 z x d) = o6_4 E (ix2 d ⟨0 + x.val, by omega⟩) := by
    pointwise [op6_4]
  rw [h]
  exact o6_4_apply E d _ _ _ (by show 4 = 4 + (0 + x.val) / 128; omega) (by show 768 + x.val = 768 + (0 + x.val) % 128; omega)

theorem re7_0_0_eq : re7_0_0 E = exP32_256 (s7_0_0 E) (mx32_256_0 (s7_0_0 E)) := by
  unfold re7_0_0 hE7_0
  refine (miss16 _ _ _ _ 3 0 rfl rfl rfl rfl rfl rfl (by decide)).trans ?_
  refine (miss16 _ _ _ _ 2 0 rfl rfl rfl rfl rfl rfl (by decide)).trans ?_
  refine (miss16 _ _ _ _ 1 0 rfl rfl rfl rfl rfl rfl (by decide)).trans ?_
  exact hit16 _ _ _ _

theorem re7_0_1_eq : re7_0_1 E = exP32_256 (s7_0_1 E) (mx32_256_1 (s7_0_0 E) (s7_0_1 E)) := by
  unfold re7_0_1 hE7_0
  refine (miss16 _ _ _ _ 3 1 rfl rfl rfl rfl rfl rfl (by decide)).trans ?_
  refine (miss16 _ _ _ _ 2 1 rfl rfl rfl rfl rfl rfl (by decide)).trans ?_
  exact hit16 _ _ _ _

theorem re7_0_2_eq : re7_0_2 E = exP32_256 (s7_0_2 E) (mx32_256_2 (s7_0_0 E) (s7_0_1 E) (s7_0_2 E)) := by
  unfold re7_0_2 hE7_0
  refine (miss16 _ _ _ _ 3 2 rfl rfl rfl rfl rfl rfl (by decide)).trans ?_
  exact hit16 _ _ _ _

theorem re7_0_3_eq : re7_0_3 E = exP32_256 (s7_0_3 E) (mx32_256_3 (s7_0_0 E) (s7_0_1 E) (s7_0_2 E) (s7_0_3 E)) := by
  unfold re7_0_3 hE7_0
  exact hit16 _ _ _ _

theorem o7_0_apply (d : Fin 128) (c : Fin 256) (r : Fin 5) (q : Fin 1024) (hr : r.val = 0 + c.val / 128) (hq : q.val = 896 + c.val % 128) :
    o7_0 E (ix2 d c) = att E r q d := by
  unfold o7_0
  refine (out32_256_3_apply (sco E r q) (fun k => Vf E k d) _ _ _ _ _ _ _ _ _ _ _ _ d c (rowP32_256 E 0 r q _ _ c (rkA0_apply E) (fun d => rq7_0_apply E d c r q hr hq) (by show 256 * 0 + 256 ≤ q.val; omega)) (rowP32_256 E 1 r q _ _ c (rkA1_apply E) (fun d => rq7_0_apply E d c r q hr hq) (by show 256 * 1 + 256 ≤ q.val; omega)) (rowP32_256 E 2 r q _ _ c (rkA2_apply E) (fun d => rq7_0_apply E d c r q hr hq) (by show 256 * 2 + 256 ≤ q.val; omega)) (rowL32_256 E 3 r q _ _ c (rkM3_lo E) (rkM3_hi E) (fun d => rqm7_0_lo E d c r q hr hq) (fun d => rqm7_0_hi E d c) (by show q.val = 256 * 3 + 128 + c.val % 128; omega)) (rvA0_apply E d) (rvA1_apply E d) (rvA2_apply E d) (rvA3_apply E d) (re7_0_0_eq E) (re7_0_1_eq E) (re7_0_2_eq E) (re7_0_3_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op7_0_apply (z : Fin 1) (x d : Fin 128) : op7_0 E (ix3 z x d) = att E 0 ⟨896 + x.val, by omega⟩ d := by
  have h : op7_0 E (ix3 z x d) = o7_0 E (ix2 d ⟨0 + x.val, by omega⟩) := by
    pointwise [op7_0]
  rw [h]
  exact o7_0_apply E d _ _ _ (by show 0 = 0 + (0 + x.val) / 128; omega) (by show 896 + x.val = 896 + (0 + x.val) % 128; omega)

theorem op7_1_apply (z : Fin 1) (x d : Fin 128) : op7_1 E (ix3 z x d) = att E 1 ⟨896 + x.val, by omega⟩ d := by
  have h : op7_1 E (ix3 z x d) = o7_0 E (ix2 d ⟨128 + x.val, by omega⟩) := by
    pointwise [op7_1]
  rw [h]
  exact o7_0_apply E d _ _ _ (by show 1 = 0 + (128 + x.val) / 128; omega) (by show 896 + x.val = 896 + (128 + x.val) % 128; omega)

theorem re7_2_0_eq : re7_2_0 E = exP32_256 (s7_2_0 E) (mx32_256_0 (s7_2_0 E)) := by
  unfold re7_2_0 hE7_2
  refine (miss16 _ _ _ _ 3 0 rfl rfl rfl rfl rfl rfl (by decide)).trans ?_
  refine (miss16 _ _ _ _ 2 0 rfl rfl rfl rfl rfl rfl (by decide)).trans ?_
  refine (miss16 _ _ _ _ 1 0 rfl rfl rfl rfl rfl rfl (by decide)).trans ?_
  exact hit16 _ _ _ _

theorem re7_2_1_eq : re7_2_1 E = exP32_256 (s7_2_1 E) (mx32_256_1 (s7_2_0 E) (s7_2_1 E)) := by
  unfold re7_2_1 hE7_2
  refine (miss16 _ _ _ _ 3 1 rfl rfl rfl rfl rfl rfl (by decide)).trans ?_
  refine (miss16 _ _ _ _ 2 1 rfl rfl rfl rfl rfl rfl (by decide)).trans ?_
  exact hit16 _ _ _ _

theorem re7_2_2_eq : re7_2_2 E = exP32_256 (s7_2_2 E) (mx32_256_2 (s7_2_0 E) (s7_2_1 E) (s7_2_2 E)) := by
  unfold re7_2_2 hE7_2
  refine (miss16 _ _ _ _ 3 2 rfl rfl rfl rfl rfl rfl (by decide)).trans ?_
  exact hit16 _ _ _ _

theorem re7_2_3_eq : re7_2_3 E = exP32_256 (s7_2_3 E) (mx32_256_3 (s7_2_0 E) (s7_2_1 E) (s7_2_2 E) (s7_2_3 E)) := by
  unfold re7_2_3 hE7_2
  exact hit16 _ _ _ _

theorem o7_2_apply (d : Fin 128) (c : Fin 256) (r : Fin 5) (q : Fin 1024) (hr : r.val = 2 + c.val / 128) (hq : q.val = 896 + c.val % 128) :
    o7_2 E (ix2 d c) = att E r q d := by
  unfold o7_2
  refine (out32_256_3_apply (sco E r q) (fun k => Vf E k d) _ _ _ _ _ _ _ _ _ _ _ _ d c (rowP32_256 E 0 r q _ _ c (rkA0_apply E) (fun d => rq7_2_apply E d c r q hr hq) (by show 256 * 0 + 256 ≤ q.val; omega)) (rowP32_256 E 1 r q _ _ c (rkA1_apply E) (fun d => rq7_2_apply E d c r q hr hq) (by show 256 * 1 + 256 ≤ q.val; omega)) (rowP32_256 E 2 r q _ _ c (rkA2_apply E) (fun d => rq7_2_apply E d c r q hr hq) (by show 256 * 2 + 256 ≤ q.val; omega)) (rowL32_256 E 3 r q _ _ c (rkM3_lo E) (rkM3_hi E) (fun d => rqm7_2_lo E d c r q hr hq) (fun d => rqm7_2_hi E d c) (by show q.val = 256 * 3 + 128 + c.val % 128; omega)) (rvA0_apply E d) (rvA1_apply E d) (rvA2_apply E d) (rvA3_apply E d) (re7_2_0_eq E) (re7_2_1_eq E) (re7_2_2_eq E) (re7_2_3_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op7_2_apply (z : Fin 1) (x d : Fin 128) : op7_2 E (ix3 z x d) = att E 2 ⟨896 + x.val, by omega⟩ d := by
  have h : op7_2 E (ix3 z x d) = o7_2 E (ix2 d ⟨0 + x.val, by omega⟩) := by
    pointwise [op7_2]
  rw [h]
  exact o7_2_apply E d _ _ _ (by show 2 = 2 + (0 + x.val) / 128; omega) (by show 896 + x.val = 896 + (0 + x.val) % 128; omega)

theorem op7_3_apply (z : Fin 1) (x d : Fin 128) : op7_3 E (ix3 z x d) = att E 3 ⟨896 + x.val, by omega⟩ d := by
  have h : op7_3 E (ix3 z x d) = o7_2 E (ix2 d ⟨128 + x.val, by omega⟩) := by
    pointwise [op7_3]
  rw [h]
  exact o7_2_apply E d _ _ _ (by show 3 = 2 + (128 + x.val) / 128; omega) (by show 896 + x.val = 896 + (128 + x.val) % 128; omega)

theorem re7_4_0_eq : re7_4_0 E = exP32_128 (s7_4_0 E) (mx32_128_0 (s7_4_0 E)) := by
  unfold re7_4_0 hE7_4
  refine (miss16 _ _ _ _ 3 0 rfl rfl rfl rfl rfl rfl (by decide)).trans ?_
  refine (miss16 _ _ _ _ 2 0 rfl rfl rfl rfl rfl rfl (by decide)).trans ?_
  refine (miss16 _ _ _ _ 1 0 rfl rfl rfl rfl rfl rfl (by decide)).trans ?_
  exact hit16 _ _ _ _

theorem re7_4_1_eq : re7_4_1 E = exP32_128 (s7_4_1 E) (mx32_128_1 (s7_4_0 E) (s7_4_1 E)) := by
  unfold re7_4_1 hE7_4
  refine (miss16 _ _ _ _ 3 1 rfl rfl rfl rfl rfl rfl (by decide)).trans ?_
  refine (miss16 _ _ _ _ 2 1 rfl rfl rfl rfl rfl rfl (by decide)).trans ?_
  exact hit16 _ _ _ _

theorem re7_4_2_eq : re7_4_2 E = exP32_128 (s7_4_2 E) (mx32_128_2 (s7_4_0 E) (s7_4_1 E) (s7_4_2 E)) := by
  unfold re7_4_2 hE7_4
  refine (miss16 _ _ _ _ 3 2 rfl rfl rfl rfl rfl rfl (by decide)).trans ?_
  exact hit16 _ _ _ _

theorem re7_4_3_eq : re7_4_3 E = exP32_128 (s7_4_3 E) (mx32_128_3 (s7_4_0 E) (s7_4_1 E) (s7_4_2 E) (s7_4_3 E)) := by
  unfold re7_4_3 hE7_4
  exact hit16 _ _ _ _

theorem o7_4_apply (d : Fin 128) (c : Fin 128) (r : Fin 5) (q : Fin 1024) (hr : r.val = 4 + c.val / 128) (hq : q.val = 896 + c.val % 128) :
    o7_4 E (ix2 d c) = att E r q d := by
  unfold o7_4
  refine (out32_128_3_apply (sco E r q) (fun k => Vf E k d) _ _ _ _ _ _ _ _ _ _ _ _ d c (rowP32_128 E 0 r q _ _ c (rkA0_apply E) (fun d => rq7_4_apply E d c r q hr hq) (by show 256 * 0 + 256 ≤ q.val; omega)) (rowP32_128 E 1 r q _ _ c (rkA1_apply E) (fun d => rq7_4_apply E d c r q hr hq) (by show 256 * 1 + 256 ≤ q.val; omega)) (rowP32_128 E 2 r q _ _ c (rkA2_apply E) (fun d => rq7_4_apply E d c r q hr hq) (by show 256 * 2 + 256 ≤ q.val; omega)) (rowL32_128 E 3 r q _ _ c (rkM3_lo E) (rkM3_hi E) (fun d => rqm7_4_lo E d c r q hr hq) (fun d => rqm7_4_hi E d c) (by show q.val = 256 * 3 + 128 + c.val % 128; omega)) (rvA0_apply E d) (rvA1_apply E d) (rvA2_apply E d) (rvA3_apply E d) (re7_4_0_eq E) (re7_4_1_eq E) (re7_4_2_eq E) (re7_4_3_eq E)).trans ?_
  refine softK_eq _ _ _ fun k hk => ?_
  simp only [Finset.mem_union, mem_Kw, mem_Kn] at hk
  exact if_neg (by change ¬ _ at hk; simp only [Fin.isValue, Fin.coe_ofNat_eq_mod] at hk; omega)

theorem op7_4_apply (z : Fin 1) (x d : Fin 128) : op7_4 E (ix3 z x d) = att E 4 ⟨896 + x.val, by omega⟩ d := by
  have h : op7_4 E (ix3 z x d) = o7_4 E (ix2 d ⟨0 + x.val, by omega⟩) := by
    pointwise [op7_4]
  rw [h]
  exact o7_4_apply E d _ _ _ (by show 4 = 4 + (0 + x.val) / 128; omega) (by show 896 + x.val = 896 + (0 + x.val) % 128; omega)

/-- The output block. -/
def Gout (y : S1x1024x640.Idx) : EReal :=
  att E ⟨(y 2).val / 128, by have : (y 2).val < 640 := (y 2).isLt; omega⟩ ⟨(y 1).val, (y 1).isLt⟩ ⟨(y 2).val % 128, by omega⟩

theorem pOut (t : Fin 8) (r : Fin 5) (a o : ℕ) (ha : a = 128 * t.val) (ho : o = 128 * r.val) (inb) (f : FVec Ideal S1x128x128 .bf16)
    (hf : ∀ (z : Fin 1) (x d : Fin 128), f (ix3 z x d) = att E r ⟨128 * t.val + x.val, by omega⟩ d) (x : S1x128x128.Idx) :
    f x = Gout E ((Rect.unit (s := S1x1024x640) ![0, a, o] S1x128x128.size inb).emb x) := by
  subst ha ho
  have x1 : (x 1).val < 128 := (x 1).isLt
  have x2 : (x 2).val < 128 := (x 2).isLt
  refine (congrArg f (idx3_eta x)).trans ((hf _ _ _).trans ?_)
  unfold Gout
  congr 1
  · exact Fin.ext (by show r.val = (128 * r.val + 1 * (x 2).val) / 128; omega)
  · exact Fin.ext (by show 128 * t.val + (x 1).val = 128 * t.val + 1 * (x 1).val; omega)
  · exact Fin.ext (by show (x 2).val = (128 * r.val + 1 * (x 2).val) % 128; omega)

theorem outL_agree : ∀ p ∈ outL E, ∀ x : p.1.shape.Idx, p.2 x = Gout E (p.1.emb x) :=
  fc ⟨pOut E 7 4 896 512 rfl rfl inb_S1x1024x640_S1x128x128_0_896_512 _ (op7_4_apply E),
    fc ⟨pOut E 7 3 896 384 rfl rfl inb_S1x1024x640_S1x128x128_0_896_384 _ (op7_3_apply E),
    fc ⟨pOut E 7 2 896 256 rfl rfl inb_S1x1024x640_S1x128x128_0_896_256 _ (op7_2_apply E),
    fc ⟨pOut E 7 1 896 128 rfl rfl inb_S1x1024x640_S1x128x128_0_896_128 _ (op7_1_apply E),
    fc ⟨pOut E 7 0 896 0 rfl rfl inb_S1x1024x640_S1x128x128_0_896_0 _ (op7_0_apply E),
    fc ⟨pOut E 6 4 768 512 rfl rfl inb_S1x1024x640_S1x128x128_0_768_512 _ (op6_4_apply E),
    fc ⟨pOut E 6 3 768 384 rfl rfl inb_S1x1024x640_S1x128x128_0_768_384 _ (op6_3_apply E),
    fc ⟨pOut E 6 2 768 256 rfl rfl inb_S1x1024x640_S1x128x128_0_768_256 _ (op6_2_apply E),
    fc ⟨pOut E 6 1 768 128 rfl rfl inb_S1x1024x640_S1x128x128_0_768_128 _ (op6_1_apply E),
    fc ⟨pOut E 6 0 768 0 rfl rfl inb_S1x1024x640_S1x128x128_0_768_0 _ (op6_0_apply E),
    fc ⟨pOut E 5 4 640 512 rfl rfl inb_S1x1024x640_S1x128x128_0_640_512 _ (op5_4_apply E),
    fc ⟨pOut E 5 3 640 384 rfl rfl inb_S1x1024x640_S1x128x128_0_640_384 _ (op5_3_apply E),
    fc ⟨pOut E 5 2 640 256 rfl rfl inb_S1x1024x640_S1x128x128_0_640_256 _ (op5_2_apply E),
    fc ⟨pOut E 5 1 640 128 rfl rfl inb_S1x1024x640_S1x128x128_0_640_128 _ (op5_1_apply E),
    fc ⟨pOut E 5 0 640 0 rfl rfl inb_S1x1024x640_S1x128x128_0_640_0 _ (op5_0_apply E),
    fc ⟨pOut E 4 4 512 512 rfl rfl inb_S1x1024x640_S1x128x128_0_512_512 _ (op4_4_apply E),
    fc ⟨pOut E 4 3 512 384 rfl rfl inb_S1x1024x640_S1x128x128_0_512_384 _ (op4_3_apply E),
    fc ⟨pOut E 4 2 512 256 rfl rfl inb_S1x1024x640_S1x128x128_0_512_256 _ (op4_2_apply E),
    fc ⟨pOut E 4 1 512 128 rfl rfl inb_S1x1024x640_S1x128x128_0_512_128 _ (op4_1_apply E),
    fc ⟨pOut E 4 0 512 0 rfl rfl inb_S1x1024x640_S1x128x128_0_512_0 _ (op4_0_apply E),
    fc ⟨pOut E 3 4 384 512 rfl rfl inb_S1x1024x640_S1x128x128_0_384_512 _ (op3_4_apply E),
    fc ⟨pOut E 3 3 384 384 rfl rfl inb_S1x1024x640_S1x128x128_0_384_384 _ (op3_3_apply E),
    fc ⟨pOut E 3 2 384 256 rfl rfl inb_S1x1024x640_S1x128x128_0_384_256 _ (op3_2_apply E),
    fc ⟨pOut E 3 1 384 128 rfl rfl inb_S1x1024x640_S1x128x128_0_384_128 _ (op3_1_apply E),
    fc ⟨pOut E 3 0 384 0 rfl rfl inb_S1x1024x640_S1x128x128_0_384_0 _ (op3_0_apply E),
    fc ⟨pOut E 2 4 256 512 rfl rfl inb_S1x1024x640_S1x128x128_0_256_512 _ (op2_4_apply E),
    fc ⟨pOut E 2 3 256 384 rfl rfl inb_S1x1024x640_S1x128x128_0_256_384 _ (op2_3_apply E),
    fc ⟨pOut E 2 2 256 256 rfl rfl inb_S1x1024x640_S1x128x128_0_256_256 _ (op2_2_apply E),
    fc ⟨pOut E 2 1 256 128 rfl rfl inb_S1x1024x640_S1x128x128_0_256_128 _ (op2_1_apply E),
    fc ⟨pOut E 2 0 256 0 rfl rfl inb_S1x1024x640_S1x128x128_0_256_0 _ (op2_0_apply E),
    fc ⟨pOut E 1 4 128 512 rfl rfl inb_S1x1024x640_S1x128x128_0_128_512 _ (op1_4_apply E),
    fc ⟨pOut E 1 3 128 384 rfl rfl inb_S1x1024x640_S1x128x128_0_128_384 _ (op1_3_apply E),
    fc ⟨pOut E 1 2 128 256 rfl rfl inb_S1x1024x640_S1x128x128_0_128_256 _ (op1_2_apply E),
    fc ⟨pOut E 1 1 128 128 rfl rfl inb_S1x1024x640_S1x128x128_0_128_128 _ (op1_1_apply E),
    fc ⟨pOut E 1 0 128 0 rfl rfl inb_S1x1024x640_S1x128x128_0_128_0 _ (op1_0_apply E),
    fc ⟨pOut E 0 4 0 512 rfl rfl inb_S1x1024x640_S1x128x128_0_0_512 _ (op0_4_apply E),
    fc ⟨pOut E 0 3 0 384 rfl rfl inb_S1x1024x640_S1x128x128_0_0_384 _ (op0_3_apply E),
    fc ⟨pOut E 0 2 0 256 rfl rfl inb_S1x1024x640_S1x128x128_0_0_256 _ (op0_2_apply E),
    fc ⟨pOut E 0 1 0 128 rfl rfl inb_S1x1024x640_S1x128x128_0_0_128 _ (op0_1_apply E),
    fc ⟨pOut E 0 0 0 0 rfl rfl inb_S1x1024x640_S1x128x128_0_0_0 _ (op0_0_apply E),
    fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.KernelIdeal.Run

end
-- ==== Proof.RunA.lean ====
/- The kernel's body run whole in case A (not the last key-value head of its batch row): window 6's
   stores are the witness, windows 7 and 8 and the scratch buffers are handed back at some contents. -/
module

public import proofs.«01_k».proof.Proof.Run

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 12000000 in
/-- The body's triple in case A: the pieces its stores into window 6 leave (last first), with the proof that the body
    runs to them. -/
noncomputable def kernelRun0_A (c : Dev nD) (i : grid0.Coords) (arg2 : Memref sig .tc .vmem S1x5x1024x128 .fp8e4m3) (harg2 : arg2.IsWhole) (arg3 : Memref sig .tc .vmem S1x5x4x1024 .i8) (harg3 : arg3.IsWhole) (arg4 : Memref sig .tc .vmem S1x1x1024x128 .fp8e4m3) (harg4 : arg4.IsWhole) (arg5 : Memref sig .tc .vmem S1x1x4x1024 .i8) (harg5 : arg5.IsWhole) (arg6 : Memref sig .tc .vmem S1x1x1024x128 .fp8e4m3) (harg6 : arg6.IsWhole) (arg7 : Memref sig .tc .vmem S1x1x32x128 .i8) (harg7 : arg7.IsWhole) (arg8 : Memref sig .tc .vmem S1x1024x640 .bf16) (harg8 : arg8.IsWhole) (arg9 : Memref sig .tc .vmem S1x1024x640 .fp8e4m3) (harg9 : arg9.IsWhole) (arg10 : Memref sig .tc .vmem S1x120x1024 .i8) (harg10 : arg10.IsWhole) (arg11 : Memref sig .tc .vmem S8x256x640 .bf16) (harg11 : arg11.IsWhole) (arg12 : Memref sig .tc .vmem S4x256x256 .bf16) (harg12 : arg12.IsWhole) (arg13 : Memref sig .tc .vmem S4x128x256 .bf16) (harg13 : arg13.IsWhole) (arg14 : Memref sig .tc .vmem S4x128x256 .bf16) (harg14 : arg14.IsWhole) (arg15 : Memref sig .tc .vmem S4x128x128 .bf16) (harg15 : arg15.IsWhole) (arg16 : Memref sig .tc .vmem S4x32x8x256 .f32) (harg16 : arg16.IsWhole) (arg17 : Memref sig .tc .vmem S6x8x1024 .i32) (harg17 : arg17.IsWhole) (hc0 : ¬cond0_0 i)
    (x0 : Vec F S1x5x1024x128 .fp8e4m3) (x1 : Vec F S1x5x4x1024 .i8) (x2 : Vec F S1x1x1024x128 .fp8e4m3) (x3 : Vec F S1x1x4x1024 .i8) (x4 : Vec F S1x1x1024x128 .fp8e4m3) (x5 : Vec F S1x1x32x128 .i8) :
    { L6 : List (View.Piece (Elt F) S1x1024x640 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0__kernel_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?_⟩
  case refine_2 =>
    simp only [cc0__kernel_body_eq_skeleton]; unfold cc0__kernel_body_skel
    simp only [k0_part860_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part861_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part862_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part863_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part864_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part865_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part866_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part867_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part868_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part869_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part870_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part871_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part717_eq_skeleton, k0_part718_eq_skeleton, k0_part719_eq_skeleton, k0_part720_eq_skeleton, k0_part872_eq_skeleton, k0_part721_eq_skeleton, k0_part722_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton, k0_part873_eq_skeleton, k0_part781_eq_skeleton, k0_part782_eq_skeleton, k0_part783_eq_skeleton, k0_part784_eq_skeleton, k0_part785_eq_skeleton, k0_part786_eq_skeleton, k0_part787_eq_skeleton, k0_part788_eq_skeleton, k0_part789_eq_skeleton, k0_part790_eq_skeleton, k0_part791_eq_skeleton, k0_part792_eq_skeleton, k0_part793_eq_skeleton, k0_part794_eq_skeleton, k0_part795_eq_skeleton, k0_part796_eq_skeleton, k0_part797_eq_skeleton, k0_part798_eq_skeleton, k0_part799_eq_skeleton, k0_part800_eq_skeleton, k0_part801_eq_skeleton, k0_part802_eq_skeleton, k0_part803_eq_skeleton, k0_part804_eq_skeleton, k0_part805_eq_skeleton, k0_part806_eq_skeleton, k0_part807_eq_skeleton, k0_part808_eq_skeleton, k0_part809_eq_skeleton, k0_part810_eq_skeleton, k0_part811_eq_skeleton, k0_part812_eq_skeleton, k0_part813_eq_skeleton, k0_part814_eq_skeleton, k0_part815_eq_skeleton, k0_part816_eq_skeleton, k0_part817_eq_skeleton, k0_part818_eq_skeleton, k0_part819_eq_skeleton, k0_part820_eq_skeleton, k0_part821_eq_skeleton, k0_part822_eq_skeleton, k0_part823_eq_skeleton, k0_part824_eq_skeleton, k0_part825_eq_skeleton, k0_part826_eq_skeleton, k0_part827_eq_skeleton, k0_part828_eq_skeleton, k0_part829_eq_skeleton, k0_part830_eq_skeleton, k0_part831_eq_skeleton, k0_part832_eq_skeleton, k0_part833_eq_skeleton, k0_part834_eq_skeleton, k0_part835_eq_skeleton, k0_part836_eq_skeleton, k0_part837_eq_skeleton, k0_part838_eq_skeleton, k0_part839_eq_skeleton, k0_part840_eq_skeleton, k0_part874_eq_skeleton, k0_part841_eq_skeleton, k0_part842_eq_skeleton, k0_part843_eq_skeleton, k0_part844_eq_skeleton, k0_part845_eq_skeleton, k0_part846_eq_skeleton, k0_part847_eq_skeleton, k0_part848_eq_skeleton, k0_part849_eq_skeleton, k0_part850_eq_skeleton, k0_part851_eq_skeleton, k0_part852_eq_skeleton, k0_part853_eq_skeleton, k0_part854_eq_skeleton, k0_part855_eq_skeleton, k0_part856_eq_skeleton, k0_part857_eq_skeleton, k0_part858_eq_skeleton, k0_part859_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Run

end
-- ==== Proof.PiecesA.lean ====
/- In case A the stores the run leaves in the output block are the named ones. -/
module

public import proofs.«01_k».proof.Proof.RunA
public import proofs.«01_k».proof.Proof.Units

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F] [Named F]

/-- The pieces of case A, named. -/
theorem pieces_A (c : Dev nD) (i : grid0.Coords) (arg2 : Memref sig .tc .vmem S1x5x1024x128 .fp8e4m3) (harg2 : arg2.IsWhole) (arg3 : Memref sig .tc .vmem S1x5x4x1024 .i8) (harg3 : arg3.IsWhole) (arg4 : Memref sig .tc .vmem S1x1x1024x128 .fp8e4m3) (harg4 : arg4.IsWhole) (arg5 : Memref sig .tc .vmem S1x1x4x1024 .i8) (harg5 : arg5.IsWhole) (arg6 : Memref sig .tc .vmem S1x1x1024x128 .fp8e4m3) (harg6 : arg6.IsWhole) (arg7 : Memref sig .tc .vmem S1x1x32x128 .i8) (harg7 : arg7.IsWhole) (arg8 : Memref sig .tc .vmem S1x1024x640 .bf16) (harg8 : arg8.IsWhole) (arg9 : Memref sig .tc .vmem S1x1024x640 .fp8e4m3) (harg9 : arg9.IsWhole) (arg10 : Memref sig .tc .vmem S1x120x1024 .i8) (harg10 : arg10.IsWhole) (arg11 : Memref sig .tc .vmem S8x256x640 .bf16) (harg11 : arg11.IsWhole) (arg12 : Memref sig .tc .vmem S4x256x256 .bf16) (harg12 : arg12.IsWhole) (arg13 : Memref sig .tc .vmem S4x128x256 .bf16) (harg13 : arg13.IsWhole) (arg14 : Memref sig .tc .vmem S4x128x256 .bf16) (harg14 : arg14.IsWhole) (arg15 : Memref sig .tc .vmem S4x128x128 .bf16) (harg15 : arg15.IsWhole) (arg16 : Memref sig .tc .vmem S4x32x8x256 .f32) (harg16 : arg16.IsWhole) (arg17 : Memref sig .tc .vmem S6x8x1024 .i32) (harg17 : arg17.IsWhole) (hc0 : ¬cond0_0 i) (x0 : Vec F S1x5x1024x128 .fp8e4m3) (x1 : Vec F S1x5x4x1024 .i8) (x2 : Vec F S1x1x1024x128 .fp8e4m3) (x3 : Vec F S1x1x4x1024 .i8) (x4 : Vec F S1x1x1024x128 .fp8e4m3) (x5 : Vec F S1x1x32x128 .i8) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1 = outL (F := F) ⟨arg2, harg2, arg3, harg3, arg4, harg4, arg5, harg5, arg6, harg6, arg7, harg7, arg11, arg12, arg13, arg14, arg15, arg16, x0, x1, x2, x3, x4, x5⟩ := by sl_kernel_rfl

end Cert.KernelIdeal.Run
-- ==== Proof.RunB.lean ====
/- The kernel's body run whole in case B (the last key-value head of its batch row): window 6's
   stores are the witness, windows 7 and 8 and the scratch buffers are handed back at some contents. -/
module

public import proofs.«01_k».proof.Proof.RunA

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 12000000 in
/-- The body's triple in case B: the pieces its stores into window 6 leave (last first), with the proof that the body
    runs to them. -/
noncomputable def kernelRun0_B (c : Dev nD) (i : grid0.Coords) (arg2 : Memref sig .tc .vmem S1x5x1024x128 .fp8e4m3) (harg2 : arg2.IsWhole) (arg3 : Memref sig .tc .vmem S1x5x4x1024 .i8) (harg3 : arg3.IsWhole) (arg4 : Memref sig .tc .vmem S1x1x1024x128 .fp8e4m3) (harg4 : arg4.IsWhole) (arg5 : Memref sig .tc .vmem S1x1x4x1024 .i8) (harg5 : arg5.IsWhole) (arg6 : Memref sig .tc .vmem S1x1x1024x128 .fp8e4m3) (harg6 : arg6.IsWhole) (arg7 : Memref sig .tc .vmem S1x1x32x128 .i8) (harg7 : arg7.IsWhole) (arg8 : Memref sig .tc .vmem S1x1024x640 .bf16) (harg8 : arg8.IsWhole) (arg9 : Memref sig .tc .vmem S1x1024x640 .fp8e4m3) (harg9 : arg9.IsWhole) (arg10 : Memref sig .tc .vmem S1x120x1024 .i8) (harg10 : arg10.IsWhole) (arg11 : Memref sig .tc .vmem S8x256x640 .bf16) (harg11 : arg11.IsWhole) (arg12 : Memref sig .tc .vmem S4x256x256 .bf16) (harg12 : arg12.IsWhole) (arg13 : Memref sig .tc .vmem S4x128x256 .bf16) (harg13 : arg13.IsWhole) (arg14 : Memref sig .tc .vmem S4x128x256 .bf16) (harg14 : arg14.IsWhole) (arg15 : Memref sig .tc .vmem S4x128x128 .bf16) (harg15 : arg15.IsWhole) (arg16 : Memref sig .tc .vmem S4x32x8x256 .f32) (harg16 : arg16.IsWhole) (arg17 : Memref sig .tc .vmem S6x8x1024 .i32) (harg17 : arg17.IsWhole) (hc0 : cond0_0 i)
    (x0 : Vec F S1x5x1024x128 .fp8e4m3) (x1 : Vec F S1x5x4x1024 .i8) (x2 : Vec F S1x1x1024x128 .fp8e4m3) (x3 : Vec F S1x1x4x1024 .i8) (x4 : Vec F S1x1x1024x128 .fp8e4m3) (x5 : Vec F S1x1x32x128 .i8) :
    { L6 : List (View.Piece (Elt F) S1x1024x640 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0__kernel_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?_⟩
  case refine_2 =>
    simp only [cc0__kernel_body_eq_skeleton]; unfold cc0__kernel_body_skel
    simp only [k0_part860_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part861_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part862_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part863_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part864_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part865_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part866_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part867_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part868_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part869_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part870_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part871_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part717_eq_skeleton, k0_part718_eq_skeleton, k0_part719_eq_skeleton, k0_part720_eq_skeleton, k0_part872_eq_skeleton, k0_part721_eq_skeleton, k0_part722_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton, k0_part873_eq_skeleton, k0_part781_eq_skeleton, k0_part782_eq_skeleton, k0_part783_eq_skeleton, k0_part784_eq_skeleton, k0_part785_eq_skeleton, k0_part786_eq_skeleton, k0_part787_eq_skeleton, k0_part788_eq_skeleton, k0_part789_eq_skeleton, k0_part790_eq_skeleton, k0_part791_eq_skeleton, k0_part792_eq_skeleton, k0_part793_eq_skeleton, k0_part794_eq_skeleton, k0_part795_eq_skeleton, k0_part796_eq_skeleton, k0_part797_eq_skeleton, k0_part798_eq_skeleton, k0_part799_eq_skeleton, k0_part800_eq_skeleton, k0_part801_eq_skeleton, k0_part802_eq_skeleton, k0_part803_eq_skeleton, k0_part804_eq_skeleton, k0_part805_eq_skeleton, k0_part806_eq_skeleton, k0_part807_eq_skeleton, k0_part808_eq_skeleton, k0_part809_eq_skeleton, k0_part810_eq_skeleton, k0_part811_eq_skeleton, k0_part812_eq_skeleton, k0_part813_eq_skeleton, k0_part814_eq_skeleton, k0_part815_eq_skeleton, k0_part816_eq_skeleton, k0_part817_eq_skeleton, k0_part818_eq_skeleton, k0_part819_eq_skeleton, k0_part820_eq_skeleton, k0_part821_eq_skeleton, k0_part822_eq_skeleton, k0_part823_eq_skeleton, k0_part824_eq_skeleton, k0_part825_eq_skeleton, k0_part826_eq_skeleton, k0_part827_eq_skeleton, k0_part828_eq_skeleton, k0_part829_eq_skeleton, k0_part830_eq_skeleton, k0_part831_eq_skeleton, k0_part832_eq_skeleton, k0_part833_eq_skeleton, k0_part834_eq_skeleton, k0_part835_eq_skeleton, k0_part836_eq_skeleton, k0_part837_eq_skeleton, k0_part838_eq_skeleton, k0_part839_eq_skeleton, k0_part840_eq_skeleton, k0_part874_eq_skeleton, k0_part841_eq_skeleton, k0_part842_eq_skeleton, k0_part843_eq_skeleton, k0_part844_eq_skeleton, k0_part845_eq_skeleton, k0_part846_eq_skeleton, k0_part847_eq_skeleton, k0_part848_eq_skeleton, k0_part849_eq_skeleton, k0_part850_eq_skeleton, k0_part851_eq_skeleton, k0_part852_eq_skeleton, k0_part853_eq_skeleton, k0_part854_eq_skeleton, k0_part855_eq_skeleton, k0_part856_eq_skeleton, k0_part857_eq_skeleton, k0_part858_eq_skeleton, k0_part859_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Run

end
-- ==== Proof.PiecesB.lean ====
/- In case B the stores the run leaves in the output block are the named ones. -/
module

public import proofs.«01_k».proof.Proof.RunB
public import proofs.«01_k».proof.Proof.Units

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F] [Named F]

/-- The pieces of case B, named. -/
theorem pieces_B (c : Dev nD) (i : grid0.Coords) (arg2 : Memref sig .tc .vmem S1x5x1024x128 .fp8e4m3) (harg2 : arg2.IsWhole) (arg3 : Memref sig .tc .vmem S1x5x4x1024 .i8) (harg3 : arg3.IsWhole) (arg4 : Memref sig .tc .vmem S1x1x1024x128 .fp8e4m3) (harg4 : arg4.IsWhole) (arg5 : Memref sig .tc .vmem S1x1x4x1024 .i8) (harg5 : arg5.IsWhole) (arg6 : Memref sig .tc .vmem S1x1x1024x128 .fp8e4m3) (harg6 : arg6.IsWhole) (arg7 : Memref sig .tc .vmem S1x1x32x128 .i8) (harg7 : arg7.IsWhole) (arg8 : Memref sig .tc .vmem S1x1024x640 .bf16) (harg8 : arg8.IsWhole) (arg9 : Memref sig .tc .vmem S1x1024x640 .fp8e4m3) (harg9 : arg9.IsWhole) (arg10 : Memref sig .tc .vmem S1x120x1024 .i8) (harg10 : arg10.IsWhole) (arg11 : Memref sig .tc .vmem S8x256x640 .bf16) (harg11 : arg11.IsWhole) (arg12 : Memref sig .tc .vmem S4x256x256 .bf16) (harg12 : arg12.IsWhole) (arg13 : Memref sig .tc .vmem S4x128x256 .bf16) (harg13 : arg13.IsWhole) (arg14 : Memref sig .tc .vmem S4x128x256 .bf16) (harg14 : arg14.IsWhole) (arg15 : Memref sig .tc .vmem S4x128x128 .bf16) (harg15 : arg15.IsWhole) (arg16 : Memref sig .tc .vmem S4x32x8x256 .f32) (harg16 : arg16.IsWhole) (arg17 : Memref sig .tc .vmem S6x8x1024 .i32) (harg17 : arg17.IsWhole) (hc0 : cond0_0 i) (x0 : Vec F S1x5x1024x128 .fp8e4m3) (x1 : Vec F S1x5x4x1024 .i8) (x2 : Vec F S1x1x1024x128 .fp8e4m3) (x3 : Vec F S1x1x4x1024 .i8) (x4 : Vec F S1x1x1024x128 .fp8e4m3) (x5 : Vec F S1x1x32x128 .i8) : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1 = outL (F := F) ⟨arg2, harg2, arg3, harg3, arg4, harg4, arg5, harg5, arg6, harg6, arg7, harg7, arg11, arg12, arg13, arg14, arg15, arg16, x0, x1, x2, x3, x4, x5⟩ := by sl_kernel_rfl

end Cert.KernelIdeal.Run
-- ==== Proof.RunF.lean ====
/- The run of the whole program with the attention output named: the proof data (window 6 left at what the named
   stores write, windows 7 and 8 forgotten), the body obligation, the run, and the frame. -/
module

public import proofs.«01_k».proof.Proof.PiecesA
public import proofs.«01_k».proof.Proof.PiecesB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The body's operands at point `t`. -/
def envAt (c : Dev nD) (t : Fin cfg0.N) : Env F :=
  ⟨ms0_0 t, hs0_0 t, ms0_1 t, hs0_1 t, ms0_2 t, hs0_2 t, ms0_3 t, hs0_3 t, ms0_4 t, hs0_4 t, ms0_5 t, hs0_5 t, scM0_0, scM0_1, scM0_2, scM0_3, scM0_4, scM0_5, iblk m c 0 t, iblk m c 1 t, iblk m c 2 t, iblk m c 3 t, iblk m c 4 t, iblk m c 5 t⟩

/-- The 40 named stores cover the block: each of the tiles of 128 by 128 is one of them. -/
theorem outL_cover (E : Env F) (y : S1x1024x640.Idx) : ∃ p ∈ outL E, y ∈ p.1.set :=
  View.cover_of_tiledL (outL E) S1x128x128.size (by sl_kernel_rfl) y

/-- What the body leaves in the output block at point `t`. -/
def out6 (c : Dev nD) (t : Fin cfg0.N) : Vec F S1x1024x640 .bf16 :=
  VO0_6.read (Elt F) (VO0_6.writes (Elt F) VO0_6.junk (outL (envAt m c t)))

/-- The proof data of the one pipeline on core `c`: the arrays as the region finds them (`V`); after the body at
    point `t` each input's buffer at its block the attention output at `out6`, and the outputs FORGOTTEN at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 12 := lt_of_lt_of_eq t.isLt (show cfg0.N = 12 from N_0)
  by_cases h0 : t.val % 6 = 5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hrun := (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t)).2 Set.univ
    rw [(pieces_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t))] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, ⟨%e6, H6⟩, H7, H8, HS0, HS1, HS2, HS3, HS4, HS5, HS6⟩
    isplitl [HS0 HS1 HS2 HS3 HS4 HS5 HS6 Hg]
    · isplitl [HS0 HS1 HS2 HS3 HS4 HS5 HS6]
      · isplitl [HS0]
        · iexact HS0
        isplitl [HS1]
        · iexact HS1
        isplitl [HS2]
        · iexact HS2
        isplitl [HS3]
        · iexact HS3
        isplitl [HS4]
        · iexact HS4
        isplitl [HS5]
        · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap
      · iexact H6
      ipureintro; exact View.read_writes_of_cover _ _ _ _ _ (outL_cover (envAt m c t))
    isplitl [H7]; · iexact H7
    iexact H8
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hrun := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t)).2 Set.univ
    rw [(pieces_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t))] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, ⟨%e6, H6⟩, H7, H8, HS0, HS1, HS2, HS3, HS4, HS5, HS6⟩
    isplitl [HS0 HS1 HS2 HS3 HS4 HS5 HS6 Hg]
    · isplitl [HS0 HS1 HS2 HS3 HS4 HS5 HS6]
      · isplitl [HS0]
        · iexact HS0
        isplitl [HS1]
        · iexact HS1
        isplitl [HS2]
        · iexact HS2
        isplitl [HS3]
        · iexact HS3
        isplitl [HS4]
        · iexact HS4
        isplitl [HS5]
        · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap
      · iexact H6
      ipureintro; exact View.read_writes_of_cover _ _ _ _ _ (outL_cover (envAt m c t))
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_ofR m ρ (fun c => (dats m 0 c).toRForget forgets0) (A_eq m) (run_main m ρ)

/-- The frame with the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.Comb.lean ====
/- What the kernel's attention output is, read off its arguments: each grid point's block at its place of the array. -/
module

public import proofs.«01_k».proof.Proof.Val
public import proofs.«01_k».proof.Proof.RunF
public import Idealize.ShloMosaic.Lib.Pointwise
public import Idealize.ShloMosaic.Lib.Pipeline.ValueKit.Point

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (c : Dev nD)

/-- The body leaves the attention in its output block. -/
theorem out6_eq (t : Fin cfg0.N) (y : S1x1024x640.Idx) : out6 m c t y = Gout (envAt m c t) y := by
  unfold out6
  exact View.read_writes_apply_of_pieces VO0_6 VO0_6.junk (Gout (envAt m c t)) (outL (envAt m c t)) (outL_agree (envAt m c t)) y (outL_cover (envAt m c t) y)

/-- Where each window's block lies. -/
theorem idx_in : ∀ t : Fin cfg0.N, win0_0.index t = ![t.val / 6, t.val % 6, 0, 0] ∧ win0_1.index t = ![t.val / 6, t.val % 6, 0, 0]
    ∧ win0_2.index t = ![t.val / 6, t.val % 6, 0, 0] ∧ win0_3.index t = ![t.val / 6, t.val % 6, 0, 0]
    ∧ win0_4.index t = ![t.val / 6, t.val % 6, 0, 0] ∧ win0_5.index t = ![t.val / 6, t.val % 6, 0, 0] :=
  (by decide +kernel : ∀ t : Fin grid0.N, _)

theorem idx_out : ∀ t : Fin cfg0.N, win0_6.index t = ![t.val / 6, 0, t.val % 6] := (by decide +kernel : ∀ t : Fin grid0.N, _)

theorem lt12 (t : Fin cfg0.N) : t.val < 12 := Nat.lt_of_lt_of_le t.isLt (by decide +kernel : grid0.N ≤ 12)

theorem V_main_v0 : V m c main_v0 = transpose S2x30x1024x128 [0, 2, 1, 3] (m ((c.tc : Thread nD τ).loc main_arg0)) transposes_S2x1024x30x128_S2x30x1024x128_0_2_1_3 := by
  show StableHlo.after [hostOps0].flatten (fun b => m (c, b)) _ = _
  simp only [hostOps0, List.flatten_cons, List.flatten_nil, List.append_nil, List.cons_append, List.nil_append]
  after_results_simp <;> rfl

theorem blk0 (t : Fin cfg0.N) (r : Fin 5) (q : Fin 1024) (d : Fin 128) : (envAt m c t).x0 (ix4 0 r q d)
    = m ((c.tc : Thread nD τ).loc main_arg0) (ix4 (⟨t.val / 6, by have := lt12 t; omega⟩ : Fin 2) q (⟨5 * (t.val % 6) + r.val, by omega⟩ : Fin 30) d) := by
  have := lt12 t
  have e0 : t.val / 6 = ((((cfg0.win 0).blk t).view.emb (ix4 0 r q d)) 0 : ℕ) := by blk_simp [idx_in t]; try omega
  have e1 : 5 * (t.val % 6) + r.val = ((((cfg0.win 0).blk t).view.emb (ix4 0 r q d)) 1 : ℕ) := by blk_simp [idx_in t]; try omega
  have e2 : q.val = ((((cfg0.win 0).blk t).view.emb (ix4 0 r q d)) 2 : ℕ) := by blk_simp [idx_in t]; try omega
  have e3 : d.val = ((((cfg0.win 0).blk t).view.emb (ix4 0 r q d)) 3 : ℕ) := by blk_simp [idx_in t]; try omega
  show V m c main_v0 (((cfg0.win 0).blk t).view.emb (ix4 0 r q d)) = _
  rw [V_main_v0]
  exact transpose_apply _ _ _ _ _ fun b => match b with
    | ⟨0, _⟩ => e0
    | ⟨1, _⟩ => e1
    | ⟨2, _⟩ => e2
    | ⟨3, _⟩ => e3

theorem V_main_v3 : V m c main_v3 = transpose S2x30x4x1024 [0, 2, 3, 1] (m ((c.tc : Thread nD τ).loc main_arg1)) transposes_S2x1024x30x4_S2x30x4x1024_0_2_3_1 := by
  show StableHlo.after [hostOps0].flatten (fun b => m (c, b)) _ = _
  simp only [hostOps0, List.flatten_cons, List.flatten_nil, List.append_nil, List.cons_append, List.nil_append]
  after_results_simp <;> rfl

theorem blk1 (t : Fin cfg0.N) (r : Fin 5) (s : Fin 4) (q : Fin 1024) : (envAt m c t).x1 (ix4 0 r s q)
    = m ((c.tc : Thread nD τ).loc main_arg1) (ix4 (⟨t.val / 6, by have := lt12 t; omega⟩ : Fin 2) q (⟨5 * (t.val % 6) + r.val, by omega⟩ : Fin 30) s) := by
  have := lt12 t
  have e0 : t.val / 6 = ((((cfg0.win 1).blk t).view.emb (ix4 0 r s q)) 0 : ℕ) := by blk_simp [idx_in t]; try omega
  have e1 : 5 * (t.val % 6) + r.val = ((((cfg0.win 1).blk t).view.emb (ix4 0 r s q)) 1 : ℕ) := by blk_simp [idx_in t]; try omega
  have e2 : s.val = ((((cfg0.win 1).blk t).view.emb (ix4 0 r s q)) 2 : ℕ) := by blk_simp [idx_in t]; try omega
  have e3 : q.val = ((((cfg0.win 1).blk t).view.emb (ix4 0 r s q)) 3 : ℕ) := by blk_simp [idx_in t]; try omega
  show V m c main_v3 (((cfg0.win 1).blk t).view.emb (ix4 0 r s q)) = _
  rw [V_main_v3]
  exact transpose_apply _ _ _ _ _ fun b => match b with
    | ⟨0, _⟩ => e0
    | ⟨1, _⟩ => e1
    | ⟨2, _⟩ => e2
    | ⟨3, _⟩ => e3

theorem V_main_v1 : V m c main_v1 = transpose S2x6x1024x128 [0, 2, 1, 3] (m ((c.tc : Thread nD τ).loc main_arg2)) transposes_S2x1024x6x128_S2x6x1024x128_0_2_1_3 := by
  show StableHlo.after [hostOps0].flatten (fun b => m (c, b)) _ = _
  simp only [hostOps0, List.flatten_cons, List.flatten_nil, List.append_nil, List.cons_append, List.nil_append]
  after_results_simp <;> rfl

theorem blk2 (t : Fin cfg0.N) (k : Fin 1024) (d : Fin 128) : (envAt m c t).x2 (ix4 0 0 k d)
    = m ((c.tc : Thread nD τ).loc main_arg2) (ix4 (⟨t.val / 6, by have := lt12 t; omega⟩ : Fin 2) k (⟨t.val % 6, by omega⟩ : Fin 6) d) := by
  have := lt12 t
  have e0 : t.val / 6 = ((((cfg0.win 2).blk t).view.emb (ix4 0 0 k d)) 0 : ℕ) := by blk_simp [idx_in t]; try omega
  have e1 : t.val % 6 = ((((cfg0.win 2).blk t).view.emb (ix4 0 0 k d)) 1 : ℕ) := by blk_simp [idx_in t]; try omega
  have e2 : k.val = ((((cfg0.win 2).blk t).view.emb (ix4 0 0 k d)) 2 : ℕ) := by blk_simp [idx_in t]; try omega
  have e3 : d.val = ((((cfg0.win 2).blk t).view.emb (ix4 0 0 k d)) 3 : ℕ) := by blk_simp [idx_in t]; try omega
  show V m c main_v1 (((cfg0.win 2).blk t).view.emb (ix4 0 0 k d)) = _
  rw [V_main_v1]
  exact transpose_apply _ _ _ _ _ fun b => match b with
    | ⟨0, _⟩ => e0
    | ⟨1, _⟩ => e1
    | ⟨2, _⟩ => e2
    | ⟨3, _⟩ => e3

theorem V_main_v4 : V m c main_v4 = transpose S2x6x4x1024 [0, 2, 3, 1] (m ((c.tc : Thread nD τ).loc main_arg3)) transposes_S2x1024x6x4_S2x6x4x1024_0_2_3_1 := by
  show StableHlo.after [hostOps0].flatten (fun b => m (c, b)) _ = _
  simp only [hostOps0, List.flatten_cons, List.flatten_nil, List.append_nil, List.cons_append, List.nil_append]
  after_results_simp <;> rfl

theorem blk3 (t : Fin cfg0.N) (s : Fin 4) (k : Fin 1024) : (envAt m c t).x3 (ix4 0 0 s k)
    = m ((c.tc : Thread nD τ).loc main_arg3) (ix4 (⟨t.val / 6, by have := lt12 t; omega⟩ : Fin 2) k (⟨t.val % 6, by omega⟩ : Fin 6) s) := by
  have := lt12 t
  have e0 : t.val / 6 = ((((cfg0.win 3).blk t).view.emb (ix4 0 0 s k)) 0 : ℕ) := by blk_simp [idx_in t]; try omega
  have e1 : t.val % 6 = ((((cfg0.win 3).blk t).view.emb (ix4 0 0 s k)) 1 : ℕ) := by blk_simp [idx_in t]; try omega
  have e2 : s.val = ((((cfg0.win 3).blk t).view.emb (ix4 0 0 s k)) 2 : ℕ) := by blk_simp [idx_in t]; try omega
  have e3 : k.val = ((((cfg0.win 3).blk t).view.emb (ix4 0 0 s k)) 3 : ℕ) := by blk_simp [idx_in t]; try omega
  show V m c main_v4 (((cfg0.win 3).blk t).view.emb (ix4 0 0 s k)) = _
  rw [V_main_v4]
  exact transpose_apply _ _ _ _ _ fun b => match b with
    | ⟨0, _⟩ => e0
    | ⟨1, _⟩ => e1
    | ⟨2, _⟩ => e2
    | ⟨3, _⟩ => e3

theorem V_main_v2 : V m c main_v2 = transpose S2x6x1024x128 [0, 2, 1, 3] (m ((c.tc : Thread nD τ).loc main_arg4)) transposes_S2x1024x6x128_S2x6x1024x128_0_2_1_3 := by
  show StableHlo.after [hostOps0].flatten (fun b => m (c, b)) _ = _
  simp only [hostOps0, List.flatten_cons, List.flatten_nil, List.append_nil, List.cons_append, List.nil_append]
  after_results_simp <;> rfl

theorem blk4 (t : Fin cfg0.N) (k : Fin 1024) (d : Fin 128) : (envAt m c t).x4 (ix4 0 0 k d)
    = m ((c.tc : Thread nD τ).loc main_arg4) (ix4 (⟨t.val / 6, by have := lt12 t; omega⟩ : Fin 2) k (⟨t.val % 6, by omega⟩ : Fin 6) d) := by
  have := lt12 t
  have e0 : t.val / 6 = ((((cfg0.win 4).blk t).view.emb (ix4 0 0 k d)) 0 : ℕ) := by blk_simp [idx_in t]; try omega
  have e1 : t.val % 6 = ((((cfg0.win 4).blk t).view.emb (ix4 0 0 k d)) 1 : ℕ) := by blk_simp [idx_in t]; try omega
  have e2 : k.val = ((((cfg0.win 4).blk t).view.emb (ix4 0 0 k d)) 2 : ℕ) := by blk_simp [idx_in t]; try omega
  have e3 : d.val = ((((cfg0.win 4).blk t).view.emb (ix4 0 0 k d)) 3 : ℕ) := by blk_simp [idx_in t]; try omega
  show V m c main_v2 (((cfg0.win 4).blk t).view.emb (ix4 0 0 k d)) = _
  rw [V_main_v2]
  exact transpose_apply _ _ _ _ _ fun b => match b with
    | ⟨0, _⟩ => e0
    | ⟨1, _⟩ => e1
    | ⟨2, _⟩ => e2
    | ⟨3, _⟩ => e3

theorem V_main_v5 : V m c main_v5 = transpose S2x6x32x128 [0, 2, 1, 3] (m ((c.tc : Thread nD τ).loc main_arg5)) transposes_S2x32x6x128_S2x6x32x128_0_2_1_3 := by
  show StableHlo.after [hostOps0].flatten (fun b => m (c, b)) _ = _
  simp only [hostOps0, List.flatten_cons, List.flatten_nil, List.append_nil, List.cons_append, List.nil_append]
  after_results_simp <;> rfl

theorem blk5 (t : Fin cfg0.N) (s : Fin 32) (d : Fin 128) : (envAt m c t).x5 (ix4 0 0 s d)
    = m ((c.tc : Thread nD τ).loc main_arg5) (ix4 (⟨t.val / 6, by have := lt12 t; omega⟩ : Fin 2) s (⟨t.val % 6, by omega⟩ : Fin 6) d) := by
  have := lt12 t
  have e0 : t.val / 6 = ((((cfg0.win 5).blk t).view.emb (ix4 0 0 s d)) 0 : ℕ) := by blk_simp [idx_in t]; try omega
  have e1 : t.val % 6 = ((((cfg0.win 5).blk t).view.emb (ix4 0 0 s d)) 1 : ℕ) := by blk_simp [idx_in t]; try omega
  have e2 : s.val = ((((cfg0.win 5).blk t).view.emb (ix4 0 0 s d)) 2 : ℕ) := by blk_simp [idx_in t]; try omega
  have e3 : d.val = ((((cfg0.win 5).blk t).view.emb (ix4 0 0 s d)) 3 : ℕ) := by blk_simp [idx_in t]; try omega
  show V m c main_v5 (((cfg0.win 5).blk t).view.emb (ix4 0 0 s d)) = _
  rw [V_main_v5]
  exact transpose_apply _ _ _ _ _ fun b => match b with
    | ⟨0, _⟩ => e0
    | ⟨1, _⟩ => e1
    | ⟨2, _⟩ => e2
    | ⟨3, _⟩ => e3

/-- The array the kernel leaves: each element from its grid point's block. -/
def Garr : Buf (Elt Ideal) ((c.tc : Thread nD τ).loc main_v6_0) := fun (i : S2x1024x3840.Idx) =>
  Gout (envAt m c ⟨6 * (i 0).val + (i 2).val / 640, by
    have h0 : (i 0).val < 2 := (i 0).isLt
    have h2 : (i 2).val < 3840 := (i 2).isLt
    exact Nat.lt_of_lt_of_le (by omega : _ < 12) (by decide +kernel : 12 ≤ grid0.N)⟩)
    (ix3 (0 : Fin 1) (⟨(i 1).val, (i 1).isLt⟩ : Fin 1024) (⟨(i 2).val % 640, by omega⟩ : Fin 640))

theorem Garr_of (i : S2x1024x3840.Idx) (t : Fin cfg0.N) (y : S1x1024x640.Idx) (h0 : (i 0).val = t.val / 6 + (y 0).val) (h1 : (i 1).val = (y 1).val)
    (h2 : (i 2).val = t.val % 6 * 640 + (y 2).val) : Gout (envAt m c t) y = Garr m c i := by
  have := lt12 t
  have y0 : (y 0).val < 1 := (y 0).isLt
  have y2 : (y 2).val < 640 := (y 2).isLt
  unfold Garr
  refine congr (congrArg (fun t => Gout (envAt m c t)) (Fin.ext ?_)) (funext fun x => Fin.ext ?_)
  · show t.val = 6 * (i 0).val + (i 2).val / 640
    omega
  · match x with
    | ⟨0, _⟩ => show (y 0).val = 0; omega
    | ⟨1, _⟩ => show (y 1).val = (i 1).val; omega
    | ⟨2, _⟩ => show (y 2).val = (i 2).val % 640; omega

theorem arr6 : (dats m 0 c).arrAt 6 cfg0.N = Garr m c := by
  refine (dats m 0 c).arrAt_eq_of_covers 6 _ (by decide +kernel) fun t hf y => ?_
  have := lt12 t
  have e0 : ((((cfg0.win 6).blk t).view.emb y) 0 : ℕ) = t.val / 6 + (y 0).val := by blk_simp [idx_out t]
  have e1 : ((((cfg0.win 6).blk t).view.emb y) 1 : ℕ) = (y 1).val := by blk_simp [idx_out t]
  have e2 : ((((cfg0.win 6).blk t).view.emb y) 2 : ℕ) = t.val % 6 * 640 + (y 2).val := by blk_simp [idx_out t]
  blk_simp
  rw [after0_6, out6_eq]
  exact Garr_of m c _ t y e0 e1 e2

/-- After the kernel, on every device: its attention output, and its arguments as launched. -/
theorem run_out (ρ : Dev nD → PrngReg) : θ_run defs (onTc (τ := τ) (main (F := Ideal))) ⟨m, fun _ => 0, ρ⟩ (fun r => ∀ c : Dev nD,
      r.2.mem ((c.tc : Thread nD τ).loc main_v6_0) = Garr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((dats m 0 c).toRForget_arrAt_iff (fgt := forgets0) (w := 6) rfl cfg0.N _).mp ((h.1 c).1 6)).trans (arr6 m c), h.2 c⟩)
    (θ_run_and (run_main m ρ) (unchanged m ρ))

end Cert.KernelIdeal.Run

end
-- ==== Proof.RefMath.lean ====
/- The arithmetic of the reference: decoding a scale, the softmax weights, and the block scaling that gives a weight back. -/
module

public import proofs.«01_k».proof.Proof.Soft
public import proofs.«01_k».proof.Proof.Byte
public import Idealize.ShloMosaic.PureOps.Ideal.Laws
public import Idealize.ShloMosaic.PureOps.Reduce

@[expose] public section

set_option maxRecDepth 16384

noncomputable section

namespace Cert.Ref

open Idealize.ShloMosaic
open Cert.Att Cert.KernelIdeal.Run

theorem two_eq : Ideal.ieee 8 23 0x40000000#32 = ((2 : ℝ) : EReal) := by
  rw [ieee_normal (k := 128) (by decide) (by decide) (by decide) (by decide) (by decide)]
  norm_num

theorem h128_eq : Ideal.ieee 8 23 0x43000000#32 = ((128 : ℝ) : EReal) := by
  rw [ieee_normal (k := 134) (by decide) (by decide) (by decide) (by decide) (by decide)]
  norm_num

theorem tiny_eq : Ideal.ieee 8 23 0x00800000#32 = (((2 : ℝ) ^ (-126 : ℤ) : ℝ) : EReal) := by
  rw [ieee_normal (k := 1) (by decide) (by decide) (by decide) (by decide) (by decide)]
  norm_num

theorem log_two : Ideal.log (Ideal.ieee 8 23 0x40000000#32) = ((Real.log 2 : ℝ) : EReal) := by
  rw [two_eq, Ideal.log_coe, if_neg (by norm_num)]

theorem exp_int (n : ℤ) : Ideal.exp (((n : ℝ) : EReal) * Ideal.log (Ideal.ieee 8 23 0x40000000#32)) = (((2 : ℝ) ^ n : ℝ) : EReal) := by
  rw [log_two, ← EReal.coe_mul, Ideal.exp_coe, ← Real.rpow_intCast, Real.rpow_def_of_pos (by norm_num), mul_comm]

theorem toInt_byte (b : BitVec 8) : (b.setWidth 32 - 127#32).toInt = (b.toNat : ℤ) - 127 := by
  have h : b.toNat < 256 := b.isLt
  have e : b.setWidth 32 - 127#32 = BitVec.ofInt 32 ((b.toNat : ℤ) - 127) := by
    apply BitVec.eq_of_toInt_eq
    simp only [BitVec.toInt_sub, BitVec.toInt_ofInt]
    congr 1
    rw [BitVec.toInt_setWidth]
    simp [Int.bmod]
    omega
  rw [e, BitVec.toInt_ofInt]
  simp only [Int.bmod]
  omega

theorem decode (b : BitVec 8) (h1 : 1 ≤ b.toNat) (h2 : b.toNat ≤ 254) :
    Ideal.exp ((((b.setWidth 32 - 127#32).toInt : ℝ) : EReal) * Ideal.log (Ideal.ieee 8 23 0x40000000#32)) = pw b.toNat := by
  rw [exp_int, toInt_byte, pw_eq h1 h2]

theorem sqrt128 (x : EReal) : Ideal.div x (Ideal.sqrt (Ideal.ieee 8 23 0x43000000#32)) = x * ((aE : ℝ) : EReal) := by
  rw [h128_eq, Ideal.sqrt_coe, if_neg (by norm_num), Ideal.div_coe (by positivity)]
  rw [one_div]; rfl

/-- The greatest of the scaled scores is the greatest score, scaled. -/
theorem sup_scale (σ : Fin 1024 → EReal) : (Finset.univ.sup fun k => σ k * ((aE : ℝ) : EReal)) = Finset.univ.sup σ * ((aE : ℝ) : EReal) := by
  have ha : (0 : EReal) ≤ ((aE : ℝ) : EReal) := by exact_mod_cast aE_pos.le
  apply le_antisymm
  · exact Finset.sup_le fun k hk => mul_le_mul_of_nonneg_right (Finset.le_sup (f := σ) hk) ha
  · obtain ⟨k, hk, e⟩ := Finset.exists_mem_eq_sup Finset.univ ⟨0, Finset.mem_univ _⟩ σ
    rw [e]
    exact Finset.le_sup (f := fun k => σ k * ((aE : ℝ) : EReal)) hk

/-- A softmax weight, as a real. -/
def prob (σ : Fin 1024 → EReal) (k : Fin 1024) : ℝ := wt (σ k) (Finset.univ.sup σ) * (∑ k, wt (σ k) (Finset.univ.sup σ))⁻¹

theorem le_top_of (σ : Fin 1024 → EReal) (k : Fin 1024) : σ k ≤ Finset.univ.sup σ := Finset.le_sup (f := σ) (Finset.mem_univ k)

theorem prob_nonneg (σ : Fin 1024 → EReal) (k : Fin 1024) : 0 ≤ prob σ k :=
  mul_nonneg (wt_nonneg (le_top_of σ k)) (inv_nonneg.2 (Finset.sum_nonneg fun j _ => wt_nonneg (le_top_of σ j)))

/-- The softmax as the reference spells it: the exponentials of the scaled scores less the greatest, times one over
    their sum. -/
theorem softmax_eq (σ s : Fin 1024 → EReal) (hs : ∀ k, s k = σ k * ((aE : ℝ) : EReal)) (k : Fin 1024) :
    Ideal.exp (s k - Finset.univ.sup s) * Ideal.div 1 (0 + ∑ k, Ideal.exp (s k - Finset.univ.sup s)) = ((prob σ k : ℝ) : EReal) := by
  obtain rfl : s = fun k => σ k * ((aE : ℝ) : EReal) := funext hs
  have h : ∀ k, Ideal.exp (σ k * ((aE : ℝ) : EReal) - Finset.univ.sup (fun k => σ k * ((aE : ℝ) : EReal))) = ((wt (σ k) (Finset.univ.sup σ) : ℝ) : EReal) := fun k => by
    rw [sup_scale, exp_eq, ew_eq (le_top_of σ k)]
  simp only [h]
  rw [zero_add, ← coe_sum, mul_div_one]
  · rfl
  · intro h0
    exact (Finset.sum_eq_zero_iff_of_nonneg (fun j _ => wt_nonneg (le_top_of σ j))).1 h0 k (Finset.mem_univ k)

/-- The exponent the reference gives a block whose scaled maximum is `x`. -/
def expo (x : EReal) : EReal :=
  Scalar.select (Ideal.cmp .olt x (Ideal.ieee 8 23 0x00800000#32)) (Ideal.ieee 8 23 0x00000000#32)
    (Ideal.liftRound Int.floor (Ideal.div (Ideal.log x) (Ideal.log (Ideal.ieee 8 23 0x40000000#32))) + Ideal.ieee 8 23 0x3F800000#32)

theorem one_eq : Ideal.ieee 8 23 0x3F800000#32 = ((1 : ℝ) : EReal) := by
  rw [ieee_normal (k := 127) (by decide) (by decide) (by decide) (by decide) (by decide)]
  norm_num

theorem zero_eq : Ideal.ieee 8 23 0x00000000#32 = 0 := by
  simp [Ideal.ieee]

theorem expo_real (x : ℝ) (hx : 0 ≤ x) : ∃ k : ℤ, expo (x : EReal) = ((k : ℝ) : EReal) ∧ x < (2 : ℝ) ^ k := by
  unfold expo
  rw [tiny_eq, log_two, zero_eq, one_eq]
  by_cases h : x < (2 : ℝ) ^ (-126 : ℤ)
  · refine ⟨0, ?_, ?_⟩
    · have : Ideal.cmp .olt ((x : ℝ) : EReal) (((2 : ℝ) ^ (-126 : ℤ) : ℝ) : EReal) = 1#1 := by
        simp only [Ideal.cmp]
        rw [decide_eq_true (EReal.coe_lt_coe_iff.2 h)]; rfl
      rw [this]
      show (0 : EReal) = _
      norm_num
    · rw [zpow_zero]
      exact h.trans_le (by norm_num)
  · have h0 : 0 < x := lt_of_lt_of_le (by positivity) (not_lt.1 h)
    refine ⟨⌊Real.log x * (1 / Real.log 2)⌋ + 1, ?_, ?_⟩
    · have : Ideal.cmp .olt ((x : ℝ) : EReal) (((2 : ℝ) ^ (-126 : ℤ) : ℝ) : EReal) = 0#1 := by
        simp only [Ideal.cmp]
        rw [decide_eq_false (fun hh => h (EReal.coe_lt_coe_iff.1 hh))]; rfl
      rw [this, Ideal.log_coe, if_neg (not_le.2 h0), Ideal.div_coe (Real.log_pos (by norm_num)).ne', ← EReal.coe_mul]
      show (((⌊Real.log x * (1 / Real.log 2)⌋ : ℤ) : ℝ) : EReal) + ((1 : ℝ) : EReal) = _
      rw [← EReal.coe_add]
      push_cast
      rfl
    · have hl : Real.log x * (1 / Real.log 2) < ((⌊Real.log x * (1 / Real.log 2)⌋ + 1 : ℤ) : ℝ) := by
        push_cast; exact Int.lt_floor_add_one _
      rw [← Real.rpow_intCast]
      rw [← Real.log_lt_log_iff h0 (by positivity), Real.log_rpow (by norm_num)]
      have l2 : 0 < Real.log 2 := Real.log_pos (by norm_num)
      have := mul_lt_mul_of_pos_right hl l2
      calc Real.log x = Real.log x * (1 / Real.log 2) * Real.log 2 := by field_simp
        _ < _ := this

theorem p448 : Ideal.ieee 8 23 0x43E00000#32 = ((448 : ℝ) : EReal) := by
  have a : ((0x43E00000#32).extractLsb' (8 + 23) 1 == 1#1) = false := by decide
  have b : ((0x43E00000#32).extractLsb' 23 8).toNat = 135 := by decide
  have c : ((0x43E00000#32).extractLsb' 0 23).toNat = 6291456 := by decide
  unfold Ideal.ieee
  simp only [a, b, c]
  norm_num

theorem m448 : Ideal.ieee 8 23 0xC3E00000#32 = ((-448 : ℝ) : EReal) := by
  have a : ((0xC3E00000#32).extractLsb' (8 + 23) 1 == 1#1) = true := by decide
  have b : ((0xC3E00000#32).extractLsb' 23 8).toNat = 135 := by decide
  have c : ((0xC3E00000#32).extractLsb' 0 23).toNat = 6291456 := by decide
  unfold Ideal.ieee
  simp only [a, b, c]
  norm_num

/-- Scaled to the block's exponent, clipped and scaled back, a weight of the block is what it was. -/
theorem block_id (p : Fin 32 → ℝ) (hp : ∀ j, 0 ≤ p j) (P : Fin 32 → EReal) (hP : ∀ j, P j = ((p j : ℝ) : EReal)) (X : EReal)
    (hX : X = Finset.univ.sup P * Ideal.ieee 8 23 0x3B124925#32) (j : Fin 32) :
    min (Ideal.ieee 8 23 0x43E00000#32) (max (Ideal.ieee 8 23 0xC3E00000#32) (P j * Ideal.exp (-(expo X) * Ideal.log (Ideal.ieee 8 23 0x40000000#32))))
      * Ideal.exp (expo X * Ideal.log (Ideal.ieee 8 23 0x40000000#32)) = ((p j : ℝ) : EReal) := by
  obtain ⟨j0, -, e⟩ := Finset.exists_mem_eq_sup Finset.univ ⟨0, Finset.mem_univ _⟩ P
  have hle : p j ≤ p j0 := by
    have h : P j ≤ P j0 := e ▸ Finset.le_sup (f := P) (Finset.mem_univ j)
    rw [hP, hP] at h
    exact EReal.coe_le_coe_iff.1 h
  obtain ⟨k, hk, hlt⟩ := expo_real (p j0 * cc) (mul_nonneg (hp j0) (le_trans (by norm_num) cc_ge))
  have hx : expo X = ((k : ℝ) : EReal) := by rw [hX, e, hP, cc_eq, ← EReal.coe_mul]; exact hk
  have hn : -(((k : ℝ)) : EReal) = (((-k : ℤ) : ℝ) : EReal) := by rw [← EReal.coe_neg]; push_cast; rfl
  have q := quant_id (w := p j) (g := 1) (y := p j) (A := p j0) (cc := cc) k (mul_one _) hle (hp j0) cc_ge hlt
  rw [hx, hn, exp_int, exp_int, hP, p448, m448]
  rw [max_eq_right, min_comm]
  · rw [EReal.coe_one, one_mul] at q
    exact q
  · rw [← EReal.coe_mul]
    exact EReal.coe_le_coe_iff.2 (le_trans (by norm_num) (mul_nonneg (hp j) (by positivity)))

end Cert.Ref

end
-- ==== Proof.Ref.lean ====
/- The reference's attention output, read element by element: a causal softmax of the scaled scores times the values. -/
module

public import proofs.«01_k».proof.Proof.RefMath
public import proofs.«01_k».proof.Proof.Gen.ReferenceIdeal.Read
public import Idealize.ShloMosaic.Lib.Pointwise
public import Idealize.ShloMosaic.Lib.ValueIdxRank6

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.StableHlo
open Cert.Att Cert.Ref
open Cert.KernelIdeal.Run (pw soft)

theorem e4 {a b c d : ℕ} {i j : (⟨4, ![a, b, c, d]⟩ : Shape).Idx} (h0 : (i 0).val = (j 0).val) (h1 : (i 1).val = (j 1).val)
    (h2 : (i 2).val = (j 2).val) (h3 : (i 3).val = (j 3).val) : i = j := by
  funext x
  match x with
  | ⟨0, _⟩ => exact Fin.ext h0
  | ⟨1, _⟩ => exact Fin.ext h1
  | ⟨2, _⟩ => exact Fin.ext h2
  | ⟨3, _⟩ => exact Fin.ext h3

theorem e5 {a b c d e : ℕ} {i j : (⟨5, ![a, b, c, d, e]⟩ : Shape).Idx} (h0 : (i 0).val = (j 0).val) (h1 : (i 1).val = (j 1).val)
    (h2 : (i 2).val = (j 2).val) (h3 : (i 3).val = (j 3).val) (h4 : (i 4).val = (j 4).val) : i = j := by
  funext x
  match x with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

theorem e6 {a b c d e f : ℕ} {i j : (⟨6, ![a, b, c, d, e, f]⟩ : Shape).Idx} (h0 : (i 0).val = (j 0).val) (h1 : (i 1).val = (j 1).val)
    (h2 : (i 2).val = (j 2).val) (h3 : (i 3).val = (j 3).val) (h4 : (i 4).val = (j 4).val) (h5 : (i 5).val = (j 5).val) : i = j := by
  funext x
  match x with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4
  | ⟨5, _⟩ => exact Fin.ext h5

theorem hr6 : S2x6x5x1024x32x32.Reduces [5] S2x6x5x1024x32 := by decide

theorem hr6l (b : Fin 2) (g : Fin 6) (r : Fin 5) (q : Fin 1024) (a k : Fin 32) : hr6.lift (ix5 b g r q a) k = ix6 b g r q a k :=
  e6 rfl rfl rfl rfl rfl rfl

theorem minus_inf : Ideal.ieee 8 23 0xFF800000#32 = ⊥ := by
  have a : ((0xFF800000#32).extractLsb' (8 + 23) 1 == 1#1) = true := by decide
  have b : ((0xFF800000#32).extractLsb' 23 8).toNat = 255 := by decide
  have c : ((0xFF800000#32).extractLsb' 0 23).toNat = 0 := by decide
  unfold Ideal.ieee
  simp [a, b, c]

/-- The largest of a block of 32. -/
theorem max32 (b : Fin 2) (g : Fin 6) (r : Fin 5) (q : Fin 1024) (a : Fin 32) (y : FVec Ideal S2x6x5x1024x32x32 .f32) (p : Fin 32 → EReal)
    (e : ∀ k, y (ix6 b g r q a k) = p k) :
    (Host.reduce (@FloatOps.maximumf Ideal _ .f32) y (val_main_cst_9 (F := Ideal)) reducesTo_S2x6x5x1024x32x32_S2x6x5x1024x32_d5 h_S_ : FVec Ideal S2x6x5x1024x32 .f32)
      (ix5 b g r q a) = Finset.univ.sup p := by
  rw [Host.reduce_eq_fold_single _ _ _ _ hr6]
  have hi : val_main_cst_9 (F := Ideal) (Shape.Idx.first h_S_) = (⊥ : EReal) := minus_inf
  rw [hi]
  have hf : (y ∘ hr6.lift (ix5 b g r q a)) = p := funext fun k => (congrArg y (hr6l b g r q a k)).trans (e k)
  rw [hf]
  rfl

variable (x1 : (⟨S2x1024x30x4, .i8⟩ : BufTy).Contents (Elt Ideal)) (x3 : (⟨S2x1024x6x4, .i8⟩ : BufTy).Contents (Elt Ideal))
variable (x5 : (⟨S2x32x6x128, .i8⟩ : BufTy).Contents (Elt Ideal)) (r0 : (⟨S2x1024x30x128, .bf16⟩ : BufTy).Contents (Elt Ideal))
variable (r1 r2 : (⟨S2x1024x6x128, .bf16⟩ : BufTy).Contents (Elt Ideal))

/-- A query element: the code times its block's scale. -/
def qE (b : Fin 2) (g : Fin 6) (r : Fin 5) (q : Fin 1024) (d : Fin 128) : EReal :=
  r0 (ix4 b q ⟨5 * g.val + r.val, by omega⟩ d) * pw (x1 (ix4 b q ⟨5 * g.val + r.val, by omega⟩ ⟨d.val / 32, by omega⟩) : BitVec 8).toNat

/-- A key element. -/
def kE (b : Fin 2) (g : Fin 6) (k : Fin 1024) (d : Fin 128) : EReal := r1 (ix4 b k g d) * pw (x3 (ix4 b k g ⟨d.val / 32, by omega⟩) : BitVec 8).toNat

/-- A value element. -/
def vE (b : Fin 2) (g : Fin 6) (k : Fin 1024) (d : Fin 128) : EReal := r2 (ix4 b k g d) * pw (x5 (ix4 b ⟨k.val / 32, by omega⟩ g d) : BitVec 8).toNat

theorem dec1 (i) (h : 1 ≤ (x1 i : BitVec 8).toNat ∧ (x1 i : BitVec 8).toNat ≤ 254) : val_main_v10 (F := Ideal) x1 i = pw (x1 i : BitVec 8).toNat := by
  rw [val_main_v10_apply, val_main_v9_apply, val_main_v8_apply, val_main_v5_apply, val_main_v4_apply, val_main_v2_apply, val_main_v3_apply,
    val_main_v7_apply, val_main_v6_apply, val_main_c_apply, val_main_cst_apply]
  exact decode (x1 i) h.1 h.2

theorem dec3 (i) (h : 1 ≤ (x3 i : BitVec 8).toNat ∧ (x3 i : BitVec 8).toNat ≤ 254) : val_main_v25 (F := Ideal) x3 i = pw (x3 i : BitVec 8).toNat := by
  rw [val_main_v25_apply, val_main_v24_apply, val_main_v23_apply, val_main_v20_apply, val_main_v19_apply, val_main_v17_apply, val_main_v18_apply,
    val_main_v22_apply, val_main_v21_apply, val_main_c_0_apply, val_main_cst_1_apply]
  exact decode (x3 i) h.1 h.2

theorem dec5 (i) (h : 1 ≤ (x5 i : BitVec 8).toNat ∧ (x5 i : BitVec 8).toNat ≤ 254) : val_main_v40 (F := Ideal) x5 i = pw (x5 i : BitVec 8).toNat := by
  rw [val_main_v40_apply, val_main_v39_apply, val_main_v38_apply, val_main_v35_apply, val_main_v34_apply, val_main_v32_apply, val_main_v33_apply,
    val_main_v37_apply, val_main_v36_apply, val_main_c_2_apply, val_main_cst_3_apply]
  exact decode (x5 i) h.1 h.2

theorem ixQ (b : Fin 2) (g : Fin 6) (r : Fin 5) (q : Fin 1024) (d : Fin 128) :
    idx_main_v14 (idx_main_v15 (ix5 b g r q d)) = ix5 b q (⟨5 * g.val + r.val, by omega⟩ : Fin 30) (⟨d.val / 32, by omega⟩ : Fin 4) (⟨d.val % 32, by omega⟩ : Fin 32) :=
  e5 (by show ((((b.val * 1024 + q.val) * 6 + g.val) * 5 + r.val) * 128 + d.val) / 3932160 = b.val; omega) (by show ((((b.val * 1024 + q.val) * 6 + g.val) * 5 + r.val) * 128 + d.val) / 3840 % 1024 = q.val; omega) (by show ((((b.val * 1024 + q.val) * 6 + g.val) * 5 + r.val) * 128 + d.val) / 128 % 30 = 5 * g.val + r.val; omega) (by show ((((b.val * 1024 + q.val) * 6 + g.val) * 5 + r.val) * 128 + d.val) / 32 % 4 = d.val / 32; omega) (by show ((((b.val * 1024 + q.val) * 6 + g.val) * 5 + r.val) * 128 + d.val) % 32 = d.val % 32; omega)

theorem ixQ' (b : Fin 2) (h : Fin 30) (q : Fin 1024) (d : Fin 128) :
    idx_main_v1 (ix5 b q h (⟨d.val / 32, by omega⟩ : Fin 4) (⟨d.val % 32, by omega⟩ : Fin 32)) = ix4 b q h d :=
  e4 (by show ((((b.val * 1024 + q.val) * 30 + h.val) * 4 + (d.val / 32)) * 32 + d.val % 32) / 3932160 = b.val; omega) (by show ((((b.val * 1024 + q.val) * 30 + h.val) * 4 + (d.val / 32)) * 32 + d.val % 32) / 3840 % 1024 = q.val; omega) (by show ((((b.val * 1024 + q.val) * 30 + h.val) * 4 + (d.val / 32)) * 32 + d.val % 32) / 128 % 30 = h.val; omega) (by show ((((b.val * 1024 + q.val) * 30 + h.val) * 4 + (d.val / 32)) * 32 + d.val % 32) % 128 = d.val; omega)

theorem v15_eq (hx : ∀ i, 1 ≤ (x1 i : BitVec 8).toNat ∧ (x1 i : BitVec 8).toNat ≤ 254) (b : Fin 2) (g : Fin 6) (r : Fin 5) (q : Fin 1024) (d : Fin 128) :
    val_main_v15 (F := Ideal) x1 r0 (ix5 b g r q d) = qE x1 r0 b g r q d := by
  rw [val_main_v15_apply, val_main_v14_apply, ixQ, val_main_v13_apply, val_main_v1_apply, ixQ', val_main_v12_apply, val_main_v11_apply, dec1 x1 _ (hx _)]
  exact congrArg (fun i => r0 (ix4 b q ⟨5 * g.val + r.val, by omega⟩ d) * pw (x1 i : BitVec 8).toNat) (e4 rfl rfl rfl rfl)

theorem ixK (b : Fin 2) (g : Fin 6) (k : Fin 1024) (d : Fin 128) :
    idx_main_v29 (idx_main_v30 (ix4 b g k d)) = ix5 b k g (⟨d.val / 32, by omega⟩ : Fin 4) (⟨d.val % 32, by omega⟩ : Fin 32) :=
  e5 (by show (((b.val * 1024 + k.val) * 6 + g.val) * 128 + d.val) / 786432 = b.val; omega) (by show (((b.val * 1024 + k.val) * 6 + g.val) * 128 + d.val) / 768 % 1024 = k.val; omega) (by show (((b.val * 1024 + k.val) * 6 + g.val) * 128 + d.val) / 128 % 6 = g.val; omega) (by show (((b.val * 1024 + k.val) * 6 + g.val) * 128 + d.val) / 32 % 4 = d.val / 32; omega) (by show (((b.val * 1024 + k.val) * 6 + g.val) * 128 + d.val) % 32 = d.val % 32; omega)

theorem ixK' (b : Fin 2) (g : Fin 6) (k : Fin 1024) (d : Fin 128) :
    idx_main_v16 (ix5 b k g (⟨d.val / 32, by omega⟩ : Fin 4) (⟨d.val % 32, by omega⟩ : Fin 32)) = ix4 b k g d :=
  e4 (by show ((((b.val * 1024 + k.val) * 6 + g.val) * 4 + (d.val / 32)) * 32 + d.val % 32) / 786432 = b.val; omega) (by show ((((b.val * 1024 + k.val) * 6 + g.val) * 4 + (d.val / 32)) * 32 + d.val % 32) / 768 % 1024 = k.val; omega) (by show ((((b.val * 1024 + k.val) * 6 + g.val) * 4 + (d.val / 32)) * 32 + d.val % 32) / 128 % 6 = g.val; omega) (by show ((((b.val * 1024 + k.val) * 6 + g.val) * 4 + (d.val / 32)) * 32 + d.val % 32) % 128 = d.val; omega)

theorem v30_eq (hx : ∀ i, 1 ≤ (x3 i : BitVec 8).toNat ∧ (x3 i : BitVec 8).toNat ≤ 254) (b : Fin 2) (g : Fin 6) (k : Fin 1024) (d : Fin 128) :
    val_main_v30 (F := Ideal) x3 r1 (ix4 b g k d) = kE x3 r1 b g k d := by
  rw [val_main_v30_apply, val_main_v29_apply, ixK, val_main_v28_apply, val_main_v16_apply, ixK', val_main_v27_apply, val_main_v26_apply, dec3 x3 _ (hx _)]
  exact congrArg (fun i => r1 (ix4 b k g d) * pw (x3 i : BitVec 8).toNat) (e4 rfl rfl rfl rfl)

theorem ixV (b : Fin 2) (g : Fin 6) (k : Fin 1024) (d : Fin 128) :
    idx_main_v44 (idx_main_v45 (ix4 b g k d)) = ix5 b (⟨k.val / 32, by omega⟩ : Fin 32) (⟨k.val % 32, by omega⟩ : Fin 32) g d :=
  e5 (by show (((b.val * 1024 + k.val) * 6 + g.val) * 128 + d.val) / 786432 = b.val; omega) (by show (((b.val * 1024 + k.val) * 6 + g.val) * 128 + d.val) / 24576 % 32 = k.val / 32; omega) (by show (((b.val * 1024 + k.val) * 6 + g.val) * 128 + d.val) / 768 % 32 = k.val % 32; omega) (by show (((b.val * 1024 + k.val) * 6 + g.val) * 128 + d.val) / 128 % 6 = g.val; omega) (by show (((b.val * 1024 + k.val) * 6 + g.val) * 128 + d.val) % 128 = d.val; omega)

theorem ixV' (b : Fin 2) (g : Fin 6) (k : Fin 1024) (d : Fin 128) :
    idx_main_v31 (ix5 b (⟨k.val / 32, by omega⟩ : Fin 32) (⟨k.val % 32, by omega⟩ : Fin 32) g d) = ix4 b k g d :=
  e4 (by show ((((b.val * 32 + k.val / 32) * 32 + k.val % 32) * 6 + g.val) * 128 + d.val) / 786432 = b.val; omega) (by show ((((b.val * 32 + k.val / 32) * 32 + k.val % 32) * 6 + g.val) * 128 + d.val) / 768 % 1024 = k.val; omega) (by show ((((b.val * 32 + k.val / 32) * 32 + k.val % 32) * 6 + g.val) * 128 + d.val) / 128 % 6 = g.val; omega) (by show ((((b.val * 32 + k.val / 32) * 32 + k.val % 32) * 6 + g.val) * 128 + d.val) % 128 = d.val; omega)

theorem v45_eq (hx : ∀ i, 1 ≤ (x5 i : BitVec 8).toNat ∧ (x5 i : BitVec 8).toNat ≤ 254) (b : Fin 2) (g : Fin 6) (k : Fin 1024) (d : Fin 128) :
    val_main_v45 (F := Ideal) x5 r2 (ix4 b g k d) = vE x5 r2 b g k d := by
  rw [val_main_v45_apply, val_main_v44_apply, ixV, val_main_v43_apply, val_main_v31_apply, ixV', val_main_v42_apply, val_main_v41_apply, dec5 x5 _ (hx _)]
  exact congrArg (fun i => r2 (ix4 b k g d) * pw (x5 i : BitVec 8).toNat) (e4 rfl rfl rfl rfl)

/-- The score of a key for a query, before the scale: absent when the key comes after it. -/
def rs (b : Fin 2) (g : Fin 6) (r : Fin 5) (q k : Fin 1024) : EReal :=
  if k.val ≤ q.val then ∑ d, kE x3 r1 b g k d * qE x1 r0 b g r q d else ⊥

theorem sel_sle (a b : ℕ) (ha : a < 2 ^ 31) (hb : b < 2 ^ 31) (x y : EReal) :
    Scalar.select (IntOp.cmpi .sle (BitVec.ofNat 32 a) (BitVec.ofNat 32 b)) x y = if a ≤ b then x else y := by
  have ia : (BitVec.ofNat 32 a).toInt = a := by
    rw [BitVec.toInt_eq_toNat_of_lt (by rw [BitVec.toNat_ofNat]; omega), BitVec.toNat_ofNat, Nat.mod_eq_of_lt (by omega)]
  have ib : (BitVec.ofNat 32 b).toInt = b := by
    rw [BitVec.toInt_eq_toNat_of_lt (by rw [BitVec.toNat_ofNat]; omega), BitVec.toNat_ofNat, Nat.mod_eq_of_lt (by omega)]
  unfold Scalar.select IntOp.cmpi
  by_cases h : a ≤ b
  · simp [h, BitVec.sle, ia, ib]
  · simp [h, BitVec.sle, ia, ib]

variable (h1 : ∀ i, 1 ≤ (x1 i : BitVec 8).toNat ∧ (x1 i : BitVec 8).toNat ≤ 254) (h3 : ∀ i, 1 ≤ (x3 i : BitVec 8).toNat ∧ (x3 i : BitVec 8).toNat ≤ 254)
variable (h5 : ∀ i, 1 ≤ (x5 i : BitVec 8).toNat ∧ (x5 i : BitVec 8).toNat ≤ 254)
include h1 h3

theorem v57_eq (b : Fin 2) (g : Fin 6) (r : Fin 5) (q k : Fin 1024) :
    val_main_v57 (F := Ideal) x1 x3 r0 r1 (ix5 b g r q k) = rs x1 x3 r0 r1 b g r q k * ((aE : ℝ) : EReal) := by
  have hs : val_main_v46 (F := Ideal) x1 x3 r0 r1 (ix5 b g r q k) = ∑ d, kE x3 r1 b g k d * qE x1 r0 b g r q d := by
    rw [val_main_v46_apply]
    refine Finset.sum_congr rfl fun d _ => ?_
    rw [mul_comm]
    exact congrArg₂ (fun a b : EReal => a * b) ((congrArg (val_main_v30 (F := Ideal) x3 r1) (e4 rfl rfl rfl rfl)).trans (v30_eq x3 r1 h3 b g k d))
      ((congrArg (val_main_v15 (F := Ideal) x1 r0) (e5 rfl rfl rfl rfl rfl)).trans (v15_eq x1 r0 h1 b g r q d))
  have hd : val_main_v49 (F := Ideal) x1 x3 r0 r1 (ix5 b g r q k) = (∑ d, kE x3 r1 b g k d * qE x1 r0 b g r q d) * ((aE : ℝ) : EReal) := by
    rw [val_main_v49_apply, val_main_v48_apply, val_main_v47_apply, val_main_cst_4_apply, hs]
    exact sqrt128 _
  rw [val_main_v57_apply, val_main_call0_v1_apply, val_main_call0_v2_apply, val_main_call0_v0_apply, val_main_cst_5_apply, hd, val_main_v56_apply,
    val_main_v54_apply, val_main_v55_apply, val_main_v53_apply, val_main_v51_apply, val_main_v50_apply, val_main_v52_apply]
  refine (sel_sle k.val q.val (by omega) (by omega) _ _).trans ?_
  unfold rs
  by_cases h : k.val ≤ q.val
  · rw [if_pos h, if_pos h]
  · rw [if_neg h, if_neg h, EReal.bot_mul_coe_of_pos aE_pos]
    exact minus_inf

theorem v58_eq (b : Fin 2) (g : Fin 6) (r : Fin 5) (q : Fin 1024) :
    val_main_v58 (F := Ideal) x1 x3 r0 r1 (ix4 b g r q) = Finset.univ.sup fun k => rs x1 x3 r0 r1 b g r q k * ((aE : ℝ) : EReal) := by
  have e := fun k => v57_eq x1 x3 r0 r1 h1 h3 b g r q k
  unfold val_main_v58
  generalize val_main_v57 (F := Ideal) x1 x3 r0 r1 = y at e ⊢
  rw [Host.reduce_eq_fold_single _ _ _ _ (by decide)]
  have hi : val_main_cst_6 (F := Ideal) (Shape.Idx.first h_S_) = (⊥ : EReal) := minus_inf
  rw [hi, ← funext e]
  unfold Finset.sup
  refine congrArg (fun f : Fin 1024 → EReal => Finset.fold max ⊥ f Finset.univ) (funext fun k => congrArg y ?_)
  exact e5 rfl rfl rfl rfl rfl

theorem v62_eq (b : Fin 2) (g : Fin 6) (r : Fin 5) (q k : Fin 1024) :
    val_main_v62 (F := Ideal) x1 x3 r0 r1 (ix5 b g r q k)
      = Ideal.exp (rs x1 x3 r0 r1 b g r q k * ((aE : ℝ) : EReal) - Finset.univ.sup fun k => rs x1 x3 r0 r1 b g r q k * ((aE : ℝ) : EReal)) := by
  have hi : idx_main_v59 (idx_main_v60 (ix5 b g r q k)) = ix4 b g r q := e4 rfl rfl rfl rfl
  rw [val_main_v62_apply, val_main_v61_apply, val_main_v60_apply, val_main_v59_apply, hi, v57_eq x1 x3 r0 r1 h1 h3, v58_eq x1 x3 r0 r1 h1 h3]
  generalize (Finset.univ.sup fun k => rs x1 x3 r0 r1 b g r q k * ((aE : ℝ) : EReal)) = S
  generalize rs x1 x3 r0 r1 b g r q k * ((aE : ℝ) : EReal) = A
  rfl

theorem v68_eq (b : Fin 2) (g : Fin 6) (r : Fin 5) (q k : Fin 1024) :
    val_main_v68 (F := Ideal) x1 x3 r0 r1 (ix5 b g r q k) = ((prob (rs x1 x3 r0 r1 b g r q) k : ℝ) : EReal) := by
  have hi : idx_main_v64 (idx_main_v67 (ix5 b g r q k)) = ix4 b g r q := e4 rfl rfl rfl rfl
  have hz : val_main_cst_7 (F := Ideal) (Shape.Idx.first h_S_) = (0 : EReal) := zero_eq
  have hsum : val_main_v63 (F := Ideal) x1 x3 r0 r1 (ix4 b g r q) = 0 + ∑ k, Ideal.exp (rs x1 x3 r0 r1 b g r q k * ((aE : ℝ) : EReal)
      - Finset.univ.sup fun k => rs x1 x3 r0 r1 b g r q k * ((aE : ℝ) : EReal)) := by
    rw [val_main_v63_apply, hz]
    refine congrArg (fun a : EReal => 0 + a) (Finset.sum_congr rfl fun k _ => ?_)
    have hk : idx_main_v63 (ix4 b g r q) k = ix5 b g r q k := e5 rfl rfl rfl rfl rfl
    rw [hk, v62_eq x1 x3 r0 r1 h1 h3]
  rw [val_main_v68_apply, val_main_v67_apply, val_main_v66_apply, val_main_v65_apply, val_main_v64_apply, val_main_cst_8_apply, v62_eq x1 x3 r0 r1 h1 h3, hi, hsum]
  rw [← softmax_eq (rs x1 x3 r0 r1 b g r q) _ (fun _ => rfl) k]
  generalize (0 + ∑ k, Ideal.exp (rs x1 x3 r0 r1 b g r q k * ((aE : ℝ) : EReal)
      - Finset.univ.sup fun k => rs x1 x3 r0 r1 b g r q k * ((aE : ℝ) : EReal))) = B
  generalize Ideal.exp (rs x1 x3 r0 r1 b g r q k * ((aE : ℝ) : EReal) - Finset.univ.sup fun k => rs x1 x3 r0 r1 b g r q k * ((aE : ℝ) : EReal)) = A
  show A * Ideal.div (Ideal.ieee 8 23 0x3F800000#32) B = A * Ideal.div 1 B
  rw [one_eq, EReal.coe_one]

theorem v69_eq (b : Fin 2) (g : Fin 6) (r : Fin 5) (q : Fin 1024) (a j : Fin 32) :
    val_main_v69 (F := Ideal) x1 x3 r0 r1 (ix6 b g r q a j) = ((prob (rs x1 x3 r0 r1 b g r q) ⟨32 * a.val + j.val, by omega⟩ : ℝ) : EReal) := by
  rw [← v68_eq x1 x3 r0 r1 h1 h3 b g r q ⟨32 * a.val + j.val, by omega⟩]
  unfold val_main_v69
  refine shapeCast_apply _ _ _ _ ?_
  rw [Shape.rowMajor_val_six, Shape.rowMajor_val_five]
  show (((b.val * 6 + g.val) * 5 + r.val) * 1024 + q.val) * 1024 + (32 * a.val + j.val) = ((((b.val * 6 + g.val) * 5 + r.val) * 1024 + q.val) * 32 + a.val) * 32 + j.val
  omega

theorem v70_eq (b : Fin 2) (g : Fin 6) (r : Fin 5) (q : Fin 1024) (a : Fin 32) :
    val_main_v70 (F := Ideal) x1 x3 r0 r1 (ix5 b g r q a)
      = Finset.univ.sup fun j : Fin 32 => ((prob (rs x1 x3 r0 r1 b g r q) ⟨32 * a.val + j.val, by omega⟩ : ℝ) : EReal) :=
  max32 b g r q a (val_main_v69 (F := Ideal) x1 x3 r0 r1) (fun j : Fin 32 => ((prob (rs x1 x3 r0 r1 b g r q) ⟨32 * a.val + j.val, by omega⟩ : ℝ) : EReal))
    (fun k => v69_eq x1 x3 r0 r1 h1 h3 b g r q a k)

theorem v82_eq (i : S2x6x5x1024x32.Idx) : val_main_v82 (F := Ideal) x1 x3 r0 r1 i = expo (val_main_v72 (F := Ideal) x1 x3 r0 r1 i) := by
  rw [val_main_v82_apply, val_main_v74_apply, val_main_v73_apply, val_main_cst_11_apply, val_main_call1_v1_apply, val_main_call1_v0_apply, val_main_cst_14_apply,
    val_main_v81_apply, val_main_v80_apply, val_main_cst_13_apply, val_main_v79_apply, val_main_v78_apply, val_main_v77_apply, val_main_v76_apply,
    val_main_cst_12_apply, val_main_v75_apply]
  generalize val_main_v72 (F := Ideal) x1 x3 r0 r1 i = X
  rfl

theorem v100_eq (b : Fin 2) (g : Fin 6) (r : Fin 5) (q : Fin 1024) (a j : Fin 32) :
    val_main_v100 (F := Ideal) x1 x3 r0 r1 (ix6 b g r q a j) = ((prob (rs x1 x3 r0 r1 b g r q) ⟨32 * a.val + j.val, by omega⟩ : ℝ) : EReal) := by
  rw [← block_id (fun j => prob (rs x1 x3 r0 r1 b g r q) ⟨32 * a.val + j.val, by omega⟩) (fun j => prob_nonneg _ _)
    (fun j => ((prob (rs x1 x3 r0 r1 b g r q) ⟨32 * a.val + j.val, by omega⟩ : ℝ) : EReal)) (fun _ => rfl)
    (val_main_v72 (F := Ideal) x1 x3 r0 r1 (ix5 b g r q a)) (by
      rw [val_main_v72_apply, v70_eq x1 x3 r0 r1 h1 h3, val_main_v71_apply, val_main_cst_10_apply]
      generalize (Finset.univ.sup fun j : Fin 32 => ((prob (rs x1 x3 r0 r1 b g r q) ⟨32 * a.val + j.val, by omega⟩ : ℝ) : EReal)) = A
      rfl) j]
  have i1 : idx_main_v88 (idx_main_v89 (ix6 b g r q a j)) = ix5 b g r q a := e5 rfl rfl rfl rfl rfl
  have i2 : idx_main_v98 (idx_main_v99 (ix6 b g r q a j)) = ix5 b g r q a := e5 rfl rfl rfl rfl rfl
  rw [val_main_v100_apply, val_main_v92_apply, val_main_v91_apply, val_main_call2_v4_apply, val_main_call2_v3_apply, val_main_cst_17_apply,
    val_main_call2_v2_apply, val_main_call2_v1_apply, val_main_call2_v0_apply, val_main_cst_16_apply, val_main_v90_apply, val_main_v89_apply, val_main_v88_apply,
    i1, val_main_v87_apply, val_main_v86_apply, val_main_v85_apply, val_main_v84_apply, val_main_cst_15_apply, val_main_v83_apply,
    val_main_v99_apply, val_main_v98_apply, i2, val_main_v97_apply, val_main_v96_apply, val_main_v95_apply, val_main_v94_apply, val_main_v93_apply,
    val_main_cst_18_apply, v82_eq x1 x3 r0 r1 h1 h3, v69_eq x1 x3 r0 r1 h1 h3]
  generalize expo (val_main_v72 (F := Ideal) x1 x3 r0 r1 (ix5 b g r q a)) = X
  generalize ((prob (rs x1 x3 r0 r1 b g r q) ⟨32 * a.val + j.val, by omega⟩ : ℝ) : EReal) = A
  rfl

theorem v101_eq (b : Fin 2) (g : Fin 6) (r : Fin 5) (q k : Fin 1024) :
    val_main_v101 (F := Ideal) x1 x3 r0 r1 (ix5 b g r q k) = ((prob (rs x1 x3 r0 r1 b g r q) k : ℝ) : EReal) := by
  have h := v100_eq x1 x3 r0 r1 h1 h3 b g r q ⟨k.val / 32, by omega⟩ ⟨k.val % 32, by omega⟩
  rw [show (⟨32 * (k.val / 32) + k.val % 32, by omega⟩ : Fin 1024) = k from Fin.ext (by show 32 * (k.val / 32) + k.val % 32 = k.val; omega)] at h
  rw [← h]
  unfold val_main_v101
  refine shapeCast_apply _ _ _ _ ?_
  rw [Shape.rowMajor_val_six, Shape.rowMajor_val_five]
  show ((((b.val * 6 + g.val) * 5 + r.val) * 1024 + q.val) * 32 + k.val / 32) * 32 + k.val % 32 = (((b.val * 6 + g.val) * 5 + r.val) * 1024 + q.val) * 1024 + k.val
  omega

include h5

theorem v102_eq (b : Fin 2) (g : Fin 6) (r : Fin 5) (q : Fin 1024) (d : Fin 128) :
    val_main_v102 (F := Ideal) x1 x3 x5 r0 r1 r2 (ix5 b g d r q) = soft (rs x1 x3 r0 r1 b g r q) (fun k => vE x5 r2 b g k d) := by
  rw [val_main_v102_apply]
  unfold soft
  refine Finset.sum_congr rfl fun k _ => ?_
  exact congrArg₂ (fun a b : EReal => a * b) ((congrArg (val_main_v45 (F := Ideal) x5 r2) (e4 rfl rfl rfl rfl)).trans (v45_eq x5 r2 h5 b g k d))
    ((congrArg (val_main_v101 (F := Ideal) x1 x3 r0 r1) (e5 rfl rfl rfl rfl rfl)).trans (v101_eq x1 x3 r0 r1 h1 h3 b g r q k))

/-- The reference's attention output. -/
theorem v135_eq (i : S2x1024x3840.Idx) (b : Fin 2) (g : Fin 6) (r : Fin 5) (q : Fin 1024) (d : Fin 128) (hb : (i 0).val = b.val) (hq : (i 1).val = q.val)
    (hl : (i 2).val = 640 * g.val + 128 * r.val + d.val) :
    val_main_v135 (F := Ideal) x1 x3 x5 r0 r1 r2 i = soft (rs x1 x3 r0 r1 b g r q) (fun k => vE x5 r2 b g k d) := by
  rw [val_main_v135_apply, val_main_v104_apply, val_main_v103_apply, ← v102_eq x1 x3 x5 r0 r1 r2 h1 h3 h5 b g r q d]
  refine congrArg (val_main_v102 (F := Ideal) x1 x3 x5 r0 r1 r2) (e5 ?_ ?_ ?_ ?_ ?_)
  · show (((i 0).val * 1024 + (i 1).val) * 3840 + (i 2).val) / 3932160 = b.val; omega
  · show (((i 0).val * 1024 + (i 1).val) * 3840 + (i 2).val) / 640 % 6 = g.val; omega
  · show (((i 0).val * 1024 + (i 1).val) * 3840 + (i 2).val) % 128 = d.val; omega
  · show (((i 0).val * 1024 + (i 1).val) * 3840 + (i 2).val) / 128 % 5 = r.val; omega
  · show (((i 0).val * 1024 + (i 1).val) * 3840 + (i 2).val) / 3840 % 1024 = q.val; omega

end Cert.ReferenceIdeal.Read

end
-- ==== Proof.RefReg.lean ====
/- What the reference's first step leaves: the codes themselves, widened without change of value. -/
module

public import proofs.«01_k».proof.Proof.Ref
public import Idealize.ShloMosaic.Lib.Pointwise
public import Idealize.ShloMosaic.Lib.Pipeline.ValueKit.Point

@[expose] public section

set_option maxRecDepth 16384

noncomputable section

namespace Cert.ReferenceIdeal.Reg

open Cert.ReferenceIdeal Cert.ReferenceIdeal.Gen
open Idealize.ShloMosaic Idealize.ShloMosaic.TcCoe
open Idealize.ShloMosaic.Pipeline (Dat Cfg Window)

variable (m : (ℓ : Loc nD τ sig) → Buf (Elt Ideal) ℓ) (c : Dev nD)

theorem reg0 : (dats m 0 c).arrAt 3 cfg0.N = (fun i : S2x1024x30x128.Idx => (m ((c.tc : Thread nD τ).loc main_arg0) : S2x1024x30x128.Idx → EReal) i) := by
  refine (dats m 0 c).arrAt_eq_of_covers 3 _ (by decide +kernel) fun t hf y => ?_
  blk_simp
  rw [after0_3]
  frame_out
  unfold k0_pay1
  show V m c main_arg0 (((cfg0.win 0).blk t).view.emb y) = _
  rw [V_main_arg0]
  rfl

theorem reg1 : (dats m 0 c).arrAt 4 cfg0.N = (fun i : S2x1024x6x128.Idx => (m ((c.tc : Thread nD τ).loc main_arg2) : S2x1024x6x128.Idx → EReal) i) := by
  refine (dats m 0 c).arrAt_eq_of_covers 4 _ (by decide +kernel) fun t hf y => ?_
  blk_simp
  rw [after0_4]
  frame_out
  unfold k0_pay2
  show V m c main_arg2 (((cfg0.win 1).blk t).view.emb y) = _
  rw [V_main_arg2]
  rfl

theorem reg2 : (dats m 0 c).arrAt 5 cfg0.N = (fun i : S2x1024x6x128.Idx => (m ((c.tc : Thread nD τ).loc main_arg4) : S2x1024x6x128.Idx → EReal) i) := by
  refine (dats m 0 c).arrAt_eq_of_covers 5 _ (by decide +kernel) fun t hf y => ?_
  blk_simp
  rw [after0_5]
  frame_out
  unfold k0_pay3
  show V m c main_arg4 (((cfg0.win 2).blk t).view.emb y) = _
  rw [V_main_arg4]
  rfl

open Value Read in
/-- After the reference, on every device: its attention output over its own arguments, which end as launched. -/
theorem run_out (ρ : Dev nD → PrngReg) : θ_run defs (onTc (τ := τ) (main (F := Ideal))) ⟨m, fun _ => 0, ρ⟩ (fun r => ∀ c : Dev nD,
      r.2.mem ((c.tc : Thread nD τ).loc main_v135)
        = val_main_v135 (F := Ideal) (m ((c.tc : Thread nD τ).loc main_arg1)) (m ((c.tc : Thread nD τ).loc main_arg3)) (m ((c.tc : Thread nD τ).loc main_arg5))
            (fun i : S2x1024x30x128.Idx => (m ((c.tc : Thread nD τ).loc main_arg0) : S2x1024x30x128.Idx → EReal) i)
            (fun i : S2x1024x6x128.Idx => (m ((c.tc : Thread nD τ).loc main_arg2) : S2x1024x6x128.Idx → EReal) i)
            (fun i : S2x1024x6x128.Idx => (m ((c.tc : Thread nD τ).loc main_arg4) : S2x1024x6x128.Idx → EReal) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans ((val_main_v135_eq (F := Ideal) (exitV m c)).trans (by
      rw [exit_main_arg1, exit_main_arg3, exit_main_arg5, exit_main_v0_0, exit_main_v0_1, exit_main_v0_2]
      unfold reg_main_v0_0 reg_main_v0_1 reg_main_v0_2
      rw [reg0, reg1, reg2])), (h c).2.2.2⟩) (Value.run m ρ)

end Cert.ReferenceIdeal.Reg

end
-- ==== Proof.Meet.lean ====
/- The two sides meet: the kernel's attention output is the reference's at arguments that agree. -/
module

public import proofs.«01_k».proof.Defs
public import proofs.«01_k».proof.Proof.Comb
public import proofs.«01_k».proof.Proof.RefReg
public import proofs.«01_k».proof.Proof.Gen.Pre_scales_in_range
public import proofs.«01_k».proof.Proof.Gen.On_attention_output
public import Idealize.ShloMosaic.Lib.ReduceAll

@[expose] public section

set_option maxRecDepth 16384

noncomputable section

namespace Cert.Meet

open Idealize.ShloMosaic Idealize.ShloMosaic.TcCoe
open Cert.KernelIdeal (nD τ sig main_arg0 main_arg1 main_arg2 main_arg3 main_arg4 main_arg5 main_v6_0 main_v6_1 main_v7 S1x1024x640 S2x1024x3840)
open Cert.KernelIdeal.Run (Garr Gout att sco Kf Qf Vf envAt blk0 blk1 blk2 blk3 blk4 blk5 soft lt12 pw)
open Cert.ReferenceIdeal.Read (qE kE vE rs v135_eq val_main_v135)
open Cert.KernelIdeal (cfg0)

/-- A scale between 1 and 254, from the precondition's comparisons. -/
theorem range (b : BitVec 8) (h : IntOp.andi (IntOp.cmpi .sge (b.setWidth 32) 1#32) (IntOp.cmpi .sle (b.setWidth 32) 254#32) = 1#1) :
    1 ≤ b.toNat ∧ b.toNat ≤ 254 := by
  revert b
  decide +kernel

section
variable (m : (ℓ : Loc nD τ sig) → Buf (Elt Ideal) ℓ) (c : Dev nD)

theorem pre_range (h : Cert.Pre_KernelIdeal_scales_in_range (hPre_scales_in_range := Cert.Pre_scales_in_range.Gen.facts) m) :
    (∀ i, 1 ≤ (m ((c.tc : Thread nD τ).loc main_arg1) i : BitVec 8).toNat ∧ (m ((c.tc : Thread nD τ).loc main_arg1) i : BitVec 8).toNat ≤ 254)
    ∧ (∀ i, 1 ≤ (m ((c.tc : Thread nD τ).loc main_arg3) i : BitVec 8).toNat ∧ (m ((c.tc : Thread nD τ).loc main_arg3) i : BitVec 8).toNat ≤ 254)
    ∧ (∀ i, 1 ≤ (m ((c.tc : Thread nD τ).loc main_arg5) i : BitVec 8).toNat ∧ (m ((c.tc : Thread nD τ).loc main_arg5) i : BitVec 8).toNat ≤ 254) := by
  have e := congrFun (h c) (Shape.Idx.first Cert.Pre_scales_in_range.Gen.facts.h_S_)
  unfold Cert.Pre_scales_in_range.fn Cert.Pre_scales_in_range.fn_part1 at e
  obtain ⟨e12, e3⟩ := IntOp.andi_eq_one.1 e
  obtain ⟨e1, e2⟩ := IntOp.andi_eq_one.1 e12
  exact ⟨fun i => range _ (Host.reduce_andi_all _ _ _ _ _ e1 i), fun i => range _ (Host.reduce_andi_all _ _ _ _ _ e2 i),
    fun i => range _ (Host.reduce_andi_all _ _ _ _ _ e3 i)⟩

/-- The codes of an argument, as values. -/
abbrev x0 : (⟨4, ![2, 1024, 30, 128]⟩ : Shape).Idx → EReal := m ((c.tc : Thread nD τ).loc main_arg0)
abbrev x2 : (⟨4, ![2, 1024, 6, 128]⟩ : Shape).Idx → EReal := m ((c.tc : Thread nD τ).loc main_arg2)
abbrev x4 : (⟨4, ![2, 1024, 6, 128]⟩ : Shape).Idx → EReal := m ((c.tc : Thread nD τ).loc main_arg4)

theorem meet (t : Fin cfg0.N) (r : Fin 5) (q : Fin 1024) (d : Fin 128) :
    att (envAt m c t) r q d = soft (rs (m ((c.tc : Thread nD τ).loc main_arg1)) (m ((c.tc : Thread nD τ).loc main_arg3)) (x0 m c) (x2 m c)
        (⟨t.val / 6, by have := lt12 t; omega⟩ : Fin 2) (⟨t.val % 6, by omega⟩ : Fin 6) r q)
      (fun k => vE (m ((c.tc : Thread nD τ).loc main_arg5)) (x4 m c) (⟨t.val / 6, by have := lt12 t; omega⟩ : Fin 2) (⟨t.val % 6, by omega⟩ : Fin 6) k d) := by
  have hk : ∀ k d, Kf (envAt m c t) k d = kE (m ((c.tc : Thread nD τ).loc main_arg3)) (x2 m c) (⟨t.val / 6, by have := lt12 t; omega⟩ : Fin 2) (⟨t.val % 6, by omega⟩ : Fin 6) k d := by
    intro k d
    unfold Kf kE
    rw [blk2, blk3]
  have hq : ∀ d, Qf (envAt m c t) r q d = qE (m ((c.tc : Thread nD τ).loc main_arg1)) (x0 m c) (⟨t.val / 6, by have := lt12 t; omega⟩ : Fin 2) (⟨t.val % 6, by omega⟩ : Fin 6) r q d := by
    intro d
    unfold Qf qE
    rw [blk0, blk1]
  have hv : ∀ k d, Vf (envAt m c t) k d = vE (m ((c.tc : Thread nD τ).loc main_arg5)) (x4 m c) (⟨t.val / 6, by have := lt12 t; omega⟩ : Fin 2) (⟨t.val % 6, by omega⟩ : Fin 6) k d := by
    intro k d
    unfold Vf vE
    rw [blk4, blk5]
  unfold att
  refine congrArg₂ soft (funext fun k => ?_) (funext fun k => hv k d)
  unfold sco rs
  refine congrArg (fun a : EReal => if k.val ≤ q.val then a else ⊥) (Finset.sum_congr rfl fun d _ => ?_)
  rw [hk, hq]

/-- The kernel's attention output is the reference's. -/
theorem Garr_eq (h : Cert.Pre_KernelIdeal_scales_in_range (hPre_scales_in_range := Cert.Pre_scales_in_range.Gen.facts) m) (i : S2x1024x3840.Idx) :
    Garr m c i = val_main_v135 (F := Ideal) (m ((c.tc : Thread nD τ).loc main_arg1)) (m ((c.tc : Thread nD τ).loc main_arg3)) (m ((c.tc : Thread nD τ).loc main_arg5))
      (x0 m c) (x2 m c) (x4 m c) i := by
  obtain ⟨h1, h3, h5⟩ := pre_range m c h
  have i0 : (i 0).val < 2 := (i 0).isLt
  have i1 : (i 1).val < 1024 := (i 1).isLt
  have i2 : (i 2).val < 3840 := (i 2).isLt
  rw [v135_eq _ _ _ _ _ _ h1 h3 h5 i (⟨(i 0).val, i0⟩ : Fin 2) (⟨(i 2).val / 640, by omega⟩ : Fin 6) (⟨(i 2).val % 640 / 128, by omega⟩ : Fin 5) (⟨(i 1).val, i1⟩ : Fin 1024)
    (⟨(i 2).val % 128, by omega⟩ : Fin 128) rfl rfl (by show (i 2).val = 640 * ((i 2).val / 640) + 128 * ((i 2).val % 640 / 128) + (i 2).val % 128; omega)]
  have e1 : ((6 * (i 0).val + (i 2).val / 640) / 6) = (i 0).val := by omega
  have e2 : ((6 * (i 0).val + (i 2).val / 640) % 6) = (i 2).val / 640 := by omega
  have e3 : (i 2).val % 640 % 128 = (i 2).val % 128 := by omega
  refine (meet m c _ _ _ _).trans ?_
  have key : ∀ (b b' : Fin 2) (g g' : Fin 6) (d d' : Fin 128) (r : Fin 5) (q : Fin 1024), b = b' → g = g' → d = d' →
      soft (rs (m ((c.tc : Thread nD τ).loc main_arg1)) (m ((c.tc : Thread nD τ).loc main_arg3)) (x0 m c) (x2 m c) b g r q) (fun k => vE (m ((c.tc : Thread nD τ).loc main_arg5)) (x4 m c) b g k d)
        = soft (rs (m ((c.tc : Thread nD τ).loc main_arg1)) (m ((c.tc : Thread nD τ).loc main_arg3)) (x0 m c) (x2 m c) b' g' r q) (fun k => vE (m ((c.tc : Thread nD τ).loc main_arg5)) (x4 m c) b' g' k d') := by
    rintro b _ g _ d _ r q rfl rfl rfl
    rfl
  exact key _ _ _ _ _ _ _ _ (Fin.ext e1) (Fin.ext e2) (Fin.ext e3)

end

/-- Kernel and reference, run from memories that agree on the arguments, end with the same attention output. -/
theorem algebraic : Cert.algebraic_KernelIdeal_ReferenceIdeal_on_attention_output_pre_scales_in_range (hKernelIdeal := Cert.KernelIdeal.Gen.facts)
    (hReferenceIdeal := Cert.ReferenceIdeal.Gen.facts) (hPre_scales_in_range := Cert.Pre_scales_in_range.Gen.facts) (hOn_attention_output := Cert.On_attention_output.Gen.facts) := by
  intro m g m' g' hp ha
  refine ⟨fun c => Garr m c, fun c => m ((c.tc : Thread nD τ).loc main_v6_1), fun c => m ((c.tc : Thread nD τ).loc main_v7), ?_, ?_⟩
  · refine (θ_run _ _ _).mono (fun r h c => ⟨fun i _ => congrFun (h c).1 i, fun i hi => absurd hi (by change ¬ (0#1 : BitVec 1) = 1#1; decide),
      fun i hi => absurd hi (by change ¬ (0#1 : BitVec 1) = 1#1; decide), (h c).2⟩) (Cert.KernelIdeal.Run.run_out m g)
  · refine (θ_run _ _ _).mono (fun r h c => ⟨fun i _ => ?_, fun i hi => absurd hi (by change ¬ (0#1 : BitVec 1) = 1#1; decide),
      fun i hi => absurd hi (by change ¬ (0#1 : BitVec 1) = 1#1; decide), (h c).2⟩) (Cert.ReferenceIdeal.Reg.run_out m' g')
    obtain ⟨a0, a1, a2, a3, a4, a5⟩ := ha c
    refine (congrFun (h c).1 i).trans ?_
    refine Eq.trans ?_ (Garr_eq m c hp i).symm
    rw [a0, a1, a2, a3, a4, a5]

end Cert.Meet

end
-- ==== Proof.KFrame.lean ====
/- The frame of the kernel as it runs on words: its program is the ideal program read at words, where a named
   constant is its bit pattern, so the frame of the latter is the frame of the former. -/
module

public import proofs.«01_k».proof.Defs
public import proofs.«01_k».proof.Proof.RunF
public import proofs.«01_k».proof.Proof.Gen.Kernel

@[expose] public section

set_option maxRecDepth 65536

noncomputable section

namespace Cert.KFrame

open Idealize.ShloMosaic Idealize.ShloMosaic.TcCoe Idealize.SL.Sem

/-- At words a named constant is its bit pattern. -/
local instance wordNamed : Named Bits := ⟨fun _ _ {φ} bits => Scalar.ofBits φ bits⟩

/-- The ideal program's frame, read at words. -/
def Q : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

theorem q : Q := fun m g _ => Cert.KernelIdeal.Run.frame (F := Bits) m g

theorem q_eq : Q = Cert.quiescent_Kernel (hKernel := Cert.Kernel.Gen.facts) := by sl_kernel_rfl

/-- The kernel on words runs, leaves its arguments unchanged and ends with every counter at zero. -/
theorem frame : Cert.quiescent_Kernel (hKernel := Cert.Kernel.Gen.facts) := q_eq.mp q

end Cert.KFrame

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Read
public import proofs.«01_k».proof.Proof.Gen.Pre_scales_in_range
public import proofs.«01_k».proof.Proof.Gen.On_attention_output
public import proofs.«01_k».proof.Proof.Meet
public import proofs.«01_k».proof.Proof.KFrame
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_scales_in_range.Gen.facts, Cert.On_attention_output.Gen.facts,
  Cert.KFrame.frame,
  fun m ρ _ => Cert.KernelIdeal.Run.frame m ρ,
  fun m ρ _ => Cert.KernelIdeal.Run.frame m ρ,
  fun m ρ _ => Cert.ReferenceIdeal.Gen.frame m ρ,
  fun m ρ _ => Cert.ReferenceIdeal.Gen.frame m ρ,
  ⟨IdealRules.named_const.statement _ _ _ _ _ rfl, IdealRules.named_const.statement _ _ _ _ _ rfl⟩,
  Cert.Meet.algebraic⟩

end Cert.Proof

end
